-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))).1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))).1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite_product [hPre_finite_product : Cert.Pre_finite_product.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite_product.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))).1 = (fun _ => 1#1)
    ∧ (Cert.Pre_finite_product.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))).2.1 = (fun _ => 1#1)
    ∧ (Cert.Pre_finite_product.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))).2.2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite_product [hPre_finite_product : Cert.Pre_finite_product.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite_product.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2))).1 = (fun _ => 1#1)
    ∧ (Cert.Pre_finite_product.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2))).2.1 = (fun _ => 1#1)
    ∧ (Cert.Pre_finite_product.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2))).2.2 = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Kernel12Ideal_pre_finite_product [hKernel12Ideal : Cert.Kernel12Ideal.Facts] [hPre_finite_product : Cert.Pre_finite_product.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite_product m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Reference12Ideal_pre_finite_product [hReference12Ideal : Cert.Reference12Ideal.Facts] [hPre_finite_product : Cert.Pre_finite_product.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite_product m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5)
      ∧ r.2.mem ((c.tc : Thread Cert.Kernel23.nD Cert.Kernel23.τ).loc Cert.Kernel23.main_arg6) = m ((c.tc : Thread Cert.Kernel23.nD Cert.Kernel23.τ).loc Cert.Kernel23.main_arg6))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_v59) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "cutoff" .f32 0xC2D20000#32 ⊥

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v55_0)) (v1 : (c : Dev Cert.Kernel2Ideal.nD) → Buf (Elt Ideal) ((c.tc : Thread Cert.Kernel2Ideal.nD Cert.Kernel2Ideal.τ).loc Cert.Kernel2Ideal.main_v55_1)) (v2 : (c : Dev Cert.Kernel2Ideal.nD) → Buf (Elt Ideal) ((c.tc : Thread Cert.Kernel2Ideal.nD Cert.Kernel2Ideal.τ).loc Cert.Kernel2Ideal.main_v55_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v55_0) = v0 c
          ∧ r.2.mem ((c.tc : Thread Cert.Kernel2Ideal.nD Cert.Kernel2Ideal.τ).loc Cert.Kernel2Ideal.main_v55_1) = v1 c
          ∧ r.2.mem ((c.tc : Thread Cert.Kernel2Ideal.nD Cert.Kernel2Ideal.τ).loc Cert.Kernel2Ideal.main_v55_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v63) = v0 c
          ∧ r.2.mem ((c.tc : Thread Cert.Reference2Ideal.nD Cert.Reference2Ideal.τ).loc Cert.Reference2Ideal.main_v61) = v1 c
          ∧ r.2.mem ((c.tc : Thread Cert.Reference2Ideal.nD Cert.Reference2Ideal.τ).loc Cert.Reference2Ideal.main_v59) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v10)) (v1 : (c : Dev Cert.Kernel11Ideal.nD) → Buf (Elt Ideal) ((c.tc : Thread Cert.Kernel11Ideal.nD Cert.Kernel11Ideal.τ).loc Cert.Kernel11Ideal.main_v5_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v10) = v0 c
          ∧ r.2.mem ((c.tc : Thread Cert.Kernel11Ideal.nD Cert.Kernel11Ideal.τ).loc Cert.Kernel11Ideal.main_v5_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_v8) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal_pre_finite_product [hKernel12Ideal : Cert.Kernel12Ideal.Facts] [hReference12Ideal : Cert.Reference12Ideal.Facts] [hPre_finite_product : Cert.Pre_finite_product.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite_product m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v10)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v10) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v15) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v36) = v0 c
          ∧ r.2.mem ((c.tc : Thread Cert.Reference13Ideal.nD Cert.Reference13Ideal.τ).loc Cert.Reference13Ideal.main_v17) = v1 c
          ∧ r.2.mem ((c.tc : Thread Cert.Reference13Ideal.nD Cert.Reference13Ideal.τ).loc Cert.Reference13Ideal.main_v37) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v36) = v0 c
          ∧ r.2.mem ((c.tc : Thread Cert.Reference14Ideal.nD Cert.Reference14Ideal.τ).loc Cert.Reference14Ideal.main_v17) = v1 c
          ∧ r.2.mem ((c.tc : Thread Cert.Reference14Ideal.nD Cert.Reference14Ideal.τ).loc Cert.Reference14Ideal.main_v37) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v38) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)) →
    ∃ (v0 : (c : Dev Cert.Kernel17Ideal.nD) → Buf (Elt Ideal) ((c.tc : Thread Cert.Kernel17Ideal.nD Cert.Kernel17Ideal.τ).loc Cert.Kernel17Ideal.main_v1)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)) (v4 : (c : Dev Cert.Kernel17Ideal.nD) → Buf (Elt Ideal) ((c.tc : Thread Cert.Kernel17Ideal.nD Cert.Kernel17Ideal.τ).loc Cert.Kernel17Ideal.main_v0_4)) (v5 : (c : Dev Cert.Kernel17Ideal.nD) → Buf (Elt Ideal) ((c.tc : Thread Cert.Kernel17Ideal.nD Cert.Kernel17Ideal.τ).loc Cert.Kernel17Ideal.main_v0_5)) (v6 : (c : Dev Cert.Kernel17Ideal.nD) → Buf (Elt Ideal) ((c.tc : Thread Cert.Kernel17Ideal.nD Cert.Kernel17Ideal.τ).loc Cert.Kernel17Ideal.main_v0_6)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_v0_4) = v4 c
          ∧ r.2.mem ((c.tc : Thread Cert.Kernel17Ideal.nD Cert.Kernel17Ideal.τ).loc Cert.Kernel17Ideal.main_v0_5) = v5 c
          ∧ r.2.mem ((c.tc : Thread Cert.Kernel17Ideal.nD Cert.Kernel17Ideal.τ).loc Cert.Kernel17Ideal.main_v0_6) = v6 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v67) = v0 c
          ∧ r.2.mem ((c.tc : Thread Cert.Reference17Ideal.nD Cert.Reference17Ideal.τ).loc Cert.Reference17Ideal.main_v68) = v1 c
          ∧ r.2.mem ((c.tc : Thread Cert.Reference17Ideal.nD Cert.Reference17Ideal.τ).loc Cert.Reference17Ideal.main_v69) = v2 c
          ∧ r.2.mem ((c.tc : Thread Cert.Reference17Ideal.nD Cert.Reference17Ideal.τ).loc Cert.Reference17Ideal.main_v70) = v3 c
          ∧ r.2.mem ((c.tc : Thread Cert.Reference17Ideal.nD Cert.Reference17Ideal.τ).loc Cert.Reference17Ideal.main_v63) = v4 c
          ∧ r.2.mem ((c.tc : Thread Cert.Reference17Ideal.nD Cert.Reference17Ideal.τ).loc Cert.Reference17Ideal.main_v57) = v5 c
          ∧ r.2.mem ((c.tc : Thread Cert.Reference17Ideal.nD Cert.Reference17Ideal.τ).loc Cert.Reference17Ideal.main_v51) = v6 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)) →
    ∃ (v0 : (c : Dev Cert.Kernel18Ideal.nD) → Buf (Elt Ideal) ((c.tc : Thread Cert.Kernel18Ideal.nD Cert.Kernel18Ideal.τ).loc Cert.Kernel18Ideal.main_v3_0)) (v1 : (c : Dev Cert.Kernel18Ideal.nD) → Buf (Elt Ideal) ((c.tc : Thread Cert.Kernel18Ideal.nD Cert.Kernel18Ideal.τ).loc Cert.Kernel18Ideal.main_v3_1)) (v2 : (c : Dev Cert.Kernel18Ideal.nD) → Buf (Elt Ideal) ((c.tc : Thread Cert.Kernel18Ideal.nD Cert.Kernel18Ideal.τ).loc Cert.Kernel18Ideal.main_v3_2)) (v3 : (c : Dev Cert.Kernel18Ideal.nD) → Buf (Elt Ideal) ((c.tc : Thread Cert.Kernel18Ideal.nD Cert.Kernel18Ideal.τ).loc Cert.Kernel18Ideal.main_v3_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v3_0) = v0 c
          ∧ r.2.mem ((c.tc : Thread Cert.Kernel18Ideal.nD Cert.Kernel18Ideal.τ).loc Cert.Kernel18Ideal.main_v3_1) = v1 c
          ∧ r.2.mem ((c.tc : Thread Cert.Kernel18Ideal.nD Cert.Kernel18Ideal.τ).loc Cert.Kernel18Ideal.main_v3_2) = v2 c
          ∧ r.2.mem ((c.tc : Thread Cert.Kernel18Ideal.nD Cert.Kernel18Ideal.τ).loc Cert.Kernel18Ideal.main_v3_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v29) = v0 c
          ∧ r.2.mem ((c.tc : Thread Cert.Reference18Ideal.nD Cert.Reference18Ideal.τ).loc Cert.Reference18Ideal.main_v30) = v1 c
          ∧ r.2.mem ((c.tc : Thread Cert.Reference18Ideal.nD Cert.Reference18Ideal.τ).loc Cert.Reference18Ideal.main_v31) = v2 c
          ∧ r.2.mem ((c.tc : Thread Cert.Reference18Ideal.nD Cert.Reference18Ideal.τ).loc Cert.Reference18Ideal.main_v32) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)) →
    ∃ (v0 : (c : Dev Cert.Kernel19Ideal.nD) → Buf (Elt Ideal) ((c.tc : Thread Cert.Kernel19Ideal.nD Cert.Kernel19Ideal.τ).loc Cert.Kernel19Ideal.main_v3_0)) (v1 : (c : Dev Cert.Kernel19Ideal.nD) → Buf (Elt Ideal) ((c.tc : Thread Cert.Kernel19Ideal.nD Cert.Kernel19Ideal.τ).loc Cert.Kernel19Ideal.main_v3_1)) (v2 : (c : Dev Cert.Kernel19Ideal.nD) → Buf (Elt Ideal) ((c.tc : Thread Cert.Kernel19Ideal.nD Cert.Kernel19Ideal.τ).loc Cert.Kernel19Ideal.main_v3_2)) (v3 : (c : Dev Cert.Kernel19Ideal.nD) → Buf (Elt Ideal) ((c.tc : Thread Cert.Kernel19Ideal.nD Cert.Kernel19Ideal.τ).loc Cert.Kernel19Ideal.main_v3_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v3_0) = v0 c
          ∧ r.2.mem ((c.tc : Thread Cert.Kernel19Ideal.nD Cert.Kernel19Ideal.τ).loc Cert.Kernel19Ideal.main_v3_1) = v1 c
          ∧ r.2.mem ((c.tc : Thread Cert.Kernel19Ideal.nD Cert.Kernel19Ideal.τ).loc Cert.Kernel19Ideal.main_v3_2) = v2 c
          ∧ r.2.mem ((c.tc : Thread Cert.Kernel19Ideal.nD Cert.Kernel19Ideal.τ).loc Cert.Kernel19Ideal.main_v3_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v29) = v0 c
          ∧ r.2.mem ((c.tc : Thread Cert.Reference19Ideal.nD Cert.Reference19Ideal.τ).loc Cert.Reference19Ideal.main_v30) = v1 c
          ∧ r.2.mem ((c.tc : Thread Cert.Reference19Ideal.nD Cert.Reference19Ideal.τ).loc Cert.Reference19Ideal.main_v31) = v2 c
          ∧ r.2.mem ((c.tc : Thread Cert.Reference19Ideal.nD Cert.Reference19Ideal.τ).loc Cert.Reference19Ideal.main_v32) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)) →
    ∃ (v0 : (c : Dev Cert.Kernel20Ideal.nD) → Buf (Elt Ideal) ((c.tc : Thread Cert.Kernel20Ideal.nD Cert.Kernel20Ideal.τ).loc Cert.Kernel20Ideal.main_v3_0)) (v1 : (c : Dev Cert.Kernel20Ideal.nD) → Buf (Elt Ideal) ((c.tc : Thread Cert.Kernel20Ideal.nD Cert.Kernel20Ideal.τ).loc Cert.Kernel20Ideal.main_v3_1)) (v2 : (c : Dev Cert.Kernel20Ideal.nD) → Buf (Elt Ideal) ((c.tc : Thread Cert.Kernel20Ideal.nD Cert.Kernel20Ideal.τ).loc Cert.Kernel20Ideal.main_v3_2)) (v3 : (c : Dev Cert.Kernel20Ideal.nD) → Buf (Elt Ideal) ((c.tc : Thread Cert.Kernel20Ideal.nD Cert.Kernel20Ideal.τ).loc Cert.Kernel20Ideal.main_v3_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v3_0) = v0 c
          ∧ r.2.mem ((c.tc : Thread Cert.Kernel20Ideal.nD Cert.Kernel20Ideal.τ).loc Cert.Kernel20Ideal.main_v3_1) = v1 c
          ∧ r.2.mem ((c.tc : Thread Cert.Kernel20Ideal.nD Cert.Kernel20Ideal.τ).loc Cert.Kernel20Ideal.main_v3_2) = v2 c
          ∧ r.2.mem ((c.tc : Thread Cert.Kernel20Ideal.nD Cert.Kernel20Ideal.τ).loc Cert.Kernel20Ideal.main_v3_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v29) = v0 c
          ∧ r.2.mem ((c.tc : Thread Cert.Reference20Ideal.nD Cert.Reference20Ideal.τ).loc Cert.Reference20Ideal.main_v30) = v1 c
          ∧ r.2.mem ((c.tc : Thread Cert.Reference20Ideal.nD Cert.Reference20Ideal.τ).loc Cert.Reference20Ideal.main_v31) = v2 c
          ∧ r.2.mem ((c.tc : Thread Cert.Reference20Ideal.nD Cert.Reference20Ideal.τ).loc Cert.Reference20Ideal.main_v32) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)) →
    ∃ (v0 : (c : Dev Cert.Kernel21Ideal.nD) → Buf (Elt Ideal) ((c.tc : Thread Cert.Kernel21Ideal.nD Cert.Kernel21Ideal.τ).loc Cert.Kernel21Ideal.main_v3_0)) (v1 : (c : Dev Cert.Kernel21Ideal.nD) → Buf (Elt Ideal) ((c.tc : Thread Cert.Kernel21Ideal.nD Cert.Kernel21Ideal.τ).loc Cert.Kernel21Ideal.main_v3_1)) (v2 : (c : Dev Cert.Kernel21Ideal.nD) → Buf (Elt Ideal) ((c.tc : Thread Cert.Kernel21Ideal.nD Cert.Kernel21Ideal.τ).loc Cert.Kernel21Ideal.main_v3_2)) (v3 : (c : Dev Cert.Kernel21Ideal.nD) → Buf (Elt Ideal) ((c.tc : Thread Cert.Kernel21Ideal.nD Cert.Kernel21Ideal.τ).loc Cert.Kernel21Ideal.main_v3_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v3_0) = v0 c
          ∧ r.2.mem ((c.tc : Thread Cert.Kernel21Ideal.nD Cert.Kernel21Ideal.τ).loc Cert.Kernel21Ideal.main_v3_1) = v1 c
          ∧ r.2.mem ((c.tc : Thread Cert.Kernel21Ideal.nD Cert.Kernel21Ideal.τ).loc Cert.Kernel21Ideal.main_v3_2) = v2 c
          ∧ r.2.mem ((c.tc : Thread Cert.Kernel21Ideal.nD Cert.Kernel21Ideal.τ).loc Cert.Kernel21Ideal.main_v3_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v29) = v0 c
          ∧ r.2.mem ((c.tc : Thread Cert.Reference21Ideal.nD Cert.Reference21Ideal.τ).loc Cert.Reference21Ideal.main_v30) = v1 c
          ∧ r.2.mem ((c.tc : Thread Cert.Reference21Ideal.nD Cert.Reference21Ideal.τ).loc Cert.Reference21Ideal.main_v31) = v2 c
          ∧ r.2.mem ((c.tc : Thread Cert.Reference21Ideal.nD Cert.Reference21Ideal.τ).loc Cert.Reference21Ideal.main_v32) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)) →
    ∃ (v0 : (c : Dev Cert.Kernel22Ideal.nD) → Buf (Elt Ideal) ((c.tc : Thread Cert.Kernel22Ideal.nD Cert.Kernel22Ideal.τ).loc Cert.Kernel22Ideal.main_v3_0)) (v1 : (c : Dev Cert.Kernel22Ideal.nD) → Buf (Elt Ideal) ((c.tc : Thread Cert.Kernel22Ideal.nD Cert.Kernel22Ideal.τ).loc Cert.Kernel22Ideal.main_v3_1)) (v2 : (c : Dev Cert.Kernel22Ideal.nD) → Buf (Elt Ideal) ((c.tc : Thread Cert.Kernel22Ideal.nD Cert.Kernel22Ideal.τ).loc Cert.Kernel22Ideal.main_v3_2)) (v3 : (c : Dev Cert.Kernel22Ideal.nD) → Buf (Elt Ideal) ((c.tc : Thread Cert.Kernel22Ideal.nD Cert.Kernel22Ideal.τ).loc Cert.Kernel22Ideal.main_v3_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v3_0) = v0 c
          ∧ r.2.mem ((c.tc : Thread Cert.Kernel22Ideal.nD Cert.Kernel22Ideal.τ).loc Cert.Kernel22Ideal.main_v3_1) = v1 c
          ∧ r.2.mem ((c.tc : Thread Cert.Kernel22Ideal.nD Cert.Kernel22Ideal.τ).loc Cert.Kernel22Ideal.main_v3_2) = v2 c
          ∧ r.2.mem ((c.tc : Thread Cert.Kernel22Ideal.nD Cert.Kernel22Ideal.τ).loc Cert.Kernel22Ideal.main_v3_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v29) = v0 c
          ∧ r.2.mem ((c.tc : Thread Cert.Reference22Ideal.nD Cert.Reference22Ideal.τ).loc Cert.Reference22Ideal.main_v30) = v1 c
          ∧ r.2.mem ((c.tc : Thread Cert.Reference22Ideal.nD Cert.Reference22Ideal.τ).loc Cert.Reference22Ideal.main_v31) = v2 c
          ∧ r.2.mem ((c.tc : Thread Cert.Reference22Ideal.nD Cert.Reference22Ideal.τ).loc Cert.Reference22Ideal.main_v32) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)
      ∧ m' ((c.tc : Thread Cert.Reference23Ideal.nD Cert.Reference23Ideal.τ).loc Cert.Reference23Ideal.main_arg6) = m ((c.tc : Thread Cert.Kernel23Ideal.nD Cert.Kernel23Ideal.τ).loc Cert.Kernel23Ideal.main_arg6)) →
    ∃ (v0 : (c : Dev Cert.Kernel23Ideal.nD) → Buf (Elt Ideal) ((c.tc : Thread Cert.Kernel23Ideal.nD Cert.Kernel23Ideal.τ).loc Cert.Kernel23Ideal.main_v3_0)) (v1 : (c : Dev Cert.Kernel23Ideal.nD) → Buf (Elt Ideal) ((c.tc : Thread Cert.Kernel23Ideal.nD Cert.Kernel23Ideal.τ).loc Cert.Kernel23Ideal.main_v3_1)) (v2 : (c : Dev Cert.Kernel23Ideal.nD) → Buf (Elt Ideal) ((c.tc : Thread Cert.Kernel23Ideal.nD Cert.Kernel23Ideal.τ).loc Cert.Kernel23Ideal.main_v3_2)) (v3 : (c : Dev Cert.Kernel23Ideal.nD) → Buf (Elt Ideal) ((c.tc : Thread Cert.Kernel23Ideal.nD Cert.Kernel23Ideal.τ).loc Cert.Kernel23Ideal.main_v3_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v3_0) = v0 c
          ∧ r.2.mem ((c.tc : Thread Cert.Kernel23Ideal.nD Cert.Kernel23Ideal.τ).loc Cert.Kernel23Ideal.main_v3_1) = v1 c
          ∧ r.2.mem ((c.tc : Thread Cert.Kernel23Ideal.nD Cert.Kernel23Ideal.τ).loc Cert.Kernel23Ideal.main_v3_2) = v2 c
          ∧ r.2.mem ((c.tc : Thread Cert.Kernel23Ideal.nD Cert.Kernel23Ideal.τ).loc Cert.Kernel23Ideal.main_v3_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
          ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v29) = v0 c
          ∧ r.2.mem ((c.tc : Thread Cert.Reference23Ideal.nD Cert.Reference23Ideal.τ).loc Cert.Reference23Ideal.main_v30) = v1 c
          ∧ r.2.mem ((c.tc : Thread Cert.Reference23Ideal.nD Cert.Reference23Ideal.τ).loc Cert.Reference23Ideal.main_v31) = v2 c
          ∧ r.2.mem ((c.tc : Thread Cert.Reference23Ideal.nD Cert.Reference23Ideal.τ).loc Cert.Reference23Ideal.main_v32) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5)
          ∧ r.2.mem ((c.tc : Thread Cert.Reference23Ideal.nD Cert.Reference23Ideal.τ).loc Cert.Reference23Ideal.main_arg6) = m' ((c.tc : Thread Cert.Reference23Ideal.nD Cert.Reference23Ideal.τ).loc Cert.Reference23Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hPre_finite : Cert.Pre_finite.Facts) (hPre_finite_product : Cert.Pre_finite_product.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite_product (hKernel12Ideal := hKernel12Ideal) (hPre_finite_product := hPre_finite_product)
    ∧ quiescent_Reference12Ideal (hReference12Ideal := hReference12Ideal)
    ∧ quiescent_Reference12Ideal_pre_finite_product (hReference12Ideal := hReference12Ideal) (hPre_finite_product := hPre_finite_product)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite_product (hKernel12Ideal := hKernel12Ideal) (hReference12Ideal := hReference12Ideal) (hPre_finite_product := hPre_finite_product)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
-- ==== Pre_finite.lean ====
abbrev S16384x6144 : Shape := ⟨2, ![16384, 6144]⟩
abbrev S16384x256 : Shape := ⟨2, ![16384, 256]⟩
abbrev S16384x768 : Shape := ⟨2, ![16384, 768]⟩
abbrev S_ : Shape := ⟨0, ![]⟩

class Facts : Prop where
  slices_S16384x6144_S16384x768_0_768 : S16384x6144.Slices ![0, 768] S16384x768
  bitsLt_bf16_f32 : FTy.bits .bf16 < FTy.bits .f32
  bcast_S_S16384x768 : S_.BroadcastsInDim S16384x768 (![] : Fin 0 → Fin S16384x768.rank)
  bcast_S_S16384x256 : S_.BroadcastsInDim S16384x256 (![] : Fin 0 → Fin S16384x256.rank)

variable [Facts]

def fn {F : FTy → Type} [FloatOps F] (main_arg0 : FVec F S16384x6144 .bf16) (main_arg1 : FVec F S16384x256 .bf16) : IVec S16384x768 1 × IVec S16384x256 1 :=
  let main_v0 : FVec F S16384x768 .bf16 := (extractStridedSlice S16384x768 ![0, 768] · slices_S16384x6144_S16384x768_0_768) main_arg0
  let main_v1 : FVec F S16384x768 .f32 := (extf .f32 · bitsLt_bf16_f32) main_v0
  let main_v2 : FVec F S16384x768 .f32 := Host.absf main_v1
  let main_cst : FVec F S_ .f32 := constant S_ .f32 0x7F800000#32
  let main_v3 : FVec F S16384x768 .f32 := broadcastInDim S16384x768 ![] bcast_S_S16384x768 main_cst
  let main_v4 : IVec S16384x768 1 := cmpf .olt main_v2 main_v3
  let main_v5 : FVec F S16384x256 .f32 := (extf .f32 · bitsLt_bf16_f32) main_arg1
  let main_v6 : FVec F S16384x256 .f32 := Host.absf main_v5
  let main_cst_0 : FVec F S_ .f32 := constant S_ .f32 0x7F800000#32
  let main_v7 : FVec F S16384x256 .f32 := broadcastInDim S16384x256 ![] bcast_S_S16384x256 main_cst_0
  let main_v8 : IVec S16384x256 1 := cmpf .olt main_v6 main_v7
  (main_v4, main_v8)
-- ==== Pre_finite_product.lean ====
abbrev S16384x1024 : Shape := ⟨2, ![16384, 1024]⟩
abbrev S2816x1024 : Shape := ⟨2, ![2816, 1024]⟩
abbrev S16384x5632 : Shape := ⟨2, ![16384, 5632]⟩
abbrev S_ : Shape := ⟨0, ![]⟩
abbrev S16384x2816 : Shape := ⟨2, ![16384, 2816]⟩

class Facts : Prop where
  bitsLt_bf16_f32 : FTy.bits .bf16 < FTy.bits .f32
  bcast_S_S16384x1024 : S_.BroadcastsInDim S16384x1024 (![] : Fin 0 → Fin S16384x1024.rank)
  bcast_S_S2816x1024 : S_.BroadcastsInDim S2816x1024 (![] : Fin 0 → Fin S2816x1024.rank)
  slices_S16384x5632_S16384x2816_0_2816 : S16384x5632.Slices ![0, 2816] S16384x2816
  bcast_S_S16384x2816 : S_.BroadcastsInDim S16384x2816 (![] : Fin 0 → Fin S16384x2816.rank)

variable [Facts]

def fn {F : FTy → Type} [FloatOps F] (main_arg0 : FVec F S16384x1024 .bf16) (main_arg1 : FVec F S2816x1024 .bf16) (main_arg2 : FVec F S16384x5632 .bf16) : IVec S16384x1024 1 × IVec S2816x1024 1 × IVec S16384x2816 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_v8 : FVec F S16384x2816 .bf16 := (extractStridedSlice S16384x2816 ![0, 2816] · slices_S16384x5632_S16384x2816_0_2816) main_arg2
  let main_v9 : FVec F S16384x2816 .f32 := (extf .f32 · bitsLt_bf16_f32) main_v8
  let main_v10 : FVec F S16384x2816 .f32 := Host.absf main_v9
  let main_cst_1 : FVec F S_ .f32 := constant S_ .f32 0x7F800000#32
  let main_v11 : FVec F S16384x2816 .f32 := broadcastInDim S16384x2816 ![] bcast_S_S16384x2816 main_cst_1
  let main_v12 : IVec S16384x2816 1 := cmpf .olt main_v10 main_v11
  (main_v3, main_v7, main_v12)
-- ==== Kernel.lean ====
abbrev S16384x6144 : Shape := ⟨2, ![16384, 6144]⟩
abbrev S16384x256 : Shape := ⟨2, ![16384, 256]⟩
abbrev S3x256 : Shape := ⟨2, ![3, 256]⟩
abbrev S16384x768 : Shape := ⟨2, ![16384, 768]⟩
abbrev S1x256 : Shape := ⟨2, ![1, 256]⟩
abbrev S512x768 : Shape := ⟨2, ![512, 768]⟩
abbrev S16x768 : Shape := ⟨2, ![16, 768]⟩
abbrev S512x256 : Shape := ⟨2, ![512, 256]⟩
abbrev S16x256 : Shape := ⟨2, ![16, 256]⟩
abbrev S256 : Shape := ⟨1, ![256]⟩

abbrev nBuf : Space → Nat
  | .hbm => 7
  | .vmem => 16
  | .smem => 0
  | _ => 0

abbrev bufTy : (tb : Table) → Fin (tcTables nBuf tb) → BufTy
  | .hbm, ⟨0, _⟩ => ⟨S16384x6144, .bf16⟩
  | .hbm, ⟨1, _⟩ => ⟨S16384x256, .bf16⟩
  | .hbm, ⟨2, _⟩ => ⟨S3x256, .f32⟩
  | .hbm, ⟨3, _⟩ => ⟨S16384x768, .bf16⟩
  | .hbm, ⟨4, _⟩ => ⟨S1x256, .f32⟩
  | .hbm, ⟨5, _⟩ => ⟨S1x256, .f32⟩
  | .hbm, ⟨6, _⟩ => ⟨S1x256, .f32⟩
  | .local _ .vmem, ⟨0, _⟩ => ⟨S512x768, .bf16⟩
  | .local _ .vmem, ⟨1, _⟩ => ⟨S512x768, .bf16⟩
  | .local _ .vmem, ⟨2, _⟩ => ⟨S16x768, .bf16⟩
  | .local _ .vmem, ⟨3, _⟩ => ⟨S16x768, .bf16⟩
  | .local _ .vmem, ⟨4, _⟩ => ⟨S16x768, .bf16⟩
  | .local _ .vmem, ⟨5, _⟩ => ⟨S16x768, .bf16⟩
  | .local _ .vmem, ⟨6, _⟩ => ⟨S512x256, .bf16⟩
  | .local _ .vmem, ⟨7, _⟩ => ⟨S512x256, .bf16⟩
  | .local _ .vmem, ⟨8, _⟩ => ⟨S16x256, .bf16⟩
  | .local _ .vmem, ⟨9, _⟩ => ⟨S16x256, .bf16⟩
  | .local _ .vmem, ⟨10, _⟩ => ⟨S3x256, .f32⟩
  | .local _ .vmem, ⟨11, _⟩ => ⟨S512x768, .bf16⟩
  | .local _ .vmem, ⟨12, _⟩ => ⟨S512x768, .bf16⟩
  | .local _ .vmem, ⟨13, _⟩ => ⟨S1x256, .f32⟩
  | .local _ .vmem, ⟨14, _⟩ => ⟨S1x256, .f32⟩
  | .local _ .vmem, ⟨15, _⟩ => ⟨S1x256, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S16384x6144 : Shape := ⟨2, ![16384, 6144]⟩
abbrev S16384x256 : Shape := ⟨2, ![16384, 256]⟩
abbrev S3x256 : Shape := ⟨2, ![3, 256]⟩
abbrev S_ : Shape := ⟨0, ![]⟩
abbrev S2x256 : Shape := ⟨2, ![2, 256]⟩
abbrev S16386x256 : Shape := ⟨2, ![16386, 256]⟩
abbrev S1x256 : Shape := ⟨2, ![1, 256]⟩
abbrev S256 : Shape := ⟨1, ![256]⟩
abbrev S16384x768 : Shape := ⟨2, ![16384, 768]⟩

abbrev nBuf : Space → Nat
  | .hbm => 74
  | .vmem => 0
  | .smem => 0
  | _ => 0

abbrev bufTy : (tb : Table) → Fin (tcTables nBuf tb) → BufTy
  | .hbm, ⟨0, _⟩ => ⟨S16384x6144, .bf16⟩
  | .hbm, ⟨1, _⟩ => ⟨S16384x256, .bf16⟩
  | .hbm, ⟨2, _⟩ => ⟨S3x256, .f32⟩
  | .hbm, ⟨3, _⟩ => ⟨S16384x6144, .f32⟩
  | .hbm, ⟨4, _⟩ => ⟨S16384x256, .f32⟩
  | .hbm, ⟨5, _⟩ => ⟨S16384x256, .f32⟩
  | .hbm, ⟨6, _⟩ => ⟨S16384x256, .f32⟩
  | .hbm, ⟨7, _⟩ => ⟨S16384x256, .f32⟩
  | .hbm, ⟨8, _⟩ => ⟨S_, .f32⟩
  | .hbm, ⟨9, _⟩ => ⟨S2x256, .f32⟩
  | .hbm, ⟨10, _⟩ => ⟨S16386x256, .f32⟩
  | .hbm, ⟨11, _⟩ => ⟨S_, .f32⟩
  | .hbm, ⟨12, _⟩ => ⟨S2x256, .f32⟩
  | .hbm, ⟨13, _⟩ => ⟨S1x256, .f32⟩
  | .hbm, ⟨14, _⟩ => ⟨S16384x256, .f32⟩
  | .hbm, ⟨15, _⟩ => ⟨S16384x256, .f32⟩
  | .hbm, ⟨16, _⟩ => ⟨S16384x256, .f32⟩
  | .hbm, ⟨17, _⟩ => ⟨S1x256, .f32⟩
  | .hbm, ⟨18, _⟩ => ⟨S16384x256, .f32⟩
  | .hbm, ⟨19, _⟩ => ⟨S16384x256, .f32⟩
  | .hbm, ⟨20, _⟩ => ⟨S16384x256, .f32⟩
  | .hbm, ⟨21, _⟩ => ⟨S16384x256, .f32⟩
  | .hbm, ⟨22, _⟩ => ⟨S1x256, .f32⟩
  | .hbm, ⟨23, _⟩ => ⟨S16384x256, .f32⟩
  | .hbm, ⟨24, _⟩ => ⟨S16384x256, .f32⟩
  | .hbm, ⟨25, _⟩ => ⟨S16384x256, .f32⟩
  | .hbm, ⟨26, _⟩ => ⟨S16384x256, .f32⟩
  | .hbm, ⟨27, _⟩ => ⟨S16384x256, .f32⟩
  | .hbm, ⟨28, _⟩ => ⟨S16384x256, .f32⟩
  | .hbm, ⟨29, _⟩ => ⟨S16384x256, .f32⟩
  | .hbm, ⟨30, _⟩ => ⟨S16384x256, .f32⟩
  | .hbm, ⟨31, _⟩ => ⟨S16384x256, .f32⟩
  | .hbm, ⟨32, _⟩ => ⟨S16384x256, .f32⟩
  | .hbm, ⟨33, _⟩ => ⟨S16384x256, .f32⟩
  | .hbm, ⟨34, _⟩ => ⟨S_, .f32⟩
  | .hbm, ⟨35, _⟩ => ⟨S256, .f32⟩
  | .hbm, ⟨36, _⟩ => ⟨S1x256, .f32⟩
  | .hbm, ⟨37, _⟩ => ⟨S_, .f32⟩
  | .hbm, ⟨38, _⟩ => ⟨S16386x256, .f32⟩
  | .hbm, ⟨39, _⟩ => ⟨S_, .f32⟩
  | .hbm, ⟨40, _⟩ => ⟨S3x256, .f32⟩
  | .hbm, ⟨41, _⟩ => ⟨S16384x256, .f32⟩
  | .hbm, ⟨42, _⟩ => ⟨S16384x256, .f32⟩
  | .hbm, ⟨43, _⟩ => ⟨S16384x256, .f32⟩
  | .hbm, ⟨44, _⟩ => ⟨S_, .f32⟩
  | .hbm, ⟨45, _⟩ => ⟨S256, .f32⟩
  | .hbm, ⟨46, _⟩ => ⟨S1x256, .f32⟩
  | .hbm, ⟨47, _⟩ => ⟨S_, .f32⟩
  | .hbm, ⟨48, _⟩ => ⟨S16386x256, .f32⟩
  | .hbm, ⟨49, _⟩ => ⟨S16386x256, .f32⟩
  | .hbm, ⟨50, _⟩ => ⟨S_, .f32⟩
  | .hbm, ⟨51, _⟩ => ⟨S3x256, .f32⟩
  | .hbm, ⟨52, _⟩ => ⟨S3x256, .f32⟩
  | .hbm, ⟨53, _⟩ => ⟨S16384x256, .f32⟩
  | .hbm, ⟨54, _⟩ => ⟨S16384x256, .f32⟩
  | .hbm, ⟨55, _⟩ => ⟨S16384x256, .f32⟩
  | .hbm, ⟨56, _⟩ => ⟨S_, .f32⟩
  | .hbm, ⟨57, _⟩ => ⟨S256, .f32⟩
  | .hbm, ⟨58, _⟩ => ⟨S1x256, .f32⟩
  | .hbm, ⟨59, _⟩ => ⟨S_, .f32⟩
  | .hbm, ⟨60, _⟩ => ⟨S16386x256, .f32⟩
  | .hbm, ⟨61, _⟩ => ⟨S16386x256, .f32⟩
  | .hbm, ⟨62, _⟩ => ⟨S_, .f32⟩
  | .hbm, ⟨63, _⟩ => ⟨S3x256, .f32⟩
  | .hbm, ⟨64, _⟩ => ⟨S3x256, .f32⟩
  | .hbm, ⟨65, _⟩ => ⟨S2x256, .f32⟩
  | .hbm, ⟨66, _⟩ => ⟨S16384x256, .f32⟩
  | .hbm, ⟨67, _⟩ => ⟨S16384x256, .f32⟩
  | .hbm, ⟨68, _⟩ => ⟨S16384x256, .f32⟩
  | .hbm, ⟨69, _⟩ => ⟨S16384x768, .f32⟩
  | .hbm, ⟨70, _⟩ => ⟨S16384x768, .bf16⟩
  | .hbm, ⟨71, _⟩ => ⟨S1x256, .f32⟩
  | .hbm, ⟨72, _⟩ => ⟨S1x256, .f32⟩
  | .hbm, ⟨73, _⟩ => ⟨S1x256, .f32⟩
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_1 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_cst_6 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_7 : Ref sig .tc := ⟨.hbm, 56, rfl⟩
abbrev main_v45 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_cst_9 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩

abbrev nD : Nat := 1
abbrev τ : Topo := Topo.v7x

variable {F : FTy → Type} [FloatOps F]
-- ==== Kernel2.lean ====
abbrev S16384x6144 : Shape := ⟨2, ![16384, 6144]⟩
abbrev S16384x256 : Shape := ⟨2, ![16384, 256]⟩
abbrev S16384x4x64 : Shape := ⟨3, ![16384, 4, 64]⟩
abbrev S4x16384x64 : Shape := ⟨3, ![4, 16384, 64]⟩
abbrev S4x16384x1x64 : Shape := ⟨4, ![4, 16384, 1, 64]⟩
abbrev S4x1x16384x64 : Shape := ⟨4, ![4, 1, 16384, 64]⟩
abbrev S4x16384x16384x64 : Shape := ⟨4, ![4, 16384, 16384, 64]⟩
abbrev S_ : Shape := ⟨0, ![]⟩
abbrev S4x16384x16384 : Shape := ⟨3, ![4, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S4x16384x1x16384 : Shape := ⟨4, ![4, 16384, 1, 16384]⟩
abbrev S4x16384x16384x16384 : Shape := ⟨4, ![4, 16384, 16384, 16384]⟩
abbrev S4x16384x16384x1 : Shape := ⟨4, ![4, 16384, 16384, 1]⟩
abbrev S512x128 : Shape := ⟨2, ![512, 128]⟩
abbrev S16384x128 : Shape := ⟨2, ![16384, 128]⟩
abbrev S1x128 : Shape := ⟨2, ![1, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 79
  | .vmem => 14
  | .smem => 0
  | _ => 0

abbrev bufTy : (tb : Table) → Fin (tcTables nBuf tb) → BufTy
  | .hbm, ⟨0, _⟩ => ⟨S16384x6144, .bf16⟩
  | .hbm, ⟨1, _⟩ => ⟨S16384x256, .bf16⟩
  | .hbm, ⟨2, _⟩ => ⟨S16384x6144, .f32⟩
  | .hbm, ⟨3, _⟩ => ⟨S16384x256, .f32⟩
  | .hbm, ⟨4, _⟩ => ⟨S16384x256, .f32⟩
  | .hbm, ⟨5, _⟩ => ⟨S16384x256, .f32⟩
  | .hbm, ⟨6, _⟩ => ⟨S16384x4x64, .f32⟩
  | .hbm, ⟨7, _⟩ => ⟨S4x16384x64, .f32⟩
  | .hbm, ⟨8, _⟩ => ⟨S16384x4x64, .f32⟩
  | .hbm, ⟨9, _⟩ => ⟨S4x16384x64, .f32⟩
  | .hbm, ⟨10, _⟩ => ⟨S16384x4x64, .f32⟩
  | .hbm, ⟨11, _⟩ => ⟨S4x16384x64, .f32⟩
  | .hbm, ⟨12, _⟩ => ⟨S4x16384x1x64, .f32⟩
  | .hbm, ⟨13, _⟩ => ⟨S4x1x16384x64, .f32⟩
  | .hbm, ⟨14, _⟩ => ⟨S4x16384x16384x64, .f32⟩
  | .hbm, ⟨15, _⟩ => ⟨S4x16384x16384x64, .f32⟩
  | .hbm, ⟨16, _⟩ => ⟨S4x16384x16384x64, .f32⟩
  | .hbm, ⟨17, _⟩ => ⟨S_, .f32⟩
  | .hbm, ⟨18, _⟩ => ⟨S4x16384x16384, .f32⟩
  | .hbm, ⟨19, _⟩ => ⟨S_, .f32⟩
  | .hbm, ⟨20, _⟩ => ⟨S4x16384x16384, .f32⟩
  | .hbm, ⟨21, _⟩ => ⟨S4x16384x16384, .f32⟩
  | .hbm, ⟨22, _⟩ => ⟨S16384, .i32⟩
  | .hbm, ⟨23, _⟩ => ⟨S1x16384, .i32⟩
  | .hbm, ⟨24, _⟩ => ⟨S16384x1, .i32⟩
  | .hbm, ⟨25, _⟩ => ⟨S16384x16384, .i32⟩
  | .hbm, ⟨26, _⟩ => ⟨S16384x16384, .i32⟩
  | .hbm, ⟨27, _⟩ => ⟨S16384x16384, .i1⟩
  | .hbm, ⟨28, _⟩ => ⟨S4x16384x16384, .f32⟩
  | .hbm, ⟨29, _⟩ => ⟨S_, .f32⟩
  | .hbm, ⟨30, _⟩ => ⟨S4x16384x16384, .f32⟩
  | .hbm, ⟨31, _⟩ => ⟨S4x16384x16384, .f32⟩
  | .hbm, ⟨32, _⟩ => ⟨S4x16384x16384, .f32⟩
  | .hbm, ⟨33, _⟩ => ⟨S4x16384x16384, .f32⟩
  | .hbm, ⟨34, _⟩ => ⟨S4x16384x16384, .f32⟩
  | .hbm, ⟨35, _⟩ => ⟨S_, .f32⟩
  | .hbm, ⟨36, _⟩ => ⟨S4x16384x16384, .f32⟩
  | .hbm, ⟨37, _⟩ => ⟨S4x16384x16384, .f32⟩
  | .hbm, ⟨38, _⟩ => ⟨S4x16384x16384, .f32⟩
  | .hbm, ⟨39, _⟩ => ⟨S4x16384x16384, .f32⟩
  | .hbm, ⟨40, _⟩ => ⟨S_, .f32⟩
  | .hbm, ⟨41, _⟩ => ⟨S_, .f32⟩
  | .hbm, ⟨42, _⟩ => ⟨S4x16384x16384, .i1⟩
  | .hbm, ⟨43, _⟩ => ⟨S4x16384x16384, .f32⟩
  | .hbm, ⟨44, _⟩ => ⟨S4x16384x16384, .f32⟩
  | .hbm, ⟨45, _⟩ => ⟨S1x16384, .i32⟩
  | .hbm, ⟨46, _⟩ => ⟨S16384x1, .i32⟩
  | .hbm, ⟨47, _⟩ => ⟨S16384x16384, .i32⟩
  | .hbm, ⟨48, _⟩ => ⟨S16384x16384, .i32⟩
  | .hbm, ⟨49, _⟩ => ⟨S16384x16384, .i1⟩
  | .hbm, ⟨50, _⟩ => ⟨S4x16384x1x16384, .f32⟩
  | .hbm, ⟨51, _⟩ => ⟨S_, .f32⟩
  | .hbm, ⟨52, _⟩ => ⟨S_, .f32⟩
  | .hbm, ⟨53, _⟩ => ⟨S4x16384x16384x16384, .i1⟩
  | .hbm, ⟨54, _⟩ => ⟨S4x16384x16384x16384, .f32⟩
  | .hbm, ⟨55, _⟩ => ⟨S4x16384x16384x16384, .f32⟩
  | .hbm, ⟨56, _⟩ => ⟨S4x16384x16384x16384, .f32⟩
  | .hbm, ⟨57, _⟩ => ⟨S_, .f32⟩
  | .hbm, ⟨58, _⟩ => ⟨S4x16384x16384, .f32⟩
  | .hbm, ⟨59, _⟩ => ⟨S4x16384x16384, .f32⟩
  | .hbm, ⟨60, _⟩ => ⟨S4x16384x16384, .f32⟩
  | .hbm, ⟨61, _⟩ => ⟨S_, .f32⟩
  | .hbm, ⟨62, _⟩ => ⟨S_, .f32⟩
  | .hbm, ⟨63, _⟩ => ⟨S4x16384x16384, .i1⟩
  | .hbm, ⟨64, _⟩ => ⟨S4x16384x16384, .f32⟩
  | .hbm, ⟨65, _⟩ => ⟨S4x16384x16384, .f32⟩
  | .hbm, ⟨66, _⟩ => ⟨S4x16384x16384, .f32⟩
  | .hbm, ⟨67, _⟩ => ⟨S4x16384x16384x1, .f32⟩
  | .hbm, ⟨68, _⟩ => ⟨S4x1x16384x64, .f32⟩
  | .hbm, ⟨69, _⟩ => ⟨S4x16384x16384x64, .f32⟩
  | .hbm, ⟨70, _⟩ => ⟨S4x16384x16384x64, .f32⟩
  | .hbm, ⟨71, _⟩ => ⟨S4x16384x16384x64, .f32⟩
  | .hbm, ⟨72, _⟩ => ⟨S_, .f32⟩
  | .hbm, ⟨73, _⟩ => ⟨S4x16384x64, .f32⟩
  | .hbm, ⟨74, _⟩ => ⟨S16384x4x64, .f32⟩
  | .hbm, ⟨75, _⟩ => ⟨S16384x256, .f32⟩
  | .hbm, ⟨76, _⟩ => ⟨S16384x256, .f32⟩
  | .hbm, ⟨77, _⟩ => ⟨S16384x256, .f32⟩
  | .hbm, ⟨78, _⟩ => ⟨S16384x256, .f32⟩
  | .local _ .vmem, ⟨0, _⟩ => ⟨S512x128, .bf16⟩
  | .local _ .vmem, ⟨1, _⟩ => ⟨S512x128, .bf16⟩
  | .local _ .vmem, ⟨2, _⟩ => ⟨S16384x128, .bf16⟩
  | .local _ .vmem, ⟨3, _⟩ => ⟨S16384x128, .bf16⟩
  | .local _ .vmem, ⟨4, _⟩ => ⟨S512x128, .bf16⟩
  | .local _ .vmem, ⟨5, _⟩ => ⟨S512x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S16384x128, .f32⟩
  | .local _ .vmem, ⟨11, _⟩ => ⟨S16384x128, .f32⟩
  | .local _ .vmem, ⟨12, _⟩ => ⟨S16384x128, .f32⟩
  | .local _ .vmem, ⟨13, _⟩ => ⟨S16384x128, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_1 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_2 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_6 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_7 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55_0 : Ref sig .tc := ⟨.hbm, 76, rfl⟩
abbrev main_v55_1 : Ref sig .tc := ⟨.hbm, 77, rfl⟩
abbrev main_v55_2 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 32], ![false, false]⟩

def k0_mult1 (i : grid0.Coords) : BitVec 32 :=
  let arg1 : BitVec 32 := BitVec.ofNat 32 (i 1).val
  let c2_i32 : BitVec 32 := 2#32
  let v3 : BitVec 32 := Scalar.muli arg1 c2_i32
  let c0_i32_1 : BitVec 32 := 0#32
  let v4 : BitVec 32 := Scalar.addi v3 c0_i32_1
  let c256_i32 : BitVec 32 := 256#32
  let v19 : BitVec 32 := Scalar.muli v4 c256_i32
  let c256_i32_5 : BitVec 32 := 256#32
  let v20 : BitVec 32 := Scalar.divsi v19 c256_i32_5
  let c256_i32_21 : BitVec 32 := 256#32
  let v64 : BitVec 32 := Scalar.muli v20 c256_i32_21
  v64
def k0_off1 (i : grid0.Coords) (c0_i32_1 : BitVec 32) : Fin 2 → Nat :=
  let arg1 : BitVec 32 := BitVec.ofNat 32 (i 1).val
  let c2_i32 : BitVec 32 := 2#32
  let v3 : BitVec 32 := Scalar.muli arg1 c2_i32
  let v4 : BitVec 32 := Scalar.addi v3 c0_i32_1
  let c256_i32 : BitVec 32 := 256#32
  let v19 : BitVec 32 := Scalar.muli v4 c256_i32
  let c256_i32_5 : BitVec 32 := 256#32
  let v20 : BitVec 32 := Scalar.divsi v19 c256_i32_5
  let c256_i32_21 : BitVec 32 := 256#32
  let v64 : BitVec 32 := Scalar.muli v20 c256_i32_21
  let v65 : BitVec 32 := v64
  let v66 : Index := Scalar.indexCast v65
  let c0_22 : Index := 0#32
  ![v66.toNat, 0]
def k0_mult2 (i : grid0.Coords) : BitVec 32 :=
  let arg1 : BitVec 32 := BitVec.ofNat 32 (i 1).val
  let c2_i32 : BitVec 32 := 2#32
  let v3 : BitVec 32 := Scalar.muli arg1 c2_i32
  let c0_i32_1 : BitVec 32 := 0#32
  let v4 : BitVec 32 := Scalar.addi v3 c0_i32_1
  let c256_i32 : BitVec 32 := 256#32
  let v19 : BitVec 32 := Scalar.muli v4 c256_i32
  let c256_i32_5 : BitVec 32 := 256#32
  let v20 : BitVec 32 := Scalar.divsi v19 c256_i32_5
  let c1_i32 : BitVec 32 := 1#32
  let v62 : BitVec 32 := Scalar.subi v20 c1_i32
  let c0_i32_20 : BitVec 32 := 0#32
  let v63 : BitVec 32 := Scalar.maxsi v62 c0_i32_20
  let c256_i32_42 : BitVec 32 := 256#32
  let v126 : BitVec 32 := Scalar.muli v63 c256_i32_42
  v126
def k0_off2 (i : grid0.Coords) (c0_i32_1 : BitVec 32) : Fin 2 → Nat :=
  let arg1 : BitVec 32 := BitVec.ofNat 32 (i 1).val
  let c2_i32 : BitVec 32 := 2#32
  let v3 : BitVec 32 := Scalar.muli arg1 c2_i32
  let v4 : BitVec 32 := Scalar.addi v3 c0_i32_1
  let c256_i32 : BitVec 32 := 256#32
  let v19 : BitVec 32 := Scalar.muli v4 c256_i32
  let c256_i32_5 : BitVec 32 := 256#32
  let v20 : BitVec 32 := Scalar.divsi v19 c256_i32_5
  let c1_i32 : BitVec 32 := 1#32
  let v62 : BitVec 32 := Scalar.subi v20 c1_i32
  let c0_i32_20 : BitVec 32 := 0#32
  let v63 : BitVec 32 := Scalar.maxsi v62 c0_i32_20
  let c256_i32_42 : BitVec 32 := 256#32
  let v126 : BitVec 32 := Scalar.muli v63 c256_i32_42
  let v127 : BitVec 32 := v126
  let v128 : Index := Scalar.indexCast v127
  let c0_43 : Index := 0#32
  ![v128.toNat, 0]
def k0_mult3 (i : grid0.Coords) : BitVec 32 :=
  let arg1 : BitVec 32 := BitVec.ofNat 32 (i 1).val
  let c2_i32 : BitVec 32 := 2#32
  let v3 : BitVec 32 := Scalar.muli arg1 c2_i32
  let c0_i32_1 : BitVec 32 := 0#32
  let v4 : BitVec 32 := Scalar.addi v3 c0_i32_1
  let c256_i32 : BitVec 32 := 256#32
  let v19 : BitVec 32 := Scalar.muli v4 c256_i32
  let c256_i32_5 : BitVec 32 := 256#32
  let v20 : BitVec 32 := Scalar.divsi v19 c256_i32_5
  let c256_i32_62 : BitVec 32 := 256#32
  let v187 : BitVec 32 := Scalar.muli v20 c256_i32_62
  v187
def k0_mult4 (i : grid0.Coords) : BitVec 32 :=
  let arg1 : BitVec 32 := BitVec.ofNat 32 (i 1).val
  let c2_i32 : BitVec 32 := 2#32
  let v3 : BitVec 32 := Scalar.muli arg1 c2_i32
  let c0_i32_1 : BitVec 32 := 0#32
  let v4 : BitVec 32 := Scalar.addi v3 c0_i32_1
  let c256_i32 : BitVec 32 := 256#32
  let v19 : BitVec 32 := Scalar.muli v4 c256_i32
  let c256_i32_5 : BitVec 32 := 256#32
  let v20 : BitVec 32 := Scalar.divsi v19 c256_i32_5
  let c1_i32 : BitVec 32 := 1#32
  let v62 : BitVec 32 := Scalar.subi v20 c1_i32
  let c0_i32_20 : BitVec 32 := 0#32
  let v63 : BitVec 32 := Scalar.maxsi v62 c0_i32_20
  let c256_i32_83 : BitVec 32 := 256#32
  let v249 : BitVec 32 := Scalar.muli v63 c256_i32_83
  v249
def k0_mult5 (i : grid0.Coords) : BitVec 32 :=
  let arg1 : BitVec 32 := BitVec.ofNat 32 (i 1).val
  let c2_i32 : BitVec 32 := 2#32
  let v3 : BitVec 32 := Scalar.muli arg1 c2_i32
  let c0_i32_1 : BitVec 32 := 0#32
  let v4 : BitVec 32 := Scalar.addi v3 c0_i32_1
  let c256_i32 : BitVec 32 := 256#32
  let v19 : BitVec 32 := Scalar.muli v4 c256_i32
  let c256_i32_5 : BitVec 32 := 256#32
  let v20 : BitVec 32 := Scalar.divsi v19 c256_i32_5
  let c256_i32_103 : BitVec 32 := 256#32
  let v310 : BitVec 32 := Scalar.muli v20 c256_i32_103
  v310
def k0_mult6 (i : grid0.Coords) : BitVec 32 :=
  let arg1 : BitVec 32 := BitVec.ofNat 32 (i 1).val
  let c2_i32 : BitVec 32 := 2#32
  let v3 : BitVec 32 := Scalar.muli arg1 c2_i32
  let c0_i32_1 : BitVec 32 := 0#32
  let v4 : BitVec 32 := Scalar.addi v3 c0_i32_1
  let c256_i32 : BitVec 32 := 256#32
  let v19 : BitVec 32 := Scalar.muli v4 c256_i32
  let c256_i32_5 : BitVec 32 := 256#32
  let v20 : BitVec 32 := Scalar.divsi v19 c256_i32_5
  let c1_i32 : BitVec 32 := 1#32
  let v62 : BitVec 32 := Scalar.subi v20 c1_i32
  let c0_i32_20 : BitVec 32 := 0#32
  let v63 : BitVec 32 := Scalar.maxsi v62 c0_i32_20
  let c256_i32_108 : BitVec 32 := 256#32
  let v326 : BitVec 32 := Scalar.muli v63 c256_i32_108
  v326
def k0_mult7 (i : grid0.Coords) : BitVec 32 :=
  let arg1 : BitVec 32 := BitVec.ofNat 32 (i 1).val
  let c2_i32_113 : BitVec 32 := 2#32
  let v342 : BitVec 32 := Scalar.muli arg1 c2_i32_113
  let c1_i32_114 : BitVec 32 := 1#32
  let v343 : BitVec 32 := Scalar.addi v342 c1_i32_114
  let c256_i32_120 : BitVec 32 := 256#32
  let v358 : BitVec 32 := Scalar.muli v343 c256_i32_120
  let c256_i32_121 : BitVec 32 := 256#32
  let v359 : BitVec 32 := Scalar.divsi v358 c256_i32_121
  let c256_i32_138 : BitVec 32 := 256#32
  let v403 : BitVec 32 := Scalar.muli v359 c256_i32_138
  v403
def k0_mult8 (i : grid0.Coords) : BitVec 32 :=
  let arg1 : BitVec 32 := BitVec.ofNat 32 (i 1).val
  let c2_i32_113 : BitVec 32 := 2#32
  let v342 : BitVec 32 := Scalar.muli arg1 c2_i32_113
  let c1_i32_114 : BitVec 32 := 1#32
  let v343 : BitVec 32 := Scalar.addi v342 c1_i32_114
  let c256_i32_120 : BitVec 32 := 256#32
  let v358 : BitVec 32 := Scalar.muli v343 c256_i32_120
  let c256_i32_121 : BitVec 32 := 256#32
  let v359 : BitVec 32 := Scalar.divsi v358 c256_i32_121
  let c1_i32_136 : BitVec 32 := 1#32
  let v401 : BitVec 32 := Scalar.subi v359 c1_i32_136
  let c0_i32_137 : BitVec 32 := 0#32
  let v402 : BitVec 32 := Scalar.maxsi v401 c0_i32_137
  let c256_i32_159 : BitVec 32 := 256#32
  let v465 : BitVec 32 := Scalar.muli v402 c256_i32_159
  v465
def k0_mult9 (i : grid0.Coords) : BitVec 32 :=
  let arg1 : BitVec 32 := BitVec.ofNat 32 (i 1).val
  let c2_i32_113 : BitVec 32 := 2#32
  let v342 : BitVec 32 := Scalar.muli arg1 c2_i32_113
  let c1_i32_114 : BitVec 32 := 1#32
  let v343 : BitVec 32 := Scalar.addi v342 c1_i32_114
  let c256_i32_120 : BitVec 32 := 256#32
  let v358 : BitVec 32 := Scalar.muli v343 c256_i32_120
  let c256_i32_121 : BitVec 32 := 256#32
  let v359 : BitVec 32 := Scalar.divsi v358 c256_i32_121
  let c256_i32_179 : BitVec 32 := 256#32
  let v526 : BitVec 32 := Scalar.muli v359 c256_i32_179
  v526
def k0_mult10 (i : grid0.Coords) : BitVec 32 :=
  let arg1 : BitVec 32 := BitVec.ofNat 32 (i 1).val
  let c2_i32_113 : BitVec 32 := 2#32
  let v342 : BitVec 32 := Scalar.muli arg1 c2_i32_113
  let c1_i32_114 : BitVec 32 := 1#32
  let v343 : BitVec 32 := Scalar.addi v342 c1_i32_114
  let c256_i32_120 : BitVec 32 := 256#32
  let v358 : BitVec 32 := Scalar.muli v343 c256_i32_120
  let c256_i32_121 : BitVec 32 := 256#32
  let v359 : BitVec 32 := Scalar.divsi v358 c256_i32_121
  let c1_i32_136 : BitVec 32 := 1#32
  let v401 : BitVec 32 := Scalar.subi v359 c1_i32_136
  let c0_i32_137 : BitVec 32 := 0#32
  let v402 : BitVec 32 := Scalar.maxsi v401 c0_i32_137
  let c256_i32_200 : BitVec 32 := 256#32
  let v588 : BitVec 32 := Scalar.muli v402 c256_i32_200
  v588
def k0_mult11 (i : grid0.Coords) : BitVec 32 :=
  let arg1 : BitVec 32 := BitVec.ofNat 32 (i 1).val
  let c2_i32_113 : BitVec 32 := 2#32
  let v342 : BitVec 32 := Scalar.muli arg1 c2_i32_113
  let c1_i32_114 : BitVec 32 := 1#32
  let v343 : BitVec 32 := Scalar.addi v342 c1_i32_114
  let c256_i32_120 : BitVec 32 := 256#32
  let v358 : BitVec 32 := Scalar.muli v343 c256_i32_120
  let c256_i32_121 : BitVec 32 := 256#32
  let v359 : BitVec 32 := Scalar.divsi v358 c256_i32_121
  let c256_i32_220 : BitVec 32 := 256#32
  let v649 : BitVec 32 := Scalar.muli v359 c256_i32_220
  v649
def k0_mult12 (i : grid0.Coords) : BitVec 32 :=
  let arg1 : BitVec 32 := BitVec.ofNat 32 (i 1).val
  let c2_i32_113 : BitVec 32 := 2#32
  let v342 : BitVec 32 := Scalar.muli arg1 c2_i32_113
  let c1_i32_114 : BitVec 32 := 1#32
  let v343 : BitVec 32 := Scalar.addi v342 c1_i32_114
  let c256_i32_120 : BitVec 32 := 256#32
  let v358 : BitVec 32 := Scalar.muli v343 c256_i32_120
  let c256_i32_121 : BitVec 32 := 256#32
  let v359 : BitVec 32 := Scalar.divsi v358 c256_i32_121
  let c1_i32_136 : BitVec 32 := 1#32
  let v401 : BitVec 32 := Scalar.subi v359 c1_i32_136
  let c0_i32_137 : BitVec 32 := 0#32
  let v402 : BitVec 32 := Scalar.maxsi v401 c0_i32_137
  let c256_i32_225 : BitVec 32 := 256#32
  let v665 : BitVec 32 := Scalar.muli v402 c256_i32_225
  v665
def k0_mult13 (arg10 : BitVec 32) : BitVec 32 :=
  let c256_i32_238 : BitVec 32 := 256#32
  let v697 : BitVec 32 := Scalar.muli arg10 c256_i32_238
  v697

def k0_mult14 (arg10 : BitVec 32) : BitVec 32 :=
  let c256_i32_239 : BitVec 32 := 256#32
  let v699 : BitVec 32 := Scalar.muli arg10 c256_i32_239
  v699
def k0_off3 (arg10 : BitVec 32) : Fin 2 → Nat :=
  let c256_i32_239 : BitVec 32 := 256#32
  let v699 : BitVec 32 := Scalar.muli arg10 c256_i32_239
  let v700 : BitVec 32 := v699
  let v701 : Index := Scalar.indexCast v700
  let c0_240 : Index := 0#32
  ![v701.toNat, 0]
def k0_mult15 (arg10 : BitVec 32) : BitVec 32 :=
  let c256_i32_256 : BitVec 32 := 256#32
  let v754 : BitVec 32 := Scalar.muli arg10 c256_i32_256
  v754

def k0_chk1 (arg10 : BitVec 32) : Prop :=
  (256 ∣ (k0_mult13 arg10).toNat) ∧
  (256 ∣ (k0_mult14 arg10).toNat) ∧
  (∀ a, (k0_off3 arg10) a + S256x128.size a ≤ S16384x128.size a) ∧
  (256 ∣ (k0_mult15 arg10).toNat)
theorem k0_mult13_dvd : ∀ (arg10 : BitVec 32) (k0_hw1 : k0_chk1 arg10), 256 ∣ (k0_mult13 arg10).toNat := fun arg10 k0_hw1 => k0_hw1.1
theorem k0_mult14_dvd : ∀ (arg10 : BitVec 32) (k0_hw1 : k0_chk1 arg10), 256 ∣ (k0_mult14 arg10).toNat := fun arg10 k0_hw1 => k0_hw1.2.1
theorem k0_off3_inb : ∀ (arg10 : BitVec 32) (k0_hw1 : k0_chk1 arg10), ∀ a, (k0_off3 arg10) a + S256x128.size a ≤ S16384x128.size a := fun arg10 k0_hw1 => k0_hw1.2.2.1
theorem k0_mult15_dvd : ∀ (arg10 : BitVec 32) (k0_hw1 : k0_chk1 arg10), 256 ∣ (k0_mult15 arg10).toNat := fun arg10 k0_hw1 => k0_hw1.2.2.2

def k0_mult16 (arg10 : BitVec 32) : BitVec 32 :=
  let c256_i32_238 : BitVec 32 := 256#32
  let v697 : BitVec 32 := Scalar.muli arg10 c256_i32_238
  v697

def k0_mult17 (arg10 : BitVec 32) : BitVec 32 :=
  let c256_i32_239 : BitVec 32 := 256#32
  let v699 : BitVec 32 := Scalar.muli arg10 c256_i32_239
  v699
def k0_off4 (arg10 : BitVec 32) : Fin 2 → Nat :=
  let c256_i32_239 : BitVec 32 := 256#32
  let v699 : BitVec 32 := Scalar.muli arg10 c256_i32_239
  let v700 : BitVec 32 := v699
  let v701 : Index := Scalar.indexCast v700
  let c0_240 : Index := 0#32
  ![v701.toNat, 0]
def k0_mult18 (arg10 : BitVec 32) : BitVec 32 :=
  let c256_i32_256 : BitVec 32 := 256#32
  let v754 : BitVec 32 := Scalar.muli arg10 c256_i32_256
  v754

def k0_chk2 (arg10 : BitVec 32) : Prop :=
  (256 ∣ (k0_mult16 arg10).toNat) ∧
  (256 ∣ (k0_mult17 arg10).toNat) ∧
  (∀ a, (k0_off4 arg10) a + S256x128.size a ≤ S16384x128.size a) ∧
  (256 ∣ (k0_mult18 arg10).toNat)
theorem k0_mult16_dvd : ∀ (arg10 : BitVec 32) (k0_hw2 : k0_chk2 arg10), 256 ∣ (k0_mult16 arg10).toNat := fun arg10 k0_hw2 => k0_hw2.1
theorem k0_mult17_dvd : ∀ (arg10 : BitVec 32) (k0_hw2 : k0_chk2 arg10), 256 ∣ (k0_mult17 arg10).toNat := fun arg10 k0_hw2 => k0_hw2.2.1
theorem k0_off4_inb : ∀ (arg10 : BitVec 32) (k0_hw2 : k0_chk2 arg10), ∀ a, (k0_off4 arg10) a + S256x128.size a ≤ S16384x128.size a := fun arg10 k0_hw2 => k0_hw2.2.2.1
theorem k0_mult18_dvd : ∀ (arg10 : BitVec 32) (k0_hw2 : k0_chk2 arg10), 256 ∣ (k0_mult18 arg10).toNat := fun arg10 k0_hw2 => k0_hw2.2.2.2

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S16384x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16384x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S16384x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Kernel2Ideal.lean ====
variable {F : FTy → Type} [FloatOps F] [Named F]
def κ : String → Option EReal := fun
  | "cutoff" => some ⊥
  | _ => none
-- ==== Reference2Ideal.lean ====
abbrev S16384x6144 : Shape := ⟨2, ![16384, 6144]⟩
abbrev S16384x256 : Shape := ⟨2, ![16384, 256]⟩
abbrev S16384x4x64 : Shape := ⟨3, ![16384, 4, 64]⟩
abbrev S4x16384x64 : Shape := ⟨3, ![4, 16384, 64]⟩
abbrev S4x16384x16384 : Shape := ⟨3, ![4, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S4x64x16384 : Shape := ⟨3, ![4, 64, 16384]⟩

abbrev nBuf : Space → Nat
  | .hbm => 133
  | .vmem => 0
  | .smem => 0
  | _ => 0

abbrev hbmTy0_0 (i : Nat) : BufTy := match i % 128 with
  | 0 => ⟨S16384x6144, .bf16⟩
  | 1 => ⟨S16384x256, .bf16⟩
  | 2 => ⟨S16384x6144, .f32⟩
  | 3 => ⟨S16384x256, .f32⟩
  | 4 => ⟨S16384x256, .f32⟩
  | 5 => ⟨S16384x256, .f32⟩
  | 6 => ⟨S16384x4x64, .f32⟩
  | 7 => ⟨S4x16384x64, .f32⟩
  | 8 => ⟨S16384x4x64, .f32⟩
  | 9 => ⟨S4x16384x64, .f32⟩
  | 10 => ⟨S16384x4x64, .f32⟩
  | 11 => ⟨S4x16384x64, .f32⟩
  | 12 => ⟨S4x16384x16384, .f32⟩
  | 13 => ⟨S_, .f32⟩
  | 14 => ⟨S4x16384x16384, .f32⟩
  | 15 => ⟨S4x16384x16384, .f32⟩
  | 16 => ⟨S16384, .i32⟩
  | 17 => ⟨S1x16384, .i32⟩
  | 18 => ⟨S16384x1, .i32⟩
  | 19 => ⟨S16384x16384, .i32⟩
  | 20 => ⟨S16384x16384, .i32⟩
  | 21 => ⟨S16384x16384, .i1⟩
  | 22 => ⟨S4x16384x16384, .f32⟩
  | 23 => ⟨S4x16384x16384, .f32⟩
  | 24 => ⟨S_, .f32⟩
  | 25 => ⟨S4x16384x16384, .f32⟩
  | 26 => ⟨S4x16384x16384, .f32⟩
  | 27 => ⟨S4x16384x16384, .f32⟩
  | 28 => ⟨S4x16384x16384, .f32⟩
  | 29 => ⟨S4x16384x16384, .i1⟩
  | 30 => ⟨S4x16384x16384, .f32⟩
  | 31 => ⟨S4x16384x16384, .f32⟩
  | 32 => ⟨S4x16384x16384, .f32⟩
  | 33 => ⟨S4x16384x16384, .f32⟩
  | 34 => ⟨S4x16384x16384, .f32⟩
  | 35 => ⟨S4x16384x16384, .f32⟩
  | 36 => ⟨S4x16384x16384, .f32⟩
  | 37 => ⟨S4x16384x16384, .f32⟩
  | 38 => ⟨S_, .f32⟩
  | 39 => ⟨S4x16384x16384, .f32⟩
  | 40 => ⟨S4x16384x16384, .i1⟩
  | 41 => ⟨S_, .f32⟩
  | 42 => ⟨S4x16384x16384, .f32⟩
  | 43 => ⟨S4x16384x16384, .f32⟩
  | 44 => ⟨S_, .f32⟩
  | 45 => ⟨S4x16384x16384, .f32⟩
  | 46 => ⟨S4x16384x16384, .i1⟩
  | 47 => ⟨S_, .f32⟩
  | 48 => ⟨S4x16384x16384, .f32⟩
  | 49 => ⟨S4x16384x16384, .f32⟩
  | 50 => ⟨S4x16384x16384, .f32⟩
  | 51 => ⟨S4x16384x16384, .f32⟩
  | 52 => ⟨S_, .f32⟩
  | 53 => ⟨S_, .f32⟩
  | 54 => ⟨S_, .i1⟩
  | 55 => ⟨S_, .f32⟩
  | 56 => ⟨S_, .f32⟩
  | 57 => ⟨S_, .f32⟩
  | 58 => ⟨S_, .f32⟩
  | 59 => ⟨S4x16384x16384, .f32⟩
  | 60 => ⟨S4x16384x16384, .i1⟩
  | 61 => ⟨S_, .f32⟩
  | 62 => ⟨S4x16384x16384, .f32⟩
  | 63 => ⟨S4x16384x16384, .f32⟩
  | 64 => ⟨S4x16384x16384, .f32⟩
  | 65 => ⟨S4x16384x16384, .f32⟩
  | 66 => ⟨S4x16384x16384, .f32⟩
  | 67 => ⟨S_, .f32⟩
  | 68 => ⟨S4x16384x16384, .f32⟩
  | 69 => ⟨S4x16384x16384, .f32⟩
  | 70 => ⟨S4x16384x16384, .f32⟩
  | 71 => ⟨S_, .f32⟩
  | 72 => ⟨S_, .f32⟩
  | 73 => ⟨S4x16384x16384, .i1⟩
  | 74 => ⟨S4x16384x16384, .f32⟩
  | 75 => ⟨S4x16384x16384, .f32⟩
  | 76 => ⟨S_, .f32⟩
  | 77 => ⟨S4x16384x16384, .f32⟩
  | 78 => ⟨S16384x1, .i32⟩
  | 79 => ⟨S1x16384, .i32⟩
  | 80 => ⟨S16384x16384, .i32⟩
  | 81 => ⟨S16384x16384, .i32⟩
  | 82 => ⟨S16384x16384, .i1⟩
  | 83 => ⟨S16384x16384, .f32⟩
  | 84 => ⟨S4x16384x16384, .f32⟩
  | 85 => ⟨S4x16384x16384, .f32⟩
  | 86 => ⟨S4x16384x16384, .f32⟩
  | 87 => ⟨S_, .f32⟩
  | 88 => ⟨S_, .f32⟩
  | 89 => ⟨S4x16384x16384, .i1⟩
  | 90 => ⟨S4x16384x16384, .f32⟩
  | 91 => ⟨S4x16384x16384, .f32⟩
  | 92 => ⟨S_, .f32⟩
  | 93 => ⟨S4x16384x16384, .f32⟩
  | 94 => ⟨S4x16384x16384, .f32⟩
  | 95 => ⟨S4x16384x16384, .bf16⟩
  | 96 => ⟨S4x16384x16384, .f32⟩
  | 97 => ⟨S4x16384x64, .f32⟩
  | 98 => ⟨S16384x4x64, .f32⟩
  | 99 => ⟨S16384x256, .f32⟩
  | 100 => ⟨S16384x256, .f32⟩
  | 101 => ⟨S16384x4x64, .f32⟩
  | 102 => ⟨S4x16384x64, .f32⟩
  | 103 => ⟨S4x64x16384, .f32⟩
  | 104 => ⟨S4x16384x64, .f32⟩
  | 105 => ⟨S4x16384x16384, .f32⟩
  | 106 => ⟨S4x16384x16384, .bf16⟩
  | 107 => ⟨S4x16384x16384, .f32⟩
  | 108 => ⟨S4x16384x16384, .f32⟩
  | 109 => ⟨S_, .f32⟩
  | 110 => ⟨S4x16384x16384, .f32⟩
  | 111 => ⟨S4x16384x16384, .f32⟩
  | 112 => ⟨S4x16384x16384, .f32⟩
  | 113 => ⟨S4x16384x16384, .f32⟩
  | 114 => ⟨S_, .f32⟩
  | 115 => ⟨S4x16384x16384, .f32⟩
  | 116 => ⟨S4x16384x16384, .f32⟩
  | 117 => ⟨S4x16384x16384, .f32⟩
  | 118 => ⟨S4x16384x16384, .f32⟩
  | 119 => ⟨S4x16384x16384, .f32⟩
  | 120 => ⟨S4x16384x16384, .f32⟩
  | 121 => ⟨S4x16384x16384, .f32⟩
  | 122 => ⟨S_, .f32⟩
  | 123 => ⟨S4x16384x16384, .f32⟩
  | 124 => ⟨S4x16384x16384, .f32⟩
  | 125 => ⟨S4x16384x64, .f32⟩
  | 126 => ⟨S4x16384x64, .f32⟩
  | 127 => ⟨S16384x4x64, .f32⟩
  | _ => ⟨S16384x6144, .bf16⟩

abbrev hbmTy0_1 (i : Nat) : BufTy := match i % 128 with
  | 0 => ⟨S16384x256, .f32⟩
  | 1 => ⟨S16384x4x64, .f32⟩
  | 2 => ⟨S16384x256, .f32⟩
  | 3 => ⟨S16384x4x64, .f32⟩
  | 4 => ⟨S16384x256, .f32⟩
  | _ => ⟨S16384x6144, .bf16⟩

abbrev hbmTy (i : Nat) : BufTy := match i / 128 with
  | 0 => hbmTy0_0 i
  | 1 => hbmTy0_1 i
  | _ => ⟨S16384x6144, .bf16⟩

abbrev bufTy : (tb : Table) → Fin (tcTables nBuf tb) → BufTy
  | .hbm, ⟨i, _⟩ => hbmTy i
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1_0 : Ref sig .tc := ⟨.hbm, 37, rfl⟩
abbrev main_call0_call0_cst_0 : Ref sig .tc := ⟨.hbm, 38, rfl⟩
abbrev main_call0_call0_v13 : Ref sig .tc := ⟨.hbm, 39, rfl⟩
abbrev main_call0_call0_v14 : Ref sig .tc := ⟨.hbm, 40, rfl⟩
abbrev main_call0_call0_cst_1 : Ref sig .tc := ⟨.hbm, 41, rfl⟩
abbrev main_call0_call0_v15 : Ref sig .tc := ⟨.hbm, 42, rfl⟩
abbrev main_call0_call0_v16 : Ref sig .tc := ⟨.hbm, 43, rfl⟩
abbrev main_call0_call0_cst_2 : Ref sig .tc := ⟨.hbm, 44, rfl⟩
abbrev main_call0_call0_v17 : Ref sig .tc := ⟨.hbm, 45, rfl⟩
abbrev main_call0_call0_v18 : Ref sig .tc := ⟨.hbm, 46, rfl⟩
abbrev main_call0_call0_cst_3 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_v21 : Ref sig .tc := ⟨.hbm, 50, rfl⟩
abbrev main_v20_1 : Ref sig .tc := ⟨.hbm, 51, rfl⟩
abbrev main_call0_call0_cst_4 : Ref sig .tc := ⟨.hbm, 52, rfl⟩
abbrev main_call0_call0_cst_5 : Ref sig .tc := ⟨.hbm, 53, rfl⟩
abbrev main_call0_call0_v23 : Ref sig .tc := ⟨.hbm, 54, rfl⟩
abbrev main_call0_call0_cst_6 : Ref sig .tc := ⟨.hbm, 55, rfl⟩
abbrev main_call0_call0_cst_7 : Ref sig .tc := ⟨.hbm, 56, rfl⟩
abbrev main_call0_call0_v24 : Ref sig .tc := ⟨.hbm, 57, rfl⟩
abbrev main_call0_call0_cst_8 : Ref sig .tc := ⟨.hbm, 58, rfl⟩
abbrev main_call0_call0_v25 : Ref sig .tc := ⟨.hbm, 59, rfl⟩
abbrev main_call0_call0_v26 : Ref sig .tc := ⟨.hbm, 60, rfl⟩
abbrev main_call0_call0_cst_9 : Ref sig .tc := ⟨.hbm, 61, rfl⟩
abbrev main_call0_call0_v27 : Ref sig .tc := ⟨.hbm, 62, rfl⟩
abbrev main_call0_call0_v28 : Ref sig .tc := ⟨.hbm, 63, rfl⟩
abbrev main_call0_call0_v29 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_cst_10 : Ref sig .tc := ⟨.hbm, 67, rfl⟩
abbrev main_call0_call0_v32 : Ref sig .tc := ⟨.hbm, 68, rfl⟩
abbrev main_v20_2 : Ref sig .tc := ⟨.hbm, 69, rfl⟩
abbrev main_v20_0 : Ref sig .tc := ⟨.hbm, 70, rfl⟩
abbrev main_cst_0 : Ref sig .tc := ⟨.hbm, 71, rfl⟩
abbrev main_call1_v0 : Ref sig .tc := ⟨.hbm, 72, rfl⟩
abbrev main_v21_1 : Ref sig .tc := ⟨.hbm, 73, rfl⟩
abbrev main_call1_v2 : Ref sig .tc := ⟨.hbm, 74, rfl⟩
abbrev main_v21_0 : Ref sig .tc := ⟨.hbm, 75, rfl⟩
abbrev main_call1_cst : Ref sig .tc := ⟨.hbm, 76, rfl⟩
abbrev main_v21_2 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_cst_1 : Ref sig .tc := ⟨.hbm, 87, rfl⟩
abbrev main_call2_v0 : Ref sig .tc := ⟨.hbm, 88, rfl⟩
abbrev main_v31_1 : Ref sig .tc := ⟨.hbm, 89, rfl⟩
abbrev main_call2_v2 : Ref sig .tc := ⟨.hbm, 90, rfl⟩
abbrev main_v31_0 : Ref sig .tc := ⟨.hbm, 91, rfl⟩
abbrev main_call2_cst : Ref sig .tc := ⟨.hbm, 92, rfl⟩
abbrev main_v31_2 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_call3_cst : Ref sig .tc := ⟨.hbm, 109, rfl⟩
abbrev main_call3_v0 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_call4_cst : Ref sig .tc := ⟨.hbm, 114, rfl⟩
abbrev main_call4_v0 : Ref sig .tc := ⟨.hbm, 115, rfl⟩
abbrev main_v50 : Ref sig .tc := ⟨.hbm, 116, rfl⟩
abbrev main_call5_v0 : Ref sig .tc := ⟨.hbm, 117, rfl⟩
abbrev main_call5_v1 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_cst_2 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩

abbrev nD : Nat := 1
abbrev τ : Topo := Topo.v7x

variable {F : FTy → Type} [FloatOps F]
-- ==== Kernel3.lean ====
abbrev S16384x1024 : Shape := ⟨2, ![16384, 1024]⟩
abbrev S16384x5632 : Shape := ⟨2, ![16384, 5632]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S16384x1024 : Shape := ⟨2, ![16384, 1024]⟩
abbrev S16384x5632 : Shape := ⟨2, ![16384, 5632]⟩
abbrev S5632x1024 : Shape := ⟨2, ![5632, 1024]⟩
abbrev S1024x5632 : Shape := ⟨2, ![1024, 5632]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S16384x1024, .f32⟩
  | .hbm, ⟨3, _⟩ => ⟨S16384x5632, .f32⟩
  | .hbm, ⟨4, _⟩ => ⟨S5632x1024, .f32⟩
  | .hbm, ⟨5, _⟩ => ⟨S1024x5632, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel4.lean ====
abbrev S16384x5632 : Shape := ⟨2, ![16384, 5632]⟩
abbrev S1024x5632 : Shape := ⟨2, ![1024, 5632]⟩
abbrev S16384x1024 : Shape := ⟨2, ![16384, 1024]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x5632, .bf16⟩
  | .hbm, ⟨1, _⟩ => ⟨S1024x5632, .bf16⟩
  | .hbm, ⟨2, _⟩ => ⟨S16384x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S16384x5632 : Shape := ⟨2, ![16384, 5632]⟩
abbrev S1024x5632 : Shape := ⟨2, ![1024, 5632]⟩
abbrev S16384x1024 : Shape := ⟨2, ![16384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S1024x5632, .bf16⟩
  | .hbm, ⟨2, _⟩ => ⟨S1024x5632, .f32⟩
  | .hbm, ⟨3, _⟩ => ⟨S16384x5632, .f32⟩
  | .hbm, ⟨4, _⟩ => ⟨S16384x1024, .f32⟩
  | .hbm, ⟨5, _⟩ => ⟨S16384x1024, .bf16⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S16384x1024 : Shape := ⟨2, ![16384, 1024]⟩
abbrev S16384x6144 : Shape := ⟨2, ![16384, 6144]⟩
abbrev S1024x6144 : Shape := ⟨2, ![1024, 6144]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x6144, .bf16⟩
  | .hbm, ⟨2, _⟩ => ⟨S1024x6144, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S16384x1024 : Shape := ⟨2, ![16384, 1024]⟩
abbrev S16384x6144 : Shape := ⟨2, ![16384, 6144]⟩
abbrev S6144x1024 : Shape := ⟨2, ![6144, 1024]⟩
abbrev S1024x6144 : Shape := ⟨2, ![1024, 6144]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x6144, .bf16⟩
  | .hbm, ⟨2, _⟩ => ⟨S16384x1024, .f32⟩
  | .hbm, ⟨3, _⟩ => ⟨S16384x6144, .f32⟩
  | .hbm, ⟨4, _⟩ => ⟨S6144x1024, .f32⟩
  | .hbm, ⟨5, _⟩ => ⟨S1024x6144, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel6.lean ====
abbrev S16384x6144 : Shape := ⟨2, ![16384, 6144]⟩
abbrev S1024x6144 : Shape := ⟨2, ![1024, 6144]⟩
abbrev S16384x1024 : Shape := ⟨2, ![16384, 1024]⟩
abbrev S1024x3072 : Shape := ⟨2, ![1024, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x6144, .bf16⟩
  | .hbm, ⟨1, _⟩ => ⟨S1024x6144, .bf16⟩
  | .hbm, ⟨2, _⟩ => ⟨S16384x1024, .bf16⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x3072, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S16384x6144 : Shape := ⟨2, ![16384, 6144]⟩
abbrev S1024x6144 : Shape := ⟨2, ![1024, 6144]⟩
abbrev S16384x1024 : Shape := ⟨2, ![16384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x6144, .bf16⟩
  | .hbm, ⟨1, _⟩ => ⟨S1024x6144, .bf16⟩
  | .hbm, ⟨2, _⟩ => ⟨S1024x6144, .f32⟩
  | .hbm, ⟨3, _⟩ => ⟨S16384x6144, .f32⟩
  | .hbm, ⟨4, _⟩ => ⟨S16384x1024, .f32⟩
  | .hbm, ⟨5, _⟩ => ⟨S16384x1024, .bf16⟩
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S16384x2816 : Shape := ⟨2, ![16384, 2816]⟩
abbrev S16384x1024 : Shape := ⟨2, ![16384, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S16384x2816 : Shape := ⟨2, ![16384, 2816]⟩
abbrev S16384x1024 : Shape := ⟨2, ![16384, 1024]⟩
abbrev S1024x2816 : Shape := ⟨2, ![1024, 2816]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S16384x2816, .f32⟩
  | .hbm, ⟨3, _⟩ => ⟨S16384x1024, .f32⟩
  | .hbm, ⟨4, _⟩ => ⟨S1024x2816, .f32⟩
  | .hbm, ⟨5, _⟩ => ⟨S2816x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel8.lean ====
abbrev S16384x1024 : Shape := ⟨2, ![16384, 1024]⟩
abbrev S1024x6144 : Shape := ⟨2, ![1024, 6144]⟩
abbrev S16384x6144 : Shape := ⟨2, ![16384, 6144]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x6144, .bf16⟩
  | .hbm, ⟨2, _⟩ => ⟨S16384x6144, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S16384x1024 : Shape := ⟨2, ![16384, 1024]⟩
abbrev S1024x6144 : Shape := ⟨2, ![1024, 6144]⟩
abbrev S16384x6144 : Shape := ⟨2, ![16384, 6144]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x6144, .bf16⟩
  | .hbm, ⟨2, _⟩ => ⟨S16384x1024, .f32⟩
  | .hbm, ⟨3, _⟩ => ⟨S1024x6144, .f32⟩
  | .hbm, ⟨4, _⟩ => ⟨S16384x6144, .f32⟩
  | .hbm, ⟨5, _⟩ => ⟨S16384x6144, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S16384x1024 : Shape := ⟨2, ![16384, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S16384x1024 : Shape := ⟨2, ![16384, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S1024x1024, .f32⟩
  | .hbm, ⟨3, _⟩ => ⟨S16384x1024, .f32⟩
  | .hbm, ⟨4, _⟩ => ⟨S16384x1024, .f32⟩
  | .hbm, ⟨5, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel10.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S16384x1024 : Shape := ⟨2, ![16384, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .f32⟩
  | .hbm, ⟨3, _⟩ => ⟨S16384x1024, .f32⟩
  | .hbm, ⟨4, _⟩ => ⟨S1024x1024, .f32⟩
  | .hbm, ⟨5, _⟩ => ⟨S1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S16384x1024 : Shape := ⟨2, ![16384, 1024]⟩
abbrev S1024x5632 : Shape := ⟨2, ![1024, 5632]⟩
abbrev S1024x1408 : Shape := ⟨2, ![1024, 1408]⟩
abbrev S16384x5632 : Shape := ⟨2, ![16384, 5632]⟩
abbrev S16384x2816 : Shape := ⟨2, ![16384, 2816]⟩
abbrev S1024x1024 : Shape := ⟨2, ![1024, 1024]⟩
abbrev S1024x2816 : Shape := ⟨2, ![1024, 2816]⟩
abbrev S16384x1408 : Shape := ⟨2, ![16384, 1408]⟩

abbrev nBuf : Space → Nat
  | .hbm => 14
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .bf16⟩
  | .hbm, ⟨2, _⟩ => ⟨S1024x1408, .bf16⟩
  | .hbm, ⟨3, _⟩ => ⟨S1024x1408, .bf16⟩
  | .hbm, ⟨4, _⟩ => ⟨S1024x1408, .bf16⟩
  | .hbm, ⟨5, _⟩ => ⟨S1024x1408, .bf16⟩
  | .hbm, ⟨6, _⟩ => ⟨S1024x5632, .bf16⟩
  | .hbm, ⟨7, _⟩ => ⟨S16384x5632, .bf16⟩
  | .hbm, ⟨8, _⟩ => ⟨S16384x2816, .bf16⟩
  | .hbm, ⟨9, _⟩ => ⟨S16384x1408, .bf16⟩
  | .hbm, ⟨10, _⟩ => ⟨S16384x1408, .bf16⟩
  | .hbm, ⟨11, _⟩ => ⟨S16384x1408, .bf16⟩
  | .hbm, ⟨12, _⟩ => ⟨S16384x1408, .bf16⟩
  | .hbm, ⟨13, _⟩ => ⟨S16384x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .bf16⟩
  | .local _ .vmem, ⟨5, _⟩ => ⟨S1024x1408, .bf16⟩
  | .local _ .vmem, ⟨6, _⟩ => ⟨S1024x1408, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S16384x1024 : Shape := ⟨2, ![16384, 1024]⟩
abbrev S1024x5632 : Shape := ⟨2, ![1024, 5632]⟩
abbrev S16384x5632 : Shape := ⟨2, ![16384, 5632]⟩
abbrev S16384x2816 : Shape := ⟨2, ![16384, 2816]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .bf16⟩
  | .hbm, ⟨2, _⟩ => ⟨S16384x1024, .f32⟩
  | .hbm, ⟨3, _⟩ => ⟨S1024x5632, .f32⟩
  | .hbm, ⟨4, _⟩ => ⟨S16384x5632, .f32⟩
  | .hbm, ⟨5, _⟩ => ⟨S16384x5632, .bf16⟩
  | .hbm, ⟨6, _⟩ => ⟨S16384x2816, .f32⟩
  | .hbm, ⟨7, _⟩ => ⟨S16384x2816, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Kernel12.lean ====
abbrev S16384x1024 : Shape := ⟨2, ![16384, 1024]⟩
abbrev S2816x1024 : Shape := ⟨2, ![2816, 1024]⟩
abbrev S16384x5632 : Shape := ⟨2, ![16384, 5632]⟩
abbrev S16384x1408 : Shape := ⟨2, ![16384, 1408]⟩
abbrev S1024x1024 : Shape := ⟨2, ![1024, 1024]⟩
abbrev S1408x1024 : Shape := ⟨2, ![1408, 1024]⟩
abbrev S1024x2816 : Shape := ⟨2, ![1024, 2816]⟩
abbrev S1024x1408 : Shape := ⟨2, ![1024, 1408]⟩

abbrev nBuf : Space → Nat
  | .hbm => 14
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S2816x1024, .bf16⟩
  | .hbm, ⟨2, _⟩ => ⟨S16384x5632, .bf16⟩
  | .hbm, ⟨3, _⟩ => ⟨S16384x1408, .bf16⟩
  | .hbm, ⟨4, _⟩ => ⟨S16384x1408, .bf16⟩
  | .hbm, ⟨5, _⟩ => ⟨S16384x1408, .bf16⟩
  | .hbm, ⟨6, _⟩ => ⟨S16384x1408, .bf16⟩
  | .hbm, ⟨7, _⟩ => ⟨S16384x5632, .bf16⟩
  | .hbm, ⟨8, _⟩ => ⟨S16384x5632, .bf16⟩
  | .hbm, ⟨9, _⟩ => ⟨S16384x1408, .bf16⟩
  | .hbm, ⟨10, _⟩ => ⟨S16384x1408, .bf16⟩
  | .hbm, ⟨11, _⟩ => ⟨S16384x1408, .bf16⟩
  | .hbm, ⟨12, _⟩ => ⟨S16384x1408, .bf16⟩
  | .hbm, ⟨13, _⟩ => ⟨S16384x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1024x2816, .bf16⟩
  | .local _ .vmem, ⟨4, _⟩ => ⟨S1024x2816, .bf16⟩
  | .local _ .vmem, ⟨5, _⟩ => ⟨S1024x2816, .bf16⟩
  | .local _ .vmem, ⟨6, _⟩ => ⟨S1024x2816, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1408x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S16384x1024 : Shape := ⟨2, ![16384, 1024]⟩
abbrev S2816x1024 : Shape := ⟨2, ![2816, 1024]⟩
abbrev S16384x5632 : Shape := ⟨2, ![16384, 5632]⟩
abbrev S16384x2816 : Shape := ⟨2, ![16384, 2816]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2816x1024, .bf16⟩
  | .hbm, ⟨2, _⟩ => ⟨S16384x5632, .bf16⟩
  | .hbm, ⟨3, _⟩ => ⟨S16384x5632, .f32⟩
  | .hbm, ⟨4, _⟩ => ⟨S16384x2816, .f32⟩
  | .hbm, ⟨5, _⟩ => ⟨S16384x2816, .f32⟩
  | .hbm, ⟨6, _⟩ => ⟨S16384x2816, .f32⟩
  | .hbm, ⟨7, _⟩ => ⟨S16384x2816, .f32⟩
  | .hbm, ⟨8, _⟩ => ⟨S_, .f32⟩
  | .hbm, ⟨9, _⟩ => ⟨S16384x2816, .f32⟩
  | .hbm, ⟨10, _⟩ => ⟨S16384x2816, .f32⟩
  | .hbm, ⟨11, _⟩ => ⟨S_, .f32⟩
  | .hbm, ⟨12, _⟩ => ⟨S16384x2816, .f32⟩
  | .hbm, ⟨13, _⟩ => ⟨S16384x2816, .f32⟩
  | .hbm, ⟨14, _⟩ => ⟨S_, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S2816x1024, .f32⟩
  | .hbm, ⟨21, _⟩ => ⟨S16384x1024, .f32⟩
  | .hbm, ⟨22, _⟩ => ⟨S16384x1024, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x5632, .f32⟩
  | .hbm, ⟨32, _⟩ => ⟨S_, .f32⟩
  | .hbm, ⟨33, _⟩ => ⟨S16384x5632, .f32⟩
  | .hbm, ⟨34, _⟩ => ⟨S16384x5632, .f32⟩
  | .hbm, ⟨35, _⟩ => ⟨S16384x5632, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v3_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v3_1 : Ref sig .tc := ⟨.hbm, 17, rfl⟩
abbrev main_v3_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_cst_0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩

abbrev nD : Nat := 1
abbrev τ : Topo := Topo.v7x

variable {F : FTy → Type} [FloatOps F]
-- ==== Kernel13.lean ====
abbrev S16384x2816 : Shape := ⟨2, ![16384, 2816]⟩
abbrev S2816x1024 : Shape := ⟨2, ![2816, 1024]⟩
abbrev S16384x1024 : Shape := ⟨2, ![16384, 1024]⟩
abbrev S1x1024 : Shape := ⟨2, ![1, 1024]⟩
abbrev S1024x2816 : Shape := ⟨2, ![1024, 2816]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 11
  | .vmem => 16
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S16384x1024, .bf16⟩
  | .hbm, ⟨9, _⟩ => ⟨S16384x1024, .f32⟩
  | .hbm, ⟨10, _⟩ => ⟨S16384x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference13Ideal.lean ====
abbrev S16384x2816 : Shape := ⟨2, ![16384, 2816]⟩
abbrev S2816x1024 : Shape := ⟨2, ![2816, 1024]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 53
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S16384x2816, .f32⟩
  | .hbm, ⟨9, _⟩ => ⟨S2816x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S1x1024, .f32⟩
  | .hbm, ⟨46, _⟩ => ⟨S1x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .bf16⟩
  | .hbm, ⟨52, _⟩ => ⟨S16384x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== Kernel14.lean ====
abbrev S16384x1024 : Shape := ⟨2, ![16384, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 11
  | .vmem => 16
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S16384x1024, .bf16⟩
  | .hbm, ⟨9, _⟩ => ⟨S16384x1024, .f32⟩
  | .hbm, ⟨10, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference14Ideal.lean ====
abbrev S16384x1024 : Shape := ⟨2, ![16384, 1024]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S16384x1024, .f32⟩
  | .hbm, ⟨9, _⟩ => ⟨S1024x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S1x1024, .f32⟩
  | .hbm, ⟨46, _⟩ => ⟨S1x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .bf16⟩
  | .hbm, ⟨52, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== Kernel15.lean ====
abbrev S16384x2816 : Shape := ⟨2, ![16384, 2816]⟩
abbrev S2816x1024 : Shape := ⟨2, ![2816, 1024]⟩
abbrev S16384x1024 : Shape := ⟨2, ![16384, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .bf16⟩
  | .local _ .vmem, ⟨4, _⟩ => ⟨S1024x1024, .bf16⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S16384x2816 : Shape := ⟨2, ![16384, 2816]⟩
abbrev S2816x1024 : Shape := ⟨2, ![2816, 1024]⟩
abbrev S16384x1024 : Shape := ⟨2, ![16384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x2816, .f32⟩
  | .hbm, ⟨3, _⟩ => ⟨S2816x1024, .f32⟩
  | .hbm, ⟨4, _⟩ => ⟨S16384x1024, .f32⟩
  | .hbm, ⟨5, _⟩ => ⟨S16384x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel16.lean ====
abbrev S16384x6144 : Shape := ⟨2, ![16384, 6144]⟩
abbrev S16384x256 : Shape := ⟨2, ![16384, 256]⟩
abbrev S16384x512 : Shape := ⟨2, ![16384, 512]⟩
abbrev S256x1024 : Shape := ⟨2, ![256, 1024]⟩
abbrev S512x1024 : Shape := ⟨2, ![512, 1024]⟩
abbrev S16384x1024 : Shape := ⟨2, ![16384, 1024]⟩
abbrev S512x256 : Shape := ⟨2, ![512, 256]⟩
abbrev S512x512 : Shape := ⟨2, ![512, 512]⟩

abbrev nBuf : Space → Nat
  | .hbm => 8
  | .vmem => 17
  | .smem => 0
  | _ => 0

abbrev bufTy : (tb : Table) → Fin (tcTables nBuf tb) → BufTy
  | .hbm, ⟨0, _⟩ => ⟨S16384x6144, .bf16⟩
  | .hbm, ⟨1, _⟩ => ⟨S16384x256, .bf16⟩
  | .hbm, ⟨2, _⟩ => ⟨S16384x256, .bf16⟩
  | .hbm, ⟨3, _⟩ => ⟨S16384x512, .bf16⟩
  | .hbm, ⟨4, _⟩ => ⟨S256x1024, .bf16⟩
  | .hbm, ⟨5, _⟩ => ⟨S256x1024, .bf16⟩
  | .hbm, ⟨6, _⟩ => ⟨S512x1024, .bf16⟩
  | .hbm, ⟨7, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x512, .bf16⟩
  | .local _ .vmem, ⟨11, _⟩ => ⟨S512x512, .bf16⟩
  | .local _ .vmem, ⟨12, _⟩ => ⟨S256x1024, .bf16⟩
  | .local _ .vmem, ⟨13, _⟩ => ⟨S256x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference16Ideal.lean ====
abbrev S16384x6144 : Shape := ⟨2, ![16384, 6144]⟩
abbrev S16384x256 : Shape := ⟨2, ![16384, 256]⟩
abbrev S16384x512 : Shape := ⟨2, ![16384, 512]⟩
abbrev S256x1024 : Shape := ⟨2, ![256, 1024]⟩
abbrev S512x1024 : Shape := ⟨2, ![512, 1024]⟩
abbrev S16384x1024 : Shape := ⟨2, ![16384, 1024]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S16384x6144, .bf16⟩
  | .hbm, ⟨1, _⟩ => ⟨S16384x256, .bf16⟩
  | .hbm, ⟨2, _⟩ => ⟨S16384x256, .bf16⟩
  | .hbm, ⟨3, _⟩ => ⟨S16384x512, .bf16⟩
  | .hbm, ⟨4, _⟩ => ⟨S256x1024, .bf16⟩
  | .hbm, ⟨5, _⟩ => ⟨S256x1024, .bf16⟩
  | .hbm, ⟨6, _⟩ => ⟨S512x1024, .bf16⟩
  | .hbm, ⟨7, _⟩ => ⟨S16384x1024, .bf16⟩
  | .hbm, ⟨8, _⟩ => ⟨S16384x1024, .bf16⟩
  | .hbm, ⟨9, _⟩ => ⟨S16384x1024, .bf16⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S16384x256, .f32⟩
  | .hbm, ⟨22, _⟩ => ⟨S256x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S16384x256, .f32⟩
  | .hbm, ⟨34, _⟩ => ⟨S256x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S16384x512, .f32⟩
  | .hbm, ⟨47, _⟩ => ⟨S512x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .bf16⟩
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel17.lean ====
abbrev S16384x6144 : Shape := ⟨2, ![16384, 6144]⟩
abbrev S16384x256 : Shape := ⟨2, ![16384, 256]⟩
abbrev S16384x512 : Shape := ⟨2, ![16384, 512]⟩
abbrev S256x1024 : Shape := ⟨2, ![256, 1024]⟩
abbrev S512x1024 : Shape := ⟨2, ![512, 1024]⟩
abbrev S16384x1024 : Shape := ⟨2, ![16384, 1024]⟩
abbrev S512x256 : Shape := ⟨2, ![512, 256]⟩
abbrev S512x512 : Shape := ⟨2, ![512, 512]⟩
abbrev S512x3072 : Shape := ⟨2, ![512, 3072]⟩
abbrev S16384x3072 : Shape := ⟨2, ![16384, 3072]⟩

abbrev nBuf : Space → Nat
  | .hbm => 16
  | .vmem => 28
  | .smem => 0
  | _ => 0

abbrev bufTy : (tb : Table) → Fin (tcTables nBuf tb) → BufTy
  | .hbm, ⟨0, _⟩ => ⟨S16384x6144, .bf16⟩
  | .hbm, ⟨1, _⟩ => ⟨S16384x256, .bf16⟩
  | .hbm, ⟨2, _⟩ => ⟨S16384x256, .bf16⟩
  | .hbm, ⟨3, _⟩ => ⟨S16384x512, .bf16⟩
  | .hbm, ⟨4, _⟩ => ⟨S256x1024, .bf16⟩
  | .hbm, ⟨5, _⟩ => ⟨S256x1024, .bf16⟩
  | .hbm, ⟨6, _⟩ => ⟨S512x1024, .bf16⟩
  | .hbm, ⟨7, _⟩ => ⟨S16384x1024, .bf16⟩
  | .hbm, ⟨8, _⟩ => ⟨S16384x6144, .bf16⟩
  | .hbm, ⟨9, _⟩ => ⟨S16384x256, .bf16⟩
  | .hbm, ⟨10, _⟩ => ⟨S16384x256, .bf16⟩
  | .hbm, ⟨11, _⟩ => ⟨S16384x512, .bf16⟩
  | .hbm, ⟨12, _⟩ => ⟨S256x1024, .f32⟩
  | .hbm, ⟨13, _⟩ => ⟨S256x1024, .f32⟩
  | .hbm, ⟨14, _⟩ => ⟨S512x1024, .f32⟩
  | .hbm, ⟨15, _⟩ => ⟨S16384x3072, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x512, .bf16⟩
  | .local _ .vmem, ⟨11, _⟩ => ⟨S512x512, .bf16⟩
  | .local _ .vmem, ⟨12, _⟩ => ⟨S256x1024, .bf16⟩
  | .local _ .vmem, ⟨13, _⟩ => ⟨S256x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x3072, .bf16⟩
  | .local _ .vmem, ⟨18, _⟩ => ⟨S512x3072, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S512x256, .bf16⟩
  | .local _ .vmem, ⟨23, _⟩ => ⟨S512x512, .bf16⟩
  | .local _ .vmem, ⟨24, _⟩ => ⟨S512x512, .bf16⟩
  | .local _ .vmem, ⟨25, _⟩ => ⟨S256x1024, .f32⟩
  | .local _ .vmem, ⟨26, _⟩ => ⟨S256x1024, .f32⟩
  | .local _ .vmem, ⟨27, _⟩ => ⟨S512x1024, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem15_0 : DmaSem sig := 26
abbrev cc0_sem16_0 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S256x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference17Ideal.lean ====
abbrev S16384x6144 : Shape := ⟨2, ![16384, 6144]⟩
abbrev S16384x256 : Shape := ⟨2, ![16384, 256]⟩
abbrev S16384x512 : Shape := ⟨2, ![16384, 512]⟩
abbrev S256x1024 : Shape := ⟨2, ![256, 1024]⟩
abbrev S512x1024 : Shape := ⟨2, ![512, 1024]⟩
abbrev S16384x1024 : Shape := ⟨2, ![16384, 1024]⟩
abbrev S_ : Shape := ⟨0, ![]⟩
abbrev S1024x512 : Shape := ⟨2, ![1024, 512]⟩
abbrev S1024x256 : Shape := ⟨2, ![1024, 256]⟩
abbrev S16384x3072 : Shape := ⟨2, ![16384, 3072]⟩

abbrev nBuf : Space → Nat
  | .hbm => 88
  | .vmem => 0
  | .smem => 0
  | _ => 0

abbrev bufTy : (tb : Table) → Fin (tcTables nBuf tb) → BufTy
  | .hbm, ⟨0, _⟩ => ⟨S16384x6144, .bf16⟩
  | .hbm, ⟨1, _⟩ => ⟨S16384x256, .bf16⟩
  | .hbm, ⟨2, _⟩ => ⟨S16384x256, .bf16⟩
  | .hbm, ⟨3, _⟩ => ⟨S16384x512, .bf16⟩
  | .hbm, ⟨4, _⟩ => ⟨S256x1024, .bf16⟩
  | .hbm, ⟨5, _⟩ => ⟨S256x1024, .bf16⟩
  | .hbm, ⟨6, _⟩ => ⟨S512x1024, .bf16⟩
  | .hbm, ⟨7, _⟩ => ⟨S16384x1024, .bf16⟩
  | .hbm, ⟨8, _⟩ => ⟨S16384x1024, .bf16⟩
  | .hbm, ⟨9, _⟩ => ⟨S16384x1024, .bf16⟩
  | .hbm, ⟨10, _⟩ => ⟨S16384x1024, .bf16⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x256, .f32⟩
  | .hbm, ⟨15, _⟩ => ⟨S16384x256, .f32⟩
  | .hbm, ⟨16, _⟩ => ⟨S16384x512, .f32⟩
  | .hbm, ⟨17, _⟩ => ⟨S256x1024, .f32⟩
  | .hbm, ⟨18, _⟩ => ⟨S256x1024, .f32⟩
  | .hbm, ⟨19, _⟩ => ⟨S512x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S1024x512, .f32⟩
  | .hbm, ⟨68, _⟩ => ⟨S512x1024, .f32⟩
  | .hbm, ⟨69, _⟩ => ⟨S16384x512, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S1024x256, .f32⟩
  | .hbm, ⟨74, _⟩ => ⟨S256x1024, .f32⟩
  | .hbm, ⟨75, _⟩ => ⟨S16384x256, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S1024x256, .f32⟩
  | .hbm, ⟨80, _⟩ => ⟨S256x1024, .f32⟩
  | .hbm, ⟨81, _⟩ => ⟨S16384x256, .f32⟩
  | .hbm, ⟨82, _⟩ => ⟨S16384x1024, .f32⟩
  | .hbm, ⟨83, _⟩ => ⟨S16384x3072, .f32⟩
  | .hbm, ⟨84, _⟩ => ⟨S16384x3072, .bf16⟩
  | .hbm, ⟨85, _⟩ => ⟨S16384x256, .bf16⟩
  | .hbm, ⟨86, _⟩ => ⟨S16384x256, .bf16⟩
  | .hbm, ⟨87, _⟩ => ⟨S16384x512, .bf16⟩
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩

abbrev nD : Nat := 1
abbrev τ : Topo := Topo.v7x

variable {F : FTy → Type} [FloatOps F]
-- ==== Kernel18.lean ====
abbrev S2x1024x1474 : Shape := ⟨3, ![2, 1024, 1474]⟩
abbrev S1024x1474 : Shape := ⟨2, ![1024, 1474]⟩
abbrev S2048x1474 : Shape := ⟨2, ![2048, 1474]⟩
abbrev S256x1474 : Shape := ⟨2, ![256, 1474]⟩

abbrev nBuf : Space → Nat
  | .hbm => 14
  | .vmem => 22
  | .smem => 0
  | _ => 0

abbrev bufTy : (tb : Table) → Fin (tcTables nBuf tb) → BufTy
  | .hbm, ⟨0, _⟩ => ⟨S2x1024x1474, .f32⟩
  | .hbm, ⟨1, _⟩ => ⟨S1024x1474, .f32⟩
  | .hbm, ⟨2, _⟩ => ⟨S1024x1474, .f32⟩
  | .hbm, ⟨3, _⟩ => ⟨S1024x1474, .f32⟩
  | .hbm, ⟨4, _⟩ => ⟨S1024x1474, .f32⟩
  | .hbm, ⟨5, _⟩ => ⟨S2x1024x1474, .f32⟩
  | .hbm, ⟨6, _⟩ => ⟨S2x1024x1474, .f32⟩
  | .hbm, ⟨7, _⟩ => ⟨S2048x1474, .f32⟩
  | .hbm, ⟨8, _⟩ => ⟨S2048x1474, .f32⟩
  | .hbm, ⟨9, _⟩ => ⟨S2048x1474, .f32⟩
  | .hbm, ⟨10, _⟩ => ⟨S2048x1474, .f32⟩
  | .hbm, ⟨11, _⟩ => ⟨S2048x1474, .f32⟩
  | .hbm, ⟨12, _⟩ => ⟨S2048x1474, .f32⟩
  | .hbm, ⟨13, _⟩ => ⟨S2048x1474, .f32⟩
  | .local _ .vmem, ⟨0, _⟩ => ⟨S256x1474, .f32⟩
  | .local _ .vmem, ⟨1, _⟩ => ⟨S256x1474, .f32⟩
  | .local _ .vmem, ⟨2, _⟩ => ⟨S256x1474, .f32⟩
  | .local _ .vmem, ⟨3, _⟩ => ⟨S256x1474, .f32⟩
  | .local _ .vmem, ⟨4, _⟩ => ⟨S256x1474, .f32⟩
  | .local _ .vmem, ⟨5, _⟩ => ⟨S256x1474, .f32⟩
  | .local _ .vmem, ⟨6, _⟩ => ⟨S256x1474, .f32⟩
  | .local _ .vmem, ⟨7, _⟩ => ⟨S256x1474, .f32⟩
  | .local _ .vmem, ⟨8, _⟩ => ⟨S256x1474, .f32⟩
  | .local _ .vmem, ⟨9, _⟩ => ⟨S256x1474, .f32⟩
  | .local _ .vmem, ⟨10, _⟩ => ⟨S256x1474, .f32⟩
  | .local _ .vmem, ⟨11, _⟩ => ⟨S256x1474, .f32⟩
  | .local _ .vmem, ⟨12, _⟩ => ⟨S256x1474, .f32⟩
  | .local _ .vmem, ⟨13, _⟩ => ⟨S256x1474, .f32⟩
  | .local _ .vmem, ⟨14, _⟩ => ⟨S256x1474, .f32⟩
  | .local _ .vmem, ⟨15, _⟩ => ⟨S256x1474, .f32⟩
  | .local _ .vmem, ⟨16, _⟩ => ⟨S256x1474, .f32⟩
  | .local _ .vmem, ⟨17, _⟩ => ⟨S256x1474, .f32⟩
  | .local _ .vmem, ⟨18, _⟩ => ⟨S256x1474, .f32⟩
  | .local _ .vmem, ⟨19, _⟩ => ⟨S256x1474, .f32⟩
  | .local _ .vmem, ⟨20, _⟩ => ⟨S256x1474, .f32⟩
  | .local _ .vmem, ⟨21, _⟩ => ⟨S256x1474, .f32⟩
  | _, _ => ⟨S2x1024x1474, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1474 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1474 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1474 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1474 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1474 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1474 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1474 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1474 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1474 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1474 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1474 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference18Ideal.lean ====
abbrev S2x1024x1474 : Shape := ⟨3, ![2, 1024, 1474]⟩
abbrev S1024x1474 : Shape := ⟨2, ![1024, 1474]⟩
abbrev S1x1024x1474 : Shape := ⟨3, ![1, 1024, 1474]⟩
abbrev S_ : Shape := ⟨0, ![]⟩
abbrev S2048x1474 : Shape := ⟨2, ![2048, 1474]⟩

abbrev nBuf : Space → Nat
  | .hbm => 49
  | .vmem => 0
  | .smem => 0
  | _ => 0

abbrev bufTy : (tb : Table) → Fin (tcTables nBuf tb) → BufTy
  | .hbm, ⟨0, _⟩ => ⟨S2x1024x1474, .f32⟩
  | .hbm, ⟨1, _⟩ => ⟨S1024x1474, .f32⟩
  | .hbm, ⟨2, _⟩ => ⟨S1024x1474, .f32⟩
  | .hbm, ⟨3, _⟩ => ⟨S1024x1474, .f32⟩
  | .hbm, ⟨4, _⟩ => ⟨S1024x1474, .f32⟩
  | .hbm, ⟨5, _⟩ => ⟨S2x1024x1474, .f32⟩
  | .hbm, ⟨6, _⟩ => ⟨S2x1024x1474, .f32⟩
  | .hbm, ⟨7, _⟩ => ⟨S1024x1474, .f32⟩
  | .hbm, ⟨8, _⟩ => ⟨S1024x1474, .f32⟩
  | .hbm, ⟨9, _⟩ => ⟨S1x1024x1474, .f32⟩
  | .hbm, ⟨10, _⟩ => ⟨S1x1024x1474, .f32⟩
  | .hbm, ⟨11, _⟩ => ⟨S2x1024x1474, .f32⟩
  | .hbm, ⟨12, _⟩ => ⟨S_, .f32⟩
  | .hbm, ⟨13, _⟩ => ⟨S2x1024x1474, .f32⟩
  | .hbm, ⟨14, _⟩ => ⟨S2x1024x1474, .f32⟩
  | .hbm, ⟨15, _⟩ => ⟨S_, .f32⟩
  | .hbm, ⟨16, _⟩ => ⟨S2x1024x1474, .f32⟩
  | .hbm, ⟨17, _⟩ => ⟨S2x1024x1474, .f32⟩
  | .hbm, ⟨18, _⟩ => ⟨S2x1024x1474, .f32⟩
  | .hbm, ⟨19, _⟩ => ⟨S_, .f32⟩
  | .hbm, ⟨20, _⟩ => ⟨S2x1024x1474, .f32⟩
  | .hbm, ⟨21, _⟩ => ⟨S2x1024x1474, .f32⟩
  | .hbm, ⟨22, _⟩ => ⟨S2x1024x1474, .f32⟩
  | .hbm, ⟨23, _⟩ => ⟨S_, .f32⟩
  | .hbm, ⟨24, _⟩ => ⟨S2x1024x1474, .f32⟩
  | .hbm, ⟨25, _⟩ => ⟨S2x1024x1474, .f32⟩
  | .hbm, ⟨26, _⟩ => ⟨S2x1024x1474, .f32⟩
  | .hbm, ⟨27, _⟩ => ⟨S_, .f32⟩
  | .hbm, ⟨28, _⟩ => ⟨S2x1024x1474, .f32⟩
  | .hbm, ⟨29, _⟩ => ⟨S2x1024x1474, .f32⟩
  | .hbm, ⟨30, _⟩ => ⟨S_, .f32⟩
  | .hbm, ⟨31, _⟩ => ⟨S2x1024x1474, .f32⟩
  | .hbm, ⟨32, _⟩ => ⟨S2x1024x1474, .f32⟩
  | .hbm, ⟨33, _⟩ => ⟨S2x1024x1474, .f32⟩
  | .hbm, ⟨34, _⟩ => ⟨S_, .f32⟩
  | .hbm, ⟨35, _⟩ => ⟨S2x1024x1474, .f32⟩
  | .hbm, ⟨36, _⟩ => ⟨S2x1024x1474, .f32⟩
  | .hbm, ⟨37, _⟩ => ⟨S2x1024x1474, .f32⟩
  | .hbm, ⟨38, _⟩ => ⟨S_, .f32⟩
  | .hbm, ⟨39, _⟩ => ⟨S2x1024x1474, .f32⟩
  | .hbm, ⟨40, _⟩ => ⟨S2x1024x1474, .f32⟩
  | .hbm, ⟨41, _⟩ => ⟨S2x1024x1474, .f32⟩
  | .hbm, ⟨42, _⟩ => ⟨S_, .f32⟩
  | .hbm, ⟨43, _⟩ => ⟨S2x1024x1474, .f32⟩
  | .hbm, ⟨44, _⟩ => ⟨S2x1024x1474, .f32⟩
  | .hbm, ⟨45, _⟩ => ⟨S2048x1474, .f32⟩
  | .hbm, ⟨46, _⟩ => ⟨S2048x1474, .f32⟩
  | .hbm, ⟨47, _⟩ => ⟨S2048x1474, .f32⟩
  | .hbm, ⟨48, _⟩ => ⟨S2048x1474, .f32⟩
  | _, _ => ⟨S2x1024x1474, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Kernel19.lean ====
abbrev S2x256x256 : Shape := ⟨3, ![2, 256, 256]⟩
abbrev S256x256 : Shape := ⟨2, ![256, 256]⟩
abbrev S512x256 : Shape := ⟨2, ![512, 256]⟩

abbrev nBuf : Space → Nat
  | .hbm => 14
  | .vmem => 22
  | .smem => 0
  | _ => 0

abbrev bufTy : (tb : Table) → Fin (tcTables nBuf tb) → BufTy
  | .hbm, ⟨0, _⟩ => ⟨S2x256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S2x256x256, .f32⟩
  | .hbm, ⟨6, _⟩ => ⟨S2x256x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S512x256, .f32⟩
  | .hbm, ⟨12, _⟩ => ⟨S512x256, .f32⟩
  | .hbm, ⟨13, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference19Ideal.lean ====
abbrev S2x256x256 : Shape := ⟨3, ![2, 256, 256]⟩
abbrev S256x256 : Shape := ⟨2, ![256, 256]⟩
abbrev S1x256x256 : Shape := ⟨3, ![1, 256, 256]⟩
abbrev S_ : Shape := ⟨0, ![]⟩
abbrev S512x256 : Shape := ⟨2, ![512, 256]⟩

abbrev nBuf : Space → Nat
  | .hbm => 49
  | .vmem => 0
  | .smem => 0
  | _ => 0

abbrev bufTy : (tb : Table) → Fin (tcTables nBuf tb) → BufTy
  | .hbm, ⟨0, _⟩ => ⟨S2x256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S2x256x256, .f32⟩
  | .hbm, ⟨6, _⟩ => ⟨S2x256x256, .f32⟩
  | .hbm, ⟨7, _⟩ => ⟨S256x256, .f32⟩
  | .hbm, ⟨8, _⟩ => ⟨S256x256, .f32⟩
  | .hbm, ⟨9, _⟩ => ⟨S1x256x256, .f32⟩
  | .hbm, ⟨10, _⟩ => ⟨S1x256x256, .f32⟩
  | .hbm, ⟨11, _⟩ => ⟨S2x256x256, .f32⟩
  | .hbm, ⟨12, _⟩ => ⟨S_, .f32⟩
  | .hbm, ⟨13, _⟩ => ⟨S2x256x256, .f32⟩
  | .hbm, ⟨14, _⟩ => ⟨S2x256x256, .f32⟩
  | .hbm, ⟨15, _⟩ => ⟨S_, .f32⟩
  | .hbm, ⟨16, _⟩ => ⟨S2x256x256, .f32⟩
  | .hbm, ⟨17, _⟩ => ⟨S2x256x256, .f32⟩
  | .hbm, ⟨18, _⟩ => ⟨S2x256x256, .f32⟩
  | .hbm, ⟨19, _⟩ => ⟨S_, .f32⟩
  | .hbm, ⟨20, _⟩ => ⟨S2x256x256, .f32⟩
  | .hbm, ⟨21, _⟩ => ⟨S2x256x256, .f32⟩
  | .hbm, ⟨22, _⟩ => ⟨S2x256x256, .f32⟩
  | .hbm, ⟨23, _⟩ => ⟨S_, .f32⟩
  | .hbm, ⟨24, _⟩ => ⟨S2x256x256, .f32⟩
  | .hbm, ⟨25, _⟩ => ⟨S2x256x256, .f32⟩
  | .hbm, ⟨26, _⟩ => ⟨S2x256x256, .f32⟩
  | .hbm, ⟨27, _⟩ => ⟨S_, .f32⟩
  | .hbm, ⟨28, _⟩ => ⟨S2x256x256, .f32⟩
  | .hbm, ⟨29, _⟩ => ⟨S2x256x256, .f32⟩
  | .hbm, ⟨30, _⟩ => ⟨S_, .f32⟩
  | .hbm, ⟨31, _⟩ => ⟨S2x256x256, .f32⟩
  | .hbm, ⟨32, _⟩ => ⟨S2x256x256, .f32⟩
  | .hbm, ⟨33, _⟩ => ⟨S2x256x256, .f32⟩
  | .hbm, ⟨34, _⟩ => ⟨S_, .f32⟩
  | .hbm, ⟨35, _⟩ => ⟨S2x256x256, .f32⟩
  | .hbm, ⟨36, _⟩ => ⟨S2x256x256, .f32⟩
  | .hbm, ⟨37, _⟩ => ⟨S2x256x256, .f32⟩
  | .hbm, ⟨38, _⟩ => ⟨S_, .f32⟩
  | .hbm, ⟨39, _⟩ => ⟨S2x256x256, .f32⟩
  | .hbm, ⟨40, _⟩ => ⟨S2x256x256, .f32⟩
  | .hbm, ⟨41, _⟩ => ⟨S2x256x256, .f32⟩
  | .hbm, ⟨42, _⟩ => ⟨S_, .f32⟩
  | .hbm, ⟨43, _⟩ => ⟨S2x256x256, .f32⟩
  | .hbm, ⟨44, _⟩ => ⟨S2x256x256, .f32⟩
  | .hbm, ⟨45, _⟩ => ⟨S512x256, .f32⟩
  | .hbm, ⟨46, _⟩ => ⟨S512x256, .f32⟩
  | .hbm, ⟨47, _⟩ => ⟨S512x256, .f32⟩
  | .hbm, ⟨48, _⟩ => ⟨S512x256, .f32⟩
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Kernel20.lean ====
abbrev S2x512x256 : Shape := ⟨3, ![2, 512, 256]⟩
abbrev S512x256 : Shape := ⟨2, ![512, 256]⟩
abbrev S1024x256 : Shape := ⟨2, ![1024, 256]⟩
abbrev S256x256 : Shape := ⟨2, ![256, 256]⟩

abbrev nBuf : Space → Nat
  | .hbm => 14
  | .vmem => 22
  | .smem => 0
  | _ => 0

abbrev bufTy : (tb : Table) → Fin (tcTables nBuf tb) → BufTy
  | .hbm, ⟨0, _⟩ => ⟨S2x512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S2x512x256, .f32⟩
  | .hbm, ⟨6, _⟩ => ⟨S2x512x256, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S1024x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference20Ideal.lean ====
abbrev S2x512x256 : Shape := ⟨3, ![2, 512, 256]⟩
abbrev S512x256 : Shape := ⟨2, ![512, 256]⟩
abbrev S1x512x256 : Shape := ⟨3, ![1, 512, 256]⟩
abbrev S_ : Shape := ⟨0, ![]⟩
abbrev S1024x256 : Shape := ⟨2, ![1024, 256]⟩

abbrev nBuf : Space → Nat
  | .hbm => 49
  | .vmem => 0
  | .smem => 0
  | _ => 0

abbrev bufTy : (tb : Table) → Fin (tcTables nBuf tb) → BufTy
  | .hbm, ⟨0, _⟩ => ⟨S2x512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S2x512x256, .f32⟩
  | .hbm, ⟨6, _⟩ => ⟨S2x512x256, .f32⟩
  | .hbm, ⟨7, _⟩ => ⟨S512x256, .f32⟩
  | .hbm, ⟨8, _⟩ => ⟨S512x256, .f32⟩
  | .hbm, ⟨9, _⟩ => ⟨S1x512x256, .f32⟩
  | .hbm, ⟨10, _⟩ => ⟨S1x512x256, .f32⟩
  | .hbm, ⟨11, _⟩ => ⟨S2x512x256, .f32⟩
  | .hbm, ⟨12, _⟩ => ⟨S_, .f32⟩
  | .hbm, ⟨13, _⟩ => ⟨S2x512x256, .f32⟩
  | .hbm, ⟨14, _⟩ => ⟨S2x512x256, .f32⟩
  | .hbm, ⟨15, _⟩ => ⟨S_, .f32⟩
  | .hbm, ⟨16, _⟩ => ⟨S2x512x256, .f32⟩
  | .hbm, ⟨17, _⟩ => ⟨S2x512x256, .f32⟩
  | .hbm, ⟨18, _⟩ => ⟨S2x512x256, .f32⟩
  | .hbm, ⟨19, _⟩ => ⟨S_, .f32⟩
  | .hbm, ⟨20, _⟩ => ⟨S2x512x256, .f32⟩
  | .hbm, ⟨21, _⟩ => ⟨S2x512x256, .f32⟩
  | .hbm, ⟨22, _⟩ => ⟨S2x512x256, .f32⟩
  | .hbm, ⟨23, _⟩ => ⟨S_, .f32⟩
  | .hbm, ⟨24, _⟩ => ⟨S2x512x256, .f32⟩
  | .hbm, ⟨25, _⟩ => ⟨S2x512x256, .f32⟩
  | .hbm, ⟨26, _⟩ => ⟨S2x512x256, .f32⟩
  | .hbm, ⟨27, _⟩ => ⟨S_, .f32⟩
  | .hbm, ⟨28, _⟩ => ⟨S2x512x256, .f32⟩
  | .hbm, ⟨29, _⟩ => ⟨S2x512x256, .f32⟩
  | .hbm, ⟨30, _⟩ => ⟨S_, .f32⟩
  | .hbm, ⟨31, _⟩ => ⟨S2x512x256, .f32⟩
  | .hbm, ⟨32, _⟩ => ⟨S2x512x256, .f32⟩
  | .hbm, ⟨33, _⟩ => ⟨S2x512x256, .f32⟩
  | .hbm, ⟨34, _⟩ => ⟨S_, .f32⟩
  | .hbm, ⟨35, _⟩ => ⟨S2x512x256, .f32⟩
  | .hbm, ⟨36, _⟩ => ⟨S2x512x256, .f32⟩
  | .hbm, ⟨37, _⟩ => ⟨S2x512x256, .f32⟩
  | .hbm, ⟨38, _⟩ => ⟨S_, .f32⟩
  | .hbm, ⟨39, _⟩ => ⟨S2x512x256, .f32⟩
  | .hbm, ⟨40, _⟩ => ⟨S2x512x256, .f32⟩
  | .hbm, ⟨41, _⟩ => ⟨S2x512x256, .f32⟩
  | .hbm, ⟨42, _⟩ => ⟨S_, .f32⟩
  | .hbm, ⟨43, _⟩ => ⟨S2x512x256, .f32⟩
  | .hbm, ⟨44, _⟩ => ⟨S2x512x256, .f32⟩
  | .hbm, ⟨45, _⟩ => ⟨S1024x256, .f32⟩
  | .hbm, ⟨46, _⟩ => ⟨S1024x256, .f32⟩
  | .hbm, ⟨47, _⟩ => ⟨S1024x256, .f32⟩
  | .hbm, ⟨48, _⟩ => ⟨S1024x256, .f32⟩
  | _, _ => ⟨S2x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Kernel21.lean ====
abbrev S2x1024x1408 : Shape := ⟨3, ![2, 1024, 1408]⟩
abbrev S1024x1408 : Shape := ⟨2, ![1024, 1408]⟩
abbrev S2048x1408 : Shape := ⟨2, ![2048, 1408]⟩
abbrev S256x1408 : Shape := ⟨2, ![256, 1408]⟩

abbrev nBuf : Space → Nat
  | .hbm => 14
  | .vmem => 22
  | .smem => 0
  | _ => 0

abbrev bufTy : (tb : Table) → Fin (tcTables nBuf tb) → BufTy
  | .hbm, ⟨0, _⟩ => ⟨S2x1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S2x1024x1408, .f32⟩
  | .hbm, ⟨6, _⟩ => ⟨S2x1024x1408, .f32⟩
  | .hbm, ⟨7, _⟩ => ⟨S2048x1408, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S2048x1408, .f32⟩
  | .hbm, ⟨12, _⟩ => ⟨S2048x1408, .f32⟩
  | .hbm, ⟨13, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | .local _ .vmem, ⟨18, _⟩ => ⟨S256x1408, .f32⟩
  | .local _ .vmem, ⟨19, _⟩ => ⟨S256x1408, .f32⟩
  | .local _ .vmem, ⟨20, _⟩ => ⟨S256x1408, .f32⟩
  | .local _ .vmem, ⟨21, _⟩ => ⟨S256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference21Ideal.lean ====
abbrev S2x1024x1408 : Shape := ⟨3, ![2, 1024, 1408]⟩
abbrev S1024x1408 : Shape := ⟨2, ![1024, 1408]⟩
abbrev S1x1024x1408 : Shape := ⟨3, ![1, 1024, 1408]⟩
abbrev S_ : Shape := ⟨0, ![]⟩
abbrev S2048x1408 : Shape := ⟨2, ![2048, 1408]⟩

abbrev nBuf : Space → Nat
  | .hbm => 49
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S2x1024x1408, .f32⟩
  | .hbm, ⟨6, _⟩ => ⟨S2x1024x1408, .f32⟩
  | .hbm, ⟨7, _⟩ => ⟨S1024x1408, .f32⟩
  | .hbm, ⟨8, _⟩ => ⟨S1024x1408, .f32⟩
  | .hbm, ⟨9, _⟩ => ⟨S1x1024x1408, .f32⟩
  | .hbm, ⟨10, _⟩ => ⟨S1x1024x1408, .f32⟩
  | .hbm, ⟨11, _⟩ => ⟨S2x1024x1408, .f32⟩
  | .hbm, ⟨12, _⟩ => ⟨S_, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S2x1024x1408, .f32⟩
  | .hbm, ⟨23, _⟩ => ⟨S_, .f32⟩
  | .hbm, ⟨24, _⟩ => ⟨S2x1024x1408, .f32⟩
  | .hbm, ⟨25, _⟩ => ⟨S2x1024x1408, .f32⟩
  | .hbm, ⟨26, _⟩ => ⟨S2x1024x1408, .f32⟩
  | .hbm, ⟨27, _⟩ => ⟨S_, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | .hbm, ⟨37, _⟩ => ⟨S2x1024x1408, .f32⟩
  | .hbm, ⟨38, _⟩ => ⟨S_, .f32⟩
  | .hbm, ⟨39, _⟩ => ⟨S2x1024x1408, .f32⟩
  | .hbm, ⟨40, _⟩ => ⟨S2x1024x1408, .f32⟩
  | .hbm, ⟨41, _⟩ => ⟨S2x1024x1408, .f32⟩
  | .hbm, ⟨42, _⟩ => ⟨S_, .f32⟩
  | .hbm, ⟨43, _⟩ => ⟨S2x1024x1408, .f32⟩
  | .hbm, ⟨44, _⟩ => ⟨S2x1024x1408, .f32⟩
  | .hbm, ⟨45, _⟩ => ⟨S2048x1408, .f32⟩
  | .hbm, ⟨46, _⟩ => ⟨S2048x1408, .f32⟩
  | .hbm, ⟨47, _⟩ => ⟨S2048x1408, .f32⟩
  | .hbm, ⟨48, _⟩ => ⟨S2048x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Kernel22.lean ====
abbrev S2x704x1024 : Shape := ⟨3, ![2, 704, 1024]⟩
abbrev S704x1024 : Shape := ⟨2, ![704, 1024]⟩
abbrev S1408x1024 : Shape := ⟨2, ![1408, 1024]⟩
abbrev S176x1024 : Shape := ⟨2, ![176, 1024]⟩

abbrev nBuf : Space → Nat
  | .hbm => 14
  | .vmem => 22
  | .smem => 0
  | _ => 0

abbrev bufTy : (tb : Table) → Fin (tcTables nBuf tb) → BufTy
  | .hbm, ⟨0, _⟩ => ⟨S2x704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S2x704x1024, .f32⟩
  | .hbm, ⟨6, _⟩ => ⟨S2x704x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S1408x1024, .f32⟩
  | .hbm, ⟨12, _⟩ => ⟨S1408x1024, .f32⟩
  | .hbm, ⟨13, _⟩ => ⟨S1408x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .vmem, ⟨18, _⟩ => ⟨S176x1024, .f32⟩
  | .local _ .vmem, ⟨19, _⟩ => ⟨S176x1024, .f32⟩
  | .local _ .vmem, ⟨20, _⟩ => ⟨S176x1024, .f32⟩
  | .local _ .vmem, ⟨21, _⟩ => ⟨S176x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference22Ideal.lean ====
abbrev S2x704x1024 : Shape := ⟨3, ![2, 704, 1024]⟩
abbrev S704x1024 : Shape := ⟨2, ![704, 1024]⟩
abbrev S1x704x1024 : Shape := ⟨3, ![1, 704, 1024]⟩
abbrev S_ : Shape := ⟨0, ![]⟩
abbrev S1408x1024 : Shape := ⟨2, ![1408, 1024]⟩

abbrev nBuf : Space → Nat
  | .hbm => 49
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S2x704x1024, .f32⟩
  | .hbm, ⟨6, _⟩ => ⟨S2x704x1024, .f32⟩
  | .hbm, ⟨7, _⟩ => ⟨S704x1024, .f32⟩
  | .hbm, ⟨8, _⟩ => ⟨S704x1024, .f32⟩
  | .hbm, ⟨9, _⟩ => ⟨S1x704x1024, .f32⟩
  | .hbm, ⟨10, _⟩ => ⟨S1x704x1024, .f32⟩
  | .hbm, ⟨11, _⟩ => ⟨S2x704x1024, .f32⟩
  | .hbm, ⟨12, _⟩ => ⟨S_, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S2x704x1024, .f32⟩
  | .hbm, ⟨23, _⟩ => ⟨S_, .f32⟩
  | .hbm, ⟨24, _⟩ => ⟨S2x704x1024, .f32⟩
  | .hbm, ⟨25, _⟩ => ⟨S2x704x1024, .f32⟩
  | .hbm, ⟨26, _⟩ => ⟨S2x704x1024, .f32⟩
  | .hbm, ⟨27, _⟩ => ⟨S_, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | .hbm, ⟨37, _⟩ => ⟨S2x704x1024, .f32⟩
  | .hbm, ⟨38, _⟩ => ⟨S_, .f32⟩
  | .hbm, ⟨39, _⟩ => ⟨S2x704x1024, .f32⟩
  | .hbm, ⟨40, _⟩ => ⟨S2x704x1024, .f32⟩
  | .hbm, ⟨41, _⟩ => ⟨S2x704x1024, .f32⟩
  | .hbm, ⟨42, _⟩ => ⟨S_, .f32⟩
  | .hbm, ⟨43, _⟩ => ⟨S2x704x1024, .f32⟩
  | .hbm, ⟨44, _⟩ => ⟨S2x704x1024, .f32⟩
  | .hbm, ⟨45, _⟩ => ⟨S1408x1024, .f32⟩
  | .hbm, ⟨46, _⟩ => ⟨S1408x1024, .f32⟩
  | .hbm, ⟨47, _⟩ => ⟨S1408x1024, .f32⟩
  | .hbm, ⟨48, _⟩ => ⟨S1408x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Kernel23.lean ====
abbrev S2x256x1024 : Shape := ⟨3, ![2, 256, 1024]⟩
abbrev S256x1024 : Shape := ⟨2, ![256, 1024]⟩
abbrev S512x1024 : Shape := ⟨2, ![512, 1024]⟩

abbrev nBuf : Space → Nat
  | .hbm => 14
  | .vmem => 22
  | .smem => 0
  | _ => 0

abbrev bufTy : (tb : Table) → Fin (tcTables nBuf tb) → BufTy
  | .hbm, ⟨0, _⟩ => ⟨S2x256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S2x256x1024, .f32⟩
  | .hbm, ⟨6, _⟩ => ⟨S2x256x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference23Ideal.lean ====
abbrev S2x256x1024 : Shape := ⟨3, ![2, 256, 1024]⟩
abbrev S256x1024 : Shape := ⟨2, ![256, 1024]⟩
abbrev S1x256x1024 : Shape := ⟨3, ![1, 256, 1024]⟩
abbrev S_ : Shape := ⟨0, ![]⟩
abbrev S512x1024 : Shape := ⟨2, ![512, 1024]⟩

abbrev nBuf : Space → Nat
  | .hbm => 49
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S2x256x1024, .f32⟩
  | .hbm, ⟨6, _⟩ => ⟨S2x256x1024, .f32⟩
  | .hbm, ⟨7, _⟩ => ⟨S256x1024, .f32⟩
  | .hbm, ⟨8, _⟩ => ⟨S256x1024, .f32⟩
  | .hbm, ⟨9, _⟩ => ⟨S1x256x1024, .f32⟩
  | .hbm, ⟨10, _⟩ => ⟨S1x256x1024, .f32⟩
  | .hbm, ⟨11, _⟩ => ⟨S2x256x1024, .f32⟩
  | .hbm, ⟨12, _⟩ => ⟨S_, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S2x256x1024, .f32⟩
  | .hbm, ⟨23, _⟩ => ⟨S_, .f32⟩
  | .hbm, ⟨24, _⟩ => ⟨S2x256x1024, .f32⟩
  | .hbm, ⟨25, _⟩ => ⟨S2x256x1024, .f32⟩
  | .hbm, ⟨26, _⟩ => ⟨S2x256x1024, .f32⟩
  | .hbm, ⟨27, _⟩ => ⟨S_, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S2x256x1024, .f32⟩
  | .hbm, ⟨38, _⟩ => ⟨S_, .f32⟩
  | .hbm, ⟨39, _⟩ => ⟨S2x256x1024, .f32⟩
  | .hbm, ⟨40, _⟩ => ⟨S2x256x1024, .f32⟩
  | .hbm, ⟨41, _⟩ => ⟨S2x256x1024, .f32⟩
  | .hbm, ⟨42, _⟩ => ⟨S_, .f32⟩
  | .hbm, ⟨43, _⟩ => ⟨S2x256x1024, .f32⟩
  | .hbm, ⟨44, _⟩ => ⟨S2x256x1024, .f32⟩
  | .hbm, ⟨45, _⟩ => ⟨S512x1024, .f32⟩
  | .hbm, ⟨46, _⟩ => ⟨S512x1024, .f32⟩
  | .hbm, ⟨47, _⟩ => ⟨S512x1024, .f32⟩
  | .hbm, ⟨48, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Proof.ShortConv.Spec.lean ====
/- The gradient of the gated short convolution, row by row: what both programs compute.
   Rows are natural numbers; a row outside the sequence is zero, which is what both programs put there. -/
module

public import Idealize.ShloMosaic.Lib.Pointwise

@[expose] public section

noncomputable section

namespace Cert.ShortConv

open Idealize.ShloMosaic

/-- the projected input (its first 768 columns are the gate `B`, the gate `C` and `x`), the upstream gradient, the three taps -/
abbrev SX : Shape := ⟨2, ![16384, 6144]⟩
abbrev SD : Shape := ⟨2, ![16384, 256]⟩
abbrev SW : Shape := ⟨2, ![3, 256]⟩
abbrev SO : Shape := ⟨2, ![16384, 768]⟩
abbrev SV : Shape := ⟨2, ![1, 256]⟩

variable (X : FVec Ideal SX .bf16) (D : FVec Ideal SD .bf16) (W : FVec Ideal SW .f32)

/-- The signal that is convolved, `u = C · x`, at row `r`; zero past the last row. -/
def U (r : ℕ) (l : Fin 256) : EReal :=
  if h : r < 16384 then X (ix2 ⟨r, h⟩ ⟨256 + l, by omega⟩) * X (ix2 ⟨r, h⟩ ⟨512 + l, by omega⟩) else 0

/-- The signal `k` rows earlier; zero before the first row. -/
def Uback (k r : ℕ) (l : Fin 256) : EReal := if k ≤ r then U X (r - k) l else 0

/-- The gradient that reaches the convolution, `dy · B`, at row `r`; zero past the last row. -/
def dV (r : ℕ) (l : Fin 256) : EReal :=
  if h : r < 16384 then D (ix2 ⟨r, h⟩ l) * X (ix2 ⟨r, h⟩ ⟨l, by omega⟩) else 0

/-- The convolution's value at row `r`. -/
def conv (r : ℕ) (l : Fin 256) : EReal :=
  W (ix2 2 l) * Uback X 0 r l + W (ix2 1 l) * Uback X 1 r l + W (ix2 0 l) * Uback X 2 r l

/-- The gradient of `u` at row `r`: the taps in the other direction. -/
def dU (r : ℕ) (l : Fin 256) : EReal :=
  W (ix2 2 l) * dV X D r l + W (ix2 1 l) * dV X D (r + 1) l + W (ix2 0 l) * dV X D (r + 2) l

/-- The three gradients of the projected input side by side: of `B`, of `C`, of `x`. -/
def grad (r : Fin 16384) (q : ℕ) (l : Fin 256) : EReal :=
  if q = 0 then D (ix2 r l) * conv X W r l
  else if q = 1 then dU X D W r l * X (ix2 r ⟨512 + l, by omega⟩)
  else dU X D W r l * X (ix2 r ⟨256 + l, by omega⟩)

/-- The same as an array. -/
def gradArr : FVec Ideal SO .bf16 := fun j =>
  grad X D W ⟨j 0, (j 0).isLt⟩ ((j 1 : ℕ) / 256) ⟨(j 1 : ℕ) % 256, Nat.mod_lt _ (by decide)⟩

/-- The gradient of the tap that looks `k` rows back: a sum over all rows. -/
def gradTap (k : ℕ) : FVec Ideal SV .f32 := fun j => ∑ r : Fin 16384, dV X D r ⟨j 1, (j 1).isLt⟩ * Uback X k r ⟨j 1, (j 1).isLt⟩

/-- One term of that sum, at row `r` and column `l`. -/
def tapTerm (k r : ℕ) (l : Fin 256) : EReal := dV X D r l * Uback X k r l

/-- The sum over all rows is the sum over the 32 blocks of the sums over their 512 rows. -/
theorem gradTap_blocks (k : ℕ) (j : SV.Idx) :
    gradTap X D k j = ∑ s : Fin 32, ∑ r : Fin 512, tapTerm X D k (512 * s.val + r) ⟨j 1, (j 1).isLt⟩ := by
  unfold gradTap tapTerm
  rw [Fin.sum_univ_tiles 32 512 rfl]
  refine Finset.sum_congr rfl fun s _ => Finset.sum_congr rfl fun r _ => ?_
  simp only [Nat.mul_comm 512]

end Cert.ShortConv

end
-- ==== Proof.ShortConv.Block.lean ====
/- What one grid point of the kernel computes, read at an index: the three shifted signals, the convolution and
   the gradient of its input, each as the row-by-row formula at the array's own rows. -/
module

public import proofs.«01_k».proof.Proof.Gen.KernelIdeal.Value
public import proofs.«01_k».proof.Proof.ShortConv.Spec
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.KernelIdeal.ShortConv

open Cert.KernelIdeal Cert.KernelIdeal.Gen
open Cert.ShortConv (U Uback dV conv dU grad gradArr gradTap)

/-- Where each window's block lies at point `t`. -/
theorem idx_val : ∀ t : Fin cfg0.N, t.val < 32 ∧ (grid0.coords t 0).val = t.val ∧ win0_0.index t = ![t.val, 0] ∧ win0_1.index t = ![t.val * 32 - 1, 0]
    ∧ win0_2.index t = ![min ((t.val + 1) * 32) 1023, 0] ∧ win0_3.index t = ![t.val, 0] ∧ win0_4.index t = ![min ((t.val + 1) * 32) 1023, 0]
    ∧ win0_5.index t = ![0, 0] ∧ win0_6.index t = ![t.val, 0] ∧ win0_7.index t = ![0, 0] ∧ win0_8.index t = ![0, 0] ∧ win0_9.index t = ![0, 0] :=
  (by decide +kernel : ∀ t : Fin grid0.N, _)

/-- A block of rows and the sixteen rows before and after it, as the kernel holds them at point `n`, are the array's
    rows. -/
structure Rows (X : FVec Ideal S16384x6144 .bf16) (D : FVec Ideal S16384x256 .bf16) (n : ℕ)
    (x0 : FVec Ideal S512x768 .bf16) (x1 x2 : FVec Ideal S16x768 .bf16) (x3 : FVec Ideal S512x256 .bf16) (x4 : FVec Ideal S16x256 .bf16) : Prop where
  lt : n < 32
  main : ∀ (r : Fin 512) (k : Fin 768), x0 (ix2 r k) = X (ix2 ⟨512 * n + r, by omega⟩ ⟨k, by omega⟩)
  before : 0 < n → ∀ (r : Fin 16) (k : Fin 768), x1 (ix2 r k) = X (ix2 ⟨512 * n - 16 + r, by omega⟩ ⟨k, by omega⟩)
  after : (hn : n < 31) → ∀ (r : Fin 16) (k : Fin 768), x2 (ix2 r k) = X (ix2 ⟨512 * n + 512 + r, by omega⟩ ⟨k, by omega⟩)
  dmain : ∀ (r : Fin 512) (k : Fin 256), x3 (ix2 r k) = D (ix2 ⟨512 * n + r, by omega⟩ k)
  dafter : (hn : n < 31) → ∀ (r : Fin 16) (k : Fin 256), x4 (ix2 r k) = D (ix2 ⟨512 * n + 512 + r, by omega⟩ k)

variable {X : FVec Ideal S16384x6144 .bf16} {D : FVec Ideal S16384x256 .bf16} {n : ℕ}
  {x0 : FVec Ideal S512x768 .bf16} {x1 x2 : FVec Ideal S16x768 .bf16} {x3 : FVec Ideal S512x256 .bf16} {x4 : FVec Ideal S16x256 .bf16}

theorem U_eq (R : Rows X D n x0 x1 x2 x3 x4) (r : Fin 512) (l : Fin 256) (s : ℕ) (hs : s = 512 * n + r) :
    U X s l = x0 (ix2 r ⟨256 + l, by omega⟩) * x0 (ix2 r ⟨512 + l, by omega⟩) := by
  have := R.lt
  subst hs
  rw [U, dif_pos (by omega), R.main, R.main]

theorem U_before (R : Rows X D n x0 x1 x2 x3 x4) (hn : 0 < n) (r : Fin 16) (l : Fin 256) (s : ℕ) (hs : s = 512 * n - 16 + r) :
    U X s l = x1 (ix2 r ⟨256 + l, by omega⟩) * x1 (ix2 r ⟨512 + l, by omega⟩) := by
  have := R.lt
  subst hs
  rw [U, dif_pos (by omega), R.before hn, R.before hn]

theorem V_eq (R : Rows X D n x0 x1 x2 x3 x4) (r : Fin 512) (l : Fin 256) (s : ℕ) (hs : s = 512 * n + r) :
    dV X D s l = x3 (ix2 r l) * x0 (ix2 r ⟨l, by omega⟩) := by
  have := R.lt
  subst hs
  rw [dV, dif_pos (by omega), R.main, R.dmain]

theorem V_after (R : Rows X D n x0 x1 x2 x3 x4) (hn : n < 31) (r : Fin 16) (l : Fin 256) (s : ℕ) (hs : s = 512 * n + 512 + r) :
    dV X D s l = x4 (ix2 r l) * x2 (ix2 r ⟨l, by omega⟩) := by
  subst hs
  rw [dV, dif_pos (by omega), R.after hn, R.dafter hn]

theorem V_past (s : ℕ) (hs : 16384 ≤ s) (l : Fin 256) : dV X D s l = 0 := by rw [dV, dif_neg (by omega)]

/-- the signal itself -/
theorem signal0 (R : Rows X D n x0 x1 x2 x3 x4) (r : Fin 512) (l : Fin 256) :
    k0_pay6 (F := Ideal) x0 (ix2 r l) = Uback X 0 (512 * n + r) l := by
  pointwise [k0_pay6, k0_pay4, k0_pay5, k0_pay1]
  rw [Uback, if_pos (by omega), U_eq R r l _ (by omega)]

/-- the signal one row back: a rotation whose first row comes from the block before -/
theorem signal1 (R : Rows X D n x0 x1 x2 x3 x4) (i : grid0.Coords) (hi : (i 0).val = n) (r : Fin 512) (l : Fin 256) :
    k0_pay8 (F := Ideal) i x0 x1 (ix2 r l) = Uback X 1 (512 * n + r) l := by
  have hn := R.lt
  pointwise [k0_pay8, k0_pay7, k0_pay6, k0_pay4, k0_pay5, k0_pay1]
  simp only [hi, Scalar.cmpi]
  word_cmp
  by_cases hr : (r : ℕ) = 0
  · by_cases h0 : n = 0
    · simp only [hr, h0, if_true]; rw [Uback, if_neg (by omega)]
    · simp only [hr, h0, if_true, if_false]
      rw [Uback, if_pos (by omega), U_before R (by omega) 15 l _ (by simp <;> omega)]
  · simp only [hr, if_false]
    rw [Uback, if_pos (by omega), U_eq R ⟨(r + 512 - 1) % 512, Nat.mod_lt _ (by decide)⟩ l _ (by simp only; omega)]

/-- the signal two rows back -/
theorem signal2 (R : Rows X D n x0 x1 x2 x3 x4) (i : grid0.Coords) (hi : (i 0).val = n) (r : Fin 512) (l : Fin 256) :
    k0_pay9 (F := Ideal) i x0 x1 (ix2 r l) = Uback X 2 (512 * n + r) l := by
  have hn := R.lt
  pointwise [k0_pay9, k0_pay7, k0_pay6, k0_pay4, k0_pay5, k0_pay1]
  simp only [hi, Scalar.cmpi]
  word_cmp
  by_cases h1 : (r : ℕ) = 1
  · by_cases h0 : n = 0
    · simp only [h1, h0, if_true]; rw [Uback, if_neg (by omega)]
    · simp only [h1, h0, if_true, if_false]
      rw [Uback, if_pos (by omega), U_before R (by omega) 15 l _ (by simp <;> omega)]
  by_cases hr : (r : ℕ) = 0
  · by_cases h0 : n = 0
    · simp only [hr, h0, if_true, if_false, zero_ne_one]; rw [Uback, if_neg (by omega)]
    · simp only [hr, h0, if_true, if_false, zero_ne_one]
      rw [Uback, if_pos (by omega), U_before R (by omega) 14 l _ (by simp <;> omega)]
  · simp only [h1, hr, if_false]
    rw [Uback, if_pos (by omega), U_eq R ⟨(r + 512 - 2) % 512, Nat.mod_lt _ (by decide)⟩ l _ (by simp only; omega)]

/-- the gradient that reaches the convolution -/
theorem upstream (R : Rows X D n x0 x1 x2 x3 x4) (r : Fin 512) (l : Fin 256) :
    k0_pay14 (F := Ideal) (k0_pay3 x0) x3 (ix2 r l) = dV X D (512 * n + r) l := by
  pointwise [k0_pay14, k0_pay13, k0_pay3, k0_pay1]
  rw [V_eq R r l _ rfl]

/-- the convolution -/
theorem convolved (R : Rows X D n x0 x1 x2 x3 x4) (i : grid0.Coords) (hi : (i 0).val = n) (w : FVec Ideal S3x256 .f32) (r : Fin 512) (l : Fin 256) :
    k0_pay12 (F := Ideal) (k0_pay8 i x0 x1) (k0_pay9 i x0 x1) w (k0_pay10 x0 w) (k0_pay11 w) (ix2 r l) = conv X w (512 * n + r) l := by
  pointwise [k0_pay12, k0_pay10, k0_pay11]
  rw [conv, signal0 R, signal1 R i hi, signal2 R i hi]

/-- the gradient of the convolution's input: two rotations the other way, their last rows from the block after -/
theorem dsignal (R : Rows X D n x0 x1 x2 x3 x4) (w : FVec Ideal S3x256 .f32) (r : Fin 512) (l : Fin 256) :
    k0_pay15 (F := Ideal) (BitVec.ofNat 32 n) (k0_pay2 x2) (k0_pay3 x0) w x3 x4 (ix2 r l) = dU X D w (512 * n + r) l := by
  have hn := R.lt
  pointwise [k0_pay15, k0_pay14, k0_pay13, k0_pay3, k0_pay2, k0_pay1]
  simp only [Scalar.cmpi]
  word_cmp
  rw [dU, V_eq R r l _ rfl]
  congr 1
  · congr 2
    by_cases hr : (r : ℕ) = 511
    · by_cases h0 : n = 31
      · simp only [hr, h0, if_true]; rw [V_past _ (by omega)]
      · simp only [hr, h0, if_true, if_false]
        rw [V_after R (by omega) 0 l _ (by simp)]
    · simp only [hr, if_false]
      rw [V_eq R ⟨(r + 512 - 511) % 512, Nat.mod_lt _ (by decide)⟩ l _ (by simp only; omega)]
  · congr 1
    by_cases h1 : (r : ℕ) = 511
    · by_cases h0 : n = 31
      · simp only [h1, h0, if_true]; rw [V_past _ (by omega)]
      · simp only [h1, h0, if_true, if_false]
        rw [V_after R (by omega) 1 l _ (by simp <;> omega)]
    by_cases hr : (r : ℕ) = 510
    · by_cases h0 : n = 31
      · simp only [h1, hr, h0, if_true, if_false]; rw [V_past _ (by omega)]; simp
      · simp only [h1, hr, h0, if_true, if_false]
        rw [V_after R (by omega) 0 l _ (by simp <;> omega)]; simp
    · simp only [h1, hr, if_false]
      rw [V_eq R ⟨(r + 512 - 510) % 512, Nat.mod_lt _ (by decide)⟩ l _ (by simp only; omega)]

variable (m : (ℓ : Loc nD τ sig) → Buf (Elt Ideal) ℓ)

/-- The blocks of point `t` are the rows of the argument arrays. -/
theorem rows (c : Dev nD) (t : Fin cfg0.N) :
    Rows (m (c.tc.loc main_arg0)) (m (c.tc.loc main_arg1)) t.val
      (iblk m c 0 t) (iblk m c 1 t) (iblk m c 2 t) (iblk m c 3 t) (iblk m c 4 t) where
  lt := (idx_val t).1
  main r k := by blk_ext [iblk, V, idx_val t]
  before h r k := by blk_ext [iblk, V, idx_val t]
  after h r k := by blk_ext [iblk, V, idx_val t]
  dmain r k := by blk_ext [iblk, V, idx_val t]
  dafter h r k := by blk_ext [iblk, V, idx_val t]

theorem taps (c : Dev nD) (t : Fin cfg0.N) : iblk m c 5 t = m (c.tc.loc main_arg2) := by
  blk_ext! [iblk, V, idx_val t]

end Cert.KernelIdeal.ShortConv

end
-- ==== Proof.ShortConv.Final.lean ====
/- The four arrays after the kernel's run: the gradient array, written block by block, and the three tap
   gradients, each a sum the points add to one after another. -/
module

public import proofs.«01_k».proof.Proof.ShortConv.Block

@[expose] public section

set_option maxRecDepth 16384

noncomputable section

open Idealize.ShloMosaic Idealize.ShloMosaic.TcCoe Idealize.SL.Sem
open Idealize.ShloMosaic.Pipeline (Dat)

namespace Cert.KernelIdeal.ShortConv

open Cert.KernelIdeal Cert.KernelIdeal.Gen
open Cert.ShortConv (U Uback dV conv dU grad gradArr gradTap tapTerm)

variable (m : (ℓ : Loc nD τ sig) → Buf (Elt Ideal) ℓ)

/-- The gradient array at a row and a column of one of its three column groups. -/
theorem grad_at (X : FVec Ideal S16384x6144 .bf16) (D : FVec Ideal S16384x256 .bf16) (W : FVec Ideal S3x256 .f32)
    (j : S16384x768.Idx) (q s : ℕ) (l : Fin 256) (h0 : (j 0 : ℕ) = s) (h1 : (j 1 : ℕ) = 256 * q + l) :
    gradArr X D W j = grad X D W ⟨s, h0 ▸ (j 0).isLt⟩ q l := by
  subst h0
  unfold gradArr
  congr 1
  · omega
  · exact Fin.ext (by simp only; omega)

/-- The first column group a point stores: the gradient of the gate `B`. -/
theorem store_gate (c : Dev nD) (t : Fin cfg0.N) (x : S512x256.Idx) (j : S16384x768.Idx)
    (h0 : (j 0 : ℕ) = 512 * t.val + x 0) (h1 : (j 1 : ℕ) = 0 + x 1) :
    k0_pay16 (F := Ideal) (k0_pay12 (k0_pay8 (grid0.coords t) (iblk m c 0 t) (iblk m c 1 t))
        (k0_pay9 (grid0.coords t) (iblk m c 0 t) (iblk m c 1 t)) (iblk m c 5 t) (k0_pay10 (iblk m c 0 t) (iblk m c 5 t))
        (k0_pay11 (iblk m c 5 t))) (k0_pay13 (iblk m c 3 t)) x
      = gradArr (m (c.tc.loc main_arg0)) (m (c.tc.loc main_arg1)) (m (c.tc.loc main_arg2)) j := by
  have R := rows m c t
  have ht := (idx_val t).2.1
  idx_vars x
  have hr := grad_at (m (c.tc.loc main_arg0)) (m (c.tc.loc main_arg1)) (m (c.tc.loc main_arg2)) j 0 (512 * t.val + x0) x1 h0 h1
  refine Eq.trans ?_ hr.symm
  pointwise [k0_pay16, k0_pay13]
  rw [convolved R _ ht, taps, grad, if_pos rfl, R.dmain]

/-- The second column group: the gradient of the gate `C`. -/
theorem store_c (c : Dev nD) (t : Fin cfg0.N) (x : S512x256.Idx) (j : S16384x768.Idx)
    (h0 : (j 0 : ℕ) = 512 * t.val + x 0) (h1 : (j 1 : ℕ) = 256 + x 1) :
    k0_pay17 (F := Ideal) (k0_pay5 (iblk m c 0 t))
      (k0_pay15 (BitVec.ofNat 32 ↑(grid0.coords t 0)) (k0_pay2 (iblk m c 2 t)) (k0_pay3 (iblk m c 0 t)) (iblk m c 5 t)
        (iblk m c 3 t) (iblk m c 4 t)) x
      = gradArr (m (c.tc.loc main_arg0)) (m (c.tc.loc main_arg1)) (m (c.tc.loc main_arg2)) j := by
  have R := rows m c t
  have ht := (idx_val t).2.1
  idx_vars x
  have hr := grad_at (m (c.tc.loc main_arg0)) (m (c.tc.loc main_arg1)) (m (c.tc.loc main_arg2)) j 1 (512 * t.val + x0) x1 h0 h1
  refine Eq.trans ?_ hr.symm
  pointwise [k0_pay17, k0_pay5, k0_pay1]
  rw [ht, dsignal R, taps, grad, if_neg (by decide), if_pos rfl, R.main]

/-- The third column group: the gradient of `x`. -/
theorem store_x (c : Dev nD) (t : Fin cfg0.N) (x : S512x256.Idx) (j : S16384x768.Idx)
    (h0 : (j 0 : ℕ) = 512 * t.val + x 0) (h1 : (j 1 : ℕ) = 512 + x 1) :
    k0_pay18 (F := Ideal) (k0_pay4 (iblk m c 0 t))
      (k0_pay15 (BitVec.ofNat 32 ↑(grid0.coords t 0)) (k0_pay2 (iblk m c 2 t)) (k0_pay3 (iblk m c 0 t)) (iblk m c 5 t)
        (iblk m c 3 t) (iblk m c 4 t)) x
      = gradArr (m (c.tc.loc main_arg0)) (m (c.tc.loc main_arg1)) (m (c.tc.loc main_arg2)) j := by
  have R := rows m c t
  have ht := (idx_val t).2.1
  idx_vars x
  have hr := grad_at (m (c.tc.loc main_arg0)) (m (c.tc.loc main_arg1)) (m (c.tc.loc main_arg2)) j 2 (512 * t.val + x0) x1 h0 h1
  refine Eq.trans ?_ hr.symm
  pointwise [k0_pay18, k0_pay4, k0_pay1]
  rw [ht, dsignal R, taps, grad, if_neg (by decide), if_neg (by decide), R.main]

/-- The gradient array after the run. -/
theorem final6 (c : Dev nD) : (dats m 0 c).arrAt 6 (cfgs 0).N
    = gradArr (m (c.tc.loc main_arg0)) (m (c.tc.loc main_arg1)) (m (c.tc.loc main_arg2)) := by
  refine (dats m 0 c).arrAt_eq_of_covers 6 _ (by decide +kernel) fun t _ y => ?_
  blk_simp
  rw [after0_6]
  by_cases h : t.val % 32 = 0
  · rw [outsAt0_A m c t h]; frame_out
    canon_tiles x h
    · refine store_x m c t x _ ?_ ?_ <;> (blk_simp [idx_val t] <;> try omega)
    · refine store_c m c t x _ ?_ ?_ <;> (blk_simp [idx_val t] <;> try omega)
    · refine store_gate m c t x _ ?_ ?_ <;> (blk_simp [idx_val t] <;> try omega)
  · rw [outsAt0_B m c t h]; frame_out
    canon_tiles x h
    · refine store_x m c t x _ ?_ ?_ <;> (blk_simp [idx_val t] <;> try omega)
    · refine store_c m c t x _ ?_ ?_ <;> (blk_simp [idx_val t] <;> try omega)
    · refine store_gate m c t x _ ?_ ?_ <;> (blk_simp [idx_val t] <;> try omega)

/-- What a point adds to the gradient of the tap that looks 2 rows back. -/
theorem add7 (c : Dev nD) (t : Fin cfg0.N) (acc : FVec Ideal S1x256 .f32) (j : S1x256.Idx) :
    k0_pay22 (F := Ideal) (k0_pay9 (grid0.coords t) (iblk m c 0 t) (iblk m c 1 t)) (k0_pay14 (k0_pay3 (iblk m c 0 t)) (iblk m c 3 t)) acc j
      = acc j + ∑ r : Fin 512, tapTerm (m (c.tc.loc main_arg0)) (m (c.tc.loc main_arg1)) 2 (512 * t.val + r) ⟨j 1, (j 1).isLt⟩ := by
  have R := rows m c t
  have ht := (idx_val t).2.1
  idx_vars j
  pointwise [k0_pay22]
  refine congrArg _ (Finset.sum_congr rfl fun r _ => ?_)
  rw [tapTerm, upstream R, signal2 R _ ht]

/-- The gradient of the tap that looks 2 rows back, after the run. -/
theorem final7 (c : Dev nD) : (dats m 0 c).arrAt 7 (cfgs 0).N
    = gradTap (m (c.tc.loc main_arg0)) (m (c.tc.loc main_arg1)) 2 := by
  refine (dats m 0 c).arrAt_eq_of_covers 7 _ (by decide +kernel) fun t hf y => ?_
  have hlt := (idx_val t).1
  blk_simp
  rw [after0_7, Pipeline.eq_sum_fin_of_reset_step_apply_of_flush (fun n h => (outsAt0 m c n h).2.1) 32 (fun _ => 0)
    (fun p j => ∑ r : Fin 512, tapTerm (m (c.tc.loc main_arg0)) (m (c.tc.loc main_arg1)) 2 (512 * p.val + r) ⟨j 1, (j 1).isLt⟩)
    (fun t h j => by
      rw [outsAt0_A m c t h]; frame_out
      rw [add7 m c t]
      exact congrArg (· + _) (by pointwise [k0_pay19]))
    (fun t h j => by
      rw [outsAt0_B m c t h]; frame_out
      exact add7 m c t _ j)
    t ((flush0_7 t).mp hf) _, zero_add, Cert.ShortConv.gradTap_blocks]
  have h0 : 32 * (t.val / 32) = 0 := by omega
  have h1 : ((((win0_7.blk t).view.emb y) 1 : Fin _) : ℕ) = (y 1 : ℕ) := by blk_simp [idx_val t]
  simp only [h0, zero_add, h1]

/-- What a point adds to the gradient of the tap that looks 1 rows back. -/
theorem add8 (c : Dev nD) (t : Fin cfg0.N) (acc : FVec Ideal S1x256 .f32) (j : S1x256.Idx) :
    k0_pay23 (F := Ideal) (k0_pay8 (grid0.coords t) (iblk m c 0 t) (iblk m c 1 t)) (k0_pay14 (k0_pay3 (iblk m c 0 t)) (iblk m c 3 t)) acc j
      = acc j + ∑ r : Fin 512, tapTerm (m (c.tc.loc main_arg0)) (m (c.tc.loc main_arg1)) 1 (512 * t.val + r) ⟨j 1, (j 1).isLt⟩ := by
  have R := rows m c t
  have ht := (idx_val t).2.1
  idx_vars j
  pointwise [k0_pay23]
  refine congrArg _ (Finset.sum_congr rfl fun r _ => ?_)
  rw [tapTerm, upstream R, signal1 R _ ht]

/-- The gradient of the tap that looks 1 rows back, after the run. -/
theorem final8 (c : Dev nD) : (dats m 0 c).arrAt 8 (cfgs 0).N
    = gradTap (m (c.tc.loc main_arg0)) (m (c.tc.loc main_arg1)) 1 := by
  refine (dats m 0 c).arrAt_eq_of_covers 8 _ (by decide +kernel) fun t hf y => ?_
  have hlt := (idx_val t).1
  blk_simp
  rw [after0_8, Pipeline.eq_sum_fin_of_reset_step_apply_of_flush (fun n h => (outsAt0 m c n h).2.2.1) 32 (fun _ => 0)
    (fun p j => ∑ r : Fin 512, tapTerm (m (c.tc.loc main_arg0)) (m (c.tc.loc main_arg1)) 1 (512 * p.val + r) ⟨j 1, (j 1).isLt⟩)
    (fun t h j => by
      rw [outsAt0_A m c t h]; frame_out
      rw [add8 m c t]
      exact congrArg (· + _) (by pointwise [k0_pay20]))
    (fun t h j => by
      rw [outsAt0_B m c t h]; frame_out
      exact add8 m c t _ j)
    t ((flush0_8 t).mp hf) _, zero_add, Cert.ShortConv.gradTap_blocks]
  have h0 : 32 * (t.val / 32) = 0 := by omega
  have h1 : ((((win0_8.blk t).view.emb y) 1 : Fin _) : ℕ) = (y 1 : ℕ) := by blk_simp [idx_val t]
  simp only [h0, zero_add, h1]

/-- What a point adds to the gradient of the tap that looks 0 rows back. -/
theorem add9 (c : Dev nD) (t : Fin cfg0.N) (acc : FVec Ideal S1x256 .f32) (j : S1x256.Idx) :
    k0_pay24 (F := Ideal) (k0_pay6 (iblk m c 0 t)) (k0_pay14 (k0_pay3 (iblk m c 0 t)) (iblk m c 3 t)) acc j
      = acc j + ∑ r : Fin 512, tapTerm (m (c.tc.loc main_arg0)) (m (c.tc.loc main_arg1)) 0 (512 * t.val + r) ⟨j 1, (j 1).isLt⟩ := by
  have R := rows m c t
  have ht := (idx_val t).2.1
  idx_vars j
  pointwise [k0_pay24]
  refine congrArg _ (Finset.sum_congr rfl fun r _ => ?_)
  rw [tapTerm, upstream R, signal0 R]

/-- The gradient of the tap that looks 0 rows back, after the run. -/
theorem final9 (c : Dev nD) : (dats m 0 c).arrAt 9 (cfgs 0).N
    = gradTap (m (c.tc.loc main_arg0)) (m (c.tc.loc main_arg1)) 0 := by
  refine (dats m 0 c).arrAt_eq_of_covers 9 _ (by decide +kernel) fun t hf y => ?_
  have hlt := (idx_val t).1
  blk_simp
  rw [after0_9, Pipeline.eq_sum_fin_of_reset_step_apply_of_flush (fun n h => (outsAt0 m c n h).2.2.2) 32 (fun _ => 0)
    (fun p j => ∑ r : Fin 512, tapTerm (m (c.tc.loc main_arg0)) (m (c.tc.loc main_arg1)) 0 (512 * p.val + r) ⟨j 1, (j 1).isLt⟩)
    (fun t h j => by
      rw [outsAt0_A m c t h]; frame_out
      rw [add9 m c t]
      exact congrArg (· + _) (by pointwise [k0_pay21]))
    (fun t h j => by
      rw [outsAt0_B m c t h]; frame_out
      exact add9 m c t _ j)
    t ((flush0_9 t).mp hf) _, zero_add, Cert.ShortConv.gradTap_blocks]
  have h0 : 32 * (t.val / 32) = 0 := by omega
  have h1 : ((((win0_9.blk t).view.emb y) 1 : Fin _) : ℕ) = (y 1 : ℕ) := by blk_simp [idx_val t]
  simp only [h0, zero_add, h1]

end Cert.KernelIdeal.ShortConv

end
-- ==== Proof.ShortConv.Ref.lean ====
/- The reference's results are the row-by-row formula: its padded signal, its shifted products and its sums, read
   at an index. -/
module

public import proofs.«01_k».proof.Proof.Gen.ReferenceIdeal.Run
public import proofs.«01_k».proof.Proof.ShortConv.Spec
public import Idealize.ShloMosaic.Lib.WordCmp

@[expose] public section

set_option maxRecDepth 16384

noncomputable section

open Idealize.ShloMosaic Idealize.ShloMosaic.TcCoe Idealize.SL.Sem

namespace Cert.ReferenceIdeal.ShortConv

open Cert.ReferenceIdeal Cert.ReferenceIdeal.Gen Cert.ReferenceIdeal.Value
open Cert.ShortConv (U Uback dV conv dU grad gradArr gradTap tapTerm)

variable (m : (ℓ : Loc nD τ sig) → Buf (Elt Ideal) ℓ)

/-- One row back in the padded signal. -/
theorem back_padded (X : FVec Ideal S16384x6144 .bf16) (r : Fin 16384) (l : Fin 256) :
    (if h : 1 + (r : ℕ) < 2 then (0 : EReal) else
      X (ix2 ⟨1 + r - 2, by omega⟩ ⟨256 + l, by omega⟩) * X (ix2 ⟨1 + r - 2, by omega⟩ ⟨512 + l, by omega⟩)) = Uback X 1 r l := by
  by_cases h : 1 + (r : ℕ) < 2
  · rw [dif_pos h, Uback, if_neg (by omega)]
  · have e : 1 + (r : ℕ) - 2 = r - 1 := by omega
    rw [dif_neg h, Uback, if_pos (by omega), U, dif_pos (by omega)]
    simp only [e]

/-- The reference's convolution, oldest row first, each tap's row guarded by the padding's test. -/
theorem conv_padded (X : FVec Ideal S16384x6144 .bf16) (W : FVec Ideal S3x256 .f32) (r : Fin 16384) (l : Fin 256) :
    ((W (ix2 0 l) * if h : (r : ℕ) < 2 then (0 : EReal) else
          X (ix2 ⟨r - 2, by omega⟩ ⟨256 + l, by omega⟩) * X (ix2 ⟨r - 2, by omega⟩ ⟨512 + l, by omega⟩))
        + W (ix2 1 l) * if h : 1 + (r : ℕ) < 2 then (0 : EReal) else
          X (ix2 ⟨1 + r - 2, by omega⟩ ⟨256 + l, by omega⟩) * X (ix2 ⟨1 + r - 2, by omega⟩ ⟨512 + l, by omega⟩))
      + W (ix2 2 l) * (X (ix2 r ⟨256 + l, by omega⟩) * X (ix2 r ⟨512 + l, by omega⟩)) = conv X W r l := by
  have e0 : Uback X 0 r l = X (ix2 r ⟨256 + l, by omega⟩) * X (ix2 r ⟨512 + l, by omega⟩) := by
    rw [Uback, if_pos (by omega), U, dif_pos (by omega)]; rfl
  have e1 := back_padded X r l
  have e2 : (if h : (r : ℕ) < 2 then (0 : EReal) else
      X (ix2 ⟨r - 2, by omega⟩ ⟨256 + l, by omega⟩) * X (ix2 ⟨r - 2, by omega⟩ ⟨512 + l, by omega⟩)) = Uback X 2 r l := by
    by_cases h : (r : ℕ) < 2
    · rw [dif_pos h, Uback, if_neg (by omega)]
    · rw [dif_neg h, Uback, if_pos (by omega), U, dif_pos (by omega)]
  rw [e1, e2, ← e0, conv]
  ac_rfl

/-- The reference's gradient of the convolved signal: three padded products added, at one row. -/
theorem dU_padded (X : FVec Ideal S16384x6144 .bf16) (D : FVec Ideal S16384x256 .bf16) (W : FVec Ideal S3x256 .f32) (r : Fin 16384) (l : Fin 256) :
    ((W (ix2 2 l) * (X (ix2 r ⟨l, by omega⟩) * D (ix2 r l))
        + if h : 1 ≤ 2 + (r : ℕ) ∧ 2 + (r : ℕ) - 1 < 16384 then
            W (ix2 1 l) * (X (ix2 ⟨2 + r - 1, by omega⟩ ⟨l, by omega⟩) * D (ix2 ⟨2 + r - 1, by omega⟩ l)) else (0 : EReal))
      + if h : 2 + (r : ℕ) < 16384 then
          W (ix2 0 l) * (X (ix2 ⟨2 + r, by omega⟩ ⟨l, by omega⟩) * D (ix2 ⟨2 + r, by omega⟩ l)) else (0 : EReal)) = dU X D W r l := by
  rw [dU]
  refine congrArg₂ (· + ·) (congrArg₂ (· + ·) ?_ ?_) ?_
  · rw [dV, dif_pos (by omega), mul_comm (X _)]
  · by_cases h : 2 + (r : ℕ) - 1 < 16384
    · have e : 2 + (r : ℕ) - 1 = r + 1 := by omega
      rw [dif_pos ⟨by omega, h⟩, dV, dif_pos (by omega), mul_comm (X _)]
      simp only [e]
    · rw [dif_neg (by omega), dV, dif_neg (by omega), mul_zero]
  · by_cases h : 2 + (r : ℕ) < 16384
    · have e : 2 + (r : ℕ) = r + 2 := by omega
      rw [dif_pos h, dV, dif_pos (by omega), mul_comm (X _)]
      simp only [e]
    · rw [dif_neg h, dV, dif_neg (by omega), mul_zero]

/-- The reference's tap gradients leave out the rows before the first: the padded rows add nothing. -/
theorem gradTap_cut (X : FVec Ideal S16384x6144 .bf16) (D : FVec Ideal S16384x256 .bf16) (k n : ℕ) (hk : k + n = 16384) (l : Fin 256) :
    gradTap X D k (ix2 0 l) = ∑ r : Fin n, X (ix2 ⟨k + r, by omega⟩ ⟨l, by omega⟩) * D (ix2 ⟨k + r, by omega⟩ l)
      * (X (ix2 ⟨r, by omega⟩ ⟨256 + l, by omega⟩) * X (ix2 ⟨r, by omega⟩ ⟨512 + l, by omega⟩)) := by
  rw [gradTap, Fin.sum_univ_two_halves k n hk, Finset.sum_eq_zero, zero_add]
  · refine Finset.sum_congr rfl fun r _ => ?_
    have e : k + (r : ℕ) - k = r := by omega
    rw [Uback, if_pos (by simp only; omega), dV, dif_pos (by simp only; omega), U, dif_pos (by simp only; omega)]
    simp only [e]
    rw [mul_comm (D _)]
    rfl
  · intro r _
    rw [Uback, if_neg (by simp only; omega), mul_zero]

theorem gradTap_padded (X : FVec Ideal S16384x6144 .bf16) (D : FVec Ideal S16384x256 .bf16) (l : Fin 256) :
    gradTap X D 1 (ix2 0 l) = ∑ r : Fin 16384, X (ix2 r ⟨l, by omega⟩) * D (ix2 r l)
      * (if h : 1 + (r : ℕ) < 2 then (0 : EReal) else
          X (ix2 ⟨1 + r - 2, by omega⟩ ⟨256 + l, by omega⟩) * X (ix2 ⟨1 + r - 2, by omega⟩ ⟨512 + l, by omega⟩)) := by
  rw [gradTap]
  refine Finset.sum_congr rfl fun r _ => ?_
  rw [back_padded X r l, dV, dif_pos r.isLt, mul_comm (D _)]
  rfl

theorem gradTap_whole (X : FVec Ideal S16384x6144 .bf16) (D : FVec Ideal S16384x256 .bf16) (l : Fin 256) :
    gradTap X D 0 (ix2 0 l) = ∑ r : Fin 16384, X (ix2 r ⟨l, by omega⟩) * D (ix2 r l)
      * (X (ix2 r ⟨256 + l, by omega⟩) * X (ix2 r ⟨512 + l, by omega⟩)) := by
  rw [gradTap_cut X D 0 16384 rfl]
  simp only [zero_add]

theorem ref_gate (c : Dev nD) (r : Fin 16384) (l : Fin 256) : res_main_v56 (F := Ideal) m c (ix2 r ⟨l, by omega⟩)
    = grad (m (c.tc.loc main_arg0)) (m (c.tc.loc main_arg1)) (m (c.tc.loc main_arg2)) r 0 l := by
  have hl : (l : ℕ) < 256 := l.isLt
  pointwise [res_main_v56, hl]
  exact congrArg _ (conv_padded _ _ r l)

theorem ref_c (c : Dev nD) (r : Fin 16384) (l : Fin 256) : res_main_v56 (F := Ideal) m c (ix2 r ⟨256 + l, by omega⟩)
    = grad (m (c.tc.loc main_arg0)) (m (c.tc.loc main_arg1)) (m (c.tc.loc main_arg2)) r 1 l := by
  pointwise [res_main_v56]
  exact congrArg (· * _) (dU_padded _ _ _ r l)

theorem ref_x (c : Dev nD) (r : Fin 16384) (l : Fin 256) : res_main_v56 (F := Ideal) m c (ix2 r ⟨512 + l, by omega⟩)
    = grad (m (c.tc.loc main_arg0)) (m (c.tc.loc main_arg1)) (m (c.tc.loc main_arg2)) r 2 l := by
  have e1 : 512 + (l : ℕ) - 256 - 256 = l := by omega
  have e2 : (512 + (l : ℕ) < 256) = False := eq_false (by omega)
  have e3 : (512 + (l : ℕ) - 256 < 256) = False := eq_false (by omega)
  pointwise [res_main_v56, e1, e2, e3]
  exact (congrArg _ (dU_padded _ _ _ r l)).trans (@mul_comm EReal _ _ _)

/-- The gradient array the reference returns. -/
theorem ref_grad (c : Dev nD) : res_main_v56 (F := Ideal) m c
    = gradArr (m (c.tc.loc main_arg0)) (m (c.tc.loc main_arg1)) (m (c.tc.loc main_arg2)) := by
  funext j
  idx_vars j
  have hj := j1.isLt
  unfold gradArr
  rcases (by omega : (j1 : ℕ) / 256 = 0 ∨ (j1 : ℕ) / 256 = 1 ∨ (j1 : ℕ) / 256 = 2) with h | h | h
  · refine Eq.trans (congrArg _ ?_) ((ref_gate m c j0 ⟨(j1 : ℕ) % 256, Nat.mod_lt _ (by decide)⟩).trans ?_)
    · exact congrArg _ (Fin.ext (by simp only; omega))
    · exact congrArg (fun q => grad _ _ _ j0 q _) h.symm
  · refine Eq.trans (congrArg _ ?_) ((ref_c m c j0 ⟨(j1 : ℕ) % 256, Nat.mod_lt _ (by decide)⟩).trans ?_)
    · exact congrArg _ (Fin.ext (by simp only; omega))
    · exact congrArg (fun q => grad _ _ _ j0 q _) h.symm
  · refine Eq.trans (congrArg _ ?_) ((ref_x m c j0 ⟨(j1 : ℕ) % 256, Nat.mod_lt _ (by decide)⟩).trans ?_)
    · exact congrArg _ (Fin.ext (by simp only; omega))
    · exact congrArg (fun q => grad _ _ _ j0 q _) h.symm

/-- The reference runs and leaves the row-by-row formula in its four results. -/
theorem run_spec (ρ : Dev nD → PrngReg) :
    θ_run defs (onTc (τ := τ) (main (F := Ideal))) ⟨m, fun _ => 0, ρ⟩ fun r => ∀ c : Dev nD,
      r.2.mem ((c.tc : Thread nD τ).loc main_v56) = gradArr (m (c.tc.loc main_arg0)) (m (c.tc.loc main_arg1)) (m (c.tc.loc main_arg2))
      ∧ r.2.mem ((c.tc : Thread nD τ).loc main_v57) = gradTap (m (c.tc.loc main_arg0)) (m (c.tc.loc main_arg1)) 2
      ∧ r.2.mem ((c.tc : Thread nD τ).loc main_v58) = gradTap (m (c.tc.loc main_arg0)) (m (c.tc.loc main_arg1)) 1
      ∧ r.2.mem ((c.tc : Thread nD τ).loc main_v59) = gradTap (m (c.tc.loc main_arg0)) (m (c.tc.loc main_arg1)) 0
      ∧ r.2.mem ((c.tc : Thread nD τ).loc main_arg0) = m (c.tc.loc main_arg0)
      ∧ r.2.mem ((c.tc : Thread nD τ).loc main_arg1) = m (c.tc.loc main_arg1)
      ∧ r.2.mem ((c.tc : Thread nD τ).loc main_arg2) = m (c.tc.loc main_arg2) := by
  refine (θ_run defs _ _).mono (fun r h c => ?_) (run (F := Ideal) m ρ)
  obtain ⟨h56, h57, h58, h59, ha0, ha1, ha2⟩ := h c
  clear h
  refine ⟨h56.trans (ref_grad m c), h57.trans ?_, h58.trans ?_, h59.trans ?_, ha0, ha1, ha2⟩
  all_goals
    clear h56 h57 h58 h59 ha0 ha1 ha2
    funext j
    idx_vars j
    obtain rfl : j0 = 0 := Subsingleton.elim _ _
    pointwise
  · rw [gradTap_cut _ _ 2 16382 rfl]
    simp only [mul_zero, Finset.sum_const_zero, zero_add]
  · exact (gradTap_padded _ _ j1).symm
  · exact (gradTap_whole _ _ j1).symm

end Cert.ReferenceIdeal.ShortConv

end
-- ==== Proof.Products.Spec.lean ====
/- The three matrix products of a linear layer, entry by entry: the product itself, the gradient of its weight and
   the gradient of its input. -/
module

public import Idealize.ShloMosaic.Lib.Pipeline.ValueKit
public import Idealize.ShloMosaic.Lib.Pointwise

@[expose] public section

noncomputable section

open Idealize.ShloMosaic

namespace Cert.Product

/-- Entry `(i, j)` of `x w`: the sum over the shared axis. -/
def forwardProduct {a n b : ℕ} (x : FVec Ideal ⟨2, ![a, n]⟩ .bf16) (w : FVec Ideal ⟨2, ![n, b]⟩ .bf16) (i : Fin a) (j : Fin b) : EReal :=
  ∑ k : Fin n, x (ix2 i k) * w (ix2 k j)

/-- Entry `(i, j)` of `xᵀ d`, the gradient of the weight: the sum over the rows. -/
def gradWeight {n a b : ℕ} (x : FVec Ideal ⟨2, ![n, a]⟩ .bf16) (d : FVec Ideal ⟨2, ![n, b]⟩ .bf16) (i : Fin a) (j : Fin b) : EReal :=
  ∑ r : Fin n, x (ix2 r i) * d (ix2 r j)

/-- Entry `(i, j)` of `d wᵀ`, the gradient of the input: the sum over the output features. -/
def gradInput {a n b : ℕ} (d : FVec Ideal ⟨2, ![a, n]⟩ .bf16) (w : FVec Ideal ⟨2, ![b, n]⟩ .bf16) (i : Fin a) (j : Fin b) : EReal :=
  ∑ k : Fin n, d (ix2 i k) * w (ix2 j k)

/-- The column of the plain order that stands at place `j` of the kernel's order: of the four quarters, the two in the
    middle change places. -/
def column (j : Fin 5632) : Fin 5632 :=
  ⟨if (j : ℕ) < 1408 then j else if (j : ℕ) < 2816 then j + 1408 else if (j : ℕ) < 4224 then j - 1408 else j, by
    split_ifs <;> omega⟩

/-- The gate's half of a block of the kernel's order. -/
theorem column_gate (b l : ℕ) (hb : b < 2) (hl : l < 1408) (h : 2816 * b + l < 5632) (j : Fin 5632) (hj : (j : ℕ) = 1408 * b + l) :
    j = column ⟨2816 * b + l, h⟩ := by
  refine Fin.ext ?_
  simp only [column]
  split_ifs <;> omega

/-- The other half of a block of the kernel's order. -/
theorem column_up (b l : ℕ) (hb : b < 2) (hl : l < 1408) (h : 2816 * b + (1408 + l) < 5632) (j : Fin 5632) (hj : (j : ℕ) = 2816 + (1408 * b + l)) :
    j = column ⟨2816 * b + (1408 + l), h⟩ := by
  refine Fin.ext ?_
  simp only [column]
  split_ifs <;> omega

/-- Entry `(i, j)` of the gated activation of `x w`: the gate's column `j` times its logistic, times the other half's
    column `j`. -/
def gatedEntry {a n : ℕ} (x : FVec Ideal ⟨2, ![a, n]⟩ .bf16) (w : FVec Ideal ⟨2, ![n, 5632]⟩ .bf16) (i : Fin a) (j : Fin 2816) : EReal :=
  forwardProduct x w i ⟨j, by omega⟩ * Ideal.logistic (forwardProduct x w i ⟨j, by omega⟩) * forwardProduct x w i ⟨2816 + j, by omega⟩

end Cert.Product

end
-- ==== Proof.Products.GwFfnIn.lean ====
/- The weight gradient of the feed-forward's first product: the kernel sums eight blocks of rows in a scratch. -/
module

public import proofs.«01_k».proof.Defs
public import proofs.«01_k».proof.Proof.Gen.Kernel3Ideal.Value
public import proofs.«01_k».proof.Proof.Gen.Reference3Ideal.Run
public import proofs.«01_k».proof.Proof.Products.Spec

@[expose] public section

set_option maxRecDepth 16384

noncomputable section

open Idealize.ShloMosaic Idealize.ShloMosaic.TcCoe Idealize.SL.Sem
open Idealize.ShloMosaic.Pipeline (Dat)
open Cert.Product (gradWeight)

namespace Cert.Kernel3Ideal.Product

open Cert.Kernel3Ideal Cert.Kernel3Ideal.Gen

variable (m : (ℓ : Loc nD τ sig) → Buf (Elt Ideal) ℓ)

/-- Where the three windows' blocks lie at point `t`. -/
theorem idx_val : ∀ t : Fin cfg0.N, win0_0.index t = ![t.val % 8, t.val / 32] ∧ win0_1.index t = ![t.val % 8, t.val / 8 % 4] ∧ win0_2.index t = ![t.val / 32, t.val / 8 % 4] :=
  (by decide +kernel : ∀ t : Fin grid0.N, _)

/-- What the first point of a run leaves in the scratch: its own blocks' product. -/
theorem first (x : FVec Ideal S2048x1024 .bf16) (d : FVec Ideal S2048x1408 .bf16) (y : S1024x1408.Idx) :
    k0_pay2 (F := Ideal) x d y = gradWeight x d (y 0) (y 1) := by
  idx_vars y
  pointwise [k0_pay2, k0_pay1, gradWeight]

/-- What a later point leaves: its blocks' product more. -/
theorem later (x : FVec Ideal S2048x1024 .bf16) (d : FVec Ideal S2048x1408 .bf16) (a : FVec Ideal S1024x1408 .f32) (y : S1024x1408.Idx) :
    k0_pay3 (F := Ideal) x d a y = a y + gradWeight x d (y 0) (y 1) := by
  idx_vars y
  pointwise [k0_pay3, k0_pay1, gradWeight]

/-- The scratch after a run's last point: the sum of the products of the run's blocks. -/
theorem scratch (c : Dev nD) (t : Fin cfg0.N) (h : t.val % 8 = 7) (y : S1024x1408.Idx) :
    (outsAt0 m c t.val t.isLt).2 y = ∑ s : Fin 8, gradWeight (iblk m c 0 ⟨8 * (t.val / 8) + s, Pipeline.run_point_lt_of_flush t h s⟩ : FVec Ideal S2048x1024 .bf16)
      (iblk m c 1 ⟨8 * (t.val / 8) + s, Pipeline.run_point_lt_of_flush t h s⟩ : FVec Ideal S2048x1408 .bf16) (y 0) (y 1) := by
  rw [Pipeline.eq_sum_fin_of_reset_step_apply_of_flush (fun n h => (outsAt0 m c n h).2) 8 (fun _ => (0 : EReal))
    (fun t y => gradWeight (iblk m c 0 t : FVec Ideal S2048x1024 .bf16) (iblk m c 1 t : FVec Ideal S2048x1408 .bf16) (y 0) (y 1))
    (fun t h j => by
      rw [outsAt0_A m c t h (by omega) (by omega)]; dsimp only; frame_out; rw [first]; exact (zero_add _).symm)
    (fun t h j => by
      by_cases hl : t.val % 8 = 7
      · rw [outsAt0_C m c t h (by omega) hl]; dsimp only; frame_out; rw [later]
        exact congrArg (fun f : FVec Ideal S1024x1408 .f32 => f j + gradWeight (iblk m c 0 t : FVec Ideal S2048x1024 .bf16) (iblk m c 1 t : FVec Ideal S2048x1408 .bf16) (j 0) (j 1)) (Memref.IsWhole.read_unread (Memref.isWhole_whole _) _)
      · rw [outsAt0_B m c t h (by omega) hl]; dsimp only; frame_out; rw [later]
        exact congrArg (fun f : FVec Ideal S1024x1408 .f32 => f j + gradWeight (iblk m c 0 t : FVec Ideal S2048x1024 .bf16) (iblk m c 1 t : FVec Ideal S2048x1408 .bf16) (j 0) (j 1)) (Memref.IsWhole.read_unread (Memref.isWhole_whole _) _))
    t h y]
  exact zero_add _

/-- What the last point of a run writes back is what the scratch then holds. -/
theorem written (c : Dev nD) (t : Fin cfg0.N) (h : t.val % 8 = 7) (y : S1024x1408.Idx) :
    (outsAt0 m c t.val t.isLt).1 y = (outsAt0 m c t.val t.isLt).2 y := by
  rw [outsAt0_C m c t (by omega) (by omega) h]
  dsimp only
  frame_out

/-- The array after the run is the product. -/
theorem final (c : Dev nD) : (dats m 0 c).arrAt 2 cfg0.N
    = fun j => gradWeight (m (c.tc.loc main_arg0) : FVec Ideal S16384x1024 .bf16) (m (c.tc.loc main_arg1) : FVec Ideal S16384x5632 .bf16) (j 0) (j 1) := by
  refine (dats m 0 c).arrAt_eq_of_covers 2 _ (by decide +kernel) fun t hf y => ?_
  have hl := (flush0_2 t).mp hf
  blk_simp
  rw [after0_2, written m c t hl, scratch m c t hl]
  unfold gradWeight
  refine Fin.sum_mul_add_congr fun s k hk => ?_
  refine congrArg₂ (fun a b : EReal => a * b) ?_ ?_
  · blk_ext [iblk, V, idx_val t, idx_val ⟨_, Pipeline.run_point_lt_of_flush t hl s⟩]
  · blk_ext [iblk, V, idx_val t, idx_val ⟨_, Pipeline.run_point_lt_of_flush t hl s⟩]

/-- The kernel's run: the result is the product, the arguments are kept. -/
theorem run_spec (ρ : Dev nD → PrngReg) : θ_run defs (onTc (τ := τ) (main (F := Ideal))) ⟨m, fun _ => 0, ρ⟩ fun r => ∀ c : Dev nD,
      r.2.mem (c.tc.loc main_v0)
        = (fun j : S1024x5632.Idx => gradWeight (m (c.tc.loc main_arg0) : FVec Ideal S16384x1024 .bf16) (m (c.tc.loc main_arg1) : FVec Ideal S16384x5632 .bf16) (j 0) (j 1))
      ∧ r.2.mem (c.tc.loc main_arg0) = m (c.tc.loc main_arg0)
      ∧ r.2.mem (c.tc.loc main_arg1) = m (c.tc.loc main_arg1) :=
  (θ_run defs _ _).mono (fun _ h c => ⟨(h c).1.trans (final m c), (h c).2⟩) (Cert.Kernel3Ideal.Value.run_blocks (F := Ideal) m ρ)

end Cert.Kernel3Ideal.Product

namespace Cert.Reference3Ideal.Product

open Cert.Reference3Ideal Cert.Reference3Ideal.Gen

variable (m : (ℓ : Loc nD τ sig) → Buf (Elt Ideal) ℓ)

/-- The reference's run: the result is the product, the arguments are kept. -/
theorem run_spec (ρ : Dev nD → PrngReg) : θ_run defs (onTc (τ := τ) (main (F := Ideal))) ⟨m, fun _ => 0, ρ⟩ fun r => ∀ c : Dev nD,
      r.2.mem (c.tc.loc main_v3)
        = (fun j : S1024x5632.Idx => gradWeight (m (c.tc.loc main_arg0) : FVec Ideal S16384x1024 .bf16) (m (c.tc.loc main_arg1) : FVec Ideal S16384x5632 .bf16) (j 0) (j 1))
      ∧ r.2.mem (c.tc.loc main_arg0) = m (c.tc.loc main_arg0)
      ∧ r.2.mem (c.tc.loc main_arg1) = m (c.tc.loc main_arg1) := by
  refine (θ_run defs _ _).mono (fun r h c => ⟨(h c).1.trans ?_, (h c).2⟩) (Value.run (F := Ideal) m ρ)
  clear h
  funext j
  idx_vars j
  pointwise [gradWeight]
  exact Finset.sum_congr rfl fun _ _ => @mul_comm EReal _ _ _

end Cert.Reference3Ideal.Product

namespace Cert.Proof

/-- The reference runs, keeps its arguments and leaves no counter raised. -/
theorem frame_reference3 : Cert.quiescent_Reference3Ideal (hReference3Ideal := Cert.Reference3Ideal.Gen.facts) := fun m ρ _ =>
  (θ_run Cert.Reference3Ideal.defs _ _).mono (fun r h => ⟨fun c => (h c).2,
    sem_eq_zero_of_no_sems (by decide) r.2⟩) (Cert.Reference3Ideal.Value.run (F := Ideal) m ρ)

/-- Kernel and reference compute the same product. -/
theorem algebraic3 : Cert.algebraic_Kernel3Ideal_Reference3Ideal (hKernel3Ideal := Cert.Kernel3Ideal.Gen.facts)
    (hReference3Ideal := Cert.Reference3Ideal.Gen.facts) := fun m ρ m' ρ' _ hag => by
  refine ⟨_, Cert.Kernel3Ideal.Product.run_spec m ρ, ?_⟩
  refine (θ_run Cert.Reference3Ideal.defs _ _).mono (fun r h c => ?_) (Cert.Reference3Ideal.Product.run_spec m' ρ')
  obtain ⟨h0, h1, h2⟩ := h c
  rw [(hag c).1, (hag c).2] at h0
  exact ⟨h0, h1, h2⟩

end Cert.Proof

end
-- ==== Proof.Products.DH2.lean ====
/- The input gradient of the feed-forward's first product: the kernel sums two blocks of columns in a scratch. -/
module

public import proofs.«01_k».proof.Defs
public import proofs.«01_k».proof.Proof.Gen.Kernel4Ideal.Value
public import proofs.«01_k».proof.Proof.Gen.Reference4Ideal.Run
public import proofs.«01_k».proof.Proof.Products.Spec

@[expose] public section

set_option maxRecDepth 16384

noncomputable section

open Idealize.ShloMosaic Idealize.ShloMosaic.TcCoe Idealize.SL.Sem
open Idealize.ShloMosaic.Pipeline (Dat)
open Cert.Product (gradInput)

namespace Cert.Kernel4Ideal.Product

open Cert.Kernel4Ideal Cert.Kernel4Ideal.Gen

variable (m : (ℓ : Loc nD τ sig) → Buf (Elt Ideal) ℓ)

/-- Where the three windows' blocks lie at point `t`. -/
theorem idx_val : ∀ t : Fin cfg0.N, win0_0.index t = ![t.val / 2, t.val % 2] ∧ win0_1.index t = ![0, t.val % 2] ∧ win0_2.index t = ![t.val / 2, 0] :=
  (by decide +kernel : ∀ t : Fin grid0.N, _)

/-- What the first point of a run leaves in the scratch: its own blocks' product. -/
theorem first (x : FVec Ideal S1024x2816 .bf16) (d : FVec Ideal S1024x2816 .bf16) (y : S1024x1024.Idx) :
    k0_pay2 (F := Ideal) x d y = gradInput x d (y 0) (y 1) := by
  idx_vars y
  pointwise [k0_pay2, k0_pay1, gradInput]

/-- What a later point leaves: its blocks' product more. -/
theorem later (x : FVec Ideal S1024x2816 .bf16) (d : FVec Ideal S1024x2816 .bf16) (a : FVec Ideal S1024x1024 .f32) (y : S1024x1024.Idx) :
    k0_pay3 (F := Ideal) x d a y = a y + gradInput x d (y 0) (y 1) := by
  idx_vars y
  pointwise [k0_pay3, k0_pay1, gradInput]

/-- The scratch after a run's last point: the sum of the products of the run's blocks. -/
theorem scratch (c : Dev nD) (t : Fin cfg0.N) (h : t.val % 2 = 1) (y : S1024x1024.Idx) :
    (outsAt0 m c t.val t.isLt).2 y = ∑ s : Fin 2, gradInput (iblk m c 0 ⟨2 * (t.val / 2) + s, Pipeline.run_point_lt_of_flush t h s⟩ : FVec Ideal S1024x2816 .bf16)
      (iblk m c 1 ⟨2 * (t.val / 2) + s, Pipeline.run_point_lt_of_flush t h s⟩ : FVec Ideal S1024x2816 .bf16) (y 0) (y 1) := by
  rw [Pipeline.eq_sum_fin_of_reset_step_apply_of_flush (fun n h => (outsAt0 m c n h).2) 2 (fun _ => (0 : EReal))
    (fun t y => gradInput (iblk m c 0 t : FVec Ideal S1024x2816 .bf16) (iblk m c 1 t : FVec Ideal S1024x2816 .bf16) (y 0) (y 1))
    (fun t h j => by
      rw [outsAt0_A m c t h (by omega) (by omega)]; dsimp only; frame_out; rw [first]; exact (zero_add _).symm)
    (fun t h j => by
      rw [outsAt0_B m c t h (by omega) (by omega)]; dsimp only; frame_out; rw [later]
      exact congrArg (fun f : FVec Ideal S1024x1024 .f32 => f j + gradInput (iblk m c 0 t : FVec Ideal S1024x2816 .bf16) (iblk m c 1 t : FVec Ideal S1024x2816 .bf16) (j 0) (j 1)) (Memref.IsWhole.read_unread (Memref.isWhole_whole _) _))
    t h y]
  exact zero_add _

/-- What the last point of a run writes back is what the scratch then holds. -/
theorem written (c : Dev nD) (t : Fin cfg0.N) (h : t.val % 2 = 1) (y : S1024x1024.Idx) :
    (outsAt0 m c t.val t.isLt).1 y = (outsAt0 m c t.val t.isLt).2 y := by
  rw [outsAt0_B m c t (by omega) h h]
  dsimp only
  frame_out
  rfl

/-- The array after the run is the product. -/
theorem final (c : Dev nD) : (dats m 0 c).arrAt 2 cfg0.N
    = fun j => gradInput (m (c.tc.loc main_arg0) : FVec Ideal S16384x5632 .bf16) (m (c.tc.loc main_arg1) : FVec Ideal S1024x5632 .bf16) (j 0) (j 1) := by
  refine (dats m 0 c).arrAt_eq_of_covers 2 _ (by decide +kernel) fun t hf y => ?_
  have hl := (flush0_2 t).mp hf
  blk_simp
  rw [after0_2, written m c t hl, scratch m c t hl]
  unfold gradInput
  refine Fin.sum_mul_add_congr fun s k hk => ?_
  refine congrArg₂ (fun a b : EReal => a * b) ?_ ?_
  · blk_ext [iblk, V, idx_val t, idx_val ⟨_, Pipeline.run_point_lt_of_flush t hl s⟩]
  · blk_ext [iblk, V, idx_val t, idx_val ⟨_, Pipeline.run_point_lt_of_flush t hl s⟩]

/-- The kernel's run: the result is the product, the arguments are kept. -/
theorem run_spec (ρ : Dev nD → PrngReg) : θ_run defs (onTc (τ := τ) (main (F := Ideal))) ⟨m, fun _ => 0, ρ⟩ fun r => ∀ c : Dev nD,
      r.2.mem (c.tc.loc main_v0)
        = (fun j : S16384x1024.Idx => gradInput (m (c.tc.loc main_arg0) : FVec Ideal S16384x5632 .bf16) (m (c.tc.loc main_arg1) : FVec Ideal S1024x5632 .bf16) (j 0) (j 1))
      ∧ r.2.mem (c.tc.loc main_arg0) = m (c.tc.loc main_arg0)
      ∧ r.2.mem (c.tc.loc main_arg1) = m (c.tc.loc main_arg1) :=
  (θ_run defs _ _).mono (fun _ h c => ⟨(h c).1.trans (final m c), (h c).2⟩) (Cert.Kernel4Ideal.Value.run_blocks (F := Ideal) m ρ)

end Cert.Kernel4Ideal.Product

namespace Cert.Reference4Ideal.Product

open Cert.Reference4Ideal Cert.Reference4Ideal.Gen

variable (m : (ℓ : Loc nD τ sig) → Buf (Elt Ideal) ℓ)

/-- The reference's run: the result is the product, the arguments are kept. -/
theorem run_spec (ρ : Dev nD → PrngReg) : θ_run defs (onTc (τ := τ) (main (F := Ideal))) ⟨m, fun _ => 0, ρ⟩ fun r => ∀ c : Dev nD,
      r.2.mem (c.tc.loc main_v3)
        = (fun j : S16384x1024.Idx => gradInput (m (c.tc.loc main_arg0) : FVec Ideal S16384x5632 .bf16) (m (c.tc.loc main_arg1) : FVec Ideal S1024x5632 .bf16) (j 0) (j 1))
      ∧ r.2.mem (c.tc.loc main_arg0) = m (c.tc.loc main_arg0)
      ∧ r.2.mem (c.tc.loc main_arg1) = m (c.tc.loc main_arg1) := by
  refine (θ_run defs _ _).mono (fun r h c => ⟨(h c).1.trans ?_, (h c).2⟩) (Value.run (F := Ideal) m ρ)
  clear h
  funext j
  idx_vars j
  pointwise [gradInput]

end Cert.Reference4Ideal.Product

namespace Cert.Proof

/-- The reference runs, keeps its arguments and leaves no counter raised. -/
theorem frame_reference4 : Cert.quiescent_Reference4Ideal (hReference4Ideal := Cert.Reference4Ideal.Gen.facts) := fun m ρ _ =>
  (θ_run Cert.Reference4Ideal.defs _ _).mono (fun r h => ⟨fun c => (h c).2,
    sem_eq_zero_of_no_sems (by decide) r.2⟩) (Cert.Reference4Ideal.Value.run (F := Ideal) m ρ)

/-- Kernel and reference compute the same product. -/
theorem algebraic4 : Cert.algebraic_Kernel4Ideal_Reference4Ideal (hKernel4Ideal := Cert.Kernel4Ideal.Gen.facts)
    (hReference4Ideal := Cert.Reference4Ideal.Gen.facts) := fun m ρ m' ρ' _ hag => by
  refine ⟨_, Cert.Kernel4Ideal.Product.run_spec m ρ, ?_⟩
  refine (θ_run Cert.Reference4Ideal.defs _ _).mono (fun r h c => ?_) (Cert.Reference4Ideal.Product.run_spec m' ρ')
  obtain ⟨h0, h1, h2⟩ := h c
  rw [(hag c).1, (hag c).2] at h0
  exact ⟨h0, h1, h2⟩

end Cert.Proof

end
-- ==== Proof.Products.GwIn.lean ====
/- The weight gradient of the mixer's input product: the kernel sums eight blocks of rows in a scratch. -/
module

public import proofs.«01_k».proof.Defs
public import proofs.«01_k».proof.Proof.Gen.Kernel5Ideal.Value
public import proofs.«01_k».proof.Proof.Gen.Reference5Ideal.Run
public import proofs.«01_k».proof.Proof.Products.Spec

@[expose] public section

set_option maxRecDepth 16384

noncomputable section

open Idealize.ShloMosaic Idealize.ShloMosaic.TcCoe Idealize.SL.Sem
open Idealize.ShloMosaic.Pipeline (Dat)
open Cert.Product (gradWeight)

namespace Cert.Kernel5Ideal.Product

open Cert.Kernel5Ideal Cert.Kernel5Ideal.Gen

variable (m : (ℓ : Loc nD τ sig) → Buf (Elt Ideal) ℓ)

/-- Where the three windows' blocks lie at point `t`. -/
theorem idx_val : ∀ t : Fin cfg0.N, win0_0.index t = ![t.val % 8, 0] ∧ win0_1.index t = ![t.val % 8, t.val / 8] ∧ win0_2.index t = ![0, t.val / 8] :=
  (by decide +kernel : ∀ t : Fin grid0.N, _)

/-- What the first point of a run leaves in the scratch: its own blocks' product. -/
theorem first (x : FVec Ideal S2048x1024 .bf16) (d : FVec Ideal S2048x1024 .bf16) (y : S1024x1024.Idx) :
    k0_pay2 (F := Ideal) x d y = gradWeight x d (y 0) (y 1) := by
  idx_vars y
  pointwise [k0_pay2, k0_pay1, gradWeight]

/-- What a later point leaves: its blocks' product more. -/
theorem later (x : FVec Ideal S2048x1024 .bf16) (d : FVec Ideal S2048x1024 .bf16) (a : FVec Ideal S1024x1024 .f32) (y : S1024x1024.Idx) :
    k0_pay3 (F := Ideal) x d a y = a y + gradWeight x d (y 0) (y 1) := by
  idx_vars y
  pointwise [k0_pay3, k0_pay1, gradWeight]

/-- The scratch after a run's last point: the sum of the products of the run's blocks. -/
theorem scratch (c : Dev nD) (t : Fin cfg0.N) (h : t.val % 8 = 7) (y : S1024x1024.Idx) :
    (outsAt0 m c t.val t.isLt).2 y = ∑ s : Fin 8, gradWeight (iblk m c 0 ⟨8 * (t.val / 8) + s, Pipeline.run_point_lt_of_flush t h s⟩ : FVec Ideal S2048x1024 .bf16)
      (iblk m c 1 ⟨8 * (t.val / 8) + s, Pipeline.run_point_lt_of_flush t h s⟩ : FVec Ideal S2048x1024 .bf16) (y 0) (y 1) := by
  rw [Pipeline.eq_sum_fin_of_reset_step_apply_of_flush (fun n h => (outsAt0 m c n h).2) 8 (fun _ => (0 : EReal))
    (fun t y => gradWeight (iblk m c 0 t : FVec Ideal S2048x1024 .bf16) (iblk m c 1 t : FVec Ideal S2048x1024 .bf16) (y 0) (y 1))
    (fun t h j => by
      rw [outsAt0_A m c t h (by omega) (by omega)]; dsimp only; frame_out; rw [first]; exact (zero_add _).symm)
    (fun t h j => by
      by_cases hl : t.val % 8 = 7
      · rw [outsAt0_C m c t h (by omega) hl]; dsimp only; frame_out; rw [later]
        exact congrArg (fun f : FVec Ideal S1024x1024 .f32 => f j + gradWeight (iblk m c 0 t : FVec Ideal S2048x1024 .bf16) (iblk m c 1 t : FVec Ideal S2048x1024 .bf16) (j 0) (j 1)) (Memref.IsWhole.read_unread (Memref.isWhole_whole _) _)
      · rw [outsAt0_B m c t h (by omega) hl]; dsimp only; frame_out; rw [later]
        exact congrArg (fun f : FVec Ideal S1024x1024 .f32 => f j + gradWeight (iblk m c 0 t : FVec Ideal S2048x1024 .bf16) (iblk m c 1 t : FVec Ideal S2048x1024 .bf16) (j 0) (j 1)) (Memref.IsWhole.read_unread (Memref.isWhole_whole _) _))
    t h y]
  exact zero_add _

/-- What the last point of a run writes back is what the scratch then holds. -/
theorem written (c : Dev nD) (t : Fin cfg0.N) (h : t.val % 8 = 7) (y : S1024x1024.Idx) :
    (outsAt0 m c t.val t.isLt).1 y = (outsAt0 m c t.val t.isLt).2 y := by
  rw [outsAt0_C m c t (by omega) (by omega) h]
  dsimp only
  frame_out

/-- The array after the run is the product. -/
theorem final (c : Dev nD) : (dats m 0 c).arrAt 2 cfg0.N
    = fun j => gradWeight (m (c.tc.loc main_arg0) : FVec Ideal S16384x1024 .bf16) (m (c.tc.loc main_arg1) : FVec Ideal S16384x6144 .bf16) (j 0) (j 1) := by
  refine (dats m 0 c).arrAt_eq_of_covers 2 _ (by decide +kernel) fun t hf y => ?_
  have hl := (flush0_2 t).mp hf
  blk_simp
  rw [after0_2, written m c t hl, scratch m c t hl]
  unfold gradWeight
  refine Fin.sum_mul_add_congr fun s k hk => ?_
  refine congrArg₂ (fun a b : EReal => a * b) ?_ ?_
  · blk_ext [iblk, V, idx_val t, idx_val ⟨_, Pipeline.run_point_lt_of_flush t hl s⟩]
  · blk_ext [iblk, V, idx_val t, idx_val ⟨_, Pipeline.run_point_lt_of_flush t hl s⟩]

/-- The kernel's run: the result is the product, the arguments are kept. -/
theorem run_spec (ρ : Dev nD → PrngReg) : θ_run defs (onTc (τ := τ) (main (F := Ideal))) ⟨m, fun _ => 0, ρ⟩ fun r => ∀ c : Dev nD,
      r.2.mem (c.tc.loc main_v0)
        = (fun j : S1024x6144.Idx => gradWeight (m (c.tc.loc main_arg0) : FVec Ideal S16384x1024 .bf16) (m (c.tc.loc main_arg1) : FVec Ideal S16384x6144 .bf16) (j 0) (j 1))
      ∧ r.2.mem (c.tc.loc main_arg0) = m (c.tc.loc main_arg0)
      ∧ r.2.mem (c.tc.loc main_arg1) = m (c.tc.loc main_arg1) :=
  (θ_run defs _ _).mono (fun _ h c => ⟨(h c).1.trans (final m c), (h c).2⟩) (Cert.Kernel5Ideal.Value.run_blocks (F := Ideal) m ρ)

end Cert.Kernel5Ideal.Product

namespace Cert.Reference5Ideal.Product

open Cert.Reference5Ideal Cert.Reference5Ideal.Gen

variable (m : (ℓ : Loc nD τ sig) → Buf (Elt Ideal) ℓ)

/-- The reference's run: the result is the product, the arguments are kept. -/
theorem run_spec (ρ : Dev nD → PrngReg) : θ_run defs (onTc (τ := τ) (main (F := Ideal))) ⟨m, fun _ => 0, ρ⟩ fun r => ∀ c : Dev nD,
      r.2.mem (c.tc.loc main_v3)
        = (fun j : S1024x6144.Idx => gradWeight (m (c.tc.loc main_arg0) : FVec Ideal S16384x1024 .bf16) (m (c.tc.loc main_arg1) : FVec Ideal S16384x6144 .bf16) (j 0) (j 1))
      ∧ r.2.mem (c.tc.loc main_arg0) = m (c.tc.loc main_arg0)
      ∧ r.2.mem (c.tc.loc main_arg1) = m (c.tc.loc main_arg1) := by
  refine (θ_run defs _ _).mono (fun r h c => ⟨(h c).1.trans ?_, (h c).2⟩) (Value.run (F := Ideal) m ρ)
  clear h
  funext j
  idx_vars j
  pointwise [gradWeight]
  exact Finset.sum_congr rfl fun _ _ => @mul_comm EReal _ _ _

end Cert.Reference5Ideal.Product

namespace Cert.Proof

/-- The reference runs, keeps its arguments and leaves no counter raised. -/
theorem frame_reference5 : Cert.quiescent_Reference5Ideal (hReference5Ideal := Cert.Reference5Ideal.Gen.facts) := fun m ρ _ =>
  (θ_run Cert.Reference5Ideal.defs _ _).mono (fun r h => ⟨fun c => (h c).2,
    sem_eq_zero_of_no_sems (by decide) r.2⟩) (Cert.Reference5Ideal.Value.run (F := Ideal) m ρ)

/-- Kernel and reference compute the same product. -/
theorem algebraic5 : Cert.algebraic_Kernel5Ideal_Reference5Ideal (hKernel5Ideal := Cert.Kernel5Ideal.Gen.facts)
    (hReference5Ideal := Cert.Reference5Ideal.Gen.facts) := fun m ρ m' ρ' _ hag => by
  refine ⟨_, Cert.Kernel5Ideal.Product.run_spec m ρ, ?_⟩
  refine (θ_run Cert.Reference5Ideal.defs _ _).mono (fun r h c => ?_) (Cert.Reference5Ideal.Product.run_spec m' ρ')
  obtain ⟨h0, h1, h2⟩ := h c
  rw [(hag c).1, (hag c).2] at h0
  exact ⟨h0, h1, h2⟩

end Cert.Proof

end
-- ==== Proof.Products.DH.lean ====
/- The input gradient of the mixer's input product: the kernel sums two blocks of columns in a scratch. -/
module

public import proofs.«01_k».proof.Defs
public import proofs.«01_k».proof.Proof.Gen.Kernel6Ideal.Value
public import proofs.«01_k».proof.Proof.Gen.Reference6Ideal.Run
public import proofs.«01_k».proof.Proof.Products.Spec

@[expose] public section

set_option maxRecDepth 16384

noncomputable section

open Idealize.ShloMosaic Idealize.ShloMosaic.TcCoe Idealize.SL.Sem
open Idealize.ShloMosaic.Pipeline (Dat)
open Cert.Product (gradInput)

namespace Cert.Kernel6Ideal.Product

open Cert.Kernel6Ideal Cert.Kernel6Ideal.Gen

variable (m : (ℓ : Loc nD τ sig) → Buf (Elt Ideal) ℓ)

/-- Where the three windows' blocks lie at point `t`. -/
theorem idx_val : ∀ t : Fin cfg0.N, win0_0.index t = ![t.val / 2, t.val % 2] ∧ win0_1.index t = ![0, t.val % 2] ∧ win0_2.index t = ![t.val / 2, 0] :=
  (by decide +kernel : ∀ t : Fin grid0.N, _)

/-- What the first point of a run leaves in the scratch: its own blocks' product. -/
theorem first (x : FVec Ideal S1024x3072 .bf16) (d : FVec Ideal S1024x3072 .bf16) (y : S1024x1024.Idx) :
    k0_pay2 (F := Ideal) x d y = gradInput x d (y 0) (y 1) := by
  idx_vars y
  pointwise [k0_pay2, k0_pay1, gradInput]

/-- What a later point leaves: its blocks' product more. -/
theorem later (x : FVec Ideal S1024x3072 .bf16) (d : FVec Ideal S1024x3072 .bf16) (a : FVec Ideal S1024x1024 .f32) (y : S1024x1024.Idx) :
    k0_pay3 (F := Ideal) x d a y = a y + gradInput x d (y 0) (y 1) := by
  idx_vars y
  pointwise [k0_pay3, k0_pay1, gradInput]

/-- The scratch after a run's last point: the sum of the products of the run's blocks. -/
theorem scratch (c : Dev nD) (t : Fin cfg0.N) (h : t.val % 2 = 1) (y : S1024x1024.Idx) :
    (outsAt0 m c t.val t.isLt).2 y = ∑ s : Fin 2, gradInput (iblk m c 0 ⟨2 * (t.val / 2) + s, Pipeline.run_point_lt_of_flush t h s⟩ : FVec Ideal S1024x3072 .bf16)
      (iblk m c 1 ⟨2 * (t.val / 2) + s, Pipeline.run_point_lt_of_flush t h s⟩ : FVec Ideal S1024x3072 .bf16) (y 0) (y 1) := by
  rw [Pipeline.eq_sum_fin_of_reset_step_apply_of_flush (fun n h => (outsAt0 m c n h).2) 2 (fun _ => (0 : EReal))
    (fun t y => gradInput (iblk m c 0 t : FVec Ideal S1024x3072 .bf16) (iblk m c 1 t : FVec Ideal S1024x3072 .bf16) (y 0) (y 1))
    (fun t h j => by
      rw [outsAt0_A m c t h (by omega) (by omega)]; dsimp only; frame_out; rw [first]; exact (zero_add _).symm)
    (fun t h j => by
      rw [outsAt0_B m c t h (by omega) (by omega)]; dsimp only; frame_out; rw [later]
      exact congrArg (fun f : FVec Ideal S1024x1024 .f32 => f j + gradInput (iblk m c 0 t : FVec Ideal S1024x3072 .bf16) (iblk m c 1 t : FVec Ideal S1024x3072 .bf16) (j 0) (j 1)) (Memref.IsWhole.read_unread (Memref.isWhole_whole _) _))
    t h y]
  exact zero_add _

/-- What the last point of a run writes back is what the scratch then holds. -/
theorem written (c : Dev nD) (t : Fin cfg0.N) (h : t.val % 2 = 1) (y : S1024x1024.Idx) :
    (outsAt0 m c t.val t.isLt).1 y = (outsAt0 m c t.val t.isLt).2 y := by
  rw [outsAt0_B m c t (by omega) h h]
  dsimp only
  frame_out
  rfl

/-- The array after the run is the product. -/
theorem final (c : Dev nD) : (dats m 0 c).arrAt 2 cfg0.N
    = fun j => gradInput (m (c.tc.loc main_arg0) : FVec Ideal S16384x6144 .bf16) (m (c.tc.loc main_arg1) : FVec Ideal S1024x6144 .bf16) (j 0) (j 1) := by
  refine (dats m 0 c).arrAt_eq_of_covers 2 _ (by decide +kernel) fun t hf y => ?_
  have hl := (flush0_2 t).mp hf
  blk_simp
  rw [after0_2, written m c t hl, scratch m c t hl]
  unfold gradInput
  refine Fin.sum_mul_add_congr fun s k hk => ?_
  refine congrArg₂ (fun a b : EReal => a * b) ?_ ?_
  · blk_ext [iblk, V, idx_val t, idx_val ⟨_, Pipeline.run_point_lt_of_flush t hl s⟩]
  · blk_ext [iblk, V, idx_val t, idx_val ⟨_, Pipeline.run_point_lt_of_flush t hl s⟩]

/-- The kernel's run: the result is the product, the arguments are kept. -/
theorem run_spec (ρ : Dev nD → PrngReg) : θ_run defs (onTc (τ := τ) (main (F := Ideal))) ⟨m, fun _ => 0, ρ⟩ fun r => ∀ c : Dev nD,
      r.2.mem (c.tc.loc main_v0)
        = (fun j : S16384x1024.Idx => gradInput (m (c.tc.loc main_arg0) : FVec Ideal S16384x6144 .bf16) (m (c.tc.loc main_arg1) : FVec Ideal S1024x6144 .bf16) (j 0) (j 1))
      ∧ r.2.mem (c.tc.loc main_arg0) = m (c.tc.loc main_arg0)
      ∧ r.2.mem (c.tc.loc main_arg1) = m (c.tc.loc main_arg1) :=
  (θ_run defs _ _).mono (fun _ h c => ⟨(h c).1.trans (final m c), (h c).2⟩) (Cert.Kernel6Ideal.Value.run_blocks (F := Ideal) m ρ)

end Cert.Kernel6Ideal.Product

namespace Cert.Reference6Ideal.Product

open Cert.Reference6Ideal Cert.Reference6Ideal.Gen

variable (m : (ℓ : Loc nD τ sig) → Buf (Elt Ideal) ℓ)

/-- The reference's run: the result is the product, the arguments are kept. -/
theorem run_spec (ρ : Dev nD → PrngReg) : θ_run defs (onTc (τ := τ) (main (F := Ideal))) ⟨m, fun _ => 0, ρ⟩ fun r => ∀ c : Dev nD,
      r.2.mem (c.tc.loc main_v3)
        = (fun j : S16384x1024.Idx => gradInput (m (c.tc.loc main_arg0) : FVec Ideal S16384x6144 .bf16) (m (c.tc.loc main_arg1) : FVec Ideal S1024x6144 .bf16) (j 0) (j 1))
      ∧ r.2.mem (c.tc.loc main_arg0) = m (c.tc.loc main_arg0)
      ∧ r.2.mem (c.tc.loc main_arg1) = m (c.tc.loc main_arg1) := by
  refine (θ_run defs _ _).mono (fun r h c => ⟨(h c).1.trans ?_, (h c).2⟩) (Value.run (F := Ideal) m ρ)
  clear h
  funext j
  idx_vars j
  pointwise [gradInput]

end Cert.Reference6Ideal.Product

namespace Cert.Proof

/-- The reference runs, keeps its arguments and leaves no counter raised. -/
theorem frame_reference6 : Cert.quiescent_Reference6Ideal (hReference6Ideal := Cert.Reference6Ideal.Gen.facts) := fun m ρ _ =>
  (θ_run Cert.Reference6Ideal.defs _ _).mono (fun r h => ⟨fun c => (h c).2,
    sem_eq_zero_of_no_sems (by decide) r.2⟩) (Cert.Reference6Ideal.Value.run (F := Ideal) m ρ)

/-- Kernel and reference compute the same product. -/
theorem algebraic6 : Cert.algebraic_Kernel6Ideal_Reference6Ideal (hKernel6Ideal := Cert.Kernel6Ideal.Gen.facts)
    (hReference6Ideal := Cert.Reference6Ideal.Gen.facts) := fun m ρ m' ρ' _ hag => by
  refine ⟨_, Cert.Kernel6Ideal.Product.run_spec m ρ, ?_⟩
  refine (θ_run Cert.Reference6Ideal.defs _ _).mono (fun r h c => ?_) (Cert.Reference6Ideal.Product.run_spec m' ρ')
  obtain ⟨h0, h1, h2⟩ := h c
  rw [(hag c).1, (hag c).2] at h0
  exact ⟨h0, h1, h2⟩

end Cert.Proof

end
-- ==== Proof.Products.GwFfnOut.lean ====
/- The weight gradient of the feed-forward's second product: the kernel sums eight blocks of rows in a scratch. -/
module

public import proofs.«01_k».proof.Defs
public import proofs.«01_k».proof.Proof.Gen.Kernel7Ideal.Value
public import proofs.«01_k».proof.Proof.Gen.Reference7Ideal.Run
public import proofs.«01_k».proof.Proof.Products.Spec

@[expose] public section

set_option maxRecDepth 16384

noncomputable section

open Idealize.ShloMosaic Idealize.ShloMosaic.TcCoe Idealize.SL.Sem
open Idealize.ShloMosaic.Pipeline (Dat)
open Cert.Product (gradWeight)

namespace Cert.Kernel7Ideal.Product

open Cert.Kernel7Ideal Cert.Kernel7Ideal.Gen

variable (m : (ℓ : Loc nD τ sig) → Buf (Elt Ideal) ℓ)

/-- Where the three windows' blocks lie at point `t`. -/
theorem idx_val : ∀ t : Fin cfg0.N, win0_0.index t = ![t.val % 8, t.val / 8] ∧ win0_1.index t = ![t.val % 8, 0] ∧ win0_2.index t = ![t.val / 8, 0] :=
  (by decide +kernel : ∀ t : Fin grid0.N, _)

/-- What the first point of a run leaves in the scratch: its own blocks' product. -/
theorem first (x : FVec Ideal S2048x1408 .bf16) (d : FVec Ideal S2048x1024 .bf16) (y : S1408x1024.Idx) :
    k0_pay2 (F := Ideal) x d y = gradWeight x d (y 0) (y 1) := by
  idx_vars y
  pointwise [k0_pay2, k0_pay1, gradWeight]

/-- What a later point leaves: its blocks' product more. -/
theorem later (x : FVec Ideal S2048x1408 .bf16) (d : FVec Ideal S2048x1024 .bf16) (a : FVec Ideal S1408x1024 .f32) (y : S1408x1024.Idx) :
    k0_pay3 (F := Ideal) x d a y = a y + gradWeight x d (y 0) (y 1) := by
  idx_vars y
  pointwise [k0_pay3, k0_pay1, gradWeight]

/-- The scratch after a run's last point: the sum of the products of the run's blocks. -/
theorem scratch (c : Dev nD) (t : Fin cfg0.N) (h : t.val % 8 = 7) (y : S1408x1024.Idx) :
    (outsAt0 m c t.val t.isLt).2 y = ∑ s : Fin 8, gradWeight (iblk m c 0 ⟨8 * (t.val / 8) + s, Pipeline.run_point_lt_of_flush t h s⟩ : FVec Ideal S2048x1408 .bf16)
      (iblk m c 1 ⟨8 * (t.val / 8) + s, Pipeline.run_point_lt_of_flush t h s⟩ : FVec Ideal S2048x1024 .bf16) (y 0) (y 1) := by
  rw [Pipeline.eq_sum_fin_of_reset_step_apply_of_flush (fun n h => (outsAt0 m c n h).2) 8 (fun _ => (0 : EReal))
    (fun t y => gradWeight (iblk m c 0 t : FVec Ideal S2048x1408 .bf16) (iblk m c 1 t : FVec Ideal S2048x1024 .bf16) (y 0) (y 1))
    (fun t h j => by
      rw [outsAt0_A m c t h (by omega) (by omega)]; dsimp only; frame_out; rw [first]; exact (zero_add _).symm)
    (fun t h j => by
      by_cases hl : t.val % 8 = 7
      · rw [outsAt0_C m c t h (by omega) hl]; dsimp only; frame_out; rw [later]
        exact congrArg (fun f : FVec Ideal S1408x1024 .f32 => f j + gradWeight (iblk m c 0 t : FVec Ideal S2048x1408 .bf16) (iblk m c 1 t : FVec Ideal S2048x1024 .bf16) (j 0) (j 1)) (Memref.IsWhole.read_unread (Memref.isWhole_whole _) _)
      · rw [outsAt0_B m c t h (by omega) hl]; dsimp only; frame_out; rw [later]
        exact congrArg (fun f : FVec Ideal S1408x1024 .f32 => f j + gradWeight (iblk m c 0 t : FVec Ideal S2048x1408 .bf16) (iblk m c 1 t : FVec Ideal S2048x1024 .bf16) (j 0) (j 1)) (Memref.IsWhole.read_unread (Memref.isWhole_whole _) _))
    t h y]
  exact zero_add _

/-- What the last point of a run writes back is what the scratch then holds. -/
theorem written (c : Dev nD) (t : Fin cfg0.N) (h : t.val % 8 = 7) (y : S1408x1024.Idx) :
    (outsAt0 m c t.val t.isLt).1 y = (outsAt0 m c t.val t.isLt).2 y := by
  rw [outsAt0_C m c t (by omega) (by omega) h]
  dsimp only
  frame_out

/-- The array after the run is the product. -/
theorem final (c : Dev nD) : (dats m 0 c).arrAt 2 cfg0.N
    = fun j => gradWeight (m (c.tc.loc main_arg0) : FVec Ideal S16384x2816 .bf16) (m (c.tc.loc main_arg1) : FVec Ideal S16384x1024 .bf16) (j 0) (j 1) := by
  refine (dats m 0 c).arrAt_eq_of_covers 2 _ (by decide +kernel) fun t hf y => ?_
  have hl := (flush0_2 t).mp hf
  blk_simp
  rw [after0_2, written m c t hl, scratch m c t hl]
  unfold gradWeight
  refine Fin.sum_mul_add_congr fun s k hk => ?_
  refine congrArg₂ (fun a b : EReal => a * b) ?_ ?_
  · blk_ext [iblk, V, idx_val t, idx_val ⟨_, Pipeline.run_point_lt_of_flush t hl s⟩]
  · blk_ext [iblk, V, idx_val t, idx_val ⟨_, Pipeline.run_point_lt_of_flush t hl s⟩]

/-- The kernel's run: the result is the product, the arguments are kept. -/
theorem run_spec (ρ : Dev nD → PrngReg) : θ_run defs (onTc (τ := τ) (main (F := Ideal))) ⟨m, fun _ => 0, ρ⟩ fun r => ∀ c : Dev nD,
      r.2.mem (c.tc.loc main_v0)
        = (fun j : S2816x1024.Idx => gradWeight (m (c.tc.loc main_arg0) : FVec Ideal S16384x2816 .bf16) (m (c.tc.loc main_arg1) : FVec Ideal S16384x1024 .bf16) (j 0) (j 1))
      ∧ r.2.mem (c.tc.loc main_arg0) = m (c.tc.loc main_arg0)
      ∧ r.2.mem (c.tc.loc main_arg1) = m (c.tc.loc main_arg1) :=
  (θ_run defs _ _).mono (fun _ h c => ⟨(h c).1.trans (final m c), (h c).2⟩) (Cert.Kernel7Ideal.Value.run_blocks (F := Ideal) m ρ)

end Cert.Kernel7Ideal.Product

namespace Cert.Reference7Ideal.Product

open Cert.Reference7Ideal Cert.Reference7Ideal.Gen

variable (m : (ℓ : Loc nD τ sig) → Buf (Elt Ideal) ℓ)

/-- The reference's run: the result is the product, the arguments are kept. -/
theorem run_spec (ρ : Dev nD → PrngReg) : θ_run defs (onTc (τ := τ) (main (F := Ideal))) ⟨m, fun _ => 0, ρ⟩ fun r => ∀ c : Dev nD,
      r.2.mem (c.tc.loc main_v3)
        = (fun j : S2816x1024.Idx => gradWeight (m (c.tc.loc main_arg0) : FVec Ideal S16384x2816 .bf16) (m (c.tc.loc main_arg1) : FVec Ideal S16384x1024 .bf16) (j 0) (j 1))
      ∧ r.2.mem (c.tc.loc main_arg0) = m (c.tc.loc main_arg0)
      ∧ r.2.mem (c.tc.loc main_arg1) = m (c.tc.loc main_arg1) := by
  refine (θ_run defs _ _).mono (fun r h c => ⟨(h c).1.trans ?_, (h c).2⟩) (Value.run (F := Ideal) m ρ)
  clear h
  funext j
  idx_vars j
  pointwise [gradWeight]
  exact Finset.sum_congr rfl fun _ _ => @mul_comm EReal _ _ _

end Cert.Reference7Ideal.Product

namespace Cert.Proof

/-- The reference runs, keeps its arguments and leaves no counter raised. -/
theorem frame_reference7 : Cert.quiescent_Reference7Ideal (hReference7Ideal := Cert.Reference7Ideal.Gen.facts) := fun m ρ _ =>
  (θ_run Cert.Reference7Ideal.defs _ _).mono (fun r h => ⟨fun c => (h c).2,
    sem_eq_zero_of_no_sems (by decide) r.2⟩) (Cert.Reference7Ideal.Value.run (F := Ideal) m ρ)

/-- Kernel and reference compute the same product. -/
theorem algebraic7 : Cert.algebraic_Kernel7Ideal_Reference7Ideal (hKernel7Ideal := Cert.Kernel7Ideal.Gen.facts)
    (hReference7Ideal := Cert.Reference7Ideal.Gen.facts) := fun m ρ m' ρ' _ hag => by
  refine ⟨_, Cert.Kernel7Ideal.Product.run_spec m ρ, ?_⟩
  refine (θ_run Cert.Reference7Ideal.defs _ _).mono (fun r h c => ?_) (Cert.Reference7Ideal.Product.run_spec m' ρ')
  obtain ⟨h0, h1, h2⟩ := h c
  rw [(hag c).1, (hag c).2] at h0
  exact ⟨h0, h1, h2⟩

end Cert.Proof

end
-- ==== Proof.Products.InProj.lean ====
/- The mixer's input product: each grid point computes one block of the result. -/
module

public import proofs.«01_k».proof.Defs
public import proofs.«01_k».proof.Proof.Gen.Kernel8Ideal.Value
public import proofs.«01_k».proof.Proof.Gen.Reference8Ideal.Run
public import proofs.«01_k».proof.Proof.Products.Spec

@[expose] public section

set_option maxRecDepth 16384

noncomputable section

open Idealize.ShloMosaic Idealize.ShloMosaic.TcCoe Idealize.SL.Sem
open Idealize.ShloMosaic.Pipeline (Dat)
open Cert.Product (forwardProduct)

namespace Cert.Kernel8Ideal.Product

open Cert.Kernel8Ideal Cert.Kernel8Ideal.Gen

variable (m : (ℓ : Loc nD τ sig) → Buf (Elt Ideal) ℓ)

/-- Where the three windows' blocks lie at point `t`. -/
theorem idx_val : ∀ t : Fin cfg0.N, win0_0.index t = ![t.val / 6, 0] ∧ win0_1.index t = ![0, t.val % 6] ∧ win0_2.index t = ![t.val / 6, t.val % 6] :=
  (by decide +kernel : ∀ t : Fin grid0.N, _)

/-- What one point stores: its blocks' product, at the rows and columns of the whole product. -/
theorem point (c : Dev nD) (t : Fin cfg0.N) (y : S2048x1024.Idx) :
    k0_pay1 (F := Ideal) (iblk m c 0 t) (iblk m c 1 t) y
      = (fun j : S16384x6144.Idx => forwardProduct (m (c.tc.loc main_arg0) : FVec Ideal S16384x1024 .bf16) (m (c.tc.loc main_arg1) : FVec Ideal S1024x6144 .bf16) (j 0) (j 1))
          (((cfg0.win 2).blk t).view.emb y) := by
  idx_vars y
  pointwise [k0_pay1, forwardProduct]
  refine Finset.sum_congr rfl fun k _ => ?_
  refine congrArg₂ (fun a b : EReal => a * b) ?_ ?_
  · blk_ext [iblk, V, idx_val t]
  · blk_ext [iblk, V, idx_val t]

/-- The array after the run is the product. -/
theorem final (c : Dev nD) : (dats m 0 c).arrAt 2 cfg0.N
    = fun j => forwardProduct (m (c.tc.loc main_arg0) : FVec Ideal S16384x1024 .bf16) (m (c.tc.loc main_arg1) : FVec Ideal S1024x6144 .bf16) (j 0) (j 1) := by
  refine (dats m 0 c).arrAt_eq_of_covers 2 _ (by decide +kernel) fun t _ y => ?_
  blk_simp
  rw [after0_2]
  frame_out
  exact point m c t y

/-- The kernel's run: the result is the product, the arguments are kept. -/
theorem run_spec (ρ : Dev nD → PrngReg) : θ_run defs (onTc (τ := τ) (main (F := Ideal))) ⟨m, fun _ => 0, ρ⟩ fun r => ∀ c : Dev nD,
      r.2.mem (c.tc.loc main_v0)
        = (fun j : S16384x6144.Idx => forwardProduct (m (c.tc.loc main_arg0) : FVec Ideal S16384x1024 .bf16) (m (c.tc.loc main_arg1) : FVec Ideal S1024x6144 .bf16) (j 0) (j 1))
      ∧ r.2.mem (c.tc.loc main_arg0) = m (c.tc.loc main_arg0)
      ∧ r.2.mem (c.tc.loc main_arg1) = m (c.tc.loc main_arg1) :=
  (θ_run defs _ _).mono (fun _ h c => ⟨(h c).1.trans (final m c), (h c).2⟩) (Cert.Kernel8Ideal.Value.run_blocks (F := Ideal) m ρ)

end Cert.Kernel8Ideal.Product

namespace Cert.Reference8Ideal.Product

open Cert.Reference8Ideal Cert.Reference8Ideal.Gen

variable (m : (ℓ : Loc nD τ sig) → Buf (Elt Ideal) ℓ)

/-- The reference's run: the result is the product, the arguments are kept. -/
theorem run_spec (ρ : Dev nD → PrngReg) : θ_run defs (onTc (τ := τ) (main (F := Ideal))) ⟨m, fun _ => 0, ρ⟩ fun r => ∀ c : Dev nD,
      r.2.mem (c.tc.loc main_v3)
        = (fun j : S16384x6144.Idx => forwardProduct (m (c.tc.loc main_arg0) : FVec Ideal S16384x1024 .bf16) (m (c.tc.loc main_arg1) : FVec Ideal S1024x6144 .bf16) (j 0) (j 1))
      ∧ r.2.mem (c.tc.loc main_arg0) = m (c.tc.loc main_arg0)
      ∧ r.2.mem (c.tc.loc main_arg1) = m (c.tc.loc main_arg1) := by
  refine (θ_run defs _ _).mono (fun r h c => ⟨(h c).1.trans ?_, (h c).2⟩) (Value.run (F := Ideal) m ρ)
  clear h
  funext j
  idx_vars j
  pointwise [forwardProduct]

end Cert.Reference8Ideal.Product

namespace Cert.Proof

/-- The reference runs, keeps its arguments and leaves no counter raised. -/
theorem frame_reference8 : Cert.quiescent_Reference8Ideal (hReference8Ideal := Cert.Reference8Ideal.Gen.facts) := fun m ρ _ =>
  (θ_run Cert.Reference8Ideal.defs _ _).mono (fun r h => ⟨fun c => (h c).2,
    sem_eq_zero_of_no_sems (by decide) r.2⟩) (Cert.Reference8Ideal.Value.run (F := Ideal) m ρ)

/-- Kernel and reference compute the same product. -/
theorem algebraic8 : Cert.algebraic_Kernel8Ideal_Reference8Ideal (hKernel8Ideal := Cert.Kernel8Ideal.Gen.facts)
    (hReference8Ideal := Cert.Reference8Ideal.Gen.facts) := fun m ρ m' ρ' _ hag => by
  refine ⟨_, Cert.Kernel8Ideal.Product.run_spec m ρ, ?_⟩
  refine (θ_run Cert.Reference8Ideal.defs _ _).mono (fun r h c => ?_) (Cert.Reference8Ideal.Product.run_spec m' ρ')
  obtain ⟨h0, h1, h2⟩ := h c
  rw [(hag c).1, (hag c).2] at h0
  exact ⟨h0, h1, h2⟩

end Cert.Proof

end
-- ==== Proof.Products.DMerged.lean ====
/- The input gradient of the mixer's output product: each grid point computes one block of rows of the result. -/
module

public import proofs.«01_k».proof.Defs
public import proofs.«01_k».proof.Proof.Gen.Kernel9Ideal.Value
public import proofs.«01_k».proof.Proof.Gen.Reference9Ideal.Run
public import proofs.«01_k».proof.Proof.Products.Spec

@[expose] public section

set_option maxRecDepth 16384

noncomputable section

open Idealize.ShloMosaic Idealize.ShloMosaic.TcCoe Idealize.SL.Sem
open Idealize.ShloMosaic.Pipeline (Dat)
open Cert.Product (gradInput)

namespace Cert.Kernel9Ideal.Product

open Cert.Kernel9Ideal Cert.Kernel9Ideal.Gen

variable (m : (ℓ : Loc nD τ sig) → Buf (Elt Ideal) ℓ)

/-- Where the three windows' blocks lie at point `t`. -/
theorem idx_val : ∀ t : Fin cfg0.N, win0_0.index t = ![t.val, 0] ∧ win0_1.index t = ![0, 0] ∧ win0_2.index t = ![t.val, 0] :=
  (by decide +kernel : ∀ t : Fin grid0.N, _)

/-- What one point stores: its blocks' product, at the rows and columns of the whole product. -/
theorem point (c : Dev nD) (t : Fin cfg0.N) (y : S1024x1024.Idx) :
    k0_pay1 (F := Ideal) (iblk m c 0 t) (iblk m c 1 t) y
      = (fun j : S16384x1024.Idx => gradInput (m (c.tc.loc main_arg0) : FVec Ideal S16384x1024 .bf16) (m (c.tc.loc main_arg1) : FVec Ideal S1024x1024 .bf16) (j 0) (j 1))
          (((cfg0.win 2).blk t).view.emb y) := by
  idx_vars y
  pointwise [k0_pay1, gradInput]
  refine Finset.sum_congr rfl fun k _ => ?_
  refine congrArg₂ (fun a b : EReal => a * b) ?_ ?_
  · blk_ext [iblk, V, idx_val t]
  · blk_ext [iblk, V, idx_val t]

/-- The array after the run is the product. -/
theorem final (c : Dev nD) : (dats m 0 c).arrAt 2 cfg0.N
    = fun j => gradInput (m (c.tc.loc main_arg0) : FVec Ideal S16384x1024 .bf16) (m (c.tc.loc main_arg1) : FVec Ideal S1024x1024 .bf16) (j 0) (j 1) := by
  refine (dats m 0 c).arrAt_eq_of_covers 2 _ (by decide +kernel) fun t _ y => ?_
  blk_simp
  rw [after0_2]
  frame_out
  exact point m c t y

/-- The kernel's run: the result is the product, the arguments are kept. -/
theorem run_spec (ρ : Dev nD → PrngReg) : θ_run defs (onTc (τ := τ) (main (F := Ideal))) ⟨m, fun _ => 0, ρ⟩ fun r => ∀ c : Dev nD,
      r.2.mem (c.tc.loc main_v0)
        = (fun j : S16384x1024.Idx => gradInput (m (c.tc.loc main_arg0) : FVec Ideal S16384x1024 .bf16) (m (c.tc.loc main_arg1) : FVec Ideal S1024x1024 .bf16) (j 0) (j 1))
      ∧ r.2.mem (c.tc.loc main_arg0) = m (c.tc.loc main_arg0)
      ∧ r.2.mem (c.tc.loc main_arg1) = m (c.tc.loc main_arg1) :=
  (θ_run defs _ _).mono (fun _ h c => ⟨(h c).1.trans (final m c), (h c).2⟩) (Cert.Kernel9Ideal.Value.run_blocks (F := Ideal) m ρ)

end Cert.Kernel9Ideal.Product

namespace Cert.Reference9Ideal.Product

open Cert.Reference9Ideal Cert.Reference9Ideal.Gen

variable (m : (ℓ : Loc nD τ sig) → Buf (Elt Ideal) ℓ)

/-- The reference's run: the result is the product, the arguments are kept. -/
theorem run_spec (ρ : Dev nD → PrngReg) : θ_run defs (onTc (τ := τ) (main (F := Ideal))) ⟨m, fun _ => 0, ρ⟩ fun r => ∀ c : Dev nD,
      r.2.mem (c.tc.loc main_v3)
        = (fun j : S16384x1024.Idx => gradInput (m (c.tc.loc main_arg0) : FVec Ideal S16384x1024 .bf16) (m (c.tc.loc main_arg1) : FVec Ideal S1024x1024 .bf16) (j 0) (j 1))
      ∧ r.2.mem (c.tc.loc main_arg0) = m (c.tc.loc main_arg0)
      ∧ r.2.mem (c.tc.loc main_arg1) = m (c.tc.loc main_arg1) := by
  refine (θ_run defs _ _).mono (fun r h c => ⟨(h c).1.trans ?_, (h c).2⟩) (Value.run (F := Ideal) m ρ)
  clear h
  funext j
  idx_vars j
  pointwise [gradInput]

end Cert.Reference9Ideal.Product

namespace Cert.Proof

/-- The reference runs, keeps its arguments and leaves no counter raised. -/
theorem frame_reference9 : Cert.quiescent_Reference9Ideal (hReference9Ideal := Cert.Reference9Ideal.Gen.facts) := fun m ρ _ =>
  (θ_run Cert.Reference9Ideal.defs _ _).mono (fun r h => ⟨fun c => (h c).2,
    sem_eq_zero_of_no_sems (by decide) r.2⟩) (Cert.Reference9Ideal.Value.run (F := Ideal) m ρ)

/-- Kernel and reference compute the same product. -/
theorem algebraic9 : Cert.algebraic_Kernel9Ideal_Reference9Ideal (hKernel9Ideal := Cert.Kernel9Ideal.Gen.facts)
    (hReference9Ideal := Cert.Reference9Ideal.Gen.facts) := fun m ρ m' ρ' _ hag => by
  refine ⟨_, Cert.Kernel9Ideal.Product.run_spec m ρ, ?_⟩
  refine (θ_run Cert.Reference9Ideal.defs _ _).mono (fun r h c => ?_) (Cert.Reference9Ideal.Product.run_spec m' ρ')
  obtain ⟨h0, h1, h2⟩ := h c
  rw [(hag c).1, (hag c).2] at h0
  exact ⟨h0, h1, h2⟩

end Cert.Proof

end
-- ==== Proof.Products.GwO.lean ====
/- The weight gradient of the mixer's output product: the kernel sums eight blocks of rows in a scratch. -/
module

public import proofs.«01_k».proof.Defs
public import proofs.«01_k».proof.Proof.Gen.Kernel10Ideal.Value
public import proofs.«01_k».proof.Proof.Gen.Reference10Ideal.Run
public import proofs.«01_k».proof.Proof.Products.Spec

@[expose] public section

set_option maxRecDepth 16384

noncomputable section

open Idealize.ShloMosaic Idealize.ShloMosaic.TcCoe Idealize.SL.Sem
open Idealize.ShloMosaic.Pipeline (Dat)
open Cert.Product (gradWeight)

namespace Cert.Kernel10Ideal.Product

open Cert.Kernel10Ideal Cert.Kernel10Ideal.Gen

variable (m : (ℓ : Loc nD τ sig) → Buf (Elt Ideal) ℓ)

/-- Where the three windows' blocks lie at point `t`. -/
theorem idx_val : ∀ t : Fin cfg0.N, win0_0.index t = ![t.val, 0] ∧ win0_1.index t = ![t.val, 0] ∧ win0_2.index t = ![0, 0] :=
  (by decide +kernel : ∀ t : Fin grid0.N, _)

/-- What the first point of a run leaves in the scratch: its own blocks' product. -/
theorem first (x : FVec Ideal S2048x1024 .bf16) (d : FVec Ideal S2048x1024 .bf16) (y : S1024x1024.Idx) :
    k0_pay2 (F := Ideal) x d y = gradWeight x d (y 0) (y 1) := by
  idx_vars y
  pointwise [k0_pay2, k0_pay1, gradWeight]

/-- What a later point leaves: its blocks' product more. -/
theorem later (x : FVec Ideal S2048x1024 .bf16) (d : FVec Ideal S2048x1024 .bf16) (a : FVec Ideal S1024x1024 .f32) (y : S1024x1024.Idx) :
    k0_pay3 (F := Ideal) x d a y = a y + gradWeight x d (y 0) (y 1) := by
  idx_vars y
  pointwise [k0_pay3, k0_pay1, gradWeight]

/-- The scratch after a run's last point: the sum of the products of the run's blocks. -/
theorem scratch (c : Dev nD) (t : Fin cfg0.N) (h : t.val % 8 = 7) (y : S1024x1024.Idx) :
    (outsAt0 m c t.val t.isLt).2 y = ∑ s : Fin 8, gradWeight (iblk m c 0 ⟨8 * (t.val / 8) + s, Pipeline.run_point_lt_of_flush t h s⟩ : FVec Ideal S2048x1024 .bf16)
      (iblk m c 1 ⟨8 * (t.val / 8) + s, Pipeline.run_point_lt_of_flush t h s⟩ : FVec Ideal S2048x1024 .bf16) (y 0) (y 1) := by
  rw [Pipeline.eq_sum_fin_of_reset_step_apply_of_flush (fun n h => (outsAt0 m c n h).2) 8 (fun _ => (0 : EReal))
    (fun t y => gradWeight (iblk m c 0 t : FVec Ideal S2048x1024 .bf16) (iblk m c 1 t : FVec Ideal S2048x1024 .bf16) (y 0) (y 1))
    (fun t h j => by
      rw [outsAt0_A m c t h (by have := lt_of_lt_of_eq t.isLt N_0; omega) (by omega)]; dsimp only; frame_out; rw [first]; exact (zero_add _).symm)
    (fun t h j => by
      by_cases hl : t.val % 8 = 7
      · rw [outsAt0_C m c t h (by omega) hl]; dsimp only; frame_out; rw [later]
        exact congrArg (fun f : FVec Ideal S1024x1024 .f32 => f j + gradWeight (iblk m c 0 t : FVec Ideal S2048x1024 .bf16) (iblk m c 1 t : FVec Ideal S2048x1024 .bf16) (j 0) (j 1)) (Memref.IsWhole.read_unread (Memref.isWhole_whole _) _)
      · rw [outsAt0_B m c t h (by omega) hl]; dsimp only; frame_out; rw [later]
        exact congrArg (fun f : FVec Ideal S1024x1024 .f32 => f j + gradWeight (iblk m c 0 t : FVec Ideal S2048x1024 .bf16) (iblk m c 1 t : FVec Ideal S2048x1024 .bf16) (j 0) (j 1)) (Memref.IsWhole.read_unread (Memref.isWhole_whole _) _))
    t h y]
  exact zero_add _

/-- What the last point of a run writes back is what the scratch then holds. -/
theorem written (c : Dev nD) (t : Fin cfg0.N) (h : t.val % 8 = 7) (y : S1024x1024.Idx) :
    (outsAt0 m c t.val t.isLt).1 y = (outsAt0 m c t.val t.isLt).2 y := by
  rw [outsAt0_C m c t (by omega) (by omega) h]
  dsimp only
  frame_out

/-- The array after the run is the product. -/
theorem final (c : Dev nD) : (dats m 0 c).arrAt 2 cfg0.N
    = fun j => gradWeight (m (c.tc.loc main_arg0) : FVec Ideal S16384x1024 .bf16) (m (c.tc.loc main_arg1) : FVec Ideal S16384x1024 .bf16) (j 0) (j 1) := by
  refine (dats m 0 c).arrAt_eq_of_covers 2 _ (by decide +kernel) fun t hf y => ?_
  have hl := (flush0_2 t).mp hf
  blk_simp
  rw [after0_2, written m c t hl, scratch m c t hl]
  unfold gradWeight
  refine Fin.sum_mul_add_congr fun s k hk => ?_
  refine congrArg₂ (fun a b : EReal => a * b) ?_ ?_
  · blk_ext [iblk, V, idx_val t, idx_val ⟨_, Pipeline.run_point_lt_of_flush t hl s⟩]
  · blk_ext [iblk, V, idx_val t, idx_val ⟨_, Pipeline.run_point_lt_of_flush t hl s⟩]

/-- The kernel's run: the result is the product, the arguments are kept. -/
theorem run_spec (ρ : Dev nD → PrngReg) : θ_run defs (onTc (τ := τ) (main (F := Ideal))) ⟨m, fun _ => 0, ρ⟩ fun r => ∀ c : Dev nD,
      r.2.mem (c.tc.loc main_v0)
        = (fun j : S1024x1024.Idx => gradWeight (m (c.tc.loc main_arg0) : FVec Ideal S16384x1024 .bf16) (m (c.tc.loc main_arg1) : FVec Ideal S16384x1024 .bf16) (j 0) (j 1))
      ∧ r.2.mem (c.tc.loc main_arg0) = m (c.tc.loc main_arg0)
      ∧ r.2.mem (c.tc.loc main_arg1) = m (c.tc.loc main_arg1) :=
  (θ_run defs _ _).mono (fun _ h c => ⟨(h c).1.trans (final m c), (h c).2⟩) (Cert.Kernel10Ideal.Value.run_blocks (F := Ideal) m ρ)

end Cert.Kernel10Ideal.Product

namespace Cert.Reference10Ideal.Product

open Cert.Reference10Ideal Cert.Reference10Ideal.Gen

variable (m : (ℓ : Loc nD τ sig) → Buf (Elt Ideal) ℓ)

/-- The reference's run: the result is the product, the arguments are kept. -/
theorem run_spec (ρ : Dev nD → PrngReg) : θ_run defs (onTc (τ := τ) (main (F := Ideal))) ⟨m, fun _ => 0, ρ⟩ fun r => ∀ c : Dev nD,
      r.2.mem (c.tc.loc main_v3)
        = (fun j : S1024x1024.Idx => gradWeight (m (c.tc.loc main_arg0) : FVec Ideal S16384x1024 .bf16) (m (c.tc.loc main_arg1) : FVec Ideal S16384x1024 .bf16) (j 0) (j 1))
      ∧ r.2.mem (c.tc.loc main_arg0) = m (c.tc.loc main_arg0)
      ∧ r.2.mem (c.tc.loc main_arg1) = m (c.tc.loc main_arg1) := by
  refine (θ_run defs _ _).mono (fun r h c => ⟨(h c).1.trans ?_, (h c).2⟩) (Value.run (F := Ideal) m ρ)
  clear h
  funext j
  idx_vars j
  pointwise [gradWeight]
  exact Finset.sum_congr rfl fun _ _ => @mul_comm EReal _ _ _

end Cert.Reference10Ideal.Product

namespace Cert.Proof

/-- The reference runs, keeps its arguments and leaves no counter raised. -/
theorem frame_reference10 : Cert.quiescent_Reference10Ideal (hReference10Ideal := Cert.Reference10Ideal.Gen.facts) := fun m ρ _ =>
  (θ_run Cert.Reference10Ideal.defs _ _).mono (fun r h => ⟨fun c => (h c).2,
    sem_eq_zero_of_no_sems (by decide) r.2⟩) (Cert.Reference10Ideal.Value.run (F := Ideal) m ρ)

/-- Kernel and reference compute the same product. -/
theorem algebraic10 : Cert.algebraic_Kernel10Ideal_Reference10Ideal (hKernel10Ideal := Cert.Kernel10Ideal.Gen.facts)
    (hReference10Ideal := Cert.Reference10Ideal.Gen.facts) := fun m ρ m' ρ' _ hag => by
  refine ⟨_, Cert.Kernel10Ideal.Product.run_spec m ρ, ?_⟩
  refine (θ_run Cert.Reference10Ideal.defs _ _).mono (fun r h c => ?_) (Cert.Reference10Ideal.Product.run_spec m' ρ')
  obtain ⟨h0, h1, h2⟩ := h c
  rw [(hag c).1, (hag c).2] at h0
  exact ⟨h0, h1, h2⟩

end Cert.Proof

end
-- ==== Proof.Products.FfnIn.lean ====
/- The feed-forward's first product with the gated activation behind it: the kernel works on the columns in an order that
   lays a block of the gate beside the same block of the other half; here the order is undone, and each of the two results
   is read entry by entry. -/
module

public import proofs.«01_k».proof.Defs
public import proofs.«01_k».proof.Proof.Gen.Kernel11Ideal.Frame
public import proofs.«01_k».proof.Proof.Gen.Reference11Ideal.Run
public import proofs.«01_k».proof.Proof.Products.Spec
public import Idealize.ShloMosaic.Lib.WordCmp

@[expose] public section

set_option maxRecDepth 16384

noncomputable section

open Idealize.ShloMosaic Idealize.ShloMosaic.TcCoe Idealize.SL.Sem
open Idealize.ShloMosaic.Pipeline (Dat)
open Cert.Product (forwardProduct gatedEntry column)

namespace Cert.Kernel11Ideal.Product

open Cert.Kernel11Ideal Cert.Kernel11Ideal.Gen

variable (m : (ℓ : Loc nD τ sig) → Buf (Elt Ideal) ℓ)

/-- Where the four windows' blocks lie at point `t`. -/
theorem idx_val : ∀ t : Fin cfg0.N, win0_0.index t = ![t.val % 16, 0] ∧ win0_1.index t = ![0, t.val / 16]
    ∧ win0_2.index t = ![t.val % 16, t.val / 16] ∧ win0_3.index t = ![t.val % 16, t.val / 16] :=
  (by decide +kernel : ∀ t : Fin grid0.N, _)

/-- Four quarters of the columns put together in the kernel's order. -/
theorem reorder_weight (w : FVec Ideal S1024x5632 .bf16) :
    concatenate S1024x5632 1 [⟨S1024x1408, extractStridedSlice S1024x1408 ![0, 0] w slices_S1024x5632_S1024x1408_0_0⟩,
      ⟨S1024x1408, extractStridedSlice S1024x1408 ![0, 2816] w slices_S1024x5632_S1024x1408_0_2816⟩,
      ⟨S1024x1408, extractStridedSlice S1024x1408 ![0, 1408] w slices_S1024x5632_S1024x1408_0_1408⟩,
      ⟨S1024x1408, extractStridedSlice S1024x1408 ![0, 4224] w slices_S1024x5632_S1024x1408_0_4224⟩]
      concatenates_S1024x1408_S1024x1408_S1024x1408_S1024x1408_S1024x5632_d1 = fun j => w (ix2 (j 0) (column (j 1))) := by
  funext j
  idx_vars j
  pointwise
  split_ifs <;> refine congrArg (fun q : Fin 5632 => w (ix2 j0 q)) (Fin.ext ?_) <;> simp only [column] <;> split_ifs <;> omega

/-- The weight the kernel finds has its columns in the kernel's order. -/
theorem weight (c : Dev nD) : V m c main_v4 = (fun j : S1024x5632.Idx =>
    (m (c.tc.loc main_arg1) : FVec Ideal S1024x5632 .bf16) (ix2 (j 0) (column (j 1)))) := by
  refine Eq.trans ?_ (reorder_weight _)
  show StableHlo.after (List.flatten [hostOps0]) _ _ = _
  simp only [List.flatten_cons, List.flatten_nil, List.append_nil]
  after_results
  rfl

/-- A block of rows of the input. -/
theorem block_input (c : Dev nD) (t : Fin cfg0.N) (a k : Fin 1024) :
    (iblk m c 0 t : FVec Ideal S1024x1024 .bf16) (ix2 a k) = (m (c.tc.loc main_arg0) : FVec Ideal S16384x1024 .bf16)
      (ix2 ⟨1024 * (t.val % 16) + a, by omega⟩ k) := by
  unfold iblk
  show ((cfg0.win 0).blk t).view.read _ (V m c main_arg0) _ = _
  rw [V_main_arg0]
  blk_ext [idx_val t]

/-- A block of columns of the weight. -/
theorem block_weight (c : Dev nD) (t : Fin cfg0.N) (k : Fin 1024) (l : Fin 2816) (h : 2816 * (t.val / 16) + l < 5632) :
    (iblk m c 1 t : FVec Ideal S1024x2816 .bf16) (ix2 k l) = (m (c.tc.loc main_arg1) : FVec Ideal S1024x5632 .bf16)
      (ix2 k (column ⟨2816 * (t.val / 16) + l, h⟩)) := by
  unfold iblk
  show ((cfg0.win 1).blk t).view.read _ (V m c main_v4) _ = _
  rw [weight]
  refine congrArg₂ (fun (a : Fin 1024) b => (m (c.tc.loc main_arg1) : FVec Ideal S1024x5632 .bf16) (ix2 a (column b))) (Fin.ext ?_) (Fin.ext ?_)
  · blk_simp [idx_val t]
  · blk_simp [idx_val t]
    exact congrArg (· + (l : ℕ)) (Nat.mul_comm _ _)

/-- What the first result's payload holds: the blocks' product. -/
theorem product_at (x : FVec Ideal S1024x1024 .bf16) (w : FVec Ideal S1024x2816 .bf16) (y : S1024x2816.Idx) :
    k0_pay2 (F := Ideal) x w y = forwardProduct x w (y 0) (y 1) := by
  idx_vars y
  pointwise [k0_pay2, k0_pay1, forwardProduct]

/-- What the second result's payload holds: the blocks' gated activation. -/
theorem gated_at (x : FVec Ideal S1024x1024 .bf16) (w : FVec Ideal S1024x2816 .bf16) (a : Fin 1024) (l : Fin 1408) :
    k0_pay3 (F := Ideal) x w (ix2 a l) = forwardProduct x w a ⟨(l : ℕ), by omega⟩ * Ideal.logistic (forwardProduct x w a ⟨(l : ℕ), by omega⟩)
      * forwardProduct x w a ⟨1408 + (l : ℕ), by omega⟩ := by
  pointwise [k0_pay3, k0_pay1, forwardProduct]

/-- An entry of one point's product is the entry of the whole product at the column the kernel's order puts there. -/
theorem block_product (c : Dev nD) (t : Fin cfg0.N) (a : Fin 1024) (l : Fin 2816) (h : 2816 * (t.val / 16) + l < 5632) (i : Fin 16384) (j : Fin 5632)
    (hi : (i : ℕ) = 1024 * (t.val % 16) + a) (hj : j = column ⟨2816 * (t.val / 16) + l, h⟩) :
    forwardProduct (iblk m c 0 t : FVec Ideal S1024x1024 .bf16) (iblk m c 1 t : FVec Ideal S1024x2816 .bf16) a l
      = forwardProduct (m (c.tc.loc main_arg0) : FVec Ideal S16384x1024 .bf16) (m (c.tc.loc main_arg1) : FVec Ideal S1024x5632 .bf16) i j := by
  subst hj
  have e : i = ⟨1024 * (t.val % 16) + a, by omega⟩ := Fin.ext hi
  rw [e]
  unfold forwardProduct
  exact Finset.sum_congr rfl fun k _ => congrArg₂ (fun p q : EReal => p * q) (block_input m c t a k) (block_weight m c t k l h)

/-- What a point stores of the product. -/
theorem point_gu (c : Dev nD) (t : Fin cfg0.N) (y : S1024x2816.Idx) :
    k0_pay2 (F := Ideal) (iblk m c 0 t) (iblk m c 1 t) y
      = (fun j : S16384x5632.Idx => forwardProduct (m (c.tc.loc main_arg0) : FVec Ideal S16384x1024 .bf16)
          (m (c.tc.loc main_arg1) : FVec Ideal S1024x5632 .bf16) (j 0) (column (j 1))) (((cfg0.win 2).blk t).view.emb y) := by
  have ht : t.val < 32 := lt_of_lt_of_eq t.isLt N_0
  have hy : ((y 1 : Fin 2816) : ℕ) < 2816 := (y 1 : Fin 2816).isLt
  have hb : 2816 * (t.val / 16) + ((y 1 : Fin 2816) : ℕ) < 5632 := by omega
  have h0 : ((((cfg0.win 2).blk t).view.emb y 0 : Fin 16384) : ℕ) = 1024 * (t.val % 16) + (y 0 : Fin 1024) := by
    blk_simp [idx_val t]
    omega
  have h1 : (((cfg0.win 2).blk t).view.emb y 1 : Fin 5632) = ⟨2816 * (t.val / 16) + ((y 1 : Fin 2816) : ℕ), hb⟩ := by
    refine Fin.ext ?_
    blk_simp [idx_val t]
    exact congrArg (· + ((y 1 : Fin 2816) : ℕ)) (Nat.mul_comm _ _)
  rw [product_at]
  exact block_product m c t (y 0) (y 1) hb _ _ h0 (congrArg column h1)

/-- What a point stores of the gated activation. -/
theorem point_act (c : Dev nD) (t : Fin cfg0.N) (y : S1024x1408.Idx) :
    k0_pay3 (F := Ideal) (iblk m c 0 t) (iblk m c 1 t) y
      = (fun j : S16384x2816.Idx => gatedEntry (m (c.tc.loc main_arg0) : FVec Ideal S16384x1024 .bf16)
          (m (c.tc.loc main_arg1) : FVec Ideal S1024x5632 .bf16) (j 0) (j 1)) (((cfg0.win 3).blk t).view.emb y) := by
  have ht : t.val < 32 := lt_of_lt_of_eq t.isLt N_0
  have hy : ((y 1 : Fin 1408) : ℕ) < 1408 := (y 1 : Fin 1408).isLt
  have hb : t.val / 16 < 2 := by omega
  have h0 : ((((cfg0.win 3).blk t).view.emb y 0 : Fin 16384) : ℕ) = 1024 * (t.val % 16) + (y 0 : Fin 1024) := by
    blk_simp [idx_val t]
    omega
  have h1 : ((((cfg0.win 3).blk t).view.emb y 1 : Fin 2816) : ℕ) = 1408 * (t.val / 16) + (y 1 : Fin 1408) := by
    blk_simp [idx_val t]
    omega
  generalize ((cfg0.win 3).blk t).view.emb y = j at h0 h1 ⊢
  have l1 : 2816 * (t.val / 16) + ((y 1 : Fin 1408) : ℕ) < 5632 := by omega
  have l2 : 2816 * (t.val / 16) + (1408 + ((y 1 : Fin 1408) : ℕ)) < 5632 := by omega
  have e1 := block_product m c t (y 0) ⟨((y 1 : Fin 1408) : ℕ), by omega⟩ l1 (j 0) _ h0 rfl
  have e2 := block_product m c t (y 0) ⟨1408 + ((y 1 : Fin 1408) : ℕ), by omega⟩ l2 (j 0) _ h0 rfl
  have hj : ((j 1 : Fin 2816) : ℕ) < 2816 := (j 1 : Fin 2816).isLt
  have g1 := Cert.Product.column_gate (t.val / 16) ((y 1 : Fin 1408) : ℕ) hb hy l1 ⟨((j 1 : Fin 2816) : ℕ), by omega⟩ h1
  have g2 := Cert.Product.column_up (t.val / 16) ((y 1 : Fin 1408) : ℕ) hb hy l2 ⟨2816 + ((j 1 : Fin 2816) : ℕ), by omega⟩ (congrArg (2816 + ·) h1)
  refine (congrArg (k0_pay3 (F := Ideal) (iblk m c 0 t) (iblk m c 1 t)) (eq_ix2 y)).trans ((gated_at _ _ (y 0) (y 1)).trans ?_)
  refine congrArg₂ (fun p q : EReal => p * Ideal.logistic p * q) (e1.trans ?_) (e2.trans ?_)
  · exact congrArg _ g1.symm
  · exact congrArg _ g2.symm

/-- The product's array after the run, in the kernel's order of columns. -/
theorem final_gu (c : Dev nD) : (dats m 0 c).arrAt 2 cfg0.N
    = fun j : S16384x5632.Idx => forwardProduct (m (c.tc.loc main_arg0) : FVec Ideal S16384x1024 .bf16)
        (m (c.tc.loc main_arg1) : FVec Ideal S1024x5632 .bf16) (j 0) (column (j 1)) := by
  refine (dats m 0 c).arrAt_eq_of_covers 2 _ (by decide +kernel) fun t _ y => ?_
  blk_simp
  rw [after0_2]
  frame_out
  exact point_gu m c t y

/-- The gated activation's array after the run. -/
theorem final_act (c : Dev nD) : (dats m 0 c).arrAt 3 cfg0.N
    = fun j : S16384x2816.Idx => gatedEntry (m (c.tc.loc main_arg0) : FVec Ideal S16384x1024 .bf16)
        (m (c.tc.loc main_arg1) : FVec Ideal S1024x5632 .bf16) (j 0) (j 1) := by
  refine (dats m 0 c).arrAt_eq_of_covers 3 _ (by decide +kernel) fun t _ y => ?_
  blk_simp
  rw [after0_3]
  frame_out
  exact point_act m c t y

/-- The lines after the region put the columns of the product back. -/
theorem restore (w : FVec Ideal S16384x5632 .bf16) :
    concatenate S16384x5632 1 [⟨S16384x1408, extractStridedSlice S16384x1408 ![0, 0] w slices_S16384x5632_S16384x1408_0_0⟩,
      ⟨S16384x1408, extractStridedSlice S16384x1408 ![0, 2816] w slices_S16384x5632_S16384x1408_0_2816⟩,
      ⟨S16384x1408, extractStridedSlice S16384x1408 ![0, 1408] w slices_S16384x5632_S16384x1408_0_1408⟩,
      ⟨S16384x1408, extractStridedSlice S16384x1408 ![0, 4224] w slices_S16384x5632_S16384x1408_0_4224⟩]
      concatenates_S16384x1408_S16384x1408_S16384x1408_S16384x1408_S16384x5632_d1 = fun j => w (ix2 (j 0) (column (j 1))) := by
  funext j
  idx_vars j
  pointwise
  split_ifs <;> refine congrArg (fun q : Fin 5632 => w (ix2 j0 q)) (Fin.ext ?_) <;> simp only [column] <;> split_ifs <;> omega

theorem column_column (j : Fin 5632) : column (column j) = j := by
  unfold column
  refine Fin.ext ?_
  simp only
  split_ifs <;> omega

/-- The product's array as the lines after the region find it. -/
def gu (c : Dev nD) : FVec Ideal S16384x5632 .bf16 :=
  Pipeline.withArrays (cfgs 0).spec c (V0 m c) (fun w => (dats m 0 c).arrAt w (cfgs 0).N) (Proc.tc.devRef main_v5_0)

/-- The kernel's run: the two results are the product and its gated activation, the arguments are kept. -/
theorem run_spec (ρ : Dev nD → PrngReg) : θ_run defs (onTc (τ := τ) (main (F := Ideal))) ⟨m, fun _ => 0, ρ⟩ fun r => ∀ c : Dev nD,
      r.2.mem (c.tc.loc main_v10)
        = (fun j : S16384x5632.Idx => forwardProduct (m (c.tc.loc main_arg0) : FVec Ideal S16384x1024 .bf16) (m (c.tc.loc main_arg1) : FVec Ideal S1024x5632 .bf16) (j 0) (j 1))
      ∧ r.2.mem (c.tc.loc main_v5_1)
        = (fun j : S16384x2816.Idx => gatedEntry (m (c.tc.loc main_arg0) : FVec Ideal S16384x1024 .bf16) (m (c.tc.loc main_arg1) : FVec Ideal S1024x5632 .bf16) (j 0) (j 1))
      ∧ r.2.mem (c.tc.loc main_arg0) = m (c.tc.loc main_arg0)
      ∧ r.2.mem (c.tc.loc main_arg1) = m (c.tc.loc main_arg1) := by
  refine (θ_run defs _ _).mono (fun r h c => ⟨?_, ((h.1 c).1 3).trans (final_act m c), (h.2 c).1, (h.2 c).2⟩) (θ_run_and (run_main (F := Ideal) m ρ) (unchanged m ρ))
  refine (((h.1 c).2 main_v10 (Pipeline.mem_restRefs_of main_v10 (by decide) (by decide)))).trans ?_
  unfold Pipeline.afterTail₀
  refine Eq.trans (b := concatenate S16384x5632 1 [⟨S16384x1408, extractStridedSlice S16384x1408 ![0, 0] (gu m c) slices_S16384x5632_S16384x1408_0_0⟩,
      ⟨S16384x1408, extractStridedSlice S16384x1408 ![0, 2816] (gu m c) slices_S16384x5632_S16384x1408_0_2816⟩,
      ⟨S16384x1408, extractStridedSlice S16384x1408 ![0, 1408] (gu m c) slices_S16384x5632_S16384x1408_0_1408⟩,
      ⟨S16384x1408, extractStridedSlice S16384x1408 ![0, 4224] (gu m c) slices_S16384x5632_S16384x1408_0_4224⟩]
      concatenates_S16384x1408_S16384x1408_S16384x1408_S16384x1408_S16384x5632_d1) ?_ ?_
  · show StableHlo.after (List.flatten [hostOps1]) _ _ = _
    simp only [List.flatten_cons, List.flatten_nil, List.append_nil]
    after_results
    rfl
  · have e : gu m c = (dats m 0 c).arrAt 2 cfg0.N :=
      Pipeline.withArrays_arr (cfgs 0).spec winFacts0.arr_inj c (V0 m c) (fun w => (dats m 0 c).arrAt w (cfgs 0).N) 2
    rw [restore, e, final_gu]
    funext j
    exact congrArg (forwardProduct _ _ _) (column_column _)

end Cert.Kernel11Ideal.Product

namespace Cert.Reference11Ideal.Product

open Cert.Reference11Ideal Cert.Reference11Ideal.Gen

variable (m : (ℓ : Loc nD τ sig) → Buf (Elt Ideal) ℓ)

/-- The reference's run: the two results are the product and its gated activation, the arguments are kept. -/
theorem run_spec (ρ : Dev nD → PrngReg) : θ_run defs (onTc (τ := τ) (main (F := Ideal))) ⟨m, fun _ => 0, ρ⟩ fun r => ∀ c : Dev nD,
      r.2.mem (c.tc.loc main_v3)
        = (fun j : S16384x5632.Idx => forwardProduct (m (c.tc.loc main_arg0) : FVec Ideal S16384x1024 .bf16) (m (c.tc.loc main_arg1) : FVec Ideal S1024x5632 .bf16) (j 0) (j 1))
      ∧ r.2.mem (c.tc.loc main_v8)
        = (fun j : S16384x2816.Idx => gatedEntry (m (c.tc.loc main_arg0) : FVec Ideal S16384x1024 .bf16) (m (c.tc.loc main_arg1) : FVec Ideal S1024x5632 .bf16) (j 0) (j 1))
      ∧ r.2.mem (c.tc.loc main_arg0) = m (c.tc.loc main_arg0)
      ∧ r.2.mem (c.tc.loc main_arg1) = m (c.tc.loc main_arg1) := by
  refine (θ_run defs _ _).mono (fun r h c => ⟨(h c).1.trans ?_, (h c).2.1.trans ?_, (h c).2.2⟩) (Value.run (F := Ideal) m ρ)
  · clear h
    funext j
    idx_vars j
    pointwise [forwardProduct]
  · clear h
    generalize (m (c.tc.loc main_arg0)) = x
    generalize (m (c.tc.loc main_arg1)) = w
    funext j
    idx_vars j
    pointwise [gatedEntry, forwardProduct, Ideal.logistic]

end Cert.Reference11Ideal.Product

namespace Cert.Proof

/-- The reference runs, keeps its arguments and leaves no counter raised. -/
theorem frame_reference11 : Cert.quiescent_Reference11Ideal (hReference11Ideal := Cert.Reference11Ideal.Gen.facts) := fun m ρ _ =>
  (θ_run Cert.Reference11Ideal.defs _ _).mono (fun r h => ⟨fun c => (h c).2.2,
    sem_eq_zero_of_no_sems (by decide) r.2⟩) (Cert.Reference11Ideal.Value.run (F := Ideal) m ρ)

/-- Kernel and reference compute the same product and the same gated activation. -/
theorem algebraic11 : Cert.algebraic_Kernel11Ideal_Reference11Ideal (hKernel11Ideal := Cert.Kernel11Ideal.Gen.facts)
    (hReference11Ideal := Cert.Reference11Ideal.Gen.facts) := fun m ρ m' ρ' _ hag => by
  refine ⟨_, _, Cert.Kernel11Ideal.Product.run_spec m ρ, ?_⟩
  refine (θ_run Cert.Reference11Ideal.defs _ _).mono (fun r h c => ?_) (Cert.Reference11Ideal.Product.run_spec m' ρ')
  obtain ⟨h0, h1, h2, h3⟩ := h c
  rw [(hag c).1, (hag c).2] at h0 h1
  exact ⟨h0, h1, h2, h3⟩

end Cert.Proof

end
-- ==== Proof.StickBreaking.Tile.lean ====
/-
  Stick breaking, backward: what one tile of 256 queries by 256 keys computes, for one head.
  Everything here is a plain function of vectors, over any number type, written with the program's operations in the
  program's order. A walk over the tiles carries, per query, the log of the stick left (`later`), the sum of the
  weighted gradients met so far (`laterG`) and the gradient of the query (`acc`).
-/
module

public import proofs.«01_k».proof.Proof.Gen.Kernel2Ideal.Skeleton
public import Idealize.ShloMosaic.Lib.VecWindow

@[expose] public section

noncomputable section

namespace Cert.Kernel2Ideal.Sb

open Idealize.ShloMosaic Cert.Kernel2Ideal Cert.Kernel2Ideal.Gen

variable {F : FTy → Type} [FloatOps F] [Named F]

/-- Scores of 256 queries against 256 keys. -/
def score (q kb : FVec F S256x128 .bf16) : FVec F S256x256 .f32 :=
  matmul dot_S256x128_S256x128_S256x256_1_1_0_0_n_n none q kb (constant S256x256 .f32 0x00000000#32)

/-- The log of the part of the stick that a key with score `z` leaves: minus softplus. -/
def logKeep (z : FVec F S256x256 .f32) : FVec F S256x256 .f32 :=
  subf (minimumf (subf (broadcast S256x256 (Scalar.ofBits .f32 0x00000000#32)) z) (broadcast S256x256 (Scalar.ofBits .f32 0x00000000#32)))
    (log (addf (broadcast S256x256 (Scalar.ofBits .f32 0x3F800000#32))
      (exp (subf (broadcast S256x256 (Scalar.ofBits .f32 0x00000000#32)) (absf z)))))

/-- `x` where the mask holds, the constant of the bits `b` elsewhere. -/
def keepWhere (mask : IVec S256x256 1) (x : FVec F S256x256 .f32) (b : BitVec 32) : FVec F S256x256 .f32 :=
  select mask x (broadcast S256x256 (Scalar.ofBits .f32 b))

/-- A product of a tile of weights by the strictly lower triangle of ones: sums over the later keys of the tile. -/
def sumLater (x st : FVec F S256x256 .bf16) : FVec F S256x256 .f32 :=
  matmul dot_S256x256_S256x256_S256x256_1_0_0_1_n_n none x st (constant S256x256 .f32 0x00000000#32)

/-- The log of a key's share: its score, what it leaves, what the later keys of the tile leave and `gate`, what the tiles after it leave. -/
def logShare (z lk : FVec F S256x256 .f32) (st : FVec F S256x256 .bf16) (gate : FVec F S256x1 .f32) : FVec F S256x256 .f32 :=
  addf (addf (addf z lk) (sumLater (truncf .bf16 lk bitsLt_bf16_f32) st)) (broadcastTo S256x256 gate broadcasts_S256x1_S256x256)

/-- The shares themselves, rounded. -/
def share (la : FVec F S256x256 .f32) : FVec F S256x256 .bf16 := truncf .bf16 (exp la) bitsLt_bf16_f32

/-- Each share times the gradient that reaches it. -/
def weighted (att : FVec F S256x256 .bf16) (dom vb : FVec F S256x128 .bf16) : FVec F S256x256 .f32 :=
  mulf (extf .f32 att bitsLt_bf16_f32) (matmul dot_S256x128_S256x128_S256x256_1_1_0_0_n_n none dom vb (constant S256x256 .f32 0x00000000#32))

/-- What the rounding of the weighted gradients drops. -/
def dropped (g : FVec F S256x256 .f32) : FVec F S256x256 .f32 :=
  subf g (extf .f32 (truncf .bf16 g bitsLt_bf16_f32) bitsLt_bf16_f32)

/-- The gradient of the scores: `before` is the total of the weighted gradients not yet met when the tile begins. -/
def dScore (z lk g : FVec F S256x256 .f32) (st : FVec F S256x256 .bf16) (before : FVec F S256x1 .f32) : FVec F S256x256 .f32 :=
  subf g (mulf (subf (broadcastTo S256x256 before broadcasts_S256x1_S256x256)
      (addf (sumLater (truncf .bf16 g bitsLt_bf16_f32) st) (sumLater (truncf .bf16 (dropped g) bitsLt_bf16_f32) st)))
    (exp (addf z lk)))

/-- Sums along the keys, one per query. -/
def rowSum (x : FVec F S256x256 .f32) : FVec F S256x1 .f32 :=
  shapeCast S256x1 (multiReduction .add [1] S256 x 0x00000000#32 reduces_S256x256_S256 (.inl rfl) rfl) shapeCasts_S256_S256x1

/-- A tile's part of the query gradient. -/
def toQuery (dz : FVec F S256x256 .bf16) (kb : FVec F S256x128 .bf16) : FVec F S256x128 .f32 :=
  matmul dot_S256x256_S256x128_S256x128_1_0_0_1_n_n none dz kb (constant S256x128 .f32 0x00000000#32)

/-- A tile's part of the key gradient (of the value gradient, at the shares). -/
def toKey (dz : FVec F S256x256 .bf16) (q : FVec F S256x128 .bf16) : FVec F S256x128 .f32 :=
  matmul dot_S256x256_S256x128_S256x128_0_0_1_1_n_n none dz q (constant S256x128 .f32 0x00000000#32)

/-- The column of the constant of the bits `b`. -/
def col (b : BitVec 32) : FVec F S256x1 .f32 := broadcast S256x1 (Scalar.ofBits .f32 b)

/-- What a walk carries for one head. -/
structure Carry (F : FTy → Type) where
  later : FVec F S256x1 .f32
  laterG : FVec F S256x1 .f32
  acc : FVec F S256x128 .f32

/-- What a walk knows of one head of its 256 queries: the scaled queries, the output's gradient and its product with the output, summed. -/
structure Head (F : FTy → Type) where
  q : FVec F S256x128 .bf16
  dom : FVec F S256x128 .bf16
  total : FVec F S256x1 .f32

/-- What one tile gives: the carry after it and its parts of the key and value gradients. -/
structure Out (F : FTy → Type) where
  carry : Carry F
  dk : FVec F S256x128 .f32
  dv : FVec F S256x128 .f32

/-- The carry before any tile. -/
def start : Carry F := ⟨col 0x00000000#32, col 0x00000000#32, broadcast S256x128 (Scalar.ofBits .f32 0x00000000#32)⟩

/-- The tile on the diagonal, where only the keys before the query count. -/
def diagTile (h : Head F) (mask : IVec S256x256 1) (st : FVec F S256x256 .bf16) (kb vb : FVec F S256x128 .bf16) (c : Carry F) : Out F :=
  let z := score h.q kb
  let lk := keepWhere mask (logKeep z) 0x00000000#32
  let att := share (keepWhere mask (logShare z lk st c.later) 0xFF800000#32)
  let g := weighted att h.dom vb
  let dz := truncf .bf16 (keepWhere mask (dScore z lk g st (subf h.total c.laterG)) 0x00000000#32) bitsLt_bf16_f32
  ⟨⟨addf c.later (rowSum lk), addf c.laterG (rowSum g), addf c.acc (toQuery dz kb)⟩, toKey dz h.q, toKey att h.dom⟩

/-- The tile after it, counted only where `valid`: the first block of queries has no such tile. -/
def nextTile (h : Head F) (valid : BitVec 1) (st : FVec F S256x256 .bf16) (kb vb : FVec F S256x128 .bf16) (c : Carry F) : Out F :=
  let z := score h.q kb
  let lk := logKeep z
  let att := share (logShare z lk st (Scalar.select valid c.later (col 0xFF800000#32)))
  let g := weighted att h.dom vb
  let dz := truncf .bf16 (dScore z lk g st (Scalar.select valid (subf h.total c.laterG) (col 0x00000000#32))) bitsLt_bf16_f32
  ⟨⟨addf c.later (Scalar.select valid (rowSum lk) (col 0x00000000#32)), addf c.laterG (rowSum g), addf c.acc (toQuery dz kb)⟩, toKey dz h.q, toKey att h.dom⟩

/-- A tile further left. -/
def tailTile (h : Head F) (st : FVec F S256x256 .bf16) (kb vb : FVec F S256x128 .bf16) (c : Carry F) : Out F :=
  let z := score h.q kb
  let lk := logKeep z
  let att := share (logShare z lk st c.later)
  let g := weighted att h.dom vb
  let dz := truncf .bf16 (dScore z lk g st (subf h.total c.laterG)) bitsLt_bf16_f32
  ⟨⟨addf c.later (rowSum lk), addf c.laterG (rowSum g), addf c.acc (toQuery dz kb)⟩, toKey dz h.q, toKey att h.dom⟩

/-- What the loop over the tiles further left carries: both heads' carries and the two accumulated gradients. -/
structure State (F : FTy → Type) where
  c0 : Carry F
  c1 : Carry F
  dk : FVec F S16384x128 .f32
  dv : FVec F S16384x128 .f32

/-- Rows `off …` of a gradient, with both heads' parts added. -/
def addAt (x : FVec F S16384x128 .f32) (off : Fin 2 → ℕ) (inb : ∀ a, off a + S256x128.size a ≤ S16384x128.size a)
    (d0 d1 : FVec F S256x128 .f32) : FVec F S16384x128 .f32 :=
  VecWindow.put x off S256x128.size
    (addf (shapeCast S256x128 (VecWindow.window x off S256x128.size inb) shapeCasts_S256x128_S256x128) (addf d0 d1))

/-- One trip of the loop, at the tile that the counter `w` names. -/
def trip (h0 h1 : Head F) (st : FVec F S256x256 .bf16) (k v : FVec F S16384x128 .bf16) (w : BitVec 32) (hw : k0_chk1 w) (s : State F) : State F :=
  let kb := VecWindow.window k (k0_off3 w) S256x128.size (k0_off3_inb w hw)
  let vb := VecWindow.window v (k0_off3 w) S256x128.size (k0_off3_inb w hw)
  let o0 := tailTile h0 st kb vb s.c0
  let o1 := tailTile h1 st kb vb s.c1
  ⟨o0.carry, o1.carry, addAt s.dk (k0_off3 w) (k0_off3_inb w hw) o0.dk o1.dk, addAt s.dv (k0_off3 w) (k0_off3_inb w hw) o0.dv o1.dv⟩

/-- The loop goes on while some query has a share of the stick left. -/
def goesOn (s : State F) : BitVec 1 :=
  Scalar.cmpf .ogt (k0_pay2 s.c0.later s.c1.later) (Named.named κ "cutoff" 0xC2D20000#32)

theorem chk_of_lt : ∀ n : ℕ, n < 64 → k0_chk1 (BitVec.ofNat 32 n) := by decide +kernel

/-- The loop with `n` tiles left: tiles `n - 1`, `n - 2`, … `0`, as long as it goes on. -/
def walk (h0 h1 : Head F) (st : FVec F S256x256 .bf16) (k v : FVec F S16384x128 .bf16) : ℕ → State F → State F
  | 0, s => s
  | n + 1, s => if goesOn s = 1#1 then (if h : n < 64 then walk h0 h1 st k v n (trip h0 h1 st k v _ (chk_of_lt n h) s) else s) else s

end Cert.Kernel2Ideal.Sb

end
-- ==== Proof.StickBreaking.Rules.lean ====
/-
  Stick breaking, backward: loads and stores by values. A buffer held at the vector `x`: a load of a rectangle reads
  the window of `x`, a store puts the payload over that window.
-/
module

public import proofs.«01_k».proof.Proof.StickBreaking.Tile
public import Idealize.ShloMosaic.Lib.Tactic

@[expose] public section

noncomputable section

namespace Cert.Kernel2Ideal.Sb

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The loops are answered with the number of tiles left as the variant. -/
abbrev 𝒱₀ : Variants := Variants.nat

variable {α : Type} {s : Shape} {e : EltTy} (c : Dev nD) (bd : Option ℕ)
  {Q : α → sProp (MT nD τ sig Unit (Elt F) ℕ (UR sig nD τ) ℕ)}

/-- A load reads the window. -/
theorem load_window {arg : Memref sig .tc .vmem s e} {x : s.Idx → Elt F e} {off size : Fin s.rank → ℕ} {inb : ∀ a, off a + size a ≤ s.size a}
    {hl : arg.view.LoadsAt (Rect.unit off size inb).toLoadRect}
    {k : ((Rect.unit off size inb).toLoadRect.shape.Idx → Elt F e) → Prog (TpuEff nD τ sig (Elt F) (Λ₀ F) .tc) α} :
    owns (c : Thread nD τ) arg fullShare x
      ⊢ iprop(((owns (c : Thread nD τ) arg fullShare x) -∗ wp frame (wpE (defs₀ (F := F)) 𝒱₀ (c : Thread nD τ) bd) Set.univ (k (VecWindow.window x off size inb)) Q)
        -∗ wp frame (wpE (defs₀ (F := F)) 𝒱₀ (c : Thread nD τ) bd) Set.univ (.op (.load arg (Rect.unit off size inb).toLoadRect hl) k) Q) := by
  unfold owns
  iintro ⟨%f, %hf, H⟩ Hk
  subst hf
  iapply (wp_load 𝒱₀ (c : Thread nD τ) bd Set.univ (m := arg) (arg.view.setOn_subset_set _)) $$ H; iintro H
  rw [← View.readAt_unit arg.view f inb rfl inb]
  iapply Hk
  iexists f; isplitr
  · ipureintro; rfl
  iexact H

/-- A store puts the payload over the window. -/
theorem store_put {arg : Memref sig .tc .vmem s e} {x : s.Idx → Elt F e} {off size : Fin s.rank → ℕ} {inb : ∀ a, off a + size a ≤ s.size a}
    {w : (Rect.unit off size inb).shape.Idx → Elt F e} {hx : (arg.access (Rect.unit off size inb)).Stores Finset.univ} {hm}
    {k : PUnit → Prog (TpuEff nD τ sig (Elt F) (Λ₀ F) .tc) α} :
    owns (c : Thread nD τ) arg fullShare x
      ⊢ iprop(((owns (c : Thread nD τ) arg fullShare (VecWindow.put x off size w)) -∗ wp frame (wpE (defs₀ (F := F)) 𝒱₀ (c : Thread nD τ) bd) Set.univ (k ⟨⟩) Q)
        -∗ wp frame (wpE (defs₀ (F := F)) 𝒱₀ (c : Thread nD τ) bd) Set.univ (.op (.store arg (Rect.unit off size inb) w Finset.univ hx hm) k) Q) := by
  unfold owns
  iintro ⟨%f, %hf, H⟩ Hk
  subst hf
  iapply (wp_store 𝒱₀ (c : Thread nD τ) bd Set.univ (m := arg) (r := Rect.unit off size inb) (Mk := Finset.univ)
    (show (arg.view.slice (Rect.unit off size inb)).setOn Finset.univ ⊆ arg.view.set by
      rw [View.setOn_univ]; exact View.set_slice_subset _ _)) $$ H; iintro H
  iapply Hk
  iexists _; isplitr; swap
  · iexact H
  ipureintro
  exact View.read_writes_cons_put arg.view f inb w [] rfl

end Cert.Kernel2Ideal.Sb

end
-- ==== Proof.StickBreaking.Loop.lean ====
/-
  Stick breaking, backward: the two loops over the tiles further left are `walk`. A label's call takes the buffers of
  the keys, the values and the two accumulated gradients, and gives them back as `walk` leaves them, with the carries.
-/
module

public import proofs.«01_k».proof.Proof.StickBreaking.Rules

@[expose] public section

noncomputable section

namespace Cert.Kernel2Ideal.Sb

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords)
  (arg3 : Memref sig .tc .vmem S16384x128 .bf16) (harg3 : arg3.IsWhole) (arg4 : Memref sig .tc .vmem S16384x128 .bf16) (harg4 : arg4.IsWhole)
  (arg8 : Memref sig .tc .vmem S16384x128 .f32) (harg8 : arg8.IsWhole) (arg9 : Memref sig .tc .vmem S16384x128 .f32) (harg9 : arg9.IsWhole)
  (h0 h1 : Head F) (st : FVec F S256x256 .bf16) (k v : FVec F S16384x128 .bf16)

/-- The buffers a loop works on. -/
def held (dk dv : FVec F S16384x128 .f32) : sProp (MT nD τ sig Unit (Elt F) ℕ (UR sig nD τ) ℕ) :=
  iprop(owns (c : Thread nD τ) arg3 fullShare k ∗ owns (c : Thread nD τ) arg4 fullShare v
    ∗ owns (c : Thread nD τ) arg8 fullShare dk ∗ owns (c : Thread nD τ) arg9 fullShare dv)

/-- The carried values, as the program passes them. -/
abbrev carried (w : BitVec 32) (s : State F) :
    BitVec 32 × FVec F S256x1 .f32 × FVec F S256x1 .f32 × FVec F S256x1 .f32 × FVec F S256x1 .f32 × FVec F S256x128 .f32 × FVec F S256x128 .f32 :=
  (w, s.c0.later, s.c1.later, s.c0.laterG, s.c1.laterG, s.c0.acc, s.c1.acc)

/-- What a loop's call does from the state `s` with `n` tiles left. -/
def spec (n : ℕ) (s : State F) :
    sWPT (MT nD τ sig Unit (Elt F) ℕ (UR sig nD τ) ℕ) (BitVec 32 × FVec F S256x1 .f32 × FVec F S256x1 .f32 × FVec F S256x1 .f32 × FVec F S256x1 .f32 × FVec F S256x128 .f32 × FVec F S256x128 .f32) := do
  sWPT.consume (held c arg3 arg4 arg8 arg9 k v s.dk s.dv)
  let w ← sWPT.arbitrary
  sWPT.produce (held c arg3 arg4 arg8 arg9 k v (walk h0 h1 st k v n s).dk (walk h0 h1 st k v n s).dv)
  pure (carried w (walk h0 h1 st k v n s))

theorem spec_apply (n : ℕ) (s : State F) (K) :
    spec c arg3 arg4 arg8 arg9 h0 h1 st k v n s K
      = iprop(held c arg3 arg4 arg8 arg9 k v s.dk s.dv
        ∗ ∀ w : BitVec 32, (held c arg3 arg4 arg8 arg9 k v (walk h0 h1 st k v n s).dk (walk h0 h1 st k v n s).dv
          -∗ K (carried w (walk h0 h1 st k v n s)))) := rfl

/-- The counter that stands for `n` tiles left: the next tile's number, or something negative. -/
def Counts (w : BitVec 32) (n : ℕ) : Prop := (n = 0 ∧ Scalar.cmpi .sge w 0#32 = 0#1) ∨ (n ≠ 0 ∧ n ≤ 64 ∧ w = BitVec.ofNat 32 (n - 1))

theorem counts_pred : ∀ n : ℕ, n < 64 → Scalar.cmpi .sge (BitVec.ofNat 32 n) 0#32 = 1#1 ∧ (n = 0 → Scalar.cmpi .sge (Scalar.subi (BitVec.ofNat 32 n) 1#32) 0#32 = 0#1)
    ∧ (n ≠ 0 → Scalar.subi (BitVec.ofNat 32 n) 1#32 = BitVec.ofNat 32 (n - 1)) := by decide +kernel

theorem andi_one (x : BitVec 1) : Scalar.andi 1#1 x = x := by revert x; decide
theorem andi_zero (x : BitVec 1) : Scalar.andi 0#1 x = 0#1 := by revert x; decide

/-- The walk's loop for the first 256 queries, by induction on the tiles left. -/
theorem loop1 : ∀ (n : ℕ) (w : BitVec 32) (s : State F), Counts w n → ∀ K,
    spec c arg3 arg4 arg8 arg9 h0 h1 st k v n s K
      ⊢ wp frame (wpE (defs₀ (F := F)) 𝒱₀ (c : Thread nD τ) (some n)) Set.univ
          (defs₀ (F := F) .tc 1 ⟨i, arg3, harg3, arg4, harg4, h0.q, st, h0.dom, h0.total, h1.q, h1.dom, h1.total, arg8, harg8, arg9, harg9,
            w, s.c0.later, s.c1.later, s.c0.laterG, s.c1.laterG, s.c0.acc, s.c1.acc⟩) K := by
  intro n
  induction n with
  | zero =>
    intro w s hw K
    have hw0 : Scalar.cmpi .sge w 0#32 = 0#1 := by rcases hw with h | h; exacts [h.2, absurd rfl h.1]
    rw [spec_apply, show walk h0 h1 st k v 0 s = s from rfl]
    show _ ⊢ wp frame _ _ (cc0_while1 i arg3 harg3 arg4 harg4 h0.q st h0.dom h0.total h1.q h1.dom h1.total arg8 harg8 arg9 harg9
            w s.c0.later s.c1.later s.c0.laterG s.c1.laterG s.c0.acc s.c1.acc) K
    simp only [cc0_while1_eq_skeleton]; unfold cc0_while1_skel
    simp only [hw0, andi_zero, show ¬((0#1 : BitVec 1) = 1#1) by decide, ↓reduceIte, Prog.pure_eq_ret]
    iintro ⟨H, Hk⟩
    rw [wp_ret]; imodintro
    iapply Hk
    iexact H
  | succ n ih =>
    intro w s hw K
    obtain ⟨hn, rfl⟩ : n < 64 ∧ w = BitVec.ofNat 32 n := by
      rcases hw with h | ⟨_, h, h'⟩
      · exact absurd h.1 (Nat.succ_ne_zero n)
      · exact ⟨by omega, h'⟩
    obtain ⟨hge, hz, hs⟩ := counts_pred n hn
    rw [spec_apply]
    show _ ⊢ wp frame _ _ (cc0_while1 i arg3 harg3 arg4 harg4 h0.q st h0.dom h0.total h1.q h1.dom h1.total arg8 harg8 arg9 harg9
            (BitVec.ofNat 32 n) s.c0.later s.c1.later s.c0.laterG s.c1.laterG s.c0.acc s.c1.acc) K
    simp only [cc0_while1_eq_skeleton]; unfold cc0_while1_skel
    simp only [hge, andi_one]
    by_cases hgo : goesOn s = 1#1
    · have hgo' := hgo
      unfold goesOn at hgo'
      have hwk : walk h0 h1 st k v (n + 1) s = walk h0 h1 st k v n (trip h0 h1 st k v _ (chk_of_lt n hn) s) := by
        rw [walk, if_pos hgo, dif_pos hn]
      rw [hwk]
      simp only [hgo', ↓reduceIte, k0_part17_eq_skeleton, k0_part18_eq_skeleton, k0_part17_skel, k0_part18_skel,
        Prog.lift, Prog.bind_op, Prog.bind_ret, Prog.pure_eq_ret]
      unfold held
      iintro ⟨⟨H3, H4, H8, H9⟩, Hk⟩
      iapply (wp_assume 𝒱₀ (c : Thread nD τ) (some (n + 1)) Set.univ (chk_of_lt n hn))
      iapply (load_window c (some (n + 1))) $$ H3; iintro H3
      iapply (load_window c (some (n + 1))) $$ H4; iintro H4
      iapply (load_window c (some (n + 1))) $$ H3; iintro H3
      iapply (load_window c (some (n + 1))) $$ H4; iintro H4
      iapply (load_window c (some (n + 1))) $$ H8; iintro H8
      iapply (load_window c (some (n + 1))) $$ H8; iintro H8
      iapply (store_put c (some (n + 1))) $$ H8; iintro H8
      iapply (load_window c (some (n + 1))) $$ H9; iintro H9
      iapply (load_window c (some (n + 1))) $$ H9; iintro H9
      iapply (store_put c (some (n + 1))) $$ H9; iintro H9
      iapply (wp_call_spec 𝒱₀ (c : Thread nD τ) (some (n + 1)) Set.univ
        (spec c arg3 arg4 arg8 arg9 h0 h1 st k v n (trip h0 h1 st k v _ (chk_of_lt n hn) s)) n
        (fun u hu => by cases hu; exact Nat.lt_succ_self n)
        (ih (Scalar.subi (BitVec.ofNat 32 n) 1#32) (trip h0 h1 st k v _ (chk_of_lt n hn) s)
          (by by_cases h : n = 0; exacts [.inl ⟨h, hz h⟩, .inr ⟨h, hn.le, hs h⟩])))
      rw [spec_apply]; unfold held
      isplitl [H3 H4 H8 H9]
      · isplitl [H3]; · iexact H3
        isplitl [H4]; · iexact H4
        isplitl [H8]; · iexact H8
        iexact H9
      iintro %w' ⟨H3, H4, H8, H9⟩
      rw [wp_ret]; imodintro
      iapply Hk
      isplitl [H3]; · iexact H3
      isplitl [H4]; · iexact H4
      isplitl [H8]; · iexact H8
      iexact H9
    · have hgo' := hgo
      unfold goesOn at hgo'
      have hwk : walk h0 h1 st k v (n + 1) s = s := by rw [walk, if_neg hgo]
      rw [hwk]
      simp only [hgo', ↓reduceIte, Prog.pure_eq_ret]
      iintro ⟨H, Hk⟩
      rw [wp_ret]; imodintro
      iapply Hk
      iexact H

/-- The walk's loop for the other 256 queries, by induction on the tiles left. -/
theorem loop2 : ∀ (n : ℕ) (w : BitVec 32) (s : State F), Counts w n → ∀ K,
    spec c arg3 arg4 arg8 arg9 h0 h1 st k v n s K
      ⊢ wp frame (wpE (defs₀ (F := F)) 𝒱₀ (c : Thread nD τ) (some n)) Set.univ
          (defs₀ (F := F) .tc 2 ⟨i, arg3, harg3, arg4, harg4, h0.q, st, h0.dom, h0.total, h1.q, h1.dom, h1.total, arg8, harg8, arg9, harg9,
            w, s.c0.later, s.c1.later, s.c0.laterG, s.c1.laterG, s.c0.acc, s.c1.acc⟩) K := by
  intro n
  induction n with
  | zero =>
    intro w s hw K
    have hw0 : Scalar.cmpi .sge w 0#32 = 0#1 := by rcases hw with h | h; exacts [h.2, absurd rfl h.1]
    rw [spec_apply, show walk h0 h1 st k v 0 s = s from rfl]
    show _ ⊢ wp frame _ _ (cc0_while2 i arg3 harg3 arg4 harg4 h0.q st h0.dom h0.total h1.q h1.dom h1.total arg8 harg8 arg9 harg9
            w s.c0.later s.c1.later s.c0.laterG s.c1.laterG s.c0.acc s.c1.acc) K
    simp only [cc0_while2_eq_skeleton]; unfold cc0_while2_skel
    simp only [hw0, andi_zero, show ¬((0#1 : BitVec 1) = 1#1) by decide, ↓reduceIte, Prog.pure_eq_ret]
    iintro ⟨H, Hk⟩
    rw [wp_ret]; imodintro
    iapply Hk
    iexact H
  | succ n ih =>
    intro w s hw K
    obtain ⟨hn, rfl⟩ : n < 64 ∧ w = BitVec.ofNat 32 n := by
      rcases hw with h | ⟨_, h, h'⟩
      · exact absurd h.1 (Nat.succ_ne_zero n)
      · exact ⟨by omega, h'⟩
    obtain ⟨hge, hz, hs⟩ := counts_pred n hn
    rw [spec_apply]
    show _ ⊢ wp frame _ _ (cc0_while2 i arg3 harg3 arg4 harg4 h0.q st h0.dom h0.total h1.q h1.dom h1.total arg8 harg8 arg9 harg9
            (BitVec.ofNat 32 n) s.c0.later s.c1.later s.c0.laterG s.c1.laterG s.c0.acc s.c1.acc) K
    simp only [cc0_while2_eq_skeleton]; unfold cc0_while2_skel
    simp only [hge, andi_one]
    by_cases hgo : goesOn s = 1#1
    · have hgo' : Scalar.cmpf .ogt (k0_pay9 s.c0.later s.c1.later) (Named.named κ "cutoff" 0xC2D20000#32) = 1#1 := hgo
      have hwk : walk h0 h1 st k v (n + 1) s = walk h0 h1 st k v n (trip h0 h1 st k v _ (chk_of_lt n hn) s) := by
        rw [walk, if_pos hgo, dif_pos hn]
      rw [hwk]
      simp only [hgo', ↓reduceIte, k0_part19_eq_skeleton, k0_part20_eq_skeleton, k0_part19_skel, k0_part20_skel,
        Prog.lift, Prog.bind_op, Prog.bind_ret, Prog.pure_eq_ret]
      unfold held
      iintro ⟨⟨H3, H4, H8, H9⟩, Hk⟩
      iapply (wp_assume 𝒱₀ (c : Thread nD τ) (some (n + 1)) Set.univ (chk_of_lt n hn))
      iapply (load_window c (some (n + 1))) $$ H3; iintro H3
      iapply (load_window c (some (n + 1))) $$ H4; iintro H4
      iapply (load_window c (some (n + 1))) $$ H3; iintro H3
      iapply (load_window c (some (n + 1))) $$ H4; iintro H4
      iapply (load_window c (some (n + 1))) $$ H8; iintro H8
      iapply (load_window c (some (n + 1))) $$ H8; iintro H8
      iapply (store_put c (some (n + 1))) $$ H8; iintro H8
      iapply (load_window c (some (n + 1))) $$ H9; iintro H9
      iapply (load_window c (some (n + 1))) $$ H9; iintro H9
      iapply (store_put c (some (n + 1))) $$ H9; iintro H9
      iapply (wp_call_spec 𝒱₀ (c : Thread nD τ) (some (n + 1)) Set.univ
        (spec c arg3 arg4 arg8 arg9 h0 h1 st k v n (trip h0 h1 st k v _ (chk_of_lt n hn) s)) n
        (fun u hu => by cases hu; exact Nat.lt_succ_self n)
        (ih (Scalar.subi (BitVec.ofNat 32 n) 1#32) (trip h0 h1 st k v _ (chk_of_lt n hn) s)
          (by by_cases h : n = 0; exacts [.inl ⟨h, hz h⟩, .inr ⟨h, hn.le, hs h⟩])))
      rw [spec_apply]; unfold held
      isplitl [H3 H4 H8 H9]
      · isplitl [H3]; · iexact H3
        isplitl [H4]; · iexact H4
        isplitl [H8]; · iexact H8
        iexact H9
      iintro %w' ⟨H3, H4, H8, H9⟩
      rw [wp_ret]; imodintro
      iapply Hk
      isplitl [H3]; · iexact H3
      isplitl [H4]; · iexact H4
      isplitl [H8]; · iexact H8
      iexact H9
    · have hgo' : ¬Scalar.cmpf .ogt (k0_pay9 s.c0.later s.c1.later) (Named.named κ "cutoff" 0xC2D20000#32) = 1#1 := hgo
      have hwk : walk h0 h1 st k v (n + 1) s = s := by rw [walk, if_neg hgo]
      rw [hwk]
      simp only [hgo', ↓reduceIte, Prog.pure_eq_ret]
      iintro ⟨H, Hk⟩
      rw [wp_ret]; imodintro
      iapply Hk
      iexact H

end Cert.Kernel2Ideal.Sb

end
-- ==== Proof.StickBreaking.Point.lean ====
/-
  Stick breaking, backward: what one grid point computes. A point takes 512 queries as two walks of 256; each first
  does the diagonal tile and the one before it, then loops over the tiles further left.
-/
module

public import proofs.«01_k».proof.Proof.StickBreaking.Loop

@[expose] public section

noncomputable section

namespace Cert.Kernel2Ideal.Sb

open Idealize.ShloMosaic Cert.Kernel2Ideal Cert.Kernel2Ideal.Gen

variable {F : FTy → Type} [FloatOps F] [Named F]

/-- The number of a walk's diagonal tile, as the program computes it. -/
def tileNo (i : grid0.Coords) (sub : BitVec 32) : BitVec 32 :=
  Scalar.divsi (Scalar.muli (Scalar.addi (Scalar.muli (BitVec.ofNat 32 (i 1).val) 2#32) sub) 256#32) 256#32

/-- The keys before the query, on the diagonal tile. -/
def maskOf (i : grid0.Coords) (sub : BitVec 32) : IVec S256x256 1 :=
  cmpi .slt (addi (iota .tc S256x256 32 [1] iota_S256x256_d1_w32)
      (broadcast S256x256 (Scalar.subi (Scalar.muli (tileNo i sub) 256#32)
        (Scalar.muli (Scalar.addi (Scalar.muli (BitVec.ofNat 32 (i 1).val) 2#32) sub) 256#32))))
    (iota .tc S256x256 32 [0] iota_S256x256_d0_w32)

/-- The first head of 256 queries: the first 64 lanes. -/
def head0 (q dy : FVec F S256x128 .bf16) (y : FVec F S256x128 .f32) : Head F :=
  ⟨k0_pay20 q, k0_pay24 dy, k0_pay27 k0_pay18 dy y⟩

/-- The second head: the other 64 lanes. -/
def head1 (q dy : FVec F S256x128 .bf16) (y : FVec F S256x128 .f32) : Head F :=
  ⟨k0_pay21 q, k0_pay25 k0_pay18 dy, k0_pay28 k0_pay18 dy y⟩

/-- The two tiles that a walk does before its loop. -/
def straight (h0 h1 : Head F) (i : grid0.Coords) (sub : BitVec 32) (k v : FVec F S16384x128 .bf16)
    (inb1 : ∀ a, k0_off1 i sub a + S256x128.size a ≤ S16384x128.size a) (inb2 : ∀ a, k0_off2 i sub a + S256x128.size a ≤ S16384x128.size a)
    (dk dv : FVec F S16384x128 .f32) : State F :=
  let ka := VecWindow.window k (k0_off1 i sub) S256x128.size inb1
  let va := VecWindow.window v (k0_off1 i sub) S256x128.size inb1
  let kb := VecWindow.window k (k0_off2 i sub) S256x128.size inb2
  let vb := VecWindow.window v (k0_off2 i sub) S256x128.size inb2
  let valid := Scalar.cmpi .sge (tileNo i sub) 1#32
  let a0 := diagTile h0 (maskOf i sub) k0_pay23 ka va start
  let b0 := nextTile h0 valid k0_pay23 kb vb a0.carry
  let a1 := diagTile h1 (maskOf i sub) k0_pay23 ka va start
  let b1 := nextTile h1 valid k0_pay23 kb vb a1.carry
  ⟨b0.carry, b1.carry, addAt (addAt dk (k0_off1 i sub) inb1 a0.dk a1.dk) (k0_off2 i sub) inb2 b0.dk b1.dk,
    addAt (addAt dv (k0_off1 i sub) inb1 a0.dv a1.dv) (k0_off2 i sub) inb2 b0.dv b1.dv⟩

/-- Both heads' query gradients of a walk, side by side and scaled. -/
def joined (s : State F) : FVec F S256x128 .f32 := k0_pay1 k0_pay18 s.c0.acc s.c1.acc

/-- The first 256 rows of a block. -/
def upper {e : EltTy} (x : Vec F S512x128 e) : Vec F S256x128 e := VecWindow.window x ![0, 0] S256x128.size inb_S512x128_S256x128_0_0

/-- The other 256 rows. -/
def lower {e : EltTy} (x : Vec F S512x128 e) : Vec F S256x128 e := VecWindow.window x ![256, 0] S256x128.size inb_S512x128_S256x128_256_0

/-- What a point leaves. -/
structure Left (F : FTy → Type) where
  dq : FVec F S512x128 .f32
  dk : FVec F S16384x128 .f32
  dv : FVec F S16384x128 .f32

/-- A point: both walks' first tiles, then both loops. -/
def point (i : grid0.Coords) (q : FVec F S512x128 .bf16) (k v : FVec F S16384x128 .bf16) (dy : FVec F S512x128 .bf16) (y : FVec F S512x128 .f32)
    (dk dv : FVec F S16384x128 .f32) : Left F :=
  let h := head0 (upper (F := F) (e := .bf16) q) (upper (F := F) (e := .bf16) dy) (upper (F := F) (e := .f32) y)
  let g := head1 (upper (F := F) (e := .bf16) q) (upper (F := F) (e := .bf16) dy) (upper (F := F) (e := .f32) y)
  let h' := head0 (lower (F := F) (e := .bf16) q) (lower (F := F) (e := .bf16) dy) (lower (F := F) (e := .f32) y)
  let g' := head1 (lower (F := F) (e := .bf16) q) (lower (F := F) (e := .bf16) dy) (lower (F := F) (e := .f32) y)
  let s0 := straight h g i 0#32 k v (k0_off1_inb i 0) (k0_off2_inb i 0) dk dv
  let s1 := straight h' g' i 1#32 k v (k0_off1_inb i 1) (k0_off2_inb i 1) s0.dk s0.dv
  let e0 := walk h g k0_pay23 k v (2 * (i 1).val - 1) ⟨s0.c0, s0.c1, s1.dk, s1.dv⟩
  let e1 := walk h' g' k0_pay23 k v (2 * (i 1).val) ⟨s1.c0, s1.c1, e0.dk, e0.dv⟩
  ⟨VecWindow.put (VecWindow.put (broadcast S512x128 (Scalar.ofBits .f32 0x00000000#32)) ![0, 0] S256x128.size (joined e0)) ![256, 0] S256x128.size (joined e1),
    e1.dk, e1.dv⟩

/-- An accumulated gradient as a point finds it: zero at the first point of a pair of heads. -/
def base (i : grid0.Coords) (x : FVec F S16384x128 .f32) : FVec F S16384x128 .f32 :=
  if (i 1).val = 0 then k0_pay16 else x

theorem base_cond : ∀ n : ℕ, n < 32 → (Scalar.cmpi .ne (Scalar.extui (Scalar.cmpi .eq (BitVec.ofNat 32 n) 0#32) : BitVec 32) 0#32 = 1#1 ↔ n = 0) := by
  decide +kernel

theorem counts0 : ∀ n : ℕ, n < 32 → Counts (Scalar.subi (Scalar.divsi (Scalar.muli (Scalar.addi (Scalar.muli (BitVec.ofNat 32 n) 2#32) 0#32) 256#32) 256#32) 2#32) (2 * n - 1) := by
  unfold Counts; decide +kernel

theorem counts1 : ∀ n : ℕ, n < 32 → Counts (Scalar.subi (Scalar.divsi (Scalar.muli (Scalar.addi (Scalar.muli (BitVec.ofNat 32 n) 2#32) 1#32) 256#32) 256#32) 2#32) (2 * n) := by
  unfold Counts; decide +kernel

theorem put_full (x : FVec F S16384x128 .f32) (w) : VecWindow.put x ![0, 0] S16384x128.size w = w := by
  funext y
  unfold VecWindow.put
  have h0 : (y 0).val < 16384 := (y 0).isLt
  have h1 : (y 1).val < 128 := (y 1).isLt
  rw [dif_pos (fun a => by fin_cases a <;> [exact ⟨Nat.zero_le _, by simpa using h0⟩; exact ⟨Nat.zero_le _, by simpa using h1⟩])]
  exact congrArg w (funext fun a => Fin.ext (by fin_cases a <;> rfl))

/-- Whatever the block of query gradients held before, the two halves cover it. -/
theorem put_halves (x x' : FVec F S512x128 .f32) (a b) :
    VecWindow.put (VecWindow.put x ![0, 0] S256x128.size a) ![256, 0] S256x128.size b
      = VecWindow.put (VecWindow.put x' ![0, 0] S256x128.size a) ![256, 0] S256x128.size b := by
  funext y
  unfold VecWindow.put
  split
  · rfl
  · rename_i h
    split
    · rfl
    · rename_i h'
      exfalso
      have h0 : (y 0).val < 512 := (y 0).isLt
      have h1 : (y 1).val < 128 := (y 1).isLt
      by_cases hy : (y 0).val < 256
      · exact h' fun a => by fin_cases a <;> exact ⟨Nat.zero_le _, by simpa⟩
      · refine h fun a => ?_
        fin_cases a
        · exact ⟨by simpa using hy, by simpa using h0⟩
        · exact ⟨Nat.zero_le _, by simpa using h1⟩

end Cert.Kernel2Ideal.Sb

end
-- ==== Proof.StickBreaking.Buffers.lean ====
/-
  Stick breaking, backward: the buffers a grid point works on.
-/
module

public import proofs.«01_k».proof.Proof.StickBreaking.Point

@[expose] public section

noncomputable section

namespace Cert.Kernel2Ideal.Sb

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords)
  (arg2 : Memref sig .tc .vmem S512x128 .bf16) (harg2 : arg2.IsWhole)
  (arg3 : Memref sig .tc .vmem S16384x128 .bf16) (harg3 : arg3.IsWhole) (arg4 : Memref sig .tc .vmem S16384x128 .bf16) (harg4 : arg4.IsWhole)
  (arg5 : Memref sig .tc .vmem S512x128 .bf16) (harg5 : arg5.IsWhole) (arg6 : Memref sig .tc .vmem S512x128 .f32) (harg6 : arg6.IsWhole)
  (arg7 : Memref sig .tc .vmem S512x128 .f32) (harg7 : arg7.IsWhole)
  (arg8 : Memref sig .tc .vmem S16384x128 .f32) (harg8 : arg8.IsWhole) (arg9 : Memref sig .tc .vmem S16384x128 .f32) (harg9 : arg9.IsWhole)
  (q : FVec F S512x128 .bf16) (k v : FVec F S16384x128 .bf16) (dy : FVec F S512x128 .bf16) (y : FVec F S512x128 .f32)

/-- The five inputs' buffers. -/
def inputs : sProp (MT nD τ sig Unit (Elt F) ℕ (UR sig nD τ) ℕ) :=
  iprop(owns (c : Thread nD τ) arg2 fullShare q ∗ owns (c : Thread nD τ) arg3 fullShare k ∗ owns (c : Thread nD τ) arg4 fullShare v
    ∗ owns (c : Thread nD τ) arg5 fullShare dy ∗ owns (c : Thread nD τ) arg6 fullShare y)

/-- The three outputs' buffers. -/
def outputs (dq : FVec F S512x128 .f32) (dk dv : FVec F S16384x128 .f32) : sProp (MT nD τ sig Unit (Elt F) ℕ (UR sig nD τ) ℕ) :=
  iprop(owns (c : Thread nD τ) arg7 fullShare dq ∗ owns (c : Thread nD τ) arg8 fullShare dk ∗ owns (c : Thread nD τ) arg9 fullShare dv)

end Cert.Kernel2Ideal.Sb

end
-- ==== Proof.StickBreaking.BodyFirst.lean ====
/-
  Stick breaking, backward: the body at the first point of a pair of heads, which fills the accumulated gradients with
  zeros before the walks.
-/
module

public import proofs.«01_k».proof.Proof.StickBreaking.Buffers

@[expose] public section

noncomputable section

namespace Cert.Kernel2Ideal.Sb

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords)
  (arg2 : Memref sig .tc .vmem S512x128 .bf16) (harg2 : arg2.IsWhole)
  (arg3 : Memref sig .tc .vmem S16384x128 .bf16) (harg3 : arg3.IsWhole) (arg4 : Memref sig .tc .vmem S16384x128 .bf16) (harg4 : arg4.IsWhole)
  (arg5 : Memref sig .tc .vmem S512x128 .bf16) (harg5 : arg5.IsWhole) (arg6 : Memref sig .tc .vmem S512x128 .f32) (harg6 : arg6.IsWhole)
  (arg7 : Memref sig .tc .vmem S512x128 .f32) (harg7 : arg7.IsWhole)
  (arg8 : Memref sig .tc .vmem S16384x128 .f32) (harg8 : arg8.IsWhole) (arg9 : Memref sig .tc .vmem S16384x128 .f32) (harg9 : arg9.IsWhole)
  (q : FVec F S512x128 .bf16) (k v : FVec F S16384x128 .bf16) (dy : FVec F S512x128 .bf16) (y : FVec F S512x128 .f32)

set_option maxHeartbeats 4000000 in
/-- The body, run statement by statement, at a first point. -/
theorem body_first (h0 : (i 1).val = 0) (dq : FVec F S512x128 .f32) (dk dv : FVec F S16384x128 .f32) (K : PUnit → sProp (MT nD τ sig Unit (Elt F) ℕ (UR sig nD τ) ℕ)) :
    iprop(inputs c arg2 arg3 arg4 arg5 arg6 q k v dy y ∗ outputs c arg7 arg8 arg9 dq dk dv
        ∗ (iprop(inputs c arg2 arg3 arg4 arg5 arg6 q k v dy y ∗ outputs c arg7 arg8 arg9
            (point i q k v dy y (base i dk) (base i dv)).dq (point i q k v dy y (base i dk) (base i dv)).dk (point i q k v dy y (base i dk) (base i dv)).dv) -∗ K ⟨⟩))
      ⊢ wp frame (wpE (defs₀ (F := F)) 𝒱₀ (c : Thread nD τ) none) Set.univ
          (cc0_sb_bwd i arg2 harg2 arg3 harg3 arg4 harg4 arg5 harg5 arg6 harg6 arg7 harg7 arg8 harg8 arg9 harg9) K := by
  have hi : (i 1).val < 32 := (i 1).isLt
  simp only [cc0_sb_bwd_eq_skeleton]; unfold cc0_sb_bwd_skel
  simp only [k0_part16_eq_skeleton, k0_part16_skel]
  simp only [k0_part1_eq_skeleton, k0_part1_skel]
  have hc := (base_cond _ hi).mpr h0
  simp only [base, if_pos h0, hc, ↓reduceDIte, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton,
    k0_part2_skel, k0_part3_skel, k0_part4_skel, k0_part5_skel, k0_part6_skel, k0_part7_skel, k0_part8_skel, k0_part9_skel, k0_part10_skel, k0_part11_skel, k0_part12_skel, k0_part13_skel, k0_part14_skel, k0_part15_skel, Prog.lift, Prog.bind_op, Prog.bind_ret, Prog.pure_eq_ret]
  unfold inputs outputs
  let h := head0 (upper (F := F) (e := .bf16) q) (upper (F := F) (e := .bf16) dy) (upper (F := F) (e := .f32) y)
  let g := head1 (upper (F := F) (e := .bf16) q) (upper (F := F) (e := .bf16) dy) (upper (F := F) (e := .f32) y)
  let h' := head0 (lower (F := F) (e := .bf16) q) (lower (F := F) (e := .bf16) dy) (lower (F := F) (e := .f32) y)
  let g' := head1 (lower (F := F) (e := .bf16) q) (lower (F := F) (e := .bf16) dy) (lower (F := F) (e := .f32) y)
  let s0 := straight h g i 0#32 k v (k0_off1_inb i 0) (k0_off2_inb i 0) k0_pay16 k0_pay16
  let s1 := straight h' g' i 1#32 k v (k0_off1_inb i 1) (k0_off2_inb i 1) s0.dk s0.dv
  let e0 := walk h g k0_pay23 k v (2 * (i 1).val - 1) ⟨s0.c0, s0.c1, s1.dk, s1.dv⟩
  iintro ⟨⟨H2, H3, H4, H5, H6⟩, ⟨H7, H8, H9⟩, Hk⟩
  iapply (load_window c none) $$ H8; iintro H8
  iapply (store_put c none) $$ H8; iintro H8
  iapply (load_window c none) $$ H9; iintro H9
  iapply (store_put c none) $$ H9; iintro H9
  rw [put_full, put_full]
  iapply (load_window c none) $$ H2; iintro H2
  iapply (load_window c none) $$ H5; iintro H5
  iapply (load_window c none) $$ H6; iintro H6
  iapply (load_window c none) $$ H3; iintro H3
  iapply (load_window c none) $$ H4; iintro H4
  iapply (load_window c none) $$ H3; iintro H3
  iapply (load_window c none) $$ H4; iintro H4
  iapply (load_window c none) $$ H3; iintro H3
  iapply (load_window c none) $$ H4; iintro H4
  iapply (load_window c none) $$ H3; iintro H3
  iapply (load_window c none) $$ H4; iintro H4
  iapply (load_window c none) $$ H8; iintro H8
  iapply (load_window c none) $$ H8; iintro H8
  iapply (store_put c none) $$ H8; iintro H8
  iapply (load_window c none) $$ H9; iintro H9
  iapply (load_window c none) $$ H9; iintro H9
  iapply (store_put c none) $$ H9; iintro H9
  iapply (load_window c none) $$ H8; iintro H8
  iapply (load_window c none) $$ H8; iintro H8
  iapply (store_put c none) $$ H8; iintro H8
  iapply (load_window c none) $$ H9; iintro H9
  iapply (load_window c none) $$ H9; iintro H9
  iapply (store_put c none) $$ H9; iintro H9
  iapply (load_window c none) $$ H2; iintro H2
  iapply (load_window c none) $$ H5; iintro H5
  iapply (load_window c none) $$ H6; iintro H6
  iapply (load_window c none) $$ H3; iintro H3
  iapply (load_window c none) $$ H4; iintro H4
  iapply (load_window c none) $$ H3; iintro H3
  iapply (load_window c none) $$ H4; iintro H4
  iapply (load_window c none) $$ H3; iintro H3
  iapply (load_window c none) $$ H4; iintro H4
  iapply (load_window c none) $$ H3; iintro H3
  iapply (load_window c none) $$ H4; iintro H4
  iapply (load_window c none) $$ H8; iintro H8
  iapply (load_window c none) $$ H8; iintro H8
  iapply (store_put c none) $$ H8; iintro H8
  iapply (load_window c none) $$ H9; iintro H9
  iapply (load_window c none) $$ H9; iintro H9
  iapply (store_put c none) $$ H9; iintro H9
  iapply (load_window c none) $$ H8; iintro H8
  iapply (load_window c none) $$ H8; iintro H8
  iapply (store_put c none) $$ H8; iintro H8
  iapply (load_window c none) $$ H9; iintro H9
  iapply (load_window c none) $$ H9; iintro H9
  iapply (store_put c none) $$ H9; iintro H9
  have hT := loop1 c i arg3 harg3 arg4 harg4 arg8 harg8 arg9 harg9 h g (k0_pay23 (F := F)) k v (2 * (i 1).val - 1) _ ⟨s0.c0, s0.c1, s1.dk, s1.dv⟩ (counts0 _ hi)
  iapply (wp_call_spec 𝒱₀ (c : Thread nD τ) none Set.univ (spec c arg3 arg4 arg8 arg9 h g (k0_pay23 (F := F)) k v (2 * (i 1).val - 1) ⟨s0.c0, s0.c1, s1.dk, s1.dv⟩) (2 * (i 1).val - 1)
    (fun u hu => nomatch hu) hT)
  rw [spec_apply]; unfold held
  isplitl [H3 H4 H8 H9]
  · isplitl [H3]; · iexact H3
    isplitl [H4]; · iexact H4
    isplitl [H8]; · iexact H8
    iexact H9
  iintro %w1 ⟨H3, H4, H8, H9⟩
  iapply (load_window c none) $$ H7; iintro H7
  iapply (store_put c none) $$ H7; iintro H7
  have hT := loop2 c i arg3 harg3 arg4 harg4 arg8 harg8 arg9 harg9 h' g' (k0_pay23 (F := F)) k v (2 * (i 1).val) _ ⟨s1.c0, s1.c1, e0.dk, e0.dv⟩ (counts1 _ hi)
  iapply (wp_call_spec 𝒱₀ (c : Thread nD τ) none Set.univ (spec c arg3 arg4 arg8 arg9 h' g' (k0_pay23 (F := F)) k v (2 * (i 1).val) ⟨s1.c0, s1.c1, e0.dk, e0.dv⟩) (2 * (i 1).val)
    (fun u hu => nomatch hu) hT)
  rw [spec_apply]; unfold held
  isplitl [H3 H4 H8 H9]
  · isplitl [H3]; · iexact H3
    isplitl [H4]; · iexact H4
    isplitl [H8]; · iexact H8
    iexact H9
  iintro %w2 ⟨H3, H4, H8, H9⟩
  iapply (load_window c none) $$ H7; iintro H7
  iapply (store_put c none) $$ H7; iintro H7
  rw [wp_ret]; imodintro
  iapply Hk
  isplitl [H2 H3 H4 H5 H6]
  · isplitl [H2]; · iexact H2
    isplitl [H3]; · iexact H3
    isplitl [H4]; · iexact H4
    isplitl [H5]; · iexact H5
    iexact H6
  isplitl [H7]
  · rw [put_halves dq (broadcast S512x128 (Scalar.ofBits .f32 0x00000000#32))]; iexact H7
  isplitl [H8]; · iexact H8
  iexact H9

end Cert.Kernel2Ideal.Sb

end
-- ==== Proof.StickBreaking.BodyLater.lean ====
/-
  Stick breaking, backward: the body at every other point, which adds to what the point before left.
-/
module

public import proofs.«01_k».proof.Proof.StickBreaking.Buffers

@[expose] public section

noncomputable section

namespace Cert.Kernel2Ideal.Sb

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords)
  (arg2 : Memref sig .tc .vmem S512x128 .bf16) (harg2 : arg2.IsWhole)
  (arg3 : Memref sig .tc .vmem S16384x128 .bf16) (harg3 : arg3.IsWhole) (arg4 : Memref sig .tc .vmem S16384x128 .bf16) (harg4 : arg4.IsWhole)
  (arg5 : Memref sig .tc .vmem S512x128 .bf16) (harg5 : arg5.IsWhole) (arg6 : Memref sig .tc .vmem S512x128 .f32) (harg6 : arg6.IsWhole)
  (arg7 : Memref sig .tc .vmem S512x128 .f32) (harg7 : arg7.IsWhole)
  (arg8 : Memref sig .tc .vmem S16384x128 .f32) (harg8 : arg8.IsWhole) (arg9 : Memref sig .tc .vmem S16384x128 .f32) (harg9 : arg9.IsWhole)
  (q : FVec F S512x128 .bf16) (k v : FVec F S16384x128 .bf16) (dy : FVec F S512x128 .bf16) (y : FVec F S512x128 .f32)

set_option maxHeartbeats 4000000 in
/-- The body, run statement by statement, at a later point. -/
theorem body_later (h0 : ¬(i 1).val = 0) (dq : FVec F S512x128 .f32) (dk dv : FVec F S16384x128 .f32) (K : PUnit → sProp (MT nD τ sig Unit (Elt F) ℕ (UR sig nD τ) ℕ)) :
    iprop(inputs c arg2 arg3 arg4 arg5 arg6 q k v dy y ∗ outputs c arg7 arg8 arg9 dq dk dv
        ∗ (iprop(inputs c arg2 arg3 arg4 arg5 arg6 q k v dy y ∗ outputs c arg7 arg8 arg9
            (point i q k v dy y (base i dk) (base i dv)).dq (point i q k v dy y (base i dk) (base i dv)).dk (point i q k v dy y (base i dk) (base i dv)).dv) -∗ K ⟨⟩))
      ⊢ wp frame (wpE (defs₀ (F := F)) 𝒱₀ (c : Thread nD τ) none) Set.univ
          (cc0_sb_bwd i arg2 harg2 arg3 harg3 arg4 harg4 arg5 harg5 arg6 harg6 arg7 harg7 arg8 harg8 arg9 harg9) K := by
  have hi : (i 1).val < 32 := (i 1).isLt
  simp only [cc0_sb_bwd_eq_skeleton]; unfold cc0_sb_bwd_skel
  simp only [k0_part16_eq_skeleton, k0_part16_skel]
  simp only [k0_part1_eq_skeleton, k0_part1_skel]
  have hc : ¬_ := fun h => h0 ((base_cond _ hi).mp h)
  simp only [base, if_neg h0, hc, ↓reduceDIte, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton,
    k0_part2_skel, k0_part3_skel, k0_part4_skel, k0_part5_skel, k0_part6_skel, k0_part7_skel, k0_part8_skel, k0_part9_skel, k0_part10_skel, k0_part11_skel, k0_part12_skel, k0_part13_skel, k0_part14_skel, k0_part15_skel, Prog.lift, Prog.bind_op, Prog.bind_ret, Prog.pure_eq_ret]
  unfold inputs outputs
  let h := head0 (upper (F := F) (e := .bf16) q) (upper (F := F) (e := .bf16) dy) (upper (F := F) (e := .f32) y)
  let g := head1 (upper (F := F) (e := .bf16) q) (upper (F := F) (e := .bf16) dy) (upper (F := F) (e := .f32) y)
  let h' := head0 (lower (F := F) (e := .bf16) q) (lower (F := F) (e := .bf16) dy) (lower (F := F) (e := .f32) y)
  let g' := head1 (lower (F := F) (e := .bf16) q) (lower (F := F) (e := .bf16) dy) (lower (F := F) (e := .f32) y)
  let s0 := straight h g i 0#32 k v (k0_off1_inb i 0) (k0_off2_inb i 0) dk dv
  let s1 := straight h' g' i 1#32 k v (k0_off1_inb i 1) (k0_off2_inb i 1) s0.dk s0.dv
  let e0 := walk h g k0_pay23 k v (2 * (i 1).val - 1) ⟨s0.c0, s0.c1, s1.dk, s1.dv⟩
  iintro ⟨⟨H2, H3, H4, H5, H6⟩, ⟨H7, H8, H9⟩, Hk⟩
  iapply (load_window c none) $$ H2; iintro H2
  iapply (load_window c none) $$ H5; iintro H5
  iapply (load_window c none) $$ H6; iintro H6
  iapply (load_window c none) $$ H3; iintro H3
  iapply (load_window c none) $$ H4; iintro H4
  iapply (load_window c none) $$ H3; iintro H3
  iapply (load_window c none) $$ H4; iintro H4
  iapply (load_window c none) $$ H3; iintro H3
  iapply (load_window c none) $$ H4; iintro H4
  iapply (load_window c none) $$ H3; iintro H3
  iapply (load_window c none) $$ H4; iintro H4
  iapply (load_window c none) $$ H8; iintro H8
  iapply (load_window c none) $$ H8; iintro H8
  iapply (store_put c none) $$ H8; iintro H8
  iapply (load_window c none) $$ H9; iintro H9
  iapply (load_window c none) $$ H9; iintro H9
  iapply (store_put c none) $$ H9; iintro H9
  iapply (load_window c none) $$ H8; iintro H8
  iapply (load_window c none) $$ H8; iintro H8
  iapply (store_put c none) $$ H8; iintro H8
  iapply (load_window c none) $$ H9; iintro H9
  iapply (load_window c none) $$ H9; iintro H9
  iapply (store_put c none) $$ H9; iintro H9
  iapply (load_window c none) $$ H2; iintro H2
  iapply (load_window c none) $$ H5; iintro H5
  iapply (load_window c none) $$ H6; iintro H6
  iapply (load_window c none) $$ H3; iintro H3
  iapply (load_window c none) $$ H4; iintro H4
  iapply (load_window c none) $$ H3; iintro H3
  iapply (load_window c none) $$ H4; iintro H4
  iapply (load_window c none) $$ H3; iintro H3
  iapply (load_window c none) $$ H4; iintro H4
  iapply (load_window c none) $$ H3; iintro H3
  iapply (load_window c none) $$ H4; iintro H4
  iapply (load_window c none) $$ H8; iintro H8
  iapply (load_window c none) $$ H8; iintro H8
  iapply (store_put c none) $$ H8; iintro H8
  iapply (load_window c none) $$ H9; iintro H9
  iapply (load_window c none) $$ H9; iintro H9
  iapply (store_put c none) $$ H9; iintro H9
  iapply (load_window c none) $$ H8; iintro H8
  iapply (load_window c none) $$ H8; iintro H8
  iapply (store_put c none) $$ H8; iintro H8
  iapply (load_window c none) $$ H9; iintro H9
  iapply (load_window c none) $$ H9; iintro H9
  iapply (store_put c none) $$ H9; iintro H9
  have hT := loop1 c i arg3 harg3 arg4 harg4 arg8 harg8 arg9 harg9 h g (k0_pay23 (F := F)) k v (2 * (i 1).val - 1) _ ⟨s0.c0, s0.c1, s1.dk, s1.dv⟩ (counts0 _ hi)
  iapply (wp_call_spec 𝒱₀ (c : Thread nD τ) none Set.univ (spec c arg3 arg4 arg8 arg9 h g (k0_pay23 (F := F)) k v (2 * (i 1).val - 1) ⟨s0.c0, s0.c1, s1.dk, s1.dv⟩) (2 * (i 1).val - 1)
    (fun u hu => nomatch hu) hT)
  rw [spec_apply]; unfold held
  isplitl [H3 H4 H8 H9]
  · isplitl [H3]; · iexact H3
    isplitl [H4]; · iexact H4
    isplitl [H8]; · iexact H8
    iexact H9
  iintro %w1 ⟨H3, H4, H8, H9⟩
  iapply (load_window c none) $$ H7; iintro H7
  iapply (store_put c none) $$ H7; iintro H7
  have hT := loop2 c i arg3 harg3 arg4 harg4 arg8 harg8 arg9 harg9 h' g' (k0_pay23 (F := F)) k v (2 * (i 1).val) _ ⟨s1.c0, s1.c1, e0.dk, e0.dv⟩ (counts1 _ hi)
  iapply (wp_call_spec 𝒱₀ (c : Thread nD τ) none Set.univ (spec c arg3 arg4 arg8 arg9 h' g' (k0_pay23 (F := F)) k v (2 * (i 1).val) ⟨s1.c0, s1.c1, e0.dk, e0.dv⟩) (2 * (i 1).val)
    (fun u hu => nomatch hu) hT)
  rw [spec_apply]; unfold held
  isplitl [H3 H4 H8 H9]
  · isplitl [H3]; · iexact H3
    isplitl [H4]; · iexact H4
    isplitl [H8]; · iexact H8
    iexact H9
  iintro %w2 ⟨H3, H4, H8, H9⟩
  iapply (load_window c none) $$ H7; iintro H7
  iapply (store_put c none) $$ H7; iintro H7
  rw [wp_ret]; imodintro
  iapply Hk
  isplitl [H2 H3 H4 H5 H6]
  · isplitl [H2]; · iexact H2
    isplitl [H3]; · iexact H3
    isplitl [H4]; · iexact H4
    isplitl [H5]; · iexact H5
    iexact H6
  isplitl [H7]
  · rw [put_halves dq (broadcast S512x128 (Scalar.ofBits .f32 0x00000000#32))]; iexact H7
  isplitl [H8]; · iexact H8
  iexact H9

end Cert.Kernel2Ideal.Sb

end
-- ==== Proof.StickBreaking.Body.lean ====
/-
  Stick breaking, backward: the body at every point.
-/
module

public import proofs.«01_k».proof.Proof.StickBreaking.BodyFirst
public import proofs.«01_k».proof.Proof.StickBreaking.BodyLater

@[expose] public section

noncomputable section

namespace Cert.Kernel2Ideal.Sb

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords)
  (arg2 : Memref sig .tc .vmem S512x128 .bf16) (harg2 : arg2.IsWhole)
  (arg3 : Memref sig .tc .vmem S16384x128 .bf16) (harg3 : arg3.IsWhole) (arg4 : Memref sig .tc .vmem S16384x128 .bf16) (harg4 : arg4.IsWhole)
  (arg5 : Memref sig .tc .vmem S512x128 .bf16) (harg5 : arg5.IsWhole) (arg6 : Memref sig .tc .vmem S512x128 .f32) (harg6 : arg6.IsWhole)
  (arg7 : Memref sig .tc .vmem S512x128 .f32) (harg7 : arg7.IsWhole)
  (arg8 : Memref sig .tc .vmem S16384x128 .f32) (harg8 : arg8.IsWhole) (arg9 : Memref sig .tc .vmem S16384x128 .f32) (harg9 : arg9.IsWhole)
  (q : FVec F S512x128 .bf16) (k v : FVec F S16384x128 .bf16) (dy : FVec F S512x128 .bf16) (y : FVec F S512x128 .f32)

/-- The body leaves `point`. -/
theorem body (dq : FVec F S512x128 .f32) (dk dv : FVec F S16384x128 .f32) (K : PUnit → sProp (MT nD τ sig Unit (Elt F) ℕ (UR sig nD τ) ℕ)) :
    iprop(inputs c arg2 arg3 arg4 arg5 arg6 q k v dy y ∗ outputs c arg7 arg8 arg9 dq dk dv
        ∗ (iprop(inputs c arg2 arg3 arg4 arg5 arg6 q k v dy y ∗ outputs c arg7 arg8 arg9
            (point i q k v dy y (base i dk) (base i dv)).dq (point i q k v dy y (base i dk) (base i dv)).dk (point i q k v dy y (base i dk) (base i dv)).dv) -∗ K ⟨⟩))
      ⊢ wp frame (wpE (defs₀ (F := F)) 𝒱₀ (c : Thread nD τ) none) Set.univ
          (cc0_sb_bwd i arg2 harg2 arg3 harg3 arg4 harg4 arg5 harg5 arg6 harg6 arg7 harg7 arg8 harg8 arg9 harg9) K := by
  by_cases h0 : (i 1).val = 0
  · exact body_first c i arg2 harg2 arg3 harg3 arg4 harg4 arg5 harg5 arg6 harg6 arg7 harg7 arg8 harg8 arg9 harg9 q k v dy y h0 dq dk dv K
  · exact body_later c i arg2 harg2 arg3 harg3 arg4 harg4 arg5 harg5 arg6 harg6 arg7 harg7 arg8 harg8 arg9 harg9 q k v dy y h0 dq dk dv K

end Cert.Kernel2Ideal.Sb

end
-- ==== Proof.StickBreaking.Entry.lean ====
/-
  Stick breaking, backward: the host lines before the kernel, what it finds in its arrays, and its arguments kept.
-/
module

public import proofs.«01_k».proof.Proof.StickBreaking.Body
public import proofs.«01_k».proof.Proof.Gen.Kernel2Ideal.Launch
public import proofs.«01_k».proof.Proof.Gen.Kernel2Ideal.Points
public import Idealize.ShloMosaic.Lib.Claim

@[expose] public section

set_option maxRecDepth 16384

noncomputable section

namespace Cert.Kernel2Ideal.Sb

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-- A core's buffers when the kernel starts: after the host lines. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

set_option maxHeartbeats 1600000 in
/-- The program is the host lines and then the kernel. -/
theorem hmain (𝒱₀ : Variants) : Pipeline.HMain (Ix := Unit) (Name := ℕ) (U := UR sig nD τ) (Lvl := ℕ) (cfgs (F := F)) 0 defs₀ 𝒱₀ m (main (F := F)) (V m) :=
  Pipeline.hmain_prefixes (cfgs (F := F)) 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- No host line writes this argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

/-- No host line writes this argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

/-- A window's block of its array, as the kernel finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

theorem before_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The arguments are input arrays of the kernel, so they end as they began. -/
theorem frame_of (dats : (p : Fin 1) → (c : Dev nD) → Dat τ (Elt F) Unit ℕ (UR sig nD τ) ℕ ((cfgs (F := F)) p) c)
    (hA : ∀ c w, (dats 0 c).A w = V m c (Pipeline.arrRef spec0 w))
    (h : θ_run defs (onTc (τ := τ) (main (F := F))) (s₀ m ρ) (Pipeline.FramePost (cfgs (F := F)) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).1 3).trans (((dats 0 c).arrAt_in 3 rfl _).trans ((hA c 3).trans (V_main_arg1 m c)))⟩) h

end Cert.Kernel2Ideal.Sb

end
-- ==== Proof.StickBreaking.Frame.lean ====
/-
  Stick breaking, backward: the kernel's frame. The grid's points run one after the other; a point's outputs are `point`
  of its blocks and of the gradients that the point before left.
-/
module

public import proofs.«01_k».proof.Proof.StickBreaking.Entry

@[expose] public section

set_option maxRecDepth 16384

noncomputable section

namespace Cert.Kernel2Ideal.Sb

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The staging buffers at a point. -/
abbrev sb0 (t : Fin (cfg0 (F := F)).N) : Memref sig .tc .vmem S512x128 .bf16 := win0_0.stage ((cfg0 (F := F)).slots t 0)
abbrev sb1 (t : Fin (cfg0 (F := F)).N) : Memref sig .tc .vmem S16384x128 .bf16 := win0_1.stage ((cfg0 (F := F)).slots t 1)
abbrev sb2 (t : Fin (cfg0 (F := F)).N) : Memref sig .tc .vmem S16384x128 .bf16 := win0_2.stage ((cfg0 (F := F)).slots t 2)
abbrev sb3 (t : Fin (cfg0 (F := F)).N) : Memref sig .tc .vmem S512x128 .bf16 := win0_3.stage ((cfg0 (F := F)).slots t 3)
abbrev sb4 (t : Fin (cfg0 (F := F)).N) : Memref sig .tc .vmem S512x128 .f32 := win0_4.stage ((cfg0 (F := F)).slots t 4)
abbrev sb5 (t : Fin (cfg0 (F := F)).N) : Memref sig .tc .vmem S512x128 .f32 := win0_5.stage ((cfg0 (F := F)).slots t 5)
abbrev sb6 (t : Fin (cfg0 (F := F)).N) : Memref sig .tc .vmem S16384x128 .f32 := win0_6.stage ((cfg0 (F := F)).slots t 6)
abbrev sb7 (t : Fin (cfg0 (F := F)).N) : Memref sig .tc .vmem S16384x128 .f32 := win0_7.stage ((cfg0 (F := F)).slots t 7)

/-- What a point leaves over the gradients that it finds. -/
def step (c : Dev nD) (t : Fin (cfg0 (F := F)).N) (dk dv : FVec F S16384x128 .f32) : Left F :=
  point (grid0.coords t) (iblk m c 0 t) (iblk m c 1 t) (iblk m c 2 t) (iblk m c 3 t) (iblk m c 4 t) (base (grid0.coords t) dk) (base (grid0.coords t) dv)

/-- What the points up to the n-th leave. -/
def leftAt (c : Dev nD) : (n : ℕ) → n < (cfg0 (F := F)).N → Left F
  | 0, h => step m c ⟨0, h⟩ k0_pay16 k0_pay16
  | n + 1, h => step m c ⟨n + 1, h⟩ (leftAt c n (Nat.lt_of_succ_lt h)).dk (leftAt c n (Nat.lt_of_succ_lt h)).dv

theorem leftAt_later (c : Dev nD) (t : Fin (cfg0 (F := F)).N) (h : t.val ≠ 0) :
    leftAt m c t.val t.isLt = step m c t (leftAt m c (t.val - 1) (Nat.lt_of_le_of_lt (Nat.sub_le _ _) t.isLt)).dk
      (leftAt m c (t.val - 1) (Nat.lt_of_le_of_lt (Nat.sub_le _ _) t.isLt)).dv := by
  obtain ⟨n, hn⟩ := t
  cases n with
  | zero => exact absurd rfl h
  | succ n => rfl

/-- The second coordinate of a point is its number within its pair of heads. -/
theorem coord1 (t : Fin (cfg0 (F := F)).N) : (grid0.coords t 1).val = t.val % 32 :=
  (by decide +kernel : ∀ t : Fin grid0.N, (grid0.coords t 1).val = t.val % 32) t

/-- At the first point of a pair of heads nothing depends on what was there. -/
theorem step_first (c : Dev nD) (t : Fin (cfg0 (F := F)).N) (h : t.val % 32 = 0) (dk dv dk' dv') : step m c t dk dv = step m c t dk' dv' := by
  unfold step base; rw [if_pos ((coord1 t).trans h), if_pos ((coord1 t).trans h), if_pos ((coord1 t).trans h), if_pos ((coord1 t).trans h)]

theorem leftAt_first (c : Dev nD) (t : Fin (cfg0 (F := F)).N) (h : t.val % 32 = 0) (dk dv) : leftAt m c t.val t.isLt = step m c t dk dv := by
  by_cases h0 : t.val = 0
  · obtain ⟨n, hn⟩ := t
    obtain rfl : n = 0 := h0
    exact step_first m c _ h _ _ _ _
  · rw [leftAt_later m c t h0]; exact step_first m c _ h _ _ _ _

/-- The pipeline's data: the inputs keep their blocks, the outputs are what `leftAt` says. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (leftAt m c t.val t.isLt).dq
    | ⟨6, _⟩ => (leftAt m c t.val t.isLt).dk
    | ⟨7, _⟩ => (leftAt m c t.val t.isLt).dv
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after_0 (c : Dev nD) (t : Fin (cfg0 (F := F)).N) : (dats m 0 c).after 0 t = iblk m c 0 t := by dsimp only [dats]; rfl
theorem after_1 (c : Dev nD) (t : Fin (cfg0 (F := F)).N) : (dats m 0 c).after 1 t = iblk m c 1 t := by dsimp only [dats]; rfl
theorem after_2 (c : Dev nD) (t : Fin (cfg0 (F := F)).N) : (dats m 0 c).after 2 t = iblk m c 2 t := by dsimp only [dats]; rfl
theorem after_3 (c : Dev nD) (t : Fin (cfg0 (F := F)).N) : (dats m 0 c).after 3 t = iblk m c 3 t := by dsimp only [dats]; rfl
theorem after_4 (c : Dev nD) (t : Fin (cfg0 (F := F)).N) : (dats m 0 c).after 4 t = iblk m c 4 t := by dsimp only [dats]; rfl
theorem after_5 (c : Dev nD) (t : Fin (cfg0 (F := F)).N) : (dats m 0 c).after 5 t = (leftAt m c t.val t.isLt).dq := by dsimp only [dats]; rfl
theorem after_6 (c : Dev nD) (t : Fin (cfg0 (F := F)).N) : (dats m 0 c).after 6 t = (leftAt m c t.val t.isLt).dk := by dsimp only [dats]; rfl
theorem after_7 (c : Dev nD) (t : Fin (cfg0 (F := F)).N) : (dats m 0 c).after 7 t = (leftAt m c t.val t.isLt).dv := by dsimp only [dats]; rfl

theorem before_0 (c : Dev nD) (t : Fin (cfg0 (F := F)).N) (d) : (dats m 0 c).before 0 t d = iblk m c 0 t :=
  before_0_of m (dats m 0 c) (A_eq m c 0) (after_0 m c) t d
theorem before_1 (c : Dev nD) (t : Fin (cfg0 (F := F)).N) (d) : (dats m 0 c).before 1 t d = iblk m c 1 t :=
  before_1_of m (dats m 0 c) (A_eq m c 1) (after_1 m c) t d
theorem before_2 (c : Dev nD) (t : Fin (cfg0 (F := F)).N) (d) : (dats m 0 c).before 2 t d = iblk m c 2 t :=
  before_2_of m (dats m 0 c) (A_eq m c 2) (after_2 m c) t d
theorem before_3 (c : Dev nD) (t : Fin (cfg0 (F := F)).N) (d) : (dats m 0 c).before 3 t d = iblk m c 3 t :=
  before_3_of m (dats m 0 c) (A_eq m c 3) (after_3 m c) t d
theorem before_4 (c : Dev nD) (t : Fin (cfg0 (F := F)).N) (d) : (dats m 0 c).before 4 t d = iblk m c 4 t :=
  before_4_of m (dats m 0 c) (A_eq m c 4) (after_4 m c) t d

/-- At a later point the buffer holds what the point before left. -/
theorem before_6 (c : Dev nD) (t : Fin (cfg0 (F := F)).N) (h0 : ¬t.val % 32 = 0) (d) :
    (dats m 0 c).before 6 t d = (leftAt m c (t.val - 1) (Nat.lt_of_le_of_lt (Nat.sub_le _ _) t.isLt)).dk := by
  have hN : t.val < 64 := lt_of_lt_of_eq t.isLt (show (cfg0 (F := F)).N = 64 from N_0)
  rw [Dat.before_out_kept _ 6 rfl t (by omega) (Bool.eq_false_iff.mpr fun h => by have := (flush0_6 _).mp h; dsimp only at this; omega)
    (fun _ => rfl) (fun _ _ => rfl)]
  dsimp only [dats]; rfl

/-- At a later point the buffer holds what the point before left. -/
theorem before_7 (c : Dev nD) (t : Fin (cfg0 (F := F)).N) (h0 : ¬t.val % 32 = 0) (d) :
    (dats m 0 c).before 7 t d = (leftAt m c (t.val - 1) (Nat.lt_of_le_of_lt (Nat.sub_le _ _) t.isLt)).dv := by
  have hN : t.val < 64 := lt_of_lt_of_eq t.isLt (show (cfg0 (F := F)).N = 64 from N_0)
  rw [Dat.before_out_kept _ 7 rfl t (by omega) (Bool.eq_false_iff.mpr fun h => by have := (flush0_7 _).mp h; dsimp only at this; omega)
    (fun _ => rfl) (fun _ _ => rfl)]
  dsimp only [dats]; rfl

/-- What the body is called with at a point, window by window. -/
def bodyPre (c : Dev nD) (t : Fin (cfg0 (F := F)).N) : sProp (MT nD τ sig Unit (Elt F) ℕ (UR sig nD τ) ℕ) :=
  iprop((dats m 0 c).Φ t.castSucc ∗ (dats m 0 c).owesAt () t.castSucc
    ∗ (∃ d, owns (c : Thread nD τ) (sb0 t) fullShare ((dats m 0 c).before 0 t d))
    ∗ (∃ d, owns (c : Thread nD τ) (sb1 t) fullShare ((dats m 0 c).before 1 t d))
    ∗ (∃ d, owns (c : Thread nD τ) (sb2 t) fullShare ((dats m 0 c).before 2 t d))
    ∗ (∃ d, owns (c : Thread nD τ) (sb3 t) fullShare ((dats m 0 c).before 3 t d))
    ∗ (∃ d, owns (c : Thread nD τ) (sb4 t) fullShare ((dats m 0 c).before 4 t d))
    ∗ (∃ d, owns (c : Thread nD τ) (sb5 t) fullShare ((dats m 0 c).before 5 t d))
    ∗ (∃ d, owns (c : Thread nD τ) (sb6 t) fullShare ((dats m 0 c).before 6 t d))
    ∗ (∃ d, owns (c : Thread nD τ) (sb7 t) fullShare ((dats m 0 c).before 7 t d)))

/-- What it gives back. -/
def bodyPost (c : Dev nD) (t : Fin (cfg0 (F := F)).N) : sProp (MT nD τ sig Unit (Elt F) ℕ (UR sig nD τ) ℕ) :=
  iprop((dats m 0 c).Φ t.succ ∗ (dats m 0 c).owesAt () t.succ
    ∗ owns (c : Thread nD τ) (sb0 t) fullShare ((dats m 0 c).after 0 t)
    ∗ owns (c : Thread nD τ) (sb1 t) fullShare ((dats m 0 c).after 1 t)
    ∗ owns (c : Thread nD τ) (sb2 t) fullShare ((dats m 0 c).after 2 t)
    ∗ owns (c : Thread nD τ) (sb3 t) fullShare ((dats m 0 c).after 3 t)
    ∗ owns (c : Thread nD τ) (sb4 t) fullShare ((dats m 0 c).after 4 t)
    ∗ owns (c : Thread nD τ) (sb5 t) fullShare ((dats m 0 c).after 5 t)
    ∗ owns (c : Thread nD τ) (sb6 t) fullShare ((dats m 0 c).after 6 t)
    ∗ owns (c : Thread nD τ) (sb7 t) fullShare ((dats m 0 c).after 7 t))

set_option maxHeartbeats 1600000 in
/-- The body at any point. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  by_cases h0 : t.val % 32 = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body c (grid0.coords t) _ _ _ _ _ _ _ _ _ _ _ _ _ _ _ _ (iblk m c 0 t) (iblk m c 1 t) (iblk m c 2 t) (iblk m c 3 t) (iblk m c 4 t) _ _ _ _)
    unfold inputs outputs
    isplitl [H0 H1 H2 H3 H4]
    · isplitl [H0]; · iexact H0
      isplitl [H1]; · iexact H1
      isplitl [H2]; · iexact H2
      isplitl [H3]; · iexact H3
      iexact H4
    isplitl [H5 H6 H7]
    · isplitl [H5]; · iexact H5
      isplitl [H6]; · iexact H6
      iexact H7
    iintro ⟨⟨H0, H1, H2, H3, H4⟩, ⟨H5, H6, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    rw [leftAt_first m c t h0 ((dats m 0 c).before 6 t d6) ((dats m 0 c).before 7 t d7)]
    isplitl [H5]; · iexact H5
    isplitl [H6]; · iexact H6
    iexact H7
  · rw [leftAt_later m c t (fun h => h0 (by rw [h]))]
    simp only [before_6 m c t h0, before_7 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body c (grid0.coords t) _ _ _ _ _ _ _ _ _ _ _ _ _ _ _ _ (iblk m c 0 t) (iblk m c 1 t) (iblk m c 2 t) (iblk m c 3 t) (iblk m c 4 t) _ _ _ _)
    unfold inputs outputs
    isplitl [H0 H1 H2 H3 H4]
    · isplitl [H0]; · iexact H0
      isplitl [H1]; · iexact H1
      isplitl [H2]; · iexact H2
      isplitl [H3]; · iexact H3
      iexact H4
    isplitl [H5 H6 H7]
    · isplitl [H5]; · iexact H5
      isplitl [H6]; · iexact H6
      iexact H7
    iintro ⟨⟨H0, H1, H2, H3, H4⟩, ⟨H5, H6, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- What the pipeline asks of the body, at every point. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
/-- The whole program runs, and every counter ends at zero. -/
theorem run_quiescent : θ_run defs (onTc (τ := τ) (main (F := F))) (s₀ m ρ) (fun r => (Pipeline.FramePost (cfgs (F := F)) (dats m) 0 (V m)) r ∧ r.2.sem = fun _ => 0) :=
  Pipeline.θ_run_frame_shared (Q' := _) (cfgs (F := F)) (dats m) (0 : Fin 1) launch₀0 defs₀ 𝒱₀ m ρ main
    (hbody := fun c => (body_obligation m c).loose) (hq := fun _ _ _ => rfl)
    (howed := fun _ _ => rfl) (V := V m) (hmain := hmain m 𝒱₀) (hA := A_eq m) (hΦ := fun _ _ => rfl)

/-- Every array of the kernel ends as the points leave it. -/
theorem run : θ_run defs (onTc (τ := τ) (main (F := F))) (s₀ m ρ) (Pipeline.FramePost (cfgs (F := F)) (dats m) 0 (V m)) :=
  (θ_run defs _ _).mono (fun _ h => h.1) (run_quiescent m ρ)

/-- The arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run m ρ)) ((θ_run defs _ _).mono (fun _ h => h.2) (run_quiescent m ρ))

end Cert.Kernel2Ideal.Sb

end
-- ==== Proof.Attention.Real.lean ====
/-
  Stick breaking, backward, over the reals, for one head of 16384 positions: `Z r s` is the score of query `r` against
  key `s`, `W r s` the gradient that reaches the share of key `s`.
-/
module

public import Idealize.ShloMosaic.Lib.Pointwise

@[expose] public section

noncomputable section

namespace Cert.Attention

open Finset

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The log of what a key with score `z` leaves of the stick: minus softplus. -/
def keep (z : ℝ) : ℝ := min (-z) 0 - Real.log (1 + Real.exp (-|z|))

variable (Z W : ℕ → ℕ → ℝ)

/-- The log of what key `s` leaves of query `r`'s stick; only the keys before the query take part. -/
def leave (r s : ℕ) : ℝ := if s < r then keep (Z r s) else 0

/-- The share of key `s`: what it takes of the stick that the keys between it and the query leave. -/
def shareOf (r s : ℕ) : ℝ := if s < r then Real.exp (Z r s + leave Z r s + ∑ j ∈ Ico (s + 1) 16384, leave Z r j) else 0

/-- The share times the gradient that reaches it. -/
def wtd (r s : ℕ) : ℝ := shareOf Z r s * W r s

/-- The sum of the weighted gradients of a query. -/
def total (r : ℕ) : ℝ := ∑ s ∈ range 16384, wtd Z W r s

/-- The gradient of the score. -/
def dScoreOf (r s : ℕ) : ℝ :=
  if s < r then wtd Z W r s - (total Z W r - ∑ j ∈ Ico (s + 1) 16384, wtd Z W r j) * Real.exp (Z r s + leave Z r s) else 0

theorem sum_tile (f : ℕ → ℝ) (o : ℕ) : (∑ k : Fin 256, f (o + k)) = ∑ j ∈ Ico o (o + 256), f j := by
  rw [Fin.sum_univ_eq_sum_range (fun k => f (o + k)) 256, sum_Ico_eq_sum_range]
  simp

/-- The later keys of a tile and the later tiles together are the later keys. -/
theorem sum_after (f : ℕ → ℝ) (o b : ℕ) (hb : b < 256) (ho : o + 256 ≤ 16384) :
    (∑ k : Fin 256, if b < k.val then f (o + k) else 0) + ∑ j ∈ Ico (o + 256) 16384, f j = ∑ j ∈ Ico (o + b + 1) 16384, f j := by
  rw [← sum_Ico_consecutive f (show o + b + 1 ≤ o + 256 by omega) ho]
  congr 1
  rw [Fin.sum_univ_eq_sum_range (fun k => if b < k then f (o + k) else 0) 256, ← sum_filter, sum_Ico_eq_sum_range]
  have e : (range 256).filter (fun k => b < k) = Ico (b + 1) 256 := by ext k; simp; omega
  rw [e, sum_Ico_eq_sum_range, show o + 256 - (o + b + 1) = 256 - (b + 1) by omega]
  exact sum_congr rfl fun k _ => congrArg f (by omega)

/-- One more tile of a sum from its first key on. -/
theorem sum_tile_add (f : ℕ → ℝ) (o : ℕ) (ho : o + 256 ≤ 16384) :
    (∑ j ∈ Ico (o + 256) 16384, f j) + (∑ k : Fin 256, f (o + k)) = ∑ j ∈ Ico o 16384, f j := by
  rw [sum_tile, add_comm]
  exact sum_Ico_consecutive f (by omega) ho

theorem leave_of_le {r s : ℕ} (h : r ≤ s) : leave Z r s = 0 := if_neg (by omega)
theorem shareOf_of_le {r s : ℕ} (h : r ≤ s) : shareOf Z r s = 0 := if_neg (by omega)
theorem wtd_of_le {r s : ℕ} (h : r ≤ s) : wtd Z W r s = 0 := by rw [wtd, shareOf_of_le Z h, zero_mul]
theorem dScoreOf_of_le {r s : ℕ} (h : r ≤ s) : dScoreOf Z W r s = 0 := if_neg (by omega)

theorem sum_zero_of_le (f : ℕ → ℝ) (r o : ℕ) (h : r ≤ o) (hf : ∀ s, r ≤ s → f s = 0) : ∑ j ∈ Ico o 16384, f j = 0 :=
  sum_eq_zero fun s hs => hf s (h.trans (mem_Ico.mp hs).1)

end Cert.Attention

end
-- ==== Proof.Attention.Lift.lean ====
/-
  Stick breaking, backward, over the reals: matrices of real numbers as vectors of extended reals, and what the
  operations of a tile do with them.
-/
module

public import proofs.«01_k».proof.Proof.StickBreaking.Point
public import proofs.«01_k».proof.Proof.Attention.Real
public import Idealize.ShloMosaic.Lib.Pointwise
public import Idealize.ShloMosaic.Lib.WordCmp

@[expose] public section

noncomputable section

namespace Cert.Attention

open Idealize.ShloMosaic Cert.Kernel2Ideal Cert.Kernel2Ideal.Gen Cert.Kernel2Ideal.Sb

/-- A matrix of real numbers as a vector of extended reals. -/
def lift {n m : ℕ} {φ : FTy} (f : Fin n → Fin m → ℝ) : FVec Ideal ⟨2, ![n, m]⟩ φ := fun i => ((f (i 0) (i 1) : ℝ) : EReal)

/-- A column of real numbers. -/
def liftCol (f : Fin 256 → ℝ) : FVec Ideal S256x1 .f32 := fun i => ((f (i 0) : ℝ) : EReal)

theorem abs_coe (x : ℝ) : (FloatOps.absf (F := Ideal) (φ := .f32) (x : EReal) : EReal) = ((|x| : ℝ) : EReal) := by
  show max (x : EReal) (-(x : EReal)) = _
  rw [← EReal.coe_neg]
  rcases le_total x (-x) with h | h
  · rw [max_eq_right (by exact_mod_cast h), abs_of_nonpos (by linarith)]
  · rw [max_eq_left (by exact_mod_cast h), abs_of_nonneg (by linarith)]

theorem score_lift (q k : Fin 256 → Fin 128 → ℝ) : score (F := Ideal) (lift q) (lift k) = lift fun a b => ∑ l, q a l * k b l := by
  funext j
  idx_vars j
  pointwise [score, lift]
  rw [coe_sum]
  exact Finset.sum_congr rfl fun k _ => (EReal.coe_mul _ _).symm

theorem toQuery_lift (d : Fin 256 → Fin 256 → ℝ) (k : Fin 256 → Fin 128 → ℝ) :
    toQuery (F := Ideal) (lift d) (lift k) = lift fun a l => ∑ b, d a b * k b l := by
  funext j
  idx_vars j
  pointwise [toQuery, lift]
  rw [coe_sum]
  exact Finset.sum_congr rfl fun k _ => (EReal.coe_mul _ _).symm

theorem toKey_lift (d : Fin 256 → Fin 256 → ℝ) (q : Fin 256 → Fin 128 → ℝ) :
    toKey (F := Ideal) (lift d) (lift q) = lift fun b l => ∑ a, d a b * q a l := by
  funext j
  idx_vars j
  pointwise [toKey, lift]
  rw [coe_sum]
  exact Finset.sum_congr rfl fun k _ => (EReal.coe_mul _ _).symm

/-- The triangle of ones below the diagonal. -/
theorem triangle_lift : k0_pay23 (F := Ideal) = lift fun k b => if b.val < k.val then 1 else 0 := by
  funext j
  idx_vars j
  pointwise [k0_pay23, lift]
  have e : IntOp.cmpi .sgt (BitVec.ofNat 32 j0.val) (BitVec.ofNat 32 j1.val) = BitVec.ofBool (decide (j1.val < j0.val)) :=
    WordCmp.cmpi_sgt_ofNat (by omega) (by omega)
  refine (congrArg (fun b : BitVec 1 => (((b.setWidth 32).toInt : ℝ) : EReal)) e).trans (congrArg (fun x : ℝ => (x : EReal)) ?_)
  show (((BitVec.ofBool (decide (j1.val < j0.val))).setWidth 32).toInt : ℝ) = if j1.val < j0.val then 1 else 0
  by_cases h : j1.val < j0.val
  · rw [if_pos h, decide_eq_true h, show ((BitVec.ofBool true).setWidth 32).toInt = 1 by decide]; norm_num
  · rw [if_neg h, decide_eq_false h, show ((BitVec.ofBool false).setWidth 32).toInt = 0 by decide]; norm_num

theorem sumLater_lift (x : Fin 256 → Fin 256 → ℝ) :
    sumLater (F := Ideal) (lift x) k0_pay23 = lift fun a b => ∑ k : Fin 256, if b.val < k.val then x a k else 0 := by
  rw [triangle_lift]
  funext j
  idx_vars j
  pointwise [sumLater, lift]
  rw [coe_sum]
  refine Finset.sum_congr rfl fun k _ => ?_
  show (x j0 k : EReal) * ((if j1.val < k.val then (1 : ℝ) else 0 : ℝ) : EReal) = ((if j1.val < k.val then x j0 k else 0 : ℝ) : EReal)
  by_cases h : j1.val < k.val
  · rw [if_pos h, if_pos h, EReal.coe_one, mul_one]
  · rw [if_neg h, if_neg h, EReal.coe_zero, mul_zero]

theorem rowSum_lift (x : Fin 256 → Fin 256 → ℝ) : rowSum (F := Ideal) (lift x) = liftCol fun a => ∑ b, x a b := by
  funext j
  idx_vars j
  pointwise [rowSum, lift, liftCol]
  exact (coe_sum _ _).symm

theorem logKeep_lift (z : Fin 256 → Fin 256 → ℝ) : logKeep (F := Ideal) (lift z) = lift fun a b => keep (z a b) := by
  funext j
  idx_vars j
  pointwise [logKeep, lift, keep]
  generalize z j0 j1 = x
  have hp : 0 < 1 + Real.exp (-|x|) := by positivity
  rw [show (FloatOps.absf (F := Ideal) (φ := .f32) (x : EReal) : EReal) = ((|x| : ℝ) : EReal) from abs_coe x,
    show (0 : EReal) - ((|x| : ℝ) : EReal) = ((-|x| : ℝ) : EReal) by rw [← EReal.coe_zero, ← EReal.coe_sub, zero_sub],
    show (0 : EReal) - (x : EReal) = ((-x : ℝ) : EReal) by rw [← EReal.coe_zero, ← EReal.coe_sub, zero_sub],
    Ideal.exp_coe, ← EReal.coe_one, ← EReal.coe_add, Ideal.log_coe, if_neg (not_le.mpr hp), EReal.coe_sub]
  congr 1

theorem share_lift (x : Fin 256 → Fin 256 → ℝ) : share (F := Ideal) (lift x) = lift fun a b => Real.exp (x a b) := by
  funext j
  idx_vars j
  pointwise [share, lift]
  exact Ideal.exp_coe _

theorem weighted_lift (x : Fin 256 → Fin 256 → ℝ) (d v : Fin 256 → Fin 128 → ℝ) :
    weighted (F := Ideal) (lift x) (lift d) (lift v) = lift fun a b => x a b * ∑ l, d a l * v b l := by
  funext j
  idx_vars j
  pointwise [weighted, lift]
  rw [EReal.coe_mul, coe_sum]
  exact congrArg _ (Finset.sum_congr rfl fun k _ => (EReal.coe_mul _ _).symm)

theorem dropped_lift (g : Fin 256 → Fin 256 → ℝ) : dropped (F := Ideal) (lift g) = lift fun _ _ => 0 := by
  funext j
  idx_vars j
  pointwise [dropped, lift]
  rw [← EReal.coe_sub, sub_self]

theorem logShare_lift (z lk : Fin 256 → Fin 256 → ℝ) (g : Fin 256 → ℝ) :
    logShare (F := Ideal) (lift z) (lift lk) k0_pay23 (liftCol g)
      = lift fun a b => z a b + lk a b + (∑ k : Fin 256, if b.val < k.val then lk a k else 0) + g a := by
  unfold logShare
  rw [show truncf .bf16 (lift (φ := .f32) lk) bitsLt_bf16_f32 = lift (φ := .bf16) lk from rfl, sumLater_lift]
  funext j
  idx_vars j
  pointwise [lift, liftCol]
  push_cast
  rfl

theorem dScore_lift (z lk g : Fin 256 → Fin 256 → ℝ) (B : Fin 256 → ℝ) :
    dScore (F := Ideal) (lift z) (lift lk) (lift g) k0_pay23 (liftCol B)
      = lift fun a b => g a b - (B a - ∑ k : Fin 256, if b.val < k.val then g a k else 0) * Real.exp (z a b + lk a b) := by
  unfold dScore
  rw [dropped_lift, show truncf .bf16 (lift (φ := .f32) g) bitsLt_bf16_f32 = lift (φ := .bf16) g from rfl,
    show truncf .bf16 (lift (φ := .f32) fun _ _ : Fin 256 => 0) bitsLt_bf16_f32 = lift (φ := .bf16) fun _ _ : Fin 256 => 0 from rfl,
    sumLater_lift, sumLater_lift]
  funext j
  idx_vars j
  pointwise [lift, liftCol]
  have e0 : (∑ x : Fin 256, if (j1 : Fin 256).val < x.val then (0 : ℝ) else 0) = 0 := Finset.sum_eq_zero fun x _ => by rw [ite_self]
  simp only [ ← EReal.coe_add, Ideal.exp_coe, ← EReal.coe_sub, ← EReal.coe_mul]
  refine congrArg (fun x : ℝ => (x : EReal)) ?_
  exact congrArg (fun y => g j0 j1 - (B j0 - y) * Real.exp (z j0 j1 + lk j0 j1)) ((congrArg (_ + ·) e0).trans (add_zero _))

end Cert.Attention

end
-- ==== Proof.Attention.Tiles.lean ====
/-
  Stick breaking, backward, over the reals: the three kinds of tiles. `i` and `j` number the blocks of 256 queries and of
  256 keys. Before a tile the carry holds the sums over the keys after it, and after the tile also those of the tile.
-/
module

public import proofs.«01_k».proof.Proof.Attention.Lift

@[expose] public section

noncomputable section

namespace Cert.Attention

open Finset
open Idealize.ShloMosaic Cert.Kernel2Ideal Cert.Kernel2Ideal.Gen Cert.Kernel2Ideal.Sb

variable (Z W : ℕ → ℕ → ℝ)

/-- The carry of the queries from `ro` on after the keys from `o` on. -/
def carryAt (k : ℕ → Fin 128 → ℝ) (ro o : ℕ) : Carry Ideal :=
  ⟨liftCol fun a => ∑ s ∈ Ico o 16384, leave Z (ro + a) s, liftCol fun a => ∑ s ∈ Ico o 16384, wtd Z W (ro + a) s,
    lift fun a l => ∑ s ∈ Ico o 16384, dScoreOf Z W (ro + a) s * k s l⟩

/-- What the queries from `ro` on add to the key and value gradients at the tile from key `o` on. -/
def tileOut (q dom k : ℕ → Fin 128 → ℝ) (ro o : ℕ) : Out Ideal :=
  ⟨carryAt Z W k ro o, lift fun b l => ∑ a : Fin 256, dScoreOf Z W (ro + a) (o + b) * q (ro + a) l,
    lift fun b l => ∑ a : Fin 256, shareOf Z (ro + a) (o + b) * dom (ro + a) l⟩

/-- A head of the queries from `ro` on. -/
def headAt (q dom : ℕ → Fin 128 → ℝ) (ro : ℕ) : Head Ideal :=
  ⟨lift fun a l => q (ro + a) l, lift fun a l => dom (ro + a) l, liftCol fun a => total Z W (ro + a)⟩

variable (q dom k v : ℕ → Fin 128 → ℝ) (hz : ∀ r s, ∑ l, q r l * k s l = Z r s) (hw : ∀ r s, ∑ l, dom r l * v s l = W r s)

theorem liftCol_add (f g : Fin 256 → ℝ) : addf (liftCol f) (liftCol g) = liftCol fun a => f a + g a := by
  funext j; exact (EReal.coe_add _ _).symm
theorem liftCol_sub (f g : Fin 256 → ℝ) : subf (liftCol f) (liftCol g) = liftCol fun a => f a - g a := by
  funext j; exact (EReal.coe_sub _ _).symm
theorem lift_add {n m : ℕ} (f g : Fin n → Fin m → ℝ) : addf (lift (φ := .f32) f) (lift g) = lift fun a b => f a b + g a b := by
  funext j; exact (EReal.coe_add _ _).symm
theorem lift_trunc (f : Fin 256 → Fin 256 → ℝ) : truncf .bf16 (lift (φ := .f32) f) bitsLt_bf16_f32 = lift (φ := .bf16) f := rfl

include hz hw in
/-- A tile to the left of the diagonal. -/
theorem tail_lift (ro o : ℕ) (ho : o + 256 ≤ ro) (hr : ro + 256 ≤ 16384) :
    tailTile (headAt Z W q dom ro) k0_pay23 (lift fun b l => k (o + b) l) (lift fun b l => v (o + b) l) (carryAt Z W k ro (o + 256))
      = tileOut Z W q dom k ro o := by
  have ez : score (F := Ideal) (lift fun a l => q (ro + a) l) (lift fun b l => k (o + b) l) = lift fun a b => Z (ro + a) (o + b) := by
    rw [score_lift]; congr 1; funext a b; exact hz _ _
  have ek : (fun a b : Fin 256 => keep (Z (ro + a) (o + b))) = fun a b : Fin 256 => leave Z (ro + a) (o + b) := by
    funext a b; exact (if_pos (by omega)).symm
  have ea : (fun a b : Fin 256 => Real.exp (Z (ro + a) (o + b) + leave Z (ro + a) (o + b)
      + (∑ k : Fin 256, if b.val < k.val then leave Z (ro + a) (o + k) else 0) + ∑ s ∈ Ico (o + 256) 16384, leave Z (ro + a) s))
      = fun a b : Fin 256 => shareOf Z (ro + a) (o + b) := by
    funext a b
    rw [add_assoc, sum_after (leave Z (ro + a)) o b b.isLt (by omega), shareOf, if_pos (by omega)]
  have eg : (fun a b : Fin 256 => shareOf Z (ro + a) (o + b) * ∑ l, dom (ro + a) l * v (o + b) l) = fun a b : Fin 256 => wtd Z W (ro + a) (o + b) := by
    funext a b; rw [hw]; rfl
  have ed : (fun a b : Fin 256 => wtd Z W (ro + a) (o + b) - (total Z W (ro + a) - (∑ s ∈ Ico (o + 256) 16384, wtd Z W (ro + a) s)
      - ∑ k : Fin 256, if b.val < k.val then wtd Z W (ro + a) (o + k) else 0) * Real.exp (Z (ro + a) (o + b) + leave Z (ro + a) (o + b)))
      = fun a b : Fin 256 => dScoreOf Z W (ro + a) (o + b) := by
    funext a b
    rw [dScoreOf, if_pos (by omega), ← sum_after (wtd Z W (ro + a)) o b b.isLt (by omega)]
    ring
  unfold tailTile headAt carryAt tileOut
  simp only [ez, logKeep_lift, ek, logShare_lift, share_lift, ea, weighted_lift, eg, liftCol_sub, dScore_lift, ed, lift_trunc, rowSum_lift,
    liftCol_add, toQuery_lift, toKey_lift, lift_add]
  unfold carryAt
  congr 2
  · congr 1; funext a; exact sum_tile_add _ _ (by omega)
  · congr 1; funext a; exact sum_tile_add _ _ (by omega)
  · congr 1; funext a l; exact sum_tile_add (fun s => dScoreOf Z W (ro + a) s * k s l) _ (by omega)

end Cert.Attention

end
-- ==== Proof.Attention.Diagonal.lean ====
/-
  Stick breaking, backward, over the reals: the tile on the diagonal, where only the keys before the query take part.
-/
module

public import proofs.«01_k».proof.Proof.Attention.Tiles

@[expose] public section

noncomputable section

namespace Cert.Attention

open Finset
open Idealize.ShloMosaic Cert.Kernel2Ideal Cert.Kernel2Ideal.Gen Cert.Kernel2Ideal.Sb

variable (Z W : ℕ → ℕ → ℝ)
variable (q dom k v : ℕ → Fin 128 → ℝ) (hz : ∀ r s, ∑ l, q r l * k s l = Z r s) (hw : ∀ r s, ∑ l, dom r l * v s l = W r s)

theorem zero_bits : Ideal.ofBits FTy.f32 0x00000000#32 = ((0 : ℝ) : EReal) := by
  simp [Ideal.ofBits, Ideal.ieee]

theorem neg_inf : Ideal.ofBits FTy.f32 0xFF800000#32 = ⊥ := by
  simp [Ideal.ofBits, Ideal.ieee]

/-- The mask of the diagonal tile: the keys before the query. -/
def Strict (mask : IVec S256x256 1) : Prop := ∀ a b : Fin 256, mask (ix2 a b) = BitVec.ofBool (decide (b.val < a.val))

theorem keepWhere_lift (mask : IVec S256x256 1) (hm : Strict mask) (x : Fin 256 → Fin 256 → ℝ) :
    keepWhere mask (lift x) 0x00000000#32 = lift fun a b => if b.val < a.val then x a b else 0 := by
  funext j
  idx_vars j
  unfold keepWhere
  pointwise [lift]
  show Scalar.select (mask (ix2 j0 j1)) (x j0 j1 : EReal) 0 = ((if j1.val < j0.val then x j0 j1 else 0 : ℝ) : EReal)
  rw [hm]
  by_cases h : j1.val < j0.val
  · rw [if_pos h, decide_eq_true h]; rfl
  · rw [if_neg h, decide_eq_false h]; rfl

theorem share_keepWhere_lift (mask : IVec S256x256 1) (hm : Strict mask) (x : Fin 256 → Fin 256 → ℝ) :
    share (keepWhere mask (lift x) 0xFF800000#32) = lift fun a b => if b.val < a.val then Real.exp (x a b) else 0 := by
  funext j
  idx_vars j
  unfold keepWhere share
  pointwise [lift]
  show Ideal.exp (Scalar.select (mask (ix2 j0 j1)) (x j0 j1 : EReal) (Ideal.ofBits FTy.f32 0xFF800000#32))
    = ((if j1.val < j0.val then Real.exp (x j0 j1) else 0 : ℝ) : EReal)
  rw [hm]
  by_cases h : j1.val < j0.val
  · rw [if_pos h, decide_eq_true h]; exact Ideal.exp_coe _
  · rw [if_neg h, decide_eq_false h]
    show Ideal.exp (Ideal.ofBits FTy.f32 0xFF800000#32) = _
    rw [neg_inf, Ideal.exp_bot, EReal.coe_zero]

include hz hw in
/-- The tile on the diagonal. -/
theorem diag_lift (mask : IVec S256x256 1) (hm : Strict mask) (ro : ℕ) (hr : ro + 256 ≤ 16384) :
    diagTile (headAt Z W q dom ro) mask k0_pay23 (lift fun b l => k (ro + b) l) (lift fun b l => v (ro + b) l) start
      = tileOut Z W q dom k ro ro := by
  have es : start = carryAt Z W k ro (ro + 256) := by
    unfold start carryAt
    congr 1
    · funext j
      show Ideal.ofBits FTy.f32 0x00000000#32 = _
      rw [zero_bits, liftCol, sum_zero_of_le _ (ro + (j 0).val) _ (by have := (j 0).isLt; change (j 0).val < 256 at this; omega) fun s hs => leave_of_le Z hs]
    · funext j
      show Ideal.ofBits FTy.f32 0x00000000#32 = _
      rw [zero_bits, liftCol, sum_zero_of_le _ (ro + (j 0).val) _ (by have := (j 0).isLt; change (j 0).val < 256 at this; omega) fun s hs => wtd_of_le Z W hs]
    · funext j
      show Ideal.ofBits FTy.f32 0x00000000#32 = _
      rw [zero_bits, lift, sum_zero_of_le _ (ro + (j 0).val) _ (by have := (j 0).isLt; change (j 0).val < 256 at this; omega)
        fun s hs => by rw [dScoreOf_of_le Z W hs, zero_mul]]
  have ez : score (F := Ideal) (lift fun a l => q (ro + a) l) (lift fun b l => k (ro + b) l) = lift fun a b => Z (ro + a) (ro + b) := by
    rw [score_lift]; congr 1; funext a b; exact hz _ _
  have ek : (fun a b : Fin 256 => if b.val < a.val then keep (Z (ro + a) (ro + b)) else 0) = fun a b : Fin 256 => leave Z (ro + a) (ro + b) := by
    funext a b; unfold leave; congr 1; exact propext (by omega)
  have ea : (fun a b : Fin 256 => if b.val < a.val then Real.exp (Z (ro + a) (ro + b) + leave Z (ro + a) (ro + b)
      + (∑ k : Fin 256, if b.val < k.val then leave Z (ro + a) (ro + k) else 0) + ∑ s ∈ Ico (ro + 256) 16384, leave Z (ro + a) s) else 0)
      = fun a b : Fin 256 => shareOf Z (ro + a) (ro + b) := by
    funext a b
    rw [add_assoc, sum_after (leave Z (ro + a)) ro b b.isLt (by omega), shareOf]
    congr 1; exact propext (by omega)
  have eg : (fun a b : Fin 256 => shareOf Z (ro + a) (ro + b) * ∑ l, dom (ro + a) l * v (ro + b) l) = fun a b : Fin 256 => wtd Z W (ro + a) (ro + b) := by
    funext a b; rw [hw]; rfl
  have ed : (fun a b : Fin 256 => if b.val < a.val then wtd Z W (ro + a) (ro + b) - (total Z W (ro + a) - (∑ s ∈ Ico (ro + 256) 16384, wtd Z W (ro + a) s)
      - ∑ k : Fin 256, if b.val < k.val then wtd Z W (ro + a) (ro + k) else 0) * Real.exp (Z (ro + a) (ro + b) + leave Z (ro + a) (ro + b)) else 0)
      = fun a b : Fin 256 => dScoreOf Z W (ro + a) (ro + b) := by
    funext a b
    rw [dScoreOf, ← sum_after (wtd Z W (ro + a)) ro b b.isLt (by omega)]
    by_cases h : b.val < a.val
    · rw [if_pos h, if_pos (by omega)]; ring
    · rw [if_neg h, if_neg (by omega)]
  rw [es]
  unfold diagTile headAt carryAt tileOut
  simp only [ez, logKeep_lift, keepWhere_lift mask hm, ek, logShare_lift, share_keepWhere_lift mask hm, ea, weighted_lift, eg, liftCol_sub, dScore_lift, ed, lift_trunc, rowSum_lift,
    liftCol_add, toQuery_lift, toKey_lift, lift_add]
  unfold carryAt
  congr 2
  · congr 1; funext a; exact sum_tile_add _ _ (by omega)
  · congr 1; funext a; exact sum_tile_add _ _ (by omega)
  · congr 1; funext a l; exact sum_tile_add (fun s => dScoreOf Z W (ro + a) s * k s l) _ (by omega)

end Cert.Attention

end
-- ==== Proof.Attention.Second.lean ====
/-
  Stick breaking, backward, over the reals: the tile left of the diagonal where there is none. The first 256 queries have
  no such tile; the one computed in its place adds nothing.
-/
module

public import proofs.«01_k».proof.Proof.Attention.Diagonal

@[expose] public section

noncomputable section

namespace Cert.Attention

open Finset
open Idealize.ShloMosaic Cert.Kernel2Ideal Cert.Kernel2Ideal.Gen Cert.Kernel2Ideal.Sb

theorem col_zero : col (F := Ideal) 0x00000000#32 = liftCol fun _ => 0 := by
  funext j; exact zero_bits

theorem share_bot (z lk : Fin 256 → Fin 256 → ℝ) :
    share (logShare (F := Ideal) (lift z) (lift lk) k0_pay23 (col 0xFF800000#32)) = lift fun _ _ => 0 := by
  funext j
  idx_vars j
  unfold share logShare col
  pointwise [lift]
  rw [neg_inf, EReal.add_bot, Ideal.exp_bot, EReal.coe_zero]

/-- Where there is no second tile nothing changes and nothing is added. -/
theorem next_none (q dom : Fin 256 → Fin 128 → ℝ) (T : FVec Ideal S256x1 .f32) (kb vb : Fin 256 → Fin 128 → ℝ) (g g2 : Fin 256 → ℝ)
    (acc : Fin 256 → Fin 128 → ℝ) :
    nextTile ⟨lift q, lift dom, T⟩ 0#1 k0_pay23 (lift kb) (lift vb) ⟨liftCol g, liftCol g2, lift acc⟩
      = ⟨⟨liftCol g, liftCol g2, lift acc⟩, lift fun _ _ => 0, lift fun _ _ => 0⟩ := by
  have s0 : ∀ {α : Type} (a b : α), Scalar.select 0#1 a b = b := fun _ _ => rfl
  unfold nextTile
  simp only [s0, score_lift, logKeep_lift, share_bot, weighted_lift, col_zero, dScore_lift, lift_trunc, rowSum_lift, toQuery_lift, toKey_lift,
    liftCol_add, lift_add, zero_mul, sub_zero, ite_self, sum_const_zero, add_zero]

/-- Where there is one it is a tile like the others. -/
theorem next_some (h : Head Ideal) (st : FVec Ideal S256x256 .bf16) (kb vb : FVec Ideal S256x128 .bf16) (T g2 acc) (g : Fin 256 → ℝ) :
    nextTile h 1#1 st kb vb ⟨T, g2, acc⟩ = tailTile h st kb vb ⟨T, g2, acc⟩ := rfl

end Cert.Attention

end
-- ==== Proof.Attention.Walk.lean ====
/-
  Stick breaking, backward, over the reals: a walk. Two heads walk together; at each tile the carries take the tile's
  sums and rows of the two accumulated gradients take the tile's parts.
-/
module

public import proofs.«01_k».proof.Proof.Attention.Second
public import Idealize.ShloMosaic.PureOps.Ideal.Laws

@[expose] public section

noncomputable section

namespace Cert.Attention

open Finset
open Idealize.ShloMosaic Cert.Kernel2Ideal Cert.Kernel2Ideal.Gen Cert.Kernel2Ideal.Sb

/-- A long matrix of real numbers as a vector of extended reals. -/
def liftRows {n : ℕ} {φ : FTy} (f : ℕ → Fin 128 → ℝ) : FVec Ideal ⟨2, ![n, 128]⟩ φ := fun i => ((f (i 0).val (i 1) : ℝ) : EReal)

theorem window_rows {n : ℕ} {φ : FTy} (f : ℕ → Fin 128 → ℝ) (off : Fin 2 → ℕ) (inb) (o : ℕ) (h : off = ![o, 0]) :
    VecWindow.window (liftRows (n := n) (φ := φ) f) off S256x128.size inb = lift fun b l => f (o + b) l := by
  subst h
  funext y
  show ((f (o + 1 * (y 0).val) _ : ℝ) : EReal) = ((f (o + (y 0).val) (y 1) : ℝ) : EReal)
  rw [one_mul]
  refine congrArg (fun l : Fin 128 => ((f (o + (y 0).val) l : ℝ) : EReal)) (Fin.ext ?_)
  show 0 + 1 * (y 1).val = (y 1).val
  omega

/-- Two heads' parts added to 256 rows. -/
theorem addAt_rows (f g0 g1 : ℕ → Fin 128 → ℝ) (off : Fin 2 → ℕ) (inb) (o : ℕ) (h : off = ![o, 0]) :
    addAt (F := Ideal) (liftRows f) off inb (lift fun b l => g0 (o + b) l) (lift fun b l => g1 (o + b) l)
      = liftRows fun s l => f s l + if o ≤ s ∧ s < o + 256 then g0 s l + g1 s l else 0 := by
  have e : addAt (F := Ideal) (liftRows f) off inb (lift fun b l => g0 (o + b) l) (lift fun b l => g1 (o + b) l)
      = VecWindow.put (liftRows (n := 16384) (φ := .f32) f) off S256x128.size
          (lift (n := 256) (m := 128) (φ := .f32) fun b l => f (o + b) l + (g0 (o + b) l + g1 (o + b) l)) := by
    unfold addAt
    rw [window_rows f off inb o h]
    refine congrArg (VecWindow.put (liftRows (n := 16384) (φ := .f32) f) off S256x128.size) ?_
    refine (congrArg (fun z => addf z _) (shapeCast_self (s := S256x128) (lift (φ := .f32) fun b l => f (o + b) l) _)).trans ?_
    rw [lift_add, lift_add]
  rw [e]
  subst h
  funext y
  unfold VecWindow.put
  have h1 : (y 1).val < 128 := (y 1).isLt
  by_cases hy : o ≤ (y 0).val ∧ (y 0).val < o + 256
  · have hall : ∀ a : Fin 2, (![o, 0] : Fin 2 → ℕ) a ≤ (y a).val ∧ (y a).val < (![o, 0] : Fin 2 → ℕ) a + S256x128.size a := fun a => by
      fin_cases a
      · exact hy
      · exact ⟨Nat.zero_le _, by simpa using h1⟩
    rw [dif_pos hall]
    have e0 : o + ((Rect.unitLocal (s := S16384x128) (off := ![o, 0]) (size := S256x128.size) y hall) 0).val = (y 0).val := by
      show o + ((y 0).val - o) = (y 0).val
      omega
    have e1 : (Rect.unitLocal (s := S16384x128) (off := ![o, 0]) (size := S256x128.size) y hall) 1 = (y 1 : Fin 128) := Fin.ext (by
      show (y 1).val - 0 = (y 1).val
      omega)
    generalize (Rect.unitLocal (s := S16384x128) (off := ![o, 0]) (size := S256x128.size) y hall) = w at e0 e1
    show ((f (o + (w 0).val) (w 1) + (g0 (o + (w 0).val) (w 1) + g1 (o + (w 0).val) (w 1)) : ℝ) : EReal)
      = ((f (y 0).val (y 1 : Fin 128) + if o ≤ (y 0).val ∧ (y 0).val < o + 256 then g0 (y 0).val (y 1 : Fin 128) + g1 (y 0).val (y 1 : Fin 128) else 0 : ℝ) : EReal)
    rw [if_pos hy, e0, e1]
  · rw [dif_neg fun hall => hy (hall 0)]
    show ((f (y 0).val (y 1 : Fin 128) : ℝ) : EReal)
      = ((f (y 0).val (y 1 : Fin 128) + if o ≤ (y 0).val ∧ (y 0).val < o + 256 then g0 (y 0).val (y 1 : Fin 128) + g1 (y 0).val (y 1 : Fin 128) else 0 : ℝ) : EReal)
    rw [if_neg hy, add_zero]

/-- The largest of a column of real numbers is above minus infinity. -/
theorem bot_lt_top (x : FVec Ideal S1x256x1 .f32) (hx : ∀ i, ⊥ < (x i : EReal)) (j : S1.Idx) :
    (⊥ : EReal) < multiReduction .maximumf [1, 2] S1 x 0xFF800000#32 reduces_S1x256x1_S1 k0_pay2._proof_2 k0_pay2._proof_3 j := by
  rw [show multiReduction .maximumf [1, 2] S1 x 0xFF800000#32 reduces_S1x256x1_S1 k0_pay2._proof_2 k0_pay2._proof_3 j = _ from
    multiReduction_maximumf_eq_fold x _ _ _ _ _]
  refine (Finset.lt_fold_max (c := (⊥ : EReal))).mpr (Or.inr ⟨ix3 (0 : Fin 1) (0 : Fin 256) (0 : Fin 1), ?_, hx _⟩)
  refine Finset.mem_filter.mpr ⟨Finset.mem_univ _, ?_⟩
  funext a
  exact Fin.ext (by have h1 := (j a).isLt; have h2 := ((reduces_S1x256x1_S1.drop (ix3 (0 : Fin 1) (0 : Fin 256) (0 : Fin 1))) a).isLt
                    fin_cases a
                    change _ < 1 at h1
                    change _ < 1 at h2
                    omega)

theorem ogt_bot (a b : EReal) (h : ⊥ < a) : Scalar.cmpf (F := Ideal) (φ := .f32) .ogt (Scalar.maximumf (F := Ideal) (φ := .f32) a b) (⊥ : EReal) = 1#1 := by
  have e : decide ((⊥ : EReal) < max a b) = true := decide_eq_true (lt_max_of_lt_left h)
  exact (congrArg BitVec.ofBool e).trans rfl

theorem goesOn_real (g : Fin 256 → ℝ) (c1 : Carry Ideal) (g2 acc dk dv) :
    goesOn (F := Ideal) ⟨⟨liftCol g, g2, acc⟩, c1, dk, dv⟩ = 1#1 := by
  unfold goesOn k0_pay2
  exact ogt_bot _ _ (bot_lt_top (shapeCast S1x256x1 (liftCol g) shapeCasts_S256x1_S1x256x1) (fun _ => EReal.bot_lt_coe _) _)

end Cert.Attention

end
-- ==== Proof.Attention.Offsets.lean ====
/-
  Stick breaking, backward: the rows at which the tiles of a walk begin.
-/
module

public import proofs.«01_k».proof.Proof.StickBreaking.Point

@[expose] public section

noncomputable section

namespace Cert.Attention

open Finset
open Idealize.ShloMosaic Cert.Kernel2Ideal Cert.Kernel2Ideal.Gen Cert.Kernel2Ideal.Sb

theorem off3_eq : ∀ n : ℕ, n < 64 → k0_off3 (BitVec.ofNat 32 n) = ![256 * n, 0] := by decide +kernel

theorem off2_eq : ∀ i : grid0.Coords, ∀ r : Fin 2, k0_off2 i (BitVec.ofNat 32 r.val) = ![256 * (2 * (i 1).val + r.val - 1), 0] := by decide +kernel

theorem gap_zero : ∀ i : grid0.Coords, ∀ r : Fin 2, Scalar.subi (Scalar.muli (tileNo i (BitVec.ofNat 32 r.val)) 256#32)
    (Scalar.muli (Scalar.addi (Scalar.muli (BitVec.ofNat 32 (i 1).val) 2#32) (BitVec.ofNat 32 r.val)) 256#32) = 0#32 := by decide +kernel

theorem valid_eq : ∀ i : grid0.Coords, ∀ r : Fin 2, Scalar.cmpi .sge (tileNo i (BitVec.ofNat 32 r.val)) 1#32
    = if 2 * (i 1).val + r.val = 0 then 0#1 else 1#1 := by decide +kernel

end Cert.Attention

end
-- ==== Proof.Attention.Pair.lean ====
/-
  Stick breaking, backward, over the reals: two heads that walk together. Each head is a matrix of queries and one of
  output gradients over the lanes of both, zero outside its own; keys and values are shared.
-/
module

public import proofs.«01_k».proof.Proof.Attention.Walk
public import proofs.«01_k».proof.Proof.Attention.Offsets

@[expose] public section

noncomputable section

namespace Cert.Attention

open Finset
open Idealize.ShloMosaic Cert.Kernel2Ideal Cert.Kernel2Ideal.Gen Cert.Kernel2Ideal.Sb

/-- Two heads: scaled queries and output gradients of each, keys and values of both. -/
structure Pair where
  q0 : ℕ → Fin 128 → ℝ
  q1 : ℕ → Fin 128 → ℝ
  d0 : ℕ → Fin 128 → ℝ
  d1 : ℕ → Fin 128 → ℝ
  k : ℕ → Fin 128 → ℝ
  v : ℕ → Fin 128 → ℝ

/-- Products of the rows of two matrices. -/
def rowsDot (x y : ℕ → Fin 128 → ℝ) (r s : ℕ) : ℝ := ∑ l, x r l * y s l

namespace Pair

variable (P : Pair)

/-- The gradients of the scores of the two heads. -/
def ds0 (r s : ℕ) : ℝ := dScoreOf (rowsDot P.q0 P.k) (rowsDot P.d0 P.v) r s
def ds1 (r s : ℕ) : ℝ := dScoreOf (rowsDot P.q1 P.k) (rowsDot P.d1 P.v) r s
/-- Their shares. -/
def sh0 (r s : ℕ) : ℝ := shareOf (rowsDot P.q0 P.k) r s
def sh1 (r s : ℕ) : ℝ := shareOf (rowsDot P.q1 P.k) r s

/-- What the 256 queries from `ro` on add to the key gradient. -/
def kPart (ro s : ℕ) (l : Fin 128) : ℝ :=
  (∑ a : Fin 256, P.ds0 (ro + a) s * P.q0 (ro + a) l) + ∑ a : Fin 256, P.ds1 (ro + a) s * P.q1 (ro + a) l

/-- What they add to the value gradient. -/
def vPart (ro s : ℕ) (l : Fin 128) : ℝ :=
  (∑ a : Fin 256, P.sh0 (ro + a) s * P.d0 (ro + a) l) + ∑ a : Fin 256, P.sh1 (ro + a) s * P.d1 (ro + a) l

theorem kPart_of_le {ro s : ℕ} (h : ro + 256 ≤ s) (l : Fin 128) : P.kPart ro s l = 0 := by
  unfold kPart ds0 ds1
  rw [sum_eq_zero, sum_eq_zero, add_zero]
  all_goals exact fun a _ => by rw [dScoreOf_of_le _ _ (by omega), zero_mul]

theorem vPart_of_le {ro s : ℕ} (h : ro + 256 ≤ s) (l : Fin 128) : P.vPart ro s l = 0 := by
  unfold vPart sh0 sh1
  rw [sum_eq_zero, sum_eq_zero, add_zero]
  all_goals exact fun a _ => by rw [shareOf_of_le _ (by omega), zero_mul]

/-- The two heads of the queries from `ro` on. -/
def h0 (ro : ℕ) : Head Ideal := headAt (rowsDot P.q0 P.k) (rowsDot P.d0 P.v) P.q0 P.d0 ro
def h1 (ro : ℕ) : Head Ideal := headAt (rowsDot P.q1 P.k) (rowsDot P.d1 P.v) P.q1 P.d1 ro

/-- The carries after the keys from `o` on, with the accumulated gradients `f` and `g`. -/
def state (ro o : ℕ) (f g : ℕ → Fin 128 → ℝ) : State Ideal :=
  ⟨carryAt (rowsDot P.q0 P.k) (rowsDot P.d0 P.v) P.k ro o, carryAt (rowsDot P.q1 P.k) (rowsDot P.d1 P.v) P.k ro o, liftRows f, liftRows g⟩

/-- The two heads' parts of a tile, added to the gradients. -/
theorem add_tile (ro o : ℕ) (f g : ℕ → Fin 128 → ℝ) (off : Fin 2 → ℕ) (inb) (h : off = ![o, 0]) :
    (⟨(tileOut (rowsDot P.q0 P.k) (rowsDot P.d0 P.v) P.q0 P.d0 P.k ro o).carry, (tileOut (rowsDot P.q1 P.k) (rowsDot P.d1 P.v) P.q1 P.d1 P.k ro o).carry,
      addAt (liftRows f) off inb (tileOut (rowsDot P.q0 P.k) (rowsDot P.d0 P.v) P.q0 P.d0 P.k ro o).dk (tileOut (rowsDot P.q1 P.k) (rowsDot P.d1 P.v) P.q1 P.d1 P.k ro o).dk,
      addAt (liftRows g) off inb (tileOut (rowsDot P.q0 P.k) (rowsDot P.d0 P.v) P.q0 P.d0 P.k ro o).dv (tileOut (rowsDot P.q1 P.k) (rowsDot P.d1 P.v) P.q1 P.d1 P.k ro o).dv⟩ : State Ideal)
      = P.state ro o (fun s l => f s l + if o ≤ s ∧ s < o + 256 then P.kPart ro s l else 0)
          (fun s l => g s l + if o ≤ s ∧ s < o + 256 then P.vPart ro s l else 0) := by
  have ek := addAt_rows f (fun s l => ∑ a : Fin 256, P.ds0 (ro + a) s * P.q0 (ro + a) l) (fun s l => ∑ a : Fin 256, P.ds1 (ro + a) s * P.q1 (ro + a) l) off inb o h
  have ev := addAt_rows g (fun s l => ∑ a : Fin 256, P.sh0 (ro + a) s * P.d0 (ro + a) l) (fun s l => ∑ a : Fin 256, P.sh1 (ro + a) s * P.d1 (ro + a) l) off inb o h
  exact congrArg₂ (State.mk _ _) ek ev

/-- One trip of the loop. -/
theorem trip_at (ro n : ℕ) (hn : 256 * n + 256 ≤ ro) (hr : ro + 256 ≤ 16384) (f g : ℕ → Fin 128 → ℝ) (h64 : n < 64) (hw) :
    trip (P.h0 ro) (P.h1 ro) k0_pay23 (liftRows P.k) (liftRows P.v) (BitVec.ofNat 32 n) hw (P.state ro (256 * n + 256) f g)
      = P.state ro (256 * n) (fun s l => f s l + if 256 * n ≤ s ∧ s < 256 * n + 256 then P.kPart ro s l else 0)
          (fun s l => g s l + if 256 * n ≤ s ∧ s < 256 * n + 256 then P.vPart ro s l else 0) := by
  rw [← P.add_tile ro (256 * n) f g _ (k0_off3_inb _ hw) (off3_eq n h64)]
  unfold trip
  rw [window_rows P.k _ _ _ (off3_eq n h64), window_rows P.v _ _ _ (off3_eq n h64)]
  have t0 := tail_lift (rowsDot P.q0 P.k) (rowsDot P.d0 P.v) P.q0 P.d0 P.k P.v (fun _ _ => rfl) (fun _ _ => rfl) ro (256 * n) hn hr
  have t1 := tail_lift (rowsDot P.q1 P.k) (rowsDot P.d1 P.v) P.q1 P.d1 P.k P.v (fun _ _ => rfl) (fun _ _ => rfl) ro (256 * n) hn hr
  unfold state h0 h1
  dsimp only
  rw [t0, t1]

/-- The loop, from any tile on. -/
theorem walk_at (ro : ℕ) (hr : ro + 256 ≤ 16384) : ∀ n : ℕ, 256 * n ≤ ro → ∀ f g : ℕ → Fin 128 → ℝ,
    walk (P.h0 ro) (P.h1 ro) k0_pay23 (liftRows P.k) (liftRows P.v) n (P.state ro (256 * n) f g)
      = P.state ro 0 (fun s l => f s l + if s < 256 * n then P.kPart ro s l else 0) (fun s l => g s l + if s < 256 * n then P.vPart ro s l else 0)
  | 0, _, f, g => by simp [walk]
  | n + 1, hn, f, g => by
    have h64 : n < 64 := by omega
    have hgo : goesOn (P.state ro (256 * (n + 1)) f g) = 1#1 := goesOn_real _ _ _ _ _ _
    rw [walk, if_pos hgo, dif_pos h64]
    have ht := P.trip_at ro n (by omega) hr f g h64 (chk_of_lt n h64)
    rw [show 256 * (n + 1) = 256 * n + 256 by omega, ht, walk_at ro hr n (by omega)]
    congr 1
    · funext s l
      by_cases h1 : s < 256 * n
      · rw [if_pos h1, if_neg (by omega), if_pos (by omega), add_zero]
      · rw [if_neg h1, add_zero]
        congr 1
        exact if_congr (by omega) rfl rfl
    · funext s l
      by_cases h1 : s < 256 * n
      · rw [if_pos h1, if_neg (by omega), if_pos (by omega), add_zero]
      · rw [if_neg h1, add_zero]
        congr 1
        exact if_congr (by omega) rfl rfl

theorem mask_strict (i : grid0.Coords) (r : Fin 2) : Strict (maskOf i (BitVec.ofNat 32 r.val)) := by
  intro a b
  unfold maskOf
  rw [gap_zero i r]
  pointwise
  refine (congrArg (fun x => IntOp.cmpi .slt x (BitVec.ofNat 32 a.val)) (BitVec.add_zero (BitVec.ofNat 32 b.val))).trans ?_
  exact WordCmp.cmpi_slt_ofNat (by omega) (by omega)

/-- The two tiles before the loop. -/
theorem straight_at (i : grid0.Coords) (r : Fin 2) (f g : ℕ → Fin 128 → ℝ) (inb1 inb2) :
    straight (P.h0 (512 * (i 1).val + 256 * r.val)) (P.h1 (512 * (i 1).val + 256 * r.val)) i (BitVec.ofNat 32 r.val) (liftRows P.k) (liftRows P.v) inb1 inb2 (liftRows f) (liftRows g)
      = P.state (512 * (i 1).val + 256 * r.val) (256 * (2 * (i 1).val + r.val - 1))
          (fun s l => f s l + if 256 * (2 * (i 1).val + r.val - 1) ≤ s then P.kPart (512 * (i 1).val + 256 * r.val) s l else 0)
          (fun s l => g s l + if 256 * (2 * (i 1).val + r.val - 1) ≤ s then P.vPart (512 * (i 1).val + 256 * r.val) s l else 0) := by
  have hi : (i 1).val < 32 := (i 1).isLt
  have hr2 := r.isLt
  unfold straight
  rw [window_rows P.k _ inb1 _ (k0_off1_eq i r), window_rows P.v _ inb1 _ (k0_off1_eq i r), window_rows P.k _ inb2 _ (off2_eq i r),
    window_rows P.v _ inb2 _ (off2_eq i r), valid_eq i r]
  have t0 := diag_lift (rowsDot P.q0 P.k) (rowsDot P.d0 P.v) P.q0 P.d0 P.k P.v (fun _ _ => rfl) (fun _ _ => rfl) _ (mask_strict i r)
    (512 * (i 1).val + 256 * r.val) (by omega)
  have t1 := diag_lift (rowsDot P.q1 P.k) (rowsDot P.d1 P.v) P.q1 P.d1 P.k P.v (fun _ _ => rfl) (fun _ _ => rfl) _ (mask_strict i r)
    (512 * (i 1).val + 256 * r.val) (by omega)
  have a := P.add_tile (512 * (i 1).val + 256 * r.val) (512 * (i 1).val + 256 * r.val) f g _ inb1 (k0_off1_eq i r)
  have ak := congrArg State.dk a
  have av := congrArg State.dv a
  dsimp only [state] at ak av
  unfold h0 h1
  dsimp only
  rw [t0, t1, ak, av]
  by_cases hz : 2 * (i 1).val + r.val = 0
  · rw [if_pos hz]
    have h0 : 256 * (2 * (i 1).val + r.val - 1) = 512 * (i 1).val + 256 * r.val := by omega
    have z0 := fun h => addAt_rows h (fun _ _ => 0) (fun _ _ => 0) _ inb2 _ (off2_eq i r)
    unfold tileOut carryAt headAt
    dsimp only
    rw [next_none, next_none, z0, z0, h0]
    unfold state carryAt
    congr 2
    · funext s l
      rw [add_zero, ite_self, add_zero]
      by_cases hs : 512 * (i 1).val + 256 * r.val ≤ s
      · rw [if_pos hs]
        by_cases ht : s < 512 * (i 1).val + 256 * r.val + 256
        · rw [if_pos ⟨hs, ht⟩]
        · rw [if_neg fun h => ht h.2, P.kPart_of_le (by omega)]
      · rw [if_neg hs, if_neg fun h => hs h.1]
    · funext s l
      rw [add_zero, ite_self, add_zero]
      by_cases hs : 512 * (i 1).val + 256 * r.val ≤ s
      · rw [if_pos hs]
        by_cases ht : s < 512 * (i 1).val + 256 * r.val + 256
        · rw [if_pos ⟨hs, ht⟩]
        · rw [if_neg fun h => ht h.2, P.vPart_of_le (by omega)]
      · rw [if_neg hs, if_neg fun h => hs h.1]
  · rw [if_neg hz]
    have ho : 256 * (2 * (i 1).val + r.val - 1) + 256 = 512 * (i 1).val + 256 * r.val := by omega
    have u0 := tail_lift (rowsDot P.q0 P.k) (rowsDot P.d0 P.v) P.q0 P.d0 P.k P.v (fun _ _ => rfl) (fun _ _ => rfl) (512 * (i 1).val + 256 * r.val)
      (256 * (2 * (i 1).val + r.val - 1)) (by omega) (by omega)
    have u1 := tail_lift (rowsDot P.q1 P.k) (rowsDot P.d1 P.v) P.q1 P.d1 P.k P.v (fun _ _ => rfl) (fun _ _ => rfl) (512 * (i 1).val + 256 * r.val)
      (256 * (2 * (i 1).val + r.val - 1)) (by omega) (by omega)
    rw [ho] at u0 u1
    have n0 : ∀ h kb vb c, nextTile (F := Ideal) h 1#1 k0_pay23 kb vb c = tailTile h k0_pay23 kb vb c := fun _ _ _ _ => rfl
    have ec : ∀ Z W q d k ro o, (tileOut Z W q d k ro o).carry = carryAt Z W k ro o := fun _ _ _ _ _ _ _ => rfl
    simp only [n0]
    rw [ec, ec, u0, u1, P.add_tile _ _ _ _ _ inb2 (off2_eq i r)]
    congr 1
    · funext s l
      by_cases hs : 512 * (i 1).val + 256 * r.val ≤ s
      · rw [if_neg (show ¬ (256 * (2 * (i 1).val + r.val - 1) ≤ s ∧ s < 256 * (2 * (i 1).val + r.val - 1) + 256) by omega),
          if_pos (show 256 * (2 * (i 1).val + r.val - 1) ≤ s by omega), add_zero]
        by_cases ht : s < 512 * (i 1).val + 256 * r.val + 256
        · rw [if_pos ⟨hs, ht⟩]
        · rw [if_neg fun h => ht h.2, P.kPart_of_le (by omega)]
      · rw [if_neg (fun h => hs h.1), add_zero]
        congr 1
        exact if_congr (by omega) rfl rfl
    · funext s l
      by_cases hs : 512 * (i 1).val + 256 * r.val ≤ s
      · rw [if_neg (show ¬ (256 * (2 * (i 1).val + r.val - 1) ≤ s ∧ s < 256 * (2 * (i 1).val + r.val - 1) + 256) by omega),
          if_pos (show 256 * (2 * (i 1).val + r.val - 1) ≤ s by omega), add_zero]
        by_cases ht : s < 512 * (i 1).val + 256 * r.val + 256
        · rw [if_pos ⟨hs, ht⟩]
        · rw [if_neg fun h => ht h.2, P.vPart_of_le (by omega)]
      · rw [if_neg (fun h => hs h.1), add_zero]
        congr 1
        exact if_congr (by omega) rfl rfl

end Pair

end Cert.Attention

end
-- ==== Proof.Attention.Heads.lean ====
/-
  Stick breaking, backward, over the reals: a grid point. The two heads of 512 queries, made from the lanes of one block,
  and what the point leaves.
-/
module

public import proofs.«01_k».proof.Proof.Attention.Pair

@[expose] public section

noncomputable section

namespace Cert.Attention

open Finset
open Idealize.ShloMosaic Cert.Kernel2Ideal Cert.Kernel2Ideal.Gen Cert.Kernel2Ideal.Sb

/-- The first head's lanes. -/
def low (x : ℕ → Fin 128 → ℝ) (r : ℕ) (l : Fin 128) : ℝ := if l.val < 64 then x r l else 0
/-- The second head's lanes. -/
def high (x : ℕ → Fin 128 → ℝ) (r : ℕ) (l : Fin 128) : ℝ := if l.val < 64 then 0 else x r l

/-- The two heads in the lanes of `Q`, `DY`, `K` and `V`. -/
def pairOf (Q DY K V : ℕ → Fin 128 → ℝ) : Pair :=
  ⟨low fun r l => Q r l * (1 / 8), high fun r l => Q r l * (1 / 8), low DY, high DY, K, V⟩

theorem lanes (l : Fin 128) : k0_pay18 (ix2 (0 : Fin 1) l) = BitVec.ofBool (decide (l.val < 64)) := by
  pointwise [k0_pay18]
  exact (WordCmp.cmpi_slt_ofNat (w := 32) (by omega) (by omega) :
    IntOp.cmpi .slt (BitVec.ofNat 32 l.val) (BitVec.ofNat 32 64) = BitVec.ofBool (decide (l.val < 64)))

/-- A choice by the lane. -/
theorem pick (l : Fin 128) (a b : ℝ) :
    Scalar.select (k0_pay18 (ix2 (0 : Fin 1) l)) (a : EReal) (b : EReal) = ((if l.val < 64 then a else b : ℝ) : EReal) := by
  rw [lanes]
  by_cases h : l.val < 64
  · rw [if_pos h, decide_eq_true h]; rfl
  · rw [if_neg h, decide_eq_false h]; rfl

theorem eighth : Ideal.ofBits FTy.f32 0x3E000000#32 = ((1 / 8 : ℝ) : EReal) := by
  simp [Ideal.ofBits, Ideal.ieee]; norm_num
  rw [← EReal.coe_mul]; norm_num

theorem eighth_half : Ideal.ofBits FTy.bf16 0x3E00#16 = ((1 / 8 : ℝ) : EReal) := by
  simp [Ideal.ofBits, Ideal.ieee]; norm_num
  rw [← EReal.coe_mul]; norm_num

theorem pay20_lift (x : Fin 256 → Fin 128 → ℝ) :
    k0_pay20 (F := Ideal) (lift (φ := .bf16) x) = lift fun a l => if l.val < 64 then x a l * (1 / 8) else 0 := by
  funext j
  idx_vars j
  pointwise [k0_pay20, k0_pay19, lift]
  rw [eighth_half, ← EReal.coe_mul]
  exact pick _ _ _

theorem pay21_lift (x : Fin 256 → Fin 128 → ℝ) :
    k0_pay21 (F := Ideal) (lift (φ := .bf16) x) = lift fun a l => if l.val < 64 then 0 else x a l * (1 / 8) := by
  funext j
  idx_vars j
  pointwise [k0_pay21, k0_pay19, lift]
  rw [eighth_half, ← EReal.coe_mul]
  exact pick _ _ _

theorem pay24_lift (x : Fin 256 → Fin 128 → ℝ) :
    k0_pay24 (F := Ideal) (lift (φ := .bf16) x) = lift (φ := .bf16) fun a l => if l.val < 64 then x a l else 0 := by
  funext j
  idx_vars j
  pointwise [k0_pay24, lift]
  exact pick _ _ _

theorem pay25_lift (x : Fin 256 → Fin 128 → ℝ) :
    k0_pay25 (F := Ideal) k0_pay18 (lift (φ := .bf16) x) = lift fun a l => if l.val < 64 then 0 else x a l := by
  funext j
  idx_vars j
  pointwise [k0_pay25, lift]
  exact pick _ _ _

theorem pay27_lift (x y : Fin 256 → Fin 128 → ℝ) (T : Fin 256 → ℝ) (h : ∀ a, (∑ l : Fin 128, if l.val < 64 then x a l * y a l else 0) = T a) :
    k0_pay27 (F := Ideal) k0_pay18 (lift (φ := .bf16) x) (lift (φ := .f32) y) = liftCol T := by
  funext j
  idx_vars j
  pointwise [k0_pay27, k0_pay26, lift, liftCol]
  rw [← h, coe_sum]
  refine sum_congr rfl fun l _ => ?_
  rw [← EReal.coe_mul]
  exact pick _ _ _

theorem pay28_lift (x y : Fin 256 → Fin 128 → ℝ) (T : Fin 256 → ℝ) (h : ∀ a, (∑ l : Fin 128, if l.val < 64 then 0 else x a l * y a l) = T a) :
    k0_pay28 (F := Ideal) k0_pay18 (lift (φ := .bf16) x) (lift (φ := .f32) y) = liftCol T := by
  funext j
  idx_vars j
  pointwise [k0_pay28, k0_pay26, lift, liftCol]
  rw [← h, coe_sum]
  refine sum_congr rfl fun l _ => ?_
  rw [← EReal.coe_mul]
  exact pick _ _ _

theorem pay1_lift (x y : Fin 256 → Fin 128 → ℝ) :
    k0_pay1 (F := Ideal) k0_pay18 (lift x) (lift y) = lift fun a l => (if l.val < 64 then x a l else y a l) * (1 / 8) := by
  funext j
  idx_vars j
  pointwise [k0_pay1, lift]
  rw [eighth]
  exact (congrArg (· * ((1 / 8 : ℝ) : EReal)) (pick _ _ _)).trans (EReal.coe_mul _ _).symm

/-- The two heads of the 256 queries from `ro` on. -/
theorem head0_lift (Q DY K V Y : ℕ → Fin 128 → ℝ) (ro : ℕ)
    (h : ∀ a : Fin 256, (∑ l : Fin 128, if l.val < 64 then DY (ro + a) l * Y (ro + a) l else 0) = total (rowsDot (low fun r l => Q r l * (1 / 8)) K) (rowsDot (low DY) V) (ro + a)) :
    head0 (F := Ideal) (lift fun a l => Q (ro + a) l) (lift fun a l => DY (ro + a) l) (lift fun a l => Y (ro + a) l) = (pairOf Q DY K V).h0 ro := by
  unfold head0
  rw [pay20_lift, pay24_lift, pay27_lift _ _ _ h]
  rfl

theorem head1_lift (Q DY K V Y : ℕ → Fin 128 → ℝ) (ro : ℕ)
    (h : ∀ a : Fin 256, (∑ l : Fin 128, if l.val < 64 then 0 else DY (ro + a) l * Y (ro + a) l) = total (rowsDot (high fun r l => Q r l * (1 / 8)) K) (rowsDot (high DY) V) (ro + a)) :
    head1 (F := Ideal) (lift fun a l => Q (ro + a) l) (lift fun a l => DY (ro + a) l) (lift fun a l => Y (ro + a) l) = (pairOf Q DY K V).h1 ro := by
  unfold head1
  rw [pay21_lift, pay25_lift, pay28_lift _ _ _ h]
  rfl

/-- The query gradient of the two heads. -/
def dqOf (P : Pair) (r : ℕ) (l : Fin 128) : ℝ :=
  (if l.val < 64 then ∑ s ∈ Ico 0 16384, P.ds0 r s * P.k s l else ∑ s ∈ Ico 0 16384, P.ds1 r s * P.k s l) * (1 / 8)

theorem joined_lift (P : Pair) (ro : ℕ) (f g : ℕ → Fin 128 → ℝ) : joined (P.state ro 0 f g) = lift fun a l => dqOf P (ro + a) l :=
  (pay1_lift (fun a l => ∑ s ∈ Ico 0 16384, P.ds0 (ro + a) s * P.k s l) (fun a l => ∑ s ∈ Ico 0 16384, P.ds1 (ro + a) s * P.k s l)).trans rfl

/-- Both halves of a block, put in place. -/
theorem halves (f : ℕ → Fin 128 → ℝ) (o : ℕ) (x : FVec Ideal S512x128 .f32) :
    VecWindow.put (VecWindow.put x ![0, 0] S256x128.size (lift (n := 256) (m := 128) (φ := .f32) fun a l => f (o + a) l)) ![256, 0] S256x128.size
      (lift (n := 256) (m := 128) (φ := .f32) fun a l => f (o + 256 + a) l) = liftRows (n := 512) (φ := .f32) fun a l => f (o + a) l := by
  funext y
  unfold VecWindow.put
  have h0 : (y 0).val < 512 := (y 0).isLt
  have h1 : (y 1).val < 128 := (y 1).isLt
  by_cases hy : (y 0).val < 256
  · rw [dif_neg fun hall => by have := (hall 0).1; change 256 ≤ (y 0).val at this; omega]
    rw [dif_pos (fun a => by fin_cases a <;> [exact ⟨Nat.zero_le _, by simpa using hy⟩; exact ⟨Nat.zero_le _, by simpa using h1⟩])]
    rfl
  · rw [dif_pos (fun a => by fin_cases a <;> [exact ⟨by simpa using hy, by simpa using h0⟩; exact ⟨Nat.zero_le _, by simpa using h1⟩])]
    show ((f (o + 256 + ((y 0).val - 256)) (y 1 : Fin 128) : ℝ) : EReal) = ((f (o + (y 0).val) (y 1 : Fin 128) : ℝ) : EReal)
    rw [show o + 256 + ((y 0).val - 256) = o + (y 0).val by omega]

/-- A point from its steps. -/
theorem point_of (i : grid0.Coords) (q : FVec Ideal S512x128 .bf16) (k v : FVec Ideal S16384x128 .bf16) (dy : FVec Ideal S512x128 .bf16)
    (y : FVec Ideal S512x128 .f32) (dk dv : FVec Ideal S16384x128 .f32) (h g h' g' : Head Ideal) (s0 s1 e0 e1 : State Ideal)
    (eh : head0 (upper (F := Ideal) (e := .bf16) q) (upper (F := Ideal) (e := .bf16) dy) (upper (F := Ideal) (e := .f32) y) = h)
    (eg : head1 (upper (F := Ideal) (e := .bf16) q) (upper (F := Ideal) (e := .bf16) dy) (upper (F := Ideal) (e := .f32) y) = g)
    (eh' : head0 (lower (F := Ideal) (e := .bf16) q) (lower (F := Ideal) (e := .bf16) dy) (lower (F := Ideal) (e := .f32) y) = h')
    (eg' : head1 (lower (F := Ideal) (e := .bf16) q) (lower (F := Ideal) (e := .bf16) dy) (lower (F := Ideal) (e := .f32) y) = g')
    (es0 : straight h g i 0#32 k v (k0_off1_inb i 0) (k0_off2_inb i 0) dk dv = s0)
    (es1 : straight h' g' i 1#32 k v (k0_off1_inb i 1) (k0_off2_inb i 1) s0.dk s0.dv = s1)
    (ee0 : walk h g k0_pay23 k v (2 * (i 1).val - 1) ⟨s0.c0, s0.c1, s1.dk, s1.dv⟩ = e0)
    (ee1 : walk h' g' k0_pay23 k v (2 * (i 1).val) ⟨s1.c0, s1.c1, e0.dk, e0.dv⟩ = e1) :
    point i q k v dy y dk dv
      = ⟨VecWindow.put (VecWindow.put (broadcast S512x128 (Scalar.ofBits .f32 0x00000000#32)) ![0, 0] S256x128.size (joined e0)) ![256, 0] S256x128.size (joined e1),
          e1.dk, e1.dv⟩ := by
  subst eh eg eh' eg' es0 es1 ee0 ee1
  rfl

theorem congrArg₃' {α β γ δ : Type*} (f : α → β → γ → δ) {a a' : α} {b b' : β} {c c' : γ} (ha : a = a') (hb : b = b') (hc : c = c') :
    f a b c = f a' b' c' := by
  rw [ha, hb, hc]

set_option maxHeartbeats 1000000 in
/-- What a grid point leaves. -/
theorem point_lift (i : grid0.Coords) (Q DY K V Y f g : ℕ → Fin 128 → ℝ)
    (h0 : ∀ r, r < 16384 → (∑ l : Fin 128, if l.val < 64 then DY r l * Y r l else 0) = total (rowsDot (low fun r l => Q r l * (1 / 8)) K) (rowsDot (low DY) V) r)
    (h1 : ∀ r, r < 16384 → (∑ l : Fin 128, if l.val < 64 then 0 else DY r l * Y r l) = total (rowsDot (high fun r l => Q r l * (1 / 8)) K) (rowsDot (high DY) V) r) :
    point (F := Ideal) i (liftRows fun a l => Q (512 * (i 1).val + a) l) (liftRows K) (liftRows V) (liftRows fun a l => DY (512 * (i 1).val + a) l)
        (liftRows fun a l => Y (512 * (i 1).val + a) l) (liftRows f) (liftRows g)
      = ⟨liftRows fun a l => dqOf (pairOf Q DY K V) (512 * (i 1).val + a) l,
          liftRows fun s l => f s l + (pairOf Q DY K V).kPart (512 * (i 1).val) s l + (pairOf Q DY K V).kPart (512 * (i 1).val + 256) s l,
          liftRows fun s l => g s l + (pairOf Q DY K V).vPart (512 * (i 1).val) s l + (pairOf Q DY K V).vPart (512 * (i 1).val + 256) s l⟩ := by
  have hi : (i 1).val < 32 := (i 1).isLt
  have u : ∀ (φ : FTy) (X : ℕ → Fin 128 → ℝ), VecWindow.window (liftRows (n := 512) (φ := φ) fun a l => X (512 * (i 1).val + a) l) ![0, 0] S256x128.size inb_S512x128_S256x128_0_0
      = lift fun a l => X (512 * (i 1).val + a) l := fun φ X => by
    rw [window_rows _ _ _ 0 rfl]; simp only [zero_add]
  have w : ∀ (φ : FTy) (X : ℕ → Fin 128 → ℝ), VecWindow.window (liftRows (n := 512) (φ := φ) fun a l => X (512 * (i 1).val + a) l) ![256, 0] S256x128.size inb_S512x128_S256x128_256_0
      = lift fun a l => X (512 * (i 1).val + 256 + a) l := fun φ X => by
    rw [window_rows _ _ _ 256 rfl]; simp only [add_assoc]
  have a0 := head0_lift Q DY K V Y (512 * (i 1).val) fun a => h0 _ (by omega)
  have a1 := head1_lift Q DY K V Y (512 * (i 1).val) fun a => h1 _ (by omega)
  have b0 := head0_lift Q DY K V Y (512 * (i 1).val + 256) fun a => h0 _ (by omega)
  have b1 := head1_lift Q DY K V Y (512 * (i 1).val + 256) fun a => h1 _ (by omega)
  obtain ⟨P, hP⟩ : ∃ P, P = pairOf Q DY K V := ⟨_, rfl⟩
  have hk : P.k = K := by rw [hP]; rfl
  have hv : P.v = V := by rw [hP]; rfl
  rw [← hP] at a0 a1 b0 b1 ⊢
  have s0 := fun f g => P.straight_at i 0 f g (k0_off1_inb i 0) (k0_off2_inb i 0)
  have s1 := fun f g => P.straight_at i 1 f g (k0_off1_inb i 1) (k0_off2_inb i 1)
  have w0 := P.walk_at (512 * (i 1).val) (by omega) (2 * (i 1).val - 1) (by omega)
  have w1 := P.walk_at (512 * (i 1).val + 256) (by omega) (2 * (i 1).val) (by omega)
  simp only [Fin.val_zero, Fin.val_one, mul_zero, add_zero, mul_one, Nat.add_sub_cancel] at s0 s1
  rw [hk, hv] at s0 s1 w0 w1
  have t0 := s0 f g
  obtain ⟨F0, hF0⟩ : ∃ F : ℕ → Fin 128 → ℝ, F = fun s l => f s l + if 256 * (2 * (i 1).val - 1) ≤ s then P.kPart (512 * (i 1).val) s l else 0 := ⟨_, rfl⟩
  obtain ⟨G0, hG0⟩ : ∃ G : ℕ → Fin 128 → ℝ, G = fun s l => g s l + if 256 * (2 * (i 1).val - 1) ≤ s then P.vPart (512 * (i 1).val) s l else 0 := ⟨_, rfl⟩
  rw [← hF0, ← hG0] at t0
  have t1 := s1 F0 G0
  obtain ⟨F1, hF1⟩ : ∃ F : ℕ → Fin 128 → ℝ, F = fun s l => F0 s l + if 256 * (2 * (i 1).val) ≤ s then P.kPart (512 * (i 1).val + 256) s l else 0 := ⟨_, rfl⟩
  obtain ⟨G1, hG1⟩ : ∃ G : ℕ → Fin 128 → ℝ, G = fun s l => G0 s l + if 256 * (2 * (i 1).val) ≤ s then P.vPart (512 * (i 1).val + 256) s l else 0 := ⟨_, rfl⟩
  rw [← hF1, ← hG1] at t1
  have x0 := w0 F1 G1
  obtain ⟨F2, hF2⟩ : ∃ F : ℕ → Fin 128 → ℝ, F = fun s l => F1 s l + if s < 256 * (2 * (i 1).val - 1) then P.kPart (512 * (i 1).val) s l else 0 := ⟨_, rfl⟩
  obtain ⟨G2, hG2⟩ : ∃ G : ℕ → Fin 128 → ℝ, G = fun s l => G1 s l + if s < 256 * (2 * (i 1).val - 1) then P.vPart (512 * (i 1).val) s l else 0 := ⟨_, rfl⟩
  rw [← hF2, ← hG2] at x0
  have x1 := w1 F2 G2
  obtain ⟨F3, hF3⟩ : ∃ F : ℕ → Fin 128 → ℝ, F = fun s l => F2 s l + if s < 256 * (2 * (i 1).val) then P.kPart (512 * (i 1).val + 256) s l else 0 := ⟨_, rfl⟩
  obtain ⟨G3, hG3⟩ : ∃ G : ℕ → Fin 128 → ℝ, G = fun s l => G2 s l + if s < 256 * (2 * (i 1).val) then P.vPart (512 * (i 1).val + 256) s l else 0 := ⟨_, rfl⟩
  rw [← hF3, ← hG3] at x1
  have eF : F3 = fun s l => f s l + P.kPart (512 * (i 1).val) s l + P.kPart (512 * (i 1).val + 256) s l := by
    rw [hF3, hF2, hF1, hF0]
    funext s l
    dsimp only
    rcases lt_or_ge s (256 * (2 * (i 1).val - 1)) with d | d <;> rcases lt_or_ge s (256 * (2 * (i 1).val)) with c | c
    · rw [if_pos d, if_pos c, if_neg (not_le.mpr d), if_neg (not_le.mpr c)]; ring
    · rw [if_pos d, if_neg (not_lt.mpr c), if_neg (not_le.mpr d), if_pos c]; ring
    · rw [if_neg (not_lt.mpr d), if_pos c, if_pos d, if_neg (not_le.mpr c)]; ring
    · rw [if_neg (not_lt.mpr d), if_neg (not_lt.mpr c), if_pos d, if_pos c]; ring
  have eG : G3 = fun s l => g s l + P.vPart (512 * (i 1).val) s l + P.vPart (512 * (i 1).val + 256) s l := by
    rw [hG3, hG2, hG1, hG0]
    funext s l
    dsimp only
    rcases lt_or_ge s (256 * (2 * (i 1).val - 1)) with d | d <;> rcases lt_or_ge s (256 * (2 * (i 1).val)) with c | c
    · rw [if_pos d, if_pos c, if_neg (not_le.mpr d), if_neg (not_le.mpr c)]; ring
    · rw [if_pos d, if_neg (not_lt.mpr c), if_neg (not_le.mpr d), if_pos c]; ring
    · rw [if_neg (not_lt.mpr d), if_pos c, if_pos d, if_neg (not_le.mpr c)]; ring
    · rw [if_neg (not_lt.mpr d), if_neg (not_lt.mpr c), if_pos d, if_pos c]; ring
  have j0 := joined_lift P (512 * (i 1).val) F2 G2
  have j1 := joined_lift P (512 * (i 1).val + 256) F3 G3
  rw [← eF, ← eG]
  refine (point_of i _ _ _ _ _ _ _ (P.h0 (512 * (i 1).val)) (P.h1 (512 * (i 1).val)) (P.h0 (512 * (i 1).val + 256)) (P.h1 (512 * (i 1).val + 256))
    _ _ _ _ ?_ ?_ ?_ ?_ t0 t1 x0 x1).trans ?_
  · rw [← a0]; exact congrArg₃' head0 (u _ _) (u _ _) (u _ _)
  · rw [← a1]; exact congrArg₃' head1 (u _ _) (u _ _) (u _ _)
  · rw [← b0]; exact congrArg₃' head0 (w _ _) (w _ _) (w _ _)
  · rw [← b1]; exact congrArg₃' head1 (w _ _) (w _ _) (w _ _)
  rw [j0, j1, halves]
  rfl

end Cert.Attention

end
-- ==== Proof.Attention.Model.lean ====
/-
  Stick breaking, backward, over the reals: the three gradients of four heads of 64 columns each, and what two heads that
  walk together have to do with them. Columns are numbered through; column `c` is of head `c / 64`.
-/
module

public import proofs.«01_k».proof.Proof.Attention.Heads

@[expose] public section

noncomputable section

namespace Cert.Attention

open Finset

variable (q k v d : ℕ → ℕ → ℝ)

/-- The scores of head `h`. -/
def zOf (h r s : ℕ) : ℝ := (∑ e ∈ range 64, q r (64 * h + e) * k s (64 * h + e)) * (1 / 8)
/-- The gradients that reach the shares of head `h`. -/
def wOf (h r s : ℕ) : ℝ := ∑ e ∈ range 64, d r (64 * h + e) * v s (64 * h + e)
/-- The gradients of the scores of head `h`. -/
def dzOf (h r s : ℕ) : ℝ := dScoreOf (zOf q k h) (wOf v d h) r s
/-- The shares of head `h`. -/
def shOf (h r s : ℕ) : ℝ := shareOf (zOf q k h) r s

/-- The attention's output. -/
def yAt (r c : ℕ) : ℝ := ∑ s ∈ range 16384, shOf q k (c / 64) r s * v s c
/-- The gradient of the queries. -/
def dqAt (r c : ℕ) : ℝ := ∑ s ∈ range 16384, dzOf q k v d (c / 64) r s * (1 / 8) * k s c
/-- The gradient of the keys. -/
def dkAt (s c : ℕ) : ℝ := ∑ r ∈ range 16384, dzOf q k v d (c / 64) r s * (1 / 8) * q r c
/-- The gradient of the values. -/
def dvAt (s c : ℕ) : ℝ := ∑ r ∈ range 16384, d r c * shOf q k (c / 64) r s

/-- The columns of pair `p`. -/
def lanesOf (x : ℕ → ℕ → ℝ) (p : ℕ) (r : ℕ) (l : Fin 128) : ℝ := x r (128 * p + l.val)

theorem sum_low (f : ℕ → ℝ) : (∑ l : Fin 128, if l.val < 64 then f l.val else 0) = ∑ e ∈ range 64, f e := by
  rw [Fin.sum_univ_eq_sum_range (fun l => if l < 64 then f l else 0) 128, ← sum_filter]
  exact sum_congr (by ext e; simp; omega) fun _ _ => rfl

theorem sum_high (f : ℕ → ℝ) : (∑ l : Fin 128, if l.val < 64 then 0 else f l.val) = ∑ e ∈ range 64, f (64 + e) := by
  rw [Fin.sum_univ_eq_sum_range (fun l => if l < 64 then 0 else f l) 128, show (128 : ℕ) = 64 + 64 from rfl, sum_range_add,
    sum_eq_zero fun l hl => if_pos (mem_range.mp hl), zero_add]
  exact sum_congr rfl fun e _ => if_neg (by omega)

theorem dot_low (x y : ℕ → ℕ → ℝ) (p r s : ℕ) (a : ℝ) :
    rowsDot (low fun r l => lanesOf x p r l * a) (lanesOf y p) r s = (∑ e ∈ range 64, x r (64 * (2 * p) + e) * y s (64 * (2 * p) + e)) * a := by
  unfold rowsDot low lanesOf
  refine (sum_congr rfl fun l _ => ite_mul _ _ _ _).trans ?_
  simp only [zero_mul]
  refine (sum_low fun l => x r (128 * p + l) * a * y s (128 * p + l)).trans ?_
  rw [sum_mul]
  refine sum_congr rfl fun e _ => ?_
  rw [show 128 * p = 64 * (2 * p) by ring]
  ring

theorem dot_high (x y : ℕ → ℕ → ℝ) (p r s : ℕ) (a : ℝ) :
    rowsDot (high fun r l => lanesOf x p r l * a) (lanesOf y p) r s = (∑ e ∈ range 64, x r (64 * (2 * p + 1) + e) * y s (64 * (2 * p + 1) + e)) * a := by
  unfold rowsDot high lanesOf
  refine (sum_congr rfl fun l _ => ite_mul _ _ _ _).trans ?_
  simp only [zero_mul]
  refine (sum_high fun l => x r (128 * p + l) * a * y s (128 * p + l)).trans ?_
  rw [sum_mul]
  refine sum_congr rfl fun e _ => ?_
  rw [show 128 * p + (64 + e) = 64 * (2 * p + 1) + e by ring]
  ring

theorem z_low (p : ℕ) : rowsDot (low fun r l => lanesOf q p r l * (1 / 8)) (lanesOf k p) = zOf q k (2 * p) :=
  funext fun r => funext fun s => dot_low q k p r s (1 / 8)
theorem z_high (p : ℕ) : rowsDot (high fun r l => lanesOf q p r l * (1 / 8)) (lanesOf k p) = zOf q k (2 * p + 1) :=
  funext fun r => funext fun s => dot_high q k p r s (1 / 8)
theorem w_low (p : ℕ) : rowsDot (low (lanesOf d p)) (lanesOf v p) = wOf v d (2 * p) :=
  funext fun r => funext fun s => by have := dot_low d v p r s 1; simp only [mul_one] at this; exact this
theorem w_high (p : ℕ) : rowsDot (high (lanesOf d p)) (lanesOf v p) = wOf v d (2 * p + 1) :=
  funext fun r => funext fun s => by have := dot_high d v p r s 1; simp only [mul_one] at this; exact this

theorem head_low (p : ℕ) {e : ℕ} (he : e < 64) : (128 * p + e) / 64 = 2 * p := by omega
theorem head_high (p : ℕ) {e : ℕ} (he : e < 64) : (128 * p + (64 + e)) / 64 = 2 * p + 1 := by omega

/-- The gradient times the output, summed over a head's lanes, is the sum of that head's weighted gradients. -/
theorem total_of (h r : ℕ) : (∑ e ∈ range 64, d r (64 * h + e) * yAt q k v r (64 * h + e)) = total (zOf q k h) (wOf v d h) r := by
  unfold total wtd yAt wOf
  simp only [mul_sum]
  rw [sum_comm]
  refine sum_congr rfl fun s _ => sum_congr rfl fun e he => ?_
  rw [show (64 * h + e) / 64 = h by have := mem_range.mp he; omega]
  unfold shOf
  ring

theorem total_low (p r : ℕ) : (∑ l : Fin 128, if l.val < 64 then lanesOf d p r l * lanesOf (yAt q k v) p r l else 0)
    = total (rowsDot (low fun r l => lanesOf q p r l * (1 / 8)) (lanesOf k p)) (rowsDot (low (lanesOf d p)) (lanesOf v p)) r := by
  rw [z_low, w_low, ← total_of]
  refine (sum_low fun l => d r (128 * p + l) * yAt q k v r (128 * p + l)).trans (sum_congr rfl fun e _ => ?_)
  rw [show 128 * p = 64 * (2 * p) by ring]

theorem total_high (p r : ℕ) : (∑ l : Fin 128, if l.val < 64 then 0 else lanesOf d p r l * lanesOf (yAt q k v) p r l)
    = total (rowsDot (high fun r l => lanesOf q p r l * (1 / 8)) (lanesOf k p)) (rowsDot (high (lanesOf d p)) (lanesOf v p)) r := by
  rw [z_high, w_high, ← total_of]
  refine (sum_high fun l => d r (128 * p + l) * yAt q k v r (128 * p + l)).trans (sum_congr rfl fun e _ => ?_)
  rw [show 128 * p + (64 + e) = 64 * (2 * p + 1) + e by ring]

/-- Pair `p`. -/
def pairAt (p : ℕ) : Pair := pairOf (lanesOf q p) (lanesOf d p) (lanesOf k p) (lanesOf v p)

theorem ds0_pair (p : ℕ) : (pairAt q k v d p).ds0 = dzOf q k v d (2 * p) := by
  funext r s
  show dScoreOf (rowsDot (low fun r l => lanesOf q p r l * (1 / 8)) (lanesOf k p)) (rowsDot (low (lanesOf d p)) (lanesOf v p)) r s = _
  rw [z_low, w_low]; rfl
theorem ds1_pair (p : ℕ) : (pairAt q k v d p).ds1 = dzOf q k v d (2 * p + 1) := by
  funext r s
  show dScoreOf (rowsDot (high fun r l => lanesOf q p r l * (1 / 8)) (lanesOf k p)) (rowsDot (high (lanesOf d p)) (lanesOf v p)) r s = _
  rw [z_high, w_high]; rfl
theorem sh0_pair (p : ℕ) : (pairAt q k v d p).sh0 = shOf q k (2 * p) := by
  funext r s
  show shareOf (rowsDot (low fun r l => lanesOf q p r l * (1 / 8)) (lanesOf k p)) r s = _
  rw [z_low]; rfl
theorem sh1_pair (p : ℕ) : (pairAt q k v d p).sh1 = shOf q k (2 * p + 1) := by
  funext r s
  show shareOf (rowsDot (high fun r l => lanesOf q p r l * (1 / 8)) (lanesOf k p)) r s = _
  rw [z_high]; rfl

theorem dq_pair (p r : ℕ) (l : Fin 128) : dqOf (pairAt q k v d p) r l = dqAt q k v d r (128 * p + l.val) := by
  have hl := l.isLt
  unfold dqOf dqAt
  rw [ds0_pair, ds1_pair, ← range_eq_Ico]
  show (if l.val < 64 then ∑ s ∈ range 16384, dzOf q k v d (2 * p) r s * k s (128 * p + l.val)
    else ∑ s ∈ range 16384, dzOf q k v d (2 * p + 1) r s * k s (128 * p + l.val)) * (1 / 8) = _
  by_cases h : l.val < 64
  · rw [if_pos h, sum_mul, show (128 * p + l.val) / 64 = 2 * p by omega]
    exact sum_congr rfl fun s _ => by ring
  · rw [if_neg h, sum_mul, show (128 * p + l.val) / 64 = 2 * p + 1 by omega]
    exact sum_congr rfl fun s _ => by ring

/-- A sum over all queries, block by block and half by half. -/
theorem sum_halves (f : ℕ → ℝ) (n : ℕ) :
    ∑ u ∈ range n, ((∑ a : Fin 256, f (512 * u + a)) + ∑ a : Fin 256, f (512 * u + 256 + a)) = ∑ r ∈ range (512 * n), f r := by
  induction n with
  | zero => simp
  | succ n ih =>
    rw [sum_range_succ, ih, sum_tile, sum_tile, sum_Ico_consecutive f (by omega) (by omega), range_eq_Ico,
      sum_Ico_consecutive f (by omega) (by omega), range_eq_Ico, show 512 * (n + 1) = 512 * n + 256 + 256 by ring]

theorem kPart_pair (p ro s : ℕ) (l : Fin 128) : (pairAt q k v d p).kPart ro s l
    = ∑ a : Fin 256, dzOf q k v d ((128 * p + l.val) / 64) (ro + a) s * (1 / 8) * q (ro + a) (128 * p + l.val) := by
  have hl := l.isLt
  unfold Pair.kPart
  rw [ds0_pair, ds1_pair]
  show (∑ a : Fin 256, dzOf q k v d (2 * p) (ro + a) s * (if l.val < 64 then q (ro + a) (128 * p + l.val) * (1 / 8) else 0))
    + (∑ a : Fin 256, dzOf q k v d (2 * p + 1) (ro + a) s * (if l.val < 64 then 0 else q (ro + a) (128 * p + l.val) * (1 / 8))) = _
  by_cases h : l.val < 64
  · simp only [if_pos h, mul_zero, sum_const_zero, add_zero]
    rw [show (128 * p + l.val) / 64 = 2 * p by omega]
    exact sum_congr rfl fun a _ => by ring
  · simp only [if_neg h, mul_zero, sum_const_zero, zero_add]
    rw [show (128 * p + l.val) / 64 = 2 * p + 1 by omega]
    exact sum_congr rfl fun a _ => by ring

theorem vPart_pair (p ro s : ℕ) (l : Fin 128) : (pairAt q k v d p).vPart ro s l
    = ∑ a : Fin 256, d (ro + a) (128 * p + l.val) * shOf q k ((128 * p + l.val) / 64) (ro + a) s := by
  have hl := l.isLt
  unfold Pair.vPart
  rw [sh0_pair, sh1_pair]
  show (∑ a : Fin 256, shOf q k (2 * p) (ro + a) s * (if l.val < 64 then d (ro + a) (128 * p + l.val) else 0))
    + (∑ a : Fin 256, shOf q k (2 * p + 1) (ro + a) s * (if l.val < 64 then 0 else d (ro + a) (128 * p + l.val))) = _
  by_cases h : l.val < 64
  · simp only [if_pos h, mul_zero, sum_const_zero, add_zero]
    rw [show (128 * p + l.val) / 64 = 2 * p by omega]
    exact sum_congr rfl fun a _ => by ring
  · simp only [if_neg h, mul_zero, sum_const_zero, zero_add]
    rw [show (128 * p + l.val) / 64 = 2 * p + 1 by omega]
    exact sum_congr rfl fun a _ => by ring

/-- What the first `n` blocks of queries add. -/
def kUpTo (p n s : ℕ) (l : Fin 128) : ℝ := ∑ u ∈ range n, ((pairAt q k v d p).kPart (512 * u) s l + (pairAt q k v d p).kPart (512 * u + 256) s l)
def vUpTo (p n s : ℕ) (l : Fin 128) : ℝ := ∑ u ∈ range n, ((pairAt q k v d p).vPart (512 * u) s l + (pairAt q k v d p).vPart (512 * u + 256) s l)

theorem kUpTo_all (p s : ℕ) (l : Fin 128) : kUpTo q k v d p 32 s l = dkAt q k v d s (128 * p + l.val) := by
  unfold kUpTo dkAt
  simp only [kPart_pair]
  exact sum_halves (fun r => dzOf q k v d ((128 * p + l.val) / 64) r s * (1 / 8) * q r (128 * p + l.val)) 32

theorem vUpTo_all (p s : ℕ) (l : Fin 128) : vUpTo q k v d p 32 s l = dvAt q k d s (128 * p + l.val) := by
  unfold vUpTo dvAt
  simp only [vPart_pair]
  exact sum_halves (fun r => d r (128 * p + l.val) * shOf q k ((128 * p + l.val) / 64) r s) 32

end Cert.Attention

end
-- ==== Proof.Attention.Arrays.lean ====
/-
  Stick breaking, backward: what the arrays hold. Where the arguments hold real numbers, the blocks of a grid point do, and
  the points leave the gradients of the real numbers.
-/
module

public import proofs.«01_k».proof.Proof.Attention.Model
public import proofs.«01_k».proof.Proof.StickBreaking.Frame
public import Idealize.ShloMosaic.Lib.Pipeline.ValueKit

@[expose] public section

set_option maxRecDepth 16384

noncomputable section

namespace Cert.Attention

open Finset
open Idealize.ShloMosaic Idealize.ShloMosaic.TcCoe Idealize.SL.Sem Cert.Kernel2Ideal Cert.Kernel2Ideal.Gen Cert.Kernel2Ideal.Sb
open Idealize.ShloMosaic.Pipeline (Dat)

variable (m : (ℓ : Loc nD τ sig) → Buf (Elt Ideal) ℓ)

/-- The arrays that the kernel reads hold these numbers. -/
structure Holds (c : Dev nD) (q k v d : ℕ → ℕ → ℝ) : Prop where
  hq : ∀ (i : S16384x6144.Idx) (e : ℕ), (i 1).val = 768 + e → e < 256 → (m ((c : Thread nD τ).loc main_arg0) : FVec Ideal S16384x6144 .bf16) i = ((q (i 0).val e : ℝ) : EReal)
  hk : ∀ (i : S16384x6144.Idx) (e : ℕ), (i 1).val = 1024 + e → e < 256 → (m ((c : Thread nD τ).loc main_arg0) : FVec Ideal S16384x6144 .bf16) i = ((k (i 0).val e : ℝ) : EReal)
  hv : ∀ (i : S16384x6144.Idx) (e : ℕ), (i 1).val = 1280 + e → e < 256 → (m ((c : Thread nD τ).loc main_arg0) : FVec Ideal S16384x6144 .bf16) i = ((v (i 0).val e : ℝ) : EReal)
  hd : ∀ (i : S16384x256.Idx), (m ((c : Thread nD τ).loc main_arg1) : FVec Ideal S16384x256 .bf16) i = ((d (i 0).val (i 1).val : ℝ) : EReal)
  hy : ∀ (i : S16384x256.Idx), (V m c main_v54 : FVec Ideal S16384x256 .f32) i = ((yAt q k v (i 0).val (i 1).val : ℝ) : EReal)

/-- Where the windows' blocks lie at point `t`. -/
theorem idx_val : ∀ t : Fin (cfg0 (F := Ideal)).N, win0_0.index t = ![t.val % 32, 6 + t.val / 32] ∧ win0_1.index t = ![0, 8 + t.val / 32]
    ∧ win0_2.index t = ![0, 10 + t.val / 32] ∧ win0_3.index t = ![t.val % 32, t.val / 32] ∧ win0_4.index t = ![t.val % 32, t.val / 32]
    ∧ win0_5.index t = ![t.val % 32, t.val / 32] ∧ win0_6.index t = ![0, t.val / 32] ∧ win0_7.index t = ![0, t.val / 32] :=
  (by decide +kernel : ∀ t : Fin grid0.N, _)

variable {m} {c : Dev nD} {q k v d : ℕ → ℕ → ℝ} (h : Holds m c q k v d)

include h

theorem block_q (t : Fin (cfg0 (F := Ideal)).N) :
    iblk m c 0 t = liftRows (n := 512) (φ := .bf16) fun a l => lanesOf q (t.val / 32) (512 * (t.val % 32) + a) l := by
  have ht : t.val < 64 := lt_of_lt_of_eq t.isLt (show (cfg0 (F := Ideal)).N = 64 from N_0)
  funext y
  have h1 : (y 1).val < 128 := (y 1).isLt
  refine (congrFun (V_main_arg0 m c) _).trans ((h.hq _ (128 * (t.val / 32) + (y 1).val) ?_ (by omega)).trans ?_)
  · blk_simp [idx_val t]; try omega
  · refine congrArg (fun r => ((q r (128 * (t.val / 32) + (y 1).val) : ℝ) : EReal)) ?_
    blk_simp [idx_val t]; try omega

theorem block_k (t : Fin (cfg0 (F := Ideal)).N) :
    iblk m c 1 t = liftRows (n := 16384) (φ := .bf16) (lanesOf k (t.val / 32)) := by
  have ht : t.val < 64 := lt_of_lt_of_eq t.isLt (show (cfg0 (F := Ideal)).N = 64 from N_0)
  funext y
  have h1 : (y 1).val < 128 := (y 1).isLt
  refine (congrFun (V_main_arg0 m c) _).trans ((h.hk _ (128 * (t.val / 32) + (y 1).val) ?_ (by omega)).trans ?_)
  · blk_simp [idx_val t]; try omega
  · refine congrArg (fun r => ((k r (128 * (t.val / 32) + (y 1).val) : ℝ) : EReal)) ?_
    blk_simp [idx_val t]; try omega

theorem block_v (t : Fin (cfg0 (F := Ideal)).N) :
    iblk m c 2 t = liftRows (n := 16384) (φ := .bf16) (lanesOf v (t.val / 32)) := by
  have ht : t.val < 64 := lt_of_lt_of_eq t.isLt (show (cfg0 (F := Ideal)).N = 64 from N_0)
  funext y
  have h1 : (y 1).val < 128 := (y 1).isLt
  refine (congrFun (V_main_arg0 m c) _).trans ((h.hv _ (128 * (t.val / 32) + (y 1).val) ?_ (by omega)).trans ?_)
  · blk_simp [idx_val t]; try omega
  · refine congrArg (fun r => ((v r (128 * (t.val / 32) + (y 1).val) : ℝ) : EReal)) ?_
    blk_simp [idx_val t]; try omega

theorem block_d (t : Fin (cfg0 (F := Ideal)).N) :
    iblk m c 3 t = liftRows (n := 512) (φ := .bf16) fun a l => lanesOf (d) (t.val / 32) (512 * (t.val % 32) + a) l := by
  have ht : t.val < 64 := lt_of_lt_of_eq t.isLt (show (cfg0 (F := Ideal)).N = 64 from N_0)
  funext y
  have h1 : (y 1).val < 128 := (y 1).isLt
  refine (congrFun (V_main_arg1 m c) _).trans ((h.hd _).trans ?_)
  refine congrArg₂ (fun r e => ((d r e : ℝ) : EReal)) ?_ ?_
  · blk_simp [idx_val t]; try omega
  · blk_simp [idx_val t]; try omega

theorem block_y (t : Fin (cfg0 (F := Ideal)).N) :
    iblk m c 4 t = liftRows (n := 512) (φ := .f32) fun a l => lanesOf (yAt q k v) (t.val / 32) (512 * (t.val % 32) + a) l := by
  have ht : t.val < 64 := lt_of_lt_of_eq t.isLt (show (cfg0 (F := Ideal)).N = 64 from N_0)
  funext y
  have h1 : (y 1).val < 128 := (y 1).isLt
  refine (h.hy _).trans ?_
  refine congrArg₂ (fun r e => (((yAt q k v) r e : ℝ) : EReal)) ?_ ?_
  · blk_simp [idx_val t]; try omega
  · blk_simp [idx_val t]; try omega

omit h in
theorem pay16 : k0_pay16 (F := Ideal) = liftRows fun _ _ => 0 := by
  funext y
  exact zero_bits

/-- What a point leaves over what it finds. -/
theorem step_lift (t : Fin (cfg0 (F := Ideal)).N) (f g : ℕ → Fin 128 → ℝ) (x y : FVec Ideal S16384x128 .f32)
    (hx : base (grid0.coords t) x = liftRows f) (hy : base (grid0.coords t) y = liftRows g) :
    step m c t x y = ⟨liftRows fun a l => dqAt q k v d (512 * (t.val % 32) + a) (128 * (t.val / 32) + l.val),
      liftRows fun s l => f s l + (pairAt q k v d (t.val / 32)).kPart (512 * (t.val % 32)) s l + (pairAt q k v d (t.val / 32)).kPart (512 * (t.val % 32) + 256) s l,
      liftRows fun s l => g s l + (pairAt q k v d (t.val / 32)).vPart (512 * (t.val % 32)) s l + (pairAt q k v d (t.val / 32)).vPart (512 * (t.val % 32) + 256) s l⟩ := by
  unfold step
  rw [hx, hy, block_q h t, block_k h t, block_v h t, block_d h t, block_y h t]
  have e := point_lift (grid0.coords t) (lanesOf q (t.val / 32)) (lanesOf d (t.val / 32)) (lanesOf k (t.val / 32)) (lanesOf v (t.val / 32))
    (lanesOf (yAt q k v) (t.val / 32)) f g (fun r _ => total_low q k v d (t.val / 32) r) (fun r _ => total_high q k v d (t.val / 32) r)
  rw [coord1] at e
  refine e.trans ?_
  simp only [← dq_pair]
  rfl

omit h in
/-- A pair's first point starts from zero. -/
theorem base_zero (t : Fin (cfg0 (F := Ideal)).N) (h0 : t.val % 32 = 0) (x : FVec Ideal S16384x128 .f32) :
    base (grid0.coords t) x = liftRows fun _ _ => 0 := by
  unfold base; rw [if_pos ((coord1 t).trans h0), pay16]

theorem first (n : ℕ) (hn : n < (cfg0 (F := Ideal)).N) (h0 : n % 32 = 0) (x y : FVec Ideal S16384x128 .f32) : step m c ⟨n, hn⟩ x y
    = ⟨liftRows fun a l => dqAt q k v d (512 * (n % 32) + a) (128 * (n / 32) + l.val),
      liftRows (kUpTo q k v d (n / 32) (n % 32 + 1)), liftRows (vUpTo q k v d (n / 32) (n % 32 + 1))⟩ := by
  refine (step_lift h ⟨n, hn⟩ (fun _ _ => 0) (fun _ _ => 0) x y (base_zero _ h0 _) (base_zero _ h0 _)).trans ?_
  have ek : kUpTo q k v d (n / 32) (0 + 1) = fun s l => 0 + (pairAt q k v d (n / 32)).kPart (512 * 0) s l + (pairAt q k v d (n / 32)).kPart (512 * 0 + 256) s l := by
    funext s l; unfold kUpTo; rw [sum_range_succ, sum_range_zero, add_assoc]
  have ev : vUpTo q k v d (n / 32) (0 + 1) = fun s l => 0 + (pairAt q k v d (n / 32)).vPart (512 * 0) s l + (pairAt q k v d (n / 32)).vPart (512 * 0 + 256) s l := by
    funext s l; unfold vUpTo; rw [sum_range_succ, sum_range_zero, add_assoc]
  dsimp only
  rw [h0, ek, ev]

/-- What the points of a pair leave, up to point `n`. -/
theorem left (n : ℕ) (hn : n < (cfg0 (F := Ideal)).N) : leftAt m c n hn
    = ⟨liftRows fun a l => dqAt q k v d (512 * (n % 32) + a) (128 * (n / 32) + l.val),
      liftRows (kUpTo q k v d (n / 32) (n % 32 + 1)), liftRows (vUpTo q k v d (n / 32) (n % 32 + 1))⟩ := by
  induction n with
  | zero => exact first h 0 hn rfl _ _
  | succ n ih =>
    by_cases h0 : (n + 1) % 32 = 0
    · exact first h (n + 1) hn h0 _ _
    · have e0 : (n + 1) / 32 = n / 32 := by omega
      have e1 : (n + 1) % 32 = n % 32 + 1 := by omega
      have ih' := ih (Nat.lt_of_succ_lt hn)
      refine (step_lift h ⟨n + 1, hn⟩ (kUpTo q k v d (n / 32) (n % 32 + 1)) (vUpTo q k v d (n / 32) (n % 32 + 1)) _ _ ?_ ?_).trans ?_
      · unfold base; rw [if_neg (fun hh => h0 ((coord1 _).symm.trans hh)), ih']
      · unfold base; rw [if_neg (fun hh => h0 ((coord1 _).symm.trans hh)), ih']
      · have ek : kUpTo q k v d (n / 32) (n % 32 + 1 + 1) = fun s l => kUpTo q k v d (n / 32) (n % 32 + 1) s l + (pairAt q k v d (n / 32)).kPart (512 * (n % 32 + 1)) s l + (pairAt q k v d (n / 32)).kPart (512 * (n % 32 + 1) + 256) s l := by
          funext s l; unfold kUpTo; rw [sum_range_succ _ (n % 32 + 1), add_assoc]
        have ev : vUpTo q k v d (n / 32) (n % 32 + 1 + 1) = fun s l => vUpTo q k v d (n / 32) (n % 32 + 1) s l + (pairAt q k v d (n / 32)).vPart (512 * (n % 32 + 1)) s l + (pairAt q k v d (n / 32)).vPart (512 * (n % 32 + 1) + 256) s l := by
          funext s l; unfold vUpTo; rw [sum_range_succ _ (n % 32 + 1), add_assoc]
        dsimp only
        rw [e0, e1, ek, ev]

/-- The query gradient's array after the run. -/
theorem final_q : (dats m 0 c).arrAt 5 (cfg0 (F := Ideal)).N = fun j : S16384x256.Idx => ((dqAt q k v d (j 0).val (j 1).val : ℝ) : EReal) := by
  refine (dats m 0 c).arrAt_eq_of_covers 5 _ (by decide +kernel) fun t _ y => ?_
  rw [after_5, left h]
  refine congrArg₂ (fun r e => ((dqAt q k v d r e : ℝ) : EReal)) ?_ ?_
  · blk_simp [idx_val t]
    show 512 * (t.val % 32) + (y 0).val = t.val % 32 * 512 + (y 0).val
    omega
  · blk_simp [idx_val t]
    show 128 * (t.val / 32) + (y 1).val = t.val / 32 * 128 + (y 1).val
    omega

/-- The key gradient's. -/
theorem final_k : (dats m 0 c).arrAt 6 (cfg0 (F := Ideal)).N = fun j : S16384x256.Idx => ((dkAt q k v d (j 0).val (j 1).val : ℝ) : EReal) := by
  refine (dats m 0 c).arrAt_eq_of_covers 6 _ (by decide +kernel) fun t hf y => ?_
  have hl := (flush0_6 t).mp hf
  rw [after_6, left h, hl]
  refine (congrArg (fun x : ℝ => (x : EReal)) (kUpTo_all q k v d (t.val / 32) (y 0).val (y 1))).trans ?_
  refine congrArg₂ (fun r e => ((dkAt q k v d r e : ℝ) : EReal)) ?_ ?_
  · blk_simp [idx_val t]
  · blk_simp [idx_val t]
    show 128 * (t.val / 32) + (y 1).val = t.val / 32 * 128 + (y 1).val
    omega

/-- The value gradient's. -/
theorem final_v : (dats m 0 c).arrAt 7 (cfg0 (F := Ideal)).N = fun j : S16384x256.Idx => ((dvAt q k d (j 0).val (j 1).val : ℝ) : EReal) := by
  refine (dats m 0 c).arrAt_eq_of_covers 7 _ (by decide +kernel) fun t hf y => ?_
  have hl := (flush0_7 t).mp hf
  rw [after_7, left h, hl]
  refine (congrArg (fun x : ℝ => (x : EReal)) (vUpTo_all q k v d (t.val / 32) (y 0).val (y 1))).trans ?_
  refine congrArg₂ (fun r e => ((dvAt q k d r e : ℝ) : EReal)) ?_ ?_
  · blk_simp [idx_val t]
  · blk_simp [idx_val t]
    show 128 * (t.val / 32) + (y 1).val = t.val / 32 * 128 + (y 1).val
    omega

end Cert.Attention

end
-- ==== Proof.Attention.Saved.lean ====
/-
  Stick breaking, backward: the attention's output as the host lines before the kernel compute it.
-/
module

public import proofs.«01_k».proof.Proof.Attention.Arrays

@[expose] public section

set_option maxRecDepth 16384

noncomputable section

namespace Cert.Attention

open Finset
open Idealize.ShloMosaic Idealize.ShloMosaic.TcCoe Cert.Kernel2Ideal Cert.Kernel2Ideal.Gen Cert.Kernel2Ideal.Sb

/-- Real numbers as an array of three axes. -/
def lift3 {a b c : ℕ} {φ : FTy} (f : ℕ → ℕ → ℕ → ℝ) : FVec Ideal ⟨3, ![a, b, c]⟩ φ := fun i => ((f (i 0).val (i 1).val (i 2).val : ℝ) : EReal)

/-- Four heads of 64 lanes. -/
def headsOf (off : Fin 2 → ℕ) (hs : S16384x6144.Slices off S16384x256) (P : FVec Ideal S16384x6144 .bf16) : FVec Ideal S4x16384x64 .f32 :=
  transpose S4x16384x64 [1, 0, 2] (shapeCast _ (extractStridedSlice S16384x256 off (extf .f32 P bitsLt_bf16_f32) hs) shapeCasts_S16384x256_S16384x4x64)
    transposes_S16384x4x64_S4x16384x64_1_0_2

theorem headsOf_q (P : FVec Ideal S16384x6144 .bf16) (q : ℕ → ℕ → ℝ)
    (hq : ∀ (i : S16384x6144.Idx) (e : ℕ), (i 1).val = 768 + e → e < 256 → P i = ((q (i 0).val e : ℝ) : EReal)) :
    headsOf ![0, 768] slices_S16384x6144_S16384x256_0_768 P = lift3 fun h r d => q r (64 * h + d) := by
  funext j
  idx_vars j
  pointwise [headsOf, lift3]
  exact hq _ _ (by show 768 + (j0.val * 64 + j2.val) = _; omega) (by omega)

theorem headsOf_k (P : FVec Ideal S16384x6144 .bf16) (q : ℕ → ℕ → ℝ)
    (hq : ∀ (i : S16384x6144.Idx) (e : ℕ), (i 1).val = 1024 + e → e < 256 → P i = ((q (i 0).val e : ℝ) : EReal)) :
    headsOf ![0, 1024] slices_S16384x6144_S16384x256_0_1024 P = lift3 fun h r d => q r (64 * h + d) := by
  funext j
  idx_vars j
  pointwise [headsOf, lift3]
  exact hq _ _ (by show 1024 + (j0.val * 64 + j2.val) = _; omega) (by omega)

theorem headsOf_v (P : FVec Ideal S16384x6144 .bf16) (q : ℕ → ℕ → ℝ)
    (hq : ∀ (i : S16384x6144.Idx) (e : ℕ), (i 1).val = 1280 + e → e < 256 → P i = ((q (i 0).val e : ℝ) : EReal)) :
    headsOf ![0, 1280] slices_S16384x6144_S16384x256_0_1280 P = lift3 fun h r d => q r (64 * h + d) := by
  funext j
  idx_vars j
  pointwise [headsOf, lift3]
  exact hq _ _ (by show 1280 + (j0.val * 64 + j2.val) = _; omega) (by omega)

/-- A choice between two real numbers. -/
theorem choose (p : Prop) [Decidable p] (a b : ℝ) :
    Scalar.select (BitVec.ofBool (decide p)) (a : EReal) (b : EReal) = ((if p then a else b : ℝ) : EReal) := by
  by_cases h : p
  · rw [if_pos h, decide_eq_true h]; rfl
  · rw [if_neg h, decide_eq_false h]; rfl

/-- Scores: sums of products, scaled. -/
def scoresOf (a b : FVec Ideal S4x16384x64 .f32) : FVec Ideal S4x16384x16384 .f32 :=
  mulf (Host.reduceAdd (mulf (broadcastInDim S4x16384x16384x64 ![0, 1, 2, 3] bcast_S4x16384x1x64_S4x16384x16384x64_0_1_2_3 (broadcastInDim S4x16384x1x64 ![0, 1, 3] bcast_S4x16384x64_S4x16384x1x64_0_1_3 a))
      (broadcastInDim S4x16384x16384x64 ![0, 1, 2, 3] bcast_S4x1x16384x64_S4x16384x16384x64_0_1_2_3 (broadcastInDim S4x1x16384x64 ![0, 2, 3] bcast_S4x16384x64_S4x1x16384x64_0_2_3 b)))
      (constant S_ .f32 0x00000000#32) reducesTo_S4x16384x16384x64_S4x16384x16384_d3 h_S_)
    (broadcastInDim S4x16384x16384 ![] bcast_S_S4x16384x16384 (constant S_ .f32 0x3E000000#32))

theorem scoresOf_lift (q k : ℕ → ℕ → ℝ) :
    scoresOf (lift3 fun h r d => q r (64 * h + d)) (lift3 fun h r d => k r (64 * h + d)) = lift3 (zOf q k) := by
  funext j
  idx_vars j
  pointwise [scoresOf, lift3]
  rw [eighth, zOf, EReal.coe_mul, coe_sum]
  refine congrArg (· * ((1 / 8 : ℝ) : EReal)) ?_
  simp only [EReal.coe_mul]
  exact Fin.sum_univ_eq_sum_range (fun e => ((q j1.val (64 * j0.val + e) : ℝ) : EReal) * ((k j2.val (64 * j0.val + e) : ℝ) : EReal)) 64

/-- Key before query. -/
def before : IVec S16384x16384 1 :=
  cmpi .slt (broadcastInDim S16384x16384 ![0, 1] bcast_S1x16384_S16384x16384_0_1 (broadcastInDim S1x16384 ![1] bcast_S16384_S1x16384_1 (iotaInDim S16384 32 0)))
    (broadcastInDim S16384x16384 ![0, 1] bcast_S16384x1_S16384x16384_0_1 (broadcastInDim S16384x1 ![0] bcast_S16384_S16384x1_0 (iotaInDim S16384 32 0)))

theorem before_at (r s : Fin 16384) : before (ix2 r s) = BitVec.ofBool (decide (s.val < r.val)) := by
  pointwise [before]
  exact WordCmp.cmpi_slt_ofNat (w := 32) (by omega) (by omega)

def after : IVec S16384x16384 1 :=
  cmpi .sgt (broadcastInDim S16384x16384 ![0, 1] bcast_S1x16384_S16384x16384_0_1 (broadcastInDim S1x16384 ![1] bcast_S16384_S1x16384_1 (iotaInDim S16384 32 0)))
    (broadcastInDim S16384x16384 ![0, 1] bcast_S16384x1_S16384x16384_0_1 (broadcastInDim S16384x1 ![0] bcast_S16384_S16384x1_0 (iotaInDim S16384 32 0)))

theorem after_at (r s : Fin 16384) : after (ix2 r s) = BitVec.ofBool (decide (r.val < s.val)) := by
  pointwise [after]
  exact WordCmp.cmpi_sgt_ofNat (w := 32) (by omega) (by omega)

/-- Zero where the key is not before the query. -/
def keptOf (x : FVec Ideal S4x16384x16384 .f32) : FVec Ideal S4x16384x16384 .f32 :=
  select (broadcastInDim S4x16384x16384 ![1, 2] bcast_S16384x16384_S4x16384x16384_1_2 before) x
    (broadcastInDim S4x16384x16384 ![] bcast_S_S4x16384x16384 (id (constant S_ .f32 0x00000000#32)))

theorem keptOf_lift (f : ℕ → ℕ → ℕ → ℝ) : keptOf (lift3 f) = lift3 fun h r s => if s < r then f h r s else 0 := by
  funext j
  idx_vars j
  pointwise [keptOf, lift3]
  show Scalar.select (before (ix2 j1 j2)) ((f j0.val j1.val j2.val : ℝ) : EReal) (Ideal.ofBits FTy.f32 0x00000000#32)
    = ((if j2.val < j1.val then f j0.val j1.val j2.val else 0 : ℝ) : EReal)
  rw [before_at, zero_bits]
  exact choose _ _ _

/-- The log of what a key leaves. -/
def keepOf (z : FVec Ideal S4x16384x16384 .f32) : FVec Ideal S4x16384x16384 .f32 :=
  subf (minimumf (Host.negf z) (broadcastInDim S4x16384x16384 ![] bcast_S_S4x16384x16384 (constant S_ .f32 0x00000000#32)))
    (Host.log (addf (broadcastInDim S4x16384x16384 ![] bcast_S_S4x16384x16384 (constant S_ .f32 0x3F800000#32)) (Host.exp (Host.negf (Host.absf z)))))

theorem keepOf_lift (f : ℕ → ℕ → ℕ → ℝ) : keepOf (lift3 f) = lift3 fun h r s => keep (f h r s) := by
  funext j
  idx_vars j
  pointwise [keepOf, lift3]
  unfold keep
  generalize f j0.val j1.val j2.val = x
  have hp : 0 < 1 + Real.exp (-|x|) := by positivity
  rw [show (FloatOps.absf (F := Ideal) (φ := .f32) (x : EReal) : EReal) = ((|x| : ℝ) : EReal) from abs_coe x,
    ← EReal.coe_neg, ← EReal.coe_neg, Ideal.exp_coe, ← EReal.coe_one, ← EReal.coe_add, Ideal.log_coe, if_neg (not_le.mpr hp), EReal.coe_sub]
  congr 1

/-- Sums over the later keys. -/
def restOf (x : FVec Ideal S4x16384x16384 .f32) : FVec Ideal S4x16384x16384 .f32 :=
  Host.reduceAdd (select (broadcastInDim S4x16384x16384x16384 ![2, 3] bcast_S16384x16384_S4x16384x16384x16384_2_3 after)
      (broadcastInDim S4x16384x16384x16384 ![0, 1, 2, 3] bcast_S4x16384x1x16384_S4x16384x16384x16384_0_1_2_3 (broadcastInDim S4x16384x1x16384 ![0, 1, 3] bcast_S4x16384x16384_S4x16384x1x16384_0_1_3 x))
      (broadcastInDim S4x16384x16384x16384 ![] bcast_S_S4x16384x16384x16384 (id (constant S_ .f32 0x00000000#32))))
    (constant S_ .f32 0x00000000#32) reducesTo_S4x16384x16384x16384_S4x16384x16384_d3 h_S_

theorem restOf_lift (f : ℕ → ℕ → ℕ → ℝ) : restOf (lift3 f) = lift3 fun h r s => ∑ j ∈ Ico (s + 1) 16384, f h r j := by
  funext j
  idx_vars j
  pointwise [restOf, lift3]
  have e : ∀ x : Fin 16384, Scalar.select (after (ix2 j2 x)) ((f j0.val j1.val x.val : ℝ) : EReal) (Ideal.ofBits FTy.f32 0x00000000#32)
      = ((if j2.val < x.val then f j0.val j1.val x.val else 0 : ℝ) : EReal) := fun x => by
    rw [after_at, zero_bits]; exact choose _ _ _
  refine (sum_congr rfl fun x _ => e x).trans ?_
  rw [Fin.sum_univ_eq_sum_range (fun x => ((if j2.val < x then f j0.val j1.val x else 0 : ℝ) : EReal)) 16384, ← coe_sum, ← sum_filter]
  refine congrArg (fun x : ℝ => (x : EReal)) (sum_congr ?_ fun _ _ => rfl)
  ext x; simp; omega

/-- Shares from their logs. -/
def sharesOf (x : FVec Ideal S4x16384x16384 .f32) : FVec Ideal S4x16384x16384 .f32 :=
  Host.exp (select (broadcastInDim S4x16384x16384 ![1, 2] bcast_S16384x16384_S4x16384x16384_1_2 before) x
    (broadcastInDim S4x16384x16384 ![] bcast_S_S4x16384x16384 (id (constant S_ .f32 0xFF800000#32))))

theorem sharesOf_lift (f : ℕ → ℕ → ℕ → ℝ) : sharesOf (lift3 f) = lift3 fun h r s => if s < r then Real.exp (f h r s) else 0 := by
  funext j
  idx_vars j
  pointwise [sharesOf, lift3]
  show Ideal.exp (Scalar.select (before (ix2 j1 j2)) ((f j0.val j1.val j2.val : ℝ) : EReal) (Ideal.ofBits FTy.f32 0xFF800000#32))
    = ((if j2.val < j1.val then Real.exp (f j0.val j1.val j2.val) else 0 : ℝ) : EReal)
  rw [before_at, neg_inf]
  by_cases h : j2.val < j1.val
  · rw [if_pos h, decide_eq_true h]; exact Ideal.exp_coe _
  · rw [if_neg h, decide_eq_false h]
    exact Ideal.exp_bot.trans EReal.coe_zero.symm

/-- The values, weighted by the shares and summed. -/
def outOf (a : FVec Ideal S4x16384x16384 .f32) (v : FVec Ideal S4x16384x64 .f32) : FVec Ideal S16384x256 .f32 :=
  shapeCast _ (transpose S16384x4x64 [1, 0, 2] (Host.reduceAdd
      (mulf (broadcastInDim S4x16384x16384x64 ![0, 1, 2, 3] bcast_S4x16384x16384x1_S4x16384x16384x64_0_1_2_3 (broadcastInDim S4x16384x16384x1 ![0, 1, 2] bcast_S4x16384x16384_S4x16384x16384x1_0_1_2 a))
        (broadcastInDim S4x16384x16384x64 ![0, 1, 2, 3] bcast_S4x1x16384x64_S4x16384x16384x64_0_1_2_3 (broadcastInDim S4x1x16384x64 ![0, 2, 3] bcast_S4x16384x64_S4x1x16384x64_0_2_3 v)))
      (constant S_ .f32 0x00000000#32) reducesTo_S4x16384x16384x64_S4x16384x64_d2 h_S_) transposes_S4x16384x64_S16384x4x64_1_0_2) shapeCasts_S16384x4x64_S16384x256

theorem outOf_lift (a : ℕ → ℕ → ℕ → ℝ) (v : ℕ → ℕ → ℝ) (j : S16384x256.Idx) :
    outOf (lift3 a) (lift3 fun h r d => v r (64 * h + d)) j = ((∑ s ∈ range 16384, a ((j 1).val / 64) (j 0).val s * v s (j 1).val : ℝ) : EReal) := by
  idx_vars j
  pointwise [outOf, lift3]
  rw [coe_sum, ← Fin.sum_univ_eq_sum_range (fun s => ((a (j1.val / 64) j0.val s * v s j1.val : ℝ) : EReal)) 16384]
  refine sum_congr rfl fun s _ => ?_
  rw [EReal.coe_mul, Nat.div_add_mod]

variable (m : (ℓ : Loc nD τ sig) → Buf (Elt Ideal) ℓ)

set_option maxHeartbeats 16000000 in
/-- The array that the host lines leave, as these steps. -/
theorem saved (c : Dev nD) : V m c main_v54
    = outOf (sharesOf (addf (addf (scoresOf (headsOf ![0, 768] slices_S16384x6144_S16384x256_0_768 (m ((c : Thread nD τ).loc main_arg0))) (headsOf ![0, 1024] slices_S16384x6144_S16384x256_0_1024 (m ((c : Thread nD τ).loc main_arg0))))
          (keptOf (keepOf (scoresOf (headsOf ![0, 768] slices_S16384x6144_S16384x256_0_768 (m ((c : Thread nD τ).loc main_arg0))) (headsOf ![0, 1024] slices_S16384x6144_S16384x256_0_1024 (m ((c : Thread nD τ).loc main_arg0)))))))
        (restOf (keptOf (keepOf (scoresOf (headsOf ![0, 768] slices_S16384x6144_S16384x256_0_768 (m ((c : Thread nD τ).loc main_arg0))) (headsOf ![0, 1024] slices_S16384x6144_S16384x256_0_1024 (m ((c : Thread nD τ).loc main_arg0)))))))))
      (headsOf ![0, 1280] slices_S16384x6144_S16384x256_0_1280 (m ((c : Thread nD τ).loc main_arg0))) := by
  simp only [V, hostOps0, hostOps0_1, hostOps0_2, hostOps0_3, hostOps0_4, hostOps0_5, hostOps0_6, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl

/-- It is the attention's output. -/
theorem saved_real (c : Dev nD) (q k v : ℕ → ℕ → ℝ)
    (hq : ∀ (i : S16384x6144.Idx) (e : ℕ), (i 1).val = 768 + e → e < 256 → (m ((c : Thread nD τ).loc main_arg0) : FVec Ideal S16384x6144 .bf16) i = ((q (i 0).val e : ℝ) : EReal))
    (hk : ∀ (i : S16384x6144.Idx) (e : ℕ), (i 1).val = 1024 + e → e < 256 → (m ((c : Thread nD τ).loc main_arg0) : FVec Ideal S16384x6144 .bf16) i = ((k (i 0).val e : ℝ) : EReal))
    (hv : ∀ (i : S16384x6144.Idx) (e : ℕ), (i 1).val = 1280 + e → e < 256 → (m ((c : Thread nD τ).loc main_arg0) : FVec Ideal S16384x6144 .bf16) i = ((v (i 0).val e : ℝ) : EReal))
    (j : S16384x256.Idx) : (V m c main_v54 : FVec Ideal S16384x256 .f32) j = ((yAt q k v (j 0).val (j 1).val : ℝ) : EReal) := by
  refine (congrFun (saved m c) j).trans ?_
  rw [headsOf_q _ q hq, headsOf_k _ k hk, headsOf_v _ v hv, scoresOf_lift, keepOf_lift, keptOf_lift, restOf_lift]
  have e : (addf (addf (lift3 (zOf q k)) (lift3 fun h r s => if s < r then keep (zOf q k h r s) else 0))
      (lift3 fun h r s => ∑ j ∈ Ico (s + 1) 16384, if j < r then keep (zOf q k h r j) else 0) : FVec Ideal S4x16384x16384 .f32)
      = lift3 fun h r s => zOf q k h r s + leave (zOf q k h) r s + ∑ j ∈ Ico (s + 1) 16384, leave (zOf q k h) r j := by
    funext j
    exact ((congrArg (· + _) (EReal.coe_add _ _).symm).trans (EReal.coe_add _ _).symm)
  rw [e, sharesOf_lift]
  exact outOf_lift (fun h r s => shareOf (zOf q k h) r s) v j

end Cert.Attention

end
-- ==== Proof.Attention.Ref.lean ====
/-
  Stick breaking, backward: the reference. Its lines, step by step, on arrays of real numbers.
-/
module

public import proofs.«01_k».proof.Proof.Attention.Saved
public import proofs.«01_k».proof.Proof.Gen.Reference2Ideal.Run

@[expose] public section

set_option maxRecDepth 16384

noncomputable section

namespace Cert.Attention.Ref

open Finset
open Idealize.ShloMosaic Idealize.ShloMosaic.TcCoe Cert.Reference2Ideal Cert.Reference2Ideal.Gen

theorem sum_real (f g : ℕ → ℝ) (n : ℕ) : (∑ x : Fin n, ((f x : ℝ) : EReal) * ((g x : ℝ) : EReal)) = ((∑ x ∈ range n, f x * g x : ℝ) : EReal) := by
  rw [coe_sum, Fin.sum_univ_eq_sum_range (fun x => ((f x : ℝ) : EReal) * ((g x : ℝ) : EReal)) n]
  exact sum_congr rfl fun x _ => (EReal.coe_mul _ _).symm

/-- The gradient of the output, by heads. -/
def gradHeads (D : FVec Ideal S16384x256 .bf16) : FVec Ideal S4x16384x64 .f32 :=
  transpose S4x16384x64 [1, 0, 2] (shapeCast _ (extf .f32 D bitsLt_bf16_f32) shapeCasts_S16384x256_S16384x4x64) transposes_S16384x4x64_S4x16384x64_1_0_2

theorem gradHeads_lift (D : FVec Ideal S16384x256 .bf16) (d : ℕ → ℕ → ℝ) (hd : ∀ i : S16384x256.Idx, D i = ((d (i 0).val (i 1).val : ℝ) : EReal)) :
    gradHeads D = lift3 fun h r e => d r (64 * h + e) := by
  funext j
  idx_vars j
  pointwise [gradHeads, lift3]
  refine (hd _).trans ?_
  refine congrArg (fun e => ((d j1.val e : ℝ) : EReal)) ?_
  show j0.val * 64 + j2.val = _
  omega

/-- Eighths. -/
def eighths : FVec Ideal S4x16384x16384 .f32 := broadcastInDim S4x16384x16384 ![] bcast_S_S4x16384x16384 (constant S_ .f32 0x3E000000#32)
/-- Zeros. -/
def zeros : FVec Ideal S4x16384x16384 .f32 := broadcastInDim S4x16384x16384 ![] bcast_S_S4x16384x16384 (constant S_ .f32 0x00000000#32)
/-- Infinities. -/
def infs : FVec Ideal S4x16384x16384 .f32 := broadcastInDim S4x16384x16384 ![] bcast_S_S4x16384x16384 (constant S_ .f32 0x7F800000#32)

theorem eighths_at (j : S4x16384x16384.Idx) : eighths j = ((1 / 8 : ℝ) : EReal) := eighth
theorem zeros_at (j : S4x16384x16384.Idx) : zeros j = ((0 : ℝ) : EReal) := zero_bits
theorem infs_at (j : S4x16384x16384.Idx) : infs j = ⊤ := by
  show Ideal.ofBits .f32 0x7F800000#32 = ⊤
  simp [Ideal.ofBits, Ideal.ieee]

/-- The products of the rows of two heads. -/
def products (a b : FVec Ideal S4x16384x64 .f32) : FVec Ideal S4x16384x16384 .f32 :=
  Host.dotGeneral dot_S4x16384x64_S4x16384x64_S4x16384x16384_2_2_1_1_0_0 none a b

theorem products_lift (x y : ℕ → ℕ → ℝ) :
    products (lift3 fun h r e => x r (64 * h + e)) (lift3 fun h r e => y r (64 * h + e)) = lift3 (wOf y x) := by
  funext j
  idx_vars j
  pointwise [products, lift3]
  exact sum_real (fun e => x j1.val (64 * j0.val + e)) (fun e => y j2.val (64 * j0.val + e)) 64

theorem scores_lift (q k : ℕ → ℕ → ℝ) : (mulf (lift3 (wOf k q)) eighths : FVec Ideal S4x16384x16384 .f32) = lift3 (zOf q k) := by
  funext j
  show ((wOf k q _ _ _ : ℝ) : EReal) * eighths j = _
  rw [eighths_at]
  exact (EReal.coe_mul _ _).symm

/-- Softplus, as the reference writes it. -/
def softplus (x : FVec Ideal S4x16384x16384 .f32) : FVec Ideal S4x16384x16384 .f32 :=
  select (cmpf .une (subf x zeros) (subf x zeros)) (addf x zeros) (addf (maximumf x zeros) (Host.log1p (Host.exp (Host.negf (Host.absf (subf x zeros))))))

theorem softplus_real (x : ℝ) : max x 0 + Real.log (1 + Real.exp (-|x|)) = -keep x := by
  unfold keep
  rcases le_total x 0 with h | h
  · rw [max_eq_right h, min_eq_right (by linarith)]; ring
  · rw [max_eq_left h, min_eq_left (by linarith)]; ring

theorem softplus_lift (f : ℕ → ℕ → ℕ → ℝ) : softplus (lift3 f) = lift3 fun h r s => -keep (f h r s) := by
  funext j
  idx_vars j
  pointwise [softplus, lift3]
  have e : ((f j0.val j1.val j2.val : ℝ) : EReal) - zeros (ix3 j0 j1 j2) = ((f j0.val j1.val j2.val : ℝ) : EReal) := by
    rw [zeros_at, ← EReal.coe_sub, sub_zero]
  rw [if_neg (not_not.mpr rfl), e, zeros_at, ← softplus_real]
  generalize f j0.val j1.val j2.val = x
  have hp : 0 < 1 + Real.exp (-|x|) := by positivity
  have el : Ideal.log1p (Ideal.exp (-FloatOps.absf (F := Ideal) (φ := .f32) (x : EReal))) = ((Real.log (1 + Real.exp (-|x|)) : ℝ) : EReal) := by
    rw [show (FloatOps.absf (F := Ideal) (φ := .f32) (x : EReal) : EReal) = ((|x| : ℝ) : EReal) from abs_coe x, ← EReal.coe_neg, Ideal.exp_coe]
    show Ideal.log (1 + _) = _
    rw [← EReal.coe_one, ← EReal.coe_add, Ideal.log_coe, if_neg (not_le.mpr hp)]
  rw [EReal.coe_add]
  exact congrArg₂ (· + ·) (EReal.coe_strictMono.monotone.map_max).symm el

/-- The gradient of softplus, as the reference writes it. -/
def sigmoid (x : FVec Ideal S4x16384x16384 .f32) : FVec Ideal S4x16384x16384 .f32 :=
  Host.exp (subf (select (cmpf .oeq x infs) zeros x) (select (cmpf .oeq (softplus x) infs) zeros (softplus x)))

theorem finite_lift (f : ℕ → ℕ → ℕ → ℝ) : (select (cmpf .oeq (lift3 f) infs) zeros (lift3 f) : FVec Ideal S4x16384x16384 .f32) = lift3 f := by
  funext j
  idx_vars j
  pointwise [lift3]
  rw [infs_at]
  exact if_neg (EReal.coe_ne_top _)

theorem sigmoid_lift (f : ℕ → ℕ → ℕ → ℝ) : sigmoid (lift3 f) = lift3 fun h r s => Real.exp (f h r s + keep (f h r s)) := by
  unfold sigmoid
  rw [softplus_lift, finite_lift, finite_lift]
  funext j
  idx_vars j
  pointwise [lift3]
  rw [← EReal.coe_sub, Ideal.exp_coe, sub_neg_eq_add]

/-- One where the first index is after the second. -/
def strict : FVec Ideal S16384x16384 .f32 :=
  uitofp .f32 (cmpi .sgt (broadcastInDim S16384x16384 ![0, 1] bcast_S16384x1_S16384x16384_0_1 (broadcastInDim S16384x1 ![0] bcast_S16384_S16384x1_0 (iotaInDim S16384 32 0)))
    (broadcastInDim S16384x16384 ![0, 1] bcast_S1x16384_S16384x16384_0_1 (broadcastInDim S1x16384 ![1] bcast_S16384_S1x16384_1 (iotaInDim S16384 32 0))))

theorem strict_at (r s : Fin 16384) : strict (ix2 r s) = ((if s.val < r.val then 1 else 0 : ℝ) : EReal) := by
  pointwise [strict]
  rw [show IntOp.cmpi .sgt (BitVec.ofNat 32 r.val) (BitVec.ofNat 32 s.val) = BitVec.ofBool (decide (s.val < r.val)) from
    WordCmp.cmpi_sgt_ofNat (w := 32) (by omega) (by omega)]
  show ((((BitVec.ofBool (decide (s.val < r.val))).toNat : ℕ) : ℝ) : EReal) = _
  by_cases h : s.val < r.val <;> simp [h]

/-- Sums over the later keys. -/
def later (x : FVec Ideal S4x16384x16384 .f32) : FVec Ideal S4x16384x16384 .f32 :=
  Host.dotGeneral dot_S4x16384x16384_S16384x16384_S4x16384x16384_2_0_01_1_n_n none x strict

theorem later_lift (f : ℕ → ℕ → ℕ → ℝ) : later (lift3 f) = lift3 fun h r s => ∑ j ∈ Ico (s + 1) 16384, f h r j := by
  funext j
  idx_vars j
  pointwise [later, lift3]
  refine (sum_congr rfl fun x _ => congrArg (((f j0.val j1.val x.val : ℝ) : EReal) * ·) (strict_at x j2)).trans ?_
  refine (sum_real (fun x => f j0.val j1.val x) (fun x => if j2.val < x then 1 else 0) 16384).trans ?_
  simp only [mul_ite, mul_one, mul_zero]
  rw [← sum_filter]
  refine congrArg (fun x : ℝ => (x : EReal)) (sum_congr ?_ fun _ _ => rfl)
  ext x; simp; omega

/-- Sums over the earlier keys. -/
def earlier (x : FVec Ideal S4x16384x16384 .f32) : FVec Ideal S4x16384x16384 .f32 :=
  Host.dotGeneral dot_S4x16384x16384_S16384x16384_S4x16384x16384_2_1_01_0_n_n none x strict

theorem earlier_lift (f : ℕ → ℕ → ℕ → ℝ) : earlier (lift3 f) = lift3 fun h r s => ∑ j ∈ range s, f h r j := by
  funext j
  idx_vars j
  pointwise [earlier, lift3]
  refine (sum_congr rfl fun x _ => congrArg (((f j0.val j1.val x.val : ℝ) : EReal) * ·) (strict_at j2 x)).trans ?_
  refine (sum_real (fun x => f j0.val j1.val x) (fun x => if x < j2.val then 1 else 0) 16384).trans ?_
  simp only [mul_ite, mul_one, mul_zero]
  rw [← sum_filter]
  refine congrArg (fun x : ℝ => (x : EReal)) (sum_congr ?_ fun _ _ => rfl)
  ext x; simp; omega

/-- Heads side by side. -/
def joined (x : FVec Ideal S4x16384x64 .f32) : FVec Ideal S16384x256 .f32 :=
  shapeCast _ (transpose S16384x4x64 [1, 0, 2] x transposes_S4x16384x64_S16384x4x64_1_0_2) shapeCasts_S16384x4x64_S16384x256

theorem joined_lift (f : ℕ → ℕ → ℕ → ℝ) (j : S16384x256.Idx) : joined (lift3 f) j = ((f ((j 1).val / 64) (j 0).val ((j 1).val % 64) : ℝ) : EReal) := by
  idx_vars j
  pointwise [joined, lift3]

/-- The gradient of the values. -/
def valueGrad (d : FVec Ideal S4x16384x64 .f32) (a : FVec Ideal S4x16384x16384 .f32) : FVec Ideal S4x16384x64 .f32 :=
  transpose S4x16384x64 [0, 2, 1] (Host.dotGeneral dot_S4x16384x64_S4x16384x16384_S4x64x16384_1_1_2_2_0_0 none d (extf .f32 (truncf .bf16 a bitsLt_bf16_f32) bitsLt_bf16_f32))
    transposes_S4x64x16384_S4x16384x64_0_2_1

theorem valueGrad_lift (d : ℕ → ℕ → ℝ) (a : ℕ → ℕ → ℕ → ℝ) : valueGrad (lift3 fun h r e => d r (64 * h + e)) (lift3 a)
    = lift3 fun h s e => ∑ r ∈ range 16384, d r (64 * h + e) * a h r s := by
  funext j
  idx_vars j
  pointwise [valueGrad, lift3]
  exact sum_real (fun r => d r (64 * j0.val + j2.val)) (fun r => a j0.val r j1.val) 16384

/-- The gradient of the keys. -/
def keyGrad (z : FVec Ideal S4x16384x16384 .f32) (q : FVec Ideal S4x16384x64 .f32) : FVec Ideal S4x16384x64 .f32 :=
  Host.dotGeneral dot_S4x16384x16384_S4x16384x64_S4x16384x64_1_1_2_2_0_0 none z q

theorem keyGrad_lift (z : ℕ → ℕ → ℕ → ℝ) (q : ℕ → ℕ → ℝ) : keyGrad (lift3 z) (lift3 fun h r e => q r (64 * h + e))
    = lift3 fun h s e => ∑ r ∈ range 16384, z h r s * q r (64 * h + e) := by
  funext j
  idx_vars j
  pointwise [keyGrad, lift3]
  exact sum_real (fun r => z j0.val r j1.val) (fun r => q r (64 * j0.val + j2.val)) 16384

/-- The gradient of the queries. -/
def queryGrad (z : FVec Ideal S4x16384x16384 .f32) (k : FVec Ideal S4x16384x64 .f32) : FVec Ideal S4x16384x64 .f32 :=
  Host.dotGeneral dot_S4x16384x16384_S4x16384x64_S4x16384x64_2_1_1_2_0_0 none z k

theorem queryGrad_lift (z : ℕ → ℕ → ℕ → ℝ) (k : ℕ → ℕ → ℝ) : queryGrad (lift3 z) (lift3 fun h r e => k r (64 * h + e))
    = lift3 fun h r e => ∑ s ∈ range 16384, z h r s * k s (64 * h + e) := by
  funext j
  idx_vars j
  pointwise [queryGrad, lift3]
  exact sum_real (fun s => z j0.val j1.val s) (fun s => k s (64 * j0.val + j2.val)) 16384

end Cert.Attention.Ref

end
-- ==== Proof.Attention.RefRun.lean ====
/-
  Stick breaking, backward: what the reference leaves where its arguments hold real numbers.
-/
module

public import proofs.«01_k».proof.Proof.Attention.Ref

@[expose] public section

set_option maxRecDepth 16384

noncomputable section

namespace Cert.Attention.Ref

open Finset
open Idealize.ShloMosaic Idealize.ShloMosaic.TcCoe Cert.Reference2Ideal Cert.Reference2Ideal.Gen Cert.Reference2Ideal.Value

/-- The logs of what the keys leave. -/
def leaves (Z : FVec Ideal S4x16384x16384 .f32) : FVec Ideal S4x16384x16384 .f32 := keptOf (Host.negf (softplus (Host.negf (Host.negf Z))))
/-- The shares. -/
def shares (Z : FVec Ideal S4x16384x16384 .f32) : FVec Ideal S4x16384x16384 .f32 := sharesOf (addf (addf Z (leaves Z)) (later (leaves Z)))
/-- The weighted gradients. -/
def weightedGrads (Z W : FVec Ideal S4x16384x16384 .f32) : FVec Ideal S4x16384x16384 .f32 :=
  keptOf (mulf (extf .f32 (truncf .bf16 W bitsLt_bf16_f32) bitsLt_bf16_f32) (shares Z))
/-- The gradients of the scores, from the weighted ones. -/
def scoreGrads (Z g : FVec Ideal S4x16384x16384 .f32) : FVec Ideal S4x16384x16384 .f32 :=
  mulf (addf g (Host.negf (Host.negf (mulf (Host.negf (keptOf (addf g (earlier g)))) (sigmoid (Host.negf (Host.negf Z))))))) eighths

theorem neg_lift (f : ℕ → ℕ → ℕ → ℝ) : (Host.negf (lift3 f) : FVec Ideal S4x16384x16384 .f32) = lift3 fun h r s => -f h r s :=
  funext fun _ => (EReal.coe_neg _).symm
theorem add_lift (f g : ℕ → ℕ → ℕ → ℝ) : (addf (lift3 f) (lift3 g) : FVec Ideal S4x16384x16384 .f32) = lift3 fun h r s => f h r s + g h r s :=
  funext fun _ => (EReal.coe_add _ _).symm
theorem mul_lift (f g : ℕ → ℕ → ℕ → ℝ) : (mulf (lift3 f) (lift3 g) : FVec Ideal S4x16384x16384 .f32) = lift3 fun h r s => f h r s * g h r s :=
  funext fun _ => (EReal.coe_mul _ _).symm
theorem eighth_lift (f : ℕ → ℕ → ℕ → ℝ) : (mulf (lift3 f) eighths : FVec Ideal S4x16384x16384 .f32) = lift3 fun h r s => f h r s * (1 / 8) :=
  funext fun j => (congrArg (_ * ·) (eighths_at j)).trans (EReal.coe_mul _ _).symm

variable (z w : ℕ → ℕ → ℕ → ℝ)

theorem leaves_lift : leaves (lift3 z) = lift3 fun h => leave (z h) := by
  unfold leaves
  rw [neg_lift, neg_lift, softplus_lift, neg_lift, keptOf_lift]
  simp only [neg_neg]
  rfl

theorem shares_lift : shares (lift3 z) = lift3 fun h => shareOf (z h) := by
  unfold shares
  rw [leaves_lift, later_lift, add_lift, add_lift, sharesOf_lift]
  rfl

theorem weightedGrads_lift : weightedGrads (lift3 z) (lift3 w) = lift3 fun h => wtd (z h) (w h) := by
  unfold weightedGrads
  rw [shares_lift]
  refine (congrArg keptOf (mul_lift w fun h => shareOf (z h))).trans ?_
  rw [keptOf_lift]
  congr 1
  funext h r s
  unfold wtd
  by_cases hs : s < r
  · rw [if_pos hs]; ring
  · rw [if_neg hs, shareOf_of_le _ (by omega), zero_mul]

/-- What the keys up to `s` add to the whole. -/
theorem up_to (Z W : ℕ → ℕ → ℝ) (r s : ℕ) (hs : s < 16384) :
    wtd Z W r s + ∑ j ∈ range s, wtd Z W r j = total Z W r - ∑ j ∈ Ico (s + 1) 16384, wtd Z W r j := by
  have e := sum_range_add_sum_Ico (wtd Z W r) (show s + 1 ≤ 16384 by omega)
  unfold total
  rw [← e, sum_range_succ]
  ring

theorem scoreGrads_lift : scoreGrads (lift3 z) (lift3 fun h => wtd (z h) (w h)) = lift3 fun h r s => dScoreOf (z h) (w h) r s * (1 / 8) := by
  unfold scoreGrads
  rw [earlier_lift, add_lift, keptOf_lift, neg_lift, neg_lift, neg_lift, sigmoid_lift, mul_lift, neg_lift, neg_lift, add_lift, eighth_lift]
  funext j
  refine congrArg (fun x : ℝ => ((x * (1 / 8) : ℝ) : EReal)) ?_
  have hs : (j 2).val < 16384 := (j 2).isLt
  dsimp only
  generalize (j 0).val = h
  generalize (j 1).val = r
  generalize (j 2).val = s at hs
  unfold dScoreOf
  by_cases hr : s < r
  · rw [if_pos hr, if_pos hr, up_to _ _ _ _ hs, leave, if_pos hr]
    simp only [neg_neg]
    ring
  · rw [if_neg hr, if_neg hr, wtd_of_le _ _ (by omega)]
    simp

variable (m : (ℓ : Loc nD τ sig) → Buf (Elt Ideal) ℓ)

/-- The arguments' heads. -/
def qs (c : Dev nD) : FVec Ideal S4x16384x64 .f32 := headsOf ![0, 768] slices_S16384x6144_S16384x256_0_768 (m ((c.tc : Thread nD τ).loc main_arg0))
def ks (c : Dev nD) : FVec Ideal S4x16384x64 .f32 := headsOf ![0, 1024] slices_S16384x6144_S16384x256_0_1024 (m ((c.tc : Thread nD τ).loc main_arg0))
def vs (c : Dev nD) : FVec Ideal S4x16384x64 .f32 := headsOf ![0, 1280] slices_S16384x6144_S16384x256_0_1280 (m ((c.tc : Thread nD τ).loc main_arg0))
def ds (c : Dev nD) : FVec Ideal S4x16384x64 .f32 := gradHeads (m ((c.tc : Thread nD τ).loc main_arg1))
/-- The scores. -/
def zs (c : Dev nD) : FVec Ideal S4x16384x16384 .f32 := mulf (products (qs m c) (ks m c)) eighths

theorem out_v (c : Dev nD) : res_main_v59 m c = joined (valueGrad (ds m c) (shares (zs m c))) := rfl
theorem out_k (c : Dev nD) : res_main_v61 m c = joined (keyGrad (scoreGrads (zs m c) (weightedGrads (zs m c) (products (ds m c) (vs m c)))) (qs m c)) := rfl
theorem out_q (c : Dev nD) : res_main_v63 m c = joined (queryGrad (scoreGrads (zs m c) (weightedGrads (zs m c) (products (ds m c) (vs m c)))) (ks m c)) := rfl

/-- The reference's arguments hold these numbers. -/
structure Holds (c : Dev nD) (q k v d : ℕ → ℕ → ℝ) : Prop where
  hq : ∀ (i : S16384x6144.Idx) (e : ℕ), (i 1).val = 768 + e → e < 256 → (m ((c.tc : Thread nD τ).loc main_arg0) : FVec Ideal S16384x6144 .bf16) i = ((q (i 0).val e : ℝ) : EReal)
  hk : ∀ (i : S16384x6144.Idx) (e : ℕ), (i 1).val = 1024 + e → e < 256 → (m ((c.tc : Thread nD τ).loc main_arg0) : FVec Ideal S16384x6144 .bf16) i = ((k (i 0).val e : ℝ) : EReal)
  hv : ∀ (i : S16384x6144.Idx) (e : ℕ), (i 1).val = 1280 + e → e < 256 → (m ((c.tc : Thread nD τ).loc main_arg0) : FVec Ideal S16384x6144 .bf16) i = ((v (i 0).val e : ℝ) : EReal)
  hd : ∀ (i : S16384x256.Idx), (m ((c.tc : Thread nD τ).loc main_arg1) : FVec Ideal S16384x256 .bf16) i = ((d (i 0).val (i 1).val : ℝ) : EReal)

variable {m} {c : Dev nD} {q k v d : ℕ → ℕ → ℝ} (h : Holds m c q k v d)

include h

theorem zs_lift : zs m c = lift3 (zOf q k) := by
  unfold zs qs ks
  rw [headsOf_q _ q h.hq, headsOf_k _ k h.hk, products_lift, scores_lift]

theorem final_v (j : S16384x256.Idx) : (res_main_v59 m c : FVec Ideal S16384x256 .f32) j = ((dvAt q k d (j 0).val (j 1).val : ℝ) : EReal) := by
  rw [out_v, zs_lift h, shares_lift, ds, gradHeads_lift _ d h.hd, valueGrad_lift, joined_lift, Nat.div_add_mod]
  rfl

theorem scores : scoreGrads (zs m c) (weightedGrads (zs m c) (products (ds m c) (vs m c))) = lift3 fun h r s => dzOf q k v d h r s * (1 / 8) := by
  unfold ds vs
  rw [zs_lift h, gradHeads_lift _ d h.hd, headsOf_v _ v h.hv, products_lift, weightedGrads_lift, scoreGrads_lift]
  rfl

theorem final_k (j : S16384x256.Idx) : (res_main_v61 m c : FVec Ideal S16384x256 .f32) j = ((dkAt q k v d (j 0).val (j 1).val : ℝ) : EReal) := by
  rw [out_k, scores h, qs, headsOf_q _ q h.hq, keyGrad_lift, joined_lift, Nat.div_add_mod]
  rfl

theorem final_q (j : S16384x256.Idx) : (res_main_v63 m c : FVec Ideal S16384x256 .f32) j = ((dqAt q k v d (j 0).val (j 1).val : ℝ) : EReal) := by
  rw [out_q, scores h, ks, headsOf_k _ k h.hk, queryGrad_lift, joined_lift, Nat.div_add_mod]
  rfl

end Cert.Attention.Ref

end
-- ==== Proof.Attention.Agree.lean ====
/-
  Stick breaking, backward: the kernel agrees with its reference, where the arguments hold no infinity.
-/
module

public import proofs.«01_k».proof.Defs
public import proofs.«01_k».proof.Proof.Attention.Arrays
public import proofs.«01_k».proof.Proof.Attention.RefRun

@[expose] public section

set_option maxRecDepth 16384

noncomputable section

namespace Cert.Attention

open Idealize.ShloMosaic Idealize.ShloMosaic.TcCoe Idealize.SL.Sem

/-- The shapes that the precondition asks for are as it asks. -/
theorem finiteFacts : Cert.Pre_finite.Facts where
  slices_S16384x6144_S16384x768_0_768 := by decide
  bitsLt_bf16_f32 := by decide
  bcast_S_S16384x768 := by decide
  bcast_S_S16384x256 := by decide

/-- A number below infinity in absolute value is a real one. -/
theorem real_of_abs {x : EReal} (h : max x (-x) < ⊤) : ((x.toReal : ℝ) : EReal) = x := by
  refine EReal.coe_toReal (fun e => ?_) fun e => ?_ <;> rw [e] at h <;> simp at h

/-- A comparison with infinity that is one, read back. -/
theorem real_of_bit {x y : EReal} (hy : y = ⊤) (h : BitVec.ofBool (decide (max x (-x) < y)) = 1#1) : ((x.toReal : ℝ) : EReal) = x := by
  subst hy
  by_cases hx : max x (-x) < ⊤
  · exact real_of_abs hx
  · rw [decide_eq_false hx] at h; exact absurd h (by decide)

theorem inf_bits : Ideal.ofBits .f32 0x7F800000#32 = ⊤ := by simp [Ideal.ofBits, Ideal.ieee]

open Classical in
/-- The number at row `r` and column `e` of an array, nothing outside it. -/
def entry {a b : ℕ} (A : (⟨2, ![a, b]⟩ : Shape).Idx → EReal) (r e : ℕ) : ℝ :=
  if h : ∃ i : (⟨2, ![a, b]⟩ : Shape).Idx, (i 0).val = r ∧ (i 1).val = e then (A h.choose).toReal else 0

theorem entry_at {a b : ℕ} (A : (⟨2, ![a, b]⟩ : Shape).Idx → EReal) (i : (⟨2, ![a, b]⟩ : Shape).Idx) (r e : ℕ) (hr : (i 0).val = r) (he : (i 1).val = e) :
    entry A r e = (A i).toReal := by
  have h : ∃ i : (⟨2, ![a, b]⟩ : Shape).Idx, (i 0).val = r ∧ (i 1).val = e := ⟨i, hr, he⟩
  unfold entry
  rw [dif_pos h]
  have e2 : h.choose = i := by
    funext x
    refine Fin.ext ?_
    revert x
    exact Fin.forall_fin_two.mpr ⟨h.choose_spec.1.trans hr.symm, h.choose_spec.2.trans he.symm⟩
  rw [e2]

section
open Cert.Pre_finite

variable (P : FVec Ideal S16384x6144 .bf16) (D : FVec Ideal S16384x256 .bf16)

/-- Where the precondition is all ones, the queries, keys and values are real numbers. -/
theorem real_left (h : (letI := finiteFacts; fn (F := Ideal) P D).1 = fun _ => 1#1) (i : S16384x6144.Idx) (o e : ℕ) (ho : 768 ≤ o) (hi : (i 1).val = o + e) (he : o + e < 1536) :
    P i = ((entry P (i 0).val (o + e) : ℝ) : EReal) := by
  rw [entry_at P i _ _ rfl hi]
  refine (real_of_bit (x := P i) inf_bits ?_).symm
  have hb : (i 1).val - 768 < 768 := by omega
  have e1 : (extractStridedSlice S16384x768 ![0, 768] P finiteFacts.slices_S16384x6144_S16384x768_0_768) (ix2 (i 0) ⟨(i 1).val - 768, hb⟩) = P i := by
    refine congrArg P (funext fun x => Fin.ext ?_)
    revert x
    refine Fin.forall_fin_two.mpr ⟨?_, ?_⟩
    · show 0 + (i 0).val = _; omega
    · show 768 + ((i 1).val - 768) = _; omega
  have h2 := congrFun h (ix2 (i 0) ⟨(i 1).val - 768, hb⟩)
  rw [← e1]
  exact h2

/-- Where the precondition is all ones, the gradients are real numbers. -/
theorem real_right (h : (letI := finiteFacts; fn (F := Ideal) P D).2 = fun _ => 1#1) (i : S16384x256.Idx) : D i = ((entry D (i 0).val (i 1).val : ℝ) : EReal) := by
  rw [entry_at D i _ _ rfl rfl]
  exact (real_of_bit (x := D i) inf_bits (congrFun h i)).symm

end

section
open Cert.Kernel2Ideal Cert.Kernel2Ideal.Gen Cert.Kernel2Ideal.Sb

variable (m : (ℓ : Loc nD τ sig) → Buf (Elt Ideal) ℓ) (c : Dev nD)

/-- The columns of the first argument from `o` on. -/
def colsFrom (o r e : ℕ) : ℝ := entry (m ((c.tc : Thread nD τ).loc main_arg0)) r (o + e)
/-- The second argument. -/
def grads (r e : ℕ) : ℝ := entry (m ((c.tc : Thread nD τ).loc main_arg1)) r e

/-- Where the precondition is all ones, the arrays that the kernel reads hold real numbers. -/
theorem holds (hp : (letI := finiteFacts; Cert.Pre_finite.fn (F := Ideal) (m ((c.tc : Thread nD τ).loc main_arg0)) (m ((c.tc : Thread nD τ).loc main_arg1))).1 = (fun _ => 1#1)
      ∧ (letI := finiteFacts; Cert.Pre_finite.fn (F := Ideal) (m ((c.tc : Thread nD τ).loc main_arg0)) (m ((c.tc : Thread nD τ).loc main_arg1))).2 = (fun _ => 1#1)) :
    Holds m c (colsFrom m c 768) (colsFrom m c 1024) (colsFrom m c 1280) (grads m c) := by
  have hl : ∀ o, 768 ≤ o → o + 256 ≤ 1536 → ∀ (i : S16384x6144.Idx) (e : ℕ), (i 1).val = o + e → e < 256 →
      (m ((c : Thread nD τ).loc main_arg0) : FVec Ideal S16384x6144 .bf16) i = ((colsFrom m c o (i 0).val e : ℝ) : EReal) :=
    fun o h1 h2 i e h he => real_left _ _ hp.1 i o e h1 h (by omega)
  have q := hl 768 (by omega) (by omega)
  have k := hl 1024 (by omega) (by omega)
  have v := hl 1280 (by omega) (by omega)
  exact ⟨q, k, v, real_right _ _ hp.2, saved_real m c _ _ _ q k v⟩

/-- What the kernel leaves. -/
theorem kernel_spec (ρ : Dev nD → PrngReg) (q k v d : Dev nD → ℕ → ℕ → ℝ)
    (H : ∀ c, Holds m c (q c) (k c) (v c) (d c)) :
    θ_run defs (onTc (τ := τ) (main (F := Ideal))) ⟨m, fun _ => 0, ρ⟩ (fun r => ∀ c : Dev nD,
      r.2.mem ((c.tc : Thread nD τ).loc main_v55_0) = (fun j : S16384x256.Idx => ((dqAt (q c) (k c) (v c) (d c) (j 0).val (j 1).val : ℝ) : EReal))
      ∧ r.2.mem ((c.tc : Thread nD τ).loc main_v55_1) = (fun j : S16384x256.Idx => ((dkAt (q c) (k c) (v c) (d c) (j 0).val (j 1).val : ℝ) : EReal))
      ∧ r.2.mem ((c.tc : Thread nD τ).loc main_v55_2) = (fun j : S16384x256.Idx => ((dvAt (q c) (k c) (d c) (j 0).val (j 1).val : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 5).trans (final_q (H c)), ((h c).1 6).trans (final_k (H c)), ((h c).1 7).trans (final_v (H c)),
    ((h c).1 0).trans (((dats m 0 c).arrAt_in 0 rfl _).trans ((A_eq m c 0).trans (V_main_arg0 m c))),
    ((h c).1 3).trans (((dats m 0 c).arrAt_in 3 rfl _).trans ((A_eq m c 3).trans (V_main_arg1 m c)))⟩) (run m ρ)

end

/-- The attention's gradients agree with the reference's where the arguments hold no infinity. -/
theorem agree : Cert.algebraic_Kernel2Ideal_Reference2Ideal_pre_finite (hKernel2Ideal := Cert.Kernel2Ideal.Gen.facts)
    (hReference2Ideal := Cert.Reference2Ideal.Gen.facts) (hPre_finite := finiteFacts) := by
  intro m ρ m' ρ' hp hag
  have H := fun c => holds m c (hp c)
  have R : ∀ c, Ref.Holds m' c _ _ _ _ := fun c =>
    ⟨fun i e h he => (congrFun (hag c).1 i).trans ((H c).hq i e h he), fun i e h he => (congrFun (hag c).1 i).trans ((H c).hk i e h he),
      fun i e h he => (congrFun (hag c).1 i).trans ((H c).hv i e h he), fun i => (congrFun (hag c).2 i).trans ((H c).hd i)⟩
  refine ⟨_, _, _, kernel_spec m ρ _ _ _ _ H, ?_⟩
  refine (θ_run Cert.Reference2Ideal.defs _ _).mono (fun r h c => ?_) (Cert.Reference2Ideal.Value.run (F := Ideal) m' ρ')
  obtain ⟨h0, h1, h2, h3, h4⟩ := h c
  exact ⟨h0.trans (funext (Ref.final_q (R c))), h1.trans (funext (Ref.final_k (R c))), h2.trans (funext (Ref.final_v (R c))), h3, h4⟩

end Cert.Attention

end
-- ==== Proof.Products.AdamW.lean ====
/- One step of AdamW, entry by entry. -/
module

public import proofs.«01_k».proof.Proof.Products.Spec

@[expose] public section

noncomputable section

open Idealize.ShloMosaic

namespace Cert.Product

/-- The new first moment: nine tenths of the old one and a tenth of the gradient, the two factors as the step rounds them. -/
def newMean (m g : EReal) : EReal :=
  Ideal.ofBits FTy.f32 0x3F666666#32 * m + Ideal.ofBits FTy.f32 0x3DCCCCCD#32 * g

/-- The new second moment: the old one and the gradient's square, weighted. -/
def newSquare (v g : EReal) : EReal :=
  Ideal.ofBits FTy.f32 0x3F7FBE77#32 * v + Ideal.ofBits FTy.f32 0x3A83126F#32 * (g * g)

/-- The change of the weight: the first moment over the root of the second, each divided by what the first ten steps have
    weighted, with the weight's decay, times the negative rate. -/
def weightChange (w m v : EReal) : EReal :=
  Ideal.ofBits FTy.f32 0xBA83126F#32 *
    (Ideal.div (Ideal.div m (Ideal.ofBits FTy.f32 0x3F26BD02#32))
        (Ideal.sqrt (Ideal.div v (Ideal.ofBits FTy.f32 0x3C231ACC#32)) + Ideal.ofBits FTy.f32 0x322BCC77#32)
      + Ideal.ofBits FTy.f32 0x3C23D70A#32 * w)

/-- What the step of one weight takes: the weight and its two moments, two layers of `r` rows each, and for each layer the two
    halves of its gradient. -/
structure StepInputs (r n : ℕ) where
  /-- The weight. -/
  weight : FVec Ideal ⟨3, ![2, r, n]⟩ .f32
  /-- A half of the first layer's gradient. -/
  mine0 : FVec Ideal ⟨2, ![r, n]⟩ .f32
  /-- A half of the second layer's gradient. -/
  mine1 : FVec Ideal ⟨2, ![r, n]⟩ .f32
  /-- The other half of the first layer's gradient. -/
  theirs0 : FVec Ideal ⟨2, ![r, n]⟩ .f32
  /-- The other half of the second layer's gradient. -/
  theirs1 : FVec Ideal ⟨2, ![r, n]⟩ .f32
  /-- The first moment. -/
  mean : FVec Ideal ⟨3, ![2, r, n]⟩ .f32
  /-- The second moment. -/
  square : FVec Ideal ⟨3, ![2, r, n]⟩ .f32

variable {r n : ℕ}

/-- Row `i` of an array whose two layers are laid one after the other. -/
def rowOf (w : FVec Ideal ⟨3, ![2, r, n]⟩ .f32) (i : Fin (2 * r)) (l : Fin n) : EReal :=
  w (ix3 ⟨(i : ℕ) / r, Nat.div_lt_of_lt_mul (by have := i.isLt; omega)⟩ ⟨(i : ℕ) % r, Nat.mod_lt _ (by have := i.isLt; omega)⟩ l)

/-- Row `i` of the gradient: the first layer's two halves added, then the second layer's. -/
def rowGrad (x : StepInputs r n) (i : Fin (2 * r)) (l : Fin n) : EReal :=
  if h : (i : ℕ) < r then x.mine0 (ix2 ⟨i, h⟩ l) + x.theirs0 (ix2 ⟨i, h⟩ l)
  else x.mine1 (ix2 ⟨(i : ℕ) - r, by omega⟩ l) + x.theirs1 (ix2 ⟨(i : ℕ) - r, by omega⟩ l)

/-- Row `i` of the new first moment. -/
abbrev rowMean (x : StepInputs r n) (i : Fin (2 * r)) (l : Fin n) : EReal := newMean (rowOf x.mean i l) (rowGrad x i l)

/-- Row `i` of the new second moment. -/
abbrev rowSquare (x : StepInputs r n) (i : Fin (2 * r)) (l : Fin n) : EReal := newSquare (rowOf x.square i l) (rowGrad x i l)

/-- Row `i` of the change of the weight. -/
abbrev rowChange (x : StepInputs r n) (i : Fin (2 * r)) (l : Fin n) : EReal :=
  weightChange (rowOf x.weight i l) (rowMean x i l) (rowSquare x i l)

end Cert.Product

end
-- ==== Proof.Products.AdamWWIn.lean ====
/- AdamW of `w_in`: kernel and reference return the same gradient, change and moments. -/
module

public import proofs.«01_k».proof.Proof.Products.AdamW
public import proofs.«01_k».proof.Defs
public import proofs.«01_k».proof.Proof.Gen.Kernel18Ideal.Value
public import proofs.«01_k».proof.Proof.Gen.Reference18Ideal.Run

@[expose] public section

set_option maxRecDepth 16384

noncomputable section

open Idealize.ShloMosaic Idealize.ShloMosaic.TcCoe Idealize.SL.Sem Cert.Product

namespace Cert.Kernel18Ideal.Product

open Cert.Kernel18Ideal Cert.Kernel18Ideal.Gen

variable (m : (ℓ : Loc nD τ sig) → Buf (Elt Ideal) ℓ) (c : Dev nD)

/-- The arguments of the call. -/
abbrev inputs : StepInputs 1024 1474 :=
  ⟨m (c.tc.loc main_arg0), m (c.tc.loc main_arg1), m (c.tc.loc main_arg2), m (c.tc.loc main_arg3), m (c.tc.loc main_arg4), m (c.tc.loc main_arg5), m (c.tc.loc main_arg6)⟩

/-- The blocks: the first layer's halves stay at their last block in the grid's second half, the second layer's at their first
    block in its first half. -/
theorem idx_val : ∀ t : Fin cfg0.N, win0_0.index t = ![t.val, 0] ∧ win0_1.index t = ![min t.val 3, 0]
    ∧ win0_2.index t = ![t.val - 4, 0] ∧ win0_3.index t = ![min t.val 3, 0] ∧ win0_4.index t = ![t.val - 4, 0]
    ∧ win0_5.index t = ![t.val, 0] ∧ win0_6.index t = ![t.val, 0] ∧ win0_7.index t = ![t.val, 0] ∧ win0_8.index t = ![t.val, 0]
    ∧ win0_9.index t = ![t.val, 0] ∧ win0_10.index t = ![t.val, 0] :=
  (by decide +kernel : ∀ t : Fin grid0.N, _)

variable {t : Fin cfg0.N} {a : Fin 256} {l : Fin 1474}

/-- The host's reshape lays the two layers one after the other. -/
theorem cast_row (w : FVec Ideal S2x1024x1474 .f32) (i : Fin 2048) :
    (shapeCast S2048x1474 w shapeCasts_S2x1024x1474_S2048x1474 : FVec Ideal S2048x1474 .f32) (ix2 i l) = rowOf w i l := by
  pointwise [rowOf]

/-- A block of the weight. -/
theorem block0 {i : Fin 2048} (hi : (i : ℕ) = 256 * t.val + a) :
    (iblk m c 0 t : FVec Ideal S256x1474 .f32) (ix2 a l) = rowOf (inputs m c).weight i l := by
  unfold iblk
  entry_read
  refine Eq.trans (congrArg (shapeCast S2048x1474 (inputs m c).weight shapeCasts_S2x1024x1474_S2048x1474 : S2048x1474.Idx → EReal) (?_ : _ = ix2 i l)) (cast_row _ i)
  rw [show i = ⟨256 * t.val + a, by omega⟩ from Fin.ext hi]
  blk_ext [idx_val t]

/-- A block of the first moment. -/
theorem block5 {i : Fin 2048} (hi : (i : ℕ) = 256 * t.val + a) :
    (iblk m c 5 t : FVec Ideal S256x1474 .f32) (ix2 a l) = rowOf (inputs m c).mean i l := by
  unfold iblk
  entry_read
  refine Eq.trans (congrArg (shapeCast S2048x1474 (inputs m c).mean shapeCasts_S2x1024x1474_S2048x1474 : S2048x1474.Idx → EReal) (?_ : _ = ix2 i l)) (cast_row _ i)
  rw [show i = ⟨256 * t.val + a, by omega⟩ from Fin.ext hi]
  blk_ext [idx_val t]

/-- A block of the second moment. -/
theorem block6 {i : Fin 2048} (hi : (i : ℕ) = 256 * t.val + a) :
    (iblk m c 6 t : FVec Ideal S256x1474 .f32) (ix2 a l) = rowOf (inputs m c).square i l := by
  unfold iblk
  entry_read
  refine Eq.trans (congrArg (shapeCast S2048x1474 (inputs m c).square shapeCasts_S2x1024x1474_S2048x1474 : S2048x1474.Idx → EReal) (?_ : _ = ix2 i l)) (cast_row _ i)
  rw [show i = ⟨256 * t.val + a, by omega⟩ from Fin.ext hi]
  blk_ext [idx_val t]

/-- A block of a half of the first layer's gradient. -/
theorem block1 (ht : t.val < 4) {i : Fin 1024} (hi : (i : ℕ) = 256 * t.val + a) :
    (iblk m c 1 t : FVec Ideal S256x1474 .f32) (ix2 a l) = (inputs m c).mine0 (ix2 i l) := by
  rw [show i = ⟨256 * (min t.val 3) + a, by omega⟩ from Fin.ext (by show (i : ℕ) = 256 * (min t.val 3) + a; omega)]
  blk_ext [iblk, V, idx_val t]

/-- A block of a half of the second layer's gradient. -/
theorem block2 (ht : ¬ t.val < 4) {i : Fin 1024} (hi : (i : ℕ) + 1024 = 256 * t.val + a) :
    (iblk m c 2 t : FVec Ideal S256x1474 .f32) (ix2 a l) = (inputs m c).mine1 (ix2 i l) := by
  rw [show i = ⟨256 * (t.val - 4) + a, by omega⟩ from Fin.ext (by show (i : ℕ) = 256 * (t.val - 4) + a; omega)]
  blk_ext [iblk, V, idx_val t]

/-- A block of a half of the first layer's gradient. -/
theorem block3 (ht : t.val < 4) {i : Fin 1024} (hi : (i : ℕ) = 256 * t.val + a) :
    (iblk m c 3 t : FVec Ideal S256x1474 .f32) (ix2 a l) = (inputs m c).theirs0 (ix2 i l) := by
  rw [show i = ⟨256 * (min t.val 3) + a, by omega⟩ from Fin.ext (by show (i : ℕ) = 256 * (min t.val 3) + a; omega)]
  blk_ext [iblk, V, idx_val t]

/-- A block of a half of the second layer's gradient. -/
theorem block4 (ht : ¬ t.val < 4) {i : Fin 1024} (hi : (i : ℕ) + 1024 = 256 * t.val + a) :
    (iblk m c 4 t : FVec Ideal S256x1474 .f32) (ix2 a l) = (inputs m c).theirs1 (ix2 i l) := by
  rw [show i = ⟨256 * (t.val - 4) + a, by omega⟩ from Fin.ext (by show (i : ℕ) = 256 * (t.val - 4) + a; omega)]
  blk_ext [iblk, V, idx_val t]

/-- The kernel's condition, true in the first half of the grid. -/
theorem condition : ∀ t : Fin cfg0.N, Scalar.cmpi .slt (BitVec.ofNat 32 ((grid0.coords t) 0).val) 4#32 = if t.val < 4 then 1#1 else 0#1 :=
  (by decide +kernel : ∀ t : Fin grid0.N, _)

/-- The gradient that a point computes of its blocks. -/
abbrev pGrad (t : Fin cfg0.N) : FVec Ideal S256x1474 .f32 :=
  k0_pay2 (grid0.coords t) (iblk m c 1 t) (iblk m c 2 t) (iblk m c 3 t) (iblk m c 4 t)

/-- The first moment that it computes. -/
abbrev pMean (t : Fin cfg0.N) : FVec Ideal S256x1474 .f32 :=
  k0_pay3 (grid0.coords t) (iblk m c 1 t) (iblk m c 2 t) (iblk m c 3 t) (iblk m c 4 t) (iblk m c 5 t)

/-- The second moment that it computes. -/
abbrev pSquare (t : Fin cfg0.N) : FVec Ideal S256x1474 .f32 :=
  k0_pay4 (grid0.coords t) (iblk m c 1 t) (iblk m c 2 t) (iblk m c 3 t) (iblk m c 4 t) (iblk m c 6 t)

/-- The change that it computes. -/
abbrev pChange (t : Fin cfg0.N) : FVec Ideal S256x1474 .f32 :=
  k0_pay1 (k0_pay5 (grid0.coords t) (iblk m c 1 t) (iblk m c 2 t) (iblk m c 3 t) (iblk m c 4 t) (iblk m c 5 t) (iblk m c 6 t)) (iblk m c 0 t)

/-- A point's gradient is its rows of the gradient. -/
theorem point_grad {i : Fin 2048} (hi : (i : ℕ) = 256 * t.val + a) :
    pGrad m c t (ix2 a l) = rowGrad (inputs m c) i l := by
  have ha := a.isLt
  unfold rowGrad pGrad k0_pay2
  rw [condition t]
  by_cases ht : t.val < 4
  · have hl : (i : ℕ) < 1024 := by omega
    rw [dif_pos hl, ← block1 m c ht (i := ⟨i, hl⟩) hi, ← block3 m c ht (i := ⟨i, hl⟩) hi, if_pos ht]
    rfl
  · have hl : ¬ (i : ℕ) < 1024 := by omega
    have e : ((⟨(i : ℕ) - 1024, by omega⟩ : Fin 1024) : ℕ) + 1024 = 256 * t.val + a := by show (i : ℕ) - 1024 + 1024 = _; omega
    rw [dif_neg hl, ← block2 m c ht e, ← block4 m c ht e, if_neg ht]
    rfl

/-- So are the first moment's, -/
theorem point_mean {i : Fin 2048} (hi : (i : ℕ) = 256 * t.val + a) :
    pMean m c t (ix2 a l) = rowMean (inputs m c) i l := by
  unfold rowMean newMean
  rw [← point_grad m c hi, ← block5 m c hi]
  unfold pMean pGrad k0_pay3
  pointwise

/-- the second moment's -/
theorem point_square {i : Fin 2048} (hi : (i : ℕ) = 256 * t.val + a) :
    pSquare m c t (ix2 a l) = rowSquare (inputs m c) i l := by
  unfold rowSquare newSquare
  rw [← point_grad m c hi, ← block6 m c hi]
  unfold pSquare pGrad k0_pay4
  pointwise

/-- and the change's. -/
theorem point_change {i : Fin 2048} (hi : (i : ℕ) = 256 * t.val + a) :
    pChange m c t (ix2 a l) = rowChange (inputs m c) i l := by
  unfold rowChange weightChange
  rw [← point_mean m c hi, ← point_square m c hi, ← block0 m c hi]
  unfold pMean pSquare pChange k0_pay1 k0_pay5
  pointwise

/-- Where a point's block of a result lies. -/
theorem out_row (t : Fin cfg0.N) (y : S256x1474.Idx) :
    ((((cfg0.win 7).blk t).view.emb y 0 : Fin 2048) : ℕ) = 256 * t.val + (y 0 : Fin 256)
      ∧ (((cfg0.win 7).blk t).view.emb y 1 : Fin 1474) = y 1 := by
  refine ⟨?_, Fin.ext ?_⟩
  · blk_simp [idx_val t]
    omega
  · blk_simp [idx_val t]

/-- The array of the gradient after the run. -/
theorem finalGrad : (dats m 0 c).arrAt 7 cfg0.N = fun j : S2048x1474.Idx => rowGrad (inputs m c) (j 0) (j 1) := by
  refine (dats m 0 c).arrAt_eq_of_covers 7 _ (by decide +kernel) fun t _ y => ?_
  blk_simp
  rw [after0_7]
  refine Eq.trans (Eq.trans ?_ (point_grad m c (out_row t y).1)) (congrArg (rowGrad (inputs m c) _) (out_row t y).2.symm)
  idx_vars y
  frame_out [out0_7]

/-- The array of the change after the run. -/
theorem finalChange : (dats m 0 c).arrAt 8 cfg0.N = fun j : S2048x1474.Idx => rowChange (inputs m c) (j 0) (j 1) := by
  refine (dats m 0 c).arrAt_eq_of_covers 8 _ (by decide +kernel) fun t _ y => ?_
  blk_simp
  rw [after0_8]
  refine Eq.trans (Eq.trans ?_ (point_change m c (out_row t y).1)) (congrArg (rowChange (inputs m c) _) (out_row t y).2.symm)
  idx_vars y
  frame_out [out0_8]

/-- The array of the first moment after the run. -/
theorem finalMean : (dats m 0 c).arrAt 9 cfg0.N = fun j : S2048x1474.Idx => rowMean (inputs m c) (j 0) (j 1) := by
  refine (dats m 0 c).arrAt_eq_of_covers 9 _ (by decide +kernel) fun t _ y => ?_
  blk_simp
  rw [after0_9]
  refine Eq.trans (Eq.trans ?_ (point_mean m c (out_row t y).1)) (congrArg (rowMean (inputs m c) _) (out_row t y).2.symm)
  idx_vars y
  frame_out [out0_9]

/-- The array of the second moment after the run. -/
theorem finalSquare : (dats m 0 c).arrAt 10 cfg0.N = fun j : S2048x1474.Idx => rowSquare (inputs m c) (j 0) (j 1) := by
  refine (dats m 0 c).arrAt_eq_of_covers 10 _ (by decide +kernel) fun t _ y => ?_
  blk_simp
  rw [after0_10]
  refine Eq.trans (Eq.trans ?_ (point_square m c (out_row t y).1)) (congrArg (rowSquare (inputs m c) _) (out_row t y).2.symm)
  idx_vars y
  frame_out [out0_10]

end Cert.Kernel18Ideal.Product

namespace Cert.Reference18Ideal.Product

open Cert.Reference18Ideal Cert.Reference18Ideal.Gen

/-- The two layers' gradients stacked, read as rows. -/
theorem stacked (x : StepInputs 1024 1474) (i : Fin 2048) (l : Fin 1474) :
    (concatenate S2x1024x1474 0 [⟨S1x1024x1474, broadcastInDim S1x1024x1474 ![1, 2] bcast_S1024x1474_S1x1024x1474_1_2 (addf x.mine0 x.theirs0)⟩,
        ⟨S1x1024x1474, broadcastInDim S1x1024x1474 ![1, 2] bcast_S1024x1474_S1x1024x1474_1_2 (addf x.mine1 x.theirs1)⟩]
        concatenates_S1x1024x1474_S1x1024x1474_S2x1024x1474_d0 : FVec Ideal S2x1024x1474 .f32) (ix3 ⟨(i : ℕ) / 1024, by omega⟩ ⟨(i : ℕ) % 1024, by omega⟩ l)
      = rowGrad x i l := by
  have hi := i.isLt
  unfold rowGrad
  by_cases h : (i : ℕ) < 1024
  · have e0 : (i : ℕ) / 1024 = 0 := by omega
    have e1 : (i : ℕ) % 1024 = i := by omega
    simp only [dif_pos h, e0, e1]
    pointwise
  · have e0 : (i : ℕ) / 1024 = 1 := by omega
    have e1 : (i : ℕ) % 1024 = i - 1024 := by omega
    simp only [dif_neg h, e0, e1]
    pointwise

end Cert.Reference18Ideal.Product

namespace Cert.Proof

open Cert.Kernel18Ideal.Product

/-- The reference runs, keeps its arguments and leaves no counter raised. -/
theorem frame_reference18 : Cert.quiescent_Reference18Ideal (hReference18Ideal := Cert.Reference18Ideal.Gen.facts) := fun m ρ _ =>
  (θ_run Cert.Reference18Ideal.defs _ _).mono (fun r h => ⟨fun c => (h c).2.2.2.2,
    sem_eq_zero_of_no_sems (by decide) r.2⟩) (Cert.Reference18Ideal.Value.run (F := Ideal) m ρ)

set_option maxHeartbeats 1000000 in
/-- Kernel and reference return the same gradient, change and moments. -/
theorem algebraic18 : Cert.algebraic_Kernel18Ideal_Reference18Ideal (hKernel18Ideal := Cert.Kernel18Ideal.Gen.facts)
    (hReference18Ideal := Cert.Reference18Ideal.Gen.facts) := fun m ρ m' ρ' _ hag => by
  refine ⟨_, _, _, _, (θ_run Cert.Kernel18Ideal.defs _ _).mono (fun _ h c => ⟨(h c).1.trans (finalGrad m c), (h c).2.1.trans (finalChange m c),
    (h c).2.2.1.trans (finalMean m c), (h c).2.2.2.1.trans (finalSquare m c), (h c).2.2.2.2⟩) (Cert.Kernel18Ideal.Value.run_blocks (F := Ideal) m ρ), ?_⟩
  refine (θ_run Cert.Reference18Ideal.defs _ _).mono (fun r h c => ⟨(h c).1.trans ?_, (h c).2.1.trans ?_, (h c).2.2.1.trans ?_,
    (h c).2.2.2.1.trans ?_, (h c).2.2.2.2⟩) (Cert.Reference18Ideal.Value.run (F := Ideal) m' ρ')
  all_goals
    clear h
    obtain ⟨a0, a1, a2, a3, a4, a5, a6⟩ := hag c
    funext j
    have e : inputs m c = ⟨m' (c.tc.loc Cert.Reference18Ideal.main_arg0), m' (c.tc.loc Cert.Reference18Ideal.main_arg1), m' (c.tc.loc Cert.Reference18Ideal.main_arg2), m' (c.tc.loc Cert.Reference18Ideal.main_arg3), m' (c.tc.loc Cert.Reference18Ideal.main_arg4), m' (c.tc.loc Cert.Reference18Ideal.main_arg5), m' (c.tc.loc Cert.Reference18Ideal.main_arg6)⟩ := by
      rw [StepInputs.mk.injEq]
      exact ⟨a0.symm, a1.symm, a2.symm, a3.symm, a4.symm, a5.symm, a6.symm⟩
    rw [e]
    have hs := Cert.Reference18Ideal.Product.stacked ⟨m' (c.tc.loc Cert.Reference18Ideal.main_arg0), m' (c.tc.loc Cert.Reference18Ideal.main_arg1), m' (c.tc.loc Cert.Reference18Ideal.main_arg2), m' (c.tc.loc Cert.Reference18Ideal.main_arg3), m' (c.tc.loc Cert.Reference18Ideal.main_arg4), m' (c.tc.loc Cert.Reference18Ideal.main_arg5), m' (c.tc.loc Cert.Reference18Ideal.main_arg6)⟩
    generalize (concatenate Cert.Reference18Ideal.S2x1024x1474 0 _ _ : FVec Ideal Cert.Reference18Ideal.S2x1024x1474 .f32) = g at hs ⊢
    idx_vars j
    pointwise [newMean, newSquare, weightChange, rowOf]
    simp only [hs]

end Cert.Proof

end
-- ==== Proof.Products.AdamWWScOut.lean ====
/- AdamW of `w_sc_out`: kernel and reference return the same gradient, change and moments. -/
module

public import proofs.«01_k».proof.Proof.Products.AdamW
public import proofs.«01_k».proof.Defs
public import proofs.«01_k».proof.Proof.Gen.Kernel19Ideal.Value
public import proofs.«01_k».proof.Proof.Gen.Reference19Ideal.Run

@[expose] public section

set_option maxRecDepth 16384

noncomputable section

open Idealize.ShloMosaic Idealize.ShloMosaic.TcCoe Idealize.SL.Sem Cert.Product

namespace Cert.Kernel19Ideal.Product

open Cert.Kernel19Ideal Cert.Kernel19Ideal.Gen

variable (m : (ℓ : Loc nD τ sig) → Buf (Elt Ideal) ℓ) (c : Dev nD)

/-- The arguments of the call. -/
abbrev inputs : StepInputs 256 256 :=
  ⟨m (c.tc.loc main_arg0), m (c.tc.loc main_arg1), m (c.tc.loc main_arg2), m (c.tc.loc main_arg3), m (c.tc.loc main_arg4), m (c.tc.loc main_arg5), m (c.tc.loc main_arg6)⟩

/-- The blocks: the first layer's halves stay at their last block in the grid's second half, the second layer's at their first
    block in its first half. -/
theorem idx_val : ∀ t : Fin cfg0.N, win0_0.index t = ![t.val, 0] ∧ win0_1.index t = ![min t.val 0, 0]
    ∧ win0_2.index t = ![t.val - 1, 0] ∧ win0_3.index t = ![min t.val 0, 0] ∧ win0_4.index t = ![t.val - 1, 0]
    ∧ win0_5.index t = ![t.val, 0] ∧ win0_6.index t = ![t.val, 0] ∧ win0_7.index t = ![t.val, 0] ∧ win0_8.index t = ![t.val, 0]
    ∧ win0_9.index t = ![t.val, 0] ∧ win0_10.index t = ![t.val, 0] :=
  (by decide +kernel : ∀ t : Fin grid0.N, _)

variable {t : Fin cfg0.N} {a : Fin 256} {l : Fin 256}

/-- The host's reshape lays the two layers one after the other. -/
theorem cast_row (w : FVec Ideal S2x256x256 .f32) (i : Fin 512) :
    (shapeCast S512x256 w shapeCasts_S2x256x256_S512x256 : FVec Ideal S512x256 .f32) (ix2 i l) = rowOf w i l := by
  pointwise [rowOf]

/-- A block of the weight. -/
theorem block0 {i : Fin 512} (hi : (i : ℕ) = 256 * t.val + a) :
    (iblk m c 0 t : FVec Ideal S256x256 .f32) (ix2 a l) = rowOf (inputs m c).weight i l := by
  unfold iblk
  entry_read
  refine Eq.trans (congrArg (shapeCast S512x256 (inputs m c).weight shapeCasts_S2x256x256_S512x256 : S512x256.Idx → EReal) (?_ : _ = ix2 i l)) (cast_row _ i)
  rw [show i = ⟨256 * t.val + a, by omega⟩ from Fin.ext hi]
  blk_ext [idx_val t]

/-- A block of the first moment. -/
theorem block5 {i : Fin 512} (hi : (i : ℕ) = 256 * t.val + a) :
    (iblk m c 5 t : FVec Ideal S256x256 .f32) (ix2 a l) = rowOf (inputs m c).mean i l := by
  unfold iblk
  entry_read
  refine Eq.trans (congrArg (shapeCast S512x256 (inputs m c).mean shapeCasts_S2x256x256_S512x256 : S512x256.Idx → EReal) (?_ : _ = ix2 i l)) (cast_row _ i)
  rw [show i = ⟨256 * t.val + a, by omega⟩ from Fin.ext hi]
  blk_ext [idx_val t]

/-- A block of the second moment. -/
theorem block6 {i : Fin 512} (hi : (i : ℕ) = 256 * t.val + a) :
    (iblk m c 6 t : FVec Ideal S256x256 .f32) (ix2 a l) = rowOf (inputs m c).square i l := by
  unfold iblk
  entry_read
  refine Eq.trans (congrArg (shapeCast S512x256 (inputs m c).square shapeCasts_S2x256x256_S512x256 : S512x256.Idx → EReal) (?_ : _ = ix2 i l)) (cast_row _ i)
  rw [show i = ⟨256 * t.val + a, by omega⟩ from Fin.ext hi]
  blk_ext [idx_val t]

/-- A block of a half of the first layer's gradient. -/
theorem block1 (ht : t.val < 1) {i : Fin 256} (hi : (i : ℕ) = 256 * t.val + a) :
    (iblk m c 1 t : FVec Ideal S256x256 .f32) (ix2 a l) = (inputs m c).mine0 (ix2 i l) := by
  rw [show i = ⟨256 * (min t.val 0) + a, by omega⟩ from Fin.ext (by show (i : ℕ) = 256 * (min t.val 0) + a; omega)]
  blk_ext [iblk, V, idx_val t]

/-- A block of a half of the second layer's gradient. -/
theorem block2 (ht : ¬ t.val < 1) {i : Fin 256} (hi : (i : ℕ) + 256 = 256 * t.val + a) :
    (iblk m c 2 t : FVec Ideal S256x256 .f32) (ix2 a l) = (inputs m c).mine1 (ix2 i l) := by
  rw [show i = ⟨256 * (t.val - 1) + a, by omega⟩ from Fin.ext (by show (i : ℕ) = 256 * (t.val - 1) + a; omega)]
  blk_ext [iblk, V, idx_val t]

/-- A block of a half of the first layer's gradient. -/
theorem block3 (ht : t.val < 1) {i : Fin 256} (hi : (i : ℕ) = 256 * t.val + a) :
    (iblk m c 3 t : FVec Ideal S256x256 .f32) (ix2 a l) = (inputs m c).theirs0 (ix2 i l) := by
  rw [show i = ⟨256 * (min t.val 0) + a, by omega⟩ from Fin.ext (by show (i : ℕ) = 256 * (min t.val 0) + a; omega)]
  blk_ext [iblk, V, idx_val t]

/-- A block of a half of the second layer's gradient. -/
theorem block4 (ht : ¬ t.val < 1) {i : Fin 256} (hi : (i : ℕ) + 256 = 256 * t.val + a) :
    (iblk m c 4 t : FVec Ideal S256x256 .f32) (ix2 a l) = (inputs m c).theirs1 (ix2 i l) := by
  rw [show i = ⟨256 * (t.val - 1) + a, by omega⟩ from Fin.ext (by show (i : ℕ) = 256 * (t.val - 1) + a; omega)]
  blk_ext [iblk, V, idx_val t]

/-- The kernel's condition, true in the first half of the grid. -/
theorem condition : ∀ t : Fin cfg0.N, Scalar.cmpi .slt (BitVec.ofNat 32 ((grid0.coords t) 0).val) 1#32 = if t.val < 1 then 1#1 else 0#1 :=
  (by decide +kernel : ∀ t : Fin grid0.N, _)

/-- The gradient that a point computes of its blocks. -/
abbrev pGrad (t : Fin cfg0.N) : FVec Ideal S256x256 .f32 :=
  k0_pay2 (grid0.coords t) (iblk m c 1 t) (iblk m c 2 t) (iblk m c 3 t) (iblk m c 4 t)

/-- The first moment that it computes. -/
abbrev pMean (t : Fin cfg0.N) : FVec Ideal S256x256 .f32 :=
  k0_pay3 (grid0.coords t) (iblk m c 1 t) (iblk m c 2 t) (iblk m c 3 t) (iblk m c 4 t) (iblk m c 5 t)

/-- The second moment that it computes. -/
abbrev pSquare (t : Fin cfg0.N) : FVec Ideal S256x256 .f32 :=
  k0_pay4 (grid0.coords t) (iblk m c 1 t) (iblk m c 2 t) (iblk m c 3 t) (iblk m c 4 t) (iblk m c 6 t)

/-- The change that it computes. -/
abbrev pChange (t : Fin cfg0.N) : FVec Ideal S256x256 .f32 :=
  k0_pay1 (k0_pay5 (grid0.coords t) (iblk m c 1 t) (iblk m c 2 t) (iblk m c 3 t) (iblk m c 4 t) (iblk m c 5 t) (iblk m c 6 t)) (iblk m c 0 t)

/-- A point's gradient is its rows of the gradient. -/
theorem point_grad {i : Fin 512} (hi : (i : ℕ) = 256 * t.val + a) :
    pGrad m c t (ix2 a l) = rowGrad (inputs m c) i l := by
  have ha := a.isLt
  unfold rowGrad pGrad k0_pay2
  rw [condition t]
  by_cases ht : t.val < 1
  · have hl : (i : ℕ) < 256 := by omega
    rw [dif_pos hl, ← block1 m c ht (i := ⟨i, hl⟩) hi, ← block3 m c ht (i := ⟨i, hl⟩) hi, if_pos ht]
    rfl
  · have hl : ¬ (i : ℕ) < 256 := by omega
    have e : ((⟨(i : ℕ) - 256, by omega⟩ : Fin 256) : ℕ) + 256 = 256 * t.val + a := by show (i : ℕ) - 256 + 256 = _; omega
    rw [dif_neg hl, ← block2 m c ht e, ← block4 m c ht e, if_neg ht]
    rfl

/-- So are the first moment's, -/
theorem point_mean {i : Fin 512} (hi : (i : ℕ) = 256 * t.val + a) :
    pMean m c t (ix2 a l) = rowMean (inputs m c) i l := by
  unfold rowMean newMean
  rw [← point_grad m c hi, ← block5 m c hi]
  unfold pMean pGrad k0_pay3
  pointwise

/-- the second moment's -/
theorem point_square {i : Fin 512} (hi : (i : ℕ) = 256 * t.val + a) :
    pSquare m c t (ix2 a l) = rowSquare (inputs m c) i l := by
  unfold rowSquare newSquare
  rw [← point_grad m c hi, ← block6 m c hi]
  unfold pSquare pGrad k0_pay4
  pointwise

/-- and the change's. -/
theorem point_change {i : Fin 512} (hi : (i : ℕ) = 256 * t.val + a) :
    pChange m c t (ix2 a l) = rowChange (inputs m c) i l := by
  unfold rowChange weightChange
  rw [← point_mean m c hi, ← point_square m c hi, ← block0 m c hi]
  unfold pMean pSquare pChange k0_pay1 k0_pay5
  pointwise

/-- Where a point's block of a result lies. -/
theorem out_row (t : Fin cfg0.N) (y : S256x256.Idx) :
    ((((cfg0.win 7).blk t).view.emb y 0 : Fin 512) : ℕ) = 256 * t.val + (y 0 : Fin 256)
      ∧ (((cfg0.win 7).blk t).view.emb y 1 : Fin 256) = y 1 := by
  refine ⟨?_, Fin.ext ?_⟩
  · blk_simp [idx_val t]
    omega
  · blk_simp [idx_val t]

/-- The array of the gradient after the run. -/
theorem finalGrad : (dats m 0 c).arrAt 7 cfg0.N = fun j : S512x256.Idx => rowGrad (inputs m c) (j 0) (j 1) := by
  refine (dats m 0 c).arrAt_eq_of_covers 7 _ (by decide +kernel) fun t _ y => ?_
  blk_simp
  rw [after0_7]
  refine Eq.trans (Eq.trans ?_ (point_grad m c (out_row t y).1)) (congrArg (rowGrad (inputs m c) _) (out_row t y).2.symm)
  idx_vars y
  frame_out [out0_7]

/-- The array of the change after the run. -/
theorem finalChange : (dats m 0 c).arrAt 8 cfg0.N = fun j : S512x256.Idx => rowChange (inputs m c) (j 0) (j 1) := by
  refine (dats m 0 c).arrAt_eq_of_covers 8 _ (by decide +kernel) fun t _ y => ?_
  blk_simp
  rw [after0_8]
  refine Eq.trans (Eq.trans ?_ (point_change m c (out_row t y).1)) (congrArg (rowChange (inputs m c) _) (out_row t y).2.symm)
  idx_vars y
  frame_out [out0_8]

/-- The array of the first moment after the run. -/
theorem finalMean : (dats m 0 c).arrAt 9 cfg0.N = fun j : S512x256.Idx => rowMean (inputs m c) (j 0) (j 1) := by
  refine (dats m 0 c).arrAt_eq_of_covers 9 _ (by decide +kernel) fun t _ y => ?_
  blk_simp
  rw [after0_9]
  refine Eq.trans (Eq.trans ?_ (point_mean m c (out_row t y).1)) (congrArg (rowMean (inputs m c) _) (out_row t y).2.symm)
  idx_vars y
  frame_out [out0_9]

/-- The array of the second moment after the run. -/
theorem finalSquare : (dats m 0 c).arrAt 10 cfg0.N = fun j : S512x256.Idx => rowSquare (inputs m c) (j 0) (j 1) := by
  refine (dats m 0 c).arrAt_eq_of_covers 10 _ (by decide +kernel) fun t _ y => ?_
  blk_simp
  rw [after0_10]
  refine Eq.trans (Eq.trans ?_ (point_square m c (out_row t y).1)) (congrArg (rowSquare (inputs m c) _) (out_row t y).2.symm)
  idx_vars y
  frame_out [out0_10]

end Cert.Kernel19Ideal.Product

namespace Cert.Reference19Ideal.Product

open Cert.Reference19Ideal Cert.Reference19Ideal.Gen

/-- The two layers' gradients stacked, read as rows. -/
theorem stacked (x : StepInputs 256 256) (i : Fin 512) (l : Fin 256) :
    (concatenate S2x256x256 0 [⟨S1x256x256, broadcastInDim S1x256x256 ![1, 2] bcast_S256x256_S1x256x256_1_2 (addf x.mine0 x.theirs0)⟩,
        ⟨S1x256x256, broadcastInDim S1x256x256 ![1, 2] bcast_S256x256_S1x256x256_1_2 (addf x.mine1 x.theirs1)⟩]
        concatenates_S1x256x256_S1x256x256_S2x256x256_d0 : FVec Ideal S2x256x256 .f32) (ix3 ⟨(i : ℕ) / 256, by omega⟩ ⟨(i : ℕ) % 256, by omega⟩ l)
      = rowGrad x i l := by
  have hi := i.isLt
  unfold rowGrad
  by_cases h : (i : ℕ) < 256
  · have e0 : (i : ℕ) / 256 = 0 := by omega
    have e1 : (i : ℕ) % 256 = i := by omega
    simp only [dif_pos h, e0, e1]
    pointwise
  · have e0 : (i : ℕ) / 256 = 1 := by omega
    have e1 : (i : ℕ) % 256 = i - 256 := by omega
    simp only [dif_neg h, e0, e1]
    pointwise

end Cert.Reference19Ideal.Product

namespace Cert.Proof

open Cert.Kernel19Ideal.Product

/-- The reference runs, keeps its arguments and leaves no counter raised. -/
theorem frame_reference19 : Cert.quiescent_Reference19Ideal (hReference19Ideal := Cert.Reference19Ideal.Gen.facts) := fun m ρ _ =>
  (θ_run Cert.Reference19Ideal.defs _ _).mono (fun r h => ⟨fun c => (h c).2.2.2.2,
    sem_eq_zero_of_no_sems (by decide) r.2⟩) (Cert.Reference19Ideal.Value.run (F := Ideal) m ρ)

set_option maxHeartbeats 1000000 in
/-- Kernel and reference return the same gradient, change and moments. -/
theorem algebraic19 : Cert.algebraic_Kernel19Ideal_Reference19Ideal (hKernel19Ideal := Cert.Kernel19Ideal.Gen.facts)
    (hReference19Ideal := Cert.Reference19Ideal.Gen.facts) := fun m ρ m' ρ' _ hag => by
  refine ⟨_, _, _, _, (θ_run Cert.Kernel19Ideal.defs _ _).mono (fun _ h c => ⟨(h c).1.trans (finalGrad m c), (h c).2.1.trans (finalChange m c),
    (h c).2.2.1.trans (finalMean m c), (h c).2.2.2.1.trans (finalSquare m c), (h c).2.2.2.2⟩) (Cert.Kernel19Ideal.Value.run_blocks (F := Ideal) m ρ), ?_⟩
  refine (θ_run Cert.Reference19Ideal.defs _ _).mono (fun r h c => ⟨(h c).1.trans ?_, (h c).2.1.trans ?_, (h c).2.2.1.trans ?_,
    (h c).2.2.2.1.trans ?_, (h c).2.2.2.2⟩) (Cert.Reference19Ideal.Value.run (F := Ideal) m' ρ')
  all_goals
    clear h
    obtain ⟨a0, a1, a2, a3, a4, a5, a6⟩ := hag c
    funext j
    have e : inputs m c = ⟨m' (c.tc.loc Cert.Reference19Ideal.main_arg0), m' (c.tc.loc Cert.Reference19Ideal.main_arg1), m' (c.tc.loc Cert.Reference19Ideal.main_arg2), m' (c.tc.loc Cert.Reference19Ideal.main_arg3), m' (c.tc.loc Cert.Reference19Ideal.main_arg4), m' (c.tc.loc Cert.Reference19Ideal.main_arg5), m' (c.tc.loc Cert.Reference19Ideal.main_arg6)⟩ := by
      rw [StepInputs.mk.injEq]
      exact ⟨a0.symm, a1.symm, a2.symm, a3.symm, a4.symm, a5.symm, a6.symm⟩
    rw [e]
    have hs := Cert.Reference19Ideal.Product.stacked ⟨m' (c.tc.loc Cert.Reference19Ideal.main_arg0), m' (c.tc.loc Cert.Reference19Ideal.main_arg1), m' (c.tc.loc Cert.Reference19Ideal.main_arg2), m' (c.tc.loc Cert.Reference19Ideal.main_arg3), m' (c.tc.loc Cert.Reference19Ideal.main_arg4), m' (c.tc.loc Cert.Reference19Ideal.main_arg5), m' (c.tc.loc Cert.Reference19Ideal.main_arg6)⟩
    generalize (concatenate Cert.Reference19Ideal.S2x256x256 0 _ _ : FVec Ideal Cert.Reference19Ideal.S2x256x256 .f32) = g at hs ⊢
    idx_vars j
    pointwise [newMean, newSquare, weightChange, rowOf]
    simp only [hs]

end Cert.Proof

end
-- ==== Proof.Products.AdamWWSsmOut.lean ====
/- AdamW of `w_ssm_out`: kernel and reference return the same gradient, change and moments. -/
module

public import proofs.«01_k».proof.Proof.Products.AdamW
public import proofs.«01_k».proof.Defs
public import proofs.«01_k».proof.Proof.Gen.Kernel20Ideal.Value
public import proofs.«01_k».proof.Proof.Gen.Reference20Ideal.Run

@[expose] public section

set_option maxRecDepth 16384

noncomputable section

open Idealize.ShloMosaic Idealize.ShloMosaic.TcCoe Idealize.SL.Sem Cert.Product

namespace Cert.Kernel20Ideal.Product

open Cert.Kernel20Ideal Cert.Kernel20Ideal.Gen

variable (m : (ℓ : Loc nD τ sig) → Buf (Elt Ideal) ℓ) (c : Dev nD)

/-- The arguments of the call. -/
abbrev inputs : StepInputs 512 256 :=
  ⟨m (c.tc.loc main_arg0), m (c.tc.loc main_arg1), m (c.tc.loc main_arg2), m (c.tc.loc main_arg3), m (c.tc.loc main_arg4), m (c.tc.loc main_arg5), m (c.tc.loc main_arg6)⟩

/-- The blocks: the first layer's halves stay at their last block in the grid's second half, the second layer's at their first
    block in its first half. -/
theorem idx_val : ∀ t : Fin cfg0.N, win0_0.index t = ![t.val, 0] ∧ win0_1.index t = ![min t.val 1, 0]
    ∧ win0_2.index t = ![t.val - 2, 0] ∧ win0_3.index t = ![min t.val 1, 0] ∧ win0_4.index t = ![t.val - 2, 0]
    ∧ win0_5.index t = ![t.val, 0] ∧ win0_6.index t = ![t.val, 0] ∧ win0_7.index t = ![t.val, 0] ∧ win0_8.index t = ![t.val, 0]
    ∧ win0_9.index t = ![t.val, 0] ∧ win0_10.index t = ![t.val, 0] :=
  (by decide +kernel : ∀ t : Fin grid0.N, _)

variable {t : Fin cfg0.N} {a : Fin 256} {l : Fin 256}

/-- The host's reshape lays the two layers one after the other. -/
theorem cast_row (w : FVec Ideal S2x512x256 .f32) (i : Fin 1024) :
    (shapeCast S1024x256 w shapeCasts_S2x512x256_S1024x256 : FVec Ideal S1024x256 .f32) (ix2 i l) = rowOf w i l := by
  pointwise [rowOf]

/-- A block of the weight. -/
theorem block0 {i : Fin 1024} (hi : (i : ℕ) = 256 * t.val + a) :
    (iblk m c 0 t : FVec Ideal S256x256 .f32) (ix2 a l) = rowOf (inputs m c).weight i l := by
  unfold iblk
  entry_read
  refine Eq.trans (congrArg (shapeCast S1024x256 (inputs m c).weight shapeCasts_S2x512x256_S1024x256 : S1024x256.Idx → EReal) (?_ : _ = ix2 i l)) (cast_row _ i)
  rw [show i = ⟨256 * t.val + a, by omega⟩ from Fin.ext hi]
  blk_ext [idx_val t]

/-- A block of the first moment. -/
theorem block5 {i : Fin 1024} (hi : (i : ℕ) = 256 * t.val + a) :
    (iblk m c 5 t : FVec Ideal S256x256 .f32) (ix2 a l) = rowOf (inputs m c).mean i l := by
  unfold iblk
  entry_read
  refine Eq.trans (congrArg (shapeCast S1024x256 (inputs m c).mean shapeCasts_S2x512x256_S1024x256 : S1024x256.Idx → EReal) (?_ : _ = ix2 i l)) (cast_row _ i)
  rw [show i = ⟨256 * t.val + a, by omega⟩ from Fin.ext hi]
  blk_ext [idx_val t]

/-- A block of the second moment. -/
theorem block6 {i : Fin 1024} (hi : (i : ℕ) = 256 * t.val + a) :
    (iblk m c 6 t : FVec Ideal S256x256 .f32) (ix2 a l) = rowOf (inputs m c).square i l := by
  unfold iblk
  entry_read
  refine Eq.trans (congrArg (shapeCast S1024x256 (inputs m c).square shapeCasts_S2x512x256_S1024x256 : S1024x256.Idx → EReal) (?_ : _ = ix2 i l)) (cast_row _ i)
  rw [show i = ⟨256 * t.val + a, by omega⟩ from Fin.ext hi]
  blk_ext [idx_val t]

/-- A block of a half of the first layer's gradient. -/
theorem block1 (ht : t.val < 2) {i : Fin 512} (hi : (i : ℕ) = 256 * t.val + a) :
    (iblk m c 1 t : FVec Ideal S256x256 .f32) (ix2 a l) = (inputs m c).mine0 (ix2 i l) := by
  rw [show i = ⟨256 * (min t.val 1) + a, by omega⟩ from Fin.ext (by show (i : ℕ) = 256 * (min t.val 1) + a; omega)]
  blk_ext [iblk, V, idx_val t]

/-- A block of a half of the second layer's gradient. -/
theorem block2 (ht : ¬ t.val < 2) {i : Fin 512} (hi : (i : ℕ) + 512 = 256 * t.val + a) :
    (iblk m c 2 t : FVec Ideal S256x256 .f32) (ix2 a l) = (inputs m c).mine1 (ix2 i l) := by
  rw [show i = ⟨256 * (t.val - 2) + a, by omega⟩ from Fin.ext (by show (i : ℕ) = 256 * (t.val - 2) + a; omega)]
  blk_ext [iblk, V, idx_val t]

/-- A block of a half of the first layer's gradient. -/
theorem block3 (ht : t.val < 2) {i : Fin 512} (hi : (i : ℕ) = 256 * t.val + a) :
    (iblk m c 3 t : FVec Ideal S256x256 .f32) (ix2 a l) = (inputs m c).theirs0 (ix2 i l) := by
  rw [show i = ⟨256 * (min t.val 1) + a, by omega⟩ from Fin.ext (by show (i : ℕ) = 256 * (min t.val 1) + a; omega)]
  blk_ext [iblk, V, idx_val t]

/-- A block of a half of the second layer's gradient. -/
theorem block4 (ht : ¬ t.val < 2) {i : Fin 512} (hi : (i : ℕ) + 512 = 256 * t.val + a) :
    (iblk m c 4 t : FVec Ideal S256x256 .f32) (ix2 a l) = (inputs m c).theirs1 (ix2 i l) := by
  rw [show i = ⟨256 * (t.val - 2) + a, by omega⟩ from Fin.ext (by show (i : ℕ) = 256 * (t.val - 2) + a; omega)]
  blk_ext [iblk, V, idx_val t]

/-- The kernel's condition, true in the first half of the grid. -/
theorem condition : ∀ t : Fin cfg0.N, Scalar.cmpi .slt (BitVec.ofNat 32 ((grid0.coords t) 0).val) 2#32 = if t.val < 2 then 1#1 else 0#1 :=
  (by decide +kernel : ∀ t : Fin grid0.N, _)

/-- The gradient that a point computes of its blocks. -/
abbrev pGrad (t : Fin cfg0.N) : FVec Ideal S256x256 .f32 :=
  k0_pay2 (grid0.coords t) (iblk m c 1 t) (iblk m c 2 t) (iblk m c 3 t) (iblk m c 4 t)

/-- The first moment that it computes. -/
abbrev pMean (t : Fin cfg0.N) : FVec Ideal S256x256 .f32 :=
  k0_pay3 (grid0.coords t) (iblk m c 1 t) (iblk m c 2 t) (iblk m c 3 t) (iblk m c 4 t) (iblk m c 5 t)

/-- The second moment that it computes. -/
abbrev pSquare (t : Fin cfg0.N) : FVec Ideal S256x256 .f32 :=
  k0_pay4 (grid0.coords t) (iblk m c 1 t) (iblk m c 2 t) (iblk m c 3 t) (iblk m c 4 t) (iblk m c 6 t)

/-- The change that it computes. -/
abbrev pChange (t : Fin cfg0.N) : FVec Ideal S256x256 .f32 :=
  k0_pay1 (k0_pay5 (grid0.coords t) (iblk m c 1 t) (iblk m c 2 t) (iblk m c 3 t) (iblk m c 4 t) (iblk m c 5 t) (iblk m c 6 t)) (iblk m c 0 t)

/-- A point's gradient is its rows of the gradient. -/
theorem point_grad {i : Fin 1024} (hi : (i : ℕ) = 256 * t.val + a) :
    pGrad m c t (ix2 a l) = rowGrad (inputs m c) i l := by
  have ha := a.isLt
  unfold rowGrad pGrad k0_pay2
  rw [condition t]
  by_cases ht : t.val < 2
  · have hl : (i : ℕ) < 512 := by omega
    rw [dif_pos hl, ← block1 m c ht (i := ⟨i, hl⟩) hi, ← block3 m c ht (i := ⟨i, hl⟩) hi, if_pos ht]
    rfl
  · have hl : ¬ (i : ℕ) < 512 := by omega
    have e : ((⟨(i : ℕ) - 512, by omega⟩ : Fin 512) : ℕ) + 512 = 256 * t.val + a := by show (i : ℕ) - 512 + 512 = _; omega
    rw [dif_neg hl, ← block2 m c ht e, ← block4 m c ht e, if_neg ht]
    rfl

/-- So are the first moment's, -/
theorem point_mean {i : Fin 1024} (hi : (i : ℕ) = 256 * t.val + a) :
    pMean m c t (ix2 a l) = rowMean (inputs m c) i l := by
  unfold rowMean newMean
  rw [← point_grad m c hi, ← block5 m c hi]
  unfold pMean pGrad k0_pay3
  pointwise

/-- the second moment's -/
theorem point_square {i : Fin 1024} (hi : (i : ℕ) = 256 * t.val + a) :
    pSquare m c t (ix2 a l) = rowSquare (inputs m c) i l := by
  unfold rowSquare newSquare
  rw [← point_grad m c hi, ← block6 m c hi]
  unfold pSquare pGrad k0_pay4
  pointwise

/-- and the change's. -/
theorem point_change {i : Fin 1024} (hi : (i : ℕ) = 256 * t.val + a) :
    pChange m c t (ix2 a l) = rowChange (inputs m c) i l := by
  unfold rowChange weightChange
  rw [← point_mean m c hi, ← point_square m c hi, ← block0 m c hi]
  unfold pMean pSquare pChange k0_pay1 k0_pay5
  pointwise

/-- Where a point's block of a result lies. -/
theorem out_row (t : Fin cfg0.N) (y : S256x256.Idx) :
    ((((cfg0.win 7).blk t).view.emb y 0 : Fin 1024) : ℕ) = 256 * t.val + (y 0 : Fin 256)
      ∧ (((cfg0.win 7).blk t).view.emb y 1 : Fin 256) = y 1 := by
  refine ⟨?_, Fin.ext ?_⟩
  · blk_simp [idx_val t]
    omega
  · blk_simp [idx_val t]

/-- The array of the gradient after the run. -/
theorem finalGrad : (dats m 0 c).arrAt 7 cfg0.N = fun j : S1024x256.Idx => rowGrad (inputs m c) (j 0) (j 1) := by
  refine (dats m 0 c).arrAt_eq_of_covers 7 _ (by decide +kernel) fun t _ y => ?_
  blk_simp
  rw [after0_7]
  refine Eq.trans (Eq.trans ?_ (point_grad m c (out_row t y).1)) (congrArg (rowGrad (inputs m c) _) (out_row t y).2.symm)
  idx_vars y
  frame_out [out0_7]

/-- The array of the change after the run. -/
theorem finalChange : (dats m 0 c).arrAt 8 cfg0.N = fun j : S1024x256.Idx => rowChange (inputs m c) (j 0) (j 1) := by
  refine (dats m 0 c).arrAt_eq_of_covers 8 _ (by decide +kernel) fun t _ y => ?_
  blk_simp
  rw [after0_8]
  refine Eq.trans (Eq.trans ?_ (point_change m c (out_row t y).1)) (congrArg (rowChange (inputs m c) _) (out_row t y).2.symm)
  idx_vars y
  frame_out [out0_8]

/-- The array of the first moment after the run. -/
theorem finalMean : (dats m 0 c).arrAt 9 cfg0.N = fun j : S1024x256.Idx => rowMean (inputs m c) (j 0) (j 1) := by
  refine (dats m 0 c).arrAt_eq_of_covers 9 _ (by decide +kernel) fun t _ y => ?_
  blk_simp
  rw [after0_9]
  refine Eq.trans (Eq.trans ?_ (point_mean m c (out_row t y).1)) (congrArg (rowMean (inputs m c) _) (out_row t y).2.symm)
  idx_vars y
  frame_out [out0_9]

/-- The array of the second moment after the run. -/
theorem finalSquare : (dats m 0 c).arrAt 10 cfg0.N = fun j : S1024x256.Idx => rowSquare (inputs m c) (j 0) (j 1) := by
  refine (dats m 0 c).arrAt_eq_of_covers 10 _ (by decide +kernel) fun t _ y => ?_
  blk_simp
  rw [after0_10]
  refine Eq.trans (Eq.trans ?_ (point_square m c (out_row t y).1)) (congrArg (rowSquare (inputs m c) _) (out_row t y).2.symm)
  idx_vars y
  frame_out [out0_10]

end Cert.Kernel20Ideal.Product

namespace Cert.Reference20Ideal.Product

open Cert.Reference20Ideal Cert.Reference20Ideal.Gen

/-- The two layers' gradients stacked, read as rows. -/
theorem stacked (x : StepInputs 512 256) (i : Fin 1024) (l : Fin 256) :
    (concatenate S2x512x256 0 [⟨S1x512x256, broadcastInDim S1x512x256 ![1, 2] bcast_S512x256_S1x512x256_1_2 (addf x.mine0 x.theirs0)⟩,
        ⟨S1x512x256, broadcastInDim S1x512x256 ![1, 2] bcast_S512x256_S1x512x256_1_2 (addf x.mine1 x.theirs1)⟩]
        concatenates_S1x512x256_S1x512x256_S2x512x256_d0 : FVec Ideal S2x512x256 .f32) (ix3 ⟨(i : ℕ) / 512, by omega⟩ ⟨(i : ℕ) % 512, by omega⟩ l)
      = rowGrad x i l := by
  have hi := i.isLt
  unfold rowGrad
  by_cases h : (i : ℕ) < 512
  · have e0 : (i : ℕ) / 512 = 0 := by omega
    have e1 : (i : ℕ) % 512 = i := by omega
    simp only [dif_pos h, e0, e1]
    pointwise
  · have e0 : (i : ℕ) / 512 = 1 := by omega
    have e1 : (i : ℕ) % 512 = i - 512 := by omega
    simp only [dif_neg h, e0, e1]
    pointwise

end Cert.Reference20Ideal.Product

namespace Cert.Proof

open Cert.Kernel20Ideal.Product

/-- The reference runs, keeps its arguments and leaves no counter raised. -/
theorem frame_reference20 : Cert.quiescent_Reference20Ideal (hReference20Ideal := Cert.Reference20Ideal.Gen.facts) := fun m ρ _ =>
  (θ_run Cert.Reference20Ideal.defs _ _).mono (fun r h => ⟨fun c => (h c).2.2.2.2,
    sem_eq_zero_of_no_sems (by decide) r.2⟩) (Cert.Reference20Ideal.Value.run (F := Ideal) m ρ)

set_option maxHeartbeats 1000000 in
/-- Kernel and reference return the same gradient, change and moments. -/
theorem algebraic20 : Cert.algebraic_Kernel20Ideal_Reference20Ideal (hKernel20Ideal := Cert.Kernel20Ideal.Gen.facts)
    (hReference20Ideal := Cert.Reference20Ideal.Gen.facts) := fun m ρ m' ρ' _ hag => by
  refine ⟨_, _, _, _, (θ_run Cert.Kernel20Ideal.defs _ _).mono (fun _ h c => ⟨(h c).1.trans (finalGrad m c), (h c).2.1.trans (finalChange m c),
    (h c).2.2.1.trans (finalMean m c), (h c).2.2.2.1.trans (finalSquare m c), (h c).2.2.2.2⟩) (Cert.Kernel20Ideal.Value.run_blocks (F := Ideal) m ρ), ?_⟩
  refine (θ_run Cert.Reference20Ideal.defs _ _).mono (fun r h c => ⟨(h c).1.trans ?_, (h c).2.1.trans ?_, (h c).2.2.1.trans ?_,
    (h c).2.2.2.1.trans ?_, (h c).2.2.2.2⟩) (Cert.Reference20Ideal.Value.run (F := Ideal) m' ρ')
  all_goals
    clear h
    obtain ⟨a0, a1, a2, a3, a4, a5, a6⟩ := hag c
    funext j
    have e : inputs m c = ⟨m' (c.tc.loc Cert.Reference20Ideal.main_arg0), m' (c.tc.loc Cert.Reference20Ideal.main_arg1), m' (c.tc.loc Cert.Reference20Ideal.main_arg2), m' (c.tc.loc Cert.Reference20Ideal.main_arg3), m' (c.tc.loc Cert.Reference20Ideal.main_arg4), m' (c.tc.loc Cert.Reference20Ideal.main_arg5), m' (c.tc.loc Cert.Reference20Ideal.main_arg6)⟩ := by
      rw [StepInputs.mk.injEq]
      exact ⟨a0.symm, a1.symm, a2.symm, a3.symm, a4.symm, a5.symm, a6.symm⟩
    rw [e]
    have hs := Cert.Reference20Ideal.Product.stacked ⟨m' (c.tc.loc Cert.Reference20Ideal.main_arg0), m' (c.tc.loc Cert.Reference20Ideal.main_arg1), m' (c.tc.loc Cert.Reference20Ideal.main_arg2), m' (c.tc.loc Cert.Reference20Ideal.main_arg3), m' (c.tc.loc Cert.Reference20Ideal.main_arg4), m' (c.tc.loc Cert.Reference20Ideal.main_arg5), m' (c.tc.loc Cert.Reference20Ideal.main_arg6)⟩
    generalize (concatenate Cert.Reference20Ideal.S2x512x256 0 _ _ : FVec Ideal Cert.Reference20Ideal.S2x512x256 .f32) = g at hs ⊢
    idx_vars j
    pointwise [newMean, newSquare, weightChange, rowOf]
    simp only [hs]

end Cert.Proof

end
-- ==== Proof.Products.AdamWWFfnIn.lean ====
/- AdamW of `w_ffn_in`: kernel and reference return the same gradient, change and moments. -/
module

public import proofs.«01_k».proof.Proof.Products.AdamW
public import proofs.«01_k».proof.Defs
public import proofs.«01_k».proof.Proof.Gen.Kernel21Ideal.Value
public import proofs.«01_k».proof.Proof.Gen.Reference21Ideal.Run

@[expose] public section

set_option maxRecDepth 16384

noncomputable section

open Idealize.ShloMosaic Idealize.ShloMosaic.TcCoe Idealize.SL.Sem Cert.Product

namespace Cert.Kernel21Ideal.Product

open Cert.Kernel21Ideal Cert.Kernel21Ideal.Gen

variable (m : (ℓ : Loc nD τ sig) → Buf (Elt Ideal) ℓ) (c : Dev nD)

/-- The arguments of the call. -/
abbrev inputs : StepInputs 1024 1408 :=
  ⟨m (c.tc.loc main_arg0), m (c.tc.loc main_arg1), m (c.tc.loc main_arg2), m (c.tc.loc main_arg3), m (c.tc.loc main_arg4), m (c.tc.loc main_arg5), m (c.tc.loc main_arg6)⟩

/-- The blocks: the first layer's halves stay at their last block in the grid's second half, the second layer's at their first
    block in its first half. -/
theorem idx_val : ∀ t : Fin cfg0.N, win0_0.index t = ![t.val, 0] ∧ win0_1.index t = ![min t.val 3, 0]
    ∧ win0_2.index t = ![t.val - 4, 0] ∧ win0_3.index t = ![min t.val 3, 0] ∧ win0_4.index t = ![t.val - 4, 0]
    ∧ win0_5.index t = ![t.val, 0] ∧ win0_6.index t = ![t.val, 0] ∧ win0_7.index t = ![t.val, 0] ∧ win0_8.index t = ![t.val, 0]
    ∧ win0_9.index t = ![t.val, 0] ∧ win0_10.index t = ![t.val, 0] :=
  (by decide +kernel : ∀ t : Fin grid0.N, _)

variable {t : Fin cfg0.N} {a : Fin 256} {l : Fin 1408}

/-- The host's reshape lays the two layers one after the other. -/
theorem cast_row (w : FVec Ideal S2x1024x1408 .f32) (i : Fin 2048) :
    (shapeCast S2048x1408 w shapeCasts_S2x1024x1408_S2048x1408 : FVec Ideal S2048x1408 .f32) (ix2 i l) = rowOf w i l := by
  pointwise [rowOf]

/-- A block of the weight. -/
theorem block0 {i : Fin 2048} (hi : (i : ℕ) = 256 * t.val + a) :
    (iblk m c 0 t : FVec Ideal S256x1408 .f32) (ix2 a l) = rowOf (inputs m c).weight i l := by
  unfold iblk
  entry_read
  refine Eq.trans (congrArg (shapeCast S2048x1408 (inputs m c).weight shapeCasts_S2x1024x1408_S2048x1408 : S2048x1408.Idx → EReal) (?_ : _ = ix2 i l)) (cast_row _ i)
  rw [show i = ⟨256 * t.val + a, by omega⟩ from Fin.ext hi]
  blk_ext [idx_val t]

/-- A block of the first moment. -/
theorem block5 {i : Fin 2048} (hi : (i : ℕ) = 256 * t.val + a) :
    (iblk m c 5 t : FVec Ideal S256x1408 .f32) (ix2 a l) = rowOf (inputs m c).mean i l := by
  unfold iblk
  entry_read
  refine Eq.trans (congrArg (shapeCast S2048x1408 (inputs m c).mean shapeCasts_S2x1024x1408_S2048x1408 : S2048x1408.Idx → EReal) (?_ : _ = ix2 i l)) (cast_row _ i)
  rw [show i = ⟨256 * t.val + a, by omega⟩ from Fin.ext hi]
  blk_ext [idx_val t]

/-- A block of the second moment. -/
theorem block6 {i : Fin 2048} (hi : (i : ℕ) = 256 * t.val + a) :
    (iblk m c 6 t : FVec Ideal S256x1408 .f32) (ix2 a l) = rowOf (inputs m c).square i l := by
  unfold iblk
  entry_read
  refine Eq.trans (congrArg (shapeCast S2048x1408 (inputs m c).square shapeCasts_S2x1024x1408_S2048x1408 : S2048x1408.Idx → EReal) (?_ : _ = ix2 i l)) (cast_row _ i)
  rw [show i = ⟨256 * t.val + a, by omega⟩ from Fin.ext hi]
  blk_ext [idx_val t]

/-- A block of a half of the first layer's gradient. -/
theorem block1 (ht : t.val < 4) {i : Fin 1024} (hi : (i : ℕ) = 256 * t.val + a) :
    (iblk m c 1 t : FVec Ideal S256x1408 .f32) (ix2 a l) = (inputs m c).mine0 (ix2 i l) := by
  rw [show i = ⟨256 * (min t.val 3) + a, by omega⟩ from Fin.ext (by show (i : ℕ) = 256 * (min t.val 3) + a; omega)]
  blk_ext [iblk, V, idx_val t]

/-- A block of a half of the second layer's gradient. -/
theorem block2 (ht : ¬ t.val < 4) {i : Fin 1024} (hi : (i : ℕ) + 1024 = 256 * t.val + a) :
    (iblk m c 2 t : FVec Ideal S256x1408 .f32) (ix2 a l) = (inputs m c).mine1 (ix2 i l) := by
  rw [show i = ⟨256 * (t.val - 4) + a, by omega⟩ from Fin.ext (by show (i : ℕ) = 256 * (t.val - 4) + a; omega)]
  blk_ext [iblk, V, idx_val t]

/-- A block of a half of the first layer's gradient. -/
theorem block3 (ht : t.val < 4) {i : Fin 1024} (hi : (i : ℕ) = 256 * t.val + a) :
    (iblk m c 3 t : FVec Ideal S256x1408 .f32) (ix2 a l) = (inputs m c).theirs0 (ix2 i l) := by
  rw [show i = ⟨256 * (min t.val 3) + a, by omega⟩ from Fin.ext (by show (i : ℕ) = 256 * (min t.val 3) + a; omega)]
  blk_ext [iblk, V, idx_val t]

/-- A block of a half of the second layer's gradient. -/
theorem block4 (ht : ¬ t.val < 4) {i : Fin 1024} (hi : (i : ℕ) + 1024 = 256 * t.val + a) :
    (iblk m c 4 t : FVec Ideal S256x1408 .f32) (ix2 a l) = (inputs m c).theirs1 (ix2 i l) := by
  rw [show i = ⟨256 * (t.val - 4) + a, by omega⟩ from Fin.ext (by show (i : ℕ) = 256 * (t.val - 4) + a; omega)]
  blk_ext [iblk, V, idx_val t]

/-- The kernel's condition, true in the first half of the grid. -/
theorem condition : ∀ t : Fin cfg0.N, Scalar.cmpi .slt (BitVec.ofNat 32 ((grid0.coords t) 0).val) 4#32 = if t.val < 4 then 1#1 else 0#1 :=
  (by decide +kernel : ∀ t : Fin grid0.N, _)

/-- The gradient that a point computes of its blocks. -/
abbrev pGrad (t : Fin cfg0.N) : FVec Ideal S256x1408 .f32 :=
  k0_pay2 (grid0.coords t) (iblk m c 1 t) (iblk m c 2 t) (iblk m c 3 t) (iblk m c 4 t)

/-- The first moment that it computes. -/
abbrev pMean (t : Fin cfg0.N) : FVec Ideal S256x1408 .f32 :=
  k0_pay3 (grid0.coords t) (iblk m c 1 t) (iblk m c 2 t) (iblk m c 3 t) (iblk m c 4 t) (iblk m c 5 t)

/-- The second moment that it computes. -/
abbrev pSquare (t : Fin cfg0.N) : FVec Ideal S256x1408 .f32 :=
  k0_pay4 (grid0.coords t) (iblk m c 1 t) (iblk m c 2 t) (iblk m c 3 t) (iblk m c 4 t) (iblk m c 6 t)

/-- The change that it computes. -/
abbrev pChange (t : Fin cfg0.N) : FVec Ideal S256x1408 .f32 :=
  k0_pay1 (k0_pay5 (grid0.coords t) (iblk m c 1 t) (iblk m c 2 t) (iblk m c 3 t) (iblk m c 4 t) (iblk m c 5 t) (iblk m c 6 t)) (iblk m c 0 t)

/-- A point's gradient is its rows of the gradient. -/
theorem point_grad {i : Fin 2048} (hi : (i : ℕ) = 256 * t.val + a) :
    pGrad m c t (ix2 a l) = rowGrad (inputs m c) i l := by
  have ha := a.isLt
  unfold rowGrad pGrad k0_pay2
  rw [condition t]
  by_cases ht : t.val < 4
  · have hl : (i : ℕ) < 1024 := by omega
    rw [dif_pos hl, ← block1 m c ht (i := ⟨i, hl⟩) hi, ← block3 m c ht (i := ⟨i, hl⟩) hi, if_pos ht]
    rfl
  · have hl : ¬ (i : ℕ) < 1024 := by omega
    have e : ((⟨(i : ℕ) - 1024, by omega⟩ : Fin 1024) : ℕ) + 1024 = 256 * t.val + a := by show (i : ℕ) - 1024 + 1024 = _; omega
    rw [dif_neg hl, ← block2 m c ht e, ← block4 m c ht e, if_neg ht]
    rfl

/-- So are the first moment's, -/
theorem point_mean {i : Fin 2048} (hi : (i : ℕ) = 256 * t.val + a) :
    pMean m c t (ix2 a l) = rowMean (inputs m c) i l := by
  unfold rowMean newMean
  rw [← point_grad m c hi, ← block5 m c hi]
  unfold pMean pGrad k0_pay3
  pointwise

/-- the second moment's -/
theorem point_square {i : Fin 2048} (hi : (i : ℕ) = 256 * t.val + a) :
    pSquare m c t (ix2 a l) = rowSquare (inputs m c) i l := by
  unfold rowSquare newSquare
  rw [← point_grad m c hi, ← block6 m c hi]
  unfold pSquare pGrad k0_pay4
  pointwise

/-- and the change's. -/
theorem point_change {i : Fin 2048} (hi : (i : ℕ) = 256 * t.val + a) :
    pChange m c t (ix2 a l) = rowChange (inputs m c) i l := by
  unfold rowChange weightChange
  rw [← point_mean m c hi, ← point_square m c hi, ← block0 m c hi]
  unfold pMean pSquare pChange k0_pay1 k0_pay5
  pointwise

/-- Where a point's block of a result lies. -/
theorem out_row (t : Fin cfg0.N) (y : S256x1408.Idx) :
    ((((cfg0.win 7).blk t).view.emb y 0 : Fin 2048) : ℕ) = 256 * t.val + (y 0 : Fin 256)
      ∧ (((cfg0.win 7).blk t).view.emb y 1 : Fin 1408) = y 1 := by
  refine ⟨?_, Fin.ext ?_⟩
  · blk_simp [idx_val t]
    omega
  · blk_simp [idx_val t]

/-- The array of the gradient after the run. -/
theorem finalGrad : (dats m 0 c).arrAt 7 cfg0.N = fun j : S2048x1408.Idx => rowGrad (inputs m c) (j 0) (j 1) := by
  refine (dats m 0 c).arrAt_eq_of_covers 7 _ (by decide +kernel) fun t _ y => ?_
  blk_simp
  rw [after0_7]
  refine Eq.trans (Eq.trans ?_ (point_grad m c (out_row t y).1)) (congrArg (rowGrad (inputs m c) _) (out_row t y).2.symm)
  idx_vars y
  frame_out [out0_7]

/-- The array of the change after the run. -/
theorem finalChange : (dats m 0 c).arrAt 8 cfg0.N = fun j : S2048x1408.Idx => rowChange (inputs m c) (j 0) (j 1) := by
  refine (dats m 0 c).arrAt_eq_of_covers 8 _ (by decide +kernel) fun t _ y => ?_
  blk_simp
  rw [after0_8]
  refine Eq.trans (Eq.trans ?_ (point_change m c (out_row t y).1)) (congrArg (rowChange (inputs m c) _) (out_row t y).2.symm)
  idx_vars y
  frame_out [out0_8]

/-- The array of the first moment after the run. -/
theorem finalMean : (dats m 0 c).arrAt 9 cfg0.N = fun j : S2048x1408.Idx => rowMean (inputs m c) (j 0) (j 1) := by
  refine (dats m 0 c).arrAt_eq_of_covers 9 _ (by decide +kernel) fun t _ y => ?_
  blk_simp
  rw [after0_9]
  refine Eq.trans (Eq.trans ?_ (point_mean m c (out_row t y).1)) (congrArg (rowMean (inputs m c) _) (out_row t y).2.symm)
  idx_vars y
  frame_out [out0_9]

/-- The array of the second moment after the run. -/
theorem finalSquare : (dats m 0 c).arrAt 10 cfg0.N = fun j : S2048x1408.Idx => rowSquare (inputs m c) (j 0) (j 1) := by
  refine (dats m 0 c).arrAt_eq_of_covers 10 _ (by decide +kernel) fun t _ y => ?_
  blk_simp
  rw [after0_10]
  refine Eq.trans (Eq.trans ?_ (point_square m c (out_row t y).1)) (congrArg (rowSquare (inputs m c) _) (out_row t y).2.symm)
  idx_vars y
  frame_out [out0_10]

end Cert.Kernel21Ideal.Product

namespace Cert.Reference21Ideal.Product

open Cert.Reference21Ideal Cert.Reference21Ideal.Gen

/-- The two layers' gradients stacked, read as rows. -/
theorem stacked (x : StepInputs 1024 1408) (i : Fin 2048) (l : Fin 1408) :
    (concatenate S2x1024x1408 0 [⟨S1x1024x1408, broadcastInDim S1x1024x1408 ![1, 2] bcast_S1024x1408_S1x1024x1408_1_2 (addf x.mine0 x.theirs0)⟩,
        ⟨S1x1024x1408, broadcastInDim S1x1024x1408 ![1, 2] bcast_S1024x1408_S1x1024x1408_1_2 (addf x.mine1 x.theirs1)⟩]
        concatenates_S1x1024x1408_S1x1024x1408_S2x1024x1408_d0 : FVec Ideal S2x1024x1408 .f32) (ix3 ⟨(i : ℕ) / 1024, by omega⟩ ⟨(i : ℕ) % 1024, by omega⟩ l)
      = rowGrad x i l := by
  have hi := i.isLt
  unfold rowGrad
  by_cases h : (i : ℕ) < 1024
  · have e0 : (i : ℕ) / 1024 = 0 := by omega
    have e1 : (i : ℕ) % 1024 = i := by omega
    simp only [dif_pos h, e0, e1]
    pointwise
  · have e0 : (i : ℕ) / 1024 = 1 := by omega
    have e1 : (i : ℕ) % 1024 = i - 1024 := by omega
    simp only [dif_neg h, e0, e1]
    pointwise

end Cert.Reference21Ideal.Product

namespace Cert.Proof

open Cert.Kernel21Ideal.Product

/-- The reference runs, keeps its arguments and leaves no counter raised. -/
theorem frame_reference21 : Cert.quiescent_Reference21Ideal (hReference21Ideal := Cert.Reference21Ideal.Gen.facts) := fun m ρ _ =>
  (θ_run Cert.Reference21Ideal.defs _ _).mono (fun r h => ⟨fun c => (h c).2.2.2.2,
    sem_eq_zero_of_no_sems (by decide) r.2⟩) (Cert.Reference21Ideal.Value.run (F := Ideal) m ρ)

set_option maxHeartbeats 1000000 in
/-- Kernel and reference return the same gradient, change and moments. -/
theorem algebraic21 : Cert.algebraic_Kernel21Ideal_Reference21Ideal (hKernel21Ideal := Cert.Kernel21Ideal.Gen.facts)
    (hReference21Ideal := Cert.Reference21Ideal.Gen.facts) := fun m ρ m' ρ' _ hag => by
  refine ⟨_, _, _, _, (θ_run Cert.Kernel21Ideal.defs _ _).mono (fun _ h c => ⟨(h c).1.trans (finalGrad m c), (h c).2.1.trans (finalChange m c),
    (h c).2.2.1.trans (finalMean m c), (h c).2.2.2.1.trans (finalSquare m c), (h c).2.2.2.2⟩) (Cert.Kernel21Ideal.Value.run_blocks (F := Ideal) m ρ), ?_⟩
  refine (θ_run Cert.Reference21Ideal.defs _ _).mono (fun r h c => ⟨(h c).1.trans ?_, (h c).2.1.trans ?_, (h c).2.2.1.trans ?_,
    (h c).2.2.2.1.trans ?_, (h c).2.2.2.2⟩) (Cert.Reference21Ideal.Value.run (F := Ideal) m' ρ')
  all_goals
    clear h
    obtain ⟨a0, a1, a2, a3, a4, a5, a6⟩ := hag c
    funext j
    have e : inputs m c = ⟨m' (c.tc.loc Cert.Reference21Ideal.main_arg0), m' (c.tc.loc Cert.Reference21Ideal.main_arg1), m' (c.tc.loc Cert.Reference21Ideal.main_arg2), m' (c.tc.loc Cert.Reference21Ideal.main_arg3), m' (c.tc.loc Cert.Reference21Ideal.main_arg4), m' (c.tc.loc Cert.Reference21Ideal.main_arg5), m' (c.tc.loc Cert.Reference21Ideal.main_arg6)⟩ := by
      rw [StepInputs.mk.injEq]
      exact ⟨a0.symm, a1.symm, a2.symm, a3.symm, a4.symm, a5.symm, a6.symm⟩
    rw [e]
    have hs := Cert.Reference21Ideal.Product.stacked ⟨m' (c.tc.loc Cert.Reference21Ideal.main_arg0), m' (c.tc.loc Cert.Reference21Ideal.main_arg1), m' (c.tc.loc Cert.Reference21Ideal.main_arg2), m' (c.tc.loc Cert.Reference21Ideal.main_arg3), m' (c.tc.loc Cert.Reference21Ideal.main_arg4), m' (c.tc.loc Cert.Reference21Ideal.main_arg5), m' (c.tc.loc Cert.Reference21Ideal.main_arg6)⟩
    generalize (concatenate Cert.Reference21Ideal.S2x1024x1408 0 _ _ : FVec Ideal Cert.Reference21Ideal.S2x1024x1408 .f32) = g at hs ⊢
    idx_vars j
    pointwise [newMean, newSquare, weightChange, rowOf]
    simp only [hs]

end Cert.Proof

end
-- ==== Proof.Products.AdamWWFfnOut.lean ====
/- AdamW of `w_ffn_out`: kernel and reference return the same gradient, change and moments. -/
module

public import proofs.«01_k».proof.Proof.Products.AdamW
public import proofs.«01_k».proof.Defs
public import proofs.«01_k».proof.Proof.Gen.Kernel22Ideal.Value
public import proofs.«01_k».proof.Proof.Gen.Reference22Ideal.Run

@[expose] public section

set_option maxRecDepth 16384

noncomputable section

open Idealize.ShloMosaic Idealize.ShloMosaic.TcCoe Idealize.SL.Sem Cert.Product

namespace Cert.Kernel22Ideal.Product

open Cert.Kernel22Ideal Cert.Kernel22Ideal.Gen

variable (m : (ℓ : Loc nD τ sig) → Buf (Elt Ideal) ℓ) (c : Dev nD)

/-- The arguments of the call. -/
abbrev inputs : StepInputs 704 1024 :=
  ⟨m (c.tc.loc main_arg0), m (c.tc.loc main_arg1), m (c.tc.loc main_arg2), m (c.tc.loc main_arg3), m (c.tc.loc main_arg4), m (c.tc.loc main_arg5), m (c.tc.loc main_arg6)⟩

/-- The blocks: the first layer's halves stay at their last block in the grid's second half, the second layer's at their first
    block in its first half. -/
theorem idx_val : ∀ t : Fin cfg0.N, win0_0.index t = ![t.val, 0] ∧ win0_1.index t = ![min t.val 3, 0]
    ∧ win0_2.index t = ![t.val - 4, 0] ∧ win0_3.index t = ![min t.val 3, 0] ∧ win0_4.index t = ![t.val - 4, 0]
    ∧ win0_5.index t = ![t.val, 0] ∧ win0_6.index t = ![t.val, 0] ∧ win0_7.index t = ![t.val, 0] ∧ win0_8.index t = ![t.val, 0]
    ∧ win0_9.index t = ![t.val, 0] ∧ win0_10.index t = ![t.val, 0] :=
  (by decide +kernel : ∀ t : Fin grid0.N, _)

variable {t : Fin cfg0.N} {a : Fin 176} {l : Fin 1024}

/-- The host's reshape lays the two layers one after the other. -/
theorem cast_row (w : FVec Ideal S2x704x1024 .f32) (i : Fin 1408) :
    (shapeCast S1408x1024 w shapeCasts_S2x704x1024_S1408x1024 : FVec Ideal S1408x1024 .f32) (ix2 i l) = rowOf w i l := by
  pointwise [rowOf]

/-- A block of the weight. -/
theorem block0 {i : Fin 1408} (hi : (i : ℕ) = 176 * t.val + a) :
    (iblk m c 0 t : FVec Ideal S176x1024 .f32) (ix2 a l) = rowOf (inputs m c).weight i l := by
  unfold iblk
  entry_read
  refine Eq.trans (congrArg (shapeCast S1408x1024 (inputs m c).weight shapeCasts_S2x704x1024_S1408x1024 : S1408x1024.Idx → EReal) (?_ : _ = ix2 i l)) (cast_row _ i)
  rw [show i = ⟨176 * t.val + a, by omega⟩ from Fin.ext hi]
  blk_ext [idx_val t]

/-- A block of the first moment. -/
theorem block5 {i : Fin 1408} (hi : (i : ℕ) = 176 * t.val + a) :
    (iblk m c 5 t : FVec Ideal S176x1024 .f32) (ix2 a l) = rowOf (inputs m c).mean i l := by
  unfold iblk
  entry_read
  refine Eq.trans (congrArg (shapeCast S1408x1024 (inputs m c).mean shapeCasts_S2x704x1024_S1408x1024 : S1408x1024.Idx → EReal) (?_ : _ = ix2 i l)) (cast_row _ i)
  rw [show i = ⟨176 * t.val + a, by omega⟩ from Fin.ext hi]
  blk_ext [idx_val t]

/-- A block of the second moment. -/
theorem block6 {i : Fin 1408} (hi : (i : ℕ) = 176 * t.val + a) :
    (iblk m c 6 t : FVec Ideal S176x1024 .f32) (ix2 a l) = rowOf (inputs m c).square i l := by
  unfold iblk
  entry_read
  refine Eq.trans (congrArg (shapeCast S1408x1024 (inputs m c).square shapeCasts_S2x704x1024_S1408x1024 : S1408x1024.Idx → EReal) (?_ : _ = ix2 i l)) (cast_row _ i)
  rw [show i = ⟨176 * t.val + a, by omega⟩ from Fin.ext hi]
  blk_ext [idx_val t]

/-- A block of a half of the first layer's gradient. -/
theorem block1 (ht : t.val < 4) {i : Fin 704} (hi : (i : ℕ) = 176 * t.val + a) :
    (iblk m c 1 t : FVec Ideal S176x1024 .f32) (ix2 a l) = (inputs m c).mine0 (ix2 i l) := by
  rw [show i = ⟨176 * (min t.val 3) + a, by omega⟩ from Fin.ext (by show (i : ℕ) = 176 * (min t.val 3) + a; omega)]
  blk_ext [iblk, V, idx_val t]

/-- A block of a half of the second layer's gradient. -/
theorem block2 (ht : ¬ t.val < 4) {i : Fin 704} (hi : (i : ℕ) + 704 = 176 * t.val + a) :
    (iblk m c 2 t : FVec Ideal S176x1024 .f32) (ix2 a l) = (inputs m c).mine1 (ix2 i l) := by
  rw [show i = ⟨176 * (t.val - 4) + a, by omega⟩ from Fin.ext (by show (i : ℕ) = 176 * (t.val - 4) + a; omega)]
  blk_ext [iblk, V, idx_val t]

/-- A block of a half of the first layer's gradient. -/
theorem block3 (ht : t.val < 4) {i : Fin 704} (hi : (i : ℕ) = 176 * t.val + a) :
    (iblk m c 3 t : FVec Ideal S176x1024 .f32) (ix2 a l) = (inputs m c).theirs0 (ix2 i l) := by
  rw [show i = ⟨176 * (min t.val 3) + a, by omega⟩ from Fin.ext (by show (i : ℕ) = 176 * (min t.val 3) + a; omega)]
  blk_ext [iblk, V, idx_val t]

/-- A block of a half of the second layer's gradient. -/
theorem block4 (ht : ¬ t.val < 4) {i : Fin 704} (hi : (i : ℕ) + 704 = 176 * t.val + a) :
    (iblk m c 4 t : FVec Ideal S176x1024 .f32) (ix2 a l) = (inputs m c).theirs1 (ix2 i l) := by
  rw [show i = ⟨176 * (t.val - 4) + a, by omega⟩ from Fin.ext (by show (i : ℕ) = 176 * (t.val - 4) + a; omega)]
  blk_ext [iblk, V, idx_val t]

/-- The kernel's condition, true in the first half of the grid. -/
theorem condition : ∀ t : Fin cfg0.N, Scalar.cmpi .slt (BitVec.ofNat 32 ((grid0.coords t) 0).val) 4#32 = if t.val < 4 then 1#1 else 0#1 :=
  (by decide +kernel : ∀ t : Fin grid0.N, _)

/-- The gradient that a point computes of its blocks. -/
abbrev pGrad (t : Fin cfg0.N) : FVec Ideal S176x1024 .f32 :=
  k0_pay2 (grid0.coords t) (iblk m c 1 t) (iblk m c 2 t) (iblk m c 3 t) (iblk m c 4 t)

/-- The first moment that it computes. -/
abbrev pMean (t : Fin cfg0.N) : FVec Ideal S176x1024 .f32 :=
  k0_pay3 (grid0.coords t) (iblk m c 1 t) (iblk m c 2 t) (iblk m c 3 t) (iblk m c 4 t) (iblk m c 5 t)

/-- The second moment that it computes. -/
abbrev pSquare (t : Fin cfg0.N) : FVec Ideal S176x1024 .f32 :=
  k0_pay4 (grid0.coords t) (iblk m c 1 t) (iblk m c 2 t) (iblk m c 3 t) (iblk m c 4 t) (iblk m c 6 t)

/-- The change that it computes. -/
abbrev pChange (t : Fin cfg0.N) : FVec Ideal S176x1024 .f32 :=
  k0_pay1 (k0_pay5 (grid0.coords t) (iblk m c 1 t) (iblk m c 2 t) (iblk m c 3 t) (iblk m c 4 t) (iblk m c 5 t) (iblk m c 6 t)) (iblk m c 0 t)

/-- A point's gradient is its rows of the gradient. -/
theorem point_grad {i : Fin 1408} (hi : (i : ℕ) = 176 * t.val + a) :
    pGrad m c t (ix2 a l) = rowGrad (inputs m c) i l := by
  have ha := a.isLt
  unfold rowGrad pGrad k0_pay2
  rw [condition t]
  by_cases ht : t.val < 4
  · have hl : (i : ℕ) < 704 := by omega
    rw [dif_pos hl, ← block1 m c ht (i := ⟨i, hl⟩) hi, ← block3 m c ht (i := ⟨i, hl⟩) hi, if_pos ht]
    rfl
  · have hl : ¬ (i : ℕ) < 704 := by omega
    have e : ((⟨(i : ℕ) - 704, by omega⟩ : Fin 704) : ℕ) + 704 = 176 * t.val + a := by show (i : ℕ) - 704 + 704 = _; omega
    rw [dif_neg hl, ← block2 m c ht e, ← block4 m c ht e, if_neg ht]
    rfl

/-- So are the first moment's, -/
theorem point_mean {i : Fin 1408} (hi : (i : ℕ) = 176 * t.val + a) :
    pMean m c t (ix2 a l) = rowMean (inputs m c) i l := by
  unfold rowMean newMean
  rw [← point_grad m c hi, ← block5 m c hi]
  unfold pMean pGrad k0_pay3
  pointwise

/-- the second moment's -/
theorem point_square {i : Fin 1408} (hi : (i : ℕ) = 176 * t.val + a) :
    pSquare m c t (ix2 a l) = rowSquare (inputs m c) i l := by
  unfold rowSquare newSquare
  rw [← point_grad m c hi, ← block6 m c hi]
  unfold pSquare pGrad k0_pay4
  pointwise

/-- and the change's. -/
theorem point_change {i : Fin 1408} (hi : (i : ℕ) = 176 * t.val + a) :
    pChange m c t (ix2 a l) = rowChange (inputs m c) i l := by
  unfold rowChange weightChange
  rw [← point_mean m c hi, ← point_square m c hi, ← block0 m c hi]
  unfold pMean pSquare pChange k0_pay1 k0_pay5
  pointwise

/-- Where a point's block of a result lies. -/
theorem out_row (t : Fin cfg0.N) (y : S176x1024.Idx) :
    ((((cfg0.win 7).blk t).view.emb y 0 : Fin 1408) : ℕ) = 176 * t.val + (y 0 : Fin 176)
      ∧ (((cfg0.win 7).blk t).view.emb y 1 : Fin 1024) = y 1 := by
  refine ⟨?_, Fin.ext ?_⟩
  · blk_simp [idx_val t]
    omega
  · blk_simp [idx_val t]

/-- The array of the gradient after the run. -/
theorem finalGrad : (dats m 0 c).arrAt 7 cfg0.N = fun j : S1408x1024.Idx => rowGrad (inputs m c) (j 0) (j 1) := by
  refine (dats m 0 c).arrAt_eq_of_covers 7 _ (by decide +kernel) fun t _ y => ?_
  blk_simp
  rw [after0_7]
  refine Eq.trans (Eq.trans ?_ (point_grad m c (out_row t y).1)) (congrArg (rowGrad (inputs m c) _) (out_row t y).2.symm)
  idx_vars y
  frame_out [out0_7]

/-- The array of the change after the run. -/
theorem finalChange : (dats m 0 c).arrAt 8 cfg0.N = fun j : S1408x1024.Idx => rowChange (inputs m c) (j 0) (j 1) := by
  refine (dats m 0 c).arrAt_eq_of_covers 8 _ (by decide +kernel) fun t _ y => ?_
  blk_simp
  rw [after0_8]
  refine Eq.trans (Eq.trans ?_ (point_change m c (out_row t y).1)) (congrArg (rowChange (inputs m c) _) (out_row t y).2.symm)
  idx_vars y
  frame_out [out0_8]

/-- The array of the first moment after the run. -/
theorem finalMean : (dats m 0 c).arrAt 9 cfg0.N = fun j : S1408x1024.Idx => rowMean (inputs m c) (j 0) (j 1) := by
  refine (dats m 0 c).arrAt_eq_of_covers 9 _ (by decide +kernel) fun t _ y => ?_
  blk_simp
  rw [after0_9]
  refine Eq.trans (Eq.trans ?_ (point_mean m c (out_row t y).1)) (congrArg (rowMean (inputs m c) _) (out_row t y).2.symm)
  idx_vars y
  frame_out [out0_9]

/-- The array of the second moment after the run. -/
theorem finalSquare : (dats m 0 c).arrAt 10 cfg0.N = fun j : S1408x1024.Idx => rowSquare (inputs m c) (j 0) (j 1) := by
  refine (dats m 0 c).arrAt_eq_of_covers 10 _ (by decide +kernel) fun t _ y => ?_
  blk_simp
  rw [after0_10]
  refine Eq.trans (Eq.trans ?_ (point_square m c (out_row t y).1)) (congrArg (rowSquare (inputs m c) _) (out_row t y).2.symm)
  idx_vars y
  frame_out [out0_10]

end Cert.Kernel22Ideal.Product

namespace Cert.Reference22Ideal.Product

open Cert.Reference22Ideal Cert.Reference22Ideal.Gen

/-- The two layers' gradients stacked, read as rows. -/
theorem stacked (x : StepInputs 704 1024) (i : Fin 1408) (l : Fin 1024) :
    (concatenate S2x704x1024 0 [⟨S1x704x1024, broadcastInDim S1x704x1024 ![1, 2] bcast_S704x1024_S1x704x1024_1_2 (addf x.mine0 x.theirs0)⟩,
        ⟨S1x704x1024, broadcastInDim S1x704x1024 ![1, 2] bcast_S704x1024_S1x704x1024_1_2 (addf x.mine1 x.theirs1)⟩]
        concatenates_S1x704x1024_S1x704x1024_S2x704x1024_d0 : FVec Ideal S2x704x1024 .f32) (ix3 ⟨(i : ℕ) / 704, by omega⟩ ⟨(i : ℕ) % 704, by omega⟩ l)
      = rowGrad x i l := by
  have hi := i.isLt
  unfold rowGrad
  by_cases h : (i : ℕ) < 704
  · have e0 : (i : ℕ) / 704 = 0 := by omega
    have e1 : (i : ℕ) % 704 = i := by omega
    simp only [dif_pos h, e0, e1]
    pointwise
  · have e0 : (i : ℕ) / 704 = 1 := by omega
    have e1 : (i : ℕ) % 704 = i - 704 := by omega
    simp only [dif_neg h, e0, e1]
    pointwise

end Cert.Reference22Ideal.Product

namespace Cert.Proof

open Cert.Kernel22Ideal.Product

/-- The reference runs, keeps its arguments and leaves no counter raised. -/
theorem frame_reference22 : Cert.quiescent_Reference22Ideal (hReference22Ideal := Cert.Reference22Ideal.Gen.facts) := fun m ρ _ =>
  (θ_run Cert.Reference22Ideal.defs _ _).mono (fun r h => ⟨fun c => (h c).2.2.2.2,
    sem_eq_zero_of_no_sems (by decide) r.2⟩) (Cert.Reference22Ideal.Value.run (F := Ideal) m ρ)

set_option maxHeartbeats 1000000 in
/-- Kernel and reference return the same gradient, change and moments. -/
theorem algebraic22 : Cert.algebraic_Kernel22Ideal_Reference22Ideal (hKernel22Ideal := Cert.Kernel22Ideal.Gen.facts)
    (hReference22Ideal := Cert.Reference22Ideal.Gen.facts) := fun m ρ m' ρ' _ hag => by
  refine ⟨_, _, _, _, (θ_run Cert.Kernel22Ideal.defs _ _).mono (fun _ h c => ⟨(h c).1.trans (finalGrad m c), (h c).2.1.trans (finalChange m c),
    (h c).2.2.1.trans (finalMean m c), (h c).2.2.2.1.trans (finalSquare m c), (h c).2.2.2.2⟩) (Cert.Kernel22Ideal.Value.run_blocks (F := Ideal) m ρ), ?_⟩
  refine (θ_run Cert.Reference22Ideal.defs _ _).mono (fun r h c => ⟨(h c).1.trans ?_, (h c).2.1.trans ?_, (h c).2.2.1.trans ?_,
    (h c).2.2.2.1.trans ?_, (h c).2.2.2.2⟩) (Cert.Reference22Ideal.Value.run (F := Ideal) m' ρ')
  all_goals
    clear h
    obtain ⟨a0, a1, a2, a3, a4, a5, a6⟩ := hag c
    funext j
    have e : inputs m c = ⟨m' (c.tc.loc Cert.Reference22Ideal.main_arg0), m' (c.tc.loc Cert.Reference22Ideal.main_arg1), m' (c.tc.loc Cert.Reference22Ideal.main_arg2), m' (c.tc.loc Cert.Reference22Ideal.main_arg3), m' (c.tc.loc Cert.Reference22Ideal.main_arg4), m' (c.tc.loc Cert.Reference22Ideal.main_arg5), m' (c.tc.loc Cert.Reference22Ideal.main_arg6)⟩ := by
      rw [StepInputs.mk.injEq]
      exact ⟨a0.symm, a1.symm, a2.symm, a3.symm, a4.symm, a5.symm, a6.symm⟩
    rw [e]
    have hs := Cert.Reference22Ideal.Product.stacked ⟨m' (c.tc.loc Cert.Reference22Ideal.main_arg0), m' (c.tc.loc Cert.Reference22Ideal.main_arg1), m' (c.tc.loc Cert.Reference22Ideal.main_arg2), m' (c.tc.loc Cert.Reference22Ideal.main_arg3), m' (c.tc.loc Cert.Reference22Ideal.main_arg4), m' (c.tc.loc Cert.Reference22Ideal.main_arg5), m' (c.tc.loc Cert.Reference22Ideal.main_arg6)⟩
    generalize (concatenate Cert.Reference22Ideal.S2x704x1024 0 _ _ : FVec Ideal Cert.Reference22Ideal.S2x704x1024 .f32) = g at hs ⊢
    idx_vars j
    pointwise [newMean, newSquare, weightChange, rowOf]
    simp only [hs]

end Cert.Proof

end
-- ==== Proof.Products.AdamWWO.lean ====
/- AdamW of `w_o`: kernel and reference return the same gradient, change and moments. -/
module

public import proofs.«01_k».proof.Proof.Products.AdamW
public import proofs.«01_k».proof.Defs
public import proofs.«01_k».proof.Proof.Gen.Kernel23Ideal.Value
public import proofs.«01_k».proof.Proof.Gen.Reference23Ideal.Run

@[expose] public section

set_option maxRecDepth 16384

noncomputable section

open Idealize.ShloMosaic Idealize.ShloMosaic.TcCoe Idealize.SL.Sem Cert.Product

namespace Cert.Kernel23Ideal.Product

open Cert.Kernel23Ideal Cert.Kernel23Ideal.Gen

variable (m : (ℓ : Loc nD τ sig) → Buf (Elt Ideal) ℓ) (c : Dev nD)

/-- The arguments of the call. -/
abbrev inputs : StepInputs 256 1024 :=
  ⟨m (c.tc.loc main_arg0), m (c.tc.loc main_arg1), m (c.tc.loc main_arg2), m (c.tc.loc main_arg3), m (c.tc.loc main_arg4), m (c.tc.loc main_arg5), m (c.tc.loc main_arg6)⟩

/-- The blocks: the first layer's halves stay at their last block in the grid's second half, the second layer's at their first
    block in its first half. -/
theorem idx_val : ∀ t : Fin cfg0.N, win0_0.index t = ![t.val, 0] ∧ win0_1.index t = ![min t.val 0, 0]
    ∧ win0_2.index t = ![t.val - 1, 0] ∧ win0_3.index t = ![min t.val 0, 0] ∧ win0_4.index t = ![t.val - 1, 0]
    ∧ win0_5.index t = ![t.val, 0] ∧ win0_6.index t = ![t.val, 0] ∧ win0_7.index t = ![t.val, 0] ∧ win0_8.index t = ![t.val, 0]
    ∧ win0_9.index t = ![t.val, 0] ∧ win0_10.index t = ![t.val, 0] :=
  (by decide +kernel : ∀ t : Fin grid0.N, _)

variable {t : Fin cfg0.N} {a : Fin 256} {l : Fin 1024}

/-- The host's reshape lays the two layers one after the other. -/
theorem cast_row (w : FVec Ideal S2x256x1024 .f32) (i : Fin 512) :
    (shapeCast S512x1024 w shapeCasts_S2x256x1024_S512x1024 : FVec Ideal S512x1024 .f32) (ix2 i l) = rowOf w i l := by
  pointwise [rowOf]

/-- A block of the weight. -/
theorem block0 {i : Fin 512} (hi : (i : ℕ) = 256 * t.val + a) :
    (iblk m c 0 t : FVec Ideal S256x1024 .f32) (ix2 a l) = rowOf (inputs m c).weight i l := by
  unfold iblk
  entry_read
  refine Eq.trans (congrArg (shapeCast S512x1024 (inputs m c).weight shapeCasts_S2x256x1024_S512x1024 : S512x1024.Idx → EReal) (?_ : _ = ix2 i l)) (cast_row _ i)
  rw [show i = ⟨256 * t.val + a, by omega⟩ from Fin.ext hi]
  blk_ext [idx_val t]

/-- A block of the first moment. -/
theorem block5 {i : Fin 512} (hi : (i : ℕ) = 256 * t.val + a) :
    (iblk m c 5 t : FVec Ideal S256x1024 .f32) (ix2 a l) = rowOf (inputs m c).mean i l := by
  unfold iblk
  entry_read
  refine Eq.trans (congrArg (shapeCast S512x1024 (inputs m c).mean shapeCasts_S2x256x1024_S512x1024 : S512x1024.Idx → EReal) (?_ : _ = ix2 i l)) (cast_row _ i)
  rw [show i = ⟨256 * t.val + a, by omega⟩ from Fin.ext hi]
  blk_ext [idx_val t]

/-- A block of the second moment. -/
theorem block6 {i : Fin 512} (hi : (i : ℕ) = 256 * t.val + a) :
    (iblk m c 6 t : FVec Ideal S256x1024 .f32) (ix2 a l) = rowOf (inputs m c).square i l := by
  unfold iblk
  entry_read
  refine Eq.trans (congrArg (shapeCast S512x1024 (inputs m c).square shapeCasts_S2x256x1024_S512x1024 : S512x1024.Idx → EReal) (?_ : _ = ix2 i l)) (cast_row _ i)
  rw [show i = ⟨256 * t.val + a, by omega⟩ from Fin.ext hi]
  blk_ext [idx_val t]

/-- A block of a half of the first layer's gradient. -/
theorem block1 (ht : t.val < 1) {i : Fin 256} (hi : (i : ℕ) = 256 * t.val + a) :
    (iblk m c 1 t : FVec Ideal S256x1024 .f32) (ix2 a l) = (inputs m c).mine0 (ix2 i l) := by
  rw [show i = ⟨256 * (min t.val 0) + a, by omega⟩ from Fin.ext (by show (i : ℕ) = 256 * (min t.val 0) + a; omega)]
  blk_ext [iblk, V, idx_val t]

/-- A block of a half of the second layer's gradient. -/
theorem block2 (ht : ¬ t.val < 1) {i : Fin 256} (hi : (i : ℕ) + 256 = 256 * t.val + a) :
    (iblk m c 2 t : FVec Ideal S256x1024 .f32) (ix2 a l) = (inputs m c).mine1 (ix2 i l) := by
  rw [show i = ⟨256 * (t.val - 1) + a, by omega⟩ from Fin.ext (by show (i : ℕ) = 256 * (t.val - 1) + a; omega)]
  blk_ext [iblk, V, idx_val t]

/-- A block of a half of the first layer's gradient. -/
theorem block3 (ht : t.val < 1) {i : Fin 256} (hi : (i : ℕ) = 256 * t.val + a) :
    (iblk m c 3 t : FVec Ideal S256x1024 .f32) (ix2 a l) = (inputs m c).theirs0 (ix2 i l) := by
  rw [show i = ⟨256 * (min t.val 0) + a, by omega⟩ from Fin.ext (by show (i : ℕ) = 256 * (min t.val 0) + a; omega)]
  blk_ext [iblk, V, idx_val t]

/-- A block of a half of the second layer's gradient. -/
theorem block4 (ht : ¬ t.val < 1) {i : Fin 256} (hi : (i : ℕ) + 256 = 256 * t.val + a) :
    (iblk m c 4 t : FVec Ideal S256x1024 .f32) (ix2 a l) = (inputs m c).theirs1 (ix2 i l) := by
  rw [show i = ⟨256 * (t.val - 1) + a, by omega⟩ from Fin.ext (by show (i : ℕ) = 256 * (t.val - 1) + a; omega)]
  blk_ext [iblk, V, idx_val t]

/-- The kernel's condition, true in the first half of the grid. -/
theorem condition : ∀ t : Fin cfg0.N, Scalar.cmpi .slt (BitVec.ofNat 32 ((grid0.coords t) 0).val) 1#32 = if t.val < 1 then 1#1 else 0#1 :=
  (by decide +kernel : ∀ t : Fin grid0.N, _)

/-- The gradient that a point computes of its blocks. -/
abbrev pGrad (t : Fin cfg0.N) : FVec Ideal S256x1024 .f32 :=
  k0_pay2 (grid0.coords t) (iblk m c 1 t) (iblk m c 2 t) (iblk m c 3 t) (iblk m c 4 t)

/-- The first moment that it computes. -/
abbrev pMean (t : Fin cfg0.N) : FVec Ideal S256x1024 .f32 :=
  k0_pay3 (grid0.coords t) (iblk m c 1 t) (iblk m c 2 t) (iblk m c 3 t) (iblk m c 4 t) (iblk m c 5 t)

/-- The second moment that it computes. -/
abbrev pSquare (t : Fin cfg0.N) : FVec Ideal S256x1024 .f32 :=
  k0_pay4 (grid0.coords t) (iblk m c 1 t) (iblk m c 2 t) (iblk m c 3 t) (iblk m c 4 t) (iblk m c 6 t)

/-- The change that it computes. -/
abbrev pChange (t : Fin cfg0.N) : FVec Ideal S256x1024 .f32 :=
  k0_pay1 (k0_pay5 (grid0.coords t) (iblk m c 1 t) (iblk m c 2 t) (iblk m c 3 t) (iblk m c 4 t) (iblk m c 5 t) (iblk m c 6 t)) (iblk m c 0 t)

/-- A point's gradient is its rows of the gradient. -/
theorem point_grad {i : Fin 512} (hi : (i : ℕ) = 256 * t.val + a) :
    pGrad m c t (ix2 a l) = rowGrad (inputs m c) i l := by
  have ha := a.isLt
  unfold rowGrad pGrad k0_pay2
  rw [condition t]
  by_cases ht : t.val < 1
  · have hl : (i : ℕ) < 256 := by omega
    rw [dif_pos hl, ← block1 m c ht (i := ⟨i, hl⟩) hi, ← block3 m c ht (i := ⟨i, hl⟩) hi, if_pos ht]
    rfl
  · have hl : ¬ (i : ℕ) < 256 := by omega
    have e : ((⟨(i : ℕ) - 256, by omega⟩ : Fin 256) : ℕ) + 256 = 256 * t.val + a := by show (i : ℕ) - 256 + 256 = _; omega
    rw [dif_neg hl, ← block2 m c ht e, ← block4 m c ht e, if_neg ht]
    rfl

/-- So are the first moment's, -/
theorem point_mean {i : Fin 512} (hi : (i : ℕ) = 256 * t.val + a) :
    pMean m c t (ix2 a l) = rowMean (inputs m c) i l := by
  unfold rowMean newMean
  rw [← point_grad m c hi, ← block5 m c hi]
  unfold pMean pGrad k0_pay3
  pointwise

/-- the second moment's -/
theorem point_square {i : Fin 512} (hi : (i : ℕ) = 256 * t.val + a) :
    pSquare m c t (ix2 a l) = rowSquare (inputs m c) i l := by
  unfold rowSquare newSquare
  rw [← point_grad m c hi, ← block6 m c hi]
  unfold pSquare pGrad k0_pay4
  pointwise

/-- and the change's. -/
theorem point_change {i : Fin 512} (hi : (i : ℕ) = 256 * t.val + a) :
    pChange m c t (ix2 a l) = rowChange (inputs m c) i l := by
  unfold rowChange weightChange
  rw [← point_mean m c hi, ← point_square m c hi, ← block0 m c hi]
  unfold pMean pSquare pChange k0_pay1 k0_pay5
  pointwise

/-- Where a point's block of a result lies. -/
theorem out_row (t : Fin cfg0.N) (y : S256x1024.Idx) :
    ((((cfg0.win 7).blk t).view.emb y 0 : Fin 512) : ℕ) = 256 * t.val + (y 0 : Fin 256)
      ∧ (((cfg0.win 7).blk t).view.emb y 1 : Fin 1024) = y 1 := by
  refine ⟨?_, Fin.ext ?_⟩
  · blk_simp [idx_val t]
    omega
  · blk_simp [idx_val t]

/-- The array of the gradient after the run. -/
theorem finalGrad : (dats m 0 c).arrAt 7 cfg0.N = fun j : S512x1024.Idx => rowGrad (inputs m c) (j 0) (j 1) := by
  refine (dats m 0 c).arrAt_eq_of_covers 7 _ (by decide +kernel) fun t _ y => ?_
  blk_simp
  rw [after0_7]
  refine Eq.trans (Eq.trans ?_ (point_grad m c (out_row t y).1)) (congrArg (rowGrad (inputs m c) _) (out_row t y).2.symm)
  idx_vars y
  frame_out [out0_7]

/-- The array of the change after the run. -/
theorem finalChange : (dats m 0 c).arrAt 8 cfg0.N = fun j : S512x1024.Idx => rowChange (inputs m c) (j 0) (j 1) := by
  refine (dats m 0 c).arrAt_eq_of_covers 8 _ (by decide +kernel) fun t _ y => ?_
  blk_simp
  rw [after0_8]
  refine Eq.trans (Eq.trans ?_ (point_change m c (out_row t y).1)) (congrArg (rowChange (inputs m c) _) (out_row t y).2.symm)
  idx_vars y
  frame_out [out0_8]

/-- The array of the first moment after the run. -/
theorem finalMean : (dats m 0 c).arrAt 9 cfg0.N = fun j : S512x1024.Idx => rowMean (inputs m c) (j 0) (j 1) := by
  refine (dats m 0 c).arrAt_eq_of_covers 9 _ (by decide +kernel) fun t _ y => ?_
  blk_simp
  rw [after0_9]
  refine Eq.trans (Eq.trans ?_ (point_mean m c (out_row t y).1)) (congrArg (rowMean (inputs m c) _) (out_row t y).2.symm)
  idx_vars y
  frame_out [out0_9]

/-- The array of the second moment after the run. -/
theorem finalSquare : (dats m 0 c).arrAt 10 cfg0.N = fun j : S512x1024.Idx => rowSquare (inputs m c) (j 0) (j 1) := by
  refine (dats m 0 c).arrAt_eq_of_covers 10 _ (by decide +kernel) fun t _ y => ?_
  blk_simp
  rw [after0_10]
  refine Eq.trans (Eq.trans ?_ (point_square m c (out_row t y).1)) (congrArg (rowSquare (inputs m c) _) (out_row t y).2.symm)
  idx_vars y
  frame_out [out0_10]

end Cert.Kernel23Ideal.Product

namespace Cert.Reference23Ideal.Product

open Cert.Reference23Ideal Cert.Reference23Ideal.Gen

/-- The two layers' gradients stacked, read as rows. -/
theorem stacked (x : StepInputs 256 1024) (i : Fin 512) (l : Fin 1024) :
    (concatenate S2x256x1024 0 [⟨S1x256x1024, broadcastInDim S1x256x1024 ![1, 2] bcast_S256x1024_S1x256x1024_1_2 (addf x.mine0 x.theirs0)⟩,
        ⟨S1x256x1024, broadcastInDim S1x256x1024 ![1, 2] bcast_S256x1024_S1x256x1024_1_2 (addf x.mine1 x.theirs1)⟩]
        concatenates_S1x256x1024_S1x256x1024_S2x256x1024_d0 : FVec Ideal S2x256x1024 .f32) (ix3 ⟨(i : ℕ) / 256, by omega⟩ ⟨(i : ℕ) % 256, by omega⟩ l)
      = rowGrad x i l := by
  have hi := i.isLt
  unfold rowGrad
  by_cases h : (i : ℕ) < 256
  · have e0 : (i : ℕ) / 256 = 0 := by omega
    have e1 : (i : ℕ) % 256 = i := by omega
    simp only [dif_pos h, e0, e1]
    pointwise
  · have e0 : (i : ℕ) / 256 = 1 := by omega
    have e1 : (i : ℕ) % 256 = i - 256 := by omega
    simp only [dif_neg h, e0, e1]
    pointwise

end Cert.Reference23Ideal.Product

namespace Cert.Proof

open Cert.Kernel23Ideal.Product

/-- The reference runs, keeps its arguments and leaves no counter raised. -/
theorem frame_reference23 : Cert.quiescent_Reference23Ideal (hReference23Ideal := Cert.Reference23Ideal.Gen.facts) := fun m ρ _ =>
  (θ_run Cert.Reference23Ideal.defs _ _).mono (fun r h => ⟨fun c => (h c).2.2.2.2,
    sem_eq_zero_of_no_sems (by decide) r.2⟩) (Cert.Reference23Ideal.Value.run (F := Ideal) m ρ)

set_option maxHeartbeats 1000000 in
/-- Kernel and reference return the same gradient, change and moments. -/
theorem algebraic23 : Cert.algebraic_Kernel23Ideal_Reference23Ideal (hKernel23Ideal := Cert.Kernel23Ideal.Gen.facts)
    (hReference23Ideal := Cert.Reference23Ideal.Gen.facts) := fun m ρ m' ρ' _ hag => by
  refine ⟨_, _, _, _, (θ_run Cert.Kernel23Ideal.defs _ _).mono (fun _ h c => ⟨(h c).1.trans (finalGrad m c), (h c).2.1.trans (finalChange m c),
    (h c).2.2.1.trans (finalMean m c), (h c).2.2.2.1.trans (finalSquare m c), (h c).2.2.2.2⟩) (Cert.Kernel23Ideal.Value.run_blocks (F := Ideal) m ρ), ?_⟩
  refine (θ_run Cert.Reference23Ideal.defs _ _).mono (fun r h c => ⟨(h c).1.trans ?_, (h c).2.1.trans ?_, (h c).2.2.1.trans ?_,
    (h c).2.2.2.1.trans ?_, (h c).2.2.2.2⟩) (Cert.Reference23Ideal.Value.run (F := Ideal) m' ρ')
  all_goals
    clear h
    obtain ⟨a0, a1, a2, a3, a4, a5, a6⟩ := hag c
    funext j
    have e : inputs m c = ⟨m' (c.tc.loc Cert.Reference23Ideal.main_arg0), m' (c.tc.loc Cert.Reference23Ideal.main_arg1), m' (c.tc.loc Cert.Reference23Ideal.main_arg2), m' (c.tc.loc Cert.Reference23Ideal.main_arg3), m' (c.tc.loc Cert.Reference23Ideal.main_arg4), m' (c.tc.loc Cert.Reference23Ideal.main_arg5), m' (c.tc.loc Cert.Reference23Ideal.main_arg6)⟩ := by
      rw [StepInputs.mk.injEq]
      exact ⟨a0.symm, a1.symm, a2.symm, a3.symm, a4.symm, a5.symm, a6.symm⟩
    rw [e]
    have hs := Cert.Reference23Ideal.Product.stacked ⟨m' (c.tc.loc Cert.Reference23Ideal.main_arg0), m' (c.tc.loc Cert.Reference23Ideal.main_arg1), m' (c.tc.loc Cert.Reference23Ideal.main_arg2), m' (c.tc.loc Cert.Reference23Ideal.main_arg3), m' (c.tc.loc Cert.Reference23Ideal.main_arg4), m' (c.tc.loc Cert.Reference23Ideal.main_arg5), m' (c.tc.loc Cert.Reference23Ideal.main_arg6)⟩
    generalize (concatenate Cert.Reference23Ideal.S2x256x1024 0 _ _ : FVec Ideal Cert.Reference23Ideal.S2x256x1024 .f32) = g at hs ⊢
    idx_vars j
    pointwise [newMean, newSquare, weightChange, rowOf]
    simp only [hs]

end Cert.Proof

end
-- ==== Proof.Products.Gate.lean ====
/- The gated activation's gradient, number by number. The gate `x` and the other factor `u` make `x σ(x) u`; a cotangent `p`
   of it is taken back to each of them. -/
module

public import proofs.«01_k».proof.Proof.Products.Spec

@[expose] public section

noncomputable section

open Idealize.ShloMosaic

namespace Cert.Product

/-- The cotangent of the gate. -/
def throughGate (p x u : EReal) : EReal := p * u * (Ideal.logistic x + x * Ideal.logistic x * (1 - Ideal.logistic x))

/-- The cotangent of the other factor. -/
def throughUp (p x : EReal) : EReal := p * (x * Ideal.logistic x)

/-- Entry `(i, j)` of the gradient of the gated activation of `g`, for the cotangent `d` of its product with `w`: the first
    half of the columns are the gates', the second half the other factors'. -/
def gatedGrad {a n : ℕ} (d : FVec Ideal ⟨2, ![a, n]⟩ .bf16) (w : FVec Ideal ⟨2, ![2816, n]⟩ .bf16) (g : FVec Ideal ⟨2, ![a, 5632]⟩ .bf16)
    (i : Fin a) (j : Fin 5632) : EReal :=
  if h : (j : ℕ) < 2816 then throughGate (gradInput d w i ⟨j, h⟩) (g (ix2 i j)) (g (ix2 i ⟨2816 + j, by omega⟩))
  else throughUp (gradInput d w i ⟨j - 2816, by omega⟩) (g (ix2 i ⟨j - 2816, by omega⟩))

/-- A sum of products of real numbers is a real number. -/
theorem gradInput_real {a n b : ℕ} (d : FVec Ideal ⟨2, ![a, n]⟩ .bf16) (w : FVec Ideal ⟨2, ![b, n]⟩ .bf16) (i : Fin a) (j : Fin b)
    (hd : ∀ k, ∃ r : ℝ, d (ix2 i k) = (r : EReal)) (hw : ∀ k, ∃ r : ℝ, w (ix2 j k) = (r : EReal)) : ∃ r : ℝ, gradInput d w i j = (r : EReal) := by
  choose f hf using hd
  choose g hg using hw
  refine ⟨∑ k, f k * g k, ?_⟩
  unfold gradInput
  simp only [hf, hg, ← EReal.coe_mul]
  exact (map_sum (⟨⟨Real.toEReal, rfl⟩, EReal.coe_add⟩ : ℝ →+ EReal) _ _).symm

theorem logistic_bot : Ideal.logistic ⊥ = 0 := by
  have h : (1 : EReal) + ⊤ = ⊤ := EReal.add_top_of_ne_bot (by decide)
  simp [Ideal.logistic, Ideal.div, h]

theorem logistic_top : Ideal.logistic ⊤ = 1 := by simp [Ideal.logistic, Ideal.div]

theorem logistic_coe (r : ℝ) : Ideal.logistic (r : EReal) = ((1 / (1 + Real.exp (-r)) : ℝ) : EReal) := by
  have h : 1 + Real.exp (-r) ≠ 0 := by positivity
  unfold Ideal.logistic
  rw [← EReal.coe_neg, Ideal.exp_coe, ← EReal.coe_one, ← EReal.coe_add, Ideal.div_coe h, EReal.coe_one, one_mul]

/-- For a real cotangent the two parts of the gate's derivative may be multiplied one by one. -/
theorem throughGate_split (c : ℝ) (x : EReal) :
    (c : EReal) * (Ideal.logistic x + x * Ideal.logistic x * (1 - Ideal.logistic x))
      = (c : EReal) * Ideal.logistic x + x * (c : EReal) * (Ideal.logistic x * (1 - Ideal.logistic x)) := by
  induction x using EReal.rec with
  | bot => rw [logistic_bot]; simp
  | top =>
    have h : (1 : EReal) - 1 = 0 := by rw [← EReal.coe_one, ← EReal.coe_sub, sub_self, EReal.coe_zero]
    rw [logistic_top, h]; simp
  | coe r =>
    rw [logistic_coe]
    norm_cast
    ring_nf

end Cert.Product

end
-- ==== Proof.Products.DGu.lean ====
/- The gradient of the gated activation: the kernel forms the cotangent of the activation as a product and takes it through
   the gate, on columns in the order of the forward product. Here the order is undone and each entry is read. -/
module

public import proofs.«01_k».proof.Proof.Gen.Kernel12Ideal.Frame
public import proofs.«01_k».proof.Proof.Products.Spec
public import proofs.«01_k».proof.Proof.Products.Gate

@[expose] public section

set_option maxRecDepth 16384

noncomputable section

open Idealize.ShloMosaic Idealize.ShloMosaic.TcCoe Idealize.SL.Sem
open Idealize.ShloMosaic.Pipeline (Dat)
open Cert.Product (gradInput column throughGate throughUp gatedGrad)

namespace Cert.Kernel12Ideal.Product

open Cert.Kernel12Ideal Cert.Kernel12Ideal.Gen

variable (m : (ℓ : Loc nD τ sig) → Buf (Elt Ideal) ℓ)

/-- Where the four windows' blocks lie at point `t`. -/
theorem idx_val : ∀ t : Fin cfg0.N, win0_0.index t = ![t.val % 16, 0] ∧ win0_1.index t = ![t.val / 16, 0]
    ∧ win0_2.index t = ![t.val % 16, t.val / 16] ∧ win0_3.index t = ![t.val % 16, t.val / 16] :=
  (by decide +kernel : ∀ t : Fin grid0.N, _)

/-- Four quarters of the columns, the two in the middle changed. -/
theorem reorder (w : FVec Ideal S16384x5632 .bf16) :
    concatenate S16384x5632 1 [⟨S16384x1408, extractStridedSlice S16384x1408 ![0, 0] w slices_S16384x5632_S16384x1408_0_0⟩,
      ⟨S16384x1408, extractStridedSlice S16384x1408 ![0, 2816] w slices_S16384x5632_S16384x1408_0_2816⟩,
      ⟨S16384x1408, extractStridedSlice S16384x1408 ![0, 1408] w slices_S16384x5632_S16384x1408_0_1408⟩,
      ⟨S16384x1408, extractStridedSlice S16384x1408 ![0, 4224] w slices_S16384x5632_S16384x1408_0_4224⟩]
      concatenates_S16384x1408_S16384x1408_S16384x1408_S16384x1408_S16384x5632_d1 = fun j => w (ix2 (j 0) (column (j 1))) := by
  funext j
  idx_vars j
  pointwise
  split_ifs <;> refine congrArg (fun q : Fin 5632 => w (ix2 j0 q)) (Fin.ext ?_) <;> simp only [column] <;> split_ifs <;> omega

/-- The forward product the kernel finds has its columns in the kernel's order. -/
theorem forward (c : Dev nD) : V m c main_v4 = (fun j : S16384x5632.Idx =>
    (m (c.tc.loc main_arg2) : FVec Ideal S16384x5632 .bf16) (ix2 (j 0) (column (j 1)))) := by
  refine Eq.trans ?_ (reorder _)
  show StableHlo.after (List.flatten [hostOps0]) _ _ = _
  simp only [List.flatten_cons, List.flatten_nil, List.append_nil]
  after_results
  rfl

/-- A block of rows of the cotangent. -/
theorem block_left (c : Dev nD) (t : Fin cfg0.N) (a k : Fin 1024) :
    (iblk m c 0 t : FVec Ideal S1024x1024 .bf16) (ix2 a k) = (m (c.tc.loc main_arg0) : FVec Ideal S16384x1024 .bf16)
      (ix2 ⟨1024 * (t.val % 16) + a, by omega⟩ k) := by
  unfold iblk
  show ((cfg0.win 0).blk t).view.read _ (V m c main_arg0) _ = _
  rw [V_main_arg0]
  blk_ext [idx_val t]

/-- A block of rows of the weight. -/
theorem block_right (c : Dev nD) (t : Fin cfg0.N) (l : Fin 1408) (k : Fin 1024) (h : 1408 * (t.val / 16) + l < 2816) :
    (iblk m c 1 t : FVec Ideal S1408x1024 .bf16) (ix2 l k) = (m (c.tc.loc main_arg1) : FVec Ideal S2816x1024 .bf16)
      (ix2 ⟨1408 * (t.val / 16) + l, h⟩ k) := by
  unfold iblk
  show ((cfg0.win 1).blk t).view.read _ (V m c main_arg1) _ = _
  rw [V_main_arg1]
  blk_ext [idx_val t]

/-- A block of the forward product. -/
theorem block_forward (c : Dev nD) (t : Fin cfg0.N) (a : Fin 1024) (l : Fin 2816) (h : 2816 * (t.val / 16) + l < 5632) (i : Fin 16384) (j : Fin 5632)
    (hi : (i : ℕ) = 1024 * (t.val % 16) + a) (hj : j = column ⟨2816 * (t.val / 16) + l, h⟩) :
    (iblk m c 2 t : FVec Ideal S1024x2816 .bf16) (ix2 a l) = (m (c.tc.loc main_arg2) : FVec Ideal S16384x5632 .bf16) (ix2 i j) := by
  subst hj
  have e : i = ⟨1024 * (t.val % 16) + a, by omega⟩ := Fin.ext hi
  rw [e]
  unfold iblk
  show ((cfg0.win 2).blk t).view.read _ (V m c main_v4) _ = _
  rw [forward]
  refine congrArg₂ (fun (a : Fin 16384) b => (m (c.tc.loc main_arg2) : FVec Ideal S16384x5632 .bf16) (ix2 a (column b))) (Fin.ext ?_) (Fin.ext ?_)
  · blk_simp [idx_val t]
    omega
  · blk_simp [idx_val t]
    exact congrArg (· + (l : ℕ)) (Nat.mul_comm _ _)

/-- An entry of one point's product is the entry of the whole one. -/
theorem block_product (c : Dev nD) (t : Fin cfg0.N) (a : Fin 1024) (l : Fin 1408) (i : Fin 16384) (j : Fin 2816)
    (hi : (i : ℕ) = 1024 * (t.val % 16) + a) (hj : (j : ℕ) = 1408 * (t.val / 16) + l) :
    gradInput (iblk m c 0 t : FVec Ideal S1024x1024 .bf16) (iblk m c 1 t : FVec Ideal S1408x1024 .bf16) a l
      = gradInput (m (c.tc.loc main_arg0) : FVec Ideal S16384x1024 .bf16) (m (c.tc.loc main_arg1) : FVec Ideal S2816x1024 .bf16) i j := by
  have hj' : 1408 * (t.val / 16) + l < 2816 := by omega
  have e : i = ⟨1024 * (t.val % 16) + a, by omega⟩ := Fin.ext hi
  have f : j = ⟨1408 * (t.val / 16) + l, hj'⟩ := Fin.ext hj
  rw [e, f]
  unfold gradInput
  exact Finset.sum_congr rfl fun k _ => congrArg₂ (fun p q : EReal => p * q) (block_left m c t a k) (block_right m c t l k hj')

/-- What the payload holds at the gate's columns. -/
theorem gate_at (x : FVec Ideal S1024x1024 .bf16) (w : FVec Ideal S1408x1024 .bf16) (g : FVec Ideal S1024x2816 .bf16) (a : Fin 1024) (l : Fin 1408) (h : (l : ℕ) < 2816) :
    k0_pay1 (F := Ideal) x w g (ix2 a ⟨l, h⟩) = throughGate (gradInput x w a l) (g (ix2 a ⟨l, h⟩)) (g (ix2 a ⟨1408 + l, by omega⟩)) := by
  have := l.isLt
  pointwise [k0_pay1, gradInput, throughGate]

/-- What the payload holds at the other columns. -/
theorem up_at (x : FVec Ideal S1024x1024 .bf16) (w : FVec Ideal S1408x1024 .bf16) (g : FVec Ideal S1024x2816 .bf16) (a : Fin 1024) (l : Fin 1408) (h : 1408 + (l : ℕ) < 2816) :
    k0_pay1 (F := Ideal) x w g (ix2 a ⟨1408 + l, h⟩) = throughUp (gradInput x w a l) (g (ix2 a ⟨l, by omega⟩)) := by
  have := l.isLt
  pointwise [k0_pay1, gradInput, throughUp]

/-- An entry of what a point stores. -/
theorem point_at (c : Dev nD) (t : Fin cfg0.N) (a : Fin 1024) (b : Fin 2816) (i : Fin 16384) (j : Fin 5632)
    (hi : (i : ℕ) = 1024 * (t.val % 16) + a) (hj : (j : ℕ) = 2816 * (t.val / 16) + b) :
    k0_pay1 (F := Ideal) (iblk m c 0 t) (iblk m c 1 t) (iblk m c 2 t) (ix2 a b) = gatedGrad (m (c.tc.loc main_arg0) : FVec Ideal S16384x1024 .bf16) (m (c.tc.loc main_arg1) : FVec Ideal S2816x1024 .bf16)
          (m (c.tc.loc main_arg2) : FVec Ideal S16384x5632 .bf16) i (column j) := by
  have ht : t.val < 32 := lt_of_lt_of_eq t.isLt N_0
  have hb : t.val / 16 < 2 := by omega
  obtain ⟨b, hb2⟩ := b
  have hj' : (j : ℕ) = 2816 * (t.val / 16) + b := hj
  by_cases hl : b < 1408
  · have l1 : 2816 * (t.val / 16) + b < 5632 := by omega
    have l2 : 2816 * (t.val / 16) + (1408 + b) < 5632 := by omega
    have ej : j = ⟨2816 * (t.val / 16) + b, l1⟩ := Fin.ext hj'
    have g1 := Cert.Product.column_gate (t.val / 16) b hb hl l1 ⟨1408 * (t.val / 16) + b, by omega⟩ rfl
    have g2 := Cert.Product.column_up (t.val / 16) b hb hl l2 ⟨2816 + (1408 * (t.val / 16) + b), by omega⟩ rfl
    rw [ej, ← g1, gatedGrad, dif_pos (show 1408 * (t.val / 16) + b < 2816 by omega)]
    refine (gate_at _ _ _ a ⟨b, hl⟩ hb2).trans ?_
    have h1 := block_product m c t a ⟨b, hl⟩ i ⟨1408 * (t.val / 16) + b, by omega⟩ hi rfl
    have h2 := block_forward m c t a ⟨b, hb2⟩ l1 i _ hi g1
    have h3 := block_forward m c t a ⟨1408 + b, by omega⟩ l2 i _ hi g2
    rw [h1]
    exact congrArg₂ (throughGate _) h2 h3
  · obtain ⟨l, rfl⟩ : ∃ l : ℕ, b = 1408 + l := ⟨b - 1408, by omega⟩
    have l1 : 2816 * (t.val / 16) + l < 5632 := by omega
    have l2 : 2816 * (t.val / 16) + (1408 + l) < 5632 := by omega
    have hl : l < 1408 := by omega
    have ej : j = ⟨2816 * (t.val / 16) + (1408 + l), l2⟩ := Fin.ext hj'
    have g1 := Cert.Product.column_gate (t.val / 16) l hb hl l1 ⟨2816 + (1408 * (t.val / 16) + l) - 2816, by omega⟩ (by simp)
    have g2 := Cert.Product.column_up (t.val / 16) l hb hl l2 ⟨2816 + (1408 * (t.val / 16) + l), by omega⟩ rfl
    rw [ej, ← g2, gatedGrad, dif_neg (show ¬ 2816 + (1408 * (t.val / 16) + l) < 2816 by omega)]
    refine (up_at _ _ _ a ⟨l, hl⟩ hb2).trans ?_
    have h1 := block_product m c t a ⟨l, hl⟩ i ⟨2816 + (1408 * (t.val / 16) + l) - 2816, by omega⟩ hi (by simp)
    have h2 := block_forward m c t a ⟨l, by omega⟩ l1 i _ hi g1
    rw [h1]
    exact congrArg (throughUp _) h2

/-- What a point stores. -/
theorem point (c : Dev nD) (t : Fin cfg0.N) (y : S1024x2816.Idx) :
    k0_pay1 (F := Ideal) (iblk m c 0 t) (iblk m c 1 t) (iblk m c 2 t) y
      = (fun j : S16384x5632.Idx => gatedGrad (m (c.tc.loc main_arg0) : FVec Ideal S16384x1024 .bf16) (m (c.tc.loc main_arg1) : FVec Ideal S2816x1024 .bf16)
          (m (c.tc.loc main_arg2) : FVec Ideal S16384x5632 .bf16) (j 0) (column (j 1)))
          (((cfg0.win 3).blk t).view.emb y) := by
  have h0 : ((((cfg0.win 3).blk t).view.emb y 0 : Fin 16384) : ℕ) = 1024 * (t.val % 16) + (y 0 : Fin 1024) := by
    blk_simp [idx_val t]
    omega
  have h1 : ((((cfg0.win 3).blk t).view.emb y 1 : Fin 5632) : ℕ) = 2816 * (t.val / 16) + (y 1 : Fin 2816) := by
    blk_simp [idx_val t]
    exact congrArg (· + ((y 1 : Fin 2816) : ℕ)) (Nat.mul_comm _ _)
  exact (congrArg (k0_pay1 (F := Ideal) (iblk m c 0 t) (iblk m c 1 t) (iblk m c 2 t)) (eq_ix2 y)).trans
    (point_at m c t (y 0) (y 1) _ _ h0 h1)

/-- The array after the run, in the kernel's order of columns. -/
theorem final (c : Dev nD) : (dats m 0 c).arrAt 3 cfg0.N
    = fun j : S16384x5632.Idx => gatedGrad (m (c.tc.loc main_arg0) : FVec Ideal S16384x1024 .bf16) (m (c.tc.loc main_arg1) : FVec Ideal S2816x1024 .bf16)
          (m (c.tc.loc main_arg2) : FVec Ideal S16384x5632 .bf16) (j 0) (column (j 1)) := by
  refine (dats m 0 c).arrAt_eq_of_covers 3 _ (by decide +kernel) fun t _ y => ?_
  blk_simp
  rw [after0_3]
  frame_out
  exact point m c t y

theorem column_column (j : Fin 5632) : column (column j) = j := by
  unfold column
  refine Fin.ext ?_
  simp only
  split_ifs <;> omega

/-- The array as the lines after the region find it. -/
def found (c : Dev nD) : FVec Ideal S16384x5632 .bf16 :=
  Pipeline.withArrays (cfgs 0).spec c (V0 m c) (fun w => (dats m 0 c).arrAt w (cfgs 0).N) (Proc.tc.devRef main_v5)

/-- The kernel's run: the result is the gradient of the gated activation, the arguments are kept. -/
theorem run_spec (ρ : Dev nD → PrngReg) : θ_run defs (onTc (τ := τ) (main (F := Ideal))) ⟨m, fun _ => 0, ρ⟩ fun r => ∀ c : Dev nD,
      r.2.mem (c.tc.loc main_v10)
        = (fun j : S16384x5632.Idx => gatedGrad (m (c.tc.loc main_arg0) : FVec Ideal S16384x1024 .bf16) (m (c.tc.loc main_arg1) : FVec Ideal S2816x1024 .bf16)
          (m (c.tc.loc main_arg2) : FVec Ideal S16384x5632 .bf16) (j 0) (j 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine (θ_run defs _ _).mono (fun r h c => ⟨?_, h.2 c⟩) (θ_run_and (run_main (F := Ideal) m ρ) (unchanged m ρ))
  refine (((h.1 c).2 main_v10 (Pipeline.mem_restRefs_of main_v10 (by decide) (by decide)))).trans ?_
  unfold Pipeline.afterTail₀
  refine Eq.trans (b := concatenate S16384x5632 1 [⟨S16384x1408, extractStridedSlice S16384x1408 ![0, 0] (found m c) slices_S16384x5632_S16384x1408_0_0⟩,
      ⟨S16384x1408, extractStridedSlice S16384x1408 ![0, 2816] (found m c) slices_S16384x5632_S16384x1408_0_2816⟩,
      ⟨S16384x1408, extractStridedSlice S16384x1408 ![0, 1408] (found m c) slices_S16384x5632_S16384x1408_0_1408⟩,
      ⟨S16384x1408, extractStridedSlice S16384x1408 ![0, 4224] (found m c) slices_S16384x5632_S16384x1408_0_4224⟩]
      concatenates_S16384x1408_S16384x1408_S16384x1408_S16384x1408_S16384x5632_d1) ?_ ?_
  · show StableHlo.after (List.flatten [hostOps1]) _ _ = _
    simp only [List.flatten_cons, List.flatten_nil, List.append_nil]
    after_results
    rfl
  · have e : found m c = (dats m 0 c).arrAt 3 cfg0.N :=
      Pipeline.withArrays_arr (cfgs 0).spec winFacts0.arr_inj c (V0 m c) (fun w => (dats m 0 c).arrAt w (cfgs 0).N) 3
    rw [reorder, e, final]
    funext j
    exact congrArg (gatedGrad _ _ _ _) (column_column _)

end Cert.Kernel12Ideal.Product

end
-- ==== Proof.Products.DGuAgree.lean ====
/- The gradient of the gated activation: the reference, and that kernel and reference agree. -/
module

public import proofs.«01_k».proof.Defs
public import proofs.«01_k».proof.Proof.Gen.Reference12Ideal.Run
public import proofs.«01_k».proof.Proof.Products.DGu
public import proofs.«01_k».proof.Proof.Attention.Agree

@[expose] public section

set_option maxRecDepth 16384

noncomputable section

open Idealize.ShloMosaic Idealize.ShloMosaic.TcCoe Idealize.SL.Sem
open Cert.Product (gradInput throughGate throughUp gatedGrad)

namespace Cert.Reference12Ideal.Product

open Cert.Reference12Ideal Cert.Reference12Ideal.Gen

variable (m : (ℓ : Loc nD τ sig) → Buf (Elt Ideal) ℓ)

/-- The reference's run, where the gradients, the weights and the second half of the forward product are real numbers: the
    result is the gradient of the gated activation, the arguments are kept. -/
theorem run_spec (ρ : Dev nD → PrngReg)
    (hd : ∀ (c : Dev nD) i, ∃ r : ℝ, (m ((c.tc : Thread nD τ).loc main_arg0) : FVec Ideal S16384x1024 .bf16) i = (r : EReal))
    (hw : ∀ (c : Dev nD) i, ∃ r : ℝ, (m ((c.tc : Thread nD τ).loc main_arg1) : FVec Ideal S2816x1024 .bf16) i = (r : EReal))
    (hu : ∀ (c : Dev nD) (i : Fin 16384) (j : Fin 5632), 2816 ≤ (j : ℕ) → ∃ r : ℝ, (m ((c.tc : Thread nD τ).loc main_arg2) : FVec Ideal S16384x5632 .bf16) (ix2 i j) = (r : EReal)) :
    θ_run defs (onTc (τ := τ) (main (F := Ideal))) ⟨m, fun _ => 0, ρ⟩ fun r => ∀ c : Dev nD,
      r.2.mem ((c.tc : Thread nD τ).loc main_v15)
        = (fun j : S16384x5632.Idx => gatedGrad (m ((c.tc : Thread nD τ).loc main_arg0) : FVec Ideal S16384x1024 .bf16) (m ((c.tc : Thread nD τ).loc main_arg1) : FVec Ideal S2816x1024 .bf16)
          (m ((c.tc : Thread nD τ).loc main_arg2) : FVec Ideal S16384x5632 .bf16) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run (F := Ideal) m ρ)
  clear h
  have hd := hd c
  have hw := hw c
  have hu := hu c
  generalize (m ((c.tc : Thread nD τ).loc main_arg0)) = d at hd ⊢
  generalize (m ((c.tc : Thread nD τ).loc main_arg1)) = w at hw ⊢
  generalize (m ((c.tc : Thread nD τ).loc main_arg2)) = g at hu ⊢
  funext j
  idx_vars j
  pointwise [gatedGrad, throughUp]
  by_cases h : (j1 : ℕ) < 2816
  · rw [dif_neg (by omega), dif_pos h, dif_pos h, zero_add]
    obtain ⟨p, hp⟩ := Cert.Product.gradInput_real (d : FVec Ideal S16384x1024 .bf16) (w : FVec Ideal S2816x1024 .bf16) j0 ⟨j1, h⟩ (fun k => hd _) (fun k => hw _)
    obtain ⟨u, hu⟩ := hu j0 ⟨2816 + (j1 : ℕ), by omega⟩ (Nat.le_add_right _ _)
    have hs := Cert.Product.throughGate_split (p * u) (g (ix2 j0 j1))
    rw [EReal.coe_mul, ← hp, ← hu] at hs
    exact hs.symm
  · rw [dif_pos (by omega), dif_neg h, dif_neg h, add_zero]
    exact mul_comm _ _

end Cert.Reference12Ideal.Product

namespace Cert.Product

/-- The shapes that the precondition asks for are as it asks. -/
theorem finiteFacts : Cert.Pre_finite_product.Facts where
  bitsLt_bf16_f32 := by decide
  bcast_S_S16384x1024 := by decide
  bcast_S_S2816x1024 := by decide
  slices_S16384x5632_S16384x2816_0_2816 := by decide
  bcast_S_S16384x2816 := by decide

end Cert.Product

namespace Cert.Proof

open Cert.Attention (real_of_bit inf_bits)

/-- The reference runs, keeps its arguments and leaves no counter raised. -/
theorem frame_reference12 : Cert.quiescent_Reference12Ideal (hReference12Ideal := Cert.Reference12Ideal.Gen.facts) := fun m ρ _ =>
  (θ_run Cert.Reference12Ideal.defs _ _).mono (fun r h => ⟨fun c => (h c).2,
    sem_eq_zero_of_no_sems (by decide) r.2⟩) (Cert.Reference12Ideal.Value.run (F := Ideal) m ρ)

/-- Kernel and reference compute the same gradient where the precondition holds. -/
theorem algebraic12 : Cert.algebraic_Kernel12Ideal_Reference12Ideal_pre_finite_product (hKernel12Ideal := Cert.Kernel12Ideal.Gen.facts)
    (hReference12Ideal := Cert.Reference12Ideal.Gen.facts) (hPre_finite_product := Cert.Product.finiteFacts) := fun m ρ m' ρ' hp hag => by
  refine ⟨_, Cert.Kernel12Ideal.Product.run_spec m ρ, ?_⟩
  refine (θ_run Cert.Reference12Ideal.defs _ _).mono (fun r h c => ?_) (Cert.Reference12Ideal.Product.run_spec m' ρ' (fun c i => ?_) (fun c i => ?_) (fun c i j hj => ?_))
  · obtain ⟨h0, h1⟩ := h c
    rw [(hag c).1, (hag c).2.1, (hag c).2.2] at h0
    exact ⟨h0, h1⟩
  · rw [(hag c).1]
    exact ⟨_, (real_of_bit inf_bits (congrFun (hp c).1 i)).symm⟩
  · rw [(hag c).2.1]
    exact ⟨_, (real_of_bit inf_bits (congrFun (hp c).2.1 i)).symm⟩
  · rw [(hag c).2.2]
    have e := real_of_bit inf_bits (congrFun (hp c).2.2 (ix2 i ⟨(j : ℕ) - 2816, by omega⟩))
    refine ⟨_, Eq.trans ?_ e.symm⟩
    refine congrArg (m ((c.tc : Thread Cert.Kernel12Ideal.nD Cert.Kernel12Ideal.τ).loc Cert.Kernel12Ideal.main_arg2) : FVec Ideal Cert.Kernel12Ideal.S16384x5632 .bf16) (funext fun x => Fin.ext ?_)
    revert x
    refine Fin.forall_fin_two.mpr ⟨?_, ?_⟩
    · show (i : ℕ) = 0 + i; omega
    · show (j : ℕ) = 2816 + (j - 2816); omega

end Cert.Proof

end
-- ==== Proof.Products.Sublayer.lean ====
/- The end of a sub-layer, entry by entry: the norm of a row by its mean square, the gated residual, and the scaled and
   shifted norm the next sub-layer takes. -/
module

public import proofs.«01_k».proof.Proof.Products.Spec

@[expose] public section

noncomputable section

open Idealize.ShloMosaic

namespace Cert.Product

/-- Entry `j` of a row's norm: the entry over the root of the row's mean square and the small number kept below it, times
    the gain. -/
def normed (y g : Fin 1024 → EReal) (j : Fin 1024) : EReal :=
  y j * Ideal.rsqrt (Ideal.div (∑ k, y k * y k) (Ideal.ofBits FTy.f32 0x44800000#32) + Ideal.ofBits FTy.f32 0x358637BD#32) * g j

/-- Entry `j` of the residual stream after a sub-layer: what came in, and the gate times the normed output. -/
def residualEntry (x y gate g : Fin 1024 → EReal) (j : Fin 1024) : EReal :=
  x j + gate j * normed y g j

/-- Entry `j` of what the next sub-layer takes: the normed stream, scaled and shifted. -/
def nextInput (x g scale shift : Fin 1024 → EReal) (j : Fin 1024) : EReal :=
  normed x g j * (1 + scale j) + shift j

/-- The residual stream after a sub-layer that ends in the product of `a` and `w`. -/
def streamEntry {r n : ℕ} (a : FVec Ideal ⟨2, ![r, n]⟩ .bf16) (w : FVec Ideal ⟨2, ![n, 1024]⟩ .bf16) (x : FVec Ideal ⟨2, ![r, 1024]⟩ .f32)
    (gate g : FVec Ideal ⟨2, ![1, 1024]⟩ .f32) (i : Fin r) : Fin 1024 → EReal :=
  residualEntry (fun k => x (ix2 i k)) (forwardProduct a w i) (fun k => gate (ix2 0 k)) (fun k => g (ix2 0 k))

/-- What the next sub-layer takes. -/
def inputEntry {r n : ℕ} (a : FVec Ideal ⟨2, ![r, n]⟩ .bf16) (w : FVec Ideal ⟨2, ![n, 1024]⟩ .bf16) (x : FVec Ideal ⟨2, ![r, 1024]⟩ .f32)
    (gate g gPre scale shift : FVec Ideal ⟨2, ![1, 1024]⟩ .f32) (i : Fin r) : Fin 1024 → EReal :=
  nextInput (streamEntry a w x gate g i) (fun k => gPre (ix2 0 k)) (fun k => scale (ix2 0 k)) (fun k => shift (ix2 0 k))

end Cert.Product

end
-- ==== Proof.Products.FfnOutMid.lean ====
/- The feed-forward's second product with the residual and the next layer's norm behind it: each grid point computes a block of
   whole rows, so a row's norms are the block's own. -/
module

public import proofs.«01_k».proof.Defs
public import proofs.«01_k».proof.Proof.Gen.Kernel13Ideal.Value
public import proofs.«01_k».proof.Proof.Gen.Reference13Ideal.Run
public import proofs.«01_k».proof.Proof.Products.Sublayer

@[expose] public section

set_option maxRecDepth 16384

noncomputable section

open Idealize.ShloMosaic Idealize.ShloMosaic.TcCoe Idealize.SL.Sem
open Idealize.ShloMosaic.Pipeline (Dat)
open Cert.Product (forwardProduct normed residualEntry nextInput streamEntry inputEntry)

namespace Cert.Kernel13Ideal.Product

open Cert.Kernel13Ideal Cert.Kernel13Ideal.Gen

variable (m : (ℓ : Loc nD τ sig) → Buf (Elt Ideal) ℓ)

/-- The call's argument 0. -/
abbrev arg0 (c : Dev nD) := (m (c.tc.loc main_arg0) : FVec Ideal S16384x2816 .bf16)

/-- The call's argument 1. -/
abbrev arg1 (c : Dev nD) := (m (c.tc.loc main_arg1) : FVec Ideal S2816x1024 .bf16)

/-- The call's argument 2. -/
abbrev arg2 (c : Dev nD) := (m (c.tc.loc main_arg2) : FVec Ideal S16384x1024 .f32)

/-- The call's argument 3. -/
abbrev arg3 (c : Dev nD) := (m (c.tc.loc main_arg3) : FVec Ideal S1x1024 .f32)

/-- The call's argument 4. -/
abbrev arg4 (c : Dev nD) := (m (c.tc.loc main_arg4) : FVec Ideal S1x1024 .f32)

/-- The call's argument 5. -/
abbrev arg5 (c : Dev nD) := (m (c.tc.loc main_arg5) : FVec Ideal S1x1024 .f32)

/-- The call's argument 6. -/
abbrev arg6 (c : Dev nD) := (m (c.tc.loc main_arg6) : FVec Ideal S1x1024 .f32)

/-- The call's argument 7. -/
abbrev arg7 (c : Dev nD) := (m (c.tc.loc main_arg7) : FVec Ideal S1x1024 .f32)

/-- Where the eleven windows' blocks lie at point `t`. -/
theorem idx_val : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] :=
  (by decide +kernel : ∀ t : Fin grid0.N, _)

/-- A block of rows of the product's left factor. -/
theorem block_rows (c : Dev nD) (t : Fin cfg0.N) (a : Fin 1024) (k : Fin 2816) (i : Fin 16384) (hi : (i : ℕ) = 1024 * t.val + a) :
    (iblk m c 0 t : FVec Ideal S1024x2816 .bf16) (ix2 a k) = (arg0 m c) (ix2 i k) := by
  have e : i = ⟨1024 * t.val + a, by omega⟩ := Fin.ext hi
  rw [e]
  blk_ext [iblk, V, idx_val t]

/-- The whole weight. -/
theorem block_weight (c : Dev nD) (t : Fin cfg0.N) (k : Fin 2816) (l : Fin 1024) :
    (iblk m c 1 t : FVec Ideal S2816x1024 .bf16) (ix2 k l) = (arg1 m c) (ix2 k l) := by
  blk_ext [iblk, V, idx_val t]

/-- A block of rows of the residual stream. -/
theorem block_stream (c : Dev nD) (t : Fin cfg0.N) (a k : Fin 1024) (i : Fin 16384) (hi : (i : ℕ) = 1024 * t.val + a) :
    (iblk m c 2 t : FVec Ideal S1024x1024 .f32) (ix2 a k) = (arg2 m c) (ix2 i k) := by
  have e : i = ⟨1024 * t.val + a, by omega⟩ := Fin.ext hi
  rw [e]
  blk_ext [iblk, V, idx_val t]

/-- The whole of argument 3. -/
theorem block_3 (c : Dev nD) (t : Fin cfg0.N) (k : Fin 1024) : (iblk m c 3 t : FVec Ideal S1x1024 .f32) (ix2 0 k) = (arg3 m c) (ix2 0 k) := by
  blk_ext [iblk, V, idx_val t]

/-- The whole of argument 4. -/
theorem block_4 (c : Dev nD) (t : Fin cfg0.N) (k : Fin 1024) : (iblk m c 4 t : FVec Ideal S1x1024 .f32) (ix2 0 k) = (arg4 m c) (ix2 0 k) := by
  blk_ext [iblk, V, idx_val t]

/-- The whole of argument 5. -/
theorem block_5 (c : Dev nD) (t : Fin cfg0.N) (k : Fin 1024) : (iblk m c 5 t : FVec Ideal S1x1024 .f32) (ix2 0 k) = (arg5 m c) (ix2 0 k) := by
  blk_ext [iblk, V, idx_val t]

/-- The whole of argument 6. -/
theorem block_6 (c : Dev nD) (t : Fin cfg0.N) (k : Fin 1024) : (iblk m c 6 t : FVec Ideal S1x1024 .f32) (ix2 0 k) = (arg6 m c) (ix2 0 k) := by
  blk_ext [iblk, V, idx_val t]

/-- The whole of argument 7. -/
theorem block_7 (c : Dev nD) (t : Fin cfg0.N) (k : Fin 1024) : (iblk m c 7 t : FVec Ideal S1x1024 .f32) (ix2 0 k) = (arg7 m c) (ix2 0 k) := by
  blk_ext [iblk, V, idx_val t]

/-- The first result's payload: the blocks' product. -/
theorem product_at (a : FVec Ideal S1024x2816 .bf16) (w : FVec Ideal S2816x1024 .bf16) (i j : Fin 1024) :
    k0_pay1 (F := Ideal) (k0_pay3 (F := Ideal) a w) (ix2 i j) = forwardProduct a w i j := by
  pointwise [k0_pay1, k0_pay3, forwardProduct]

/-- The second result's payload: the residual stream's rows. -/
theorem stream_at (a : FVec Ideal S1024x2816 .bf16) (w : FVec Ideal S2816x1024 .bf16) (x : FVec Ideal S1024x1024 .f32) (u v : FVec Ideal S1x1024 .f32)
    (i j : Fin 1024) : k0_pay4 (F := Ideal) a w x u v (ix2 i j) = streamEntry a w x u v i j := by
  pointwise [k0_pay4, k0_pay3, streamEntry, residualEntry, normed, forwardProduct]

/-- The third result's payload: the next sub-layer's rows. -/
theorem input_at (a : FVec Ideal S1024x2816 .bf16) (w : FVec Ideal S2816x1024 .bf16) (x : FVec Ideal S1024x1024 .f32) (u v g s d : FVec Ideal S1x1024 .f32)
    (i j : Fin 1024) : k0_pay2 (F := Ideal) s d (k0_pay5 (F := Ideal) a w x u v) (k0_pay6 (F := Ideal) g) (ix2 i j) = inputEntry a w x u v g s d i j := by
  have h := stream_at a w x u v i
  revert h
  generalize e : k0_pay4 (F := Ideal) a w x u v = y
  intro h
  pointwise [k0_pay2, k0_pay5, k0_pay6, inputEntry, nextInput, normed]
  rw [e]
  simp only [h]

/-- A row of a point's product is a row of the whole product. -/
theorem row_product (c : Dev nD) (t : Fin cfg0.N) (a : Fin 1024) (i : Fin 16384) (hi : (i : ℕ) = 1024 * t.val + a) :
    forwardProduct (iblk m c 0 t : FVec Ideal S1024x2816 .bf16) (iblk m c 1 t : FVec Ideal S2816x1024 .bf16) a = forwardProduct (arg0 m c) (arg1 m c) i := by
  funext j
  unfold forwardProduct
  exact Finset.sum_congr rfl fun k _ => congrArg₂ (fun p q : EReal => p * q) (block_rows m c t a k i hi) (block_weight m c t k j)

/-- A row of a point's stream is a row of the whole stream. -/
theorem row_stream (c : Dev nD) (t : Fin cfg0.N) (a : Fin 1024) (i : Fin 16384) (hi : (i : ℕ) = 1024 * t.val + a) :
    streamEntry (iblk m c 0 t : FVec Ideal S1024x2816 .bf16) (iblk m c 1 t : FVec Ideal S2816x1024 .bf16) (iblk m c 2 t : FVec Ideal S1024x1024 .f32) (iblk m c 3 t : FVec Ideal S1x1024 .f32) (iblk m c 4 t : FVec Ideal S1x1024 .f32) a = streamEntry (arg0 m c) (arg1 m c)
          (arg2 m c)
          (arg3 m c) (arg4 m c) i := by
  unfold streamEntry
  rw [row_product m c t a i hi, funext (fun k => block_stream m c t a k i hi), funext (block_3 m c t), funext (block_4 m c t)]

/-- A row of what a point hands to the next sub-layer is a row of the whole. -/
theorem row_input (c : Dev nD) (t : Fin cfg0.N) (a : Fin 1024) (i : Fin 16384) (hi : (i : ℕ) = 1024 * t.val + a) :
    inputEntry (iblk m c 0 t : FVec Ideal S1024x2816 .bf16) (iblk m c 1 t : FVec Ideal S2816x1024 .bf16) (iblk m c 2 t : FVec Ideal S1024x1024 .f32) (iblk m c 3 t : FVec Ideal S1x1024 .f32) (iblk m c 4 t : FVec Ideal S1x1024 .f32) (iblk m c 5 t : FVec Ideal S1x1024 .f32) (iblk m c 6 t : FVec Ideal S1x1024 .f32) (iblk m c 7 t : FVec Ideal S1x1024 .f32) a = inputEntry (arg0 m c) (arg1 m c)
          (arg2 m c)
          (arg3 m c) (arg4 m c)
          (arg5 m c) (arg6 m c)
          (arg7 m c) i := by
  unfold inputEntry
  rw [row_stream m c t a i hi, funext (block_5 m c t), funext (block_6 m c t), funext (block_7 m c t)]

/-- What a point stores of the product. -/
theorem point_8 (c : Dev nD) (t : Fin cfg0.N) (y : S1024x1024.Idx) :
    k0_pay1 (F := Ideal) (k0_pay3 (F := Ideal) (iblk m c 0 t) (iblk m c 1 t)) y
      = (fun j : S16384x1024.Idx => forwardProduct (arg0 m c) (arg1 m c) (j 0) (j 1)) (((cfg0.win 8).blk t).view.emb y) := by
  have h0 : ((((cfg0.win 8).blk t).view.emb y 0 : Fin 16384) : ℕ) = 1024 * t.val + (y 0 : Fin 1024) := by
    blk_simp [idx_val t]
    omega
  have h1 : (((cfg0.win 8).blk t).view.emb y 1 : Fin 1024) = y 1 := by
    refine Fin.ext ?_
    blk_simp [idx_val t]
  generalize ((cfg0.win 8).blk t).view.emb y = j at h0 h1 ⊢
  refine (congrArg (k0_pay1 (F := Ideal) (k0_pay3 (F := Ideal) (iblk m c 0 t) (iblk m c 1 t))) (eq_ix2 y)).trans ((product_at _ _ (y 0) (y 1)).trans ?_)
  exact (congrFun (row_product m c t (y 0) (j 0) h0) (y 1)).trans (congrArg _ h1.symm)

/-- The product's array after the run. -/
theorem final_8 (c : Dev nD) : (dats m 0 c).arrAt 8 cfg0.N = fun j : S16384x1024.Idx => forwardProduct (arg0 m c) (arg1 m c) (j 0) (j 1) := by
  refine (dats m 0 c).arrAt_eq_of_covers 8 _ (by decide +kernel) fun t _ y => ?_
  blk_simp
  rw [after0_8]
  frame_out
  exact point_8 m c t y

/-- What a point stores of the residual stream. -/
theorem point_9 (c : Dev nD) (t : Fin cfg0.N) (y : S1024x1024.Idx) :
    k0_pay4 (F := Ideal) (iblk m c 0 t) (iblk m c 1 t) (iblk m c 2 t) (iblk m c 3 t) (iblk m c 4 t) y
      = (fun j : S16384x1024.Idx => streamEntry (arg0 m c) (arg1 m c)
          (arg2 m c)
          (arg3 m c) (arg4 m c) (j 0) (j 1)) (((cfg0.win 9).blk t).view.emb y) := by
  have h0 : ((((cfg0.win 9).blk t).view.emb y 0 : Fin 16384) : ℕ) = 1024 * t.val + (y 0 : Fin 1024) := by
    blk_simp [idx_val t]
    omega
  have h1 : (((cfg0.win 9).blk t).view.emb y 1 : Fin 1024) = y 1 := by
    refine Fin.ext ?_
    blk_simp [idx_val t]
  generalize ((cfg0.win 9).blk t).view.emb y = j at h0 h1 ⊢
  refine (congrArg (k0_pay4 (F := Ideal) (iblk m c 0 t) (iblk m c 1 t) (iblk m c 2 t) (iblk m c 3 t) (iblk m c 4 t)) (eq_ix2 y)).trans ((stream_at _ _ _ _ _ (y 0) (y 1)).trans ?_)
  exact (congrFun (row_stream m c t (y 0) (j 0) h0) (y 1)).trans (congrArg _ h1.symm)

/-- The residual stream's array after the run. -/
theorem final_9 (c : Dev nD) : (dats m 0 c).arrAt 9 cfg0.N = fun j : S16384x1024.Idx => streamEntry (arg0 m c) (arg1 m c)
          (arg2 m c)
          (arg3 m c) (arg4 m c) (j 0) (j 1) := by
  refine (dats m 0 c).arrAt_eq_of_covers 9 _ (by decide +kernel) fun t _ y => ?_
  blk_simp
  rw [after0_9]
  frame_out
  exact point_9 m c t y

/-- What a point stores of the next sub-layer's input. -/
theorem point_10 (c : Dev nD) (t : Fin cfg0.N) (y : S1024x1024.Idx) :
    k0_pay2 (F := Ideal) (iblk m c 6 t) (iblk m c 7 t) (k0_pay5 (F := Ideal) (iblk m c 0 t) (iblk m c 1 t) (iblk m c 2 t) (iblk m c 3 t) (iblk m c 4 t)) (k0_pay6 (F := Ideal) (iblk m c 5 t)) y
      = (fun j : S16384x1024.Idx => inputEntry (arg0 m c) (arg1 m c)
          (arg2 m c)
          (arg3 m c) (arg4 m c)
          (arg5 m c) (arg6 m c)
          (arg7 m c) (j 0) (j 1)) (((cfg0.win 10).blk t).view.emb y) := by
  have h0 : ((((cfg0.win 10).blk t).view.emb y 0 : Fin 16384) : ℕ) = 1024 * t.val + (y 0 : Fin 1024) := by
    blk_simp [idx_val t]
    omega
  have h1 : (((cfg0.win 10).blk t).view.emb y 1 : Fin 1024) = y 1 := by
    refine Fin.ext ?_
    blk_simp [idx_val t]
  generalize ((cfg0.win 10).blk t).view.emb y = j at h0 h1 ⊢
  refine (congrArg (k0_pay2 (F := Ideal) (iblk m c 6 t) (iblk m c 7 t) (k0_pay5 (F := Ideal) (iblk m c 0 t) (iblk m c 1 t) (iblk m c 2 t) (iblk m c 3 t) (iblk m c 4 t)) (k0_pay6 (F := Ideal) (iblk m c 5 t))) (eq_ix2 y)).trans ((input_at _ _ _ _ _ _ _ _ (y 0) (y 1)).trans ?_)
  exact (congrFun (row_input m c t (y 0) (j 0) h0) (y 1)).trans (congrArg _ h1.symm)

/-- The next sub-layer's input's array after the run. -/
theorem final_10 (c : Dev nD) : (dats m 0 c).arrAt 10 cfg0.N = fun j : S16384x1024.Idx => inputEntry (arg0 m c) (arg1 m c)
          (arg2 m c)
          (arg3 m c) (arg4 m c)
          (arg5 m c) (arg6 m c)
          (arg7 m c) (j 0) (j 1) := by
  refine (dats m 0 c).arrAt_eq_of_covers 10 _ (by decide +kernel) fun t _ y => ?_
  blk_simp
  rw [after0_10]
  frame_out
  exact point_10 m c t y

/-- The kernel's run: the three results are the product, the stream and the next input, the arguments are kept. -/
theorem run_spec (ρ : Dev nD → PrngReg) : θ_run defs (onTc (τ := τ) (main (F := Ideal))) ⟨m, fun _ => 0, ρ⟩ fun r => ∀ c : Dev nD,
      r.2.mem (c.tc.loc main_v0_0) = (fun j : S16384x1024.Idx => forwardProduct (arg0 m c) (arg1 m c) (j 0) (j 1))
      ∧ r.2.mem (c.tc.loc main_v0_1) = (fun j : S16384x1024.Idx => streamEntry (arg0 m c) (arg1 m c)
          (arg2 m c)
          (arg3 m c) (arg4 m c) (j 0) (j 1))
      ∧ r.2.mem (c.tc.loc main_v0_2) = (fun j : S16384x1024.Idx => inputEntry (arg0 m c) (arg1 m c)
          (arg2 m c)
          (arg3 m c) (arg4 m c)
          (arg5 m c) (arg6 m c)
          (arg7 m c) (j 0) (j 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7) :=
  (θ_run defs _ _).mono (fun _ h c => ⟨((h c).1).trans (final_8 m c), ((h c).2.1).trans (final_9 m c), ((h c).2.2.1).trans (final_10 m c), (h c).2.2.2⟩)
    (Cert.Kernel13Ideal.Value.run_blocks (F := Ideal) m ρ)

end Cert.Kernel13Ideal.Product

namespace Cert.Reference13Ideal.Product

open Cert.Reference13Ideal Cert.Reference13Ideal.Gen

variable (m : (ℓ : Loc nD τ sig) → Buf (Elt Ideal) ℓ)

/-- The call's argument 0. -/
abbrev arg0 (c : Dev nD) := (m (c.tc.loc main_arg0) : FVec Ideal S16384x2816 .bf16)

/-- The call's argument 1. -/
abbrev arg1 (c : Dev nD) := (m (c.tc.loc main_arg1) : FVec Ideal S2816x1024 .bf16)

/-- The call's argument 2. -/
abbrev arg2 (c : Dev nD) := (m (c.tc.loc main_arg2) : FVec Ideal S16384x1024 .f32)

/-- The call's argument 3. -/
abbrev arg3 (c : Dev nD) := (m (c.tc.loc main_arg3) : FVec Ideal S1x1024 .f32)

/-- The call's argument 4. -/
abbrev arg4 (c : Dev nD) := (m (c.tc.loc main_arg4) : FVec Ideal S1x1024 .f32)

/-- The call's argument 5. -/
abbrev arg5 (c : Dev nD) := (m (c.tc.loc main_arg5) : FVec Ideal S1x1024 .f32)

/-- The call's argument 6. -/
abbrev arg6 (c : Dev nD) := (m (c.tc.loc main_arg6) : FVec Ideal S1x1024 .f32)

/-- The call's argument 7. -/
abbrev arg7 (c : Dev nD) := (m (c.tc.loc main_arg7) : FVec Ideal S1x1024 .f32)

/-- The reference's run: the three results are the product, the stream and the next input, the arguments are kept. -/
theorem run_spec (ρ : Dev nD → PrngReg) : θ_run defs (onTc (τ := τ) (main (F := Ideal))) ⟨m, fun _ => 0, ρ⟩ fun r => ∀ c : Dev nD,
      r.2.mem (c.tc.loc main_v36) = (fun j : S16384x1024.Idx => forwardProduct (arg0 m c) (arg1 m c) (j 0) (j 1))
      ∧ r.2.mem (c.tc.loc main_v17) = (fun j : S16384x1024.Idx => streamEntry (arg0 m c) (arg1 m c)
          (arg2 m c)
          (arg3 m c) (arg4 m c) (j 0) (j 1))
      ∧ r.2.mem (c.tc.loc main_v37) = (fun j : S16384x1024.Idx => inputEntry (arg0 m c) (arg1 m c)
          (arg2 m c)
          (arg3 m c) (arg4 m c)
          (arg5 m c) (arg6 m c)
          (arg7 m c) (j 0) (j 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7) := by
  refine (θ_run defs _ _).mono (fun r h c => ⟨(h c).1.trans ?_, (h c).2.1.trans ?_, (h c).2.2.1.trans ?_, (h c).2.2.2⟩) (Value.run (F := Ideal) m ρ)
  · clear h
    funext j
    idx_vars j
    pointwise [forwardProduct]
  · clear h
    funext j
    idx_vars j
    pointwise [streamEntry, residualEntry, normed, forwardProduct]
  · clear h
    funext j
    idx_vars j
    pointwise [Value.res_main_v37, inputEntry, nextInput, streamEntry, residualEntry, normed, forwardProduct]

end Cert.Reference13Ideal.Product

namespace Cert.Proof

/-- The reference runs, keeps its arguments and leaves no counter raised. -/
theorem frame_reference13 : Cert.quiescent_Reference13Ideal (hReference13Ideal := Cert.Reference13Ideal.Gen.facts) := fun m ρ _ =>
  (θ_run Cert.Reference13Ideal.defs _ _).mono (fun r h => ⟨fun c => (h c).2.2.2,
    sem_eq_zero_of_no_sems (by decide) r.2⟩) (Cert.Reference13Ideal.Value.run (F := Ideal) m ρ)

open Cert.Reference13Ideal.Product in
/-- Kernel and reference compute the same product, stream and next input. -/
theorem algebraic13 : Cert.algebraic_Kernel13Ideal_Reference13Ideal (hKernel13Ideal := Cert.Kernel13Ideal.Gen.facts)
    (hReference13Ideal := Cert.Reference13Ideal.Gen.facts) := fun m ρ m' ρ' _ hag => by
  refine ⟨_, _, _, Cert.Kernel13Ideal.Product.run_spec m ρ, ?_⟩
  refine (θ_run Cert.Reference13Ideal.defs _ _).mono (fun r h c => ?_) (Cert.Reference13Ideal.Product.run_spec m' ρ')
  obtain ⟨h0, h1, h2, h3⟩ := h c
  obtain ⟨a0, a1, a2, a3, a4, a5, a6, a7⟩ := hag c
  dsimp only [arg0, arg1, arg2, arg3, arg4, arg5, arg6, arg7] at h0 h1 h2
  rw [a0, a1] at h0
  rw [a0, a1, a2, a3, a4] at h1
  rw [a0, a1, a2, a3, a4, a5, a6, a7] at h2
  exact ⟨h0, h1, h2, h3⟩

end Cert.Proof

end
-- ==== Proof.Products.WoMid.lean ====
/- The mixer's output product with the residual and the feed-forward's norm behind it: each grid point computes a block of
   whole rows, so a row's norms are the block's own. -/
module

public import proofs.«01_k».proof.Defs
public import proofs.«01_k».proof.Proof.Gen.Kernel14Ideal.Value
public import proofs.«01_k».proof.Proof.Gen.Reference14Ideal.Run
public import proofs.«01_k».proof.Proof.Products.Sublayer

@[expose] public section

set_option maxRecDepth 16384

noncomputable section

open Idealize.ShloMosaic Idealize.ShloMosaic.TcCoe Idealize.SL.Sem
open Idealize.ShloMosaic.Pipeline (Dat)
open Cert.Product (forwardProduct normed residualEntry nextInput streamEntry inputEntry)

namespace Cert.Kernel14Ideal.Product

open Cert.Kernel14Ideal Cert.Kernel14Ideal.Gen

variable (m : (ℓ : Loc nD τ sig) → Buf (Elt Ideal) ℓ)

/-- The call's argument 0. -/
abbrev arg0 (c : Dev nD) := (m (c.tc.loc main_arg0) : FVec Ideal S16384x1024 .bf16)

/-- The call's argument 1. -/
abbrev arg1 (c : Dev nD) := (m (c.tc.loc main_arg1) : FVec Ideal S1024x1024 .bf16)

/-- The call's argument 2. -/
abbrev arg2 (c : Dev nD) := (m (c.tc.loc main_arg2) : FVec Ideal S16384x1024 .f32)

/-- The call's argument 3. -/
abbrev arg3 (c : Dev nD) := (m (c.tc.loc main_arg3) : FVec Ideal S1x1024 .f32)

/-- The call's argument 4. -/
abbrev arg4 (c : Dev nD) := (m (c.tc.loc main_arg4) : FVec Ideal S1x1024 .f32)

/-- The call's argument 5. -/
abbrev arg5 (c : Dev nD) := (m (c.tc.loc main_arg5) : FVec Ideal S1x1024 .f32)

/-- The call's argument 6. -/
abbrev arg6 (c : Dev nD) := (m (c.tc.loc main_arg6) : FVec Ideal S1x1024 .f32)

/-- The call's argument 7. -/
abbrev arg7 (c : Dev nD) := (m (c.tc.loc main_arg7) : FVec Ideal S1x1024 .f32)

/-- Where the eleven windows' blocks lie at point `t`. -/
theorem idx_val : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] :=
  (by decide +kernel : ∀ t : Fin grid0.N, _)

/-- A block of rows of the product's left factor. -/
theorem block_rows (c : Dev nD) (t : Fin cfg0.N) (a : Fin 1024) (k : Fin 1024) (i : Fin 16384) (hi : (i : ℕ) = 1024 * t.val + a) :
    (iblk m c 0 t : FVec Ideal S1024x1024 .bf16) (ix2 a k) = (arg0 m c) (ix2 i k) := by
  have e : i = ⟨1024 * t.val + a, by omega⟩ := Fin.ext hi
  rw [e]
  blk_ext [iblk, V, idx_val t]

/-- The whole weight. -/
theorem block_weight (c : Dev nD) (t : Fin cfg0.N) (k : Fin 1024) (l : Fin 1024) :
    (iblk m c 1 t : FVec Ideal S1024x1024 .bf16) (ix2 k l) = (arg1 m c) (ix2 k l) := by
  blk_ext [iblk, V, idx_val t]

/-- A block of rows of the residual stream. -/
theorem block_stream (c : Dev nD) (t : Fin cfg0.N) (a k : Fin 1024) (i : Fin 16384) (hi : (i : ℕ) = 1024 * t.val + a) :
    (iblk m c 2 t : FVec Ideal S1024x1024 .f32) (ix2 a k) = (arg2 m c) (ix2 i k) := by
  have e : i = ⟨1024 * t.val + a, by omega⟩ := Fin.ext hi
  rw [e]
  blk_ext [iblk, V, idx_val t]

/-- The whole of argument 3. -/
theorem block_3 (c : Dev nD) (t : Fin cfg0.N) (k : Fin 1024) : (iblk m c 3 t : FVec Ideal S1x1024 .f32) (ix2 0 k) = (arg3 m c) (ix2 0 k) := by
  blk_ext [iblk, V, idx_val t]

/-- The whole of argument 4. -/
theorem block_4 (c : Dev nD) (t : Fin cfg0.N) (k : Fin 1024) : (iblk m c 4 t : FVec Ideal S1x1024 .f32) (ix2 0 k) = (arg4 m c) (ix2 0 k) := by
  blk_ext [iblk, V, idx_val t]

/-- The whole of argument 5. -/
theorem block_5 (c : Dev nD) (t : Fin cfg0.N) (k : Fin 1024) : (iblk m c 5 t : FVec Ideal S1x1024 .f32) (ix2 0 k) = (arg5 m c) (ix2 0 k) := by
  blk_ext [iblk, V, idx_val t]

/-- The whole of argument 6. -/
theorem block_6 (c : Dev nD) (t : Fin cfg0.N) (k : Fin 1024) : (iblk m c 6 t : FVec Ideal S1x1024 .f32) (ix2 0 k) = (arg6 m c) (ix2 0 k) := by
  blk_ext [iblk, V, idx_val t]

/-- The whole of argument 7. -/
theorem block_7 (c : Dev nD) (t : Fin cfg0.N) (k : Fin 1024) : (iblk m c 7 t : FVec Ideal S1x1024 .f32) (ix2 0 k) = (arg7 m c) (ix2 0 k) := by
  blk_ext [iblk, V, idx_val t]

/-- The first result's payload: the blocks' product. -/
theorem product_at (a : FVec Ideal S1024x1024 .bf16) (w : FVec Ideal S1024x1024 .bf16) (i j : Fin 1024) :
    k0_pay1 (F := Ideal) (k0_pay3 (F := Ideal) a w) (ix2 i j) = forwardProduct a w i j := by
  pointwise [k0_pay1, k0_pay3, forwardProduct]

/-- The second result's payload: the residual stream's rows. -/
theorem stream_at (a : FVec Ideal S1024x1024 .bf16) (w : FVec Ideal S1024x1024 .bf16) (x : FVec Ideal S1024x1024 .f32) (u v : FVec Ideal S1x1024 .f32)
    (i j : Fin 1024) : k0_pay4 (F := Ideal) a w x u v (ix2 i j) = streamEntry a w x u v i j := by
  pointwise [k0_pay4, k0_pay3, streamEntry, residualEntry, normed, forwardProduct]

/-- The third result's payload: the next sub-layer's rows. -/
theorem input_at (a : FVec Ideal S1024x1024 .bf16) (w : FVec Ideal S1024x1024 .bf16) (x : FVec Ideal S1024x1024 .f32) (u v g s d : FVec Ideal S1x1024 .f32)
    (i j : Fin 1024) : k0_pay2 (F := Ideal) s d (k0_pay5 (F := Ideal) a w x u v) (k0_pay6 (F := Ideal) g) (ix2 i j) = inputEntry a w x u v g s d i j := by
  have h := stream_at a w x u v i
  revert h
  generalize e : k0_pay4 (F := Ideal) a w x u v = y
  intro h
  pointwise [k0_pay2, k0_pay5, k0_pay6, inputEntry, nextInput, normed]
  rw [e]
  simp only [h]

/-- A row of a point's product is a row of the whole product. -/
theorem row_product (c : Dev nD) (t : Fin cfg0.N) (a : Fin 1024) (i : Fin 16384) (hi : (i : ℕ) = 1024 * t.val + a) :
    forwardProduct (iblk m c 0 t : FVec Ideal S1024x1024 .bf16) (iblk m c 1 t : FVec Ideal S1024x1024 .bf16) a = forwardProduct (arg0 m c) (arg1 m c) i := by
  funext j
  unfold forwardProduct
  exact Finset.sum_congr rfl fun k _ => congrArg₂ (fun p q : EReal => p * q) (block_rows m c t a k i hi) (block_weight m c t k j)

/-- A row of a point's stream is a row of the whole stream. -/
theorem row_stream (c : Dev nD) (t : Fin cfg0.N) (a : Fin 1024) (i : Fin 16384) (hi : (i : ℕ) = 1024 * t.val + a) :
    streamEntry (iblk m c 0 t : FVec Ideal S1024x1024 .bf16) (iblk m c 1 t : FVec Ideal S1024x1024 .bf16) (iblk m c 2 t : FVec Ideal S1024x1024 .f32) (iblk m c 3 t : FVec Ideal S1x1024 .f32) (iblk m c 4 t : FVec Ideal S1x1024 .f32) a = streamEntry (arg0 m c) (arg1 m c)
          (arg2 m c)
          (arg3 m c) (arg4 m c) i := by
  unfold streamEntry
  rw [row_product m c t a i hi, funext (fun k => block_stream m c t a k i hi), funext (block_3 m c t), funext (block_4 m c t)]

/-- A row of what a point hands to the next sub-layer is a row of the whole. -/
theorem row_input (c : Dev nD) (t : Fin cfg0.N) (a : Fin 1024) (i : Fin 16384) (hi : (i : ℕ) = 1024 * t.val + a) :
    inputEntry (iblk m c 0 t : FVec Ideal S1024x1024 .bf16) (iblk m c 1 t : FVec Ideal S1024x1024 .bf16) (iblk m c 2 t : FVec Ideal S1024x1024 .f32) (iblk m c 3 t : FVec Ideal S1x1024 .f32) (iblk m c 4 t : FVec Ideal S1x1024 .f32) (iblk m c 5 t : FVec Ideal S1x1024 .f32) (iblk m c 6 t : FVec Ideal S1x1024 .f32) (iblk m c 7 t : FVec Ideal S1x1024 .f32) a = inputEntry (arg0 m c) (arg1 m c)
          (arg2 m c)
          (arg3 m c) (arg4 m c)
          (arg5 m c) (arg6 m c)
          (arg7 m c) i := by
  unfold inputEntry
  rw [row_stream m c t a i hi, funext (block_5 m c t), funext (block_6 m c t), funext (block_7 m c t)]

/-- What a point stores of the product. -/
theorem point_8 (c : Dev nD) (t : Fin cfg0.N) (y : S1024x1024.Idx) :
    k0_pay1 (F := Ideal) (k0_pay3 (F := Ideal) (iblk m c 0 t) (iblk m c 1 t)) y
      = (fun j : S16384x1024.Idx => forwardProduct (arg0 m c) (arg1 m c) (j 0) (j 1)) (((cfg0.win 8).blk t).view.emb y) := by
  have h0 : ((((cfg0.win 8).blk t).view.emb y 0 : Fin 16384) : ℕ) = 1024 * t.val + (y 0 : Fin 1024) := by
    blk_simp [idx_val t]
    omega
  have h1 : (((cfg0.win 8).blk t).view.emb y 1 : Fin 1024) = y 1 := by
    refine Fin.ext ?_
    blk_simp [idx_val t]
  generalize ((cfg0.win 8).blk t).view.emb y = j at h0 h1 ⊢
  refine (congrArg (k0_pay1 (F := Ideal) (k0_pay3 (F := Ideal) (iblk m c 0 t) (iblk m c 1 t))) (eq_ix2 y)).trans ((product_at _ _ (y 0) (y 1)).trans ?_)
  exact (congrFun (row_product m c t (y 0) (j 0) h0) (y 1)).trans (congrArg _ h1.symm)

/-- The product's array after the run. -/
theorem final_8 (c : Dev nD) : (dats m 0 c).arrAt 8 cfg0.N = fun j : S16384x1024.Idx => forwardProduct (arg0 m c) (arg1 m c) (j 0) (j 1) := by
  refine (dats m 0 c).arrAt_eq_of_covers 8 _ (by decide +kernel) fun t _ y => ?_
  blk_simp
  rw [after0_8]
  frame_out
  exact point_8 m c t y

/-- What a point stores of the residual stream. -/
theorem point_9 (c : Dev nD) (t : Fin cfg0.N) (y : S1024x1024.Idx) :
    k0_pay4 (F := Ideal) (iblk m c 0 t) (iblk m c 1 t) (iblk m c 2 t) (iblk m c 3 t) (iblk m c 4 t) y
      = (fun j : S16384x1024.Idx => streamEntry (arg0 m c) (arg1 m c)
          (arg2 m c)
          (arg3 m c) (arg4 m c) (j 0) (j 1)) (((cfg0.win 9).blk t).view.emb y) := by
  have h0 : ((((cfg0.win 9).blk t).view.emb y 0 : Fin 16384) : ℕ) = 1024 * t.val + (y 0 : Fin 1024) := by
    blk_simp [idx_val t]
    omega
  have h1 : (((cfg0.win 9).blk t).view.emb y 1 : Fin 1024) = y 1 := by
    refine Fin.ext ?_
    blk_simp [idx_val t]
  generalize ((cfg0.win 9).blk t).view.emb y = j at h0 h1 ⊢
  refine (congrArg (k0_pay4 (F := Ideal) (iblk m c 0 t) (iblk m c 1 t) (iblk m c 2 t) (iblk m c 3 t) (iblk m c 4 t)) (eq_ix2 y)).trans ((stream_at _ _ _ _ _ (y 0) (y 1)).trans ?_)
  exact (congrFun (row_stream m c t (y 0) (j 0) h0) (y 1)).trans (congrArg _ h1.symm)

/-- The residual stream's array after the run. -/
theorem final_9 (c : Dev nD) : (dats m 0 c).arrAt 9 cfg0.N = fun j : S16384x1024.Idx => streamEntry (arg0 m c) (arg1 m c)
          (arg2 m c)
          (arg3 m c) (arg4 m c) (j 0) (j 1) := by
  refine (dats m 0 c).arrAt_eq_of_covers 9 _ (by decide +kernel) fun t _ y => ?_
  blk_simp
  rw [after0_9]
  frame_out
  exact point_9 m c t y

/-- What a point stores of the next sub-layer's input. -/
theorem point_10 (c : Dev nD) (t : Fin cfg0.N) (y : S1024x1024.Idx) :
    k0_pay2 (F := Ideal) (iblk m c 6 t) (iblk m c 7 t) (k0_pay5 (F := Ideal) (iblk m c 0 t) (iblk m c 1 t) (iblk m c 2 t) (iblk m c 3 t) (iblk m c 4 t)) (k0_pay6 (F := Ideal) (iblk m c 5 t)) y
      = (fun j : S16384x1024.Idx => inputEntry (arg0 m c) (arg1 m c)
          (arg2 m c)
          (arg3 m c) (arg4 m c)
          (arg5 m c) (arg6 m c)
          (arg7 m c) (j 0) (j 1)) (((cfg0.win 10).blk t).view.emb y) := by
  have h0 : ((((cfg0.win 10).blk t).view.emb y 0 : Fin 16384) : ℕ) = 1024 * t.val + (y 0 : Fin 1024) := by
    blk_simp [idx_val t]
    omega
  have h1 : (((cfg0.win 10).blk t).view.emb y 1 : Fin 1024) = y 1 := by
    refine Fin.ext ?_
    blk_simp [idx_val t]
  generalize ((cfg0.win 10).blk t).view.emb y = j at h0 h1 ⊢
  refine (congrArg (k0_pay2 (F := Ideal) (iblk m c 6 t) (iblk m c 7 t) (k0_pay5 (F := Ideal) (iblk m c 0 t) (iblk m c 1 t) (iblk m c 2 t) (iblk m c 3 t) (iblk m c 4 t)) (k0_pay6 (F := Ideal) (iblk m c 5 t))) (eq_ix2 y)).trans ((input_at _ _ _ _ _ _ _ _ (y 0) (y 1)).trans ?_)
  exact (congrFun (row_input m c t (y 0) (j 0) h0) (y 1)).trans (congrArg _ h1.symm)

/-- The next sub-layer's input's array after the run. -/
theorem final_10 (c : Dev nD) : (dats m 0 c).arrAt 10 cfg0.N = fun j : S16384x1024.Idx => inputEntry (arg0 m c) (arg1 m c)
          (arg2 m c)
          (arg3 m c) (arg4 m c)
          (arg5 m c) (arg6 m c)
          (arg7 m c) (j 0) (j 1) := by
  refine (dats m 0 c).arrAt_eq_of_covers 10 _ (by decide +kernel) fun t _ y => ?_
  blk_simp
  rw [after0_10]
  frame_out
  exact point_10 m c t y

/-- The kernel's run: the three results are the product, the stream and the next input, the arguments are kept. -/
theorem run_spec (ρ : Dev nD → PrngReg) : θ_run defs (onTc (τ := τ) (main (F := Ideal))) ⟨m, fun _ => 0, ρ⟩ fun r => ∀ c : Dev nD,
      r.2.mem (c.tc.loc main_v0_0) = (fun j : S16384x1024.Idx => forwardProduct (arg0 m c) (arg1 m c) (j 0) (j 1))
      ∧ r.2.mem (c.tc.loc main_v0_1) = (fun j : S16384x1024.Idx => streamEntry (arg0 m c) (arg1 m c)
          (arg2 m c)
          (arg3 m c) (arg4 m c) (j 0) (j 1))
      ∧ r.2.mem (c.tc.loc main_v0_2) = (fun j : S16384x1024.Idx => inputEntry (arg0 m c) (arg1 m c)
          (arg2 m c)
          (arg3 m c) (arg4 m c)
          (arg5 m c) (arg6 m c)
          (arg7 m c) (j 0) (j 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7) :=
  (θ_run defs _ _).mono (fun _ h c => ⟨((h c).1).trans (final_8 m c), ((h c).2.1).trans (final_9 m c), ((h c).2.2.1).trans (final_10 m c), (h c).2.2.2⟩)
    (Cert.Kernel14Ideal.Value.run_blocks (F := Ideal) m ρ)

end Cert.Kernel14Ideal.Product

namespace Cert.Reference14Ideal.Product

open Cert.Reference14Ideal Cert.Reference14Ideal.Gen

variable (m : (ℓ : Loc nD τ sig) → Buf (Elt Ideal) ℓ)

/-- The call's argument 0. -/
abbrev arg0 (c : Dev nD) := (m (c.tc.loc main_arg0) : FVec Ideal S16384x1024 .bf16)

/-- The call's argument 1. -/
abbrev arg1 (c : Dev nD) := (m (c.tc.loc main_arg1) : FVec Ideal S1024x1024 .bf16)

/-- The call's argument 2. -/
abbrev arg2 (c : Dev nD) := (m (c.tc.loc main_arg2) : FVec Ideal S16384x1024 .f32)

/-- The call's argument 3. -/
abbrev arg3 (c : Dev nD) := (m (c.tc.loc main_arg3) : FVec Ideal S1x1024 .f32)

/-- The call's argument 4. -/
abbrev arg4 (c : Dev nD) := (m (c.tc.loc main_arg4) : FVec Ideal S1x1024 .f32)

/-- The call's argument 5. -/
abbrev arg5 (c : Dev nD) := (m (c.tc.loc main_arg5) : FVec Ideal S1x1024 .f32)

/-- The call's argument 6. -/
abbrev arg6 (c : Dev nD) := (m (c.tc.loc main_arg6) : FVec Ideal S1x1024 .f32)

/-- The call's argument 7. -/
abbrev arg7 (c : Dev nD) := (m (c.tc.loc main_arg7) : FVec Ideal S1x1024 .f32)

/-- The reference's run: the three results are the product, the stream and the next input, the arguments are kept. -/
theorem run_spec (ρ : Dev nD → PrngReg) : θ_run defs (onTc (τ := τ) (main (F := Ideal))) ⟨m, fun _ => 0, ρ⟩ fun r => ∀ c : Dev nD,
      r.2.mem (c.tc.loc main_v36) = (fun j : S16384x1024.Idx => forwardProduct (arg0 m c) (arg1 m c) (j 0) (j 1))
      ∧ r.2.mem (c.tc.loc main_v17) = (fun j : S16384x1024.Idx => streamEntry (arg0 m c) (arg1 m c)
          (arg2 m c)
          (arg3 m c) (arg4 m c) (j 0) (j 1))
      ∧ r.2.mem (c.tc.loc main_v37) = (fun j : S16384x1024.Idx => inputEntry (arg0 m c) (arg1 m c)
          (arg2 m c)
          (arg3 m c) (arg4 m c)
          (arg5 m c) (arg6 m c)
          (arg7 m c) (j 0) (j 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7) := by
  refine (θ_run defs _ _).mono (fun r h c => ⟨(h c).1.trans ?_, (h c).2.1.trans ?_, (h c).2.2.1.trans ?_, (h c).2.2.2⟩) (Value.run (F := Ideal) m ρ)
  · clear h
    funext j
    idx_vars j
    pointwise [forwardProduct]
  · clear h
    funext j
    idx_vars j
    pointwise [streamEntry, residualEntry, normed, forwardProduct]
  · clear h
    funext j
    idx_vars j
    pointwise [Value.res_main_v37, inputEntry, nextInput, streamEntry, residualEntry, normed, forwardProduct]

end Cert.Reference14Ideal.Product

namespace Cert.Proof

/-- The reference runs, keeps its arguments and leaves no counter raised. -/
theorem frame_reference14 : Cert.quiescent_Reference14Ideal (hReference14Ideal := Cert.Reference14Ideal.Gen.facts) := fun m ρ _ =>
  (θ_run Cert.Reference14Ideal.defs _ _).mono (fun r h => ⟨fun c => (h c).2.2.2,
    sem_eq_zero_of_no_sems (by decide) r.2⟩) (Cert.Reference14Ideal.Value.run (F := Ideal) m ρ)

open Cert.Reference14Ideal.Product in
/-- Kernel and reference compute the same product, stream and next input. -/
theorem algebraic14 : Cert.algebraic_Kernel14Ideal_Reference14Ideal (hKernel14Ideal := Cert.Kernel14Ideal.Gen.facts)
    (hReference14Ideal := Cert.Reference14Ideal.Gen.facts) := fun m ρ m' ρ' _ hag => by
  refine ⟨_, _, _, Cert.Kernel14Ideal.Product.run_spec m ρ, ?_⟩
  refine (θ_run Cert.Reference14Ideal.defs _ _).mono (fun r h c => ?_) (Cert.Reference14Ideal.Product.run_spec m' ρ')
  obtain ⟨h0, h1, h2, h3⟩ := h c
  obtain ⟨a0, a1, a2, a3, a4, a5, a6, a7⟩ := hag c
  dsimp only [arg0, arg1, arg2, arg3, arg4, arg5, arg6, arg7] at h0 h1 h2
  rw [a0, a1] at h0
  rw [a0, a1, a2, a3, a4] at h1
  rw [a0, a1, a2, a3, a4, a5, a6, a7] at h2
  exact ⟨h0, h1, h2, h3⟩

end Cert.Proof

end
-- ==== Proof.Products.FfnOut.lean ====
/- The last layer's second product of the feed-forward: each grid point computes one block of rows of the result. -/
module

public import proofs.«01_k».proof.Defs
public import proofs.«01_k».proof.Proof.Gen.Kernel15Ideal.Value
public import proofs.«01_k».proof.Proof.Gen.Reference15Ideal.Run
public import proofs.«01_k».proof.Proof.Products.Spec

@[expose] public section

set_option maxRecDepth 16384

noncomputable section

open Idealize.ShloMosaic Idealize.ShloMosaic.TcCoe Idealize.SL.Sem
open Idealize.ShloMosaic.Pipeline (Dat)
open Cert.Product (forwardProduct)

namespace Cert.Kernel15Ideal.Product

open Cert.Kernel15Ideal Cert.Kernel15Ideal.Gen

variable (m : (ℓ : Loc nD τ sig) → Buf (Elt Ideal) ℓ)

/-- Where the three windows' blocks lie at point `t`. -/
theorem idx_val : ∀ t : Fin cfg0.N, win0_0.index t = ![t.val, 0] ∧ win0_1.index t = ![0, 0] ∧ win0_2.index t = ![t.val, 0] :=
  (by decide +kernel : ∀ t : Fin grid0.N, _)

/-- What one point stores: its blocks' product, at the rows and columns of the whole product. -/
theorem point (c : Dev nD) (t : Fin cfg0.N) (y : S1024x1024.Idx) :
    k0_pay1 (F := Ideal) (iblk m c 0 t) (iblk m c 1 t) y
      = (fun j : S16384x1024.Idx => forwardProduct (m (c.tc.loc main_arg0) : FVec Ideal S16384x2816 .bf16) (m (c.tc.loc main_arg1) : FVec Ideal S2816x1024 .bf16) (j 0) (j 1))
          (((cfg0.win 2).blk t).view.emb y) := by
  idx_vars y
  pointwise [k0_pay1, forwardProduct]
  refine Finset.sum_congr rfl fun k _ => ?_
  refine congrArg₂ (fun a b : EReal => a * b) ?_ ?_
  · blk_ext [iblk, V, idx_val t]
  · blk_ext [iblk, V, idx_val t]

/-- The array after the run is the product. -/
theorem final (c : Dev nD) : (dats m 0 c).arrAt 2 cfg0.N
    = fun j => forwardProduct (m (c.tc.loc main_arg0) : FVec Ideal S16384x2816 .bf16) (m (c.tc.loc main_arg1) : FVec Ideal S2816x1024 .bf16) (j 0) (j 1) := by
  refine (dats m 0 c).arrAt_eq_of_covers 2 _ (by decide +kernel) fun t _ y => ?_
  blk_simp
  rw [after0_2]
  frame_out
  exact point m c t y

/-- The kernel's run: the result is the product, the arguments are kept. -/
theorem run_spec (ρ : Dev nD → PrngReg) : θ_run defs (onTc (τ := τ) (main (F := Ideal))) ⟨m, fun _ => 0, ρ⟩ fun r => ∀ c : Dev nD,
      r.2.mem (c.tc.loc main_v0)
        = (fun j : S16384x1024.Idx => forwardProduct (m (c.tc.loc main_arg0) : FVec Ideal S16384x2816 .bf16) (m (c.tc.loc main_arg1) : FVec Ideal S2816x1024 .bf16) (j 0) (j 1))
      ∧ r.2.mem (c.tc.loc main_arg0) = m (c.tc.loc main_arg0)
      ∧ r.2.mem (c.tc.loc main_arg1) = m (c.tc.loc main_arg1) :=
  (θ_run defs _ _).mono (fun _ h c => ⟨(h c).1.trans (final m c), (h c).2⟩) (Cert.Kernel15Ideal.Value.run_blocks (F := Ideal) m ρ)

end Cert.Kernel15Ideal.Product

namespace Cert.Reference15Ideal.Product

open Cert.Reference15Ideal Cert.Reference15Ideal.Gen

variable (m : (ℓ : Loc nD τ sig) → Buf (Elt Ideal) ℓ)

/-- The reference's run: the result is the product, the arguments are kept. -/
theorem run_spec (ρ : Dev nD → PrngReg) : θ_run defs (onTc (τ := τ) (main (F := Ideal))) ⟨m, fun _ => 0, ρ⟩ fun r => ∀ c : Dev nD,
      r.2.mem (c.tc.loc main_v3)
        = (fun j : S16384x1024.Idx => forwardProduct (m (c.tc.loc main_arg0) : FVec Ideal S16384x2816 .bf16) (m (c.tc.loc main_arg1) : FVec Ideal S2816x1024 .bf16) (j 0) (j 1))
      ∧ r.2.mem (c.tc.loc main_arg0) = m (c.tc.loc main_arg0)
      ∧ r.2.mem (c.tc.loc main_arg1) = m (c.tc.loc main_arg1) := by
  refine (θ_run defs _ _).mono (fun r h c => ⟨(h c).1.trans ?_, (h c).2⟩) (Value.run (F := Ideal) m ρ)
  clear h
  funext j
  idx_vars j
  pointwise [forwardProduct]

end Cert.Reference15Ideal.Product

namespace Cert.Proof

/-- The reference runs, keeps its arguments and leaves no counter raised. -/
theorem frame_reference15 : Cert.quiescent_Reference15Ideal (hReference15Ideal := Cert.Reference15Ideal.Gen.facts) := fun m ρ _ =>
  (θ_run Cert.Reference15Ideal.defs _ _).mono (fun r h => ⟨fun c => (h c).2,
    sem_eq_zero_of_no_sems (by decide) r.2⟩) (Cert.Reference15Ideal.Value.run (F := Ideal) m ρ)

/-- Kernel and reference compute the same product. -/
theorem algebraic15 : Cert.algebraic_Kernel15Ideal_Reference15Ideal (hKernel15Ideal := Cert.Kernel15Ideal.Gen.facts)
    (hReference15Ideal := Cert.Reference15Ideal.Gen.facts) := fun m ρ m' ρ' _ hag => by
  refine ⟨_, Cert.Kernel15Ideal.Product.run_spec m ρ, ?_⟩
  refine (θ_run Cert.Reference15Ideal.defs _ _).mono (fun r h c => ?_) (Cert.Reference15Ideal.Product.run_spec m' ρ')
  obtain ⟨h0, h1, h2⟩ := h c
  rw [(hag c).1, (hag c).2] at h0
  exact ⟨h0, h1, h2⟩

end Cert.Proof

end
-- ==== Proof.Products.Merge.lean ====
/- The gated sum of the mixer's three branches and its gradient, entry by entry. -/
module

public import proofs.«01_k».proof.Proof.Products.Spec

@[expose] public section

noncomputable section

open Idealize.ShloMosaic

namespace Cert.Product

/-- The column of the mixer's input product that holds gate `b`'s logit `l`. -/
def gateCol (b : Fin 3) (l : Fin 1024) : Fin 6144 :=
  ⟨3072 + 1024 * b + l, by omega⟩

/-- The logits of gate `b`: 1024 columns of the mixer's input product. -/
def gateCols (p : FVec Ideal ⟨2, ![16384, 6144]⟩ .bf16) (b : Fin 3) : FVec Ideal ⟨2, ![16384, 1024]⟩ .bf16 := fun j =>
  p (ix2 (j 0) (gateCol b (j 1)))

/-- What one branch adds at `(i, j)`: its product, weighted with the logistic of its gate. -/
def branchEntry {r n : ℕ} (g : FVec Ideal ⟨2, ![r, 1024]⟩ .bf16) (y : FVec Ideal ⟨2, ![r, n]⟩ .bf16) (w : FVec Ideal ⟨2, ![n, 1024]⟩ .bf16)
    (i : Fin r) (j : Fin 1024) : EReal :=
  Ideal.logistic (g (ix2 i j)) * forwardProduct y w i j

/-- The gradient of a branch's product: the cotangent times the logistic of the gate. -/
def branchGrad {r : ℕ} (g d : FVec Ideal ⟨2, ![r, 1024]⟩ .bf16) : FVec Ideal ⟨2, ![r, 1024]⟩ .bf16 := fun j => (d j * Ideal.logistic (g j) : EReal)

/-- The gradient of a branch's gate at `(i, j)`: the cotangent times the product times the logistic's slope. -/
def gateGrad {r n : ℕ} (g d : FVec Ideal ⟨2, ![r, 1024]⟩ .bf16) (y : FVec Ideal ⟨2, ![r, n]⟩ .bf16) (w : FVec Ideal ⟨2, ![n, 1024]⟩ .bf16)
    (i : Fin r) (j : Fin 1024) : EReal :=
  d (ix2 i j) * forwardProduct y w i j * Ideal.logistic (g (ix2 i j)) * (1 - Ideal.logistic (g (ix2 i j)))

/-- The gradients of the three gates side by side, at `(i, j)`: the third of the columns that `j` lies in says which gate. -/
def gateGrads {r : ℕ} (g0 g1 g2 d : FVec Ideal ⟨2, ![r, 1024]⟩ .bf16) (y0 y1 : FVec Ideal ⟨2, ![r, 256]⟩ .bf16) (y2 : FVec Ideal ⟨2, ![r, 512]⟩ .bf16)
    (w0 w1 : FVec Ideal ⟨2, ![256, 1024]⟩ .bf16) (w2 : FVec Ideal ⟨2, ![512, 1024]⟩ .bf16) (i : Fin r) (j : Fin 3072) : EReal :=
  if h0 : (j : ℕ) < 1024 then gateGrad g0 d y0 w0 i ⟨j, h0⟩
  else if h1 : (j : ℕ) < 2048 then gateGrad g1 d y1 w1 i ⟨j - 1024, by omega⟩
  else gateGrad g2 d y2 w2 i ⟨j - 2048, by omega⟩

end Cert.Product

end
-- ==== Proof.Products.MergeForward.lean ====
/- The gated sum of the mixer's three branches: each grid point computes a block of rows. -/
module

public import proofs.«01_k».proof.Defs
public import proofs.«01_k».proof.Proof.Gen.Kernel16Ideal.Value
public import proofs.«01_k».proof.Proof.Gen.Reference16Ideal.Run
public import proofs.«01_k».proof.Proof.Products.Merge

@[expose] public section

set_option maxRecDepth 16384

noncomputable section

open Idealize.ShloMosaic Idealize.ShloMosaic.TcCoe Idealize.SL.Sem
open Idealize.ShloMosaic.Pipeline (Dat)
open Cert.Product (forwardProduct gateCol gateCols branchEntry)

namespace Cert.Kernel16Ideal.Product

open Cert.Kernel16Ideal Cert.Kernel16Ideal.Gen

variable (m : (ℓ : Loc nD τ sig) → Buf (Elt Ideal) ℓ)

/-- The call's argument 0. -/
abbrev arg0 (c : Dev nD) := (m (c.tc.loc main_arg0) : FVec Ideal S16384x6144 .bf16)

/-- The call's argument 1. -/
abbrev arg1 (c : Dev nD) := (m (c.tc.loc main_arg1) : FVec Ideal S16384x256 .bf16)

/-- The call's argument 2. -/
abbrev arg2 (c : Dev nD) := (m (c.tc.loc main_arg2) : FVec Ideal S16384x256 .bf16)

/-- The call's argument 3. -/
abbrev arg3 (c : Dev nD) := (m (c.tc.loc main_arg3) : FVec Ideal S16384x512 .bf16)

/-- The call's argument 4. -/
abbrev arg4 (c : Dev nD) := (m (c.tc.loc main_arg4) : FVec Ideal S256x1024 .bf16)

/-- The call's argument 5. -/
abbrev arg5 (c : Dev nD) := (m (c.tc.loc main_arg5) : FVec Ideal S256x1024 .bf16)

/-- The call's argument 6. -/
abbrev arg6 (c : Dev nD) := (m (c.tc.loc main_arg6) : FVec Ideal S512x1024 .bf16)

/-- Where the ten windows' blocks lie at point `t`. -/
theorem idx_val : ∀ t : Fin cfg0.N, win0_0.index t = ![t.val, 3] ∧ win0_1.index t = ![t.val, 4] ∧ win0_2.index t = ![t.val, 5]
    ∧ win0_3.index t = ![t.val, 0] ∧ win0_4.index t = ![t.val, 0] ∧ win0_5.index t = ![t.val, 0]
    ∧ win0_6.index t = ![0, 0] ∧ win0_7.index t = ![0, 0] ∧ win0_8.index t = ![0, 0] ∧ win0_9.index t = ![t.val, 0] :=
  (by decide +kernel : ∀ t : Fin grid0.N, _)

/-- A block of rows of the first gate's logits. -/
theorem block_gate0 (c : Dev nD) (t : Fin cfg0.N) (a : Fin 512) (l : Fin 1024) (i : Fin 16384) (hi : (i : ℕ) = 512 * t.val + a) :
    (iblk m c 0 t : FVec Ideal S512x1024 .bf16) (ix2 a l) = gateCols (arg0 m c) 0 (ix2 i l) := by
  have e : i = ⟨512 * t.val + a, by omega⟩ := Fin.ext hi
  rw [e]
  show _ = (arg0 m c) (ix2 _ (gateCol 0 l))
  blk_ext [iblk, V, gateCol, idx_val t]

/-- A block of rows of the first branch. -/
theorem block_rows0 (c : Dev nD) (t : Fin cfg0.N) (a : Fin 512) (l : Fin 256) (i : Fin 16384) (hi : (i : ℕ) = 512 * t.val + a) :
    (iblk m c 3 t : FVec Ideal S512x256 .bf16) (ix2 a l) = (arg1 m c) (ix2 i l) := by
  have e : i = ⟨512 * t.val + a, by omega⟩ := Fin.ext hi
  rw [e]
  blk_ext [iblk, V, idx_val t]

/-- The whole weight of the first branch. -/
theorem block_weight0 (c : Dev nD) (t : Fin cfg0.N) (k : Fin 256) (l : Fin 1024) :
    (iblk m c 6 t : FVec Ideal S256x1024 .bf16) (ix2 k l) = (arg4 m c) (ix2 k l) := by
  blk_ext [iblk, V, idx_val t]

/-- A block of rows of the second gate's logits. -/
theorem block_gate1 (c : Dev nD) (t : Fin cfg0.N) (a : Fin 512) (l : Fin 1024) (i : Fin 16384) (hi : (i : ℕ) = 512 * t.val + a) :
    (iblk m c 1 t : FVec Ideal S512x1024 .bf16) (ix2 a l) = gateCols (arg0 m c) 1 (ix2 i l) := by
  have e : i = ⟨512 * t.val + a, by omega⟩ := Fin.ext hi
  rw [e]
  show _ = (arg0 m c) (ix2 _ (gateCol 1 l))
  blk_ext [iblk, V, gateCol, idx_val t]

/-- A block of rows of the second branch. -/
theorem block_rows1 (c : Dev nD) (t : Fin cfg0.N) (a : Fin 512) (l : Fin 256) (i : Fin 16384) (hi : (i : ℕ) = 512 * t.val + a) :
    (iblk m c 4 t : FVec Ideal S512x256 .bf16) (ix2 a l) = (arg2 m c) (ix2 i l) := by
  have e : i = ⟨512 * t.val + a, by omega⟩ := Fin.ext hi
  rw [e]
  blk_ext [iblk, V, idx_val t]

/-- The whole weight of the second branch. -/
theorem block_weight1 (c : Dev nD) (t : Fin cfg0.N) (k : Fin 256) (l : Fin 1024) :
    (iblk m c 7 t : FVec Ideal S256x1024 .bf16) (ix2 k l) = (arg5 m c) (ix2 k l) := by
  blk_ext [iblk, V, idx_val t]

/-- A block of rows of the third gate's logits. -/
theorem block_gate2 (c : Dev nD) (t : Fin cfg0.N) (a : Fin 512) (l : Fin 1024) (i : Fin 16384) (hi : (i : ℕ) = 512 * t.val + a) :
    (iblk m c 2 t : FVec Ideal S512x1024 .bf16) (ix2 a l) = gateCols (arg0 m c) 2 (ix2 i l) := by
  have e : i = ⟨512 * t.val + a, by omega⟩ := Fin.ext hi
  rw [e]
  show _ = (arg0 m c) (ix2 _ (gateCol 2 l))
  blk_ext [iblk, V, gateCol, idx_val t]

/-- A block of rows of the third branch. -/
theorem block_rows2 (c : Dev nD) (t : Fin cfg0.N) (a : Fin 512) (l : Fin 512) (i : Fin 16384) (hi : (i : ℕ) = 512 * t.val + a) :
    (iblk m c 5 t : FVec Ideal S512x512 .bf16) (ix2 a l) = (arg3 m c) (ix2 i l) := by
  have e : i = ⟨512 * t.val + a, by omega⟩ := Fin.ext hi
  rw [e]
  blk_ext [iblk, V, idx_val t]

/-- The whole weight of the third branch. -/
theorem block_weight2 (c : Dev nD) (t : Fin cfg0.N) (k : Fin 512) (l : Fin 1024) :
    (iblk m c 8 t : FVec Ideal S512x1024 .bf16) (ix2 k l) = (arg6 m c) (ix2 k l) := by
  blk_ext [iblk, V, idx_val t]

/-- The payload: the three branches' sum. -/
theorem sum_at (g0 g1 g2 : FVec Ideal S512x1024 .bf16) (y0 y1 : FVec Ideal S512x256 .bf16) (y2 : FVec Ideal S512x512 .bf16)
    (w0 w1 : FVec Ideal S256x1024 .bf16) (w2 : FVec Ideal S512x1024 .bf16) (i : Fin 512) (j : Fin 1024) :
    k0_pay1 (F := Ideal) g0 y0 w0 g1 y1 w1 g2 y2 w2 (ix2 i j) = branchEntry g0 y0 w0 i j + branchEntry g1 y1 w1 i j + branchEntry g2 y2 w2 i j := by
  pointwise [k0_pay1, branchEntry, forwardProduct]

/-- A row of a point's first branch is a row of the whole branch. -/
theorem row0 (c : Dev nD) (t : Fin cfg0.N) (a : Fin 512) (l : Fin 1024) (i : Fin 16384) (hi : (i : ℕ) = 512 * t.val + a) :
    branchEntry (iblk m c 0 t : FVec Ideal S512x1024 .bf16) (iblk m c 3 t : FVec Ideal S512x256 .bf16) (iblk m c 6 t : FVec Ideal S256x1024 .bf16) a l = branchEntry (gateCols (arg0 m c) 0) (arg1 m c) (arg4 m c) i l := by
  unfold branchEntry forwardProduct
  rw [block_gate0 m c t a l i hi]
  refine congrArg (fun q : EReal => _ * q) (Finset.sum_congr rfl fun k _ => ?_)
  exact congrArg₂ (fun p q : EReal => p * q) (block_rows0 m c t a k i hi) (block_weight0 m c t k l)

/-- A row of a point's second branch is a row of the whole branch. -/
theorem row1 (c : Dev nD) (t : Fin cfg0.N) (a : Fin 512) (l : Fin 1024) (i : Fin 16384) (hi : (i : ℕ) = 512 * t.val + a) :
    branchEntry (iblk m c 1 t : FVec Ideal S512x1024 .bf16) (iblk m c 4 t : FVec Ideal S512x256 .bf16) (iblk m c 7 t : FVec Ideal S256x1024 .bf16) a l = branchEntry (gateCols (arg0 m c) 1) (arg2 m c) (arg5 m c) i l := by
  unfold branchEntry forwardProduct
  rw [block_gate1 m c t a l i hi]
  refine congrArg (fun q : EReal => _ * q) (Finset.sum_congr rfl fun k _ => ?_)
  exact congrArg₂ (fun p q : EReal => p * q) (block_rows1 m c t a k i hi) (block_weight1 m c t k l)

/-- A row of a point's third branch is a row of the whole branch. -/
theorem row2 (c : Dev nD) (t : Fin cfg0.N) (a : Fin 512) (l : Fin 1024) (i : Fin 16384) (hi : (i : ℕ) = 512 * t.val + a) :
    branchEntry (iblk m c 2 t : FVec Ideal S512x1024 .bf16) (iblk m c 5 t : FVec Ideal S512x512 .bf16) (iblk m c 8 t : FVec Ideal S512x1024 .bf16) a l = branchEntry (gateCols (arg0 m c) 2) (arg3 m c) (arg6 m c) i l := by
  unfold branchEntry forwardProduct
  rw [block_gate2 m c t a l i hi]
  refine congrArg (fun q : EReal => _ * q) (Finset.sum_congr rfl fun k _ => ?_)
  exact congrArg₂ (fun p q : EReal => p * q) (block_rows2 m c t a k i hi) (block_weight2 m c t k l)

/-- What a point stores. -/
theorem point (c : Dev nD) (t : Fin cfg0.N) (y : S512x1024.Idx) :
    k0_pay1 (F := Ideal) (iblk m c 0 t) (iblk m c 3 t) (iblk m c 6 t) (iblk m c 1 t) (iblk m c 4 t) (iblk m c 7 t) (iblk m c 2 t) (iblk m c 5 t) (iblk m c 8 t) y
      = (fun j : S16384x1024.Idx =>
          (branchEntry (gateCols (arg0 m c) 0) (arg1 m c) (arg4 m c) (j 0) (j 1)
          + branchEntry (gateCols (arg0 m c) 1) (arg2 m c) (arg5 m c) (j 0) (j 1)
          + branchEntry (gateCols (arg0 m c) 2) (arg3 m c) (arg6 m c) (j 0) (j 1) : EReal)) (((cfg0.win 9).blk t).view.emb y) := by
  have h0 : ((((cfg0.win 9).blk t).view.emb y 0 : Fin 16384) : ℕ) = 512 * t.val + (y 0 : Fin 512) := by
    blk_simp [idx_val t]
    omega
  have h1 : (((cfg0.win 9).blk t).view.emb y 1 : Fin 1024) = y 1 := by
    refine Fin.ext ?_
    blk_simp [idx_val t]
  generalize ((cfg0.win 9).blk t).view.emb y = j at h0 h1 ⊢
  refine (congrArg (k0_pay1 (F := Ideal) (iblk m c 0 t) (iblk m c 3 t) (iblk m c 6 t) (iblk m c 1 t) (iblk m c 4 t) (iblk m c 7 t) (iblk m c 2 t) (iblk m c 5 t) (iblk m c 8 t)) (eq_ix2 y)).trans
    ((sum_at _ _ _ _ _ _ _ _ _ (y 0) (y 1)).trans ?_)
  rw [row0 m c t (y 0) (y 1) (j 0) h0, row1 m c t (y 0) (y 1) (j 0) h0, row2 m c t (y 0) (y 1) (j 0) h0]
  exact congrArg (fun l : Fin 1024 =>
          (branchEntry (gateCols (arg0 m c) 0) (arg1 m c) (arg4 m c) (j 0) l
          + branchEntry (gateCols (arg0 m c) 1) (arg2 m c) (arg5 m c) (j 0) l
          + branchEntry (gateCols (arg0 m c) 2) (arg3 m c) (arg6 m c) (j 0) l : EReal)) h1.symm

/-- The array after the run. -/
theorem final (c : Dev nD) : (dats m 0 c).arrAt 9 cfg0.N = fun j : S16384x1024.Idx =>
          (branchEntry (gateCols (arg0 m c) 0) (arg1 m c) (arg4 m c) (j 0) (j 1)
          + branchEntry (gateCols (arg0 m c) 1) (arg2 m c) (arg5 m c) (j 0) (j 1)
          + branchEntry (gateCols (arg0 m c) 2) (arg3 m c) (arg6 m c) (j 0) (j 1) : EReal) := by
  refine (dats m 0 c).arrAt_eq_of_covers 9 _ (by decide +kernel) fun t _ y => ?_
  blk_simp
  rw [after0_9]
  frame_out
  exact point m c t y

/-- The kernel's run: the result is the gated sum, the arguments are kept. -/
theorem run_spec (ρ : Dev nD → PrngReg) : θ_run defs (onTc (τ := τ) (main (F := Ideal))) ⟨m, fun _ => 0, ρ⟩ fun r => ∀ c : Dev nD,
      r.2.mem (c.tc.loc main_v0) = (fun j : S16384x1024.Idx =>
          (branchEntry (gateCols (arg0 m c) 0) (arg1 m c) (arg4 m c) (j 0) (j 1)
          + branchEntry (gateCols (arg0 m c) 1) (arg2 m c) (arg5 m c) (j 0) (j 1)
          + branchEntry (gateCols (arg0 m c) 2) (arg3 m c) (arg6 m c) (j 0) (j 1) : EReal))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6) :=
  (θ_run defs _ _).mono (fun _ h c => ⟨(h c).1.trans (final m c), (h c).2⟩) (Cert.Kernel16Ideal.Value.run_blocks (F := Ideal) m ρ)

end Cert.Kernel16Ideal.Product

namespace Cert.Reference16Ideal.Product

open Cert.Reference16Ideal Cert.Reference16Ideal.Gen

variable (m : (ℓ : Loc nD τ sig) → Buf (Elt Ideal) ℓ)

/-- The call's argument 0. -/
abbrev arg0 (c : Dev nD) := (m (c.tc.loc main_arg0) : FVec Ideal S16384x6144 .bf16)

/-- The call's argument 1. -/
abbrev arg1 (c : Dev nD) := (m (c.tc.loc main_arg1) : FVec Ideal S16384x256 .bf16)

/-- The call's argument 2. -/
abbrev arg2 (c : Dev nD) := (m (c.tc.loc main_arg2) : FVec Ideal S16384x256 .bf16)

/-- The call's argument 3. -/
abbrev arg3 (c : Dev nD) := (m (c.tc.loc main_arg3) : FVec Ideal S16384x512 .bf16)

/-- The call's argument 4. -/
abbrev arg4 (c : Dev nD) := (m (c.tc.loc main_arg4) : FVec Ideal S256x1024 .bf16)

/-- The call's argument 5. -/
abbrev arg5 (c : Dev nD) := (m (c.tc.loc main_arg5) : FVec Ideal S256x1024 .bf16)

/-- The call's argument 6. -/
abbrev arg6 (c : Dev nD) := (m (c.tc.loc main_arg6) : FVec Ideal S512x1024 .bf16)

/-- The reference's run: the result is the gated sum, the arguments are kept. -/
theorem run_spec (ρ : Dev nD → PrngReg) : θ_run defs (onTc (τ := τ) (main (F := Ideal))) ⟨m, fun _ => 0, ρ⟩ fun r => ∀ c : Dev nD,
      r.2.mem (c.tc.loc main_v38) = (fun j : S16384x1024.Idx =>
          (branchEntry (gateCols (arg0 m c) 0) (arg1 m c) (arg4 m c) (j 0) (j 1)
          + branchEntry (gateCols (arg0 m c) 1) (arg2 m c) (arg5 m c) (j 0) (j 1)
          + branchEntry (gateCols (arg0 m c) 2) (arg3 m c) (arg6 m c) (j 0) (j 1) : EReal))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6) := by
  refine (θ_run defs _ _).mono (fun r h c => ⟨(h c).1.trans ?_, (h c).2⟩) (Value.run (F := Ideal) m ρ)
  clear h
  funext j
  idx_vars j
  pointwise [branchEntry, gateCols, gateCol, forwardProduct, Ideal.logistic]

end Cert.Reference16Ideal.Product

namespace Cert.Proof

/-- The reference runs, keeps its arguments and leaves no counter raised. -/
theorem frame_reference16 : Cert.quiescent_Reference16Ideal (hReference16Ideal := Cert.Reference16Ideal.Gen.facts) := fun m ρ _ =>
  (θ_run Cert.Reference16Ideal.defs _ _).mono (fun r h => ⟨fun c => (h c).2,
    sem_eq_zero_of_no_sems (by decide) r.2⟩) (Cert.Reference16Ideal.Value.run (F := Ideal) m ρ)

open Cert.Reference16Ideal.Product in
/-- Kernel and reference compute the same gated sum. -/
theorem algebraic16 : Cert.algebraic_Kernel16Ideal_Reference16Ideal (hKernel16Ideal := Cert.Kernel16Ideal.Gen.facts)
    (hReference16Ideal := Cert.Reference16Ideal.Gen.facts) := fun m ρ m' ρ' _ hag => by
  refine ⟨_, Cert.Kernel16Ideal.Product.run_spec m ρ, ?_⟩
  refine (θ_run Cert.Reference16Ideal.defs _ _).mono (fun r h c => ?_) (Cert.Reference16Ideal.Product.run_spec m' ρ')
  obtain ⟨h0, h1⟩ := h c
  obtain ⟨a0, a1, a2, a3, a4, a5, a6⟩ := hag c
  dsimp only [arg0, arg1, arg2, arg3, arg4, arg5, arg6] at h0
  rw [a0, a1, a2, a3, a4, a5, a6] at h0
  exact ⟨h0, h1⟩

end Cert.Proof

end
-- ==== Proof.Products.MergeBlocks.lean ====
/- The gradient of the gated sum: the blocks a grid point reads and what it computes from them. -/
module

public import proofs.«01_k».proof.Defs
public import proofs.«01_k».proof.Proof.Gen.Kernel17Ideal.Frame
public import proofs.«01_k».proof.Proof.Products.Merge

@[expose] public section

set_option maxRecDepth 16384

noncomputable section

open Idealize.ShloMosaic Idealize.ShloMosaic.TcCoe Idealize.SL.Sem
open Idealize.ShloMosaic.Pipeline (Dat)
open Cert.Product (forwardProduct gradInput gradWeight gateCol gateCols branchGrad gateGrad gateGrads)

namespace Cert.Kernel17Ideal.Product

open Cert.Kernel17Ideal Cert.Kernel17Ideal.Gen

variable (m : (ℓ : Loc nD τ sig) → Buf (Elt Ideal) ℓ)

/-- The call's argument 0. -/
abbrev arg0 (c : Dev nD) := (m (c.tc.loc main_arg0) : FVec Ideal S16384x6144 .bf16)

/-- The call's argument 1. -/
abbrev arg1 (c : Dev nD) := (m (c.tc.loc main_arg1) : FVec Ideal S16384x256 .bf16)

/-- The call's argument 2. -/
abbrev arg2 (c : Dev nD) := (m (c.tc.loc main_arg2) : FVec Ideal S16384x256 .bf16)

/-- The call's argument 3. -/
abbrev arg3 (c : Dev nD) := (m (c.tc.loc main_arg3) : FVec Ideal S16384x512 .bf16)

/-- The call's argument 4. -/
abbrev arg4 (c : Dev nD) := (m (c.tc.loc main_arg4) : FVec Ideal S256x1024 .bf16)

/-- The call's argument 5. -/
abbrev arg5 (c : Dev nD) := (m (c.tc.loc main_arg5) : FVec Ideal S256x1024 .bf16)

/-- The call's argument 6. -/
abbrev arg6 (c : Dev nD) := (m (c.tc.loc main_arg6) : FVec Ideal S512x1024 .bf16)

/-- The call's argument 7. -/
abbrev arg7 (c : Dev nD) := (m (c.tc.loc main_arg7) : FVec Ideal S16384x1024 .bf16)

/-- Where the seventeen windows' blocks lie at point `t`. -/
theorem idx_val : ∀ t : Fin cfg0.N, win0_0.index t = ![t.val, 3] ∧ win0_1.index t = ![t.val, 4] ∧ win0_2.index t = ![t.val, 5]
    ∧ win0_3.index t = ![t.val, 0] ∧ win0_4.index t = ![t.val, 0] ∧ win0_5.index t = ![t.val, 0]
    ∧ win0_6.index t = ![0, 0] ∧ win0_7.index t = ![0, 0] ∧ win0_8.index t = ![0, 0] ∧ win0_9.index t = ![t.val, 0]
    ∧ win0_10.index t = ![t.val, 1] ∧ win0_11.index t = ![t.val, 0] ∧ win0_12.index t = ![t.val, 0] ∧ win0_13.index t = ![t.val, 0]
    ∧ win0_14.index t = ![0, 0] ∧ win0_15.index t = ![0, 0] ∧ win0_16.index t = ![0, 0] :=
  (by decide +kernel : ∀ t : Fin grid0.N, _)

/-- A block of rows of the first gate's logits. -/
theorem block_gate0 (c : Dev nD) (t : Fin cfg0.N) (a : Fin 512) (l : Fin 1024) (i : Fin 16384) (hi : (i : ℕ) = 512 * t.val + a) :
    (iblk m c 0 t : FVec Ideal S512x1024 .bf16) (ix2 a l) = gateCols (arg0 m c) 0 (ix2 i l) := by
  have e : i = ⟨512 * t.val + a, by omega⟩ := Fin.ext hi
  rw [e]
  show _ = (arg0 m c) (ix2 _ (gateCol 0 l))
  blk_ext [iblk, V, gateCol, idx_val t]

/-- A block of rows of the first branch. -/
theorem block_rows0 (c : Dev nD) (t : Fin cfg0.N) (a : Fin 512) (l : Fin 256) (i : Fin 16384) (hi : (i : ℕ) = 512 * t.val + a) :
    (iblk m c 3 t : FVec Ideal S512x256 .bf16) (ix2 a l) = (arg1 m c) (ix2 i l) := by
  have e : i = ⟨512 * t.val + a, by omega⟩ := Fin.ext hi
  rw [e]
  blk_ext [iblk, V, idx_val t]

/-- The whole weight of the first branch. -/
theorem block_weight0 (c : Dev nD) (t : Fin cfg0.N) (k : Fin 256) (l : Fin 1024) :
    (iblk m c 6 t : FVec Ideal S256x1024 .bf16) (ix2 k l) = (arg4 m c) (ix2 k l) := by
  blk_ext [iblk, V, idx_val t]

/-- A block of rows of the second gate's logits. -/
theorem block_gate1 (c : Dev nD) (t : Fin cfg0.N) (a : Fin 512) (l : Fin 1024) (i : Fin 16384) (hi : (i : ℕ) = 512 * t.val + a) :
    (iblk m c 1 t : FVec Ideal S512x1024 .bf16) (ix2 a l) = gateCols (arg0 m c) 1 (ix2 i l) := by
  have e : i = ⟨512 * t.val + a, by omega⟩ := Fin.ext hi
  rw [e]
  show _ = (arg0 m c) (ix2 _ (gateCol 1 l))
  blk_ext [iblk, V, gateCol, idx_val t]

/-- A block of rows of the second branch. -/
theorem block_rows1 (c : Dev nD) (t : Fin cfg0.N) (a : Fin 512) (l : Fin 256) (i : Fin 16384) (hi : (i : ℕ) = 512 * t.val + a) :
    (iblk m c 4 t : FVec Ideal S512x256 .bf16) (ix2 a l) = (arg2 m c) (ix2 i l) := by
  have e : i = ⟨512 * t.val + a, by omega⟩ := Fin.ext hi
  rw [e]
  blk_ext [iblk, V, idx_val t]

/-- The whole weight of the second branch. -/
theorem block_weight1 (c : Dev nD) (t : Fin cfg0.N) (k : Fin 256) (l : Fin 1024) :
    (iblk m c 7 t : FVec Ideal S256x1024 .bf16) (ix2 k l) = (arg5 m c) (ix2 k l) := by
  blk_ext [iblk, V, idx_val t]

/-- A block of rows of the third gate's logits. -/
theorem block_gate2 (c : Dev nD) (t : Fin cfg0.N) (a : Fin 512) (l : Fin 1024) (i : Fin 16384) (hi : (i : ℕ) = 512 * t.val + a) :
    (iblk m c 2 t : FVec Ideal S512x1024 .bf16) (ix2 a l) = gateCols (arg0 m c) 2 (ix2 i l) := by
  have e : i = ⟨512 * t.val + a, by omega⟩ := Fin.ext hi
  rw [e]
  show _ = (arg0 m c) (ix2 _ (gateCol 2 l))
  blk_ext [iblk, V, gateCol, idx_val t]

/-- A block of rows of the third branch. -/
theorem block_rows2 (c : Dev nD) (t : Fin cfg0.N) (a : Fin 512) (l : Fin 512) (i : Fin 16384) (hi : (i : ℕ) = 512 * t.val + a) :
    (iblk m c 5 t : FVec Ideal S512x512 .bf16) (ix2 a l) = (arg3 m c) (ix2 i l) := by
  have e : i = ⟨512 * t.val + a, by omega⟩ := Fin.ext hi
  rw [e]
  blk_ext [iblk, V, idx_val t]

/-- The whole weight of the third branch. -/
theorem block_weight2 (c : Dev nD) (t : Fin cfg0.N) (k : Fin 512) (l : Fin 1024) :
    (iblk m c 8 t : FVec Ideal S512x1024 .bf16) (ix2 k l) = (arg6 m c) (ix2 k l) := by
  blk_ext [iblk, V, idx_val t]

/-- A block of rows of the cotangent. -/
theorem block_cotangent (c : Dev nD) (t : Fin cfg0.N) (a : Fin 512) (l : Fin 1024) (i : Fin 16384) (hi : (i : ℕ) = 512 * t.val + a) :
    (iblk m c 9 t : FVec Ideal S512x1024 .bf16) (ix2 a l) = (arg7 m c) (ix2 i l) := by
  have e : i = ⟨512 * t.val + a, by omega⟩ := Fin.ext hi
  rw [e]
  blk_ext [iblk, V, idx_val t]

/-- The payload for the first gate's gradient. -/
theorem gate0_at (d g : FVec Ideal S512x1024 .bf16) (y : FVec Ideal S512x256 .bf16) (w : FVec Ideal S256x1024 .bf16) (i : Fin 512) (j : Fin 1024) :
    k0_pay10 (F := Ideal) d y w g (ix2 i j) = gateGrad g d y w i j := by
  pointwise [k0_pay1, k0_pay2, k0_pay3, k0_pay7, k0_pay8, k0_pay9, k0_pay10, k0_pay11, k0_pay12, k0_pay13, k0_pay14, k0_pay15, k0_pay16, k0_pay17, k0_pay18, k0_pay19, k0_pay20, gateGrad, forwardProduct]

/-- The payload for the gradient of the first branch's rows. -/
theorem rows0_at (d g : FVec Ideal S512x1024 .bf16) (w : FVec Ideal S256x1024 .bf16) (i : Fin 512) (j : Fin 256) :
    k0_pay11 (F := Ideal) d w g (ix2 i j) = gradInput (branchGrad g d) w i j := by
  pointwise [k0_pay1, k0_pay2, k0_pay3, k0_pay7, k0_pay8, k0_pay9, k0_pay10, k0_pay11, k0_pay12, k0_pay13, k0_pay14, k0_pay15, k0_pay16, k0_pay17, k0_pay18, k0_pay19, k0_pay20, gradInput, branchGrad]

/-- The payload for the first weight's gradient: the point's product is added to what is there. -/
theorem weight0_at (d g : FVec Ideal S512x1024 .bf16) (y : FVec Ideal S512x256 .bf16) (s : FVec Ideal S256x1024 .f32) (i : Fin 256) (j : Fin 1024) :
    k0_pay12 (F := Ideal) d y g s (ix2 i j) = s (ix2 i j) + gradWeight y (branchGrad g d) i j := by
  pointwise [k0_pay1, k0_pay2, k0_pay3, k0_pay7, k0_pay8, k0_pay9, k0_pay10, k0_pay11, k0_pay12, k0_pay13, k0_pay14, k0_pay15, k0_pay16, k0_pay17, k0_pay18, k0_pay19, k0_pay20, gradWeight, branchGrad]

/-- What the first weight's gradient starts from. -/
theorem zero0_at (i : Fin 256) (j : Fin 1024) : k0_pay4 (F := Ideal) (ix2 i j) = 0 := by
  pointwise [k0_pay4]

/-- The payload for the second gate's gradient. -/
theorem gate1_at (d g : FVec Ideal S512x1024 .bf16) (y : FVec Ideal S512x256 .bf16) (w : FVec Ideal S256x1024 .bf16) (i : Fin 512) (j : Fin 1024) :
    k0_pay15 (F := Ideal) (k0_pay7 d) y w g (ix2 i j) = gateGrad g d y w i j := by
  pointwise [k0_pay1, k0_pay2, k0_pay3, k0_pay7, k0_pay8, k0_pay9, k0_pay10, k0_pay11, k0_pay12, k0_pay13, k0_pay14, k0_pay15, k0_pay16, k0_pay17, k0_pay18, k0_pay19, k0_pay20, gateGrad, forwardProduct]

/-- The payload for the gradient of the second branch's rows. -/
theorem rows1_at (d g : FVec Ideal S512x1024 .bf16) (w : FVec Ideal S256x1024 .bf16) (i : Fin 512) (j : Fin 256) :
    k0_pay16 (F := Ideal) (k0_pay7 d) w g (ix2 i j) = gradInput (branchGrad g d) w i j := by
  pointwise [k0_pay1, k0_pay2, k0_pay3, k0_pay7, k0_pay8, k0_pay9, k0_pay10, k0_pay11, k0_pay12, k0_pay13, k0_pay14, k0_pay15, k0_pay16, k0_pay17, k0_pay18, k0_pay19, k0_pay20, gradInput, branchGrad]

/-- The payload for the second weight's gradient: the point's product is added to what is there. -/
theorem weight1_at (d g : FVec Ideal S512x1024 .bf16) (y : FVec Ideal S512x256 .bf16) (s : FVec Ideal S256x1024 .f32) (i : Fin 256) (j : Fin 1024) :
    k0_pay17 (F := Ideal) (k0_pay7 d) y g s (ix2 i j) = s (ix2 i j) + gradWeight y (branchGrad g d) i j := by
  pointwise [k0_pay1, k0_pay2, k0_pay3, k0_pay7, k0_pay8, k0_pay9, k0_pay10, k0_pay11, k0_pay12, k0_pay13, k0_pay14, k0_pay15, k0_pay16, k0_pay17, k0_pay18, k0_pay19, k0_pay20, gradWeight, branchGrad]

/-- What the second weight's gradient starts from. -/
theorem zero1_at (i : Fin 256) (j : Fin 1024) : k0_pay5 (F := Ideal) (ix2 i j) = 0 := by
  pointwise [k0_pay5]

/-- The payload for the third gate's gradient. -/
theorem gate2_at (d g : FVec Ideal S512x1024 .bf16) (y : FVec Ideal S512x512 .bf16) (w : FVec Ideal S512x1024 .bf16) (i : Fin 512) (j : Fin 1024) :
    k0_pay1 (F := Ideal) (k0_pay20 (k0_pay7 d) y w g) (ix2 i j) = gateGrad g d y w i j := by
  pointwise [k0_pay1, k0_pay2, k0_pay3, k0_pay7, k0_pay8, k0_pay9, k0_pay10, k0_pay11, k0_pay12, k0_pay13, k0_pay14, k0_pay15, k0_pay16, k0_pay17, k0_pay18, k0_pay19, k0_pay20, gateGrad, forwardProduct]

/-- The payload for the gradient of the third branch's rows. -/
theorem rows2_at (d g : FVec Ideal S512x1024 .bf16) (w : FVec Ideal S512x1024 .bf16) (i : Fin 512) (j : Fin 512) :
    k0_pay2 (F := Ideal) w (k0_pay19 (k0_pay7 d) g) (ix2 i j) = gradInput (branchGrad g d) w i j := by
  pointwise [k0_pay1, k0_pay2, k0_pay3, k0_pay7, k0_pay8, k0_pay9, k0_pay10, k0_pay11, k0_pay12, k0_pay13, k0_pay14, k0_pay15, k0_pay16, k0_pay17, k0_pay18, k0_pay19, k0_pay20, gradInput, branchGrad]

/-- The payload for the third weight's gradient: the point's product is added to what is there. -/
theorem weight2_at (d g : FVec Ideal S512x1024 .bf16) (y : FVec Ideal S512x512 .bf16) (s : FVec Ideal S512x1024 .f32) (i : Fin 512) (j : Fin 1024) :
    k0_pay3 (F := Ideal) y (k0_pay19 (k0_pay7 d) g) s (ix2 i j) = s (ix2 i j) + gradWeight y (branchGrad g d) i j := by
  pointwise [k0_pay1, k0_pay2, k0_pay3, k0_pay7, k0_pay8, k0_pay9, k0_pay10, k0_pay11, k0_pay12, k0_pay13, k0_pay14, k0_pay15, k0_pay16, k0_pay17, k0_pay18, k0_pay19, k0_pay20, gradWeight, branchGrad]

/-- What the third weight's gradient starts from. -/
theorem zero2_at (i : Fin 512) (j : Fin 1024) : k0_pay6 (F := Ideal) (ix2 i j) = 0 := by
  pointwise [k0_pay6]

end Cert.Kernel17Ideal.Product

end
-- ==== Proof.Products.MergePoints.lean ====
/- The gradient of the gated sum: what a grid point leaves in the seven blocks of its results. -/
module

public import proofs.«01_k».proof.Proof.Products.MergeBlocks

@[expose] public section

set_option maxRecDepth 16384

noncomputable section

open Idealize.ShloMosaic Idealize.ShloMosaic.TcCoe Idealize.SL.Sem
open Idealize.ShloMosaic.Pipeline (Dat)
open Cert.Product (forwardProduct gradInput gradWeight gateCol gateCols branchGrad gateGrad gateGrads)

namespace Cert.Kernel17Ideal.Product

open Cert.Kernel17Ideal Cert.Kernel17Ideal.Gen

variable (m : (ℓ : Loc nD τ sig) → Buf (Elt Ideal) ℓ)

/-- The gates' gradients at a column of the first third. -/
theorem gateGrads_0 (g0 g1 g2 d : FVec Ideal S512x1024 .bf16) (y0 y1 : FVec Ideal S512x256 .bf16) (y2 : FVec Ideal S512x512 .bf16)
    (w0 w1 : FVec Ideal S256x1024 .bf16) (w2 : FVec Ideal S512x1024 .bf16) (i : Fin 512) (l : Fin 1024) (j : Fin 3072) (hj : (j : ℕ) = 0 + l) :
    gateGrads g0 g1 g2 d y0 y1 y2 w0 w1 w2 i j = gateGrad g0 d y0 w0 i l := by
  have hl := l.isLt
  unfold gateGrads
  rw [dif_pos (by omega)]
  exact congrArg (gateGrad g0 d y0 w0 i) (Fin.ext (by show (j : ℕ) = l; omega))

/-- The gates' gradients at a column of the second third. -/
theorem gateGrads_1 (g0 g1 g2 d : FVec Ideal S512x1024 .bf16) (y0 y1 : FVec Ideal S512x256 .bf16) (y2 : FVec Ideal S512x512 .bf16)
    (w0 w1 : FVec Ideal S256x1024 .bf16) (w2 : FVec Ideal S512x1024 .bf16) (i : Fin 512) (l : Fin 1024) (j : Fin 3072) (hj : (j : ℕ) = 1024 + l) :
    gateGrads g0 g1 g2 d y0 y1 y2 w0 w1 w2 i j = gateGrad g1 d y1 w1 i l := by
  have hl := l.isLt
  unfold gateGrads
  rw [dif_neg (by omega), dif_pos (by omega)]
  exact congrArg (gateGrad g1 d y1 w1 i) (Fin.ext (by show (j : ℕ) - 1024 = l; omega))

/-- The gates' gradients at a column of the third third. -/
theorem gateGrads_2 (g0 g1 g2 d : FVec Ideal S512x1024 .bf16) (y0 y1 : FVec Ideal S512x256 .bf16) (y2 : FVec Ideal S512x512 .bf16)
    (w0 w1 : FVec Ideal S256x1024 .bf16) (w2 : FVec Ideal S512x1024 .bf16) (i : Fin 512) (l : Fin 1024) (j : Fin 3072) (hj : (j : ℕ) = 2048 + l) :
    gateGrads g0 g1 g2 d y0 y1 y2 w0 w1 w2 i j = gateGrad g2 d y2 w2 i l := by
  have hl := l.isLt
  unfold gateGrads
  rw [dif_neg (by omega), dif_neg (by omega)]
  exact congrArg (gateGrad g2 d y2 w2 i) (Fin.ext (by show (j : ℕ) - 2048 = l; omega))

/-- The three stores of the gates' gradients, read together. -/
theorem gates_canon (g0 g1 g2 d : FVec Ideal S512x1024 .bf16) (y0 y1 : FVec Ideal S512x256 .bf16) (y2 : FVec Ideal S512x512 .bf16)
    (w0 w1 : FVec Ideal S256x1024 .bf16) (w2 : FVec Ideal S512x1024 .bf16) (y : S512x3072.Idx) :
    View.canon (Val := Elt Ideal) (e := .bf16) [⟨Rect.unit ![0, 2048] ![512, 1024] inb_S512x3072_S512x1024_0_2048, k0_pay1 (F := Ideal) (k0_pay20 (k0_pay7 d) y2 w2 g2)⟩,
        ⟨Rect.unit ![0, 1024] ![512, 1024] inb_S512x3072_S512x1024_0_1024, k0_pay15 (F := Ideal) (k0_pay7 d) y1 w1 g1⟩,
        ⟨Rect.unit ![0, 0] ![512, 1024] inb_S512x3072_S512x1024_0_0, k0_pay10 (F := Ideal) d y0 w0 g0⟩] y
      = (gateGrads g0 g1 g2 d y0 y1 y2 w0 w1 w2 (y 0) (y 1) : EReal) := by
  have hy0 : (y 0 : ℕ) < 512 := (y 0).isLt
  have hy1 : (y 1 : ℕ) < 3072 := (y 1).isLt
  refine View.canon_apply_of_pieces (Val := Elt Ideal) (e := .bf16) (fun y : S512x3072.Idx => (gateGrads g0 g1 g2 d y0 y1 y2 w0 w1 w2 (y 0) (y 1) : EReal)) _ ?_ y ?_
  · intro p hp x
    rcases List.mem_cons.mp hp with rfl | hp
    · refine (congrArg (k0_pay1 (F := Ideal) (k0_pay20 (k0_pay7 d) y2 w2 g2)) (eq_ix2 x)).trans ((gate2_at d g2 y2 w2 (x 0) (x 1)).trans ?_)
      refine ((gateGrads_2 g0 g1 g2 d y0 y1 y2 w0 w1 w2 (x 0) (x 1) _ ?_).symm).trans (congrArg (fun i => gateGrads g0 g1 g2 d y0 y1 y2 w0 w1 w2 i _) (Fin.ext ?_))
      · exact ValueKit.rect_emb_unit_val (s := S512x3072) ![0, 2048] ![512, 1024] inb_S512x3072_S512x1024_0_2048 x 1
      · exact ((ValueKit.rect_emb_unit_val (s := S512x3072) ![0, 2048] ![512, 1024] inb_S512x3072_S512x1024_0_2048 x 0).trans (Nat.zero_add _)).symm
    rcases List.mem_cons.mp hp with rfl | hp
    · refine (congrArg (k0_pay15 (F := Ideal) (k0_pay7 d) y1 w1 g1) (eq_ix2 x)).trans ((gate1_at d g1 y1 w1 (x 0) (x 1)).trans ?_)
      refine ((gateGrads_1 g0 g1 g2 d y0 y1 y2 w0 w1 w2 (x 0) (x 1) _ ?_).symm).trans (congrArg (fun i => gateGrads g0 g1 g2 d y0 y1 y2 w0 w1 w2 i _) (Fin.ext ?_))
      · exact ValueKit.rect_emb_unit_val (s := S512x3072) ![0, 1024] ![512, 1024] inb_S512x3072_S512x1024_0_1024 x 1
      · exact ((ValueKit.rect_emb_unit_val (s := S512x3072) ![0, 1024] ![512, 1024] inb_S512x3072_S512x1024_0_1024 x 0).trans (Nat.zero_add _)).symm
    rcases List.mem_cons.mp hp with rfl | hp
    · refine (congrArg (k0_pay10 (F := Ideal) d y0 w0 g0) (eq_ix2 x)).trans ((gate0_at d g0 y0 w0 (x 0) (x 1)).trans ?_)
      refine ((gateGrads_0 g0 g1 g2 d y0 y1 y2 w0 w1 w2 (x 0) (x 1) _ ?_).symm).trans (congrArg (fun i => gateGrads g0 g1 g2 d y0 y1 y2 w0 w1 w2 i _) (Fin.ext ?_))
      · exact ValueKit.rect_emb_unit_val (s := S512x3072) ![0, 0] ![512, 1024] inb_S512x3072_S512x1024_0_0 x 1
      · exact ((ValueKit.rect_emb_unit_val (s := S512x3072) ![0, 0] ![512, 1024] inb_S512x3072_S512x1024_0_0 x 0).trans (Nat.zero_add _)).symm
    exact absurd hp List.not_mem_nil
  · by_cases h0 : (y 1 : ℕ) < 1024
    · refine ⟨_, List.mem_cons_of_mem _ (List.mem_cons_of_mem _ List.mem_cons_self), (Rect.mem_set_unit (s := S512x3072) (inb := inb_S512x3072_S512x1024_0_0)).mpr fun a => ?_⟩
      match a with
      | ⟨0, _⟩ => exact ⟨Nat.zero_le _, by show (y 0 : ℕ) < 0 + 512; omega⟩
      | ⟨1, _⟩ => exact ⟨Nat.zero_le _, by show (y 1 : ℕ) < 0 + 1024; omega⟩
    · by_cases h1 : (y 1 : ℕ) < 2048
      · refine ⟨_, List.mem_cons_of_mem _ List.mem_cons_self, (Rect.mem_set_unit (s := S512x3072) (inb := inb_S512x3072_S512x1024_0_1024)).mpr fun a => ?_⟩
        match a with
        | ⟨0, _⟩ => exact ⟨Nat.zero_le _, by show (y 0 : ℕ) < 0 + 512; omega⟩
        | ⟨1, _⟩ => exact ⟨by show 1024 ≤ (y 1 : ℕ); omega, by show (y 1 : ℕ) < 1024 + 1024; omega⟩
      · refine ⟨_, List.mem_cons_self, (Rect.mem_set_unit (s := S512x3072) (inb := inb_S512x3072_S512x1024_0_2048)).mpr fun a => ?_⟩
        match a with
        | ⟨0, _⟩ => exact ⟨Nat.zero_le _, by show (y 0 : ℕ) < 0 + 512; omega⟩
        | ⟨1, _⟩ => exact ⟨by show 2048 ≤ (y 1 : ℕ); omega, by show (y 1 : ℕ) < 2048 + 1024; omega⟩

/-- The block of the gates' gradients. -/
theorem gates_point (c : Dev nD) (t : Fin cfg0.N) (y : S512x3072.Idx) :
    (outsAt0 m c t.val t.isLt).1 y = gateGrads (iblk m c 0 t : FVec Ideal S512x1024 .bf16) (iblk m c 1 t : FVec Ideal S512x1024 .bf16) (iblk m c 2 t : FVec Ideal S512x1024 .bf16) (iblk m c 9 t : FVec Ideal S512x1024 .bf16) (iblk m c 3 t : FVec Ideal S512x256 .bf16) (iblk m c 4 t : FVec Ideal S512x256 .bf16) (iblk m c 5 t : FVec Ideal S512x512 .bf16) (iblk m c 6 t : FVec Ideal S256x1024 .bf16) (iblk m c 7 t : FVec Ideal S256x1024 .bf16) (iblk m c 8 t : FVec Ideal S512x1024 .bf16) (y 0) (y 1) := by
  by_cases h : t.val % 32 = 0
  · rw [outsAt0_A m c t h]
    dsimp only
    frame_out
    exact gates_canon _ _ _ _ _ _ _ _ _ _ y
  · rw [outsAt0_B m c t h]
    dsimp only
    frame_out
    exact gates_canon _ _ _ _ _ _ _ _ _ _ y

/-- The block of the gradient of the first branch's rows. -/
theorem rows0_point (c : Dev nD) (t : Fin cfg0.N) (y : S512x256.Idx) :
    (outsAt0 m c t.val t.isLt).2.1 y = gradInput (branchGrad (iblk m c 0 t : FVec Ideal S512x1024 .bf16) (iblk m c 9 t : FVec Ideal S512x1024 .bf16)) (iblk m c 6 t : FVec Ideal S256x1024 .bf16) (y 0) (y 1) := by
  by_cases h : t.val % 32 = 0
  · rw [outsAt0_A m c t h]
    dsimp only
    frame_out
    exact (congrArg _ (eq_ix2 y)).trans (rows0_at _ _ _ (y 0) (y 1))
  · rw [outsAt0_B m c t h]
    dsimp only
    frame_out
    exact (congrArg _ (eq_ix2 y)).trans (rows0_at _ _ _ (y 0) (y 1))

/-- The first weight's gradient after the last point: the sum of the products of all blocks of rows. -/
theorem weight0_point (c : Dev nD) (t : Fin cfg0.N) (h : t.val % 32 = 31) (y : S256x1024.Idx) :
    (outsAt0 m c t.val t.isLt).2.2.2.2.1 y = ∑ s : Fin 32, gradWeight (iblk m c 3 ⟨32 * (t.val / 32) + s, Pipeline.run_point_lt_of_flush t h s⟩ : FVec Ideal S512x256 .bf16)
      (branchGrad (iblk m c 0 ⟨32 * (t.val / 32) + s, Pipeline.run_point_lt_of_flush t h s⟩ : FVec Ideal S512x1024 .bf16)
        (iblk m c 9 ⟨32 * (t.val / 32) + s, Pipeline.run_point_lt_of_flush t h s⟩ : FVec Ideal S512x1024 .bf16)) (y 0) (y 1) := by
  rw [Pipeline.eq_sum_fin_of_reset_step_apply_of_flush (fun n h => (outsAt0 m c n h).2.2.2.2.1) 32 (fun _ => (0 : EReal))
    (fun t y => gradWeight (iblk m c 3 t : FVec Ideal S512x256 .bf16) (branchGrad (iblk m c 0 t : FVec Ideal S512x1024 .bf16) (iblk m c 9 t : FVec Ideal S512x1024 .bf16)) (y 0) (y 1))
    (fun t h j => by
      rw [outsAt0_A m c t h]; dsimp only; frame_out
      exact (congrArg _ (eq_ix2 j)).trans ((weight0_at _ _ _ _ (j 0) (j 1)).trans (congrArg (fun e : EReal => e + _) (zero0_at (j 0) (j 1)))))
    (fun t h j => by
      rw [outsAt0_B m c t h]; dsimp only; frame_out
      exact (congrArg _ (eq_ix2 j)).trans ((weight0_at _ _ _ _ (j 0) (j 1)).trans (congrArg (fun i => (outsAt0 m c (t.val - 1) _).2.2.2.2.1 i + gradWeight (iblk m c 3 t : FVec Ideal S512x256 .bf16) (branchGrad (iblk m c 0 t : FVec Ideal S512x1024 .bf16) (iblk m c 9 t : FVec Ideal S512x1024 .bf16)) (j 0) (j 1)) (eq_ix2 j).symm)))
    t h y]
  exact zero_add _

/-- The block of the gradient of the second branch's rows. -/
theorem rows1_point (c : Dev nD) (t : Fin cfg0.N) (y : S512x256.Idx) :
    (outsAt0 m c t.val t.isLt).2.2.1 y = gradInput (branchGrad (iblk m c 1 t : FVec Ideal S512x1024 .bf16) (iblk m c 9 t : FVec Ideal S512x1024 .bf16)) (iblk m c 7 t : FVec Ideal S256x1024 .bf16) (y 0) (y 1) := by
  by_cases h : t.val % 32 = 0
  · rw [outsAt0_A m c t h]
    dsimp only
    frame_out
    exact (congrArg _ (eq_ix2 y)).trans (rows1_at _ _ _ (y 0) (y 1))
  · rw [outsAt0_B m c t h]
    dsimp only
    frame_out
    exact (congrArg _ (eq_ix2 y)).trans (rows1_at _ _ _ (y 0) (y 1))

/-- The second weight's gradient after the last point: the sum of the products of all blocks of rows. -/
theorem weight1_point (c : Dev nD) (t : Fin cfg0.N) (h : t.val % 32 = 31) (y : S256x1024.Idx) :
    (outsAt0 m c t.val t.isLt).2.2.2.2.2.1 y = ∑ s : Fin 32, gradWeight (iblk m c 4 ⟨32 * (t.val / 32) + s, Pipeline.run_point_lt_of_flush t h s⟩ : FVec Ideal S512x256 .bf16)
      (branchGrad (iblk m c 1 ⟨32 * (t.val / 32) + s, Pipeline.run_point_lt_of_flush t h s⟩ : FVec Ideal S512x1024 .bf16)
        (iblk m c 9 ⟨32 * (t.val / 32) + s, Pipeline.run_point_lt_of_flush t h s⟩ : FVec Ideal S512x1024 .bf16)) (y 0) (y 1) := by
  rw [Pipeline.eq_sum_fin_of_reset_step_apply_of_flush (fun n h => (outsAt0 m c n h).2.2.2.2.2.1) 32 (fun _ => (0 : EReal))
    (fun t y => gradWeight (iblk m c 4 t : FVec Ideal S512x256 .bf16) (branchGrad (iblk m c 1 t : FVec Ideal S512x1024 .bf16) (iblk m c 9 t : FVec Ideal S512x1024 .bf16)) (y 0) (y 1))
    (fun t h j => by
      rw [outsAt0_A m c t h]; dsimp only; frame_out
      exact (congrArg _ (eq_ix2 j)).trans ((weight1_at _ _ _ _ (j 0) (j 1)).trans (congrArg (fun e : EReal => e + _) (zero1_at (j 0) (j 1)))))
    (fun t h j => by
      rw [outsAt0_B m c t h]; dsimp only; frame_out
      exact (congrArg _ (eq_ix2 j)).trans ((weight1_at _ _ _ _ (j 0) (j 1)).trans (congrArg (fun i => (outsAt0 m c (t.val - 1) _).2.2.2.2.2.1 i + gradWeight (iblk m c 4 t : FVec Ideal S512x256 .bf16) (branchGrad (iblk m c 1 t : FVec Ideal S512x1024 .bf16) (iblk m c 9 t : FVec Ideal S512x1024 .bf16)) (j 0) (j 1)) (eq_ix2 j).symm)))
    t h y]
  exact zero_add _

/-- The block of the gradient of the third branch's rows. -/
theorem rows2_point (c : Dev nD) (t : Fin cfg0.N) (y : S512x512.Idx) :
    (outsAt0 m c t.val t.isLt).2.2.2.1 y = gradInput (branchGrad (iblk m c 2 t : FVec Ideal S512x1024 .bf16) (iblk m c 9 t : FVec Ideal S512x1024 .bf16)) (iblk m c 8 t : FVec Ideal S512x1024 .bf16) (y 0) (y 1) := by
  by_cases h : t.val % 32 = 0
  · rw [outsAt0_A m c t h]
    dsimp only
    frame_out
    exact (congrArg _ (eq_ix2 y)).trans (rows2_at _ _ _ (y 0) (y 1))
  · rw [outsAt0_B m c t h]
    dsimp only
    frame_out
    exact (congrArg _ (eq_ix2 y)).trans (rows2_at _ _ _ (y 0) (y 1))

/-- The third weight's gradient after the last point: the sum of the products of all blocks of rows. -/
theorem weight2_point (c : Dev nD) (t : Fin cfg0.N) (h : t.val % 32 = 31) (y : S512x1024.Idx) :
    (outsAt0 m c t.val t.isLt).2.2.2.2.2.2 y = ∑ s : Fin 32, gradWeight (iblk m c 5 ⟨32 * (t.val / 32) + s, Pipeline.run_point_lt_of_flush t h s⟩ : FVec Ideal S512x512 .bf16)
      (branchGrad (iblk m c 2 ⟨32 * (t.val / 32) + s, Pipeline.run_point_lt_of_flush t h s⟩ : FVec Ideal S512x1024 .bf16)
        (iblk m c 9 ⟨32 * (t.val / 32) + s, Pipeline.run_point_lt_of_flush t h s⟩ : FVec Ideal S512x1024 .bf16)) (y 0) (y 1) := by
  rw [Pipeline.eq_sum_fin_of_reset_step_apply_of_flush (fun n h => (outsAt0 m c n h).2.2.2.2.2.2) 32 (fun _ => (0 : EReal))
    (fun t y => gradWeight (iblk m c 5 t : FVec Ideal S512x512 .bf16) (branchGrad (iblk m c 2 t : FVec Ideal S512x1024 .bf16) (iblk m c 9 t : FVec Ideal S512x1024 .bf16)) (y 0) (y 1))
    (fun t h j => by
      rw [outsAt0_A m c t h]; dsimp only; frame_out
      exact (congrArg _ (eq_ix2 j)).trans ((weight2_at _ _ _ _ (j 0) (j 1)).trans (congrArg (fun e : EReal => e + _) (zero2_at (j 0) (j 1)))))
    (fun t h j => by
      rw [outsAt0_B m c t h]; dsimp only; frame_out
      exact (congrArg _ (eq_ix2 j)).trans ((weight2_at _ _ _ _ (j 0) (j 1)).trans (congrArg (fun i => (outsAt0 m c (t.val - 1) _).2.2.2.2.2.2 i + gradWeight (iblk m c 5 t : FVec Ideal S512x512 .bf16) (branchGrad (iblk m c 2 t : FVec Ideal S512x1024 .bf16) (iblk m c 9 t : FVec Ideal S512x1024 .bf16)) (j 0) (j 1)) (eq_ix2 j).symm)))
    t h y]
  exact zero_add _

end Cert.Kernel17Ideal.Product

end
-- ==== Proof.Products.MergeResults.lean ====
/- The gradient of the gated sum: the kernel's seven results. -/
module

public import proofs.«01_k».proof.Proof.Products.MergePoints

@[expose] public section

set_option maxRecDepth 16384

noncomputable section

open Idealize.ShloMosaic Idealize.ShloMosaic.TcCoe Idealize.SL.Sem
open Idealize.ShloMosaic.Pipeline (Dat)
open Cert.Product (forwardProduct gradInput gradWeight gateCol gateCols branchGrad gateGrad gateGrads)

namespace Cert.Kernel17Ideal.Product

open Cert.Kernel17Ideal Cert.Kernel17Ideal.Gen

variable (m : (ℓ : Loc nD τ sig) → Buf (Elt Ideal) ℓ)

/-- A block's gradient of the first gate is a block of the whole one. -/
theorem gate0_row (c : Dev nD) (t : Fin cfg0.N) (a : Fin 512) (l : Fin 1024) (i : Fin 16384) (hi : (i : ℕ) = 512 * t.val + a) :
    gateGrad (iblk m c 0 t : FVec Ideal S512x1024 .bf16) (iblk m c 9 t : FVec Ideal S512x1024 .bf16) (iblk m c 3 t : FVec Ideal S512x256 .bf16) (iblk m c 6 t : FVec Ideal S256x1024 .bf16) a l = gateGrad (gateCols (arg0 m c) 0) (arg7 m c) (arg1 m c) (arg4 m c) i l := by
  unfold gateGrad forwardProduct
  rw [block_gate0 m c t a l i hi, block_cotangent m c t a l i hi]
  refine congrArg (fun q : EReal => _ * q * _ * _) (Finset.sum_congr rfl fun k _ => ?_)
  exact congrArg₂ (fun p q : EReal => p * q) (block_rows0 m c t a k i hi) (block_weight0 m c t k l)

/-- A block's gradient of the first branch's product is a block of the whole one. -/
theorem branch0_row (c : Dev nD) (t : Fin cfg0.N) (a : Fin 512) (l : Fin 1024) (i : Fin 16384) (hi : (i : ℕ) = 512 * t.val + a) :
    branchGrad (iblk m c 0 t : FVec Ideal S512x1024 .bf16) (iblk m c 9 t : FVec Ideal S512x1024 .bf16) (ix2 a l) = branchGrad (gateCols (arg0 m c) 0) (arg7 m c) (ix2 i l) := by
  unfold branchGrad
  rw [block_gate0 m c t a l i hi, block_cotangent m c t a l i hi]

/-- A block's gradient of the first branch's rows is a block of the whole one. -/
theorem rows0_row (c : Dev nD) (t : Fin cfg0.N) (a : Fin 512) (l : Fin 256) (i : Fin 16384) (hi : (i : ℕ) = 512 * t.val + a) :
    gradInput (branchGrad (iblk m c 0 t : FVec Ideal S512x1024 .bf16) (iblk m c 9 t : FVec Ideal S512x1024 .bf16)) (iblk m c 6 t : FVec Ideal S256x1024 .bf16) a l = gradInput (branchGrad (gateCols (arg0 m c) 0) (arg7 m c)) (arg4 m c) i l := by
  unfold gradInput
  refine Finset.sum_congr rfl fun k _ => ?_
  exact congrArg₂ (fun p q : EReal => p * q) (branch0_row m c t a k i hi) (block_weight0 m c t l k)

/-- The array of the gradient of the first branch's rows after the run. -/
theorem final_rows0 (c : Dev nD) : (dats m 0 c).arrAt 11 cfg0.N
    = fun j : S16384x256.Idx => gradInput (branchGrad (gateCols (arg0 m c) 0) (arg7 m c)) (arg4 m c) (j 0) (j 1) := by
  refine (dats m 0 c).arrAt_eq_of_covers 11 _ (by decide +kernel) fun t _ y => ?_
  have h0 : ((((cfg0.win 11).blk t).view.emb y 0 : Fin 16384) : ℕ) = 512 * t.val + (y 0 : Fin 512) := by
    blk_simp [idx_val t]
    omega
  have h1 : (((cfg0.win 11).blk t).view.emb y 1 : Fin 256) = y 1 := by
    refine Fin.ext ?_
    blk_simp [idx_val t]
  blk_simp
  rw [after0_11, rows0_point m c t]
  generalize ((cfg0.win 11).blk t).view.emb y = j at h0 h1 ⊢
  refine Eq.trans ?_ (congrArg (fun l : Fin 256 => gradInput (branchGrad (gateCols (arg0 m c) 0) (arg7 m c)) (arg4 m c) (j 0) l) h1.symm)
  exact rows0_row m c t (y 0) (y 1) (j 0) h0

/-- The array of the first weight's gradient after the run. -/
theorem final_weight0 (c : Dev nD) : (dats m 0 c).arrAt 14 cfg0.N
    = fun j : S256x1024.Idx => gradWeight (arg1 m c) (branchGrad (gateCols (arg0 m c) 0) (arg7 m c)) (j 0) (j 1) := by
  refine (dats m 0 c).arrAt_eq_of_covers 14 _ (by decide +kernel) fun t hf y => ?_
  have hl := (flush0_14 t).mp hf
  have h0 : (((cfg0.win 14).blk t).view.emb y 0 : Fin 256) = y 0 := by
    refine Fin.ext ?_
    blk_simp [idx_val t]
  have h1 : (((cfg0.win 14).blk t).view.emb y 1 : Fin 1024) = y 1 := by
    refine Fin.ext ?_
    blk_simp [idx_val t]
  have ht : t.val < 32 := t.isLt
  blk_simp
  rw [after0_14, weight0_point m c t hl]
  generalize ((cfg0.win 14).blk t).view.emb y = j at h0 h1 ⊢
  show _ = gradWeight (arg1 m c) (branchGrad (gateCols (arg0 m c) 0) (arg7 m c)) (j 0) (j 1)
  rw [h0, h1]
  unfold gradWeight
  refine Fin.sum_mul_add_congr fun s k hk => ?_
  have e : s.val * 512 + k.val = 512 * (32 * (t.val / 32) + s.val) + k.val := by omega
  exact congrArg₂ (fun p q : EReal => p * q) (block_rows0 m c ⟨_, Pipeline.run_point_lt_of_flush t hl s⟩ k (y 0) ⟨_, hk⟩ e)
    (branch0_row m c ⟨_, Pipeline.run_point_lt_of_flush t hl s⟩ k (y 1) ⟨_, hk⟩ e)

/-- A block's gradient of the second gate is a block of the whole one. -/
theorem gate1_row (c : Dev nD) (t : Fin cfg0.N) (a : Fin 512) (l : Fin 1024) (i : Fin 16384) (hi : (i : ℕ) = 512 * t.val + a) :
    gateGrad (iblk m c 1 t : FVec Ideal S512x1024 .bf16) (iblk m c 9 t : FVec Ideal S512x1024 .bf16) (iblk m c 4 t : FVec Ideal S512x256 .bf16) (iblk m c 7 t : FVec Ideal S256x1024 .bf16) a l = gateGrad (gateCols (arg0 m c) 1) (arg7 m c) (arg2 m c) (arg5 m c) i l := by
  unfold gateGrad forwardProduct
  rw [block_gate1 m c t a l i hi, block_cotangent m c t a l i hi]
  refine congrArg (fun q : EReal => _ * q * _ * _) (Finset.sum_congr rfl fun k _ => ?_)
  exact congrArg₂ (fun p q : EReal => p * q) (block_rows1 m c t a k i hi) (block_weight1 m c t k l)

/-- A block's gradient of the second branch's product is a block of the whole one. -/
theorem branch1_row (c : Dev nD) (t : Fin cfg0.N) (a : Fin 512) (l : Fin 1024) (i : Fin 16384) (hi : (i : ℕ) = 512 * t.val + a) :
    branchGrad (iblk m c 1 t : FVec Ideal S512x1024 .bf16) (iblk m c 9 t : FVec Ideal S512x1024 .bf16) (ix2 a l) = branchGrad (gateCols (arg0 m c) 1) (arg7 m c) (ix2 i l) := by
  unfold branchGrad
  rw [block_gate1 m c t a l i hi, block_cotangent m c t a l i hi]

/-- A block's gradient of the second branch's rows is a block of the whole one. -/
theorem rows1_row (c : Dev nD) (t : Fin cfg0.N) (a : Fin 512) (l : Fin 256) (i : Fin 16384) (hi : (i : ℕ) = 512 * t.val + a) :
    gradInput (branchGrad (iblk m c 1 t : FVec Ideal S512x1024 .bf16) (iblk m c 9 t : FVec Ideal S512x1024 .bf16)) (iblk m c 7 t : FVec Ideal S256x1024 .bf16) a l = gradInput (branchGrad (gateCols (arg0 m c) 1) (arg7 m c)) (arg5 m c) i l := by
  unfold gradInput
  refine Finset.sum_congr rfl fun k _ => ?_
  exact congrArg₂ (fun p q : EReal => p * q) (branch1_row m c t a k i hi) (block_weight1 m c t l k)

/-- The array of the gradient of the second branch's rows after the run. -/
theorem final_rows1 (c : Dev nD) : (dats m 0 c).arrAt 12 cfg0.N
    = fun j : S16384x256.Idx => gradInput (branchGrad (gateCols (arg0 m c) 1) (arg7 m c)) (arg5 m c) (j 0) (j 1) := by
  refine (dats m 0 c).arrAt_eq_of_covers 12 _ (by decide +kernel) fun t _ y => ?_
  have h0 : ((((cfg0.win 12).blk t).view.emb y 0 : Fin 16384) : ℕ) = 512 * t.val + (y 0 : Fin 512) := by
    blk_simp [idx_val t]
    omega
  have h1 : (((cfg0.win 12).blk t).view.emb y 1 : Fin 256) = y 1 := by
    refine Fin.ext ?_
    blk_simp [idx_val t]
  blk_simp
  rw [after0_12, rows1_point m c t]
  generalize ((cfg0.win 12).blk t).view.emb y = j at h0 h1 ⊢
  refine Eq.trans ?_ (congrArg (fun l : Fin 256 => gradInput (branchGrad (gateCols (arg0 m c) 1) (arg7 m c)) (arg5 m c) (j 0) l) h1.symm)
  exact rows1_row m c t (y 0) (y 1) (j 0) h0

/-- The array of the second weight's gradient after the run. -/
theorem final_weight1 (c : Dev nD) : (dats m 0 c).arrAt 15 cfg0.N
    = fun j : S256x1024.Idx => gradWeight (arg2 m c) (branchGrad (gateCols (arg0 m c) 1) (arg7 m c)) (j 0) (j 1) := by
  refine (dats m 0 c).arrAt_eq_of_covers 15 _ (by decide +kernel) fun t hf y => ?_
  have hl := (flush0_15 t).mp hf
  have h0 : (((cfg0.win 15).blk t).view.emb y 0 : Fin 256) = y 0 := by
    refine Fin.ext ?_
    blk_simp [idx_val t]
  have h1 : (((cfg0.win 15).blk t).view.emb y 1 : Fin 1024) = y 1 := by
    refine Fin.ext ?_
    blk_simp [idx_val t]
  have ht : t.val < 32 := t.isLt
  blk_simp
  rw [after0_15, weight1_point m c t hl]
  generalize ((cfg0.win 15).blk t).view.emb y = j at h0 h1 ⊢
  show _ = gradWeight (arg2 m c) (branchGrad (gateCols (arg0 m c) 1) (arg7 m c)) (j 0) (j 1)
  rw [h0, h1]
  unfold gradWeight
  refine Fin.sum_mul_add_congr fun s k hk => ?_
  have e : s.val * 512 + k.val = 512 * (32 * (t.val / 32) + s.val) + k.val := by omega
  exact congrArg₂ (fun p q : EReal => p * q) (block_rows1 m c ⟨_, Pipeline.run_point_lt_of_flush t hl s⟩ k (y 0) ⟨_, hk⟩ e)
    (branch1_row m c ⟨_, Pipeline.run_point_lt_of_flush t hl s⟩ k (y 1) ⟨_, hk⟩ e)

/-- A block's gradient of the third gate is a block of the whole one. -/
theorem gate2_row (c : Dev nD) (t : Fin cfg0.N) (a : Fin 512) (l : Fin 1024) (i : Fin 16384) (hi : (i : ℕ) = 512 * t.val + a) :
    gateGrad (iblk m c 2 t : FVec Ideal S512x1024 .bf16) (iblk m c 9 t : FVec Ideal S512x1024 .bf16) (iblk m c 5 t : FVec Ideal S512x512 .bf16) (iblk m c 8 t : FVec Ideal S512x1024 .bf16) a l = gateGrad (gateCols (arg0 m c) 2) (arg7 m c) (arg3 m c) (arg6 m c) i l := by
  unfold gateGrad forwardProduct
  rw [block_gate2 m c t a l i hi, block_cotangent m c t a l i hi]
  refine congrArg (fun q : EReal => _ * q * _ * _) (Finset.sum_congr rfl fun k _ => ?_)
  exact congrArg₂ (fun p q : EReal => p * q) (block_rows2 m c t a k i hi) (block_weight2 m c t k l)

/-- A block's gradient of the third branch's product is a block of the whole one. -/
theorem branch2_row (c : Dev nD) (t : Fin cfg0.N) (a : Fin 512) (l : Fin 1024) (i : Fin 16384) (hi : (i : ℕ) = 512 * t.val + a) :
    branchGrad (iblk m c 2 t : FVec Ideal S512x1024 .bf16) (iblk m c 9 t : FVec Ideal S512x1024 .bf16) (ix2 a l) = branchGrad (gateCols (arg0 m c) 2) (arg7 m c) (ix2 i l) := by
  unfold branchGrad
  rw [block_gate2 m c t a l i hi, block_cotangent m c t a l i hi]

/-- A block's gradient of the third branch's rows is a block of the whole one. -/
theorem rows2_row (c : Dev nD) (t : Fin cfg0.N) (a : Fin 512) (l : Fin 512) (i : Fin 16384) (hi : (i : ℕ) = 512 * t.val + a) :
    gradInput (branchGrad (iblk m c 2 t : FVec Ideal S512x1024 .bf16) (iblk m c 9 t : FVec Ideal S512x1024 .bf16)) (iblk m c 8 t : FVec Ideal S512x1024 .bf16) a l = gradInput (branchGrad (gateCols (arg0 m c) 2) (arg7 m c)) (arg6 m c) i l := by
  unfold gradInput
  refine Finset.sum_congr rfl fun k _ => ?_
  exact congrArg₂ (fun p q : EReal => p * q) (branch2_row m c t a k i hi) (block_weight2 m c t l k)

/-- The array of the gradient of the third branch's rows after the run. -/
theorem final_rows2 (c : Dev nD) : (dats m 0 c).arrAt 13 cfg0.N
    = fun j : S16384x512.Idx => gradInput (branchGrad (gateCols (arg0 m c) 2) (arg7 m c)) (arg6 m c) (j 0) (j 1) := by
  refine (dats m 0 c).arrAt_eq_of_covers 13 _ (by decide +kernel) fun t _ y => ?_
  have h0 : ((((cfg0.win 13).blk t).view.emb y 0 : Fin 16384) : ℕ) = 512 * t.val + (y 0 : Fin 512) := by
    blk_simp [idx_val t]
    omega
  have h1 : (((cfg0.win 13).blk t).view.emb y 1 : Fin 512) = y 1 := by
    refine Fin.ext ?_
    blk_simp [idx_val t]
  blk_simp
  rw [after0_13, rows2_point m c t]
  generalize ((cfg0.win 13).blk t).view.emb y = j at h0 h1 ⊢
  refine Eq.trans ?_ (congrArg (fun l : Fin 512 => gradInput (branchGrad (gateCols (arg0 m c) 2) (arg7 m c)) (arg6 m c) (j 0) l) h1.symm)
  exact rows2_row m c t (y 0) (y 1) (j 0) h0

/-- The array of the third weight's gradient after the run. -/
theorem final_weight2 (c : Dev nD) : (dats m 0 c).arrAt 16 cfg0.N
    = fun j : S512x1024.Idx => gradWeight (arg3 m c) (branchGrad (gateCols (arg0 m c) 2) (arg7 m c)) (j 0) (j 1) := by
  refine (dats m 0 c).arrAt_eq_of_covers 16 _ (by decide +kernel) fun t hf y => ?_
  have hl := (flush0_16 t).mp hf
  have h0 : (((cfg0.win 16).blk t).view.emb y 0 : Fin 512) = y 0 := by
    refine Fin.ext ?_
    blk_simp [idx_val t]
  have h1 : (((cfg0.win 16).blk t).view.emb y 1 : Fin 1024) = y 1 := by
    refine Fin.ext ?_
    blk_simp [idx_val t]
  have ht : t.val < 32 := t.isLt
  blk_simp
  rw [after0_16, weight2_point m c t hl]
  generalize ((cfg0.win 16).blk t).view.emb y = j at h0 h1 ⊢
  show _ = gradWeight (arg3 m c) (branchGrad (gateCols (arg0 m c) 2) (arg7 m c)) (j 0) (j 1)
  rw [h0, h1]
  unfold gradWeight
  refine Fin.sum_mul_add_congr fun s k hk => ?_
  have e : s.val * 512 + k.val = 512 * (32 * (t.val / 32) + s.val) + k.val := by omega
  exact congrArg₂ (fun p q : EReal => p * q) (block_rows2 m c ⟨_, Pipeline.run_point_lt_of_flush t hl s⟩ k (y 0) ⟨_, hk⟩ e)
    (branch2_row m c ⟨_, Pipeline.run_point_lt_of_flush t hl s⟩ k (y 1) ⟨_, hk⟩ e)

/-- A block of the three gates' gradients is a block of the whole. -/
theorem gates_row (c : Dev nD) (t : Fin cfg0.N) (a : Fin 512) (l : Fin 3072) (i : Fin 16384) (hi : (i : ℕ) = 512 * t.val + a) :
    gateGrads (iblk m c 0 t : FVec Ideal S512x1024 .bf16) (iblk m c 1 t : FVec Ideal S512x1024 .bf16) (iblk m c 2 t : FVec Ideal S512x1024 .bf16) (iblk m c 9 t : FVec Ideal S512x1024 .bf16) (iblk m c 3 t : FVec Ideal S512x256 .bf16) (iblk m c 4 t : FVec Ideal S512x256 .bf16) (iblk m c 5 t : FVec Ideal S512x512 .bf16) (iblk m c 6 t : FVec Ideal S256x1024 .bf16) (iblk m c 7 t : FVec Ideal S256x1024 .bf16) (iblk m c 8 t : FVec Ideal S512x1024 .bf16) a l
      = gateGrads (gateCols (arg0 m c) 0) (gateCols (arg0 m c) 1) (gateCols (arg0 m c) 2) (arg7 m c) (arg1 m c) (arg2 m c) (arg3 m c) (arg4 m c) (arg5 m c) (arg6 m c) i l := by
  unfold gateGrads
  split_ifs
  · exact gate0_row m c t a _ i hi
  · exact gate1_row m c t a _ i hi
  · exact gate2_row m c t a _ i hi

/-- The column of the right half that column `l` of the whole is. -/
def rightHalf (l : Fin 6144) : Fin 3072 := ⟨l.val - 3072, by omega⟩

/-- The array of the gates' gradients after the run: the kernel writes its right half. -/
theorem final_gates (c : Dev nD) : (dats m 0 c).arrAt 10 cfg0.N
    = fun j : S16384x6144.Idx => if 1 ≤ (j 1 : Fin 6144).val / 3072
      then gateGrads (gateCols (arg0 m c) 0) (gateCols (arg0 m c) 1) (gateCols (arg0 m c) 2) (arg7 m c) (arg1 m c) (arg2 m c) (arg3 m c) (arg4 m c) (arg5 m c) (arg6 m c) (j 0) (rightHalf (j 1))
      else (dats m 0 c).A 10 j := by
  refine (dats m 0 c).arrAt_eq_of_coversWhere 10 (fun j : S16384x6144.Idx =>
    (gateGrads (gateCols (arg0 m c) 0) (gateCols (arg0 m c) 1) (gateCols (arg0 m c) 2) (arg7 m c) (arg1 m c) (arg2 m c) (arg3 m c) (arg4 m c) (arg5 m c) (arg6 m c) (j 0) (rightHalf (j 1)) : EReal)) (fun β => 1 ≤ β (1 : Fin 2)) (by decide +kernel) (fun t _ y => ?_) (fun j => Iff.rfl)
  have h0 : ((((cfg0.win 10).blk t).view.emb y 0 : Fin 16384) : ℕ) = 512 * t.val + (y 0 : Fin 512) := by
    blk_simp [idx_val t]
    omega
  have h1 : ((((cfg0.win 10).blk t).view.emb y 1 : Fin 6144) : ℕ) = 3072 + (y 1 : Fin 3072) := by
    blk_simp [idx_val t]
  blk_simp
  rw [after0_10, gates_point m c t]
  generalize ((cfg0.win 10).blk t).view.emb y = j at h0 h1 ⊢
  refine (gates_row m c t (y 0) (y 1) (j 0) h0).trans (congrArg (gateGrads (gateCols (arg0 m c) 0) (gateCols (arg0 m c) 1) (gateCols (arg0 m c) 2) (arg7 m c) (arg1 m c) (arg2 m c) (arg3 m c) (arg4 m c) (arg5 m c) (arg6 m c) (j 0)) (Fin.ext ?_))
  show (y 1 : Fin 3072).val = (j 1 : Fin 6144).val - 3072
  omega

end Cert.Kernel17Ideal.Product

end
-- ==== Proof.Products.MergeBackward.lean ====
/- The gradient of the gated sum: kernel and reference compute the same seven results. -/
module

public import proofs.«01_k».proof.Defs
public import proofs.«01_k».proof.Proof.Gen.Reference17Ideal.Run
public import proofs.«01_k».proof.Proof.Products.MergeResults

@[expose] public section

set_option maxRecDepth 16384

noncomputable section

open Idealize.ShloMosaic Idealize.ShloMosaic.TcCoe Idealize.SL.Sem
open Idealize.ShloMosaic.Pipeline (Dat)
open Cert.Product (forwardProduct gradInput gradWeight gateCol gateCols branchGrad gateGrad gateGrads)

namespace Cert.Kernel17Ideal.Product

open Cert.Kernel17Ideal Cert.Kernel17Ideal.Gen

variable (m : (ℓ : Loc nD τ sig) → Buf (Elt Ideal) ℓ)

/-- The right half of an array. -/
theorem right_half (w : FVec Ideal S16384x6144 .bf16) (f : Fin 16384 → Fin 3072 → EReal) (g : S16384x6144.Idx → EReal)
    (h : w = fun j : S16384x6144.Idx => if 1 ≤ (j 1 : Fin 6144).val / 3072 then f (j 0) (rightHalf (j 1)) else g j) :
    extractStridedSlice S16384x3072 ![0, 3072] w slices_S16384x6144_S16384x3072_0_3072 = fun j : S16384x3072.Idx => (f (j 0) (j 1) : EReal) := by
  rw [h]
  funext j
  idx_vars j
  pointwise
  rw [if_pos (by omega)]
  exact congrArg (f j0) (Fin.ext (by show 3072 + (j1 : ℕ) - 3072 = j1; omega))

/-- The gates' gradients' array as the line after the region finds it. -/
def gates (c : Dev nD) : FVec Ideal S16384x6144 .bf16 :=
  Pipeline.withArrays (cfgs 0).spec c (V0 m c) (fun w => (dats m 0 c).arrAt w (cfgs 0).N) (Proc.tc.devRef main_v0_0)

/-- The kernel's run: the seven results are the gradients of the gated sum, the arguments are kept. -/
theorem run_spec (ρ : Dev nD → PrngReg) : θ_run defs (onTc (τ := τ) (main (F := Ideal))) ⟨m, fun _ => 0, ρ⟩ fun r => ∀ c : Dev nD,
      r.2.mem (c.tc.loc main_v1) = (fun j : S16384x3072.Idx => gateGrads (gateCols (arg0 m c) 0) (gateCols (arg0 m c) 1) (gateCols (arg0 m c) 2) (arg7 m c) (arg1 m c) (arg2 m c) (arg3 m c) (arg4 m c) (arg5 m c) (arg6 m c) (j 0) (j 1))
      ∧ r.2.mem (c.tc.loc main_v0_1) = (fun j : S16384x256.Idx => gradInput (branchGrad (gateCols (arg0 m c) 0) (arg7 m c)) (arg4 m c) (j 0) (j 1))
      ∧ r.2.mem (c.tc.loc main_v0_2) = (fun j : S16384x256.Idx => gradInput (branchGrad (gateCols (arg0 m c) 1) (arg7 m c)) (arg5 m c) (j 0) (j 1))
      ∧ r.2.mem (c.tc.loc main_v0_3) = (fun j : S16384x512.Idx => gradInput (branchGrad (gateCols (arg0 m c) 2) (arg7 m c)) (arg6 m c) (j 0) (j 1))
      ∧ r.2.mem (c.tc.loc main_v0_4) = (fun j : S256x1024.Idx => gradWeight (arg1 m c) (branchGrad (gateCols (arg0 m c) 0) (arg7 m c)) (j 0) (j 1))
      ∧ r.2.mem (c.tc.loc main_v0_5) = (fun j : S256x1024.Idx => gradWeight (arg2 m c) (branchGrad (gateCols (arg0 m c) 1) (arg7 m c)) (j 0) (j 1))
      ∧ r.2.mem (c.tc.loc main_v0_6) = (fun j : S512x1024.Idx => gradWeight (arg3 m c) (branchGrad (gateCols (arg0 m c) 2) (arg7 m c)) (j 0) (j 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7) := by
  refine (θ_run defs _ _).mono (fun r h c => ⟨?_, ((h.1 c).1 11).trans (final_rows0 m c), ((h.1 c).1 12).trans (final_rows1 m c), ((h.1 c).1 13).trans (final_rows2 m c),
    ((h.1 c).1 14).trans (final_weight0 m c), ((h.1 c).1 15).trans (final_weight1 m c), ((h.1 c).1 16).trans (final_weight2 m c), h.2 c⟩)
    (θ_run_and (run_main (F := Ideal) m ρ) (unchanged m ρ))
  refine (((h.1 c).2 main_v1 (Pipeline.mem_restRefs_of main_v1 (by decide) (by decide)))).trans ?_
  unfold Pipeline.afterTail₀
  refine Eq.trans (b := extractStridedSlice S16384x3072 ![0, 3072] (gates m c) slices_S16384x6144_S16384x3072_0_3072) ?_ ?_
  · show StableHlo.after (List.flatten [hostOps1]) _ _ = _
    simp only [List.flatten_cons, List.flatten_nil, List.append_nil]
    after_results
    rfl
  · have e : gates m c = (dats m 0 c).arrAt 10 cfg0.N :=
      (dats m 0 c).withArrays_arrAt sharedIn0 (V0 m c) (A_eq m c) 10
    exact right_half _ _ _ (e.trans (final_gates m c))

end Cert.Kernel17Ideal.Product

namespace Cert.Reference17Ideal.Product

open Cert.Reference17Ideal Cert.Reference17Ideal.Gen

variable (m : (ℓ : Loc nD τ sig) → Buf (Elt Ideal) ℓ)

set_option maxHeartbeats 1000000 in
/-- The reference's run: the seven results are the gradients of the gated sum, the arguments are kept. -/
theorem run_spec (ρ : Dev nD → PrngReg) : θ_run defs (onTc (τ := τ) (main (F := Ideal))) ⟨m, fun _ => 0, ρ⟩ fun r => ∀ c : Dev nD,
      r.2.mem (c.tc.loc main_v67) = (fun j : S16384x3072.Idx => gateGrads (gateCols (m (c.tc.loc main_arg0) : FVec Ideal S16384x6144 .bf16) 0) (gateCols (m (c.tc.loc main_arg0) : FVec Ideal S16384x6144 .bf16) 1) (gateCols (m (c.tc.loc main_arg0) : FVec Ideal S16384x6144 .bf16) 2) (m (c.tc.loc main_arg7) : FVec Ideal S16384x1024 .bf16) (m (c.tc.loc main_arg1) : FVec Ideal S16384x256 .bf16) (m (c.tc.loc main_arg2) : FVec Ideal S16384x256 .bf16) (m (c.tc.loc main_arg3) : FVec Ideal S16384x512 .bf16) (m (c.tc.loc main_arg4) : FVec Ideal S256x1024 .bf16) (m (c.tc.loc main_arg5) : FVec Ideal S256x1024 .bf16) (m (c.tc.loc main_arg6) : FVec Ideal S512x1024 .bf16) (j 0) (j 1))
      ∧ r.2.mem (c.tc.loc main_v68) = (fun j : S16384x256.Idx => gradInput (branchGrad (gateCols (m (c.tc.loc main_arg0) : FVec Ideal S16384x6144 .bf16) 0) (m (c.tc.loc main_arg7) : FVec Ideal S16384x1024 .bf16)) (m (c.tc.loc main_arg4) : FVec Ideal S256x1024 .bf16) (j 0) (j 1))
      ∧ r.2.mem (c.tc.loc main_v69) = (fun j : S16384x256.Idx => gradInput (branchGrad (gateCols (m (c.tc.loc main_arg0) : FVec Ideal S16384x6144 .bf16) 1) (m (c.tc.loc main_arg7) : FVec Ideal S16384x1024 .bf16)) (m (c.tc.loc main_arg5) : FVec Ideal S256x1024 .bf16) (j 0) (j 1))
      ∧ r.2.mem (c.tc.loc main_v70) = (fun j : S16384x512.Idx => gradInput (branchGrad (gateCols (m (c.tc.loc main_arg0) : FVec Ideal S16384x6144 .bf16) 2) (m (c.tc.loc main_arg7) : FVec Ideal S16384x1024 .bf16)) (m (c.tc.loc main_arg6) : FVec Ideal S512x1024 .bf16) (j 0) (j 1))
      ∧ r.2.mem (c.tc.loc main_v63) = (fun j : S256x1024.Idx => gradWeight (m (c.tc.loc main_arg1) : FVec Ideal S16384x256 .bf16) (branchGrad (gateCols (m (c.tc.loc main_arg0) : FVec Ideal S16384x6144 .bf16) 0) (m (c.tc.loc main_arg7) : FVec Ideal S16384x1024 .bf16)) (j 0) (j 1))
      ∧ r.2.mem (c.tc.loc main_v57) = (fun j : S256x1024.Idx => gradWeight (m (c.tc.loc main_arg2) : FVec Ideal S16384x256 .bf16) (branchGrad (gateCols (m (c.tc.loc main_arg0) : FVec Ideal S16384x6144 .bf16) 1) (m (c.tc.loc main_arg7) : FVec Ideal S16384x1024 .bf16)) (j 0) (j 1))
      ∧ r.2.mem (c.tc.loc main_v51) = (fun j : S512x1024.Idx => gradWeight (m (c.tc.loc main_arg3) : FVec Ideal S16384x512 .bf16) (branchGrad (gateCols (m (c.tc.loc main_arg0) : FVec Ideal S16384x6144 .bf16) 2) (m (c.tc.loc main_arg7) : FVec Ideal S16384x1024 .bf16)) (j 0) (j 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7) := by
  refine (θ_run defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩) (Value.run (F := Ideal) m ρ)
  all_goals
    clear h
    generalize (m (c.tc.loc main_arg0)) = x0
    generalize (m (c.tc.loc main_arg1)) = x1
    generalize (m (c.tc.loc main_arg2)) = x2
    generalize (m (c.tc.loc main_arg3)) = x3
    generalize (m (c.tc.loc main_arg4)) = x4
    generalize (m (c.tc.loc main_arg5)) = x5
    generalize (m (c.tc.loc main_arg6)) = x6
    generalize (m (c.tc.loc main_arg7)) = x7
    funext j
    idx_vars j
  · pointwise [gateGrads, gateGrad, gateCols, gateCol, forwardProduct, Ideal.logistic]
    by_cases h0 : (j1 : ℕ) < 1024
    · rw [dif_pos h0, dif_pos h0]
      exact (@mul_assoc EReal _ _ _ _).symm
    · rw [dif_neg h0, dif_neg h0]
      by_cases h1 : (j1 : ℕ) < 2048
      · rw [dif_pos (by omega), dif_pos h1]
        exact (@mul_assoc EReal _ _ _ _).symm
      · rw [dif_neg (by omega), dif_neg h1]
        have e : (j1 : ℕ) - 1024 - 1024 = (j1 : ℕ) - 2048 := by omega
        simp only [e]
        exact (@mul_assoc EReal _ _ _ _).symm
  · pointwise [gradInput, branchGrad, gateCols, gateCol, Ideal.logistic]
    exact Finset.sum_congr rfl fun _ _ => congrArg (fun q : EReal => q * _) (@mul_comm EReal _ _ _)
  · pointwise [gradInput, branchGrad, gateCols, gateCol, Ideal.logistic]
    exact Finset.sum_congr rfl fun _ _ => congrArg (fun q : EReal => q * _) (@mul_comm EReal _ _ _)
  · pointwise [gradInput, branchGrad, gateCols, gateCol, Ideal.logistic]
    exact Finset.sum_congr rfl fun _ _ => congrArg (fun q : EReal => q * _) (@mul_comm EReal _ _ _)
  · pointwise [gradWeight, branchGrad, gateCols, gateCol, Ideal.logistic]
    exact Finset.sum_congr rfl fun _ _ => (congrArg (fun q : EReal => q * _) (@mul_comm EReal _ _ _)).trans (@mul_comm EReal _ _ _)
  · pointwise [gradWeight, branchGrad, gateCols, gateCol, Ideal.logistic]
    exact Finset.sum_congr rfl fun _ _ => (congrArg (fun q : EReal => q * _) (@mul_comm EReal _ _ _)).trans (@mul_comm EReal _ _ _)
  · pointwise [gradWeight, branchGrad, gateCols, gateCol, Ideal.logistic]
    exact Finset.sum_congr rfl fun _ _ => (congrArg (fun q : EReal => q * _) (@mul_comm EReal _ _ _)).trans (@mul_comm EReal _ _ _)

end Cert.Reference17Ideal.Product

namespace Cert.Proof

/-- The reference runs, keeps its arguments and leaves no counter raised. -/
theorem frame_reference17 : Cert.quiescent_Reference17Ideal (hReference17Ideal := Cert.Reference17Ideal.Gen.facts) := fun m ρ _ =>
  (θ_run Cert.Reference17Ideal.defs _ _).mono (fun r h => ⟨fun c => (h c).2.2.2.2.2.2.2,
    sem_eq_zero_of_no_sems (by decide) r.2⟩) (Cert.Reference17Ideal.Value.run (F := Ideal) m ρ)

/-- Kernel and reference compute the same seven gradients. -/
theorem algebraic17 : Cert.algebraic_Kernel17Ideal_Reference17Ideal (hKernel17Ideal := Cert.Kernel17Ideal.Gen.facts)
    (hReference17Ideal := Cert.Reference17Ideal.Gen.facts) := fun m ρ m' ρ' _ hag => by
  refine ⟨_, _, _, _, _, _, _, Cert.Kernel17Ideal.Product.run_spec m ρ, ?_⟩
  refine (θ_run Cert.Reference17Ideal.defs _ _).mono (fun r h c => ?_) (Cert.Reference17Ideal.Product.run_spec m' ρ')
  obtain ⟨h0, h1, h2, h3, h4, h5, h6, h7⟩ := h c
  obtain ⟨a0, a1, a2, a3, a4, a5, a6, a7⟩ := hag c
  rw [a0, a1, a2, a3, a4, a5, a6, a7] at h0
  rw [a0, a4, a7] at h1
  rw [a0, a5, a7] at h2
  rw [a0, a6, a7] at h3
  rw [a0, a1, a7] at h4
  rw [a0, a2, a7] at h5
  rw [a0, a3, a7] at h6
  exact ⟨h0, h1, h2, h3, h4, h5, h6, h7⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Kernel2
public import proofs.«01_k».proof.Proof.Gen.Kernel2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Reference12Ideal.Run
public import proofs.«01_k».proof.Proof.ShortConv.Final
public import proofs.«01_k».proof.Proof.ShortConv.Ref
public import proofs.«01_k».proof.Proof.Products.GwFfnIn
public import proofs.«01_k».proof.Proof.Products.DH2
public import proofs.«01_k».proof.Proof.Products.GwIn
public import proofs.«01_k».proof.Proof.Products.DH
public import proofs.«01_k».proof.Proof.Products.GwFfnOut
public import proofs.«01_k».proof.Proof.Products.InProj
public import proofs.«01_k».proof.Proof.Products.DMerged
public import proofs.«01_k».proof.Proof.Products.GwO
public import proofs.«01_k».proof.Proof.Products.FfnIn
public import proofs.«01_k».proof.Proof.StickBreaking.Frame
public import proofs.«01_k».proof.Proof.StickBreakingBits.Frame
public import proofs.«01_k».proof.Proof.Attention.Agree
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Value
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Value
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Value
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Value
public import proofs.«01_k».proof.Proof.Gen.Reference19Ideal.Run
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Value
public import proofs.«01_k».proof.Proof.Gen.Reference20Ideal.Run
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Value
public import proofs.«01_k».proof.Proof.Gen.Reference21Ideal.Run
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Value
public import proofs.«01_k».proof.Proof.Gen.Reference22Ideal.Run
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Value
public import proofs.«01_k».proof.Proof.Gen.Reference23Ideal.Run
public import proofs.«01_k».proof.Proof.Products.AdamWWIn
public import proofs.«01_k».proof.Proof.Products.AdamWWScOut
public import proofs.«01_k».proof.Proof.Products.AdamWWSsmOut
public import proofs.«01_k».proof.Proof.Products.AdamWWFfnIn
public import proofs.«01_k».proof.Proof.Products.AdamWWFfnOut
public import proofs.«01_k».proof.Proof.Products.AdamWWO
public import proofs.«01_k».proof.Proof.Products.DGuAgree
public import proofs.«01_k».proof.Proof.Products.Sublayer
public import proofs.«01_k».proof.Proof.Products.FfnOutMid
public import proofs.«01_k».proof.Proof.Products.WoMid
public import proofs.«01_k».proof.Proof.Products.FfnOut
public import proofs.«01_k».proof.Proof.Products.Merge
public import proofs.«01_k».proof.Proof.Products.MergeForward
public import proofs.«01_k».proof.Proof.Products.MergeBlocks
public import proofs.«01_k».proof.Proof.Products.MergePoints
public import proofs.«01_k».proof.Proof.Products.MergeResults
public import proofs.«01_k».proof.Proof.Products.MergeBackward
public import Idealize.ShloMosaic.Adequacy
public import Idealize.ShloMosaic.Init

@[expose] public section

noncomputable section

namespace Cert.Proof

open Idealize.ShloMosaic Idealize.ShloMosaic.TcCoe Idealize.SL.Sem

/-- The reference leaves its arguments unchanged and every counter at zero. -/
theorem frame_reference : Cert.quiescent_ReferenceIdeal (hReferenceIdeal := Cert.ReferenceIdeal.Gen.facts) := fun m ρ _ =>
  (θ_run Cert.ReferenceIdeal.defs _ _).mono
    (fun r h => ⟨fun c => ⟨(h c).2.2.2.2.1, (h c).2.2.2.2.2.1, (h c).2.2.2.2.2.2⟩,
      Idealize.ShloMosaic.sem_eq_zero_of_no_sems (by decide) r.2⟩)
    (Cert.ReferenceIdeal.Value.run (F := Ideal) m ρ)

/-- The kernel's four arrays are the reference's. -/
theorem algebraic_short_conv : Cert.algebraic_KernelIdeal_ReferenceIdeal (hKernelIdeal := Cert.KernelIdeal.Gen.facts)
    (hReferenceIdeal := Cert.ReferenceIdeal.Gen.facts) := fun m ρ m' ρ' _ hag => by
  refine ⟨fun c => Cert.ShortConv.gradArr (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)), fun c => Cert.ShortConv.gradTap (m ((c : Thread Cert.KernelIdeal.nD Cert.KernelIdeal.τ).loc Cert.KernelIdeal.main_arg0)) (m ((c : Thread Cert.KernelIdeal.nD Cert.KernelIdeal.τ).loc Cert.KernelIdeal.main_arg1)) 2, fun c => Cert.ShortConv.gradTap (m ((c : Thread Cert.KernelIdeal.nD Cert.KernelIdeal.τ).loc Cert.KernelIdeal.main_arg0)) (m ((c : Thread Cert.KernelIdeal.nD Cert.KernelIdeal.τ).loc Cert.KernelIdeal.main_arg1)) 1,
    fun c => Cert.ShortConv.gradTap (m ((c : Thread Cert.KernelIdeal.nD Cert.KernelIdeal.τ).loc Cert.KernelIdeal.main_arg0)) (m ((c : Thread Cert.KernelIdeal.nD Cert.KernelIdeal.τ).loc Cert.KernelIdeal.main_arg1)) 0, ?_, ?_⟩
  · refine (θ_run Cert.KernelIdeal.defs _ _).mono (fun r h c => ?_) (Cert.KernelIdeal.Value.run_blocks (F := Ideal) m ρ)
    obtain ⟨h6, h7, h8, h9, ha⟩ := h c
    exact ⟨h6.trans (Cert.KernelIdeal.ShortConv.final6 m c), h7.trans (Cert.KernelIdeal.ShortConv.final7 m c),
      h8.trans (Cert.KernelIdeal.ShortConv.final8 m c), h9.trans (Cert.KernelIdeal.ShortConv.final9 m c), ha⟩
  · refine (θ_run Cert.ReferenceIdeal.defs _ _).mono (fun r h c => ?_) (Cert.ReferenceIdeal.ShortConv.run_spec m' ρ')
    obtain ⟨e0, e1, e2⟩ := hag c
    obtain ⟨h6, h7, h8, h9, ha⟩ := h c
    rw [e0, e1, e2] at h6
    rw [e0, e1] at h7 h8 h9
    exact ⟨h6, h7, h8, h9, ha⟩

/-- The attention's reference leaves its arguments unchanged and every counter at zero. -/
theorem frame_reference2 : Cert.quiescent_Reference2Ideal (hReference2Ideal := Cert.Reference2Ideal.Gen.facts) := fun m ρ _ =>
  (θ_run Cert.Reference2Ideal.defs _ _).mono
    (fun r h => ⟨fun c => ⟨(h c).2.2.2.1, (h c).2.2.2.2⟩, Idealize.ShloMosaic.sem_eq_zero_of_no_sems (by decide) r.2⟩)
    (Cert.Reference2Ideal.Value.run (F := Ideal) m ρ)

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Kernel17.Gen.facts,
    Cert.Kernel17Ideal.Gen.facts,
    Cert.Reference17Ideal.Gen.facts,
    Cert.Kernel18.Gen.facts,
    Cert.Kernel18Ideal.Gen.facts,
    Cert.Reference18Ideal.Gen.facts,
    Cert.Kernel19.Gen.facts,
    Cert.Kernel19Ideal.Gen.facts,
    Cert.Reference19Ideal.Gen.facts,
    Cert.Kernel20.Gen.facts,
    Cert.Kernel20Ideal.Gen.facts,
    Cert.Reference20Ideal.Gen.facts,
    Cert.Kernel21.Gen.facts,
    Cert.Kernel21Ideal.Gen.facts,
    Cert.Reference21Ideal.Gen.facts,
    Cert.Kernel22.Gen.facts,
    Cert.Kernel22Ideal.Gen.facts,
    Cert.Reference22Ideal.Gen.facts,
    Cert.Kernel23.Gen.facts,
    Cert.Kernel23Ideal.Gen.facts,
    Cert.Reference23Ideal.Gen.facts,
    Cert.Attention.finiteFacts,
    Cert.Product.finiteFacts,
    fun m ρ _ => Cert.Kernel.Gen.frame m ρ,
    fun m ρ _ => Cert.KernelIdeal.Gen.frame m ρ,
    frame_reference,
    fun m ρ _ => Cert.Kernel2.Sb.frame m ρ,
    fun m ρ _ => Cert.Kernel2Ideal.Sb.frame m ρ,
    fun m ρ _ => Cert.Kernel2Ideal.Sb.frame m ρ,
    frame_reference2,
    fun m ρ _ => frame_reference2 m ρ trivial,
    fun m ρ _ => Cert.Kernel3.Gen.frame m ρ,
    fun m ρ _ => Cert.Kernel3Ideal.Gen.frame m ρ,
    frame_reference3,
    fun m ρ _ => Cert.Kernel4.Gen.frame m ρ,
    fun m ρ _ => Cert.Kernel4Ideal.Gen.frame m ρ,
    frame_reference4,
    fun m ρ _ => Cert.Kernel5.Gen.frame m ρ,
    fun m ρ _ => Cert.Kernel5Ideal.Gen.frame m ρ,
    frame_reference5,
    fun m ρ _ => Cert.Kernel6.Gen.frame m ρ,
    fun m ρ _ => Cert.Kernel6Ideal.Gen.frame m ρ,
    frame_reference6,
    fun m ρ _ => Cert.Kernel7.Gen.frame m ρ,
    fun m ρ _ => Cert.Kernel7Ideal.Gen.frame m ρ,
    frame_reference7,
    fun m ρ _ => Cert.Kernel8.Gen.frame m ρ,
    fun m ρ _ => Cert.Kernel8Ideal.Gen.frame m ρ,
    frame_reference8,
    fun m ρ _ => Cert.Kernel9.Gen.frame m ρ,
    fun m ρ _ => Cert.Kernel9Ideal.Gen.frame m ρ,
    frame_reference9,
    fun m ρ _ => Cert.Kernel10.Gen.frame m ρ,
    fun m ρ _ => Cert.Kernel10Ideal.Gen.frame m ρ,
    frame_reference10,
    fun m ρ _ => Cert.Kernel11.Gen.frame m ρ,
    fun m ρ _ => Cert.Kernel11Ideal.Gen.frame m ρ,
    frame_reference11,
    fun m ρ _ => Cert.Kernel12.Gen.frame m ρ,
    fun m ρ _ => Cert.Kernel12Ideal.Gen.frame m ρ,
    fun m ρ _ => Cert.Kernel12Ideal.Gen.frame m ρ,
    frame_reference12,
    fun m ρ _ => frame_reference12 m ρ trivial,
    fun m ρ _ => Cert.Kernel13.Gen.frame m ρ,
    fun m ρ _ => Cert.Kernel13Ideal.Gen.frame m ρ,
    frame_reference13,
    fun m ρ _ => Cert.Kernel14.Gen.frame m ρ,
    fun m ρ _ => Cert.Kernel14Ideal.Gen.frame m ρ,
    frame_reference14,
    fun m ρ _ => Cert.Kernel15.Gen.frame m ρ,
    fun m ρ _ => Cert.Kernel15Ideal.Gen.frame m ρ,
    frame_reference15,
    fun m ρ _ => Cert.Kernel16.Gen.frame m ρ,
    fun m ρ _ => Cert.Kernel16Ideal.Gen.frame m ρ,
    frame_reference16,
    fun m ρ _ => Cert.Kernel17.Gen.frame m ρ,
    fun m ρ _ => Cert.Kernel17Ideal.Gen.frame m ρ,
    frame_reference17,
    fun m ρ _ => Cert.Kernel18.Gen.frame m ρ,
    fun m ρ _ => Cert.Kernel18Ideal.Gen.frame m ρ,
    frame_reference18,
    fun m ρ _ => Cert.Kernel19.Gen.frame m ρ,
    fun m ρ _ => Cert.Kernel19Ideal.Gen.frame m ρ,
    frame_reference19,
    fun m ρ _ => Cert.Kernel20.Gen.frame m ρ,
    fun m ρ _ => Cert.Kernel20Ideal.Gen.frame m ρ,
    frame_reference20,
    fun m ρ _ => Cert.Kernel21.Gen.frame m ρ,
    fun m ρ _ => Cert.Kernel21Ideal.Gen.frame m ρ,
    frame_reference21,
    fun m ρ _ => Cert.Kernel22.Gen.frame m ρ,
    fun m ρ _ => Cert.Kernel22Ideal.Gen.frame m ρ,
    frame_reference22,
    fun m ρ _ => Cert.Kernel23.Gen.frame m ρ,
    fun m ρ _ => Cert.Kernel23Ideal.Gen.frame m ρ,
    frame_reference23,
    trivial,
    algebraic_short_conv,
    IdealRules.named_const.statement Cert.Kernel2Ideal.κ "cutoff" .f32 0xC2D20000#32 ⊥ rfl,
    Cert.Attention.agree,
    trivial,
    algebraic3,
    trivial,
    algebraic4,
    trivial,
    algebraic5,
    trivial,
    algebraic6,
    trivial,
    algebraic7,
    trivial,
    algebraic8,
    trivial,
    algebraic9,
    trivial,
    algebraic10,
    trivial,
    algebraic11,
    trivial,
    algebraic12,
    trivial,
    algebraic13,
    trivial,
    algebraic14,
    trivial,
    algebraic15,
    trivial,
    algebraic16,
    trivial,
    algebraic17,
    trivial,
    algebraic18,
    trivial,
    algebraic19,
    trivial,
    algebraic20,
    trivial,
    algebraic21,
    trivial,
    algebraic22,
    trivial,
    algebraic23⟩

end Cert.Proof

end
